-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_ScIn (m : (ℓ : Loc Cert.ScIn.nD Cert.ScIn.τ Cert.ScIn.sig) → Buf (Elt Bits) ℓ) : Prop :=
  True

def Pre_ScInIdeal (m : (ℓ : Loc Cert.ScInIdeal.nD Cert.ScInIdeal.τ Cert.ScInIdeal.sig) → Buf (Elt Ideal) ℓ) : Prop :=
  True

def Pre_ScInRefIdeal (m : (ℓ : Loc Cert.ScInRefIdeal.nD Cert.ScInRefIdeal.τ Cert.ScInRefIdeal.sig) → Buf (Elt Ideal) ℓ) : Prop :=
  True

def Pre_ScInDx (m : (ℓ : Loc Cert.ScInDx.nD Cert.ScInDx.τ Cert.ScInDx.sig) → Buf (Elt Bits) ℓ) : Prop :=
  True

def Pre_ScInDxIdeal (m : (ℓ : Loc Cert.ScInDxIdeal.nD Cert.ScInDxIdeal.τ Cert.ScInDxIdeal.sig) → Buf (Elt Ideal) ℓ) : Prop :=
  True

def Pre_ScInDxRefIdeal (m : (ℓ : Loc Cert.ScInDxRefIdeal.nD Cert.ScInDxRefIdeal.τ Cert.ScInDxRefIdeal.sig) → Buf (Elt Ideal) ℓ) : Prop :=
  True

def Pre_ScInDw (m : (ℓ : Loc Cert.ScInDw.nD Cert.ScInDw.τ Cert.ScInDw.sig) → Buf (Elt Bits) ℓ) : Prop :=
  True

def Pre_ScInDwIdeal (m : (ℓ : Loc Cert.ScInDwIdeal.nD Cert.ScInDwIdeal.τ Cert.ScInDwIdeal.sig) → Buf (Elt Ideal) ℓ) : Prop :=
  True

def Pre_ScInDwRefIdeal (m : (ℓ : Loc Cert.ScInDwRefIdeal.nD Cert.ScInDwRefIdeal.τ Cert.ScInDwRefIdeal.sig) → Buf (Elt Ideal) ℓ) : Prop :=
  True

def Pre_Pw1 (m : (ℓ : Loc Cert.Pw1.nD Cert.Pw1.τ Cert.Pw1.sig) → Buf (Elt Bits) ℓ) : Prop :=
  True

def Pre_Pw1Ideal (m : (ℓ : Loc Cert.Pw1Ideal.nD Cert.Pw1Ideal.τ Cert.Pw1Ideal.sig) → Buf (Elt Ideal) ℓ) : Prop :=
  True

def Pre_Pw1RefIdeal (m : (ℓ : Loc Cert.Pw1RefIdeal.nD Cert.Pw1RefIdeal.τ Cert.Pw1RefIdeal.sig) → Buf (Elt Ideal) ℓ) : Prop :=
  True

def Pre_Pw1Dx (m : (ℓ : Loc Cert.Pw1Dx.nD Cert.Pw1Dx.τ Cert.Pw1Dx.sig) → Buf (Elt Bits) ℓ) : Prop :=
  True

def Pre_Pw1DxIdeal (m : (ℓ : Loc Cert.Pw1DxIdeal.nD Cert.Pw1DxIdeal.τ Cert.Pw1DxIdeal.sig) → Buf (Elt Ideal) ℓ) : Prop :=
  True

def Pre_Pw1DxRefIdeal (m : (ℓ : Loc Cert.Pw1DxRefIdeal.nD Cert.Pw1DxRefIdeal.τ Cert.Pw1DxRefIdeal.sig) → Buf (Elt Ideal) ℓ) : Prop :=
  True

def Pre_Pw1Dw (m : (ℓ : Loc Cert.Pw1Dw.nD Cert.Pw1Dw.τ Cert.Pw1Dw.sig) → Buf (Elt Bits) ℓ) : Prop :=
  True

def Pre_Pw1DwIdeal (m : (ℓ : Loc Cert.Pw1DwIdeal.nD Cert.Pw1DwIdeal.τ Cert.Pw1DwIdeal.sig) → Buf (Elt Ideal) ℓ) : Prop :=
  True

def Pre_Pw1DwRefIdeal (m : (ℓ : Loc Cert.Pw1DwRefIdeal.nD Cert.Pw1DwRefIdeal.τ Cert.Pw1DwRefIdeal.sig) → Buf (Elt Ideal) ℓ) : Prop :=
  True

def Pre_ScOut (m : (ℓ : Loc Cert.ScOut.nD Cert.ScOut.τ Cert.ScOut.sig) → Buf (Elt Bits) ℓ) : Prop :=
  True

def Pre_ScOutIdeal (m : (ℓ : Loc Cert.ScOutIdeal.nD Cert.ScOutIdeal.τ Cert.ScOutIdeal.sig) → Buf (Elt Ideal) ℓ) : Prop :=
  True

def Pre_ScOutRefIdeal (m : (ℓ : Loc Cert.ScOutRefIdeal.nD Cert.ScOutRefIdeal.τ Cert.ScOutRefIdeal.sig) → Buf (Elt Ideal) ℓ) : Prop :=
  True

def Pre_ScOutDx (m : (ℓ : Loc Cert.ScOutDx.nD Cert.ScOutDx.τ Cert.ScOutDx.sig) → Buf (Elt Bits) ℓ) : Prop :=
  True

def Pre_ScOutDxIdeal (m : (ℓ : Loc Cert.ScOutDxIdeal.nD Cert.ScOutDxIdeal.τ Cert.ScOutDxIdeal.sig) → Buf (Elt Ideal) ℓ) : Prop :=
  True

def Pre_ScOutDxRefIdeal (m : (ℓ : Loc Cert.ScOutDxRefIdeal.nD Cert.ScOutDxRefIdeal.τ Cert.ScOutDxRefIdeal.sig) → Buf (Elt Ideal) ℓ) : Prop :=
  True

def Pre_ScOutDw (m : (ℓ : Loc Cert.ScOutDw.nD Cert.ScOutDw.τ Cert.ScOutDw.sig) → Buf (Elt Bits) ℓ) : Prop :=
  True

def Pre_ScOutDwIdeal (m : (ℓ : Loc Cert.ScOutDwIdeal.nD Cert.ScOutDwIdeal.τ Cert.ScOutDwIdeal.sig) → Buf (Elt Ideal) ℓ) : Prop :=
  True

def Pre_ScOutDwRefIdeal (m : (ℓ : Loc Cert.ScOutDwRefIdeal.nD Cert.ScOutDwRefIdeal.τ Cert.ScOutDwRefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1RefIdeal (m : (ℓ : Loc Cert.Down1RefIdeal.nD Cert.Down1RefIdeal.τ Cert.Down1RefIdeal.sig) → Buf (Elt Ideal) ℓ) : Prop :=
  True

def Pre_Down2 (m : (ℓ : Loc Cert.Down2.nD Cert.Down2.τ Cert.Down2.sig) → Buf (Elt Bits) ℓ) : Prop :=
  True

def Pre_Down2Ideal (m : (ℓ : Loc Cert.Down2Ideal.nD Cert.Down2Ideal.τ Cert.Down2Ideal.sig) → Buf (Elt Ideal) ℓ) : Prop :=
  True

def Pre_Down2RefIdeal (m : (ℓ : Loc Cert.Down2RefIdeal.nD Cert.Down2RefIdeal.τ Cert.Down2RefIdeal.sig) → Buf (Elt Ideal) ℓ) : Prop :=
  True

def Pre_Down3 (m : (ℓ : Loc Cert.Down3.nD Cert.Down3.τ Cert.Down3.sig) → Buf (Elt Bits) ℓ) : Prop :=
  True

def Pre_Down3Ideal (m : (ℓ : Loc Cert.Down3Ideal.nD Cert.Down3Ideal.τ Cert.Down3Ideal.sig) → Buf (Elt Ideal) ℓ) : Prop :=
  True

def Pre_Down3RefIdeal (m : (ℓ : Loc Cert.Down3RefIdeal.nD Cert.Down3RefIdeal.τ Cert.Down3RefIdeal.sig) → Buf (Elt Ideal) ℓ) : Prop :=
  True

def Pre_DownDx1 (m : (ℓ : Loc Cert.DownDx1.nD Cert.DownDx1.τ Cert.DownDx1.sig) → Buf (Elt Bits) ℓ) : Prop :=
  True

def Pre_DownDx1Ideal (m : (ℓ : Loc Cert.DownDx1Ideal.nD Cert.DownDx1Ideal.τ Cert.DownDx1Ideal.sig) → Buf (Elt Ideal) ℓ) : Prop :=
  True

def Pre_DownDx1RefIdeal (m : (ℓ : Loc Cert.DownDx1RefIdeal.nD Cert.DownDx1RefIdeal.τ Cert.DownDx1RefIdeal.sig) → Buf (Elt Ideal) ℓ) : Prop :=
  True

def Pre_DownDx2 (m : (ℓ : Loc Cert.DownDx2.nD Cert.DownDx2.τ Cert.DownDx2.sig) → Buf (Elt Bits) ℓ) : Prop :=
  True

def Pre_DownDx2Ideal (m : (ℓ : Loc Cert.DownDx2Ideal.nD Cert.DownDx2Ideal.τ Cert.DownDx2Ideal.sig) → Buf (Elt Ideal) ℓ) : Prop :=
  True

def Pre_DownDx2RefIdeal (m : (ℓ : Loc Cert.DownDx2RefIdeal.nD Cert.DownDx2RefIdeal.τ Cert.DownDx2RefIdeal.sig) → Buf (Elt Ideal) ℓ) : Prop :=
  True

def Pre_DownDx3 (m : (ℓ : Loc Cert.DownDx3.nD Cert.DownDx3.τ Cert.DownDx3.sig) → Buf (Elt Bits) ℓ) : Prop :=
  True

def Pre_DownDx3Ideal (m : (ℓ : Loc Cert.DownDx3Ideal.nD Cert.DownDx3Ideal.τ Cert.DownDx3Ideal.sig) → Buf (Elt Ideal) ℓ) : Prop :=
  True

def Pre_DownDx3RefIdeal (m : (ℓ : Loc Cert.DownDx3RefIdeal.nD Cert.DownDx3RefIdeal.τ Cert.DownDx3RefIdeal.sig) → Buf (Elt Ideal) ℓ) : Prop :=
  True

def Pre_Up1 (m : (ℓ : Loc Cert.Up1.nD Cert.Up1.τ Cert.Up1.sig) → Buf (Elt Bits) ℓ) : Prop :=
  True

def Pre_Up1Ideal (m : (ℓ : Loc Cert.Up1Ideal.nD Cert.Up1Ideal.τ Cert.Up1Ideal.sig) → Buf (Elt Ideal) ℓ) : Prop :=
  True

def Pre_Up1RefIdeal (m : (ℓ : Loc Cert.Up1RefIdeal.nD Cert.Up1RefIdeal.τ Cert.Up1RefIdeal.sig) → Buf (Elt Ideal) ℓ) : Prop :=
  True

def Pre_Up2 (m : (ℓ : Loc Cert.Up2.nD Cert.Up2.τ Cert.Up2.sig) → Buf (Elt Bits) ℓ) : Prop :=
  True

def Pre_Up2Ideal (m : (ℓ : Loc Cert.Up2Ideal.nD Cert.Up2Ideal.τ Cert.Up2Ideal.sig) → Buf (Elt Ideal) ℓ) : Prop :=
  True

def Pre_Up2RefIdeal (m : (ℓ : Loc Cert.Up2RefIdeal.nD Cert.Up2RefIdeal.τ Cert.Up2RefIdeal.sig) → Buf (Elt Ideal) ℓ) : Prop :=
  True

def Pre_Up3 (m : (ℓ : Loc Cert.Up3.nD Cert.Up3.τ Cert.Up3.sig) → Buf (Elt Bits) ℓ) : Prop :=
  True

def Pre_Up3Ideal (m : (ℓ : Loc Cert.Up3Ideal.nD Cert.Up3Ideal.τ Cert.Up3Ideal.sig) → Buf (Elt Ideal) ℓ) : Prop :=
  True

def Pre_Up3RefIdeal (m : (ℓ : Loc Cert.Up3RefIdeal.nD Cert.Up3RefIdeal.τ Cert.Up3RefIdeal.sig) → Buf (Elt Ideal) ℓ) : Prop :=
  True

def Pre_UpDx1 (m : (ℓ : Loc Cert.UpDx1.nD Cert.UpDx1.τ Cert.UpDx1.sig) → Buf (Elt Bits) ℓ) : Prop :=
  True

def Pre_UpDx1Ideal (m : (ℓ : Loc Cert.UpDx1Ideal.nD Cert.UpDx1Ideal.τ Cert.UpDx1Ideal.sig) → Buf (Elt Ideal) ℓ) : Prop :=
  True

def Pre_UpDx1RefIdeal (m : (ℓ : Loc Cert.UpDx1RefIdeal.nD Cert.UpDx1RefIdeal.τ Cert.UpDx1RefIdeal.sig) → Buf (Elt Ideal) ℓ) : Prop :=
  True

def Pre_UpDx2 (m : (ℓ : Loc Cert.UpDx2.nD Cert.UpDx2.τ Cert.UpDx2.sig) → Buf (Elt Bits) ℓ) : Prop :=
  True

def Pre_UpDx2Ideal (m : (ℓ : Loc Cert.UpDx2Ideal.nD Cert.UpDx2Ideal.τ Cert.UpDx2Ideal.sig) → Buf (Elt Ideal) ℓ) : Prop :=
  True

def Pre_UpDx2RefIdeal (m : (ℓ : Loc Cert.UpDx2RefIdeal.nD Cert.UpDx2RefIdeal.τ Cert.UpDx2RefIdeal.sig) → Buf (Elt Ideal) ℓ) : Prop :=
  True

def Pre_UpDx3 (m : (ℓ : Loc Cert.UpDx3.nD Cert.UpDx3.τ Cert.UpDx3.sig) → Buf (Elt Bits) ℓ) : Prop :=
  True

def Pre_UpDx3Ideal (m : (ℓ : Loc Cert.UpDx3Ideal.nD Cert.UpDx3Ideal.τ Cert.UpDx3Ideal.sig) → Buf (Elt Ideal) ℓ) : Prop :=
  True

def Pre_UpDx3RefIdeal (m : (ℓ : Loc Cert.UpDx3RefIdeal.nD Cert.UpDx3RefIdeal.τ Cert.UpDx3RefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamScIn (m : (ℓ : Loc Cert.AdamScIn.nD Cert.AdamScIn.τ Cert.AdamScIn.sig) → Buf (Elt Bits) ℓ) : Prop :=
  True

def Pre_AdamScInIdeal (m : (ℓ : Loc Cert.AdamScInIdeal.nD Cert.AdamScInIdeal.τ Cert.AdamScInIdeal.sig) → Buf (Elt Ideal) ℓ) : Prop :=
  True

def Pre_AdamScInRefIdeal (m : (ℓ : Loc Cert.AdamScInRefIdeal.nD Cert.AdamScInRefIdeal.τ Cert.AdamScInRefIdeal.sig) → Buf (Elt Ideal) ℓ) : Prop :=
  True

def Pre_AdamScOut (m : (ℓ : Loc Cert.AdamScOut.nD Cert.AdamScOut.τ Cert.AdamScOut.sig) → Buf (Elt Bits) ℓ) : Prop :=
  True

def Pre_AdamScOutIdeal (m : (ℓ : Loc Cert.AdamScOutIdeal.nD Cert.AdamScOutIdeal.τ Cert.AdamScOutIdeal.sig) → Buf (Elt Ideal) ℓ) : Prop :=
  True

def Pre_AdamScOutRefIdeal (m : (ℓ : Loc Cert.AdamScOutRefIdeal.nD Cert.AdamScOutRefIdeal.τ Cert.AdamScOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamPw1 (m : (ℓ : Loc Cert.AdamPw1.nD Cert.AdamPw1.τ Cert.AdamPw1.sig) → Buf (Elt Bits) ℓ) : Prop :=
  True

def Pre_AdamPw1Ideal (m : (ℓ : Loc Cert.AdamPw1Ideal.nD Cert.AdamPw1Ideal.τ Cert.AdamPw1Ideal.sig) → Buf (Elt Ideal) ℓ) : Prop :=
  True

def Pre_AdamPw1RefIdeal (m : (ℓ : Loc Cert.AdamPw1RefIdeal.nD Cert.AdamPw1RefIdeal.τ Cert.AdamPw1RefIdeal.sig) → Buf (Elt Ideal) ℓ) : Prop :=
  True

def Pre_AdamPw2 (m : (ℓ : Loc Cert.AdamPw2.nD Cert.AdamPw2.τ Cert.AdamPw2.sig) → Buf (Elt Bits) ℓ) : Prop :=
  True

def Pre_AdamPw2Ideal (m : (ℓ : Loc Cert.AdamPw2Ideal.nD Cert.AdamPw2Ideal.τ Cert.AdamPw2Ideal.sig) → Buf (Elt Ideal) ℓ) : Prop :=
  True

def Pre_AdamPw2RefIdeal (m : (ℓ : Loc Cert.AdamPw2RefIdeal.nD Cert.AdamPw2RefIdeal.τ Cert.AdamPw2RefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_ScIn [hScIn : Cert.ScIn.Facts] : Prop :=
  ∀ (m : (ℓ : Loc Cert.ScIn.nD Cert.ScIn.τ Cert.ScIn.sig) → Buf (Elt Bits) ℓ) (g : Dev Cert.ScIn.nD → PrngReg), Pre_ScIn m →
    θ_run (Cert.ScIn.defs (F := Bits)) (onTc (τ := Cert.ScIn.τ) (Cert.ScIn.main (F := Bits))) ⟨m, fun _ => 0, g⟩ (fun r => (∀ c : Dev Cert.ScIn.nD,
      r.2.mem ((c.tc : Thread Cert.ScIn.nD Cert.ScIn.τ).loc Cert.ScIn.main_arg0) = m ((c.tc : Thread Cert.ScIn.nD Cert.ScIn.τ).loc Cert.ScIn.main_arg0)
      ∧ r.2.mem ((c.tc : Thread Cert.ScIn.nD Cert.ScIn.τ).loc Cert.ScIn.main_arg1) = m ((c.tc : Thread Cert.ScIn.nD Cert.ScIn.τ).loc Cert.ScIn.main_arg1))
      ∧ r.2.sem = fun _ => 0)

def quiescent_ScInIdeal [hScInIdeal : Cert.ScInIdeal.Facts] : Prop :=
  ∀ (m : (ℓ : Loc Cert.ScInIdeal.nD Cert.ScInIdeal.τ Cert.ScInIdeal.sig) → Buf (Elt Ideal) ℓ) (g : Dev Cert.ScInIdeal.nD → PrngReg), Pre_ScInIdeal m →
    θ_run (Cert.ScInIdeal.defs (F := Ideal)) (onTc (τ := Cert.ScInIdeal.τ) (Cert.ScInIdeal.main (F := Ideal))) ⟨m, fun _ => 0, g⟩ (fun r => (∀ c : Dev Cert.ScInIdeal.nD,
      r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
      ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ r.2.sem = fun _ => 0)

def quiescent_ScInRefIdeal [hScInRefIdeal : Cert.ScInRefIdeal.Facts] : Prop :=
  ∀ (m : (ℓ : Loc Cert.ScInRefIdeal.nD Cert.ScInRefIdeal.τ Cert.ScInRefIdeal.sig) → Buf (Elt Ideal) ℓ) (g : Dev Cert.ScInRefIdeal.nD → PrngReg), Pre_ScInRefIdeal m →
    θ_run (Cert.ScInRefIdeal.defs (F := Ideal)) (onTc (τ := Cert.ScInRefIdeal.τ) (Cert.ScInRefIdeal.main (F := Ideal))) ⟨m, fun _ => 0, g⟩ (fun r => (∀ c : Dev Cert.ScInRefIdeal.nD,
      r.2.mem ((c.tc : Thread Cert.ScInRefIdeal.nD Cert.ScInRefIdeal.τ).loc Cert.ScInRefIdeal.main_arg0) = m ((c.tc : Thread Cert.ScInRefIdeal.nD Cert.ScInRefIdeal.τ).loc Cert.ScInRefIdeal.main_arg0)
      ∧ r.2.mem ((c.tc : Thread Cert.ScInRefIdeal.nD Cert.ScInRefIdeal.τ).loc Cert.ScInRefIdeal.main_arg1) = m ((c.tc : Thread Cert.ScInRefIdeal.nD Cert.ScInRefIdeal.τ).loc Cert.ScInRefIdeal.main_arg1))
      ∧ r.2.sem = fun _ => 0)

def quiescent_ScInDx [hScInDx : Cert.ScInDx.Facts] : Prop :=
  ∀ (m : (ℓ : Loc Cert.ScInDx.nD Cert.ScInDx.τ Cert.ScInDx.sig) → Buf (Elt Bits) ℓ) (g : Dev Cert.ScInDx.nD → PrngReg), Pre_ScInDx m →
    θ_run (Cert.ScInDx.defs (F := Bits)) (onTc (τ := Cert.ScInDx.τ) (Cert.ScInDx.main (F := Bits))) ⟨m, fun _ => 0, g⟩ (fun r => (∀ c : Dev Cert.ScInDx.nD,
      r.2.mem ((c.tc : Thread Cert.ScInDx.nD Cert.ScInDx.τ).loc Cert.ScInDx.main_arg0) = m ((c.tc : Thread Cert.ScInDx.nD Cert.ScInDx.τ).loc Cert.ScInDx.main_arg0)
      ∧ r.2.mem ((c.tc : Thread Cert.ScInDx.nD Cert.ScInDx.τ).loc Cert.ScInDx.main_arg1) = m ((c.tc : Thread Cert.ScInDx.nD Cert.ScInDx.τ).loc Cert.ScInDx.main_arg1)
      ∧ r.2.mem ((c.tc : Thread Cert.ScInDx.nD Cert.ScInDx.τ).loc Cert.ScInDx.main_arg2) = m ((c.tc : Thread Cert.ScInDx.nD Cert.ScInDx.τ).loc Cert.ScInDx.main_arg2))
      ∧ r.2.sem = fun _ => 0)

def quiescent_ScInDxIdeal [hScInDxIdeal : Cert.ScInDxIdeal.Facts] : Prop :=
  ∀ (m : (ℓ : Loc Cert.ScInDxIdeal.nD Cert.ScInDxIdeal.τ Cert.ScInDxIdeal.sig) → Buf (Elt Ideal) ℓ) (g : Dev Cert.ScInDxIdeal.nD → PrngReg), Pre_ScInDxIdeal m →
    θ_run (Cert.ScInDxIdeal.defs (F := Ideal)) (onTc (τ := Cert.ScInDxIdeal.τ) (Cert.ScInDxIdeal.main (F := Ideal))) ⟨m, fun _ => 0, g⟩ (fun r => (∀ c : Dev Cert.ScInDxIdeal.nD,
      r.2.mem ((c.tc : Thread Cert.ScInDxIdeal.nD Cert.ScInDxIdeal.τ).loc Cert.ScInDxIdeal.main_arg0) = m ((c.tc : Thread Cert.ScInDxIdeal.nD Cert.ScInDxIdeal.τ).loc Cert.ScInDxIdeal.main_arg0)
      ∧ r.2.mem ((c.tc : Thread Cert.ScInDxIdeal.nD Cert.ScInDxIdeal.τ).loc Cert.ScInDxIdeal.main_arg1) = m ((c.tc : Thread Cert.ScInDxIdeal.nD Cert.ScInDxIdeal.τ).loc Cert.ScInDxIdeal.main_arg1)
      ∧ r.2.mem ((c.tc : Thread Cert.ScInDxIdeal.nD Cert.ScInDxIdeal.τ).loc Cert.ScInDxIdeal.main_arg2) = m ((c.tc : Thread Cert.ScInDxIdeal.nD Cert.ScInDxIdeal.τ).loc Cert.ScInDxIdeal.main_arg2))
      ∧ r.2.sem = fun _ => 0)

def quiescent_ScInDxRefIdeal [hScInDxRefIdeal : Cert.ScInDxRefIdeal.Facts] : Prop :=
  ∀ (m : (ℓ : Loc Cert.ScInDxRefIdeal.nD Cert.ScInDxRefIdeal.τ Cert.ScInDxRefIdeal.sig) → Buf (Elt Ideal) ℓ) (g : Dev Cert.ScInDxRefIdeal.nD → PrngReg), Pre_ScInDxRefIdeal m →
    θ_run (Cert.ScInDxRefIdeal.defs (F := Ideal)) (onTc (τ := Cert.ScInDxRefIdeal.τ) (Cert.ScInDxRefIdeal.main (F := Ideal))) ⟨m, fun _ => 0, g⟩ (fun r => (∀ c : Dev Cert.ScInDxRefIdeal.nD,
      r.2.mem ((c.tc : Thread Cert.ScInDxRefIdeal.nD Cert.ScInDxRefIdeal.τ).loc Cert.ScInDxRefIdeal.main_arg0) = m ((c.tc : Thread Cert.ScInDxRefIdeal.nD Cert.ScInDxRefIdeal.τ).loc Cert.ScInDxRefIdeal.main_arg0)
      ∧ r.2.mem ((c.tc : Thread Cert.ScInDxRefIdeal.nD Cert.ScInDxRefIdeal.τ).loc Cert.ScInDxRefIdeal.main_arg1) = m ((c.tc : Thread Cert.ScInDxRefIdeal.nD Cert.ScInDxRefIdeal.τ).loc Cert.ScInDxRefIdeal.main_arg1)
      ∧ r.2.mem ((c.tc : Thread Cert.ScInDxRefIdeal.nD Cert.ScInDxRefIdeal.τ).loc Cert.ScInDxRefIdeal.main_arg2) = m ((c.tc : Thread Cert.ScInDxRefIdeal.nD Cert.ScInDxRefIdeal.τ).loc Cert.ScInDxRefIdeal.main_arg2))
      ∧ r.2.sem = fun _ => 0)

def quiescent_ScInDw [hScInDw : Cert.ScInDw.Facts] : Prop :=
  ∀ (m : (ℓ : Loc Cert.ScInDw.nD Cert.ScInDw.τ Cert.ScInDw.sig) → Buf (Elt Bits) ℓ) (g : Dev Cert.ScInDw.nD → PrngReg), Pre_ScInDw m →
    θ_run (Cert.ScInDw.defs (F := Bits)) (onTc (τ := Cert.ScInDw.τ) (Cert.ScInDw.main (F := Bits))) ⟨m, fun _ => 0, g⟩ (fun r => (∀ c : Dev Cert.ScInDw.nD,
      r.2.mem ((c.tc : Thread Cert.ScInDw.nD Cert.ScInDw.τ).loc Cert.ScInDw.main_arg0) = m ((c.tc : Thread Cert.ScInDw.nD Cert.ScInDw.τ).loc Cert.ScInDw.main_arg0)
      ∧ r.2.mem ((c.tc : Thread Cert.ScInDw.nD Cert.ScInDw.τ).loc Cert.ScInDw.main_arg1) = m ((c.tc : Thread Cert.ScInDw.nD Cert.ScInDw.τ).loc Cert.ScInDw.main_arg1)
      ∧ r.2.mem ((c.tc : Thread Cert.ScInDw.nD Cert.ScInDw.τ).loc Cert.ScInDw.main_arg2) = m ((c.tc : Thread Cert.ScInDw.nD Cert.ScInDw.τ).loc Cert.ScInDw.main_arg2))
      ∧ r.2.sem = fun _ => 0)

def quiescent_ScInDwIdeal [hScInDwIdeal : Cert.ScInDwIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg), Pre_ScInDwIdeal m →
    θ_run (Cert.ScInDwIdeal.defs (F := Ideal)) (onTc (τ := Cert.ScInDwIdeal.τ) (Cert.ScInDwIdeal.main (F := Ideal))) ⟨m, fun _ => 0, g⟩ (fun r => (∀ c : Dev Cert.ScInDwIdeal.nD,
      r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
      ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1)
      ∧ r.2.mem ((c.tc : Thread Cert.ScInDwIdeal.nD Cert.ScInDwIdeal.τ).loc Cert.ScInDwIdeal.main_arg2) = m ((c.tc : Thread Cert.ScInDwIdeal.nD Cert.ScInDwIdeal.τ).loc Cert.ScInDwIdeal.main_arg2))
      ∧ r.2.sem = fun _ => 0)

def quiescent_ScInDwRefIdeal [hScInDwRefIdeal : Cert.ScInDwRefIdeal.Facts] : Prop :=
  ∀ (m : (ℓ : Loc Cert.ScInDwRefIdeal.nD Cert.ScInDwRefIdeal.τ Cert.ScInDwRefIdeal.sig) → Buf (Elt Ideal) ℓ) (g : Dev Cert.ScInDwRefIdeal.nD → PrngReg), Pre_ScInDwRefIdeal m →
    θ_run (Cert.ScInDwRefIdeal.defs (F := Ideal)) (onTc (τ := Cert.ScInDwRefIdeal.τ) (Cert.ScInDwRefIdeal.main (F := Ideal))) ⟨m, fun _ => 0, g⟩ (fun r => (∀ c : Dev Cert.ScInDwRefIdeal.nD,
      r.2.mem ((c.tc : Thread Cert.ScInDwRefIdeal.nD Cert.ScInDwRefIdeal.τ).loc Cert.ScInDwRefIdeal.main_arg0) = m ((c.tc : Thread Cert.ScInDwRefIdeal.nD Cert.ScInDwRefIdeal.τ).loc Cert.ScInDwRefIdeal.main_arg0)
      ∧ r.2.mem ((c.tc : Thread Cert.ScInDwRefIdeal.nD Cert.ScInDwRefIdeal.τ).loc Cert.ScInDwRefIdeal.main_arg1) = m ((c.tc : Thread Cert.ScInDwRefIdeal.nD Cert.ScInDwRefIdeal.τ).loc Cert.ScInDwRefIdeal.main_arg1)
      ∧ r.2.mem ((c.tc : Thread Cert.ScInDwRefIdeal.nD Cert.ScInDwRefIdeal.τ).loc Cert.ScInDwRefIdeal.main_arg2) = m ((c.tc : Thread Cert.ScInDwRefIdeal.nD Cert.ScInDwRefIdeal.τ).loc Cert.ScInDwRefIdeal.main_arg2))
      ∧ r.2.sem = fun _ => 0)

def quiescent_Pw1 [hPw1 : Cert.Pw1.Facts] : Prop :=
  ∀ (m : (ℓ : Loc Cert.Pw1.nD Cert.Pw1.τ Cert.Pw1.sig) → Buf (Elt Bits) ℓ) (g : Dev Cert.Pw1.nD → PrngReg), Pre_Pw1 m →
    θ_run (Cert.Pw1.defs (F := Bits)) (onTc (τ := Cert.Pw1.τ) (Cert.Pw1.main (F := Bits))) ⟨m, fun _ => 0, g⟩ (fun r => (∀ c : Dev Cert.Pw1.nD,
      r.2.mem ((c.tc : Thread Cert.Pw1.nD Cert.Pw1.τ).loc Cert.Pw1.main_arg0) = m ((c.tc : Thread Cert.Pw1.nD Cert.Pw1.τ).loc Cert.Pw1.main_arg0)
      ∧ r.2.mem ((c.tc : Thread Cert.Pw1.nD Cert.Pw1.τ).loc Cert.Pw1.main_arg1) = m ((c.tc : Thread Cert.Pw1.nD Cert.Pw1.τ).loc Cert.Pw1.main_arg1))
      ∧ r.2.sem = fun _ => 0)

def quiescent_Pw1Ideal [hPw1Ideal : Cert.Pw1Ideal.Facts] : Prop :=
  ∀ (m : (ℓ : Loc Cert.Pw1Ideal.nD Cert.Pw1Ideal.τ Cert.Pw1Ideal.sig) → Buf (Elt Ideal) ℓ) (g : Dev Cert.Pw1Ideal.nD → PrngReg), Pre_Pw1Ideal m →
    θ_run (Cert.Pw1Ideal.defs (F := Ideal)) (onTc (τ := Cert.Pw1Ideal.τ) (Cert.Pw1Ideal.main (F := Ideal))) ⟨m, fun _ => 0, g⟩ (fun r => (∀ c : Dev Cert.Pw1Ideal.nD,
      r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
      ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1))
      ∧ r.2.sem = fun _ => 0)

def quiescent_Pw1RefIdeal [hPw1RefIdeal : Cert.Pw1RefIdeal.Facts] : Prop :=
  ∀ (m : (ℓ : Loc Cert.Pw1RefIdeal.nD Cert.Pw1RefIdeal.τ Cert.Pw1RefIdeal.sig) → Buf (Elt Ideal) ℓ) (g : Dev Cert.Pw1RefIdeal.nD → PrngReg), Pre_Pw1RefIdeal m →
    θ_run (Cert.Pw1RefIdeal.defs (F := Ideal)) (onTc (τ := Cert.Pw1RefIdeal.τ) (Cert.Pw1RefIdeal.main (F := Ideal))) ⟨m, fun _ => 0, g⟩ (fun r => (∀ c : Dev Cert.Pw1RefIdeal.nD,
      r.2.mem ((c.tc : Thread Cert.Pw1RefIdeal.nD Cert.Pw1RefIdeal.τ).loc Cert.Pw1RefIdeal.main_arg0) = m ((c.tc : Thread Cert.Pw1RefIdeal.nD Cert.Pw1RefIdeal.τ).loc Cert.Pw1RefIdeal.main_arg0)
      ∧ r.2.mem ((c.tc : Thread Cert.Pw1RefIdeal.nD Cert.Pw1RefIdeal.τ).loc Cert.Pw1RefIdeal.main_arg1) = m ((c.tc : Thread Cert.Pw1RefIdeal.nD Cert.Pw1RefIdeal.τ).loc Cert.Pw1RefIdeal.main_arg1))
      ∧ r.2.sem = fun _ => 0)

def quiescent_Pw1Dx [hPw1Dx : Cert.Pw1Dx.Facts] : Prop :=
  ∀ (m : (ℓ : Loc Cert.Pw1Dx.nD Cert.Pw1Dx.τ Cert.Pw1Dx.sig) → Buf (Elt Bits) ℓ) (g : Dev Cert.Pw1Dx.nD → PrngReg), Pre_Pw1Dx m →
    θ_run (Cert.Pw1Dx.defs (F := Bits)) (onTc (τ := Cert.Pw1Dx.τ) (Cert.Pw1Dx.main (F := Bits))) ⟨m, fun _ => 0, g⟩ (fun r => (∀ c : Dev Cert.Pw1Dx.nD,
      r.2.mem ((c.tc : Thread Cert.Pw1Dx.nD Cert.Pw1Dx.τ).loc Cert.Pw1Dx.main_arg0) = m ((c.tc : Thread Cert.Pw1Dx.nD Cert.Pw1Dx.τ).loc Cert.Pw1Dx.main_arg0)
      ∧ r.2.mem ((c.tc : Thread Cert.Pw1Dx.nD Cert.Pw1Dx.τ).loc Cert.Pw1Dx.main_arg1) = m ((c.tc : Thread Cert.Pw1Dx.nD Cert.Pw1Dx.τ).loc Cert.Pw1Dx.main_arg1)
      ∧ r.2.mem ((c.tc : Thread Cert.Pw1Dx.nD Cert.Pw1Dx.τ).loc Cert.Pw1Dx.main_arg2) = m ((c.tc : Thread Cert.Pw1Dx.nD Cert.Pw1Dx.τ).loc Cert.Pw1Dx.main_arg2))
      ∧ r.2.sem = fun _ => 0)

def quiescent_Pw1DxIdeal [hPw1DxIdeal : Cert.Pw1DxIdeal.Facts] : Prop :=
  ∀ (m : (ℓ : Loc Cert.Pw1DxIdeal.nD Cert.Pw1DxIdeal.τ Cert.Pw1DxIdeal.sig) → Buf (Elt Ideal) ℓ) (g : Dev Cert.Pw1DxIdeal.nD → PrngReg), Pre_Pw1DxIdeal m →
    θ_run (Cert.Pw1DxIdeal.defs (F := Ideal)) (onTc (τ := Cert.Pw1DxIdeal.τ) (Cert.Pw1DxIdeal.main (F := Ideal))) ⟨m, fun _ => 0, g⟩ (fun r => (∀ c : Dev Cert.Pw1DxIdeal.nD,
      r.2.mem ((c.tc : Thread Cert.Pw1DxIdeal.nD Cert.Pw1DxIdeal.τ).loc Cert.Pw1DxIdeal.main_arg0) = m ((c.tc : Thread Cert.Pw1DxIdeal.nD Cert.Pw1DxIdeal.τ).loc Cert.Pw1DxIdeal.main_arg0)
      ∧ r.2.mem ((c.tc : Thread Cert.Pw1DxIdeal.nD Cert.Pw1DxIdeal.τ).loc Cert.Pw1DxIdeal.main_arg1) = m ((c.tc : Thread Cert.Pw1DxIdeal.nD Cert.Pw1DxIdeal.τ).loc Cert.Pw1DxIdeal.main_arg1)
      ∧ r.2.mem ((c.tc : Thread Cert.Pw1DxIdeal.nD Cert.Pw1DxIdeal.τ).loc Cert.Pw1DxIdeal.main_arg2) = m ((c.tc : Thread Cert.Pw1DxIdeal.nD Cert.Pw1DxIdeal.τ).loc Cert.Pw1DxIdeal.main_arg2))
      ∧ r.2.sem = fun _ => 0)

def quiescent_Pw1DxRefIdeal [hPw1DxRefIdeal : Cert.Pw1DxRefIdeal.Facts] : Prop :=
  ∀ (m : (ℓ : Loc Cert.Pw1DxRefIdeal.nD Cert.Pw1DxRefIdeal.τ Cert.Pw1DxRefIdeal.sig) → Buf (Elt Ideal) ℓ) (g : Dev Cert.Pw1DxRefIdeal.nD → PrngReg), Pre_Pw1DxRefIdeal m →
    θ_run (Cert.Pw1DxRefIdeal.defs (F := Ideal)) (onTc (τ := Cert.Pw1DxRefIdeal.τ) (Cert.Pw1DxRefIdeal.main (F := Ideal))) ⟨m, fun _ => 0, g⟩ (fun r => (∀ c : Dev Cert.Pw1DxRefIdeal.nD,
      r.2.mem ((c.tc : Thread Cert.Pw1DxRefIdeal.nD Cert.Pw1DxRefIdeal.τ).loc Cert.Pw1DxRefIdeal.main_arg0) = m ((c.tc : Thread Cert.Pw1DxRefIdeal.nD Cert.Pw1DxRefIdeal.τ).loc Cert.Pw1DxRefIdeal.main_arg0)
      ∧ r.2.mem ((c.tc : Thread Cert.Pw1DxRefIdeal.nD Cert.Pw1DxRefIdeal.τ).loc Cert.Pw1DxRefIdeal.main_arg1) = m ((c.tc : Thread Cert.Pw1DxRefIdeal.nD Cert.Pw1DxRefIdeal.τ).loc Cert.Pw1DxRefIdeal.main_arg1)
      ∧ r.2.mem ((c.tc : Thread Cert.Pw1DxRefIdeal.nD Cert.Pw1DxRefIdeal.τ).loc Cert.Pw1DxRefIdeal.main_arg2) = m ((c.tc : Thread Cert.Pw1DxRefIdeal.nD Cert.Pw1DxRefIdeal.τ).loc Cert.Pw1DxRefIdeal.main_arg2))
      ∧ r.2.sem = fun _ => 0)

def quiescent_Pw1Dw [hPw1Dw : Cert.Pw1Dw.Facts] : Prop :=
  ∀ (m : (ℓ : Loc Cert.Pw1Dw.nD Cert.Pw1Dw.τ Cert.Pw1Dw.sig) → Buf (Elt Bits) ℓ) (g : Dev Cert.Pw1Dw.nD → PrngReg), Pre_Pw1Dw m →
    θ_run (Cert.Pw1Dw.defs (F := Bits)) (onTc (τ := Cert.Pw1Dw.τ) (Cert.Pw1Dw.main (F := Bits))) ⟨m, fun _ => 0, g⟩ (fun r => (∀ c : Dev Cert.Pw1Dw.nD,
      r.2.mem ((c.tc : Thread Cert.Pw1Dw.nD Cert.Pw1Dw.τ).loc Cert.Pw1Dw.main_arg0) = m ((c.tc : Thread Cert.Pw1Dw.nD Cert.Pw1Dw.τ).loc Cert.Pw1Dw.main_arg0)
      ∧ r.2.mem ((c.tc : Thread Cert.Pw1Dw.nD Cert.Pw1Dw.τ).loc Cert.Pw1Dw.main_arg1) = m ((c.tc : Thread Cert.Pw1Dw.nD Cert.Pw1Dw.τ).loc Cert.Pw1Dw.main_arg1)
      ∧ r.2.mem ((c.tc : Thread Cert.Pw1Dw.nD Cert.Pw1Dw.τ).loc Cert.Pw1Dw.main_arg2) = m ((c.tc : Thread Cert.Pw1Dw.nD Cert.Pw1Dw.τ).loc Cert.Pw1Dw.main_arg2))
      ∧ r.2.sem = fun _ => 0)

def quiescent_Pw1DwIdeal [hPw1DwIdeal : Cert.Pw1DwIdeal.Facts] : Prop :=
  ∀ (m : (ℓ : Loc Cert.Pw1DwIdeal.nD Cert.Pw1DwIdeal.τ Cert.Pw1DwIdeal.sig) → Buf (Elt Ideal) ℓ) (g : Dev Cert.Pw1DwIdeal.nD → PrngReg), Pre_Pw1DwIdeal m →
    θ_run (Cert.Pw1DwIdeal.defs (F := Ideal)) (onTc (τ := Cert.Pw1DwIdeal.τ) (Cert.Pw1DwIdeal.main (F := Ideal))) ⟨m, fun _ => 0, g⟩ (fun r => (∀ c : Dev Cert.Pw1DwIdeal.nD,
      r.2.mem ((c.tc : Thread Cert.Pw1DwIdeal.nD Cert.Pw1DwIdeal.τ).loc Cert.Pw1DwIdeal.main_arg0) = m ((c.tc : Thread Cert.Pw1DwIdeal.nD Cert.Pw1DwIdeal.τ).loc Cert.Pw1DwIdeal.main_arg0)
      ∧ r.2.mem ((c.tc : Thread Cert.Pw1DwIdeal.nD Cert.Pw1DwIdeal.τ).loc Cert.Pw1DwIdeal.main_arg1) = m ((c.tc : Thread Cert.Pw1DwIdeal.nD Cert.Pw1DwIdeal.τ).loc Cert.Pw1DwIdeal.main_arg1)
      ∧ r.2.mem ((c.tc : Thread Cert.Pw1DwIdeal.nD Cert.Pw1DwIdeal.τ).loc Cert.Pw1DwIdeal.main_arg2) = m ((c.tc : Thread Cert.Pw1DwIdeal.nD Cert.Pw1DwIdeal.τ).loc Cert.Pw1DwIdeal.main_arg2))
      ∧ r.2.sem = fun _ => 0)

def quiescent_Pw1DwRefIdeal [hPw1DwRefIdeal : Cert.Pw1DwRefIdeal.Facts] : Prop :=
  ∀ (m : (ℓ : Loc Cert.Pw1DwRefIdeal.nD Cert.Pw1DwRefIdeal.τ Cert.Pw1DwRefIdeal.sig) → Buf (Elt Ideal) ℓ) (g : Dev Cert.Pw1DwRefIdeal.nD → PrngReg), Pre_Pw1DwRefIdeal m →
    θ_run (Cert.Pw1DwRefIdeal.defs (F := Ideal)) (onTc (τ := Cert.Pw1DwRefIdeal.τ) (Cert.Pw1DwRefIdeal.main (F := Ideal))) ⟨m, fun _ => 0, g⟩ (fun r => (∀ c : Dev Cert.Pw1DwRefIdeal.nD,
      r.2.mem ((c.tc : Thread Cert.Pw1DwRefIdeal.nD Cert.Pw1DwRefIdeal.τ).loc Cert.Pw1DwRefIdeal.main_arg0) = m ((c.tc : Thread Cert.Pw1DwRefIdeal.nD Cert.Pw1DwRefIdeal.τ).loc Cert.Pw1DwRefIdeal.main_arg0)
      ∧ r.2.mem ((c.tc : Thread Cert.Pw1DwRefIdeal.nD Cert.Pw1DwRefIdeal.τ).loc Cert.Pw1DwRefIdeal.main_arg1) = m ((c.tc : Thread Cert.Pw1DwRefIdeal.nD Cert.Pw1DwRefIdeal.τ).loc Cert.Pw1DwRefIdeal.main_arg1)
      ∧ r.2.mem ((c.tc : Thread Cert.Pw1DwRefIdeal.nD Cert.Pw1DwRefIdeal.τ).loc Cert.Pw1DwRefIdeal.main_arg2) = m ((c.tc : Thread Cert.Pw1DwRefIdeal.nD Cert.Pw1DwRefIdeal.τ).loc Cert.Pw1DwRefIdeal.main_arg2))
      ∧ r.2.sem = fun _ => 0)

def quiescent_ScOut [hScOut : Cert.ScOut.Facts] : Prop :=
  ∀ (m : (ℓ : Loc Cert.ScOut.nD Cert.ScOut.τ Cert.ScOut.sig) → Buf (Elt Bits) ℓ) (g : Dev Cert.ScOut.nD → PrngReg), Pre_ScOut m →
    θ_run (Cert.ScOut.defs (F := Bits)) (onTc (τ := Cert.ScOut.τ) (Cert.ScOut.main (F := Bits))) ⟨m, fun _ => 0, g⟩ (fun r => (∀ c : Dev Cert.ScOut.nD,
      r.2.mem ((c.tc : Thread Cert.ScOut.nD Cert.ScOut.τ).loc Cert.ScOut.main_arg0) = m ((c.tc : Thread Cert.ScOut.nD Cert.ScOut.τ).loc Cert.ScOut.main_arg0)
      ∧ r.2.mem ((c.tc : Thread Cert.ScOut.nD Cert.ScOut.τ).loc Cert.ScOut.main_arg1) = m ((c.tc : Thread Cert.ScOut.nD Cert.ScOut.τ).loc Cert.ScOut.main_arg1))
      ∧ r.2.sem = fun _ => 0)

def quiescent_ScOutIdeal [hScOutIdeal : Cert.ScOutIdeal.Facts] : Prop :=
  ∀ (m : (ℓ : Loc Cert.ScOutIdeal.nD Cert.ScOutIdeal.τ Cert.ScOutIdeal.sig) → Buf (Elt Ideal) ℓ) (g : Dev Cert.ScOutIdeal.nD → PrngReg), Pre_ScOutIdeal m →
    θ_run (Cert.ScOutIdeal.defs (F := Ideal)) (onTc (τ := Cert.ScOutIdeal.τ) (Cert.ScOutIdeal.main (F := Ideal))) ⟨m, fun _ => 0, g⟩ (fun r => (∀ c : Dev Cert.ScOutIdeal.nD,
      r.2.mem ((c.tc : Thread Cert.ScOutIdeal.nD Cert.ScOutIdeal.τ).loc Cert.ScOutIdeal.main_arg0) = m ((c.tc : Thread Cert.ScOutIdeal.nD Cert.ScOutIdeal.τ).loc Cert.ScOutIdeal.main_arg0)
      ∧ r.2.mem ((c.tc : Thread Cert.ScOutIdeal.nD Cert.ScOutIdeal.τ).loc Cert.ScOutIdeal.main_arg1) = m ((c.tc : Thread Cert.ScOutIdeal.nD Cert.ScOutIdeal.τ).loc Cert.ScOutIdeal.main_arg1))
      ∧ r.2.sem = fun _ => 0)

def quiescent_ScOutRefIdeal [hScOutRefIdeal : Cert.ScOutRefIdeal.Facts] : Prop :=
  ∀ (m : (ℓ : Loc Cert.ScOutRefIdeal.nD Cert.ScOutRefIdeal.τ Cert.ScOutRefIdeal.sig) → Buf (Elt Ideal) ℓ) (g : Dev Cert.ScOutRefIdeal.nD → PrngReg), Pre_ScOutRefIdeal m →
    θ_run (Cert.ScOutRefIdeal.defs (F := Ideal)) (onTc (τ := Cert.ScOutRefIdeal.τ) (Cert.ScOutRefIdeal.main (F := Ideal))) ⟨m, fun _ => 0, g⟩ (fun r => (∀ c : Dev Cert.ScOutRefIdeal.nD,
      r.2.mem ((c.tc : Thread Cert.ScOutRefIdeal.nD Cert.ScOutRefIdeal.τ).loc Cert.ScOutRefIdeal.main_arg0) = m ((c.tc : Thread Cert.ScOutRefIdeal.nD Cert.ScOutRefIdeal.τ).loc Cert.ScOutRefIdeal.main_arg0)
      ∧ r.2.mem ((c.tc : Thread Cert.ScOutRefIdeal.nD Cert.ScOutRefIdeal.τ).loc Cert.ScOutRefIdeal.main_arg1) = m ((c.tc : Thread Cert.ScOutRefIdeal.nD Cert.ScOutRefIdeal.τ).loc Cert.ScOutRefIdeal.main_arg1))
      ∧ r.2.sem = fun _ => 0)

def quiescent_ScOutDx [hScOutDx : Cert.ScOutDx.Facts] : Prop :=
  ∀ (m : (ℓ : Loc Cert.ScOutDx.nD Cert.ScOutDx.τ Cert.ScOutDx.sig) → Buf (Elt Bits) ℓ) (g : Dev Cert.ScOutDx.nD → PrngReg), Pre_ScOutDx m →
    θ_run (Cert.ScOutDx.defs (F := Bits)) (onTc (τ := Cert.ScOutDx.τ) (Cert.ScOutDx.main (F := Bits))) ⟨m, fun _ => 0, g⟩ (fun r => (∀ c : Dev Cert.ScOutDx.nD,
      r.2.mem ((c.tc : Thread Cert.ScOutDx.nD Cert.ScOutDx.τ).loc Cert.ScOutDx.main_arg0) = m ((c.tc : Thread Cert.ScOutDx.nD Cert.ScOutDx.τ).loc Cert.ScOutDx.main_arg0)
      ∧ r.2.mem ((c.tc : Thread Cert.ScOutDx.nD Cert.ScOutDx.τ).loc Cert.ScOutDx.main_arg1) = m ((c.tc : Thread Cert.ScOutDx.nD Cert.ScOutDx.τ).loc Cert.ScOutDx.main_arg1)
      ∧ r.2.mem ((c.tc : Thread Cert.ScOutDx.nD Cert.ScOutDx.τ).loc Cert.ScOutDx.main_arg2) = m ((c.tc : Thread Cert.ScOutDx.nD Cert.ScOutDx.τ).loc Cert.ScOutDx.main_arg2))
      ∧ r.2.sem = fun _ => 0)

def quiescent_ScOutDxIdeal [hScOutDxIdeal : Cert.ScOutDxIdeal.Facts] : Prop :=
  ∀ (m : (ℓ : Loc Cert.ScOutDxIdeal.nD Cert.ScOutDxIdeal.τ Cert.ScOutDxIdeal.sig) → Buf (Elt Ideal) ℓ) (g : Dev Cert.ScOutDxIdeal.nD → PrngReg), Pre_ScOutDxIdeal m →
    θ_run (Cert.ScOutDxIdeal.defs (F := Ideal)) (onTc (τ := Cert.ScOutDxIdeal.τ) (Cert.ScOutDxIdeal.main (F := Ideal))) ⟨m, fun _ => 0, g⟩ (fun r => (∀ c : Dev Cert.ScOutDxIdeal.nD,
      r.2.mem ((c.tc : Thread Cert.ScOutDxIdeal.nD Cert.ScOutDxIdeal.τ).loc Cert.ScOutDxIdeal.main_arg0) = m ((c.tc : Thread Cert.ScOutDxIdeal.nD Cert.ScOutDxIdeal.τ).loc Cert.ScOutDxIdeal.main_arg0)
      ∧ r.2.mem ((c.tc : Thread Cert.ScOutDxIdeal.nD Cert.ScOutDxIdeal.τ).loc Cert.ScOutDxIdeal.main_arg1) = m ((c.tc : Thread Cert.ScOutDxIdeal.nD Cert.ScOutDxIdeal.τ).loc Cert.ScOutDxIdeal.main_arg1)
      ∧ r.2.mem ((c.tc : Thread Cert.ScOutDxIdeal.nD Cert.ScOutDxIdeal.τ).loc Cert.ScOutDxIdeal.main_arg2) = m ((c.tc : Thread Cert.ScOutDxIdeal.nD Cert.ScOutDxIdeal.τ).loc Cert.ScOutDxIdeal.main_arg2))
      ∧ r.2.sem = fun _ => 0)

def quiescent_ScOutDxRefIdeal [hScOutDxRefIdeal : Cert.ScOutDxRefIdeal.Facts] : Prop :=
  ∀ (m : (ℓ : Loc Cert.ScOutDxRefIdeal.nD Cert.ScOutDxRefIdeal.τ Cert.ScOutDxRefIdeal.sig) → Buf (Elt Ideal) ℓ) (g : Dev Cert.ScOutDxRefIdeal.nD → PrngReg), Pre_ScOutDxRefIdeal m →
    θ_run (Cert.ScOutDxRefIdeal.defs (F := Ideal)) (onTc (τ := Cert.ScOutDxRefIdeal.τ) (Cert.ScOutDxRefIdeal.main (F := Ideal))) ⟨m, fun _ => 0, g⟩ (fun r => (∀ c : Dev Cert.ScOutDxRefIdeal.nD,
      r.2.mem ((c.tc : Thread Cert.ScOutDxRefIdeal.nD Cert.ScOutDxRefIdeal.τ).loc Cert.ScOutDxRefIdeal.main_arg0) = m ((c.tc : Thread Cert.ScOutDxRefIdeal.nD Cert.ScOutDxRefIdeal.τ).loc Cert.ScOutDxRefIdeal.main_arg0)
      ∧ r.2.mem ((c.tc : Thread Cert.ScOutDxRefIdeal.nD Cert.ScOutDxRefIdeal.τ).loc Cert.ScOutDxRefIdeal.main_arg1) = m ((c.tc : Thread Cert.ScOutDxRefIdeal.nD Cert.ScOutDxRefIdeal.τ).loc Cert.ScOutDxRefIdeal.main_arg1)
      ∧ r.2.mem ((c.tc : Thread Cert.ScOutDxRefIdeal.nD Cert.ScOutDxRefIdeal.τ).loc Cert.ScOutDxRefIdeal.main_arg2) = m ((c.tc : Thread Cert.ScOutDxRefIdeal.nD Cert.ScOutDxRefIdeal.τ).loc Cert.ScOutDxRefIdeal.main_arg2))
      ∧ r.2.sem = fun _ => 0)

def quiescent_ScOutDw [hScOutDw : Cert.ScOutDw.Facts] : Prop :=
  ∀ (m : (ℓ : Loc Cert.ScOutDw.nD Cert.ScOutDw.τ Cert.ScOutDw.sig) → Buf (Elt Bits) ℓ) (g : Dev Cert.ScOutDw.nD → PrngReg), Pre_ScOutDw m →
    θ_run (Cert.ScOutDw.defs (F := Bits)) (onTc (τ := Cert.ScOutDw.τ) (Cert.ScOutDw.main (F := Bits))) ⟨m, fun _ => 0, g⟩ (fun r => (∀ c : Dev Cert.ScOutDw.nD,
      r.2.mem ((c.tc : Thread Cert.ScOutDw.nD Cert.ScOutDw.τ).loc Cert.ScOutDw.main_arg0) = m ((c.tc : Thread Cert.ScOutDw.nD Cert.ScOutDw.τ).loc Cert.ScOutDw.main_arg0)
      ∧ r.2.mem ((c.tc : Thread Cert.ScOutDw.nD Cert.ScOutDw.τ).loc Cert.ScOutDw.main_arg1) = m ((c.tc : Thread Cert.ScOutDw.nD Cert.ScOutDw.τ).loc Cert.ScOutDw.main_arg1)
      ∧ r.2.mem ((c.tc : Thread Cert.ScOutDw.nD Cert.ScOutDw.τ).loc Cert.ScOutDw.main_arg2) = m ((c.tc : Thread Cert.ScOutDw.nD Cert.ScOutDw.τ).loc Cert.ScOutDw.main_arg2))
      ∧ r.2.sem = fun _ => 0)

def quiescent_ScOutDwIdeal [hScOutDwIdeal : Cert.ScOutDwIdeal.Facts] : Prop :=
  ∀ (m : (ℓ : Loc Cert.ScOutDwIdeal.nD Cert.ScOutDwIdeal.τ Cert.ScOutDwIdeal.sig) → Buf (Elt Ideal) ℓ) (g : Dev Cert.ScOutDwIdeal.nD → PrngReg), Pre_ScOutDwIdeal m →
    θ_run (Cert.ScOutDwIdeal.defs (F := Ideal)) (onTc (τ := Cert.ScOutDwIdeal.τ) (Cert.ScOutDwIdeal.main (F := Ideal))) ⟨m, fun _ => 0, g⟩ (fun r => (∀ c : Dev Cert.ScOutDwIdeal.nD,
      r.2.mem ((c.tc : Thread Cert.ScOutDwIdeal.nD Cert.ScOutDwIdeal.τ).loc Cert.ScOutDwIdeal.main_arg0) = m ((c.tc : Thread Cert.ScOutDwIdeal.nD Cert.ScOutDwIdeal.τ).loc Cert.ScOutDwIdeal.main_arg0)
      ∧ r.2.mem ((c.tc : Thread Cert.ScOutDwIdeal.nD Cert.ScOutDwIdeal.τ).loc Cert.ScOutDwIdeal.main_arg1) = m ((c.tc : Thread Cert.ScOutDwIdeal.nD Cert.ScOutDwIdeal.τ).loc Cert.ScOutDwIdeal.main_arg1)
      ∧ r.2.mem ((c.tc : Thread Cert.ScOutDwIdeal.nD Cert.ScOutDwIdeal.τ).loc Cert.ScOutDwIdeal.main_arg2) = m ((c.tc : Thread Cert.ScOutDwIdeal.nD Cert.ScOutDwIdeal.τ).loc Cert.ScOutDwIdeal.main_arg2))
      ∧ r.2.sem = fun _ => 0)

def quiescent_ScOutDwRefIdeal [hScOutDwRefIdeal : Cert.ScOutDwRefIdeal.Facts] : Prop :=
  ∀ (m : (ℓ : Loc Cert.ScOutDwRefIdeal.nD Cert.ScOutDwRefIdeal.τ Cert.ScOutDwRefIdeal.sig) → Buf (Elt Ideal) ℓ) (g : Dev Cert.ScOutDwRefIdeal.nD → PrngReg), Pre_ScOutDwRefIdeal m →
    θ_run (Cert.ScOutDwRefIdeal.defs (F := Ideal)) (onTc (τ := Cert.ScOutDwRefIdeal.τ) (Cert.ScOutDwRefIdeal.main (F := Ideal))) ⟨m, fun _ => 0, g⟩ (fun r => (∀ c : Dev Cert.ScOutDwRefIdeal.nD,
      r.2.mem ((c.tc : Thread Cert.ScOutDwRefIdeal.nD Cert.ScOutDwRefIdeal.τ).loc Cert.ScOutDwRefIdeal.main_arg0) = m ((c.tc : Thread Cert.ScOutDwRefIdeal.nD Cert.ScOutDwRefIdeal.τ).loc Cert.ScOutDwRefIdeal.main_arg0)
      ∧ r.2.mem ((c.tc : Thread Cert.ScOutDwRefIdeal.nD Cert.ScOutDwRefIdeal.τ).loc Cert.ScOutDwRefIdeal.main_arg1) = m ((c.tc : Thread Cert.ScOutDwRefIdeal.nD Cert.ScOutDwRefIdeal.τ).loc Cert.ScOutDwRefIdeal.main_arg1)
      ∧ r.2.mem ((c.tc : Thread Cert.ScOutDwRefIdeal.nD Cert.ScOutDwRefIdeal.τ).loc Cert.ScOutDwRefIdeal.main_arg2) = m ((c.tc : Thread Cert.ScOutDwRefIdeal.nD Cert.ScOutDwRefIdeal.τ).loc Cert.ScOutDwRefIdeal.main_arg2))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1))
      ∧ r.2.sem = fun _ => 0)

def quiescent_Down1RefIdeal [hDown1RefIdeal : Cert.Down1RefIdeal.Facts] : Prop :=
  ∀ (m : (ℓ : Loc Cert.Down1RefIdeal.nD Cert.Down1RefIdeal.τ Cert.Down1RefIdeal.sig) → Buf (Elt Ideal) ℓ) (g : Dev Cert.Down1RefIdeal.nD → PrngReg), Pre_Down1RefIdeal m →
    θ_run (Cert.Down1RefIdeal.defs (F := Ideal)) (onTc (τ := Cert.Down1RefIdeal.τ) (Cert.Down1RefIdeal.main (F := Ideal))) ⟨m, fun _ => 0, g⟩ (fun r => (∀ c : Dev Cert.Down1RefIdeal.nD,
      r.2.mem ((c.tc : Thread Cert.Down1RefIdeal.nD Cert.Down1RefIdeal.τ).loc Cert.Down1RefIdeal.main_arg0) = m ((c.tc : Thread Cert.Down1RefIdeal.nD Cert.Down1RefIdeal.τ).loc Cert.Down1RefIdeal.main_arg0)
      ∧ r.2.mem ((c.tc : Thread Cert.Down1RefIdeal.nD Cert.Down1RefIdeal.τ).loc Cert.Down1RefIdeal.main_arg1) = m ((c.tc : Thread Cert.Down1RefIdeal.nD Cert.Down1RefIdeal.τ).loc Cert.Down1RefIdeal.main_arg1))
      ∧ r.2.sem = fun _ => 0)

def quiescent_Down2 [hDown2 : Cert.Down2.Facts] : Prop :=
  ∀ (m : (ℓ : Loc Cert.Down2.nD Cert.Down2.τ Cert.Down2.sig) → Buf (Elt Bits) ℓ) (g : Dev Cert.Down2.nD → PrngReg), Pre_Down2 m →
    θ_run (Cert.Down2.defs (F := Bits)) (onTc (τ := Cert.Down2.τ) (Cert.Down2.main (F := Bits))) ⟨m, fun _ => 0, g⟩ (fun r => (∀ c : Dev Cert.Down2.nD,
      r.2.mem ((c.tc : Thread Cert.Down2.nD Cert.Down2.τ).loc Cert.Down2.main_arg0) = m ((c.tc : Thread Cert.Down2.nD Cert.Down2.τ).loc Cert.Down2.main_arg0)
      ∧ r.2.mem ((c.tc : Thread Cert.Down2.nD Cert.Down2.τ).loc Cert.Down2.main_arg1) = m ((c.tc : Thread Cert.Down2.nD Cert.Down2.τ).loc Cert.Down2.main_arg1))
      ∧ r.2.sem = fun _ => 0)

def quiescent_Down2Ideal [hDown2Ideal : Cert.Down2Ideal.Facts] : Prop :=
  ∀ (m : (ℓ : Loc Cert.Down2Ideal.nD Cert.Down2Ideal.τ Cert.Down2Ideal.sig) → Buf (Elt Ideal) ℓ) (g : Dev Cert.Down2Ideal.nD → PrngReg), Pre_Down2Ideal m →
    θ_run (Cert.Down2Ideal.defs (F := Ideal)) (onTc (τ := Cert.Down2Ideal.τ) (Cert.Down2Ideal.main (F := Ideal))) ⟨m, fun _ => 0, g⟩ (fun r => (∀ c : Dev Cert.Down2Ideal.nD,
      r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
      ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1))
      ∧ r.2.sem = fun _ => 0)

def quiescent_Down2RefIdeal [hDown2RefIdeal : Cert.Down2RefIdeal.Facts] : Prop :=
  ∀ (m : (ℓ : Loc Cert.Down2RefIdeal.nD Cert.Down2RefIdeal.τ Cert.Down2RefIdeal.sig) → Buf (Elt Ideal) ℓ) (g : Dev Cert.Down2RefIdeal.nD → PrngReg), Pre_Down2RefIdeal m →
    θ_run (Cert.Down2RefIdeal.defs (F := Ideal)) (onTc (τ := Cert.Down2RefIdeal.τ) (Cert.Down2RefIdeal.main (F := Ideal))) ⟨m, fun _ => 0, g⟩ (fun r => (∀ c : Dev Cert.Down2RefIdeal.nD,
      r.2.mem ((c.tc : Thread Cert.Down2RefIdeal.nD Cert.Down2RefIdeal.τ).loc Cert.Down2RefIdeal.main_arg0) = m ((c.tc : Thread Cert.Down2RefIdeal.nD Cert.Down2RefIdeal.τ).loc Cert.Down2RefIdeal.main_arg0)
      ∧ r.2.mem ((c.tc : Thread Cert.Down2RefIdeal.nD Cert.Down2RefIdeal.τ).loc Cert.Down2RefIdeal.main_arg1) = m ((c.tc : Thread Cert.Down2RefIdeal.nD Cert.Down2RefIdeal.τ).loc Cert.Down2RefIdeal.main_arg1))
      ∧ r.2.sem = fun _ => 0)

def quiescent_Down3 [hDown3 : Cert.Down3.Facts] : Prop :=
  ∀ (m : (ℓ : Loc Cert.Down3.nD Cert.Down3.τ Cert.Down3.sig) → Buf (Elt Bits) ℓ) (g : Dev Cert.Down3.nD → PrngReg), Pre_Down3 m →
    θ_run (Cert.Down3.defs (F := Bits)) (onTc (τ := Cert.Down3.τ) (Cert.Down3.main (F := Bits))) ⟨m, fun _ => 0, g⟩ (fun r => (∀ c : Dev Cert.Down3.nD,
      r.2.mem ((c.tc : Thread Cert.Down3.nD Cert.Down3.τ).loc Cert.Down3.main_arg0) = m ((c.tc : Thread Cert.Down3.nD Cert.Down3.τ).loc Cert.Down3.main_arg0)
      ∧ r.2.mem ((c.tc : Thread Cert.Down3.nD Cert.Down3.τ).loc Cert.Down3.main_arg1) = m ((c.tc : Thread Cert.Down3.nD Cert.Down3.τ).loc Cert.Down3.main_arg1))
      ∧ r.2.sem = fun _ => 0)

def quiescent_Down3Ideal [hDown3Ideal : Cert.Down3Ideal.Facts] : Prop :=
  ∀ (m : (ℓ : Loc Cert.Down3Ideal.nD Cert.Down3Ideal.τ Cert.Down3Ideal.sig) → Buf (Elt Ideal) ℓ) (g : Dev Cert.Down3Ideal.nD → PrngReg), Pre_Down3Ideal m →
    θ_run (Cert.Down3Ideal.defs (F := Ideal)) (onTc (τ := Cert.Down3Ideal.τ) (Cert.Down3Ideal.main (F := Ideal))) ⟨m, fun _ => 0, g⟩ (fun r => (∀ c : Dev Cert.Down3Ideal.nD,
      r.2.mem ((c.tc : Thread Cert.Down3Ideal.nD Cert.Down3Ideal.τ).loc Cert.Down3Ideal.main_arg0) = m ((c.tc : Thread Cert.Down3Ideal.nD Cert.Down3Ideal.τ).loc Cert.Down3Ideal.main_arg0)
      ∧ r.2.mem ((c.tc : Thread Cert.Down3Ideal.nD Cert.Down3Ideal.τ).loc Cert.Down3Ideal.main_arg1) = m ((c.tc : Thread Cert.Down3Ideal.nD Cert.Down3Ideal.τ).loc Cert.Down3Ideal.main_arg1))
      ∧ r.2.sem = fun _ => 0)

def quiescent_Down3RefIdeal [hDown3RefIdeal : Cert.Down3RefIdeal.Facts] : Prop :=
  ∀ (m : (ℓ : Loc Cert.Down3RefIdeal.nD Cert.Down3RefIdeal.τ Cert.Down3RefIdeal.sig) → Buf (Elt Ideal) ℓ) (g : Dev Cert.Down3RefIdeal.nD → PrngReg), Pre_Down3RefIdeal m →
    θ_run (Cert.Down3RefIdeal.defs (F := Ideal)) (onTc (τ := Cert.Down3RefIdeal.τ) (Cert.Down3RefIdeal.main (F := Ideal))) ⟨m, fun _ => 0, g⟩ (fun r => (∀ c : Dev Cert.Down3RefIdeal.nD,
      r.2.mem ((c.tc : Thread Cert.Down3RefIdeal.nD Cert.Down3RefIdeal.τ).loc Cert.Down3RefIdeal.main_arg0) = m ((c.tc : Thread Cert.Down3RefIdeal.nD Cert.Down3RefIdeal.τ).loc Cert.Down3RefIdeal.main_arg0)
      ∧ r.2.mem ((c.tc : Thread Cert.Down3RefIdeal.nD Cert.Down3RefIdeal.τ).loc Cert.Down3RefIdeal.main_arg1) = m ((c.tc : Thread Cert.Down3RefIdeal.nD Cert.Down3RefIdeal.τ).loc Cert.Down3RefIdeal.main_arg1))
      ∧ r.2.sem = fun _ => 0)

def quiescent_DownDx1 [hDownDx1 : Cert.DownDx1.Facts] : Prop :=
  ∀ (m : (ℓ : Loc Cert.DownDx1.nD Cert.DownDx1.τ Cert.DownDx1.sig) → Buf (Elt Bits) ℓ) (g : Dev Cert.DownDx1.nD → PrngReg), Pre_DownDx1 m →
    θ_run (Cert.DownDx1.defs (F := Bits)) (onTc (τ := Cert.DownDx1.τ) (Cert.DownDx1.main (F := Bits))) ⟨m, fun _ => 0, g⟩ (fun r => (∀ c : Dev Cert.DownDx1.nD,
      r.2.mem ((c.tc : Thread Cert.DownDx1.nD Cert.DownDx1.τ).loc Cert.DownDx1.main_arg0) = m ((c.tc : Thread Cert.DownDx1.nD Cert.DownDx1.τ).loc Cert.DownDx1.main_arg0)
      ∧ r.2.mem ((c.tc : Thread Cert.DownDx1.nD Cert.DownDx1.τ).loc Cert.DownDx1.main_arg1) = m ((c.tc : Thread Cert.DownDx1.nD Cert.DownDx1.τ).loc Cert.DownDx1.main_arg1)
      ∧ r.2.mem ((c.tc : Thread Cert.DownDx1.nD Cert.DownDx1.τ).loc Cert.DownDx1.main_arg2) = m ((c.tc : Thread Cert.DownDx1.nD Cert.DownDx1.τ).loc Cert.DownDx1.main_arg2))
      ∧ r.2.sem = fun _ => 0)

def quiescent_DownDx1Ideal [hDownDx1Ideal : Cert.DownDx1Ideal.Facts] : Prop :=
  ∀ (m : (ℓ : Loc Cert.DownDx1Ideal.nD Cert.DownDx1Ideal.τ Cert.DownDx1Ideal.sig) → Buf (Elt Ideal) ℓ) (g : Dev Cert.DownDx1Ideal.nD → PrngReg), Pre_DownDx1Ideal m →
    θ_run (Cert.DownDx1Ideal.defs (F := Ideal)) (onTc (τ := Cert.DownDx1Ideal.τ) (Cert.DownDx1Ideal.main (F := Ideal))) ⟨m, fun _ => 0, g⟩ (fun r => (∀ c : Dev Cert.DownDx1Ideal.nD,
      r.2.mem ((c.tc : Thread Cert.DownDx1Ideal.nD Cert.DownDx1Ideal.τ).loc Cert.DownDx1Ideal.main_arg0) = m ((c.tc : Thread Cert.DownDx1Ideal.nD Cert.DownDx1Ideal.τ).loc Cert.DownDx1Ideal.main_arg0)
      ∧ r.2.mem ((c.tc : Thread Cert.DownDx1Ideal.nD Cert.DownDx1Ideal.τ).loc Cert.DownDx1Ideal.main_arg1) = m ((c.tc : Thread Cert.DownDx1Ideal.nD Cert.DownDx1Ideal.τ).loc Cert.DownDx1Ideal.main_arg1)
      ∧ r.2.mem ((c.tc : Thread Cert.DownDx1Ideal.nD Cert.DownDx1Ideal.τ).loc Cert.DownDx1Ideal.main_arg2) = m ((c.tc : Thread Cert.DownDx1Ideal.nD Cert.DownDx1Ideal.τ).loc Cert.DownDx1Ideal.main_arg2))
      ∧ r.2.sem = fun _ => 0)

def quiescent_DownDx1RefIdeal [hDownDx1RefIdeal : Cert.DownDx1RefIdeal.Facts] : Prop :=
  ∀ (m : (ℓ : Loc Cert.DownDx1RefIdeal.nD Cert.DownDx1RefIdeal.τ Cert.DownDx1RefIdeal.sig) → Buf (Elt Ideal) ℓ) (g : Dev Cert.DownDx1RefIdeal.nD → PrngReg), Pre_DownDx1RefIdeal m →
    θ_run (Cert.DownDx1RefIdeal.defs (F := Ideal)) (onTc (τ := Cert.DownDx1RefIdeal.τ) (Cert.DownDx1RefIdeal.main (F := Ideal))) ⟨m, fun _ => 0, g⟩ (fun r => (∀ c : Dev Cert.DownDx1RefIdeal.nD,
      r.2.mem ((c.tc : Thread Cert.DownDx1RefIdeal.nD Cert.DownDx1RefIdeal.τ).loc Cert.DownDx1RefIdeal.main_arg0) = m ((c.tc : Thread Cert.DownDx1RefIdeal.nD Cert.DownDx1RefIdeal.τ).loc Cert.DownDx1RefIdeal.main_arg0)
      ∧ r.2.mem ((c.tc : Thread Cert.DownDx1RefIdeal.nD Cert.DownDx1RefIdeal.τ).loc Cert.DownDx1RefIdeal.main_arg1) = m ((c.tc : Thread Cert.DownDx1RefIdeal.nD Cert.DownDx1RefIdeal.τ).loc Cert.DownDx1RefIdeal.main_arg1)
      ∧ r.2.mem ((c.tc : Thread Cert.DownDx1RefIdeal.nD Cert.DownDx1RefIdeal.τ).loc Cert.DownDx1RefIdeal.main_arg2) = m ((c.tc : Thread Cert.DownDx1RefIdeal.nD Cert.DownDx1RefIdeal.τ).loc Cert.DownDx1RefIdeal.main_arg2))
      ∧ r.2.sem = fun _ => 0)

def quiescent_DownDx2 [hDownDx2 : Cert.DownDx2.Facts] : Prop :=
  ∀ (m : (ℓ : Loc Cert.DownDx2.nD Cert.DownDx2.τ Cert.DownDx2.sig) → Buf (Elt Bits) ℓ) (g : Dev Cert.DownDx2.nD → PrngReg), Pre_DownDx2 m →
    θ_run (Cert.DownDx2.defs (F := Bits)) (onTc (τ := Cert.DownDx2.τ) (Cert.DownDx2.main (F := Bits))) ⟨m, fun _ => 0, g⟩ (fun r => (∀ c : Dev Cert.DownDx2.nD,
      r.2.mem ((c.tc : Thread Cert.DownDx2.nD Cert.DownDx2.τ).loc Cert.DownDx2.main_arg0) = m ((c.tc : Thread Cert.DownDx2.nD Cert.DownDx2.τ).loc Cert.DownDx2.main_arg0)
      ∧ r.2.mem ((c.tc : Thread Cert.DownDx2.nD Cert.DownDx2.τ).loc Cert.DownDx2.main_arg1) = m ((c.tc : Thread Cert.DownDx2.nD Cert.DownDx2.τ).loc Cert.DownDx2.main_arg1)
      ∧ r.2.mem ((c.tc : Thread Cert.DownDx2.nD Cert.DownDx2.τ).loc Cert.DownDx2.main_arg2) = m ((c.tc : Thread Cert.DownDx2.nD Cert.DownDx2.τ).loc Cert.DownDx2.main_arg2))
      ∧ r.2.sem = fun _ => 0)

def quiescent_DownDx2Ideal [hDownDx2Ideal : Cert.DownDx2Ideal.Facts] : Prop :=
  ∀ (m : (ℓ : Loc Cert.DownDx2Ideal.nD Cert.DownDx2Ideal.τ Cert.DownDx2Ideal.sig) → Buf (Elt Ideal) ℓ) (g : Dev Cert.DownDx2Ideal.nD → PrngReg), Pre_DownDx2Ideal m →
    θ_run (Cert.DownDx2Ideal.defs (F := Ideal)) (onTc (τ := Cert.DownDx2Ideal.τ) (Cert.DownDx2Ideal.main (F := Ideal))) ⟨m, fun _ => 0, g⟩ (fun r => (∀ c : Dev Cert.DownDx2Ideal.nD,
      r.2.mem ((c.tc : Thread Cert.DownDx2Ideal.nD Cert.DownDx2Ideal.τ).loc Cert.DownDx2Ideal.main_arg0) = m ((c.tc : Thread Cert.DownDx2Ideal.nD Cert.DownDx2Ideal.τ).loc Cert.DownDx2Ideal.main_arg0)
      ∧ r.2.mem ((c.tc : Thread Cert.DownDx2Ideal.nD Cert.DownDx2Ideal.τ).loc Cert.DownDx2Ideal.main_arg1) = m ((c.tc : Thread Cert.DownDx2Ideal.nD Cert.DownDx2Ideal.τ).loc Cert.DownDx2Ideal.main_arg1)
      ∧ r.2.mem ((c.tc : Thread Cert.DownDx2Ideal.nD Cert.DownDx2Ideal.τ).loc Cert.DownDx2Ideal.main_arg2) = m ((c.tc : Thread Cert.DownDx2Ideal.nD Cert.DownDx2Ideal.τ).loc Cert.DownDx2Ideal.main_arg2))
      ∧ r.2.sem = fun _ => 0)

def quiescent_DownDx2RefIdeal [hDownDx2RefIdeal : Cert.DownDx2RefIdeal.Facts] : Prop :=
  ∀ (m : (ℓ : Loc Cert.DownDx2RefIdeal.nD Cert.DownDx2RefIdeal.τ Cert.DownDx2RefIdeal.sig) → Buf (Elt Ideal) ℓ) (g : Dev Cert.DownDx2RefIdeal.nD → PrngReg), Pre_DownDx2RefIdeal m →
    θ_run (Cert.DownDx2RefIdeal.defs (F := Ideal)) (onTc (τ := Cert.DownDx2RefIdeal.τ) (Cert.DownDx2RefIdeal.main (F := Ideal))) ⟨m, fun _ => 0, g⟩ (fun r => (∀ c : Dev Cert.DownDx2RefIdeal.nD,
      r.2.mem ((c.tc : Thread Cert.DownDx2RefIdeal.nD Cert.DownDx2RefIdeal.τ).loc Cert.DownDx2RefIdeal.main_arg0) = m ((c.tc : Thread Cert.DownDx2RefIdeal.nD Cert.DownDx2RefIdeal.τ).loc Cert.DownDx2RefIdeal.main_arg0)
      ∧ r.2.mem ((c.tc : Thread Cert.DownDx2RefIdeal.nD Cert.DownDx2RefIdeal.τ).loc Cert.DownDx2RefIdeal.main_arg1) = m ((c.tc : Thread Cert.DownDx2RefIdeal.nD Cert.DownDx2RefIdeal.τ).loc Cert.DownDx2RefIdeal.main_arg1)
      ∧ r.2.mem ((c.tc : Thread Cert.DownDx2RefIdeal.nD Cert.DownDx2RefIdeal.τ).loc Cert.DownDx2RefIdeal.main_arg2) = m ((c.tc : Thread Cert.DownDx2RefIdeal.nD Cert.DownDx2RefIdeal.τ).loc Cert.DownDx2RefIdeal.main_arg2))
      ∧ r.2.sem = fun _ => 0)

def quiescent_DownDx3 [hDownDx3 : Cert.DownDx3.Facts] : Prop :=
  ∀ (m : (ℓ : Loc Cert.DownDx3.nD Cert.DownDx3.τ Cert.DownDx3.sig) → Buf (Elt Bits) ℓ) (g : Dev Cert.DownDx3.nD → PrngReg), Pre_DownDx3 m →
    θ_run (Cert.DownDx3.defs (F := Bits)) (onTc (τ := Cert.DownDx3.τ) (Cert.DownDx3.main (F := Bits))) ⟨m, fun _ => 0, g⟩ (fun r => (∀ c : Dev Cert.DownDx3.nD,
      r.2.mem ((c.tc : Thread Cert.DownDx3.nD Cert.DownDx3.τ).loc Cert.DownDx3.main_arg0) = m ((c.tc : Thread Cert.DownDx3.nD Cert.DownDx3.τ).loc Cert.DownDx3.main_arg0)
      ∧ r.2.mem ((c.tc : Thread Cert.DownDx3.nD Cert.DownDx3.τ).loc Cert.DownDx3.main_arg1) = m ((c.tc : Thread Cert.DownDx3.nD Cert.DownDx3.τ).loc Cert.DownDx3.main_arg1)
      ∧ r.2.mem ((c.tc : Thread Cert.DownDx3.nD Cert.DownDx3.τ).loc Cert.DownDx3.main_arg2) = m ((c.tc : Thread Cert.DownDx3.nD Cert.DownDx3.τ).loc Cert.DownDx3.main_arg2))
      ∧ r.2.sem = fun _ => 0)

def quiescent_DownDx3Ideal [hDownDx3Ideal : Cert.DownDx3Ideal.Facts] : Prop :=
  ∀ (m : (ℓ : Loc Cert.DownDx3Ideal.nD Cert.DownDx3Ideal.τ Cert.DownDx3Ideal.sig) → Buf (Elt Ideal) ℓ) (g : Dev Cert.DownDx3Ideal.nD → PrngReg), Pre_DownDx3Ideal m →
    θ_run (Cert.DownDx3Ideal.defs (F := Ideal)) (onTc (τ := Cert.DownDx3Ideal.τ) (Cert.DownDx3Ideal.main (F := Ideal))) ⟨m, fun _ => 0, g⟩ (fun r => (∀ c : Dev Cert.DownDx3Ideal.nD,
      r.2.mem ((c.tc : Thread Cert.DownDx3Ideal.nD Cert.DownDx3Ideal.τ).loc Cert.DownDx3Ideal.main_arg0) = m ((c.tc : Thread Cert.DownDx3Ideal.nD Cert.DownDx3Ideal.τ).loc Cert.DownDx3Ideal.main_arg0)
      ∧ r.2.mem ((c.tc : Thread Cert.DownDx3Ideal.nD Cert.DownDx3Ideal.τ).loc Cert.DownDx3Ideal.main_arg1) = m ((c.tc : Thread Cert.DownDx3Ideal.nD Cert.DownDx3Ideal.τ).loc Cert.DownDx3Ideal.main_arg1)
      ∧ r.2.mem ((c.tc : Thread Cert.DownDx3Ideal.nD Cert.DownDx3Ideal.τ).loc Cert.DownDx3Ideal.main_arg2) = m ((c.tc : Thread Cert.DownDx3Ideal.nD Cert.DownDx3Ideal.τ).loc Cert.DownDx3Ideal.main_arg2))
      ∧ r.2.sem = fun _ => 0)

def quiescent_DownDx3RefIdeal [hDownDx3RefIdeal : Cert.DownDx3RefIdeal.Facts] : Prop :=
  ∀ (m : (ℓ : Loc Cert.DownDx3RefIdeal.nD Cert.DownDx3RefIdeal.τ Cert.DownDx3RefIdeal.sig) → Buf (Elt Ideal) ℓ) (g : Dev Cert.DownDx3RefIdeal.nD → PrngReg), Pre_DownDx3RefIdeal m →
    θ_run (Cert.DownDx3RefIdeal.defs (F := Ideal)) (onTc (τ := Cert.DownDx3RefIdeal.τ) (Cert.DownDx3RefIdeal.main (F := Ideal))) ⟨m, fun _ => 0, g⟩ (fun r => (∀ c : Dev Cert.DownDx3RefIdeal.nD,
      r.2.mem ((c.tc : Thread Cert.DownDx3RefIdeal.nD Cert.DownDx3RefIdeal.τ).loc Cert.DownDx3RefIdeal.main_arg0) = m ((c.tc : Thread Cert.DownDx3RefIdeal.nD Cert.DownDx3RefIdeal.τ).loc Cert.DownDx3RefIdeal.main_arg0)
      ∧ r.2.mem ((c.tc : Thread Cert.DownDx3RefIdeal.nD Cert.DownDx3RefIdeal.τ).loc Cert.DownDx3RefIdeal.main_arg1) = m ((c.tc : Thread Cert.DownDx3RefIdeal.nD Cert.DownDx3RefIdeal.τ).loc Cert.DownDx3RefIdeal.main_arg1)
      ∧ r.2.mem ((c.tc : Thread Cert.DownDx3RefIdeal.nD Cert.DownDx3RefIdeal.τ).loc Cert.DownDx3RefIdeal.main_arg2) = m ((c.tc : Thread Cert.DownDx3RefIdeal.nD Cert.DownDx3RefIdeal.τ).loc Cert.DownDx3RefIdeal.main_arg2))
      ∧ r.2.sem = fun _ => 0)

def quiescent_Up1 [hUp1 : Cert.Up1.Facts] : Prop :=
  ∀ (m : (ℓ : Loc Cert.Up1.nD Cert.Up1.τ Cert.Up1.sig) → Buf (Elt Bits) ℓ) (g : Dev Cert.Up1.nD → PrngReg), Pre_Up1 m →
    θ_run (Cert.Up1.defs (F := Bits)) (onTc (τ := Cert.Up1.τ) (Cert.Up1.main (F := Bits))) ⟨m, fun _ => 0, g⟩ (fun r => (∀ c : Dev Cert.Up1.nD,
      r.2.mem ((c.tc : Thread Cert.Up1.nD Cert.Up1.τ).loc Cert.Up1.main_arg0) = m ((c.tc : Thread Cert.Up1.nD Cert.Up1.τ).loc Cert.Up1.main_arg0)
      ∧ r.2.mem ((c.tc : Thread Cert.Up1.nD Cert.Up1.τ).loc Cert.Up1.main_arg1) = m ((c.tc : Thread Cert.Up1.nD Cert.Up1.τ).loc Cert.Up1.main_arg1))
      ∧ r.2.sem = fun _ => 0)

def quiescent_Up1Ideal [hUp1Ideal : Cert.Up1Ideal.Facts] : Prop :=
  ∀ (m : (ℓ : Loc Cert.Up1Ideal.nD Cert.Up1Ideal.τ Cert.Up1Ideal.sig) → Buf (Elt Ideal) ℓ) (g : Dev Cert.Up1Ideal.nD → PrngReg), Pre_Up1Ideal m →
    θ_run (Cert.Up1Ideal.defs (F := Ideal)) (onTc (τ := Cert.Up1Ideal.τ) (Cert.Up1Ideal.main (F := Ideal))) ⟨m, fun _ => 0, g⟩ (fun r => (∀ c : Dev Cert.Up1Ideal.nD,
      r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
      ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ r.2.sem = fun _ => 0)

def quiescent_Up1RefIdeal [hUp1RefIdeal : Cert.Up1RefIdeal.Facts] : Prop :=
  ∀ (m : (ℓ : Loc Cert.Up1RefIdeal.nD Cert.Up1RefIdeal.τ Cert.Up1RefIdeal.sig) → Buf (Elt Ideal) ℓ) (g : Dev Cert.Up1RefIdeal.nD → PrngReg), Pre_Up1RefIdeal m →
    θ_run (Cert.Up1RefIdeal.defs (F := Ideal)) (onTc (τ := Cert.Up1RefIdeal.τ) (Cert.Up1RefIdeal.main (F := Ideal))) ⟨m, fun _ => 0, g⟩ (fun r => (∀ c : Dev Cert.Up1RefIdeal.nD,
      r.2.mem ((c.tc : Thread Cert.Up1RefIdeal.nD Cert.Up1RefIdeal.τ).loc Cert.Up1RefIdeal.main_arg0) = m ((c.tc : Thread Cert.Up1RefIdeal.nD Cert.Up1RefIdeal.τ).loc Cert.Up1RefIdeal.main_arg0)
      ∧ r.2.mem ((c.tc : Thread Cert.Up1RefIdeal.nD Cert.Up1RefIdeal.τ).loc Cert.Up1RefIdeal.main_arg1) = m ((c.tc : Thread Cert.Up1RefIdeal.nD Cert.Up1RefIdeal.τ).loc Cert.Up1RefIdeal.main_arg1))
      ∧ r.2.sem = fun _ => 0)

def quiescent_Up2 [hUp2 : Cert.Up2.Facts] : Prop :=
  ∀ (m : (ℓ : Loc Cert.Up2.nD Cert.Up2.τ Cert.Up2.sig) → Buf (Elt Bits) ℓ) (g : Dev Cert.Up2.nD → PrngReg), Pre_Up2 m →
    θ_run (Cert.Up2.defs (F := Bits)) (onTc (τ := Cert.Up2.τ) (Cert.Up2.main (F := Bits))) ⟨m, fun _ => 0, g⟩ (fun r => (∀ c : Dev Cert.Up2.nD,
      r.2.mem ((c.tc : Thread Cert.Up2.nD Cert.Up2.τ).loc Cert.Up2.main_arg0) = m ((c.tc : Thread Cert.Up2.nD Cert.Up2.τ).loc Cert.Up2.main_arg0)
      ∧ r.2.mem ((c.tc : Thread Cert.Up2.nD Cert.Up2.τ).loc Cert.Up2.main_arg1) = m ((c.tc : Thread Cert.Up2.nD Cert.Up2.τ).loc Cert.Up2.main_arg1))
      ∧ r.2.sem = fun _ => 0)

def quiescent_Up2Ideal [hUp2Ideal : Cert.Up2Ideal.Facts] : Prop :=
  ∀ (m : (ℓ : Loc Cert.Up2Ideal.nD Cert.Up2Ideal.τ Cert.Up2Ideal.sig) → Buf (Elt Ideal) ℓ) (g : Dev Cert.Up2Ideal.nD → PrngReg), Pre_Up2Ideal m →
    θ_run (Cert.Up2Ideal.defs (F := Ideal)) (onTc (τ := Cert.Up2Ideal.τ) (Cert.Up2Ideal.main (F := Ideal))) ⟨m, fun _ => 0, g⟩ (fun r => (∀ c : Dev Cert.Up2Ideal.nD,
      r.2.mem ((c.tc : Thread Cert.Up2Ideal.nD Cert.Up2Ideal.τ).loc Cert.Up2Ideal.main_arg0) = m ((c.tc : Thread Cert.Up2Ideal.nD Cert.Up2Ideal.τ).loc Cert.Up2Ideal.main_arg0)
      ∧ r.2.mem ((c.tc : Thread Cert.Up2Ideal.nD Cert.Up2Ideal.τ).loc Cert.Up2Ideal.main_arg1) = m ((c.tc : Thread Cert.Up2Ideal.nD Cert.Up2Ideal.τ).loc Cert.Up2Ideal.main_arg1))
      ∧ r.2.sem = fun _ => 0)

def quiescent_Up2RefIdeal [hUp2RefIdeal : Cert.Up2RefIdeal.Facts] : Prop :=
  ∀ (m : (ℓ : Loc Cert.Up2RefIdeal.nD Cert.Up2RefIdeal.τ Cert.Up2RefIdeal.sig) → Buf (Elt Ideal) ℓ) (g : Dev Cert.Up2RefIdeal.nD → PrngReg), Pre_Up2RefIdeal m →
    θ_run (Cert.Up2RefIdeal.defs (F := Ideal)) (onTc (τ := Cert.Up2RefIdeal.τ) (Cert.Up2RefIdeal.main (F := Ideal))) ⟨m, fun _ => 0, g⟩ (fun r => (∀ c : Dev Cert.Up2RefIdeal.nD,
      r.2.mem ((c.tc : Thread Cert.Up2RefIdeal.nD Cert.Up2RefIdeal.τ).loc Cert.Up2RefIdeal.main_arg0) = m ((c.tc : Thread Cert.Up2RefIdeal.nD Cert.Up2RefIdeal.τ).loc Cert.Up2RefIdeal.main_arg0)
      ∧ r.2.mem ((c.tc : Thread Cert.Up2RefIdeal.nD Cert.Up2RefIdeal.τ).loc Cert.Up2RefIdeal.main_arg1) = m ((c.tc : Thread Cert.Up2RefIdeal.nD Cert.Up2RefIdeal.τ).loc Cert.Up2RefIdeal.main_arg1))
      ∧ r.2.sem = fun _ => 0)

def quiescent_Up3 [hUp3 : Cert.Up3.Facts] : Prop :=
  ∀ (m : (ℓ : Loc Cert.Up3.nD Cert.Up3.τ Cert.Up3.sig) → Buf (Elt Bits) ℓ) (g : Dev Cert.Up3.nD → PrngReg), Pre_Up3 m →
    θ_run (Cert.Up3.defs (F := Bits)) (onTc (τ := Cert.Up3.τ) (Cert.Up3.main (F := Bits))) ⟨m, fun _ => 0, g⟩ (fun r => (∀ c : Dev Cert.Up3.nD,
      r.2.mem ((c.tc : Thread Cert.Up3.nD Cert.Up3.τ).loc Cert.Up3.main_arg0) = m ((c.tc : Thread Cert.Up3.nD Cert.Up3.τ).loc Cert.Up3.main_arg0)
      ∧ r.2.mem ((c.tc : Thread Cert.Up3.nD Cert.Up3.τ).loc Cert.Up3.main_arg1) = m ((c.tc : Thread Cert.Up3.nD Cert.Up3.τ).loc Cert.Up3.main_arg1))
      ∧ r.2.sem = fun _ => 0)

def quiescent_Up3Ideal [hUp3Ideal : Cert.Up3Ideal.Facts] : Prop :=
  ∀ (m : (ℓ : Loc Cert.Up3Ideal.nD Cert.Up3Ideal.τ Cert.Up3Ideal.sig) → Buf (Elt Ideal) ℓ) (g : Dev Cert.Up3Ideal.nD → PrngReg), Pre_Up3Ideal m →
    θ_run (Cert.Up3Ideal.defs (F := Ideal)) (onTc (τ := Cert.Up3Ideal.τ) (Cert.Up3Ideal.main (F := Ideal))) ⟨m, fun _ => 0, g⟩ (fun r => (∀ c : Dev Cert.Up3Ideal.nD,
      r.2.mem ((c.tc : Thread Cert.Up3Ideal.nD Cert.Up3Ideal.τ).loc Cert.Up3Ideal.main_arg0) = m ((c.tc : Thread Cert.Up3Ideal.nD Cert.Up3Ideal.τ).loc Cert.Up3Ideal.main_arg0)
      ∧ r.2.mem ((c.tc : Thread Cert.Up3Ideal.nD Cert.Up3Ideal.τ).loc Cert.Up3Ideal.main_arg1) = m ((c.tc : Thread Cert.Up3Ideal.nD Cert.Up3Ideal.τ).loc Cert.Up3Ideal.main_arg1))
      ∧ r.2.sem = fun _ => 0)

def quiescent_Up3RefIdeal [hUp3RefIdeal : Cert.Up3RefIdeal.Facts] : Prop :=
  ∀ (m : (ℓ : Loc Cert.Up3RefIdeal.nD Cert.Up3RefIdeal.τ Cert.Up3RefIdeal.sig) → Buf (Elt Ideal) ℓ) (g : Dev Cert.Up3RefIdeal.nD → PrngReg), Pre_Up3RefIdeal m →
    θ_run (Cert.Up3RefIdeal.defs (F := Ideal)) (onTc (τ := Cert.Up3RefIdeal.τ) (Cert.Up3RefIdeal.main (F := Ideal))) ⟨m, fun _ => 0, g⟩ (fun r => (∀ c : Dev Cert.Up3RefIdeal.nD,
      r.2.mem ((c.tc : Thread Cert.Up3RefIdeal.nD Cert.Up3RefIdeal.τ).loc Cert.Up3RefIdeal.main_arg0) = m ((c.tc : Thread Cert.Up3RefIdeal.nD Cert.Up3RefIdeal.τ).loc Cert.Up3RefIdeal.main_arg0)
      ∧ r.2.mem ((c.tc : Thread Cert.Up3RefIdeal.nD Cert.Up3RefIdeal.τ).loc Cert.Up3RefIdeal.main_arg1) = m ((c.tc : Thread Cert.Up3RefIdeal.nD Cert.Up3RefIdeal.τ).loc Cert.Up3RefIdeal.main_arg1))
      ∧ r.2.sem = fun _ => 0)

def quiescent_UpDx1 [hUpDx1 : Cert.UpDx1.Facts] : Prop :=
  ∀ (m : (ℓ : Loc Cert.UpDx1.nD Cert.UpDx1.τ Cert.UpDx1.sig) → Buf (Elt Bits) ℓ) (g : Dev Cert.UpDx1.nD → PrngReg), Pre_UpDx1 m →
    θ_run (Cert.UpDx1.defs (F := Bits)) (onTc (τ := Cert.UpDx1.τ) (Cert.UpDx1.main (F := Bits))) ⟨m, fun _ => 0, g⟩ (fun r => (∀ c : Dev Cert.UpDx1.nD,
      r.2.mem ((c.tc : Thread Cert.UpDx1.nD Cert.UpDx1.τ).loc Cert.UpDx1.main_arg0) = m ((c.tc : Thread Cert.UpDx1.nD Cert.UpDx1.τ).loc Cert.UpDx1.main_arg0)
      ∧ r.2.mem ((c.tc : Thread Cert.UpDx1.nD Cert.UpDx1.τ).loc Cert.UpDx1.main_arg1) = m ((c.tc : Thread Cert.UpDx1.nD Cert.UpDx1.τ).loc Cert.UpDx1.main_arg1)
      ∧ r.2.mem ((c.tc : Thread Cert.UpDx1.nD Cert.UpDx1.τ).loc Cert.UpDx1.main_arg2) = m ((c.tc : Thread Cert.UpDx1.nD Cert.UpDx1.τ).loc Cert.UpDx1.main_arg2))
      ∧ r.2.sem = fun _ => 0)

def quiescent_UpDx1Ideal [hUpDx1Ideal : Cert.UpDx1Ideal.Facts] : Prop :=
  ∀ (m : (ℓ : Loc Cert.UpDx1Ideal.nD Cert.UpDx1Ideal.τ Cert.UpDx1Ideal.sig) → Buf (Elt Ideal) ℓ) (g : Dev Cert.UpDx1Ideal.nD → PrngReg), Pre_UpDx1Ideal m →
    θ_run (Cert.UpDx1Ideal.defs (F := Ideal)) (onTc (τ := Cert.UpDx1Ideal.τ) (Cert.UpDx1Ideal.main (F := Ideal))) ⟨m, fun _ => 0, g⟩ (fun r => (∀ c : Dev Cert.UpDx1Ideal.nD,
      r.2.mem ((c.tc : Thread Cert.UpDx1Ideal.nD Cert.UpDx1Ideal.τ).loc Cert.UpDx1Ideal.main_arg0) = m ((c.tc : Thread Cert.UpDx1Ideal.nD Cert.UpDx1Ideal.τ).loc Cert.UpDx1Ideal.main_arg0)
      ∧ r.2.mem ((c.tc : Thread Cert.UpDx1Ideal.nD Cert.UpDx1Ideal.τ).loc Cert.UpDx1Ideal.main_arg1) = m ((c.tc : Thread Cert.UpDx1Ideal.nD Cert.UpDx1Ideal.τ).loc Cert.UpDx1Ideal.main_arg1)
      ∧ r.2.mem ((c.tc : Thread Cert.UpDx1Ideal.nD Cert.UpDx1Ideal.τ).loc Cert.UpDx1Ideal.main_arg2) = m ((c.tc : Thread Cert.UpDx1Ideal.nD Cert.UpDx1Ideal.τ).loc Cert.UpDx1Ideal.main_arg2))
      ∧ r.2.sem = fun _ => 0)

def quiescent_UpDx1RefIdeal [hUpDx1RefIdeal : Cert.UpDx1RefIdeal.Facts] : Prop :=
  ∀ (m : (ℓ : Loc Cert.UpDx1RefIdeal.nD Cert.UpDx1RefIdeal.τ Cert.UpDx1RefIdeal.sig) → Buf (Elt Ideal) ℓ) (g : Dev Cert.UpDx1RefIdeal.nD → PrngReg), Pre_UpDx1RefIdeal m →
    θ_run (Cert.UpDx1RefIdeal.defs (F := Ideal)) (onTc (τ := Cert.UpDx1RefIdeal.τ) (Cert.UpDx1RefIdeal.main (F := Ideal))) ⟨m, fun _ => 0, g⟩ (fun r => (∀ c : Dev Cert.UpDx1RefIdeal.nD,
      r.2.mem ((c.tc : Thread Cert.UpDx1RefIdeal.nD Cert.UpDx1RefIdeal.τ).loc Cert.UpDx1RefIdeal.main_arg0) = m ((c.tc : Thread Cert.UpDx1RefIdeal.nD Cert.UpDx1RefIdeal.τ).loc Cert.UpDx1RefIdeal.main_arg0)
      ∧ r.2.mem ((c.tc : Thread Cert.UpDx1RefIdeal.nD Cert.UpDx1RefIdeal.τ).loc Cert.UpDx1RefIdeal.main_arg1) = m ((c.tc : Thread Cert.UpDx1RefIdeal.nD Cert.UpDx1RefIdeal.τ).loc Cert.UpDx1RefIdeal.main_arg1)
      ∧ r.2.mem ((c.tc : Thread Cert.UpDx1RefIdeal.nD Cert.UpDx1RefIdeal.τ).loc Cert.UpDx1RefIdeal.main_arg2) = m ((c.tc : Thread Cert.UpDx1RefIdeal.nD Cert.UpDx1RefIdeal.τ).loc Cert.UpDx1RefIdeal.main_arg2))
      ∧ r.2.sem = fun _ => 0)

def quiescent_UpDx2 [hUpDx2 : Cert.UpDx2.Facts] : Prop :=
  ∀ (m : (ℓ : Loc Cert.UpDx2.nD Cert.UpDx2.τ Cert.UpDx2.sig) → Buf (Elt Bits) ℓ) (g : Dev Cert.UpDx2.nD → PrngReg), Pre_UpDx2 m →
    θ_run (Cert.UpDx2.defs (F := Bits)) (onTc (τ := Cert.UpDx2.τ) (Cert.UpDx2.main (F := Bits))) ⟨m, fun _ => 0, g⟩ (fun r => (∀ c : Dev Cert.UpDx2.nD,
      r.2.mem ((c.tc : Thread Cert.UpDx2.nD Cert.UpDx2.τ).loc Cert.UpDx2.main_arg0) = m ((c.tc : Thread Cert.UpDx2.nD Cert.UpDx2.τ).loc Cert.UpDx2.main_arg0)
      ∧ r.2.mem ((c.tc : Thread Cert.UpDx2.nD Cert.UpDx2.τ).loc Cert.UpDx2.main_arg1) = m ((c.tc : Thread Cert.UpDx2.nD Cert.UpDx2.τ).loc Cert.UpDx2.main_arg1)
      ∧ r.2.mem ((c.tc : Thread Cert.UpDx2.nD Cert.UpDx2.τ).loc Cert.UpDx2.main_arg2) = m ((c.tc : Thread Cert.UpDx2.nD Cert.UpDx2.τ).loc Cert.UpDx2.main_arg2))
      ∧ r.2.sem = fun _ => 0)

def quiescent_UpDx2Ideal [hUpDx2Ideal : Cert.UpDx2Ideal.Facts] : Prop :=
  ∀ (m : (ℓ : Loc Cert.UpDx2Ideal.nD Cert.UpDx2Ideal.τ Cert.UpDx2Ideal.sig) → Buf (Elt Ideal) ℓ) (g : Dev Cert.UpDx2Ideal.nD → PrngReg), Pre_UpDx2Ideal m →
    θ_run (Cert.UpDx2Ideal.defs (F := Ideal)) (onTc (τ := Cert.UpDx2Ideal.τ) (Cert.UpDx2Ideal.main (F := Ideal))) ⟨m, fun _ => 0, g⟩ (fun r => (∀ c : Dev Cert.UpDx2Ideal.nD,
      r.2.mem ((c.tc : Thread Cert.UpDx2Ideal.nD Cert.UpDx2Ideal.τ).loc Cert.UpDx2Ideal.main_arg0) = m ((c.tc : Thread Cert.UpDx2Ideal.nD Cert.UpDx2Ideal.τ).loc Cert.UpDx2Ideal.main_arg0)
      ∧ r.2.mem ((c.tc : Thread Cert.UpDx2Ideal.nD Cert.UpDx2Ideal.τ).loc Cert.UpDx2Ideal.main_arg1) = m ((c.tc : Thread Cert.UpDx2Ideal.nD Cert.UpDx2Ideal.τ).loc Cert.UpDx2Ideal.main_arg1)
      ∧ r.2.mem ((c.tc : Thread Cert.UpDx2Ideal.nD Cert.UpDx2Ideal.τ).loc Cert.UpDx2Ideal.main_arg2) = m ((c.tc : Thread Cert.UpDx2Ideal.nD Cert.UpDx2Ideal.τ).loc Cert.UpDx2Ideal.main_arg2))
      ∧ r.2.sem = fun _ => 0)

def quiescent_UpDx2RefIdeal [hUpDx2RefIdeal : Cert.UpDx2RefIdeal.Facts] : Prop :=
  ∀ (m : (ℓ : Loc Cert.UpDx2RefIdeal.nD Cert.UpDx2RefIdeal.τ Cert.UpDx2RefIdeal.sig) → Buf (Elt Ideal) ℓ) (g : Dev Cert.UpDx2RefIdeal.nD → PrngReg), Pre_UpDx2RefIdeal m →
    θ_run (Cert.UpDx2RefIdeal.defs (F := Ideal)) (onTc (τ := Cert.UpDx2RefIdeal.τ) (Cert.UpDx2RefIdeal.main (F := Ideal))) ⟨m, fun _ => 0, g⟩ (fun r => (∀ c : Dev Cert.UpDx2RefIdeal.nD,
      r.2.mem ((c.tc : Thread Cert.UpDx2RefIdeal.nD Cert.UpDx2RefIdeal.τ).loc Cert.UpDx2RefIdeal.main_arg0) = m ((c.tc : Thread Cert.UpDx2RefIdeal.nD Cert.UpDx2RefIdeal.τ).loc Cert.UpDx2RefIdeal.main_arg0)
      ∧ r.2.mem ((c.tc : Thread Cert.UpDx2RefIdeal.nD Cert.UpDx2RefIdeal.τ).loc Cert.UpDx2RefIdeal.main_arg1) = m ((c.tc : Thread Cert.UpDx2RefIdeal.nD Cert.UpDx2RefIdeal.τ).loc Cert.UpDx2RefIdeal.main_arg1)
      ∧ r.2.mem ((c.tc : Thread Cert.UpDx2RefIdeal.nD Cert.UpDx2RefIdeal.τ).loc Cert.UpDx2RefIdeal.main_arg2) = m ((c.tc : Thread Cert.UpDx2RefIdeal.nD Cert.UpDx2RefIdeal.τ).loc Cert.UpDx2RefIdeal.main_arg2))
      ∧ r.2.sem = fun _ => 0)

def quiescent_UpDx3 [hUpDx3 : Cert.UpDx3.Facts] : Prop :=
  ∀ (m : (ℓ : Loc Cert.UpDx3.nD Cert.UpDx3.τ Cert.UpDx3.sig) → Buf (Elt Bits) ℓ) (g : Dev Cert.UpDx3.nD → PrngReg), Pre_UpDx3 m →
    θ_run (Cert.UpDx3.defs (F := Bits)) (onTc (τ := Cert.UpDx3.τ) (Cert.UpDx3.main (F := Bits))) ⟨m, fun _ => 0, g⟩ (fun r => (∀ c : Dev Cert.UpDx3.nD,
      r.2.mem ((c.tc : Thread Cert.UpDx3.nD Cert.UpDx3.τ).loc Cert.UpDx3.main_arg0) = m ((c.tc : Thread Cert.UpDx3.nD Cert.UpDx3.τ).loc Cert.UpDx3.main_arg0)
      ∧ r.2.mem ((c.tc : Thread Cert.UpDx3.nD Cert.UpDx3.τ).loc Cert.UpDx3.main_arg1) = m ((c.tc : Thread Cert.UpDx3.nD Cert.UpDx3.τ).loc Cert.UpDx3.main_arg1)
      ∧ r.2.mem ((c.tc : Thread Cert.UpDx3.nD Cert.UpDx3.τ).loc Cert.UpDx3.main_arg2) = m ((c.tc : Thread Cert.UpDx3.nD Cert.UpDx3.τ).loc Cert.UpDx3.main_arg2))
      ∧ r.2.sem = fun _ => 0)

def quiescent_UpDx3Ideal [hUpDx3Ideal : Cert.UpDx3Ideal.Facts] : Prop :=
  ∀ (m : (ℓ : Loc Cert.UpDx3Ideal.nD Cert.UpDx3Ideal.τ Cert.UpDx3Ideal.sig) → Buf (Elt Ideal) ℓ) (g : Dev Cert.UpDx3Ideal.nD → PrngReg), Pre_UpDx3Ideal m →
    θ_run (Cert.UpDx3Ideal.defs (F := Ideal)) (onTc (τ := Cert.UpDx3Ideal.τ) (Cert.UpDx3Ideal.main (F := Ideal))) ⟨m, fun _ => 0, g⟩ (fun r => (∀ c : Dev Cert.UpDx3Ideal.nD,
      r.2.mem ((c.tc : Thread Cert.UpDx3Ideal.nD Cert.UpDx3Ideal.τ).loc Cert.UpDx3Ideal.main_arg0) = m ((c.tc : Thread Cert.UpDx3Ideal.nD Cert.UpDx3Ideal.τ).loc Cert.UpDx3Ideal.main_arg0)
      ∧ r.2.mem ((c.tc : Thread Cert.UpDx3Ideal.nD Cert.UpDx3Ideal.τ).loc Cert.UpDx3Ideal.main_arg1) = m ((c.tc : Thread Cert.UpDx3Ideal.nD Cert.UpDx3Ideal.τ).loc Cert.UpDx3Ideal.main_arg1)
      ∧ r.2.mem ((c.tc : Thread Cert.UpDx3Ideal.nD Cert.UpDx3Ideal.τ).loc Cert.UpDx3Ideal.main_arg2) = m ((c.tc : Thread Cert.UpDx3Ideal.nD Cert.UpDx3Ideal.τ).loc Cert.UpDx3Ideal.main_arg2))
      ∧ r.2.sem = fun _ => 0)

def quiescent_UpDx3RefIdeal [hUpDx3RefIdeal : Cert.UpDx3RefIdeal.Facts] : Prop :=
  ∀ (m : (ℓ : Loc Cert.UpDx3RefIdeal.nD Cert.UpDx3RefIdeal.τ Cert.UpDx3RefIdeal.sig) → Buf (Elt Ideal) ℓ) (g : Dev Cert.UpDx3RefIdeal.nD → PrngReg), Pre_UpDx3RefIdeal m →
    θ_run (Cert.UpDx3RefIdeal.defs (F := Ideal)) (onTc (τ := Cert.UpDx3RefIdeal.τ) (Cert.UpDx3RefIdeal.main (F := Ideal))) ⟨m, fun _ => 0, g⟩ (fun r => (∀ c : Dev Cert.UpDx3RefIdeal.nD,
      r.2.mem ((c.tc : Thread Cert.UpDx3RefIdeal.nD Cert.UpDx3RefIdeal.τ).loc Cert.UpDx3RefIdeal.main_arg0) = m ((c.tc : Thread Cert.UpDx3RefIdeal.nD Cert.UpDx3RefIdeal.τ).loc Cert.UpDx3RefIdeal.main_arg0)
      ∧ r.2.mem ((c.tc : Thread Cert.UpDx3RefIdeal.nD Cert.UpDx3RefIdeal.τ).loc Cert.UpDx3RefIdeal.main_arg1) = m ((c.tc : Thread Cert.UpDx3RefIdeal.nD Cert.UpDx3RefIdeal.τ).loc Cert.UpDx3RefIdeal.main_arg1)
      ∧ r.2.mem ((c.tc : Thread Cert.UpDx3RefIdeal.nD Cert.UpDx3RefIdeal.τ).loc Cert.UpDx3RefIdeal.main_arg2) = m ((c.tc : Thread Cert.UpDx3RefIdeal.nD Cert.UpDx3RefIdeal.τ).loc Cert.UpDx3RefIdeal.main_arg2))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamScIn [hAdamScIn : Cert.AdamScIn.Facts] : Prop :=
  ∀ (m : (ℓ : Loc Cert.AdamScIn.nD Cert.AdamScIn.τ Cert.AdamScIn.sig) → Buf (Elt Bits) ℓ) (g : Dev Cert.AdamScIn.nD → PrngReg), Pre_AdamScIn m →
    θ_run (Cert.AdamScIn.defs (F := Bits)) (onTc (τ := Cert.AdamScIn.τ) (Cert.AdamScIn.main (F := Bits))) ⟨m, fun _ => 0, g⟩ (fun r => (∀ c : Dev Cert.AdamScIn.nD,
      r.2.mem ((c.tc : Thread Cert.AdamScIn.nD Cert.AdamScIn.τ).loc Cert.AdamScIn.main_arg0) = m ((c.tc : Thread Cert.AdamScIn.nD Cert.AdamScIn.τ).loc Cert.AdamScIn.main_arg0)
      ∧ r.2.mem ((c.tc : Thread Cert.AdamScIn.nD Cert.AdamScIn.τ).loc Cert.AdamScIn.main_arg1) = m ((c.tc : Thread Cert.AdamScIn.nD Cert.AdamScIn.τ).loc Cert.AdamScIn.main_arg1)
      ∧ r.2.mem ((c.tc : Thread Cert.AdamScIn.nD Cert.AdamScIn.τ).loc Cert.AdamScIn.main_arg2) = m ((c.tc : Thread Cert.AdamScIn.nD Cert.AdamScIn.τ).loc Cert.AdamScIn.main_arg2)
      ∧ r.2.mem ((c.tc : Thread Cert.AdamScIn.nD Cert.AdamScIn.τ).loc Cert.AdamScIn.main_arg3) = m ((c.tc : Thread Cert.AdamScIn.nD Cert.AdamScIn.τ).loc Cert.AdamScIn.main_arg3))
      ∧ r.2.sem = fun _ => 0)

def quiescent_AdamScInIdeal [hAdamScInIdeal : Cert.AdamScInIdeal.Facts] : Prop :=
  ∀ (m : (ℓ : Loc Cert.AdamScInIdeal.nD Cert.AdamScInIdeal.τ Cert.AdamScInIdeal.sig) → Buf (Elt Ideal) ℓ) (g : Dev Cert.AdamScInIdeal.nD → PrngReg), Pre_AdamScInIdeal m →
    θ_run (Cert.AdamScInIdeal.defs (F := Ideal)) (onTc (τ := Cert.AdamScInIdeal.τ) (Cert.AdamScInIdeal.main (F := Ideal))) ⟨m, fun _ => 0, g⟩ (fun r => (∀ c : Dev Cert.AdamScInIdeal.nD,
      r.2.mem ((c.tc : Thread Cert.AdamScInIdeal.nD Cert.AdamScInIdeal.τ).loc Cert.AdamScInIdeal.main_arg0) = m ((c.tc : Thread Cert.AdamScInIdeal.nD Cert.AdamScInIdeal.τ).loc Cert.AdamScInIdeal.main_arg0)
      ∧ r.2.mem ((c.tc : Thread Cert.AdamScInIdeal.nD Cert.AdamScInIdeal.τ).loc Cert.AdamScInIdeal.main_arg1) = m ((c.tc : Thread Cert.AdamScInIdeal.nD Cert.AdamScInIdeal.τ).loc Cert.AdamScInIdeal.main_arg1)
      ∧ r.2.mem ((c.tc : Thread Cert.AdamScInIdeal.nD Cert.AdamScInIdeal.τ).loc Cert.AdamScInIdeal.main_arg2) = m ((c.tc : Thread Cert.AdamScInIdeal.nD Cert.AdamScInIdeal.τ).loc Cert.AdamScInIdeal.main_arg2)
      ∧ r.2.mem ((c.tc : Thread Cert.AdamScInIdeal.nD Cert.AdamScInIdeal.τ).loc Cert.AdamScInIdeal.main_arg3) = m ((c.tc : Thread Cert.AdamScInIdeal.nD Cert.AdamScInIdeal.τ).loc Cert.AdamScInIdeal.main_arg3))
      ∧ r.2.sem = fun _ => 0)

def quiescent_AdamScInRefIdeal [hAdamScInRefIdeal : Cert.AdamScInRefIdeal.Facts] : Prop :=
  ∀ (m : (ℓ : Loc Cert.AdamScInRefIdeal.nD Cert.AdamScInRefIdeal.τ Cert.AdamScInRefIdeal.sig) → Buf (Elt Ideal) ℓ) (g : Dev Cert.AdamScInRefIdeal.nD → PrngReg), Pre_AdamScInRefIdeal m →
    θ_run (Cert.AdamScInRefIdeal.defs (F := Ideal)) (onTc (τ := Cert.AdamScInRefIdeal.τ) (Cert.AdamScInRefIdeal.main (F := Ideal))) ⟨m, fun _ => 0, g⟩ (fun r => (∀ c : Dev Cert.AdamScInRefIdeal.nD,
      r.2.mem ((c.tc : Thread Cert.AdamScInRefIdeal.nD Cert.AdamScInRefIdeal.τ).loc Cert.AdamScInRefIdeal.main_arg0) = m ((c.tc : Thread Cert.AdamScInRefIdeal.nD Cert.AdamScInRefIdeal.τ).loc Cert.AdamScInRefIdeal.main_arg0)
      ∧ r.2.mem ((c.tc : Thread Cert.AdamScInRefIdeal.nD Cert.AdamScInRefIdeal.τ).loc Cert.AdamScInRefIdeal.main_arg1) = m ((c.tc : Thread Cert.AdamScInRefIdeal.nD Cert.AdamScInRefIdeal.τ).loc Cert.AdamScInRefIdeal.main_arg1)
      ∧ r.2.mem ((c.tc : Thread Cert.AdamScInRefIdeal.nD Cert.AdamScInRefIdeal.τ).loc Cert.AdamScInRefIdeal.main_arg2) = m ((c.tc : Thread Cert.AdamScInRefIdeal.nD Cert.AdamScInRefIdeal.τ).loc Cert.AdamScInRefIdeal.main_arg2)
      ∧ r.2.mem ((c.tc : Thread Cert.AdamScInRefIdeal.nD Cert.AdamScInRefIdeal.τ).loc Cert.AdamScInRefIdeal.main_arg3) = m ((c.tc : Thread Cert.AdamScInRefIdeal.nD Cert.AdamScInRefIdeal.τ).loc Cert.AdamScInRefIdeal.main_arg3))
      ∧ r.2.sem = fun _ => 0)

def quiescent_AdamScOut [hAdamScOut : Cert.AdamScOut.Facts] : Prop :=
  ∀ (m : (ℓ : Loc Cert.AdamScOut.nD Cert.AdamScOut.τ Cert.AdamScOut.sig) → Buf (Elt Bits) ℓ) (g : Dev Cert.AdamScOut.nD → PrngReg), Pre_AdamScOut m →
    θ_run (Cert.AdamScOut.defs (F := Bits)) (onTc (τ := Cert.AdamScOut.τ) (Cert.AdamScOut.main (F := Bits))) ⟨m, fun _ => 0, g⟩ (fun r => (∀ c : Dev Cert.AdamScOut.nD,
      r.2.mem ((c.tc : Thread Cert.AdamScOut.nD Cert.AdamScOut.τ).loc Cert.AdamScOut.main_arg0) = m ((c.tc : Thread Cert.AdamScOut.nD Cert.AdamScOut.τ).loc Cert.AdamScOut.main_arg0)
      ∧ r.2.mem ((c.tc : Thread Cert.AdamScOut.nD Cert.AdamScOut.τ).loc Cert.AdamScOut.main_arg1) = m ((c.tc : Thread Cert.AdamScOut.nD Cert.AdamScOut.τ).loc Cert.AdamScOut.main_arg1)
      ∧ r.2.mem ((c.tc : Thread Cert.AdamScOut.nD Cert.AdamScOut.τ).loc Cert.AdamScOut.main_arg2) = m ((c.tc : Thread Cert.AdamScOut.nD Cert.AdamScOut.τ).loc Cert.AdamScOut.main_arg2)
      ∧ r.2.mem ((c.tc : Thread Cert.AdamScOut.nD Cert.AdamScOut.τ).loc Cert.AdamScOut.main_arg3) = m ((c.tc : Thread Cert.AdamScOut.nD Cert.AdamScOut.τ).loc Cert.AdamScOut.main_arg3))
      ∧ r.2.sem = fun _ => 0)

def quiescent_AdamScOutIdeal [hAdamScOutIdeal : Cert.AdamScOutIdeal.Facts] : Prop :=
  ∀ (m : (ℓ : Loc Cert.AdamScOutIdeal.nD Cert.AdamScOutIdeal.τ Cert.AdamScOutIdeal.sig) → Buf (Elt Ideal) ℓ) (g : Dev Cert.AdamScOutIdeal.nD → PrngReg), Pre_AdamScOutIdeal m →
    θ_run (Cert.AdamScOutIdeal.defs (F := Ideal)) (onTc (τ := Cert.AdamScOutIdeal.τ) (Cert.AdamScOutIdeal.main (F := Ideal))) ⟨m, fun _ => 0, g⟩ (fun r => (∀ c : Dev Cert.AdamScOutIdeal.nD,
      r.2.mem ((c.tc : Thread Cert.AdamScOutIdeal.nD Cert.AdamScOutIdeal.τ).loc Cert.AdamScOutIdeal.main_arg0) = m ((c.tc : Thread Cert.AdamScOutIdeal.nD Cert.AdamScOutIdeal.τ).loc Cert.AdamScOutIdeal.main_arg0)
      ∧ r.2.mem ((c.tc : Thread Cert.AdamScOutIdeal.nD Cert.AdamScOutIdeal.τ).loc Cert.AdamScOutIdeal.main_arg1) = m ((c.tc : Thread Cert.AdamScOutIdeal.nD Cert.AdamScOutIdeal.τ).loc Cert.AdamScOutIdeal.main_arg1)
      ∧ r.2.mem ((c.tc : Thread Cert.AdamScOutIdeal.nD Cert.AdamScOutIdeal.τ).loc Cert.AdamScOutIdeal.main_arg2) = m ((c.tc : Thread Cert.AdamScOutIdeal.nD Cert.AdamScOutIdeal.τ).loc Cert.AdamScOutIdeal.main_arg2)
      ∧ r.2.mem ((c.tc : Thread Cert.AdamScOutIdeal.nD Cert.AdamScOutIdeal.τ).loc Cert.AdamScOutIdeal.main_arg3) = m ((c.tc : Thread Cert.AdamScOutIdeal.nD Cert.AdamScOutIdeal.τ).loc Cert.AdamScOutIdeal.main_arg3))
      ∧ r.2.sem = fun _ => 0)

def quiescent_AdamScOutRefIdeal [hAdamScOutRefIdeal : Cert.AdamScOutRefIdeal.Facts] : Prop :=
  ∀ (m : (ℓ : Loc Cert.AdamScOutRefIdeal.nD Cert.AdamScOutRefIdeal.τ Cert.AdamScOutRefIdeal.sig) → Buf (Elt Ideal) ℓ) (g : Dev Cert.AdamScOutRefIdeal.nD → PrngReg), Pre_AdamScOutRefIdeal m →
    θ_run (Cert.AdamScOutRefIdeal.defs (F := Ideal)) (onTc (τ := Cert.AdamScOutRefIdeal.τ) (Cert.AdamScOutRefIdeal.main (F := Ideal))) ⟨m, fun _ => 0, g⟩ (fun r => (∀ c : Dev Cert.AdamScOutRefIdeal.nD,
      r.2.mem ((c.tc : Thread Cert.AdamScOutRefIdeal.nD Cert.AdamScOutRefIdeal.τ).loc Cert.AdamScOutRefIdeal.main_arg0) = m ((c.tc : Thread Cert.AdamScOutRefIdeal.nD Cert.AdamScOutRefIdeal.τ).loc Cert.AdamScOutRefIdeal.main_arg0)
      ∧ r.2.mem ((c.tc : Thread Cert.AdamScOutRefIdeal.nD Cert.AdamScOutRefIdeal.τ).loc Cert.AdamScOutRefIdeal.main_arg1) = m ((c.tc : Thread Cert.AdamScOutRefIdeal.nD Cert.AdamScOutRefIdeal.τ).loc Cert.AdamScOutRefIdeal.main_arg1)
      ∧ r.2.mem ((c.tc : Thread Cert.AdamScOutRefIdeal.nD Cert.AdamScOutRefIdeal.τ).loc Cert.AdamScOutRefIdeal.main_arg2) = m ((c.tc : Thread Cert.AdamScOutRefIdeal.nD Cert.AdamScOutRefIdeal.τ).loc Cert.AdamScOutRefIdeal.main_arg2)
      ∧ r.2.mem ((c.tc : Thread Cert.AdamScOutRefIdeal.nD Cert.AdamScOutRefIdeal.τ).loc Cert.AdamScOutRefIdeal.main_arg3) = m ((c.tc : Thread Cert.AdamScOutRefIdeal.nD Cert.AdamScOutRefIdeal.τ).loc Cert.AdamScOutRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamPw1 [hAdamPw1 : Cert.AdamPw1.Facts] : Prop :=
  ∀ (m : (ℓ : Loc Cert.AdamPw1.nD Cert.AdamPw1.τ Cert.AdamPw1.sig) → Buf (Elt Bits) ℓ) (g : Dev Cert.AdamPw1.nD → PrngReg), Pre_AdamPw1 m →
    θ_run (Cert.AdamPw1.defs (F := Bits)) (onTc (τ := Cert.AdamPw1.τ) (Cert.AdamPw1.main (F := Bits))) ⟨m, fun _ => 0, g⟩ (fun r => (∀ c : Dev Cert.AdamPw1.nD,
      r.2.mem ((c.tc : Thread Cert.AdamPw1.nD Cert.AdamPw1.τ).loc Cert.AdamPw1.main_arg0) = m ((c.tc : Thread Cert.AdamPw1.nD Cert.AdamPw1.τ).loc Cert.AdamPw1.main_arg0)
      ∧ r.2.mem ((c.tc : Thread Cert.AdamPw1.nD Cert.AdamPw1.τ).loc Cert.AdamPw1.main_arg1) = m ((c.tc : Thread Cert.AdamPw1.nD Cert.AdamPw1.τ).loc Cert.AdamPw1.main_arg1)
      ∧ r.2.mem ((c.tc : Thread Cert.AdamPw1.nD Cert.AdamPw1.τ).loc Cert.AdamPw1.main_arg2) = m ((c.tc : Thread Cert.AdamPw1.nD Cert.AdamPw1.τ).loc Cert.AdamPw1.main_arg2)
      ∧ r.2.mem ((c.tc : Thread Cert.AdamPw1.nD Cert.AdamPw1.τ).loc Cert.AdamPw1.main_arg3) = m ((c.tc : Thread Cert.AdamPw1.nD Cert.AdamPw1.τ).loc Cert.AdamPw1.main_arg3))
      ∧ r.2.sem = fun _ => 0)

def quiescent_AdamPw1Ideal [hAdamPw1Ideal : Cert.AdamPw1Ideal.Facts] : Prop :=
  ∀ (m : (ℓ : Loc Cert.AdamPw1Ideal.nD Cert.AdamPw1Ideal.τ Cert.AdamPw1Ideal.sig) → Buf (Elt Ideal) ℓ) (g : Dev Cert.AdamPw1Ideal.nD → PrngReg), Pre_AdamPw1Ideal m →
    θ_run (Cert.AdamPw1Ideal.defs (F := Ideal)) (onTc (τ := Cert.AdamPw1Ideal.τ) (Cert.AdamPw1Ideal.main (F := Ideal))) ⟨m, fun _ => 0, g⟩ (fun r => (∀ c : Dev Cert.AdamPw1Ideal.nD,
      r.2.mem ((c.tc : Thread Cert.AdamPw1Ideal.nD Cert.AdamPw1Ideal.τ).loc Cert.AdamPw1Ideal.main_arg0) = m ((c.tc : Thread Cert.AdamPw1Ideal.nD Cert.AdamPw1Ideal.τ).loc Cert.AdamPw1Ideal.main_arg0)
      ∧ r.2.mem ((c.tc : Thread Cert.AdamPw1Ideal.nD Cert.AdamPw1Ideal.τ).loc Cert.AdamPw1Ideal.main_arg1) = m ((c.tc : Thread Cert.AdamPw1Ideal.nD Cert.AdamPw1Ideal.τ).loc Cert.AdamPw1Ideal.main_arg1)
      ∧ r.2.mem ((c.tc : Thread Cert.AdamPw1Ideal.nD Cert.AdamPw1Ideal.τ).loc Cert.AdamPw1Ideal.main_arg2) = m ((c.tc : Thread Cert.AdamPw1Ideal.nD Cert.AdamPw1Ideal.τ).loc Cert.AdamPw1Ideal.main_arg2)
      ∧ r.2.mem ((c.tc : Thread Cert.AdamPw1Ideal.nD Cert.AdamPw1Ideal.τ).loc Cert.AdamPw1Ideal.main_arg3) = m ((c.tc : Thread Cert.AdamPw1Ideal.nD Cert.AdamPw1Ideal.τ).loc Cert.AdamPw1Ideal.main_arg3))
      ∧ r.2.sem = fun _ => 0)

def quiescent_AdamPw1RefIdeal [hAdamPw1RefIdeal : Cert.AdamPw1RefIdeal.Facts] : Prop :=
  ∀ (m : (ℓ : Loc Cert.AdamPw1RefIdeal.nD Cert.AdamPw1RefIdeal.τ Cert.AdamPw1RefIdeal.sig) → Buf (Elt Ideal) ℓ) (g : Dev Cert.AdamPw1RefIdeal.nD → PrngReg), Pre_AdamPw1RefIdeal m →
    θ_run (Cert.AdamPw1RefIdeal.defs (F := Ideal)) (onTc (τ := Cert.AdamPw1RefIdeal.τ) (Cert.AdamPw1RefIdeal.main (F := Ideal))) ⟨m, fun _ => 0, g⟩ (fun r => (∀ c : Dev Cert.AdamPw1RefIdeal.nD,
      r.2.mem ((c.tc : Thread Cert.AdamPw1RefIdeal.nD Cert.AdamPw1RefIdeal.τ).loc Cert.AdamPw1RefIdeal.main_arg0) = m ((c.tc : Thread Cert.AdamPw1RefIdeal.nD Cert.AdamPw1RefIdeal.τ).loc Cert.AdamPw1RefIdeal.main_arg0)
      ∧ r.2.mem ((c.tc : Thread Cert.AdamPw1RefIdeal.nD Cert.AdamPw1RefIdeal.τ).loc Cert.AdamPw1RefIdeal.main_arg1) = m ((c.tc : Thread Cert.AdamPw1RefIdeal.nD Cert.AdamPw1RefIdeal.τ).loc Cert.AdamPw1RefIdeal.main_arg1)
      ∧ r.2.mem ((c.tc : Thread Cert.AdamPw1RefIdeal.nD Cert.AdamPw1RefIdeal.τ).loc Cert.AdamPw1RefIdeal.main_arg2) = m ((c.tc : Thread Cert.AdamPw1RefIdeal.nD Cert.AdamPw1RefIdeal.τ).loc Cert.AdamPw1RefIdeal.main_arg2)
      ∧ r.2.mem ((c.tc : Thread Cert.AdamPw1RefIdeal.nD Cert.AdamPw1RefIdeal.τ).loc Cert.AdamPw1RefIdeal.main_arg3) = m ((c.tc : Thread Cert.AdamPw1RefIdeal.nD Cert.AdamPw1RefIdeal.τ).loc Cert.AdamPw1RefIdeal.main_arg3))
      ∧ r.2.sem = fun _ => 0)

def quiescent_AdamPw2 [hAdamPw2 : Cert.AdamPw2.Facts] : Prop :=
  ∀ (m : (ℓ : Loc Cert.AdamPw2.nD Cert.AdamPw2.τ Cert.AdamPw2.sig) → Buf (Elt Bits) ℓ) (g : Dev Cert.AdamPw2.nD → PrngReg), Pre_AdamPw2 m →
    θ_run (Cert.AdamPw2.defs (F := Bits)) (onTc (τ := Cert.AdamPw2.τ) (Cert.AdamPw2.main (F := Bits))) ⟨m, fun _ => 0, g⟩ (fun r => (∀ c : Dev Cert.AdamPw2.nD,
      r.2.mem ((c.tc : Thread Cert.AdamPw2.nD Cert.AdamPw2.τ).loc Cert.AdamPw2.main_arg0) = m ((c.tc : Thread Cert.AdamPw2.nD Cert.AdamPw2.τ).loc Cert.AdamPw2.main_arg0)
      ∧ r.2.mem ((c.tc : Thread Cert.AdamPw2.nD Cert.AdamPw2.τ).loc Cert.AdamPw2.main_arg1) = m ((c.tc : Thread Cert.AdamPw2.nD Cert.AdamPw2.τ).loc Cert.AdamPw2.main_arg1)
      ∧ r.2.mem ((c.tc : Thread Cert.AdamPw2.nD Cert.AdamPw2.τ).loc Cert.AdamPw2.main_arg2) = m ((c.tc : Thread Cert.AdamPw2.nD Cert.AdamPw2.τ).loc Cert.AdamPw2.main_arg2)
      ∧ r.2.mem ((c.tc : Thread Cert.AdamPw2.nD Cert.AdamPw2.τ).loc Cert.AdamPw2.main_arg3) = m ((c.tc : Thread Cert.AdamPw2.nD Cert.AdamPw2.τ).loc Cert.AdamPw2.main_arg3))
      ∧ r.2.sem = fun _ => 0)

def quiescent_AdamPw2Ideal [hAdamPw2Ideal : Cert.AdamPw2Ideal.Facts] : Prop :=
  ∀ (m : (ℓ : Loc Cert.AdamPw2Ideal.nD Cert.AdamPw2Ideal.τ Cert.AdamPw2Ideal.sig) → Buf (Elt Ideal) ℓ) (g : Dev Cert.AdamPw2Ideal.nD → PrngReg), Pre_AdamPw2Ideal m →
    θ_run (Cert.AdamPw2Ideal.defs (F := Ideal)) (onTc (τ := Cert.AdamPw2Ideal.τ) (Cert.AdamPw2Ideal.main (F := Ideal))) ⟨m, fun _ => 0, g⟩ (fun r => (∀ c : Dev Cert.AdamPw2Ideal.nD,
      r.2.mem ((c.tc : Thread Cert.AdamPw2Ideal.nD Cert.AdamPw2Ideal.τ).loc Cert.AdamPw2Ideal.main_arg0) = m ((c.tc : Thread Cert.AdamPw2Ideal.nD Cert.AdamPw2Ideal.τ).loc Cert.AdamPw2Ideal.main_arg0)
      ∧ r.2.mem ((c.tc : Thread Cert.AdamPw2Ideal.nD Cert.AdamPw2Ideal.τ).loc Cert.AdamPw2Ideal.main_arg1) = m ((c.tc : Thread Cert.AdamPw2Ideal.nD Cert.AdamPw2Ideal.τ).loc Cert.AdamPw2Ideal.main_arg1)
      ∧ r.2.mem ((c.tc : Thread Cert.AdamPw2Ideal.nD Cert.AdamPw2Ideal.τ).loc Cert.AdamPw2Ideal.main_arg2) = m ((c.tc : Thread Cert.AdamPw2Ideal.nD Cert.AdamPw2Ideal.τ).loc Cert.AdamPw2Ideal.main_arg2)
      ∧ r.2.mem ((c.tc : Thread Cert.AdamPw2Ideal.nD Cert.AdamPw2Ideal.τ).loc Cert.AdamPw2Ideal.main_arg3) = m ((c.tc : Thread Cert.AdamPw2Ideal.nD Cert.AdamPw2Ideal.τ).loc Cert.AdamPw2Ideal.main_arg3))
      ∧ r.2.sem = fun _ => 0)

def quiescent_AdamPw2RefIdeal [hAdamPw2RefIdeal : Cert.AdamPw2RefIdeal.Facts] : Prop :=
  ∀ (m : (ℓ : Loc Cert.AdamPw2RefIdeal.nD Cert.AdamPw2RefIdeal.τ Cert.AdamPw2RefIdeal.sig) → Buf (Elt Ideal) ℓ) (g : Dev Cert.AdamPw2RefIdeal.nD → PrngReg), Pre_AdamPw2RefIdeal m →
    θ_run (Cert.AdamPw2RefIdeal.defs (F := Ideal)) (onTc (τ := Cert.AdamPw2RefIdeal.τ) (Cert.AdamPw2RefIdeal.main (F := Ideal))) ⟨m, fun _ => 0, g⟩ (fun r => (∀ c : Dev Cert.AdamPw2RefIdeal.nD,
      r.2.mem ((c.tc : Thread Cert.AdamPw2RefIdeal.nD Cert.AdamPw2RefIdeal.τ).loc Cert.AdamPw2RefIdeal.main_arg0) = m ((c.tc : Thread Cert.AdamPw2RefIdeal.nD Cert.AdamPw2RefIdeal.τ).loc Cert.AdamPw2RefIdeal.main_arg0)
      ∧ r.2.mem ((c.tc : Thread Cert.AdamPw2RefIdeal.nD Cert.AdamPw2RefIdeal.τ).loc Cert.AdamPw2RefIdeal.main_arg1) = m ((c.tc : Thread Cert.AdamPw2RefIdeal.nD Cert.AdamPw2RefIdeal.τ).loc Cert.AdamPw2RefIdeal.main_arg1)
      ∧ r.2.mem ((c.tc : Thread Cert.AdamPw2RefIdeal.nD Cert.AdamPw2RefIdeal.τ).loc Cert.AdamPw2RefIdeal.main_arg2) = m ((c.tc : Thread Cert.AdamPw2RefIdeal.nD Cert.AdamPw2RefIdeal.τ).loc Cert.AdamPw2RefIdeal.main_arg2)
      ∧ r.2.mem ((c.tc : Thread Cert.AdamPw2RefIdeal.nD Cert.AdamPw2RefIdeal.τ).loc Cert.AdamPw2RefIdeal.main_arg3) = m ((c.tc : Thread Cert.AdamPw2RefIdeal.nD Cert.AdamPw2RefIdeal.τ).loc Cert.AdamPw2RefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1)
      ∧ r.2.mem ((c.tc : Thread Cert.ModDw.nD Cert.ModDw.τ).loc Cert.ModDw.main_arg2) = m ((c.tc : Thread Cert.ModDw.nD Cert.ModDw.τ).loc Cert.ModDw.main_arg2)
      ∧ r.2.mem ((c.tc : Thread Cert.ModDw.nD Cert.ModDw.τ).loc Cert.ModDw.main_arg3) = m ((c.tc : Thread Cert.ModDw.nD Cert.ModDw.τ).loc Cert.ModDw.main_arg3))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1)
      ∧ r.2.mem ((c.tc : Thread Cert.ModDwIdeal.nD Cert.ModDwIdeal.τ).loc Cert.ModDwIdeal.main_arg2) = m ((c.tc : Thread Cert.ModDwIdeal.nD Cert.ModDwIdeal.τ).loc Cert.ModDwIdeal.main_arg2)
      ∧ r.2.mem ((c.tc : Thread Cert.ModDwIdeal.nD Cert.ModDwIdeal.τ).loc Cert.ModDwIdeal.main_arg3) = m ((c.tc : Thread Cert.ModDwIdeal.nD Cert.ModDwIdeal.τ).loc Cert.ModDwIdeal.main_arg3))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1)
      ∧ r.2.mem ((c.tc : Thread Cert.ModDwRefIdeal.nD Cert.ModDwRefIdeal.τ).loc Cert.ModDwRefIdeal.main_arg2) = m ((c.tc : Thread Cert.ModDwRefIdeal.nD Cert.ModDwRefIdeal.τ).loc Cert.ModDwRefIdeal.main_arg2)
      ∧ r.2.mem ((c.tc : Thread Cert.ModDwRefIdeal.nD Cert.ModDwRefIdeal.τ).loc Cert.ModDwRefIdeal.main_arg3) = m ((c.tc : Thread Cert.ModDwRefIdeal.nD Cert.ModDwRefIdeal.τ).loc Cert.ModDwRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v95_0)) (v1 : (c : Dev Cert.KernelIdeal.nD) → Buf (Elt Ideal) ((c.tc : Thread Cert.KernelIdeal.nD Cert.KernelIdeal.τ).loc Cert.KernelIdeal.main_v95_1)) (v2 : (c : Dev Cert.KernelIdeal.nD) → Buf (Elt Ideal) ((c.tc : Thread Cert.KernelIdeal.nD Cert.KernelIdeal.τ).loc Cert.KernelIdeal.main_v95_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95_0) = v0 c
          ∧ r.2.mem ((c.tc : Thread Cert.KernelIdeal.nD Cert.KernelIdeal.τ).loc Cert.KernelIdeal.main_v95_1) = v1 c
          ∧ r.2.mem ((c.tc : Thread Cert.KernelIdeal.nD Cert.KernelIdeal.τ).loc Cert.KernelIdeal.main_v95_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v186) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v6)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v4)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v4) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v4)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v4) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v6)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v6) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v4)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v4) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_ScIn_ScInIdeal : Prop :=
  True

def algebraic_ScInIdeal_ScInRefIdeal [hScInIdeal : Cert.ScInIdeal.Facts] [hScInRefIdeal : Cert.ScInRefIdeal.Facts] : Prop :=
  ∀ (m : (ℓ : Loc Cert.ScInIdeal.nD Cert.ScInIdeal.τ Cert.ScInIdeal.sig) → Buf (Elt Ideal) ℓ) (g : Dev Cert.ScInIdeal.nD → PrngReg)
    (m' : (ℓ : Loc Cert.ScInRefIdeal.nD Cert.ScInRefIdeal.τ Cert.ScInRefIdeal.sig) → Buf (Elt Ideal) ℓ) (g' : Dev Cert.ScInRefIdeal.nD → PrngReg), Pre_ScInIdeal m →
    (∀ c : Dev Cert.ScInIdeal.nD,
      m' ((c.tc : Thread Cert.ScInRefIdeal.nD Cert.ScInRefIdeal.τ).loc Cert.ScInRefIdeal.main_arg0) = m ((c.tc : Thread Cert.ScInIdeal.nD Cert.ScInIdeal.τ).loc Cert.ScInIdeal.main_arg0)
      ∧ m' ((c.tc : Thread Cert.ScInRefIdeal.nD Cert.ScInRefIdeal.τ).loc Cert.ScInRefIdeal.main_arg1) = m ((c.tc : Thread Cert.ScInIdeal.nD Cert.ScInIdeal.τ).loc Cert.ScInIdeal.main_arg1)) →
    ∃ (v0 : (c : Dev Cert.ScInIdeal.nD) → Buf (Elt Ideal) ((c.tc : Thread Cert.ScInIdeal.nD Cert.ScInIdeal.τ).loc Cert.ScInIdeal.main_v6)),
      θ_run (Cert.ScInIdeal.defs (F := Ideal)) (onTc (τ := Cert.ScInIdeal.τ) (Cert.ScInIdeal.main (F := Ideal))) ⟨m, fun _ => 0, g⟩ (fun r => ∀ c : Dev Cert.ScInIdeal.nD,
          r.2.mem ((c.tc : Thread Cert.ScInIdeal.nD Cert.ScInIdeal.τ).loc Cert.ScInIdeal.main_v6) = v0 c
          ∧ r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
          ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ θ_run (Cert.ScInRefIdeal.defs (F := Ideal)) (onTc (τ := Cert.ScInRefIdeal.τ) (Cert.ScInRefIdeal.main (F := Ideal))) ⟨m', fun _ => 0, g'⟩ (fun r => ∀ c : Dev Cert.ScInRefIdeal.nD,
          r.2.mem ((c.tc : Thread Cert.ScInRefIdeal.nD Cert.ScInRefIdeal.τ).loc Cert.ScInRefIdeal.main_v2) = v0 c
          ∧ r.2.mem ((c.tc : Thread Cert.ScInRefIdeal.nD Cert.ScInRefIdeal.τ).loc Cert.ScInRefIdeal.main_arg0) = m' ((c.tc : Thread Cert.ScInRefIdeal.nD Cert.ScInRefIdeal.τ).loc Cert.ScInRefIdeal.main_arg0)
          ∧ r.2.mem ((c.tc : Thread Cert.ScInRefIdeal.nD Cert.ScInRefIdeal.τ).loc Cert.ScInRefIdeal.main_arg1) = m' ((c.tc : Thread Cert.ScInRefIdeal.nD Cert.ScInRefIdeal.τ).loc Cert.ScInRefIdeal.main_arg1))

def preserves_ScInDx_ScInDxIdeal : Prop :=
  True

def algebraic_ScInDxIdeal_ScInDxRefIdeal [hScInDxIdeal : Cert.ScInDxIdeal.Facts] [hScInDxRefIdeal : Cert.ScInDxRefIdeal.Facts] : Prop :=
  ∀ (m : (ℓ : Loc Cert.ScInDxIdeal.nD Cert.ScInDxIdeal.τ Cert.ScInDxIdeal.sig) → Buf (Elt Ideal) ℓ) (g : Dev Cert.ScInDxIdeal.nD → PrngReg)
    (m' : (ℓ : Loc Cert.ScInDxRefIdeal.nD Cert.ScInDxRefIdeal.τ Cert.ScInDxRefIdeal.sig) → Buf (Elt Ideal) ℓ) (g' : Dev Cert.ScInDxRefIdeal.nD → PrngReg), Pre_ScInDxIdeal m →
    (∀ c : Dev Cert.ScInDxIdeal.nD,
      m' ((c.tc : Thread Cert.ScInDxRefIdeal.nD Cert.ScInDxRefIdeal.τ).loc Cert.ScInDxRefIdeal.main_arg0) = m ((c.tc : Thread Cert.ScInDxIdeal.nD Cert.ScInDxIdeal.τ).loc Cert.ScInDxIdeal.main_arg0)
      ∧ m' ((c.tc : Thread Cert.ScInDxRefIdeal.nD Cert.ScInDxRefIdeal.τ).loc Cert.ScInDxRefIdeal.main_arg1) = m ((c.tc : Thread Cert.ScInDxIdeal.nD Cert.ScInDxIdeal.τ).loc Cert.ScInDxIdeal.main_arg1)
      ∧ m' ((c.tc : Thread Cert.ScInDxRefIdeal.nD Cert.ScInDxRefIdeal.τ).loc Cert.ScInDxRefIdeal.main_arg2) = m ((c.tc : Thread Cert.ScInDxIdeal.nD Cert.ScInDxIdeal.τ).loc Cert.ScInDxIdeal.main_arg2)) →
    ∃ (v0 : (c : Dev Cert.ScInDxIdeal.nD) → Buf (Elt Ideal) ((c.tc : Thread Cert.ScInDxIdeal.nD Cert.ScInDxIdeal.τ).loc Cert.ScInDxIdeal.main_v6)),
      θ_run (Cert.ScInDxIdeal.defs (F := Ideal)) (onTc (τ := Cert.ScInDxIdeal.τ) (Cert.ScInDxIdeal.main (F := Ideal))) ⟨m, fun _ => 0, g⟩ (fun r => ∀ c : Dev Cert.ScInDxIdeal.nD,
          r.2.mem ((c.tc : Thread Cert.ScInDxIdeal.nD Cert.ScInDxIdeal.τ).loc Cert.ScInDxIdeal.main_v6) = v0 c
          ∧ r.2.mem ((c.tc : Thread Cert.ScInDxIdeal.nD Cert.ScInDxIdeal.τ).loc Cert.ScInDxIdeal.main_arg0) = m ((c.tc : Thread Cert.ScInDxIdeal.nD Cert.ScInDxIdeal.τ).loc Cert.ScInDxIdeal.main_arg0)
          ∧ r.2.mem ((c.tc : Thread Cert.ScInDxIdeal.nD Cert.ScInDxIdeal.τ).loc Cert.ScInDxIdeal.main_arg1) = m ((c.tc : Thread Cert.ScInDxIdeal.nD Cert.ScInDxIdeal.τ).loc Cert.ScInDxIdeal.main_arg1)
          ∧ r.2.mem ((c.tc : Thread Cert.ScInDxIdeal.nD Cert.ScInDxIdeal.τ).loc Cert.ScInDxIdeal.main_arg2) = m ((c.tc : Thread Cert.ScInDxIdeal.nD Cert.ScInDxIdeal.τ).loc Cert.ScInDxIdeal.main_arg2))
      ∧ θ_run (Cert.ScInDxRefIdeal.defs (F := Ideal)) (onTc (τ := Cert.ScInDxRefIdeal.τ) (Cert.ScInDxRefIdeal.main (F := Ideal))) ⟨m', fun _ => 0, g'⟩ (fun r => ∀ c : Dev Cert.ScInDxRefIdeal.nD,
          r.2.mem ((c.tc : Thread Cert.ScInDxRefIdeal.nD Cert.ScInDxRefIdeal.τ).loc Cert.ScInDxRefIdeal.main_v4) = v0 c
          ∧ r.2.mem ((c.tc : Thread Cert.ScInDxRefIdeal.nD Cert.ScInDxRefIdeal.τ).loc Cert.ScInDxRefIdeal.main_arg0) = m' ((c.tc : Thread Cert.ScInDxRefIdeal.nD Cert.ScInDxRefIdeal.τ).loc Cert.ScInDxRefIdeal.main_arg0)
          ∧ r.2.mem ((c.tc : Thread Cert.ScInDxRefIdeal.nD Cert.ScInDxRefIdeal.τ).loc Cert.ScInDxRefIdeal.main_arg1) = m' ((c.tc : Thread Cert.ScInDxRefIdeal.nD Cert.ScInDxRefIdeal.τ).loc Cert.ScInDxRefIdeal.main_arg1)
          ∧ r.2.mem ((c.tc : Thread Cert.ScInDxRefIdeal.nD Cert.ScInDxRefIdeal.τ).loc Cert.ScInDxRefIdeal.main_arg2) = m' ((c.tc : Thread Cert.ScInDxRefIdeal.nD Cert.ScInDxRefIdeal.τ).loc Cert.ScInDxRefIdeal.main_arg2))

def preserves_ScInDw_ScInDwIdeal : Prop :=
  True

def algebraic_ScInDwIdeal_ScInDwRefIdeal [hScInDwIdeal : Cert.ScInDwIdeal.Facts] [hScInDwRefIdeal : Cert.ScInDwRefIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg)
    (m' : (ℓ : Loc Cert.ScInDwRefIdeal.nD Cert.ScInDwRefIdeal.τ Cert.ScInDwRefIdeal.sig) → Buf (Elt Ideal) ℓ) (g' : Dev Cert.ScInDwRefIdeal.nD → PrngReg), Pre_ScInDwIdeal m →
    (∀ c : Dev Cert.ScInDwIdeal.nD,
      m' ((c.tc : Thread Cert.ScInDwRefIdeal.nD Cert.ScInDwRefIdeal.τ).loc Cert.ScInDwRefIdeal.main_arg0) = m ((c.tc : Thread Cert.ScInDwIdeal.nD Cert.ScInDwIdeal.τ).loc Cert.ScInDwIdeal.main_arg0)
      ∧ m' ((c.tc : Thread Cert.ScInDwRefIdeal.nD Cert.ScInDwRefIdeal.τ).loc Cert.ScInDwRefIdeal.main_arg1) = m ((c.tc : Thread Cert.ScInDwIdeal.nD Cert.ScInDwIdeal.τ).loc Cert.ScInDwIdeal.main_arg1)
      ∧ m' ((c.tc : Thread Cert.ScInDwRefIdeal.nD Cert.ScInDwRefIdeal.τ).loc Cert.ScInDwRefIdeal.main_arg2) = m ((c.tc : Thread Cert.ScInDwIdeal.nD Cert.ScInDwIdeal.τ).loc Cert.ScInDwIdeal.main_arg2)) →
    ∃ (v0 : (c : Dev Cert.ScInDwIdeal.nD) → Buf (Elt Ideal) ((c.tc : Thread Cert.ScInDwIdeal.nD Cert.ScInDwIdeal.τ).loc Cert.ScInDwIdeal.main_v4)),
      θ_run (Cert.ScInDwIdeal.defs (F := Ideal)) (onTc (τ := Cert.ScInDwIdeal.τ) (Cert.ScInDwIdeal.main (F := Ideal))) ⟨m, fun _ => 0, g⟩ (fun r => ∀ c : Dev Cert.ScInDwIdeal.nD,
          r.2.mem ((c.tc : Thread Cert.ScInDwIdeal.nD Cert.ScInDwIdeal.τ).loc Cert.ScInDwIdeal.main_v4) = v0 c
          ∧ r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
          ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1)
          ∧ r.2.mem ((c.tc : Thread Cert.ScInDwIdeal.nD Cert.ScInDwIdeal.τ).loc Cert.ScInDwIdeal.main_arg2) = m ((c.tc : Thread Cert.ScInDwIdeal.nD Cert.ScInDwIdeal.τ).loc Cert.ScInDwIdeal.main_arg2))
      ∧ θ_run (Cert.ScInDwRefIdeal.defs (F := Ideal)) (onTc (τ := Cert.ScInDwRefIdeal.τ) (Cert.ScInDwRefIdeal.main (F := Ideal))) ⟨m', fun _ => 0, g'⟩ (fun r => ∀ c : Dev Cert.ScInDwRefIdeal.nD,
          r.2.mem ((c.tc : Thread Cert.ScInDwRefIdeal.nD Cert.ScInDwRefIdeal.τ).loc Cert.ScInDwRefIdeal.main_v6) = v0 c
          ∧ r.2.mem ((c.tc : Thread Cert.ScInDwRefIdeal.nD Cert.ScInDwRefIdeal.τ).loc Cert.ScInDwRefIdeal.main_arg0) = m' ((c.tc : Thread Cert.ScInDwRefIdeal.nD Cert.ScInDwRefIdeal.τ).loc Cert.ScInDwRefIdeal.main_arg0)
          ∧ r.2.mem ((c.tc : Thread Cert.ScInDwRefIdeal.nD Cert.ScInDwRefIdeal.τ).loc Cert.ScInDwRefIdeal.main_arg1) = m' ((c.tc : Thread Cert.ScInDwRefIdeal.nD Cert.ScInDwRefIdeal.τ).loc Cert.ScInDwRefIdeal.main_arg1)
          ∧ r.2.mem ((c.tc : Thread Cert.ScInDwRefIdeal.nD Cert.ScInDwRefIdeal.τ).loc Cert.ScInDwRefIdeal.main_arg2) = m' ((c.tc : Thread Cert.ScInDwRefIdeal.nD Cert.ScInDwRefIdeal.τ).loc Cert.ScInDwRefIdeal.main_arg2))

def preserves_Pw1_Pw1Ideal : Prop :=
  True

def algebraic_Pw1Ideal_Pw1RefIdeal [hPw1Ideal : Cert.Pw1Ideal.Facts] [hPw1RefIdeal : Cert.Pw1RefIdeal.Facts] : Prop :=
  ∀ (m : (ℓ : Loc Cert.Pw1Ideal.nD Cert.Pw1Ideal.τ Cert.Pw1Ideal.sig) → Buf (Elt Ideal) ℓ) (g : Dev Cert.Pw1Ideal.nD → PrngReg)
    (m' : (ℓ : Loc Cert.Pw1RefIdeal.nD Cert.Pw1RefIdeal.τ Cert.Pw1RefIdeal.sig) → Buf (Elt Ideal) ℓ) (g' : Dev Cert.Pw1RefIdeal.nD → PrngReg), Pre_Pw1Ideal m →
    (∀ c : Dev Cert.Pw1Ideal.nD,
      m' ((c.tc : Thread Cert.Pw1RefIdeal.nD Cert.Pw1RefIdeal.τ).loc Cert.Pw1RefIdeal.main_arg0) = m ((c.tc : Thread Cert.Pw1Ideal.nD Cert.Pw1Ideal.τ).loc Cert.Pw1Ideal.main_arg0)
      ∧ m' ((c.tc : Thread Cert.Pw1RefIdeal.nD Cert.Pw1RefIdeal.τ).loc Cert.Pw1RefIdeal.main_arg1) = m ((c.tc : Thread Cert.Pw1Ideal.nD Cert.Pw1Ideal.τ).loc Cert.Pw1Ideal.main_arg1)) →
    ∃ (v0 : (c : Dev Cert.Pw1Ideal.nD) → Buf (Elt Ideal) ((c.tc : Thread Cert.Pw1Ideal.nD Cert.Pw1Ideal.τ).loc Cert.Pw1Ideal.main_v6)),
      θ_run (Cert.Pw1Ideal.defs (F := Ideal)) (onTc (τ := Cert.Pw1Ideal.τ) (Cert.Pw1Ideal.main (F := Ideal))) ⟨m, fun _ => 0, g⟩ (fun r => ∀ c : Dev Cert.Pw1Ideal.nD,
          r.2.mem ((c.tc : Thread Cert.Pw1Ideal.nD Cert.Pw1Ideal.τ).loc Cert.Pw1Ideal.main_v6) = v0 c
          ∧ r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
          ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1))
      ∧ θ_run (Cert.Pw1RefIdeal.defs (F := Ideal)) (onTc (τ := Cert.Pw1RefIdeal.τ) (Cert.Pw1RefIdeal.main (F := Ideal))) ⟨m', fun _ => 0, g'⟩ (fun r => ∀ c : Dev Cert.Pw1RefIdeal.nD,
          r.2.mem ((c.tc : Thread Cert.Pw1RefIdeal.nD Cert.Pw1RefIdeal.τ).loc Cert.Pw1RefIdeal.main_v2) = v0 c
          ∧ r.2.mem ((c.tc : Thread Cert.Pw1RefIdeal.nD Cert.Pw1RefIdeal.τ).loc Cert.Pw1RefIdeal.main_arg0) = m' ((c.tc : Thread Cert.Pw1RefIdeal.nD Cert.Pw1RefIdeal.τ).loc Cert.Pw1RefIdeal.main_arg0)
          ∧ r.2.mem ((c.tc : Thread Cert.Pw1RefIdeal.nD Cert.Pw1RefIdeal.τ).loc Cert.Pw1RefIdeal.main_arg1) = m' ((c.tc : Thread Cert.Pw1RefIdeal.nD Cert.Pw1RefIdeal.τ).loc Cert.Pw1RefIdeal.main_arg1))

def preserves_Pw1Dx_Pw1DxIdeal : Prop :=
  True

def algebraic_Pw1DxIdeal_Pw1DxRefIdeal [hPw1DxIdeal : Cert.Pw1DxIdeal.Facts] [hPw1DxRefIdeal : Cert.Pw1DxRefIdeal.Facts] : Prop :=
  ∀ (m : (ℓ : Loc Cert.Pw1DxIdeal.nD Cert.Pw1DxIdeal.τ Cert.Pw1DxIdeal.sig) → Buf (Elt Ideal) ℓ) (g : Dev Cert.Pw1DxIdeal.nD → PrngReg)
    (m' : (ℓ : Loc Cert.Pw1DxRefIdeal.nD Cert.Pw1DxRefIdeal.τ Cert.Pw1DxRefIdeal.sig) → Buf (Elt Ideal) ℓ) (g' : Dev Cert.Pw1DxRefIdeal.nD → PrngReg), Pre_Pw1DxIdeal m →
    (∀ c : Dev Cert.Pw1DxIdeal.nD,
      m' ((c.tc : Thread Cert.Pw1DxRefIdeal.nD Cert.Pw1DxRefIdeal.τ).loc Cert.Pw1DxRefIdeal.main_arg0) = m ((c.tc : Thread Cert.Pw1DxIdeal.nD Cert.Pw1DxIdeal.τ).loc Cert.Pw1DxIdeal.main_arg0)
      ∧ m' ((c.tc : Thread Cert.Pw1DxRefIdeal.nD Cert.Pw1DxRefIdeal.τ).loc Cert.Pw1DxRefIdeal.main_arg1) = m ((c.tc : Thread Cert.Pw1DxIdeal.nD Cert.Pw1DxIdeal.τ).loc Cert.Pw1DxIdeal.main_arg1)
      ∧ m' ((c.tc : Thread Cert.Pw1DxRefIdeal.nD Cert.Pw1DxRefIdeal.τ).loc Cert.Pw1DxRefIdeal.main_arg2) = m ((c.tc : Thread Cert.Pw1DxIdeal.nD Cert.Pw1DxIdeal.τ).loc Cert.Pw1DxIdeal.main_arg2)) →
    ∃ (v0 : (c : Dev Cert.Pw1DxIdeal.nD) → Buf (Elt Ideal) ((c.tc : Thread Cert.Pw1DxIdeal.nD Cert.Pw1DxIdeal.τ).loc Cert.Pw1DxIdeal.main_v6)),
      θ_run (Cert.Pw1DxIdeal.defs (F := Ideal)) (onTc (τ := Cert.Pw1DxIdeal.τ) (Cert.Pw1DxIdeal.main (F := Ideal))) ⟨m, fun _ => 0, g⟩ (fun r => ∀ c : Dev Cert.Pw1DxIdeal.nD,
          r.2.mem ((c.tc : Thread Cert.Pw1DxIdeal.nD Cert.Pw1DxIdeal.τ).loc Cert.Pw1DxIdeal.main_v6) = v0 c
          ∧ r.2.mem ((c.tc : Thread Cert.Pw1DxIdeal.nD Cert.Pw1DxIdeal.τ).loc Cert.Pw1DxIdeal.main_arg0) = m ((c.tc : Thread Cert.Pw1DxIdeal.nD Cert.Pw1DxIdeal.τ).loc Cert.Pw1DxIdeal.main_arg0)
          ∧ r.2.mem ((c.tc : Thread Cert.Pw1DxIdeal.nD Cert.Pw1DxIdeal.τ).loc Cert.Pw1DxIdeal.main_arg1) = m ((c.tc : Thread Cert.Pw1DxIdeal.nD Cert.Pw1DxIdeal.τ).loc Cert.Pw1DxIdeal.main_arg1)
          ∧ r.2.mem ((c.tc : Thread Cert.Pw1DxIdeal.nD Cert.Pw1DxIdeal.τ).loc Cert.Pw1DxIdeal.main_arg2) = m ((c.tc : Thread Cert.Pw1DxIdeal.nD Cert.Pw1DxIdeal.τ).loc Cert.Pw1DxIdeal.main_arg2))
      ∧ θ_run (Cert.Pw1DxRefIdeal.defs (F := Ideal)) (onTc (τ := Cert.Pw1DxRefIdeal.τ) (Cert.Pw1DxRefIdeal.main (F := Ideal))) ⟨m', fun _ => 0, g'⟩ (fun r => ∀ c : Dev Cert.Pw1DxRefIdeal.nD,
          r.2.mem ((c.tc : Thread Cert.Pw1DxRefIdeal.nD Cert.Pw1DxRefIdeal.τ).loc Cert.Pw1DxRefIdeal.main_v4) = v0 c
          ∧ r.2.mem ((c.tc : Thread Cert.Pw1DxRefIdeal.nD Cert.Pw1DxRefIdeal.τ).loc Cert.Pw1DxRefIdeal.main_arg0) = m' ((c.tc : Thread Cert.Pw1DxRefIdeal.nD Cert.Pw1DxRefIdeal.τ).loc Cert.Pw1DxRefIdeal.main_arg0)
          ∧ r.2.mem ((c.tc : Thread Cert.Pw1DxRefIdeal.nD Cert.Pw1DxRefIdeal.τ).loc Cert.Pw1DxRefIdeal.main_arg1) = m' ((c.tc : Thread Cert.Pw1DxRefIdeal.nD Cert.Pw1DxRefIdeal.τ).loc Cert.Pw1DxRefIdeal.main_arg1)
          ∧ r.2.mem ((c.tc : Thread Cert.Pw1DxRefIdeal.nD Cert.Pw1DxRefIdeal.τ).loc Cert.Pw1DxRefIdeal.main_arg2) = m' ((c.tc : Thread Cert.Pw1DxRefIdeal.nD Cert.Pw1DxRefIdeal.τ).loc Cert.Pw1DxRefIdeal.main_arg2))

def preserves_Pw1Dw_Pw1DwIdeal : Prop :=
  True

def algebraic_Pw1DwIdeal_Pw1DwRefIdeal [hPw1DwIdeal : Cert.Pw1DwIdeal.Facts] [hPw1DwRefIdeal : Cert.Pw1DwRefIdeal.Facts] : Prop :=
  ∀ (m : (ℓ : Loc Cert.Pw1DwIdeal.nD Cert.Pw1DwIdeal.τ Cert.Pw1DwIdeal.sig) → Buf (Elt Ideal) ℓ) (g : Dev Cert.Pw1DwIdeal.nD → PrngReg)
    (m' : (ℓ : Loc Cert.Pw1DwRefIdeal.nD Cert.Pw1DwRefIdeal.τ Cert.Pw1DwRefIdeal.sig) → Buf (Elt Ideal) ℓ) (g' : Dev Cert.Pw1DwRefIdeal.nD → PrngReg), Pre_Pw1DwIdeal m →
    (∀ c : Dev Cert.Pw1DwIdeal.nD,
      m' ((c.tc : Thread Cert.Pw1DwRefIdeal.nD Cert.Pw1DwRefIdeal.τ).loc Cert.Pw1DwRefIdeal.main_arg0) = m ((c.tc : Thread Cert.Pw1DwIdeal.nD Cert.Pw1DwIdeal.τ).loc Cert.Pw1DwIdeal.main_arg0)
      ∧ m' ((c.tc : Thread Cert.Pw1DwRefIdeal.nD Cert.Pw1DwRefIdeal.τ).loc Cert.Pw1DwRefIdeal.main_arg1) = m ((c.tc : Thread Cert.Pw1DwIdeal.nD Cert.Pw1DwIdeal.τ).loc Cert.Pw1DwIdeal.main_arg1)
      ∧ m' ((c.tc : Thread Cert.Pw1DwRefIdeal.nD Cert.Pw1DwRefIdeal.τ).loc Cert.Pw1DwRefIdeal.main_arg2) = m ((c.tc : Thread Cert.Pw1DwIdeal.nD Cert.Pw1DwIdeal.τ).loc Cert.Pw1DwIdeal.main_arg2)) →
    ∃ (v0 : (c : Dev Cert.Pw1DwIdeal.nD) → Buf (Elt Ideal) ((c.tc : Thread Cert.Pw1DwIdeal.nD Cert.Pw1DwIdeal.τ).loc Cert.Pw1DwIdeal.main_v4)),
      θ_run (Cert.Pw1DwIdeal.defs (F := Ideal)) (onTc (τ := Cert.Pw1DwIdeal.τ) (Cert.Pw1DwIdeal.main (F := Ideal))) ⟨m, fun _ => 0, g⟩ (fun r => ∀ c : Dev Cert.Pw1DwIdeal.nD,
          r.2.mem ((c.tc : Thread Cert.Pw1DwIdeal.nD Cert.Pw1DwIdeal.τ).loc Cert.Pw1DwIdeal.main_v4) = v0 c
          ∧ r.2.mem ((c.tc : Thread Cert.Pw1DwIdeal.nD Cert.Pw1DwIdeal.τ).loc Cert.Pw1DwIdeal.main_arg0) = m ((c.tc : Thread Cert.Pw1DwIdeal.nD Cert.Pw1DwIdeal.τ).loc Cert.Pw1DwIdeal.main_arg0)
          ∧ r.2.mem ((c.tc : Thread Cert.Pw1DwIdeal.nD Cert.Pw1DwIdeal.τ).loc Cert.Pw1DwIdeal.main_arg1) = m ((c.tc : Thread Cert.Pw1DwIdeal.nD Cert.Pw1DwIdeal.τ).loc Cert.Pw1DwIdeal.main_arg1)
          ∧ r.2.mem ((c.tc : Thread Cert.Pw1DwIdeal.nD Cert.Pw1DwIdeal.τ).loc Cert.Pw1DwIdeal.main_arg2) = m ((c.tc : Thread Cert.Pw1DwIdeal.nD Cert.Pw1DwIdeal.τ).loc Cert.Pw1DwIdeal.main_arg2))
      ∧ θ_run (Cert.Pw1DwRefIdeal.defs (F := Ideal)) (onTc (τ := Cert.Pw1DwRefIdeal.τ) (Cert.Pw1DwRefIdeal.main (F := Ideal))) ⟨m', fun _ => 0, g'⟩ (fun r => ∀ c : Dev Cert.Pw1DwRefIdeal.nD,
          r.2.mem ((c.tc : Thread Cert.Pw1DwRefIdeal.nD Cert.Pw1DwRefIdeal.τ).loc Cert.Pw1DwRefIdeal.main_v6) = v0 c
          ∧ r.2.mem ((c.tc : Thread Cert.Pw1DwRefIdeal.nD Cert.Pw1DwRefIdeal.τ).loc Cert.Pw1DwRefIdeal.main_arg0) = m' ((c.tc : Thread Cert.Pw1DwRefIdeal.nD Cert.Pw1DwRefIdeal.τ).loc Cert.Pw1DwRefIdeal.main_arg0)
          ∧ r.2.mem ((c.tc : Thread Cert.Pw1DwRefIdeal.nD Cert.Pw1DwRefIdeal.τ).loc Cert.Pw1DwRefIdeal.main_arg1) = m' ((c.tc : Thread Cert.Pw1DwRefIdeal.nD Cert.Pw1DwRefIdeal.τ).loc Cert.Pw1DwRefIdeal.main_arg1)
          ∧ r.2.mem ((c.tc : Thread Cert.Pw1DwRefIdeal.nD Cert.Pw1DwRefIdeal.τ).loc Cert.Pw1DwRefIdeal.main_arg2) = m' ((c.tc : Thread Cert.Pw1DwRefIdeal.nD Cert.Pw1DwRefIdeal.τ).loc Cert.Pw1DwRefIdeal.main_arg2))

def preserves_ScOut_ScOutIdeal : Prop :=
  True

def algebraic_ScOutIdeal_ScOutRefIdeal [hScOutIdeal : Cert.ScOutIdeal.Facts] [hScOutRefIdeal : Cert.ScOutRefIdeal.Facts] : Prop :=
  ∀ (m : (ℓ : Loc Cert.ScOutIdeal.nD Cert.ScOutIdeal.τ Cert.ScOutIdeal.sig) → Buf (Elt Ideal) ℓ) (g : Dev Cert.ScOutIdeal.nD → PrngReg)
    (m' : (ℓ : Loc Cert.ScOutRefIdeal.nD Cert.ScOutRefIdeal.τ Cert.ScOutRefIdeal.sig) → Buf (Elt Ideal) ℓ) (g' : Dev Cert.ScOutRefIdeal.nD → PrngReg), Pre_ScOutIdeal m →
    (∀ c : Dev Cert.ScOutIdeal.nD,
      m' ((c.tc : Thread Cert.ScOutRefIdeal.nD Cert.ScOutRefIdeal.τ).loc Cert.ScOutRefIdeal.main_arg0) = m ((c.tc : Thread Cert.ScOutIdeal.nD Cert.ScOutIdeal.τ).loc Cert.ScOutIdeal.main_arg0)
      ∧ m' ((c.tc : Thread Cert.ScOutRefIdeal.nD Cert.ScOutRefIdeal.τ).loc Cert.ScOutRefIdeal.main_arg1) = m ((c.tc : Thread Cert.ScOutIdeal.nD Cert.ScOutIdeal.τ).loc Cert.ScOutIdeal.main_arg1)) →
    ∃ (v0 : (c : Dev Cert.ScOutIdeal.nD) → Buf (Elt Ideal) ((c.tc : Thread Cert.ScOutIdeal.nD Cert.ScOutIdeal.τ).loc Cert.ScOutIdeal.main_v4)),
      θ_run (Cert.ScOutIdeal.defs (F := Ideal)) (onTc (τ := Cert.ScOutIdeal.τ) (Cert.ScOutIdeal.main (F := Ideal))) ⟨m, fun _ => 0, g⟩ (fun r => ∀ c : Dev Cert.ScOutIdeal.nD,
          r.2.mem ((c.tc : Thread Cert.ScOutIdeal.nD Cert.ScOutIdeal.τ).loc Cert.ScOutIdeal.main_v4) = v0 c
          ∧ r.2.mem ((c.tc : Thread Cert.ScOutIdeal.nD Cert.ScOutIdeal.τ).loc Cert.ScOutIdeal.main_arg0) = m ((c.tc : Thread Cert.ScOutIdeal.nD Cert.ScOutIdeal.τ).loc Cert.ScOutIdeal.main_arg0)
          ∧ r.2.mem ((c.tc : Thread Cert.ScOutIdeal.nD Cert.ScOutIdeal.τ).loc Cert.ScOutIdeal.main_arg1) = m ((c.tc : Thread Cert.ScOutIdeal.nD Cert.ScOutIdeal.τ).loc Cert.ScOutIdeal.main_arg1))
      ∧ θ_run (Cert.ScOutRefIdeal.defs (F := Ideal)) (onTc (τ := Cert.ScOutRefIdeal.τ) (Cert.ScOutRefIdeal.main (F := Ideal))) ⟨m', fun _ => 0, g'⟩ (fun r => ∀ c : Dev Cert.ScOutRefIdeal.nD,
          r.2.mem ((c.tc : Thread Cert.ScOutRefIdeal.nD Cert.ScOutRefIdeal.τ).loc Cert.ScOutRefIdeal.main_v1) = v0 c
          ∧ r.2.mem ((c.tc : Thread Cert.ScOutRefIdeal.nD Cert.ScOutRefIdeal.τ).loc Cert.ScOutRefIdeal.main_arg0) = m' ((c.tc : Thread Cert.ScOutRefIdeal.nD Cert.ScOutRefIdeal.τ).loc Cert.ScOutRefIdeal.main_arg0)
          ∧ r.2.mem ((c.tc : Thread Cert.ScOutRefIdeal.nD Cert.ScOutRefIdeal.τ).loc Cert.ScOutRefIdeal.main_arg1) = m' ((c.tc : Thread Cert.ScOutRefIdeal.nD Cert.ScOutRefIdeal.τ).loc Cert.ScOutRefIdeal.main_arg1))

def preserves_ScOutDx_ScOutDxIdeal : Prop :=
  True

def algebraic_ScOutDxIdeal_ScOutDxRefIdeal [hScOutDxIdeal : Cert.ScOutDxIdeal.Facts] [hScOutDxRefIdeal : Cert.ScOutDxRefIdeal.Facts] : Prop :=
  ∀ (m : (ℓ : Loc Cert.ScOutDxIdeal.nD Cert.ScOutDxIdeal.τ Cert.ScOutDxIdeal.sig) → Buf (Elt Ideal) ℓ) (g : Dev Cert.ScOutDxIdeal.nD → PrngReg)
    (m' : (ℓ : Loc Cert.ScOutDxRefIdeal.nD Cert.ScOutDxRefIdeal.τ Cert.ScOutDxRefIdeal.sig) → Buf (Elt Ideal) ℓ) (g' : Dev Cert.ScOutDxRefIdeal.nD → PrngReg), Pre_ScOutDxIdeal m →
    (∀ c : Dev Cert.ScOutDxIdeal.nD,
      m' ((c.tc : Thread Cert.ScOutDxRefIdeal.nD Cert.ScOutDxRefIdeal.τ).loc Cert.ScOutDxRefIdeal.main_arg0) = m ((c.tc : Thread Cert.ScOutDxIdeal.nD Cert.ScOutDxIdeal.τ).loc Cert.ScOutDxIdeal.main_arg0)
      ∧ m' ((c.tc : Thread Cert.ScOutDxRefIdeal.nD Cert.ScOutDxRefIdeal.τ).loc Cert.ScOutDxRefIdeal.main_arg1) = m ((c.tc : Thread Cert.ScOutDxIdeal.nD Cert.ScOutDxIdeal.τ).loc Cert.ScOutDxIdeal.main_arg1)
      ∧ m' ((c.tc : Thread Cert.ScOutDxRefIdeal.nD Cert.ScOutDxRefIdeal.τ).loc Cert.ScOutDxRefIdeal.main_arg2) = m ((c.tc : Thread Cert.ScOutDxIdeal.nD Cert.ScOutDxIdeal.τ).loc Cert.ScOutDxIdeal.main_arg2)) →
    ∃ (v0 : (c : Dev Cert.ScOutDxIdeal.nD) → Buf (Elt Ideal) ((c.tc : Thread Cert.ScOutDxIdeal.nD Cert.ScOutDxIdeal.τ).loc Cert.ScOutDxIdeal.main_v4)),
      θ_run (Cert.ScOutDxIdeal.defs (F := Ideal)) (onTc (τ := Cert.ScOutDxIdeal.τ) (Cert.ScOutDxIdeal.main (F := Ideal))) ⟨m, fun _ => 0, g⟩ (fun r => ∀ c : Dev Cert.ScOutDxIdeal.nD,
          r.2.mem ((c.tc : Thread Cert.ScOutDxIdeal.nD Cert.ScOutDxIdeal.τ).loc Cert.ScOutDxIdeal.main_v4) = v0 c
          ∧ r.2.mem ((c.tc : Thread Cert.ScOutDxIdeal.nD Cert.ScOutDxIdeal.τ).loc Cert.ScOutDxIdeal.main_arg0) = m ((c.tc : Thread Cert.ScOutDxIdeal.nD Cert.ScOutDxIdeal.τ).loc Cert.ScOutDxIdeal.main_arg0)
          ∧ r.2.mem ((c.tc : Thread Cert.ScOutDxIdeal.nD Cert.ScOutDxIdeal.τ).loc Cert.ScOutDxIdeal.main_arg1) = m ((c.tc : Thread Cert.ScOutDxIdeal.nD Cert.ScOutDxIdeal.τ).loc Cert.ScOutDxIdeal.main_arg1)
          ∧ r.2.mem ((c.tc : Thread Cert.ScOutDxIdeal.nD Cert.ScOutDxIdeal.τ).loc Cert.ScOutDxIdeal.main_arg2) = m ((c.tc : Thread Cert.ScOutDxIdeal.nD Cert.ScOutDxIdeal.τ).loc Cert.ScOutDxIdeal.main_arg2))
      ∧ θ_run (Cert.ScOutDxRefIdeal.defs (F := Ideal)) (onTc (τ := Cert.ScOutDxRefIdeal.τ) (Cert.ScOutDxRefIdeal.main (F := Ideal))) ⟨m', fun _ => 0, g'⟩ (fun r => ∀ c : Dev Cert.ScOutDxRefIdeal.nD,
          r.2.mem ((c.tc : Thread Cert.ScOutDxRefIdeal.nD Cert.ScOutDxRefIdeal.τ).loc Cert.ScOutDxRefIdeal.main_v5) = v0 c
          ∧ r.2.mem ((c.tc : Thread Cert.ScOutDxRefIdeal.nD Cert.ScOutDxRefIdeal.τ).loc Cert.ScOutDxRefIdeal.main_arg0) = m' ((c.tc : Thread Cert.ScOutDxRefIdeal.nD Cert.ScOutDxRefIdeal.τ).loc Cert.ScOutDxRefIdeal.main_arg0)
          ∧ r.2.mem ((c.tc : Thread Cert.ScOutDxRefIdeal.nD Cert.ScOutDxRefIdeal.τ).loc Cert.ScOutDxRefIdeal.main_arg1) = m' ((c.tc : Thread Cert.ScOutDxRefIdeal.nD Cert.ScOutDxRefIdeal.τ).loc Cert.ScOutDxRefIdeal.main_arg1)
          ∧ r.2.mem ((c.tc : Thread Cert.ScOutDxRefIdeal.nD Cert.ScOutDxRefIdeal.τ).loc Cert.ScOutDxRefIdeal.main_arg2) = m' ((c.tc : Thread Cert.ScOutDxRefIdeal.nD Cert.ScOutDxRefIdeal.τ).loc Cert.ScOutDxRefIdeal.main_arg2))

def preserves_ScOutDw_ScOutDwIdeal : Prop :=
  True

def algebraic_ScOutDwIdeal_ScOutDwRefIdeal [hScOutDwIdeal : Cert.ScOutDwIdeal.Facts] [hScOutDwRefIdeal : Cert.ScOutDwRefIdeal.Facts] : Prop :=
  ∀ (m : (ℓ : Loc Cert.ScOutDwIdeal.nD Cert.ScOutDwIdeal.τ Cert.ScOutDwIdeal.sig) → Buf (Elt Ideal) ℓ) (g : Dev Cert.ScOutDwIdeal.nD → PrngReg)
    (m' : (ℓ : Loc Cert.ScOutDwRefIdeal.nD Cert.ScOutDwRefIdeal.τ Cert.ScOutDwRefIdeal.sig) → Buf (Elt Ideal) ℓ) (g' : Dev Cert.ScOutDwRefIdeal.nD → PrngReg), Pre_ScOutDwIdeal m →
    (∀ c : Dev Cert.ScOutDwIdeal.nD,
      m' ((c.tc : Thread Cert.ScOutDwRefIdeal.nD Cert.ScOutDwRefIdeal.τ).loc Cert.ScOutDwRefIdeal.main_arg0) = m ((c.tc : Thread Cert.ScOutDwIdeal.nD Cert.ScOutDwIdeal.τ).loc Cert.ScOutDwIdeal.main_arg0)
      ∧ m' ((c.tc : Thread Cert.ScOutDwRefIdeal.nD Cert.ScOutDwRefIdeal.τ).loc Cert.ScOutDwRefIdeal.main_arg1) = m ((c.tc : Thread Cert.ScOutDwIdeal.nD Cert.ScOutDwIdeal.τ).loc Cert.ScOutDwIdeal.main_arg1)
      ∧ m' ((c.tc : Thread Cert.ScOutDwRefIdeal.nD Cert.ScOutDwRefIdeal.τ).loc Cert.ScOutDwRefIdeal.main_arg2) = m ((c.tc : Thread Cert.ScOutDwIdeal.nD Cert.ScOutDwIdeal.τ).loc Cert.ScOutDwIdeal.main_arg2)) →
    ∃ (v0 : (c : Dev Cert.ScOutDwIdeal.nD) → Buf (Elt Ideal) ((c.tc : Thread Cert.ScOutDwIdeal.nD Cert.ScOutDwIdeal.τ).loc Cert.ScOutDwIdeal.main_v4)),
      θ_run (Cert.ScOutDwIdeal.defs (F := Ideal)) (onTc (τ := Cert.ScOutDwIdeal.τ) (Cert.ScOutDwIdeal.main (F := Ideal))) ⟨m, fun _ => 0, g⟩ (fun r => ∀ c : Dev Cert.ScOutDwIdeal.nD,
          r.2.mem ((c.tc : Thread Cert.ScOutDwIdeal.nD Cert.ScOutDwIdeal.τ).loc Cert.ScOutDwIdeal.main_v4) = v0 c
          ∧ r.2.mem ((c.tc : Thread Cert.ScOutDwIdeal.nD Cert.ScOutDwIdeal.τ).loc Cert.ScOutDwIdeal.main_arg0) = m ((c.tc : Thread Cert.ScOutDwIdeal.nD Cert.ScOutDwIdeal.τ).loc Cert.ScOutDwIdeal.main_arg0)
          ∧ r.2.mem ((c.tc : Thread Cert.ScOutDwIdeal.nD Cert.ScOutDwIdeal.τ).loc Cert.ScOutDwIdeal.main_arg1) = m ((c.tc : Thread Cert.ScOutDwIdeal.nD Cert.ScOutDwIdeal.τ).loc Cert.ScOutDwIdeal.main_arg1)
          ∧ r.2.mem ((c.tc : Thread Cert.ScOutDwIdeal.nD Cert.ScOutDwIdeal.τ).loc Cert.ScOutDwIdeal.main_arg2) = m ((c.tc : Thread Cert.ScOutDwIdeal.nD Cert.ScOutDwIdeal.τ).loc Cert.ScOutDwIdeal.main_arg2))
      ∧ θ_run (Cert.ScOutDwRefIdeal.defs (F := Ideal)) (onTc (τ := Cert.ScOutDwRefIdeal.τ) (Cert.ScOutDwRefIdeal.main (F := Ideal))) ⟨m', fun _ => 0, g'⟩ (fun r => ∀ c : Dev Cert.ScOutDwRefIdeal.nD,
          r.2.mem ((c.tc : Thread Cert.ScOutDwRefIdeal.nD Cert.ScOutDwRefIdeal.τ).loc Cert.ScOutDwRefIdeal.main_v4) = v0 c
          ∧ r.2.mem ((c.tc : Thread Cert.ScOutDwRefIdeal.nD Cert.ScOutDwRefIdeal.τ).loc Cert.ScOutDwRefIdeal.main_arg0) = m' ((c.tc : Thread Cert.ScOutDwRefIdeal.nD Cert.ScOutDwRefIdeal.τ).loc Cert.ScOutDwRefIdeal.main_arg0)
          ∧ r.2.mem ((c.tc : Thread Cert.ScOutDwRefIdeal.nD Cert.ScOutDwRefIdeal.τ).loc Cert.ScOutDwRefIdeal.main_arg1) = m' ((c.tc : Thread Cert.ScOutDwRefIdeal.nD Cert.ScOutDwRefIdeal.τ).loc Cert.ScOutDwRefIdeal.main_arg1)
          ∧ r.2.mem ((c.tc : Thread Cert.ScOutDwRefIdeal.nD Cert.ScOutDwRefIdeal.τ).loc Cert.ScOutDwRefIdeal.main_arg2) = m' ((c.tc : Thread Cert.ScOutDwRefIdeal.nD Cert.ScOutDwRefIdeal.τ).loc Cert.ScOutDwRefIdeal.main_arg2))

def preserves_Down1_Down1Ideal : Prop :=
  True

def algebraic_Down1Ideal_Down1RefIdeal [hDown1Ideal : Cert.Down1Ideal.Facts] [hDown1RefIdeal : Cert.Down1RefIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1RefIdeal.nD Cert.Down1RefIdeal.τ Cert.Down1RefIdeal.sig) → Buf (Elt Ideal) ℓ) (g' : Dev Cert.Down1RefIdeal.nD → PrngReg), Pre_Down1Ideal m →
    (∀ c : Dev Cert.Down1Ideal.nD,
      m' ((c.tc : Thread Cert.Down1RefIdeal.nD Cert.Down1RefIdeal.τ).loc Cert.Down1RefIdeal.main_arg0) = m ((c.tc : Thread Cert.Down1Ideal.nD Cert.Down1Ideal.τ).loc Cert.Down1Ideal.main_arg0)
      ∧ m' ((c.tc : Thread Cert.Down1RefIdeal.nD Cert.Down1RefIdeal.τ).loc Cert.Down1RefIdeal.main_arg1) = m ((c.tc : Thread Cert.Down1Ideal.nD Cert.Down1Ideal.τ).loc Cert.Down1Ideal.main_arg1)) →
    ∃ (v0 : (c : Dev Cert.Down1Ideal.nD) → Buf (Elt Ideal) ((c.tc : Thread Cert.Down1Ideal.nD Cert.Down1Ideal.τ).loc Cert.Down1Ideal.main_v3)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v3) = v0 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1))
      ∧ θ_run (Cert.Down1RefIdeal.defs (F := Ideal)) (onTc (τ := Cert.Down1RefIdeal.τ) (Cert.Down1RefIdeal.main (F := Ideal))) ⟨m', fun _ => 0, g'⟩ (fun r => ∀ c : Dev Cert.Down1RefIdeal.nD,
          r.2.mem ((c.tc : Thread Cert.Down1RefIdeal.nD Cert.Down1RefIdeal.τ).loc Cert.Down1RefIdeal.main_v3) = v0 c
          ∧ r.2.mem ((c.tc : Thread Cert.Down1RefIdeal.nD Cert.Down1RefIdeal.τ).loc Cert.Down1RefIdeal.main_arg0) = m' ((c.tc : Thread Cert.Down1RefIdeal.nD Cert.Down1RefIdeal.τ).loc Cert.Down1RefIdeal.main_arg0)
          ∧ r.2.mem ((c.tc : Thread Cert.Down1RefIdeal.nD Cert.Down1RefIdeal.τ).loc Cert.Down1RefIdeal.main_arg1) = m' ((c.tc : Thread Cert.Down1RefIdeal.nD Cert.Down1RefIdeal.τ).loc Cert.Down1RefIdeal.main_arg1))

def preserves_Down2_Down2Ideal : Prop :=
  True

def algebraic_Down2Ideal_Down2RefIdeal [hDown2Ideal : Cert.Down2Ideal.Facts] [hDown2RefIdeal : Cert.Down2RefIdeal.Facts] : Prop :=
  ∀ (m : (ℓ : Loc Cert.Down2Ideal.nD Cert.Down2Ideal.τ Cert.Down2Ideal.sig) → Buf (Elt Ideal) ℓ) (g : Dev Cert.Down2Ideal.nD → PrngReg)
    (m' : (ℓ : Loc Cert.Down2RefIdeal.nD Cert.Down2RefIdeal.τ Cert.Down2RefIdeal.sig) → Buf (Elt Ideal) ℓ) (g' : Dev Cert.Down2RefIdeal.nD → PrngReg), Pre_Down2Ideal m →
    (∀ c : Dev Cert.Down2Ideal.nD,
      m' ((c.tc : Thread Cert.Down2RefIdeal.nD Cert.Down2RefIdeal.τ).loc Cert.Down2RefIdeal.main_arg0) = m ((c.tc : Thread Cert.Down2Ideal.nD Cert.Down2Ideal.τ).loc Cert.Down2Ideal.main_arg0)
      ∧ m' ((c.tc : Thread Cert.Down2RefIdeal.nD Cert.Down2RefIdeal.τ).loc Cert.Down2RefIdeal.main_arg1) = m ((c.tc : Thread Cert.Down2Ideal.nD Cert.Down2Ideal.τ).loc Cert.Down2Ideal.main_arg1)) →
    ∃ (v0 : (c : Dev Cert.Down2Ideal.nD) → Buf (Elt Ideal) ((c.tc : Thread Cert.Down2Ideal.nD Cert.Down2Ideal.τ).loc Cert.Down2Ideal.main_v3)),
      θ_run (Cert.Down2Ideal.defs (F := Ideal)) (onTc (τ := Cert.Down2Ideal.τ) (Cert.Down2Ideal.main (F := Ideal))) ⟨m, fun _ => 0, g⟩ (fun r => ∀ c : Dev Cert.Down2Ideal.nD,
          r.2.mem ((c.tc : Thread Cert.Down2Ideal.nD Cert.Down2Ideal.τ).loc Cert.Down2Ideal.main_v3) = v0 c
          ∧ r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
          ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1))
      ∧ θ_run (Cert.Down2RefIdeal.defs (F := Ideal)) (onTc (τ := Cert.Down2RefIdeal.τ) (Cert.Down2RefIdeal.main (F := Ideal))) ⟨m', fun _ => 0, g'⟩ (fun r => ∀ c : Dev Cert.Down2RefIdeal.nD,
          r.2.mem ((c.tc : Thread Cert.Down2RefIdeal.nD Cert.Down2RefIdeal.τ).loc Cert.Down2RefIdeal.main_v3) = v0 c
          ∧ r.2.mem ((c.tc : Thread Cert.Down2RefIdeal.nD Cert.Down2RefIdeal.τ).loc Cert.Down2RefIdeal.main_arg0) = m' ((c.tc : Thread Cert.Down2RefIdeal.nD Cert.Down2RefIdeal.τ).loc Cert.Down2RefIdeal.main_arg0)
          ∧ r.2.mem ((c.tc : Thread Cert.Down2RefIdeal.nD Cert.Down2RefIdeal.τ).loc Cert.Down2RefIdeal.main_arg1) = m' ((c.tc : Thread Cert.Down2RefIdeal.nD Cert.Down2RefIdeal.τ).loc Cert.Down2RefIdeal.main_arg1))

def preserves_Down3_Down3Ideal : Prop :=
  True

def algebraic_Down3Ideal_Down3RefIdeal [hDown3Ideal : Cert.Down3Ideal.Facts] [hDown3RefIdeal : Cert.Down3RefIdeal.Facts] : Prop :=
  ∀ (m : (ℓ : Loc Cert.Down3Ideal.nD Cert.Down3Ideal.τ Cert.Down3Ideal.sig) → Buf (Elt Ideal) ℓ) (g : Dev Cert.Down3Ideal.nD → PrngReg)
    (m' : (ℓ : Loc Cert.Down3RefIdeal.nD Cert.Down3RefIdeal.τ Cert.Down3RefIdeal.sig) → Buf (Elt Ideal) ℓ) (g' : Dev Cert.Down3RefIdeal.nD → PrngReg), Pre_Down3Ideal m →
    (∀ c : Dev Cert.Down3Ideal.nD,
      m' ((c.tc : Thread Cert.Down3RefIdeal.nD Cert.Down3RefIdeal.τ).loc Cert.Down3RefIdeal.main_arg0) = m ((c.tc : Thread Cert.Down3Ideal.nD Cert.Down3Ideal.τ).loc Cert.Down3Ideal.main_arg0)
      ∧ m' ((c.tc : Thread Cert.Down3RefIdeal.nD Cert.Down3RefIdeal.τ).loc Cert.Down3RefIdeal.main_arg1) = m ((c.tc : Thread Cert.Down3Ideal.nD Cert.Down3Ideal.τ).loc Cert.Down3Ideal.main_arg1)) →
    ∃ (v0 : (c : Dev Cert.Down3Ideal.nD) → Buf (Elt Ideal) ((c.tc : Thread Cert.Down3Ideal.nD Cert.Down3Ideal.τ).loc Cert.Down3Ideal.main_v3)),
      θ_run (Cert.Down3Ideal.defs (F := Ideal)) (onTc (τ := Cert.Down3Ideal.τ) (Cert.Down3Ideal.main (F := Ideal))) ⟨m, fun _ => 0, g⟩ (fun r => ∀ c : Dev Cert.Down3Ideal.nD,
          r.2.mem ((c.tc : Thread Cert.Down3Ideal.nD Cert.Down3Ideal.τ).loc Cert.Down3Ideal.main_v3) = v0 c
          ∧ r.2.mem ((c.tc : Thread Cert.Down3Ideal.nD Cert.Down3Ideal.τ).loc Cert.Down3Ideal.main_arg0) = m ((c.tc : Thread Cert.Down3Ideal.nD Cert.Down3Ideal.τ).loc Cert.Down3Ideal.main_arg0)
          ∧ r.2.mem ((c.tc : Thread Cert.Down3Ideal.nD Cert.Down3Ideal.τ).loc Cert.Down3Ideal.main_arg1) = m ((c.tc : Thread Cert.Down3Ideal.nD Cert.Down3Ideal.τ).loc Cert.Down3Ideal.main_arg1))
      ∧ θ_run (Cert.Down3RefIdeal.defs (F := Ideal)) (onTc (τ := Cert.Down3RefIdeal.τ) (Cert.Down3RefIdeal.main (F := Ideal))) ⟨m', fun _ => 0, g'⟩ (fun r => ∀ c : Dev Cert.Down3RefIdeal.nD,
          r.2.mem ((c.tc : Thread Cert.Down3RefIdeal.nD Cert.Down3RefIdeal.τ).loc Cert.Down3RefIdeal.main_v3) = v0 c
          ∧ r.2.mem ((c.tc : Thread Cert.Down3RefIdeal.nD Cert.Down3RefIdeal.τ).loc Cert.Down3RefIdeal.main_arg0) = m' ((c.tc : Thread Cert.Down3RefIdeal.nD Cert.Down3RefIdeal.τ).loc Cert.Down3RefIdeal.main_arg0)
          ∧ r.2.mem ((c.tc : Thread Cert.Down3RefIdeal.nD Cert.Down3RefIdeal.τ).loc Cert.Down3RefIdeal.main_arg1) = m' ((c.tc : Thread Cert.Down3RefIdeal.nD Cert.Down3RefIdeal.τ).loc Cert.Down3RefIdeal.main_arg1))

def preserves_DownDx1_DownDx1Ideal : Prop :=
  True

def algebraic_DownDx1Ideal_DownDx1RefIdeal [hDownDx1Ideal : Cert.DownDx1Ideal.Facts] [hDownDx1RefIdeal : Cert.DownDx1RefIdeal.Facts] : Prop :=
  ∀ (m : (ℓ : Loc Cert.DownDx1Ideal.nD Cert.DownDx1Ideal.τ Cert.DownDx1Ideal.sig) → Buf (Elt Ideal) ℓ) (g : Dev Cert.DownDx1Ideal.nD → PrngReg)
    (m' : (ℓ : Loc Cert.DownDx1RefIdeal.nD Cert.DownDx1RefIdeal.τ Cert.DownDx1RefIdeal.sig) → Buf (Elt Ideal) ℓ) (g' : Dev Cert.DownDx1RefIdeal.nD → PrngReg), Pre_DownDx1Ideal m →
    (∀ c : Dev Cert.DownDx1Ideal.nD,
      m' ((c.tc : Thread Cert.DownDx1RefIdeal.nD Cert.DownDx1RefIdeal.τ).loc Cert.DownDx1RefIdeal.main_arg0) = m ((c.tc : Thread Cert.DownDx1Ideal.nD Cert.DownDx1Ideal.τ).loc Cert.DownDx1Ideal.main_arg0)
      ∧ m' ((c.tc : Thread Cert.DownDx1RefIdeal.nD Cert.DownDx1RefIdeal.τ).loc Cert.DownDx1RefIdeal.main_arg1) = m ((c.tc : Thread Cert.DownDx1Ideal.nD Cert.DownDx1Ideal.τ).loc Cert.DownDx1Ideal.main_arg1)
      ∧ m' ((c.tc : Thread Cert.DownDx1RefIdeal.nD Cert.DownDx1RefIdeal.τ).loc Cert.DownDx1RefIdeal.main_arg2) = m ((c.tc : Thread Cert.DownDx1Ideal.nD Cert.DownDx1Ideal.τ).loc Cert.DownDx1Ideal.main_arg2)) →
    ∃ (v0 : (c : Dev Cert.DownDx1Ideal.nD) → Buf (Elt Ideal) ((c.tc : Thread Cert.DownDx1Ideal.nD Cert.DownDx1Ideal.τ).loc Cert.DownDx1Ideal.main_v3)),
      θ_run (Cert.DownDx1Ideal.defs (F := Ideal)) (onTc (τ := Cert.DownDx1Ideal.τ) (Cert.DownDx1Ideal.main (F := Ideal))) ⟨m, fun _ => 0, g⟩ (fun r => ∀ c : Dev Cert.DownDx1Ideal.nD,
          r.2.mem ((c.tc : Thread Cert.DownDx1Ideal.nD Cert.DownDx1Ideal.τ).loc Cert.DownDx1Ideal.main_v3) = v0 c
          ∧ r.2.mem ((c.tc : Thread Cert.DownDx1Ideal.nD Cert.DownDx1Ideal.τ).loc Cert.DownDx1Ideal.main_arg0) = m ((c.tc : Thread Cert.DownDx1Ideal.nD Cert.DownDx1Ideal.τ).loc Cert.DownDx1Ideal.main_arg0)
          ∧ r.2.mem ((c.tc : Thread Cert.DownDx1Ideal.nD Cert.DownDx1Ideal.τ).loc Cert.DownDx1Ideal.main_arg1) = m ((c.tc : Thread Cert.DownDx1Ideal.nD Cert.DownDx1Ideal.τ).loc Cert.DownDx1Ideal.main_arg1)
          ∧ r.2.mem ((c.tc : Thread Cert.DownDx1Ideal.nD Cert.DownDx1Ideal.τ).loc Cert.DownDx1Ideal.main_arg2) = m ((c.tc : Thread Cert.DownDx1Ideal.nD Cert.DownDx1Ideal.τ).loc Cert.DownDx1Ideal.main_arg2))
      ∧ θ_run (Cert.DownDx1RefIdeal.defs (F := Ideal)) (onTc (τ := Cert.DownDx1RefIdeal.τ) (Cert.DownDx1RefIdeal.main (F := Ideal))) ⟨m', fun _ => 0, g'⟩ (fun r => ∀ c : Dev Cert.DownDx1RefIdeal.nD,
          r.2.mem ((c.tc : Thread Cert.DownDx1RefIdeal.nD Cert.DownDx1RefIdeal.τ).loc Cert.DownDx1RefIdeal.main_v7) = v0 c
          ∧ r.2.mem ((c.tc : Thread Cert.DownDx1RefIdeal.nD Cert.DownDx1RefIdeal.τ).loc Cert.DownDx1RefIdeal.main_arg0) = m' ((c.tc : Thread Cert.DownDx1RefIdeal.nD Cert.DownDx1RefIdeal.τ).loc Cert.DownDx1RefIdeal.main_arg0)
          ∧ r.2.mem ((c.tc : Thread Cert.DownDx1RefIdeal.nD Cert.DownDx1RefIdeal.τ).loc Cert.DownDx1RefIdeal.main_arg1) = m' ((c.tc : Thread Cert.DownDx1RefIdeal.nD Cert.DownDx1RefIdeal.τ).loc Cert.DownDx1RefIdeal.main_arg1)
          ∧ r.2.mem ((c.tc : Thread Cert.DownDx1RefIdeal.nD Cert.DownDx1RefIdeal.τ).loc Cert.DownDx1RefIdeal.main_arg2) = m' ((c.tc : Thread Cert.DownDx1RefIdeal.nD Cert.DownDx1RefIdeal.τ).loc Cert.DownDx1RefIdeal.main_arg2))

def preserves_DownDx2_DownDx2Ideal : Prop :=
  True

def algebraic_DownDx2Ideal_DownDx2RefIdeal [hDownDx2Ideal : Cert.DownDx2Ideal.Facts] [hDownDx2RefIdeal : Cert.DownDx2RefIdeal.Facts] : Prop :=
  ∀ (m : (ℓ : Loc Cert.DownDx2Ideal.nD Cert.DownDx2Ideal.τ Cert.DownDx2Ideal.sig) → Buf (Elt Ideal) ℓ) (g : Dev Cert.DownDx2Ideal.nD → PrngReg)
    (m' : (ℓ : Loc Cert.DownDx2RefIdeal.nD Cert.DownDx2RefIdeal.τ Cert.DownDx2RefIdeal.sig) → Buf (Elt Ideal) ℓ) (g' : Dev Cert.DownDx2RefIdeal.nD → PrngReg), Pre_DownDx2Ideal m →
    (∀ c : Dev Cert.DownDx2Ideal.nD,
      m' ((c.tc : Thread Cert.DownDx2RefIdeal.nD Cert.DownDx2RefIdeal.τ).loc Cert.DownDx2RefIdeal.main_arg0) = m ((c.tc : Thread Cert.DownDx2Ideal.nD Cert.DownDx2Ideal.τ).loc Cert.DownDx2Ideal.main_arg0)
      ∧ m' ((c.tc : Thread Cert.DownDx2RefIdeal.nD Cert.DownDx2RefIdeal.τ).loc Cert.DownDx2RefIdeal.main_arg1) = m ((c.tc : Thread Cert.DownDx2Ideal.nD Cert.DownDx2Ideal.τ).loc Cert.DownDx2Ideal.main_arg1)
      ∧ m' ((c.tc : Thread Cert.DownDx2RefIdeal.nD Cert.DownDx2RefIdeal.τ).loc Cert.DownDx2RefIdeal.main_arg2) = m ((c.tc : Thread Cert.DownDx2Ideal.nD Cert.DownDx2Ideal.τ).loc Cert.DownDx2Ideal.main_arg2)) →
    ∃ (v0 : (c : Dev Cert.DownDx2Ideal.nD) → Buf (Elt Ideal) ((c.tc : Thread Cert.DownDx2Ideal.nD Cert.DownDx2Ideal.τ).loc Cert.DownDx2Ideal.main_v3)),
      θ_run (Cert.DownDx2Ideal.defs (F := Ideal)) (onTc (τ := Cert.DownDx2Ideal.τ) (Cert.DownDx2Ideal.main (F := Ideal))) ⟨m, fun _ => 0, g⟩ (fun r => ∀ c : Dev Cert.DownDx2Ideal.nD,
          r.2.mem ((c.tc : Thread Cert.DownDx2Ideal.nD Cert.DownDx2Ideal.τ).loc Cert.DownDx2Ideal.main_v3) = v0 c
          ∧ r.2.mem ((c.tc : Thread Cert.DownDx2Ideal.nD Cert.DownDx2Ideal.τ).loc Cert.DownDx2Ideal.main_arg0) = m ((c.tc : Thread Cert.DownDx2Ideal.nD Cert.DownDx2Ideal.τ).loc Cert.DownDx2Ideal.main_arg0)
          ∧ r.2.mem ((c.tc : Thread Cert.DownDx2Ideal.nD Cert.DownDx2Ideal.τ).loc Cert.DownDx2Ideal.main_arg1) = m ((c.tc : Thread Cert.DownDx2Ideal.nD Cert.DownDx2Ideal.τ).loc Cert.DownDx2Ideal.main_arg1)
          ∧ r.2.mem ((c.tc : Thread Cert.DownDx2Ideal.nD Cert.DownDx2Ideal.τ).loc Cert.DownDx2Ideal.main_arg2) = m ((c.tc : Thread Cert.DownDx2Ideal.nD Cert.DownDx2Ideal.τ).loc Cert.DownDx2Ideal.main_arg2))
      ∧ θ_run (Cert.DownDx2RefIdeal.defs (F := Ideal)) (onTc (τ := Cert.DownDx2RefIdeal.τ) (Cert.DownDx2RefIdeal.main (F := Ideal))) ⟨m', fun _ => 0, g'⟩ (fun r => ∀ c : Dev Cert.DownDx2RefIdeal.nD,
          r.2.mem ((c.tc : Thread Cert.DownDx2RefIdeal.nD Cert.DownDx2RefIdeal.τ).loc Cert.DownDx2RefIdeal.main_v7) = v0 c
          ∧ r.2.mem ((c.tc : Thread Cert.DownDx2RefIdeal.nD Cert.DownDx2RefIdeal.τ).loc Cert.DownDx2RefIdeal.main_arg0) = m' ((c.tc : Thread Cert.DownDx2RefIdeal.nD Cert.DownDx2RefIdeal.τ).loc Cert.DownDx2RefIdeal.main_arg0)
          ∧ r.2.mem ((c.tc : Thread Cert.DownDx2RefIdeal.nD Cert.DownDx2RefIdeal.τ).loc Cert.DownDx2RefIdeal.main_arg1) = m' ((c.tc : Thread Cert.DownDx2RefIdeal.nD Cert.DownDx2RefIdeal.τ).loc Cert.DownDx2RefIdeal.main_arg1)
          ∧ r.2.mem ((c.tc : Thread Cert.DownDx2RefIdeal.nD Cert.DownDx2RefIdeal.τ).loc Cert.DownDx2RefIdeal.main_arg2) = m' ((c.tc : Thread Cert.DownDx2RefIdeal.nD Cert.DownDx2RefIdeal.τ).loc Cert.DownDx2RefIdeal.main_arg2))

def preserves_DownDx3_DownDx3Ideal : Prop :=
  True

def algebraic_DownDx3Ideal_DownDx3RefIdeal [hDownDx3Ideal : Cert.DownDx3Ideal.Facts] [hDownDx3RefIdeal : Cert.DownDx3RefIdeal.Facts] : Prop :=
  ∀ (m : (ℓ : Loc Cert.DownDx3Ideal.nD Cert.DownDx3Ideal.τ Cert.DownDx3Ideal.sig) → Buf (Elt Ideal) ℓ) (g : Dev Cert.DownDx3Ideal.nD → PrngReg)
    (m' : (ℓ : Loc Cert.DownDx3RefIdeal.nD Cert.DownDx3RefIdeal.τ Cert.DownDx3RefIdeal.sig) → Buf (Elt Ideal) ℓ) (g' : Dev Cert.DownDx3RefIdeal.nD → PrngReg), Pre_DownDx3Ideal m →
    (∀ c : Dev Cert.DownDx3Ideal.nD,
      m' ((c.tc : Thread Cert.DownDx3RefIdeal.nD Cert.DownDx3RefIdeal.τ).loc Cert.DownDx3RefIdeal.main_arg0) = m ((c.tc : Thread Cert.DownDx3Ideal.nD Cert.DownDx3Ideal.τ).loc Cert.DownDx3Ideal.main_arg0)
      ∧ m' ((c.tc : Thread Cert.DownDx3RefIdeal.nD Cert.DownDx3RefIdeal.τ).loc Cert.DownDx3RefIdeal.main_arg1) = m ((c.tc : Thread Cert.DownDx3Ideal.nD Cert.DownDx3Ideal.τ).loc Cert.DownDx3Ideal.main_arg1)
      ∧ m' ((c.tc : Thread Cert.DownDx3RefIdeal.nD Cert.DownDx3RefIdeal.τ).loc Cert.DownDx3RefIdeal.main_arg2) = m ((c.tc : Thread Cert.DownDx3Ideal.nD Cert.DownDx3Ideal.τ).loc Cert.DownDx3Ideal.main_arg2)) →
    ∃ (v0 : (c : Dev Cert.DownDx3Ideal.nD) → Buf (Elt Ideal) ((c.tc : Thread Cert.DownDx3Ideal.nD Cert.DownDx3Ideal.τ).loc Cert.DownDx3Ideal.main_v3)),
      θ_run (Cert.DownDx3Ideal.defs (F := Ideal)) (onTc (τ := Cert.DownDx3Ideal.τ) (Cert.DownDx3Ideal.main (F := Ideal))) ⟨m, fun _ => 0, g⟩ (fun r => ∀ c : Dev Cert.DownDx3Ideal.nD,
          r.2.mem ((c.tc : Thread Cert.DownDx3Ideal.nD Cert.DownDx3Ideal.τ).loc Cert.DownDx3Ideal.main_v3) = v0 c
          ∧ r.2.mem ((c.tc : Thread Cert.DownDx3Ideal.nD Cert.DownDx3Ideal.τ).loc Cert.DownDx3Ideal.main_arg0) = m ((c.tc : Thread Cert.DownDx3Ideal.nD Cert.DownDx3Ideal.τ).loc Cert.DownDx3Ideal.main_arg0)
          ∧ r.2.mem ((c.tc : Thread Cert.DownDx3Ideal.nD Cert.DownDx3Ideal.τ).loc Cert.DownDx3Ideal.main_arg1) = m ((c.tc : Thread Cert.DownDx3Ideal.nD Cert.DownDx3Ideal.τ).loc Cert.DownDx3Ideal.main_arg1)
          ∧ r.2.mem ((c.tc : Thread Cert.DownDx3Ideal.nD Cert.DownDx3Ideal.τ).loc Cert.DownDx3Ideal.main_arg2) = m ((c.tc : Thread Cert.DownDx3Ideal.nD Cert.DownDx3Ideal.τ).loc Cert.DownDx3Ideal.main_arg2))
      ∧ θ_run (Cert.DownDx3RefIdeal.defs (F := Ideal)) (onTc (τ := Cert.DownDx3RefIdeal.τ) (Cert.DownDx3RefIdeal.main (F := Ideal))) ⟨m', fun _ => 0, g'⟩ (fun r => ∀ c : Dev Cert.DownDx3RefIdeal.nD,
          r.2.mem ((c.tc : Thread Cert.DownDx3RefIdeal.nD Cert.DownDx3RefIdeal.τ).loc Cert.DownDx3RefIdeal.main_v7) = v0 c
          ∧ r.2.mem ((c.tc : Thread Cert.DownDx3RefIdeal.nD Cert.DownDx3RefIdeal.τ).loc Cert.DownDx3RefIdeal.main_arg0) = m' ((c.tc : Thread Cert.DownDx3RefIdeal.nD Cert.DownDx3RefIdeal.τ).loc Cert.DownDx3RefIdeal.main_arg0)
          ∧ r.2.mem ((c.tc : Thread Cert.DownDx3RefIdeal.nD Cert.DownDx3RefIdeal.τ).loc Cert.DownDx3RefIdeal.main_arg1) = m' ((c.tc : Thread Cert.DownDx3RefIdeal.nD Cert.DownDx3RefIdeal.τ).loc Cert.DownDx3RefIdeal.main_arg1)
          ∧ r.2.mem ((c.tc : Thread Cert.DownDx3RefIdeal.nD Cert.DownDx3RefIdeal.τ).loc Cert.DownDx3RefIdeal.main_arg2) = m' ((c.tc : Thread Cert.DownDx3RefIdeal.nD Cert.DownDx3RefIdeal.τ).loc Cert.DownDx3RefIdeal.main_arg2))

def preserves_Up1_Up1Ideal : Prop :=
  True

def algebraic_Up1Ideal_Up1RefIdeal [hUp1Ideal : Cert.Up1Ideal.Facts] [hUp1RefIdeal : Cert.Up1RefIdeal.Facts] : Prop :=
  ∀ (m : (ℓ : Loc Cert.Up1Ideal.nD Cert.Up1Ideal.τ Cert.Up1Ideal.sig) → Buf (Elt Ideal) ℓ) (g : Dev Cert.Up1Ideal.nD → PrngReg)
    (m' : (ℓ : Loc Cert.Up1RefIdeal.nD Cert.Up1RefIdeal.τ Cert.Up1RefIdeal.sig) → Buf (Elt Ideal) ℓ) (g' : Dev Cert.Up1RefIdeal.nD → PrngReg), Pre_Up1Ideal m →
    (∀ c : Dev Cert.Up1Ideal.nD,
      m' ((c.tc : Thread Cert.Up1RefIdeal.nD Cert.Up1RefIdeal.τ).loc Cert.Up1RefIdeal.main_arg0) = m ((c.tc : Thread Cert.Up1Ideal.nD Cert.Up1Ideal.τ).loc Cert.Up1Ideal.main_arg0)
      ∧ m' ((c.tc : Thread Cert.Up1RefIdeal.nD Cert.Up1RefIdeal.τ).loc Cert.Up1RefIdeal.main_arg1) = m ((c.tc : Thread Cert.Up1Ideal.nD Cert.Up1Ideal.τ).loc Cert.Up1Ideal.main_arg1)) →
    ∃ (v0 : (c : Dev Cert.Up1Ideal.nD) → Buf (Elt Ideal) ((c.tc : Thread Cert.Up1Ideal.nD Cert.Up1Ideal.τ).loc Cert.Up1Ideal.main_v5)),
      θ_run (Cert.Up1Ideal.defs (F := Ideal)) (onTc (τ := Cert.Up1Ideal.τ) (Cert.Up1Ideal.main (F := Ideal))) ⟨m, fun _ => 0, g⟩ (fun r => ∀ c : Dev Cert.Up1Ideal.nD,
          r.2.mem ((c.tc : Thread Cert.Up1Ideal.nD Cert.Up1Ideal.τ).loc Cert.Up1Ideal.main_v5) = v0 c
          ∧ r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
          ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ θ_run (Cert.Up1RefIdeal.defs (F := Ideal)) (onTc (τ := Cert.Up1RefIdeal.τ) (Cert.Up1RefIdeal.main (F := Ideal))) ⟨m', fun _ => 0, g'⟩ (fun r => ∀ c : Dev Cert.Up1RefIdeal.nD,
          r.2.mem ((c.tc : Thread Cert.Up1RefIdeal.nD Cert.Up1RefIdeal.τ).loc Cert.Up1RefIdeal.main_v4) = v0 c
          ∧ r.2.mem ((c.tc : Thread Cert.Up1RefIdeal.nD Cert.Up1RefIdeal.τ).loc Cert.Up1RefIdeal.main_arg0) = m' ((c.tc : Thread Cert.Up1RefIdeal.nD Cert.Up1RefIdeal.τ).loc Cert.Up1RefIdeal.main_arg0)
          ∧ r.2.mem ((c.tc : Thread Cert.Up1RefIdeal.nD Cert.Up1RefIdeal.τ).loc Cert.Up1RefIdeal.main_arg1) = m' ((c.tc : Thread Cert.Up1RefIdeal.nD Cert.Up1RefIdeal.τ).loc Cert.Up1RefIdeal.main_arg1))

def preserves_Up2_Up2Ideal : Prop :=
  True

def algebraic_Up2Ideal_Up2RefIdeal [hUp2Ideal : Cert.Up2Ideal.Facts] [hUp2RefIdeal : Cert.Up2RefIdeal.Facts] : Prop :=
  ∀ (m : (ℓ : Loc Cert.Up2Ideal.nD Cert.Up2Ideal.τ Cert.Up2Ideal.sig) → Buf (Elt Ideal) ℓ) (g : Dev Cert.Up2Ideal.nD → PrngReg)
    (m' : (ℓ : Loc Cert.Up2RefIdeal.nD Cert.Up2RefIdeal.τ Cert.Up2RefIdeal.sig) → Buf (Elt Ideal) ℓ) (g' : Dev Cert.Up2RefIdeal.nD → PrngReg), Pre_Up2Ideal m →
    (∀ c : Dev Cert.Up2Ideal.nD,
      m' ((c.tc : Thread Cert.Up2RefIdeal.nD Cert.Up2RefIdeal.τ).loc Cert.Up2RefIdeal.main_arg0) = m ((c.tc : Thread Cert.Up2Ideal.nD Cert.Up2Ideal.τ).loc Cert.Up2Ideal.main_arg0)
      ∧ m' ((c.tc : Thread Cert.Up2RefIdeal.nD Cert.Up2RefIdeal.τ).loc Cert.Up2RefIdeal.main_arg1) = m ((c.tc : Thread Cert.Up2Ideal.nD Cert.Up2Ideal.τ).loc Cert.Up2Ideal.main_arg1)) →
    ∃ (v0 : (c : Dev Cert.Up2Ideal.nD) → Buf (Elt Ideal) ((c.tc : Thread Cert.Up2Ideal.nD Cert.Up2Ideal.τ).loc Cert.Up2Ideal.main_v5)),
      θ_run (Cert.Up2Ideal.defs (F := Ideal)) (onTc (τ := Cert.Up2Ideal.τ) (Cert.Up2Ideal.main (F := Ideal))) ⟨m, fun _ => 0, g⟩ (fun r => ∀ c : Dev Cert.Up2Ideal.nD,
          r.2.mem ((c.tc : Thread Cert.Up2Ideal.nD Cert.Up2Ideal.τ).loc Cert.Up2Ideal.main_v5) = v0 c
          ∧ r.2.mem ((c.tc : Thread Cert.Up2Ideal.nD Cert.Up2Ideal.τ).loc Cert.Up2Ideal.main_arg0) = m ((c.tc : Thread Cert.Up2Ideal.nD Cert.Up2Ideal.τ).loc Cert.Up2Ideal.main_arg0)
          ∧ r.2.mem ((c.tc : Thread Cert.Up2Ideal.nD Cert.Up2Ideal.τ).loc Cert.Up2Ideal.main_arg1) = m ((c.tc : Thread Cert.Up2Ideal.nD Cert.Up2Ideal.τ).loc Cert.Up2Ideal.main_arg1))
      ∧ θ_run (Cert.Up2RefIdeal.defs (F := Ideal)) (onTc (τ := Cert.Up2RefIdeal.τ) (Cert.Up2RefIdeal.main (F := Ideal))) ⟨m', fun _ => 0, g'⟩ (fun r => ∀ c : Dev Cert.Up2RefIdeal.nD,
          r.2.mem ((c.tc : Thread Cert.Up2RefIdeal.nD Cert.Up2RefIdeal.τ).loc Cert.Up2RefIdeal.main_v4) = v0 c
          ∧ r.2.mem ((c.tc : Thread Cert.Up2RefIdeal.nD Cert.Up2RefIdeal.τ).loc Cert.Up2RefIdeal.main_arg0) = m' ((c.tc : Thread Cert.Up2RefIdeal.nD Cert.Up2RefIdeal.τ).loc Cert.Up2RefIdeal.main_arg0)
          ∧ r.2.mem ((c.tc : Thread Cert.Up2RefIdeal.nD Cert.Up2RefIdeal.τ).loc Cert.Up2RefIdeal.main_arg1) = m' ((c.tc : Thread Cert.Up2RefIdeal.nD Cert.Up2RefIdeal.τ).loc Cert.Up2RefIdeal.main_arg1))

def preserves_Up3_Up3Ideal : Prop :=
  True

def algebraic_Up3Ideal_Up3RefIdeal [hUp3Ideal : Cert.Up3Ideal.Facts] [hUp3RefIdeal : Cert.Up3RefIdeal.Facts] : Prop :=
  ∀ (m : (ℓ : Loc Cert.Up3Ideal.nD Cert.Up3Ideal.τ Cert.Up3Ideal.sig) → Buf (Elt Ideal) ℓ) (g : Dev Cert.Up3Ideal.nD → PrngReg)
    (m' : (ℓ : Loc Cert.Up3RefIdeal.nD Cert.Up3RefIdeal.τ Cert.Up3RefIdeal.sig) → Buf (Elt Ideal) ℓ) (g' : Dev Cert.Up3RefIdeal.nD → PrngReg), Pre_Up3Ideal m →
    (∀ c : Dev Cert.Up3Ideal.nD,
      m' ((c.tc : Thread Cert.Up3RefIdeal.nD Cert.Up3RefIdeal.τ).loc Cert.Up3RefIdeal.main_arg0) = m ((c.tc : Thread Cert.Up3Ideal.nD Cert.Up3Ideal.τ).loc Cert.Up3Ideal.main_arg0)
      ∧ m' ((c.tc : Thread Cert.Up3RefIdeal.nD Cert.Up3RefIdeal.τ).loc Cert.Up3RefIdeal.main_arg1) = m ((c.tc : Thread Cert.Up3Ideal.nD Cert.Up3Ideal.τ).loc Cert.Up3Ideal.main_arg1)) →
    ∃ (v0 : (c : Dev Cert.Up3Ideal.nD) → Buf (Elt Ideal) ((c.tc : Thread Cert.Up3Ideal.nD Cert.Up3Ideal.τ).loc Cert.Up3Ideal.main_v5)),
      θ_run (Cert.Up3Ideal.defs (F := Ideal)) (onTc (τ := Cert.Up3Ideal.τ) (Cert.Up3Ideal.main (F := Ideal))) ⟨m, fun _ => 0, g⟩ (fun r => ∀ c : Dev Cert.Up3Ideal.nD,
          r.2.mem ((c.tc : Thread Cert.Up3Ideal.nD Cert.Up3Ideal.τ).loc Cert.Up3Ideal.main_v5) = v0 c
          ∧ r.2.mem ((c.tc : Thread Cert.Up3Ideal.nD Cert.Up3Ideal.τ).loc Cert.Up3Ideal.main_arg0) = m ((c.tc : Thread Cert.Up3Ideal.nD Cert.Up3Ideal.τ).loc Cert.Up3Ideal.main_arg0)
          ∧ r.2.mem ((c.tc : Thread Cert.Up3Ideal.nD Cert.Up3Ideal.τ).loc Cert.Up3Ideal.main_arg1) = m ((c.tc : Thread Cert.Up3Ideal.nD Cert.Up3Ideal.τ).loc Cert.Up3Ideal.main_arg1))
      ∧ θ_run (Cert.Up3RefIdeal.defs (F := Ideal)) (onTc (τ := Cert.Up3RefIdeal.τ) (Cert.Up3RefIdeal.main (F := Ideal))) ⟨m', fun _ => 0, g'⟩ (fun r => ∀ c : Dev Cert.Up3RefIdeal.nD,
          r.2.mem ((c.tc : Thread Cert.Up3RefIdeal.nD Cert.Up3RefIdeal.τ).loc Cert.Up3RefIdeal.main_v4) = v0 c
          ∧ r.2.mem ((c.tc : Thread Cert.Up3RefIdeal.nD Cert.Up3RefIdeal.τ).loc Cert.Up3RefIdeal.main_arg0) = m' ((c.tc : Thread Cert.Up3RefIdeal.nD Cert.Up3RefIdeal.τ).loc Cert.Up3RefIdeal.main_arg0)
          ∧ r.2.mem ((c.tc : Thread Cert.Up3RefIdeal.nD Cert.Up3RefIdeal.τ).loc Cert.Up3RefIdeal.main_arg1) = m' ((c.tc : Thread Cert.Up3RefIdeal.nD Cert.Up3RefIdeal.τ).loc Cert.Up3RefIdeal.main_arg1))

def preserves_UpDx1_UpDx1Ideal : Prop :=
  True

def algebraic_UpDx1Ideal_UpDx1RefIdeal [hUpDx1Ideal : Cert.UpDx1Ideal.Facts] [hUpDx1RefIdeal : Cert.UpDx1RefIdeal.Facts] : Prop :=
  ∀ (m : (ℓ : Loc Cert.UpDx1Ideal.nD Cert.UpDx1Ideal.τ Cert.UpDx1Ideal.sig) → Buf (Elt Ideal) ℓ) (g : Dev Cert.UpDx1Ideal.nD → PrngReg)
    (m' : (ℓ : Loc Cert.UpDx1RefIdeal.nD Cert.UpDx1RefIdeal.τ Cert.UpDx1RefIdeal.sig) → Buf (Elt Ideal) ℓ) (g' : Dev Cert.UpDx1RefIdeal.nD → PrngReg), Pre_UpDx1Ideal m →
    (∀ c : Dev Cert.UpDx1Ideal.nD,
      m' ((c.tc : Thread Cert.UpDx1RefIdeal.nD Cert.UpDx1RefIdeal.τ).loc Cert.UpDx1RefIdeal.main_arg0) = m ((c.tc : Thread Cert.UpDx1Ideal.nD Cert.UpDx1Ideal.τ).loc Cert.UpDx1Ideal.main_arg0)
      ∧ m' ((c.tc : Thread Cert.UpDx1RefIdeal.nD Cert.UpDx1RefIdeal.τ).loc Cert.UpDx1RefIdeal.main_arg1) = m ((c.tc : Thread Cert.UpDx1Ideal.nD Cert.UpDx1Ideal.τ).loc Cert.UpDx1Ideal.main_arg1)
      ∧ m' ((c.tc : Thread Cert.UpDx1RefIdeal.nD Cert.UpDx1RefIdeal.τ).loc Cert.UpDx1RefIdeal.main_arg2) = m ((c.tc : Thread Cert.UpDx1Ideal.nD Cert.UpDx1Ideal.τ).loc Cert.UpDx1Ideal.main_arg2)) →
    ∃ (v0 : (c : Dev Cert.UpDx1Ideal.nD) → Buf (Elt Ideal) ((c.tc : Thread Cert.UpDx1Ideal.nD Cert.UpDx1Ideal.τ).loc Cert.UpDx1Ideal.main_v5)),
      θ_run (Cert.UpDx1Ideal.defs (F := Ideal)) (onTc (τ := Cert.UpDx1Ideal.τ) (Cert.UpDx1Ideal.main (F := Ideal))) ⟨m, fun _ => 0, g⟩ (fun r => ∀ c : Dev Cert.UpDx1Ideal.nD,
          r.2.mem ((c.tc : Thread Cert.UpDx1Ideal.nD Cert.UpDx1Ideal.τ).loc Cert.UpDx1Ideal.main_v5) = v0 c
          ∧ r.2.mem ((c.tc : Thread Cert.UpDx1Ideal.nD Cert.UpDx1Ideal.τ).loc Cert.UpDx1Ideal.main_arg0) = m ((c.tc : Thread Cert.UpDx1Ideal.nD Cert.UpDx1Ideal.τ).loc Cert.UpDx1Ideal.main_arg0)
          ∧ r.2.mem ((c.tc : Thread Cert.UpDx1Ideal.nD Cert.UpDx1Ideal.τ).loc Cert.UpDx1Ideal.main_arg1) = m ((c.tc : Thread Cert.UpDx1Ideal.nD Cert.UpDx1Ideal.τ).loc Cert.UpDx1Ideal.main_arg1)
          ∧ r.2.mem ((c.tc : Thread Cert.UpDx1Ideal.nD Cert.UpDx1Ideal.τ).loc Cert.UpDx1Ideal.main_arg2) = m ((c.tc : Thread Cert.UpDx1Ideal.nD Cert.UpDx1Ideal.τ).loc Cert.UpDx1Ideal.main_arg2))
      ∧ θ_run (Cert.UpDx1RefIdeal.defs (F := Ideal)) (onTc (τ := Cert.UpDx1RefIdeal.τ) (Cert.UpDx1RefIdeal.main (F := Ideal))) ⟨m', fun _ => 0, g'⟩ (fun r => ∀ c : Dev Cert.UpDx1RefIdeal.nD,
          r.2.mem ((c.tc : Thread Cert.UpDx1RefIdeal.nD Cert.UpDx1RefIdeal.τ).loc Cert.UpDx1RefIdeal.main_v6) = v0 c
          ∧ r.2.mem ((c.tc : Thread Cert.UpDx1RefIdeal.nD Cert.UpDx1RefIdeal.τ).loc Cert.UpDx1RefIdeal.main_arg0) = m' ((c.tc : Thread Cert.UpDx1RefIdeal.nD Cert.UpDx1RefIdeal.τ).loc Cert.UpDx1RefIdeal.main_arg0)
          ∧ r.2.mem ((c.tc : Thread Cert.UpDx1RefIdeal.nD Cert.UpDx1RefIdeal.τ).loc Cert.UpDx1RefIdeal.main_arg1) = m' ((c.tc : Thread Cert.UpDx1RefIdeal.nD Cert.UpDx1RefIdeal.τ).loc Cert.UpDx1RefIdeal.main_arg1)
          ∧ r.2.mem ((c.tc : Thread Cert.UpDx1RefIdeal.nD Cert.UpDx1RefIdeal.τ).loc Cert.UpDx1RefIdeal.main_arg2) = m' ((c.tc : Thread Cert.UpDx1RefIdeal.nD Cert.UpDx1RefIdeal.τ).loc Cert.UpDx1RefIdeal.main_arg2))

def preserves_UpDx2_UpDx2Ideal : Prop :=
  True

def algebraic_UpDx2Ideal_UpDx2RefIdeal [hUpDx2Ideal : Cert.UpDx2Ideal.Facts] [hUpDx2RefIdeal : Cert.UpDx2RefIdeal.Facts] : Prop :=
  ∀ (m : (ℓ : Loc Cert.UpDx2Ideal.nD Cert.UpDx2Ideal.τ Cert.UpDx2Ideal.sig) → Buf (Elt Ideal) ℓ) (g : Dev Cert.UpDx2Ideal.nD → PrngReg)
    (m' : (ℓ : Loc Cert.UpDx2RefIdeal.nD Cert.UpDx2RefIdeal.τ Cert.UpDx2RefIdeal.sig) → Buf (Elt Ideal) ℓ) (g' : Dev Cert.UpDx2RefIdeal.nD → PrngReg), Pre_UpDx2Ideal m →
    (∀ c : Dev Cert.UpDx2Ideal.nD,
      m' ((c.tc : Thread Cert.UpDx2RefIdeal.nD Cert.UpDx2RefIdeal.τ).loc Cert.UpDx2RefIdeal.main_arg0) = m ((c.tc : Thread Cert.UpDx2Ideal.nD Cert.UpDx2Ideal.τ).loc Cert.UpDx2Ideal.main_arg0)
      ∧ m' ((c.tc : Thread Cert.UpDx2RefIdeal.nD Cert.UpDx2RefIdeal.τ).loc Cert.UpDx2RefIdeal.main_arg1) = m ((c.tc : Thread Cert.UpDx2Ideal.nD Cert.UpDx2Ideal.τ).loc Cert.UpDx2Ideal.main_arg1)
      ∧ m' ((c.tc : Thread Cert.UpDx2RefIdeal.nD Cert.UpDx2RefIdeal.τ).loc Cert.UpDx2RefIdeal.main_arg2) = m ((c.tc : Thread Cert.UpDx2Ideal.nD Cert.UpDx2Ideal.τ).loc Cert.UpDx2Ideal.main_arg2)) →
    ∃ (v0 : (c : Dev Cert.UpDx2Ideal.nD) → Buf (Elt Ideal) ((c.tc : Thread Cert.UpDx2Ideal.nD Cert.UpDx2Ideal.τ).loc Cert.UpDx2Ideal.main_v5)),
      θ_run (Cert.UpDx2Ideal.defs (F := Ideal)) (onTc (τ := Cert.UpDx2Ideal.τ) (Cert.UpDx2Ideal.main (F := Ideal))) ⟨m, fun _ => 0, g⟩ (fun r => ∀ c : Dev Cert.UpDx2Ideal.nD,
          r.2.mem ((c.tc : Thread Cert.UpDx2Ideal.nD Cert.UpDx2Ideal.τ).loc Cert.UpDx2Ideal.main_v5) = v0 c
          ∧ r.2.mem ((c.tc : Thread Cert.UpDx2Ideal.nD Cert.UpDx2Ideal.τ).loc Cert.UpDx2Ideal.main_arg0) = m ((c.tc : Thread Cert.UpDx2Ideal.nD Cert.UpDx2Ideal.τ).loc Cert.UpDx2Ideal.main_arg0)
          ∧ r.2.mem ((c.tc : Thread Cert.UpDx2Ideal.nD Cert.UpDx2Ideal.τ).loc Cert.UpDx2Ideal.main_arg1) = m ((c.tc : Thread Cert.UpDx2Ideal.nD Cert.UpDx2Ideal.τ).loc Cert.UpDx2Ideal.main_arg1)
          ∧ r.2.mem ((c.tc : Thread Cert.UpDx2Ideal.nD Cert.UpDx2Ideal.τ).loc Cert.UpDx2Ideal.main_arg2) = m ((c.tc : Thread Cert.UpDx2Ideal.nD Cert.UpDx2Ideal.τ).loc Cert.UpDx2Ideal.main_arg2))
      ∧ θ_run (Cert.UpDx2RefIdeal.defs (F := Ideal)) (onTc (τ := Cert.UpDx2RefIdeal.τ) (Cert.UpDx2RefIdeal.main (F := Ideal))) ⟨m', fun _ => 0, g'⟩ (fun r => ∀ c : Dev Cert.UpDx2RefIdeal.nD,
          r.2.mem ((c.tc : Thread Cert.UpDx2RefIdeal.nD Cert.UpDx2RefIdeal.τ).loc Cert.UpDx2RefIdeal.main_v6) = v0 c
          ∧ r.2.mem ((c.tc : Thread Cert.UpDx2RefIdeal.nD Cert.UpDx2RefIdeal.τ).loc Cert.UpDx2RefIdeal.main_arg0) = m' ((c.tc : Thread Cert.UpDx2RefIdeal.nD Cert.UpDx2RefIdeal.τ).loc Cert.UpDx2RefIdeal.main_arg0)
          ∧ r.2.mem ((c.tc : Thread Cert.UpDx2RefIdeal.nD Cert.UpDx2RefIdeal.τ).loc Cert.UpDx2RefIdeal.main_arg1) = m' ((c.tc : Thread Cert.UpDx2RefIdeal.nD Cert.UpDx2RefIdeal.τ).loc Cert.UpDx2RefIdeal.main_arg1)
          ∧ r.2.mem ((c.tc : Thread Cert.UpDx2RefIdeal.nD Cert.UpDx2RefIdeal.τ).loc Cert.UpDx2RefIdeal.main_arg2) = m' ((c.tc : Thread Cert.UpDx2RefIdeal.nD Cert.UpDx2RefIdeal.τ).loc Cert.UpDx2RefIdeal.main_arg2))

def preserves_UpDx3_UpDx3Ideal : Prop :=
  True

def algebraic_UpDx3Ideal_UpDx3RefIdeal [hUpDx3Ideal : Cert.UpDx3Ideal.Facts] [hUpDx3RefIdeal : Cert.UpDx3RefIdeal.Facts] : Prop :=
  ∀ (m : (ℓ : Loc Cert.UpDx3Ideal.nD Cert.UpDx3Ideal.τ Cert.UpDx3Ideal.sig) → Buf (Elt Ideal) ℓ) (g : Dev Cert.UpDx3Ideal.nD → PrngReg)
    (m' : (ℓ : Loc Cert.UpDx3RefIdeal.nD Cert.UpDx3RefIdeal.τ Cert.UpDx3RefIdeal.sig) → Buf (Elt Ideal) ℓ) (g' : Dev Cert.UpDx3RefIdeal.nD → PrngReg), Pre_UpDx3Ideal m →
    (∀ c : Dev Cert.UpDx3Ideal.nD,
      m' ((c.tc : Thread Cert.UpDx3RefIdeal.nD Cert.UpDx3RefIdeal.τ).loc Cert.UpDx3RefIdeal.main_arg0) = m ((c.tc : Thread Cert.UpDx3Ideal.nD Cert.UpDx3Ideal.τ).loc Cert.UpDx3Ideal.main_arg0)
      ∧ m' ((c.tc : Thread Cert.UpDx3RefIdeal.nD Cert.UpDx3RefIdeal.τ).loc Cert.UpDx3RefIdeal.main_arg1) = m ((c.tc : Thread Cert.UpDx3Ideal.nD Cert.UpDx3Ideal.τ).loc Cert.UpDx3Ideal.main_arg1)
      ∧ m' ((c.tc : Thread Cert.UpDx3RefIdeal.nD Cert.UpDx3RefIdeal.τ).loc Cert.UpDx3RefIdeal.main_arg2) = m ((c.tc : Thread Cert.UpDx3Ideal.nD Cert.UpDx3Ideal.τ).loc Cert.UpDx3Ideal.main_arg2)) →
    ∃ (v0 : (c : Dev Cert.UpDx3Ideal.nD) → Buf (Elt Ideal) ((c.tc : Thread Cert.UpDx3Ideal.nD Cert.UpDx3Ideal.τ).loc Cert.UpDx3Ideal.main_v5)),
      θ_run (Cert.UpDx3Ideal.defs (F := Ideal)) (onTc (τ := Cert.UpDx3Ideal.τ) (Cert.UpDx3Ideal.main (F := Ideal))) ⟨m, fun _ => 0, g⟩ (fun r => ∀ c : Dev Cert.UpDx3Ideal.nD,
          r.2.mem ((c.tc : Thread Cert.UpDx3Ideal.nD Cert.UpDx3Ideal.τ).loc Cert.UpDx3Ideal.main_v5) = v0 c
          ∧ r.2.mem ((c.tc : Thread Cert.UpDx3Ideal.nD Cert.UpDx3Ideal.τ).loc Cert.UpDx3Ideal.main_arg0) = m ((c.tc : Thread Cert.UpDx3Ideal.nD Cert.UpDx3Ideal.τ).loc Cert.UpDx3Ideal.main_arg0)
          ∧ r.2.mem ((c.tc : Thread Cert.UpDx3Ideal.nD Cert.UpDx3Ideal.τ).loc Cert.UpDx3Ideal.main_arg1) = m ((c.tc : Thread Cert.UpDx3Ideal.nD Cert.UpDx3Ideal.τ).loc Cert.UpDx3Ideal.main_arg1)
          ∧ r.2.mem ((c.tc : Thread Cert.UpDx3Ideal.nD Cert.UpDx3Ideal.τ).loc Cert.UpDx3Ideal.main_arg2) = m ((c.tc : Thread Cert.UpDx3Ideal.nD Cert.UpDx3Ideal.τ).loc Cert.UpDx3Ideal.main_arg2))
      ∧ θ_run (Cert.UpDx3RefIdeal.defs (F := Ideal)) (onTc (τ := Cert.UpDx3RefIdeal.τ) (Cert.UpDx3RefIdeal.main (F := Ideal))) ⟨m', fun _ => 0, g'⟩ (fun r => ∀ c : Dev Cert.UpDx3RefIdeal.nD,
          r.2.mem ((c.tc : Thread Cert.UpDx3RefIdeal.nD Cert.UpDx3RefIdeal.τ).loc Cert.UpDx3RefIdeal.main_v6) = v0 c
          ∧ r.2.mem ((c.tc : Thread Cert.UpDx3RefIdeal.nD Cert.UpDx3RefIdeal.τ).loc Cert.UpDx3RefIdeal.main_arg0) = m' ((c.tc : Thread Cert.UpDx3RefIdeal.nD Cert.UpDx3RefIdeal.τ).loc Cert.UpDx3RefIdeal.main_arg0)
          ∧ r.2.mem ((c.tc : Thread Cert.UpDx3RefIdeal.nD Cert.UpDx3RefIdeal.τ).loc Cert.UpDx3RefIdeal.main_arg1) = m' ((c.tc : Thread Cert.UpDx3RefIdeal.nD Cert.UpDx3RefIdeal.τ).loc Cert.UpDx3RefIdeal.main_arg1)
          ∧ r.2.mem ((c.tc : Thread Cert.UpDx3RefIdeal.nD Cert.UpDx3RefIdeal.τ).loc Cert.UpDx3RefIdeal.main_arg2) = m' ((c.tc : Thread Cert.UpDx3RefIdeal.nD Cert.UpDx3RefIdeal.τ).loc Cert.UpDx3RefIdeal.main_arg2))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v4_0)) (v1 : (c : Dev Cert.AdamModIdeal.nD) → Buf (Elt Ideal) ((c.tc : Thread Cert.AdamModIdeal.nD Cert.AdamModIdeal.τ).loc Cert.AdamModIdeal.main_v4_1)) (v2 : (c : Dev Cert.AdamModIdeal.nD) → Buf (Elt Ideal) ((c.tc : Thread Cert.AdamModIdeal.nD Cert.AdamModIdeal.τ).loc Cert.AdamModIdeal.main_v4_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v4_0) = v0 c
          ∧ r.2.mem ((c.tc : Thread Cert.AdamModIdeal.nD Cert.AdamModIdeal.τ).loc Cert.AdamModIdeal.main_v4_1) = v1 c
          ∧ r.2.mem ((c.tc : Thread Cert.AdamModIdeal.nD Cert.AdamModIdeal.τ).loc Cert.AdamModIdeal.main_v4_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v24) = v0 c
          ∧ r.2.mem ((c.tc : Thread Cert.AdamModRefIdeal.nD Cert.AdamModRefIdeal.τ).loc Cert.AdamModRefIdeal.main_v25) = v1 c
          ∧ r.2.mem ((c.tc : Thread Cert.AdamModRefIdeal.nD Cert.AdamModRefIdeal.τ).loc Cert.AdamModRefIdeal.main_v26) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamScIn_AdamScInIdeal : Prop :=
  True

def algebraic_AdamScInIdeal_AdamScInRefIdeal [hAdamScInIdeal : Cert.AdamScInIdeal.Facts] [hAdamScInRefIdeal : Cert.AdamScInRefIdeal.Facts] : Prop :=
  ∀ (m : (ℓ : Loc Cert.AdamScInIdeal.nD Cert.AdamScInIdeal.τ Cert.AdamScInIdeal.sig) → Buf (Elt Ideal) ℓ) (g : Dev Cert.AdamScInIdeal.nD → PrngReg)
    (m' : (ℓ : Loc Cert.AdamScInRefIdeal.nD Cert.AdamScInRefIdeal.τ Cert.AdamScInRefIdeal.sig) → Buf (Elt Ideal) ℓ) (g' : Dev Cert.AdamScInRefIdeal.nD → PrngReg), Pre_AdamScInIdeal m →
    (∀ c : Dev Cert.AdamScInIdeal.nD,
      m' ((c.tc : Thread Cert.AdamScInRefIdeal.nD Cert.AdamScInRefIdeal.τ).loc Cert.AdamScInRefIdeal.main_arg0) = m ((c.tc : Thread Cert.AdamScInIdeal.nD Cert.AdamScInIdeal.τ).loc Cert.AdamScInIdeal.main_arg0)
      ∧ m' ((c.tc : Thread Cert.AdamScInRefIdeal.nD Cert.AdamScInRefIdeal.τ).loc Cert.AdamScInRefIdeal.main_arg1) = m ((c.tc : Thread Cert.AdamScInIdeal.nD Cert.AdamScInIdeal.τ).loc Cert.AdamScInIdeal.main_arg1)
      ∧ m' ((c.tc : Thread Cert.AdamScInRefIdeal.nD Cert.AdamScInRefIdeal.τ).loc Cert.AdamScInRefIdeal.main_arg2) = m ((c.tc : Thread Cert.AdamScInIdeal.nD Cert.AdamScInIdeal.τ).loc Cert.AdamScInIdeal.main_arg2)
      ∧ m' ((c.tc : Thread Cert.AdamScInRefIdeal.nD Cert.AdamScInRefIdeal.τ).loc Cert.AdamScInRefIdeal.main_arg3) = m ((c.tc : Thread Cert.AdamScInIdeal.nD Cert.AdamScInIdeal.τ).loc Cert.AdamScInIdeal.main_arg3)) →
    ∃ (v0 : (c : Dev Cert.AdamScInIdeal.nD) → Buf (Elt Ideal) ((c.tc : Thread Cert.AdamScInIdeal.nD Cert.AdamScInIdeal.τ).loc Cert.AdamScInIdeal.main_v4_0)) (v1 : (c : Dev Cert.AdamScInIdeal.nD) → Buf (Elt Ideal) ((c.tc : Thread Cert.AdamScInIdeal.nD Cert.AdamScInIdeal.τ).loc Cert.AdamScInIdeal.main_v4_1)) (v2 : (c : Dev Cert.AdamScInIdeal.nD) → Buf (Elt Ideal) ((c.tc : Thread Cert.AdamScInIdeal.nD Cert.AdamScInIdeal.τ).loc Cert.AdamScInIdeal.main_v4_2)),
      θ_run (Cert.AdamScInIdeal.defs (F := Ideal)) (onTc (τ := Cert.AdamScInIdeal.τ) (Cert.AdamScInIdeal.main (F := Ideal))) ⟨m, fun _ => 0, g⟩ (fun r => ∀ c : Dev Cert.AdamScInIdeal.nD,
          r.2.mem ((c.tc : Thread Cert.AdamScInIdeal.nD Cert.AdamScInIdeal.τ).loc Cert.AdamScInIdeal.main_v4_0) = v0 c
          ∧ r.2.mem ((c.tc : Thread Cert.AdamScInIdeal.nD Cert.AdamScInIdeal.τ).loc Cert.AdamScInIdeal.main_v4_1) = v1 c
          ∧ r.2.mem ((c.tc : Thread Cert.AdamScInIdeal.nD Cert.AdamScInIdeal.τ).loc Cert.AdamScInIdeal.main_v4_2) = v2 c
          ∧ r.2.mem ((c.tc : Thread Cert.AdamScInIdeal.nD Cert.AdamScInIdeal.τ).loc Cert.AdamScInIdeal.main_arg0) = m ((c.tc : Thread Cert.AdamScInIdeal.nD Cert.AdamScInIdeal.τ).loc Cert.AdamScInIdeal.main_arg0)
          ∧ r.2.mem ((c.tc : Thread Cert.AdamScInIdeal.nD Cert.AdamScInIdeal.τ).loc Cert.AdamScInIdeal.main_arg1) = m ((c.tc : Thread Cert.AdamScInIdeal.nD Cert.AdamScInIdeal.τ).loc Cert.AdamScInIdeal.main_arg1)
          ∧ r.2.mem ((c.tc : Thread Cert.AdamScInIdeal.nD Cert.AdamScInIdeal.τ).loc Cert.AdamScInIdeal.main_arg2) = m ((c.tc : Thread Cert.AdamScInIdeal.nD Cert.AdamScInIdeal.τ).loc Cert.AdamScInIdeal.main_arg2)
          ∧ r.2.mem ((c.tc : Thread Cert.AdamScInIdeal.nD Cert.AdamScInIdeal.τ).loc Cert.AdamScInIdeal.main_arg3) = m ((c.tc : Thread Cert.AdamScInIdeal.nD Cert.AdamScInIdeal.τ).loc Cert.AdamScInIdeal.main_arg3))
      ∧ θ_run (Cert.AdamScInRefIdeal.defs (F := Ideal)) (onTc (τ := Cert.AdamScInRefIdeal.τ) (Cert.AdamScInRefIdeal.main (F := Ideal))) ⟨m', fun _ => 0, g'⟩ (fun r => ∀ c : Dev Cert.AdamScInRefIdeal.nD,
          r.2.mem ((c.tc : Thread Cert.AdamScInRefIdeal.nD Cert.AdamScInRefIdeal.τ).loc Cert.AdamScInRefIdeal.main_v24) = v0 c
          ∧ r.2.mem ((c.tc : Thread Cert.AdamScInRefIdeal.nD Cert.AdamScInRefIdeal.τ).loc Cert.AdamScInRefIdeal.main_v25) = v1 c
          ∧ r.2.mem ((c.tc : Thread Cert.AdamScInRefIdeal.nD Cert.AdamScInRefIdeal.τ).loc Cert.AdamScInRefIdeal.main_v26) = v2 c
          ∧ r.2.mem ((c.tc : Thread Cert.AdamScInRefIdeal.nD Cert.AdamScInRefIdeal.τ).loc Cert.AdamScInRefIdeal.main_arg0) = m' ((c.tc : Thread Cert.AdamScInRefIdeal.nD Cert.AdamScInRefIdeal.τ).loc Cert.AdamScInRefIdeal.main_arg0)
          ∧ r.2.mem ((c.tc : Thread Cert.AdamScInRefIdeal.nD Cert.AdamScInRefIdeal.τ).loc Cert.AdamScInRefIdeal.main_arg1) = m' ((c.tc : Thread Cert.AdamScInRefIdeal.nD Cert.AdamScInRefIdeal.τ).loc Cert.AdamScInRefIdeal.main_arg1)
          ∧ r.2.mem ((c.tc : Thread Cert.AdamScInRefIdeal.nD Cert.AdamScInRefIdeal.τ).loc Cert.AdamScInRefIdeal.main_arg2) = m' ((c.tc : Thread Cert.AdamScInRefIdeal.nD Cert.AdamScInRefIdeal.τ).loc Cert.AdamScInRefIdeal.main_arg2)
          ∧ r.2.mem ((c.tc : Thread Cert.AdamScInRefIdeal.nD Cert.AdamScInRefIdeal.τ).loc Cert.AdamScInRefIdeal.main_arg3) = m' ((c.tc : Thread Cert.AdamScInRefIdeal.nD Cert.AdamScInRefIdeal.τ).loc Cert.AdamScInRefIdeal.main_arg3))

def preserves_AdamScOut_AdamScOutIdeal : Prop :=
  True

def algebraic_AdamScOutIdeal_AdamScOutRefIdeal [hAdamScOutIdeal : Cert.AdamScOutIdeal.Facts] [hAdamScOutRefIdeal : Cert.AdamScOutRefIdeal.Facts] : Prop :=
  ∀ (m : (ℓ : Loc Cert.AdamScOutIdeal.nD Cert.AdamScOutIdeal.τ Cert.AdamScOutIdeal.sig) → Buf (Elt Ideal) ℓ) (g : Dev Cert.AdamScOutIdeal.nD → PrngReg)
    (m' : (ℓ : Loc Cert.AdamScOutRefIdeal.nD Cert.AdamScOutRefIdeal.τ Cert.AdamScOutRefIdeal.sig) → Buf (Elt Ideal) ℓ) (g' : Dev Cert.AdamScOutRefIdeal.nD → PrngReg), Pre_AdamScOutIdeal m →
    (∀ c : Dev Cert.AdamScOutIdeal.nD,
      m' ((c.tc : Thread Cert.AdamScOutRefIdeal.nD Cert.AdamScOutRefIdeal.τ).loc Cert.AdamScOutRefIdeal.main_arg0) = m ((c.tc : Thread Cert.AdamScOutIdeal.nD Cert.AdamScOutIdeal.τ).loc Cert.AdamScOutIdeal.main_arg0)
      ∧ m' ((c.tc : Thread Cert.AdamScOutRefIdeal.nD Cert.AdamScOutRefIdeal.τ).loc Cert.AdamScOutRefIdeal.main_arg1) = m ((c.tc : Thread Cert.AdamScOutIdeal.nD Cert.AdamScOutIdeal.τ).loc Cert.AdamScOutIdeal.main_arg1)
      ∧ m' ((c.tc : Thread Cert.AdamScOutRefIdeal.nD Cert.AdamScOutRefIdeal.τ).loc Cert.AdamScOutRefIdeal.main_arg2) = m ((c.tc : Thread Cert.AdamScOutIdeal.nD Cert.AdamScOutIdeal.τ).loc Cert.AdamScOutIdeal.main_arg2)
      ∧ m' ((c.tc : Thread Cert.AdamScOutRefIdeal.nD Cert.AdamScOutRefIdeal.τ).loc Cert.AdamScOutRefIdeal.main_arg3) = m ((c.tc : Thread Cert.AdamScOutIdeal.nD Cert.AdamScOutIdeal.τ).loc Cert.AdamScOutIdeal.main_arg3)) →
    ∃ (v0 : (c : Dev Cert.AdamScOutIdeal.nD) → Buf (Elt Ideal) ((c.tc : Thread Cert.AdamScOutIdeal.nD Cert.AdamScOutIdeal.τ).loc Cert.AdamScOutIdeal.main_v4_0)) (v1 : (c : Dev Cert.AdamScOutIdeal.nD) → Buf (Elt Ideal) ((c.tc : Thread Cert.AdamScOutIdeal.nD Cert.AdamScOutIdeal.τ).loc Cert.AdamScOutIdeal.main_v4_1)) (v2 : (c : Dev Cert.AdamScOutIdeal.nD) → Buf (Elt Ideal) ((c.tc : Thread Cert.AdamScOutIdeal.nD Cert.AdamScOutIdeal.τ).loc Cert.AdamScOutIdeal.main_v4_2)),
      θ_run (Cert.AdamScOutIdeal.defs (F := Ideal)) (onTc (τ := Cert.AdamScOutIdeal.τ) (Cert.AdamScOutIdeal.main (F := Ideal))) ⟨m, fun _ => 0, g⟩ (fun r => ∀ c : Dev Cert.AdamScOutIdeal.nD,
          r.2.mem ((c.tc : Thread Cert.AdamScOutIdeal.nD Cert.AdamScOutIdeal.τ).loc Cert.AdamScOutIdeal.main_v4_0) = v0 c
          ∧ r.2.mem ((c.tc : Thread Cert.AdamScOutIdeal.nD Cert.AdamScOutIdeal.τ).loc Cert.AdamScOutIdeal.main_v4_1) = v1 c
          ∧ r.2.mem ((c.tc : Thread Cert.AdamScOutIdeal.nD Cert.AdamScOutIdeal.τ).loc Cert.AdamScOutIdeal.main_v4_2) = v2 c
          ∧ r.2.mem ((c.tc : Thread Cert.AdamScOutIdeal.nD Cert.AdamScOutIdeal.τ).loc Cert.AdamScOutIdeal.main_arg0) = m ((c.tc : Thread Cert.AdamScOutIdeal.nD Cert.AdamScOutIdeal.τ).loc Cert.AdamScOutIdeal.main_arg0)
          ∧ r.2.mem ((c.tc : Thread Cert.AdamScOutIdeal.nD Cert.AdamScOutIdeal.τ).loc Cert.AdamScOutIdeal.main_arg1) = m ((c.tc : Thread Cert.AdamScOutIdeal.nD Cert.AdamScOutIdeal.τ).loc Cert.AdamScOutIdeal.main_arg1)
          ∧ r.2.mem ((c.tc : Thread Cert.AdamScOutIdeal.nD Cert.AdamScOutIdeal.τ).loc Cert.AdamScOutIdeal.main_arg2) = m ((c.tc : Thread Cert.AdamScOutIdeal.nD Cert.AdamScOutIdeal.τ).loc Cert.AdamScOutIdeal.main_arg2)
          ∧ r.2.mem ((c.tc : Thread Cert.AdamScOutIdeal.nD Cert.AdamScOutIdeal.τ).loc Cert.AdamScOutIdeal.main_arg3) = m ((c.tc : Thread Cert.AdamScOutIdeal.nD Cert.AdamScOutIdeal.τ).loc Cert.AdamScOutIdeal.main_arg3))
      ∧ θ_run (Cert.AdamScOutRefIdeal.defs (F := Ideal)) (onTc (τ := Cert.AdamScOutRefIdeal.τ) (Cert.AdamScOutRefIdeal.main (F := Ideal))) ⟨m', fun _ => 0, g'⟩ (fun r => ∀ c : Dev Cert.AdamScOutRefIdeal.nD,
          r.2.mem ((c.tc : Thread Cert.AdamScOutRefIdeal.nD Cert.AdamScOutRefIdeal.τ).loc Cert.AdamScOutRefIdeal.main_v24) = v0 c
          ∧ r.2.mem ((c.tc : Thread Cert.AdamScOutRefIdeal.nD Cert.AdamScOutRefIdeal.τ).loc Cert.AdamScOutRefIdeal.main_v25) = v1 c
          ∧ r.2.mem ((c.tc : Thread Cert.AdamScOutRefIdeal.nD Cert.AdamScOutRefIdeal.τ).loc Cert.AdamScOutRefIdeal.main_v26) = v2 c
          ∧ r.2.mem ((c.tc : Thread Cert.AdamScOutRefIdeal.nD Cert.AdamScOutRefIdeal.τ).loc Cert.AdamScOutRefIdeal.main_arg0) = m' ((c.tc : Thread Cert.AdamScOutRefIdeal.nD Cert.AdamScOutRefIdeal.τ).loc Cert.AdamScOutRefIdeal.main_arg0)
          ∧ r.2.mem ((c.tc : Thread Cert.AdamScOutRefIdeal.nD Cert.AdamScOutRefIdeal.τ).loc Cert.AdamScOutRefIdeal.main_arg1) = m' ((c.tc : Thread Cert.AdamScOutRefIdeal.nD Cert.AdamScOutRefIdeal.τ).loc Cert.AdamScOutRefIdeal.main_arg1)
          ∧ r.2.mem ((c.tc : Thread Cert.AdamScOutRefIdeal.nD Cert.AdamScOutRefIdeal.τ).loc Cert.AdamScOutRefIdeal.main_arg2) = m' ((c.tc : Thread Cert.AdamScOutRefIdeal.nD Cert.AdamScOutRefIdeal.τ).loc Cert.AdamScOutRefIdeal.main_arg2)
          ∧ r.2.mem ((c.tc : Thread Cert.AdamScOutRefIdeal.nD Cert.AdamScOutRefIdeal.τ).loc Cert.AdamScOutRefIdeal.main_arg3) = m' ((c.tc : Thread Cert.AdamScOutRefIdeal.nD Cert.AdamScOutRefIdeal.τ).loc Cert.AdamScOutRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v4_0)) (v1 : (c : Dev Cert.AdamPoolIdeal.nD) → Buf (Elt Ideal) ((c.tc : Thread Cert.AdamPoolIdeal.nD Cert.AdamPoolIdeal.τ).loc Cert.AdamPoolIdeal.main_v4_1)) (v2 : (c : Dev Cert.AdamPoolIdeal.nD) → Buf (Elt Ideal) ((c.tc : Thread Cert.AdamPoolIdeal.nD Cert.AdamPoolIdeal.τ).loc Cert.AdamPoolIdeal.main_v4_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v4_0) = v0 c
          ∧ r.2.mem ((c.tc : Thread Cert.AdamPoolIdeal.nD Cert.AdamPoolIdeal.τ).loc Cert.AdamPoolIdeal.main_v4_1) = v1 c
          ∧ r.2.mem ((c.tc : Thread Cert.AdamPoolIdeal.nD Cert.AdamPoolIdeal.τ).loc Cert.AdamPoolIdeal.main_v4_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v24) = v0 c
          ∧ r.2.mem ((c.tc : Thread Cert.AdamPoolRefIdeal.nD Cert.AdamPoolRefIdeal.τ).loc Cert.AdamPoolRefIdeal.main_v25) = v1 c
          ∧ r.2.mem ((c.tc : Thread Cert.AdamPoolRefIdeal.nD Cert.AdamPoolRefIdeal.τ).loc Cert.AdamPoolRefIdeal.main_v26) = v2 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamPw1_AdamPw1Ideal : Prop :=
  True

def algebraic_AdamPw1Ideal_AdamPw1RefIdeal [hAdamPw1Ideal : Cert.AdamPw1Ideal.Facts] [hAdamPw1RefIdeal : Cert.AdamPw1RefIdeal.Facts] : Prop :=
  ∀ (m : (ℓ : Loc Cert.AdamPw1Ideal.nD Cert.AdamPw1Ideal.τ Cert.AdamPw1Ideal.sig) → Buf (Elt Ideal) ℓ) (g : Dev Cert.AdamPw1Ideal.nD → PrngReg)
    (m' : (ℓ : Loc Cert.AdamPw1RefIdeal.nD Cert.AdamPw1RefIdeal.τ Cert.AdamPw1RefIdeal.sig) → Buf (Elt Ideal) ℓ) (g' : Dev Cert.AdamPw1RefIdeal.nD → PrngReg), Pre_AdamPw1Ideal m →
    (∀ c : Dev Cert.AdamPw1Ideal.nD,
      m' ((c.tc : Thread Cert.AdamPw1RefIdeal.nD Cert.AdamPw1RefIdeal.τ).loc Cert.AdamPw1RefIdeal.main_arg0) = m ((c.tc : Thread Cert.AdamPw1Ideal.nD Cert.AdamPw1Ideal.τ).loc Cert.AdamPw1Ideal.main_arg0)
      ∧ m' ((c.tc : Thread Cert.AdamPw1RefIdeal.nD Cert.AdamPw1RefIdeal.τ).loc Cert.AdamPw1RefIdeal.main_arg1) = m ((c.tc : Thread Cert.AdamPw1Ideal.nD Cert.AdamPw1Ideal.τ).loc Cert.AdamPw1Ideal.main_arg1)
      ∧ m' ((c.tc : Thread Cert.AdamPw1RefIdeal.nD Cert.AdamPw1RefIdeal.τ).loc Cert.AdamPw1RefIdeal.main_arg2) = m ((c.tc : Thread Cert.AdamPw1Ideal.nD Cert.AdamPw1Ideal.τ).loc Cert.AdamPw1Ideal.main_arg2)
      ∧ m' ((c.tc : Thread Cert.AdamPw1RefIdeal.nD Cert.AdamPw1RefIdeal.τ).loc Cert.AdamPw1RefIdeal.main_arg3) = m ((c.tc : Thread Cert.AdamPw1Ideal.nD Cert.AdamPw1Ideal.τ).loc Cert.AdamPw1Ideal.main_arg3)) →
    ∃ (v0 : (c : Dev Cert.AdamPw1Ideal.nD) → Buf (Elt Ideal) ((c.tc : Thread Cert.AdamPw1Ideal.nD Cert.AdamPw1Ideal.τ).loc Cert.AdamPw1Ideal.main_v4_0)) (v1 : (c : Dev Cert.AdamPw1Ideal.nD) → Buf (Elt Ideal) ((c.tc : Thread Cert.AdamPw1Ideal.nD Cert.AdamPw1Ideal.τ).loc Cert.AdamPw1Ideal.main_v4_1)) (v2 : (c : Dev Cert.AdamPw1Ideal.nD) → Buf (Elt Ideal) ((c.tc : Thread Cert.AdamPw1Ideal.nD Cert.AdamPw1Ideal.τ).loc Cert.AdamPw1Ideal.main_v4_2)),
      θ_run (Cert.AdamPw1Ideal.defs (F := Ideal)) (onTc (τ := Cert.AdamPw1Ideal.τ) (Cert.AdamPw1Ideal.main (F := Ideal))) ⟨m, fun _ => 0, g⟩ (fun r => ∀ c : Dev Cert.AdamPw1Ideal.nD,
          r.2.mem ((c.tc : Thread Cert.AdamPw1Ideal.nD Cert.AdamPw1Ideal.τ).loc Cert.AdamPw1Ideal.main_v4_0) = v0 c
          ∧ r.2.mem ((c.tc : Thread Cert.AdamPw1Ideal.nD Cert.AdamPw1Ideal.τ).loc Cert.AdamPw1Ideal.main_v4_1) = v1 c
          ∧ r.2.mem ((c.tc : Thread Cert.AdamPw1Ideal.nD Cert.AdamPw1Ideal.τ).loc Cert.AdamPw1Ideal.main_v4_2) = v2 c
          ∧ r.2.mem ((c.tc : Thread Cert.AdamPw1Ideal.nD Cert.AdamPw1Ideal.τ).loc Cert.AdamPw1Ideal.main_arg0) = m ((c.tc : Thread Cert.AdamPw1Ideal.nD Cert.AdamPw1Ideal.τ).loc Cert.AdamPw1Ideal.main_arg0)
          ∧ r.2.mem ((c.tc : Thread Cert.AdamPw1Ideal.nD Cert.AdamPw1Ideal.τ).loc Cert.AdamPw1Ideal.main_arg1) = m ((c.tc : Thread Cert.AdamPw1Ideal.nD Cert.AdamPw1Ideal.τ).loc Cert.AdamPw1Ideal.main_arg1)
          ∧ r.2.mem ((c.tc : Thread Cert.AdamPw1Ideal.nD Cert.AdamPw1Ideal.τ).loc Cert.AdamPw1Ideal.main_arg2) = m ((c.tc : Thread Cert.AdamPw1Ideal.nD Cert.AdamPw1Ideal.τ).loc Cert.AdamPw1Ideal.main_arg2)
          ∧ r.2.mem ((c.tc : Thread Cert.AdamPw1Ideal.nD Cert.AdamPw1Ideal.τ).loc Cert.AdamPw1Ideal.main_arg3) = m ((c.tc : Thread Cert.AdamPw1Ideal.nD Cert.AdamPw1Ideal.τ).loc Cert.AdamPw1Ideal.main_arg3))
      ∧ θ_run (Cert.AdamPw1RefIdeal.defs (F := Ideal)) (onTc (τ := Cert.AdamPw1RefIdeal.τ) (Cert.AdamPw1RefIdeal.main (F := Ideal))) ⟨m', fun _ => 0, g'⟩ (fun r => ∀ c : Dev Cert.AdamPw1RefIdeal.nD,
          r.2.mem ((c.tc : Thread Cert.AdamPw1RefIdeal.nD Cert.AdamPw1RefIdeal.τ).loc Cert.AdamPw1RefIdeal.main_v24) = v0 c
          ∧ r.2.mem ((c.tc : Thread Cert.AdamPw1RefIdeal.nD Cert.AdamPw1RefIdeal.τ).loc Cert.AdamPw1RefIdeal.main_v25) = v1 c
          ∧ r.2.mem ((c.tc : Thread Cert.AdamPw1RefIdeal.nD Cert.AdamPw1RefIdeal.τ).loc Cert.AdamPw1RefIdeal.main_v26) = v2 c
          ∧ r.2.mem ((c.tc : Thread Cert.AdamPw1RefIdeal.nD Cert.AdamPw1RefIdeal.τ).loc Cert.AdamPw1RefIdeal.main_arg0) = m' ((c.tc : Thread Cert.AdamPw1RefIdeal.nD Cert.AdamPw1RefIdeal.τ).loc Cert.AdamPw1RefIdeal.main_arg0)
          ∧ r.2.mem ((c.tc : Thread Cert.AdamPw1RefIdeal.nD Cert.AdamPw1RefIdeal.τ).loc Cert.AdamPw1RefIdeal.main_arg1) = m' ((c.tc : Thread Cert.AdamPw1RefIdeal.nD Cert.AdamPw1RefIdeal.τ).loc Cert.AdamPw1RefIdeal.main_arg1)
          ∧ r.2.mem ((c.tc : Thread Cert.AdamPw1RefIdeal.nD Cert.AdamPw1RefIdeal.τ).loc Cert.AdamPw1RefIdeal.main_arg2) = m' ((c.tc : Thread Cert.AdamPw1RefIdeal.nD Cert.AdamPw1RefIdeal.τ).loc Cert.AdamPw1RefIdeal.main_arg2)
          ∧ r.2.mem ((c.tc : Thread Cert.AdamPw1RefIdeal.nD Cert.AdamPw1RefIdeal.τ).loc Cert.AdamPw1RefIdeal.main_arg3) = m' ((c.tc : Thread Cert.AdamPw1RefIdeal.nD Cert.AdamPw1RefIdeal.τ).loc Cert.AdamPw1RefIdeal.main_arg3))

def preserves_AdamPw2_AdamPw2Ideal : Prop :=
  True

def algebraic_AdamPw2Ideal_AdamPw2RefIdeal [hAdamPw2Ideal : Cert.AdamPw2Ideal.Facts] [hAdamPw2RefIdeal : Cert.AdamPw2RefIdeal.Facts] : Prop :=
  ∀ (m : (ℓ : Loc Cert.AdamPw2Ideal.nD Cert.AdamPw2Ideal.τ Cert.AdamPw2Ideal.sig) → Buf (Elt Ideal) ℓ) (g : Dev Cert.AdamPw2Ideal.nD → PrngReg)
    (m' : (ℓ : Loc Cert.AdamPw2RefIdeal.nD Cert.AdamPw2RefIdeal.τ Cert.AdamPw2RefIdeal.sig) → Buf (Elt Ideal) ℓ) (g' : Dev Cert.AdamPw2RefIdeal.nD → PrngReg), Pre_AdamPw2Ideal m →
    (∀ c : Dev Cert.AdamPw2Ideal.nD,
      m' ((c.tc : Thread Cert.AdamPw2RefIdeal.nD Cert.AdamPw2RefIdeal.τ).loc Cert.AdamPw2RefIdeal.main_arg0) = m ((c.tc : Thread Cert.AdamPw2Ideal.nD Cert.AdamPw2Ideal.τ).loc Cert.AdamPw2Ideal.main_arg0)
      ∧ m' ((c.tc : Thread Cert.AdamPw2RefIdeal.nD Cert.AdamPw2RefIdeal.τ).loc Cert.AdamPw2RefIdeal.main_arg1) = m ((c.tc : Thread Cert.AdamPw2Ideal.nD Cert.AdamPw2Ideal.τ).loc Cert.AdamPw2Ideal.main_arg1)
      ∧ m' ((c.tc : Thread Cert.AdamPw2RefIdeal.nD Cert.AdamPw2RefIdeal.τ).loc Cert.AdamPw2RefIdeal.main_arg2) = m ((c.tc : Thread Cert.AdamPw2Ideal.nD Cert.AdamPw2Ideal.τ).loc Cert.AdamPw2Ideal.main_arg2)
      ∧ m' ((c.tc : Thread Cert.AdamPw2RefIdeal.nD Cert.AdamPw2RefIdeal.τ).loc Cert.AdamPw2RefIdeal.main_arg3) = m ((c.tc : Thread Cert.AdamPw2Ideal.nD Cert.AdamPw2Ideal.τ).loc Cert.AdamPw2Ideal.main_arg3)) →
    ∃ (v0 : (c : Dev Cert.AdamPw2Ideal.nD) → Buf (Elt Ideal) ((c.tc : Thread Cert.AdamPw2Ideal.nD Cert.AdamPw2Ideal.τ).loc Cert.AdamPw2Ideal.main_v4_0)) (v1 : (c : Dev Cert.AdamPw2Ideal.nD) → Buf (Elt Ideal) ((c.tc : Thread Cert.AdamPw2Ideal.nD Cert.AdamPw2Ideal.τ).loc Cert.AdamPw2Ideal.main_v4_1)) (v2 : (c : Dev Cert.AdamPw2Ideal.nD) → Buf (Elt Ideal) ((c.tc : Thread Cert.AdamPw2Ideal.nD Cert.AdamPw2Ideal.τ).loc Cert.AdamPw2Ideal.main_v4_2)),
      θ_run (Cert.AdamPw2Ideal.defs (F := Ideal)) (onTc (τ := Cert.AdamPw2Ideal.τ) (Cert.AdamPw2Ideal.main (F := Ideal))) ⟨m, fun _ => 0, g⟩ (fun r => ∀ c : Dev Cert.AdamPw2Ideal.nD,
          r.2.mem ((c.tc : Thread Cert.AdamPw2Ideal.nD Cert.AdamPw2Ideal.τ).loc Cert.AdamPw2Ideal.main_v4_0) = v0 c
          ∧ r.2.mem ((c.tc : Thread Cert.AdamPw2Ideal.nD Cert.AdamPw2Ideal.τ).loc Cert.AdamPw2Ideal.main_v4_1) = v1 c
          ∧ r.2.mem ((c.tc : Thread Cert.AdamPw2Ideal.nD Cert.AdamPw2Ideal.τ).loc Cert.AdamPw2Ideal.main_v4_2) = v2 c
          ∧ r.2.mem ((c.tc : Thread Cert.AdamPw2Ideal.nD Cert.AdamPw2Ideal.τ).loc Cert.AdamPw2Ideal.main_arg0) = m ((c.tc : Thread Cert.AdamPw2Ideal.nD Cert.AdamPw2Ideal.τ).loc Cert.AdamPw2Ideal.main_arg0)
          ∧ r.2.mem ((c.tc : Thread Cert.AdamPw2Ideal.nD Cert.AdamPw2Ideal.τ).loc Cert.AdamPw2Ideal.main_arg1) = m ((c.tc : Thread Cert.AdamPw2Ideal.nD Cert.AdamPw2Ideal.τ).loc Cert.AdamPw2Ideal.main_arg1)
          ∧ r.2.mem ((c.tc : Thread Cert.AdamPw2Ideal.nD Cert.AdamPw2Ideal.τ).loc Cert.AdamPw2Ideal.main_arg2) = m ((c.tc : Thread Cert.AdamPw2Ideal.nD Cert.AdamPw2Ideal.τ).loc Cert.AdamPw2Ideal.main_arg2)
          ∧ r.2.mem ((c.tc : Thread Cert.AdamPw2Ideal.nD Cert.AdamPw2Ideal.τ).loc Cert.AdamPw2Ideal.main_arg3) = m ((c.tc : Thread Cert.AdamPw2Ideal.nD Cert.AdamPw2Ideal.τ).loc Cert.AdamPw2Ideal.main_arg3))
      ∧ θ_run (Cert.AdamPw2RefIdeal.defs (F := Ideal)) (onTc (τ := Cert.AdamPw2RefIdeal.τ) (Cert.AdamPw2RefIdeal.main (F := Ideal))) ⟨m', fun _ => 0, g'⟩ (fun r => ∀ c : Dev Cert.AdamPw2RefIdeal.nD,
          r.2.mem ((c.tc : Thread Cert.AdamPw2RefIdeal.nD Cert.AdamPw2RefIdeal.τ).loc Cert.AdamPw2RefIdeal.main_v24) = v0 c
          ∧ r.2.mem ((c.tc : Thread Cert.AdamPw2RefIdeal.nD Cert.AdamPw2RefIdeal.τ).loc Cert.AdamPw2RefIdeal.main_v25) = v1 c
          ∧ r.2.mem ((c.tc : Thread Cert.AdamPw2RefIdeal.nD Cert.AdamPw2RefIdeal.τ).loc Cert.AdamPw2RefIdeal.main_v26) = v2 c
          ∧ r.2.mem ((c.tc : Thread Cert.AdamPw2RefIdeal.nD Cert.AdamPw2RefIdeal.τ).loc Cert.AdamPw2RefIdeal.main_arg0) = m' ((c.tc : Thread Cert.AdamPw2RefIdeal.nD Cert.AdamPw2RefIdeal.τ).loc Cert.AdamPw2RefIdeal.main_arg0)
          ∧ r.2.mem ((c.tc : Thread Cert.AdamPw2RefIdeal.nD Cert.AdamPw2RefIdeal.τ).loc Cert.AdamPw2RefIdeal.main_arg1) = m' ((c.tc : Thread Cert.AdamPw2RefIdeal.nD Cert.AdamPw2RefIdeal.τ).loc Cert.AdamPw2RefIdeal.main_arg1)
          ∧ r.2.mem ((c.tc : Thread Cert.AdamPw2RefIdeal.nD Cert.AdamPw2RefIdeal.τ).loc Cert.AdamPw2RefIdeal.main_arg2) = m' ((c.tc : Thread Cert.AdamPw2RefIdeal.nD Cert.AdamPw2RefIdeal.τ).loc Cert.AdamPw2RefIdeal.main_arg2)
          ∧ r.2.mem ((c.tc : Thread Cert.AdamPw2RefIdeal.nD Cert.AdamPw2RefIdeal.τ).loc Cert.AdamPw2RefIdeal.main_arg3) = m' ((c.tc : Thread Cert.AdamPw2RefIdeal.nD Cert.AdamPw2RefIdeal.τ).loc Cert.AdamPw2RefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)
      ∧ m' ((c.tc : Thread Cert.ModDwRefIdeal.nD Cert.ModDwRefIdeal.τ).loc Cert.ModDwRefIdeal.main_arg2) = m ((c.tc : Thread Cert.ModDwIdeal.nD Cert.ModDwIdeal.τ).loc Cert.ModDwIdeal.main_arg2)
      ∧ m' ((c.tc : Thread Cert.ModDwRefIdeal.nD Cert.ModDwRefIdeal.τ).loc Cert.ModDwRefIdeal.main_arg3) = m ((c.tc : Thread Cert.ModDwIdeal.nD Cert.ModDwIdeal.τ).loc Cert.ModDwIdeal.main_arg3)) →
    ∃ (v0 : (c : Dev Cert.ModDwIdeal.nD) → Buf (Elt Ideal) ((c.tc : Thread Cert.ModDwIdeal.nD Cert.ModDwIdeal.τ).loc Cert.ModDwIdeal.main_v2)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v2) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1)
          ∧ r.2.mem ((c.tc : Thread Cert.ModDwIdeal.nD Cert.ModDwIdeal.τ).loc Cert.ModDwIdeal.main_arg2) = m ((c.tc : Thread Cert.ModDwIdeal.nD Cert.ModDwIdeal.τ).loc Cert.ModDwIdeal.main_arg2)
          ∧ r.2.mem ((c.tc : Thread Cert.ModDwIdeal.nD Cert.ModDwIdeal.τ).loc Cert.ModDwIdeal.main_arg3) = m ((c.tc : Thread Cert.ModDwIdeal.nD Cert.ModDwIdeal.τ).loc Cert.ModDwIdeal.main_arg3))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v12) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1)
          ∧ r.2.mem ((c.tc : Thread Cert.ModDwRefIdeal.nD Cert.ModDwRefIdeal.τ).loc Cert.ModDwRefIdeal.main_arg2) = m' ((c.tc : Thread Cert.ModDwRefIdeal.nD Cert.ModDwRefIdeal.τ).loc Cert.ModDwRefIdeal.main_arg2)
          ∧ r.2.mem ((c.tc : Thread Cert.ModDwRefIdeal.nD Cert.ModDwRefIdeal.τ).loc Cert.ModDwRefIdeal.main_arg3) = m' ((c.tc : Thread Cert.ModDwRefIdeal.nD Cert.ModDwRefIdeal.τ).loc Cert.ModDwRefIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hScIn : Cert.ScIn.Facts) (hScInIdeal : Cert.ScInIdeal.Facts) (hScInRefIdeal : Cert.ScInRefIdeal.Facts) (hScInDx : Cert.ScInDx.Facts) (hScInDxIdeal : Cert.ScInDxIdeal.Facts) (hScInDxRefIdeal : Cert.ScInDxRefIdeal.Facts) (hScInDw : Cert.ScInDw.Facts) (hScInDwIdeal : Cert.ScInDwIdeal.Facts) (hScInDwRefIdeal : Cert.ScInDwRefIdeal.Facts) (hPw1 : Cert.Pw1.Facts) (hPw1Ideal : Cert.Pw1Ideal.Facts) (hPw1RefIdeal : Cert.Pw1RefIdeal.Facts) (hPw1Dx : Cert.Pw1Dx.Facts) (hPw1DxIdeal : Cert.Pw1DxIdeal.Facts) (hPw1DxRefIdeal : Cert.Pw1DxRefIdeal.Facts) (hPw1Dw : Cert.Pw1Dw.Facts) (hPw1DwIdeal : Cert.Pw1DwIdeal.Facts) (hPw1DwRefIdeal : Cert.Pw1DwRefIdeal.Facts) (hScOut : Cert.ScOut.Facts) (hScOutIdeal : Cert.ScOutIdeal.Facts) (hScOutRefIdeal : Cert.ScOutRefIdeal.Facts) (hScOutDx : Cert.ScOutDx.Facts) (hScOutDxIdeal : Cert.ScOutDxIdeal.Facts) (hScOutDxRefIdeal : Cert.ScOutDxRefIdeal.Facts) (hScOutDw : Cert.ScOutDw.Facts) (hScOutDwIdeal : Cert.ScOutDwIdeal.Facts) (hScOutDwRefIdeal : Cert.ScOutDwRefIdeal.Facts) (hDown1 : Cert.Down1.Facts) (hDown1Ideal : Cert.Down1Ideal.Facts) (hDown1RefIdeal : Cert.Down1RefIdeal.Facts) (hDown2 : Cert.Down2.Facts) (hDown2Ideal : Cert.Down2Ideal.Facts) (hDown2RefIdeal : Cert.Down2RefIdeal.Facts) (hDown3 : Cert.Down3.Facts) (hDown3Ideal : Cert.Down3Ideal.Facts) (hDown3RefIdeal : Cert.Down3RefIdeal.Facts) (hDownDx1 : Cert.DownDx1.Facts) (hDownDx1Ideal : Cert.DownDx1Ideal.Facts) (hDownDx1RefIdeal : Cert.DownDx1RefIdeal.Facts) (hDownDx2 : Cert.DownDx2.Facts) (hDownDx2Ideal : Cert.DownDx2Ideal.Facts) (hDownDx2RefIdeal : Cert.DownDx2RefIdeal.Facts) (hDownDx3 : Cert.DownDx3.Facts) (hDownDx3Ideal : Cert.DownDx3Ideal.Facts) (hDownDx3RefIdeal : Cert.DownDx3RefIdeal.Facts) (hUp1 : Cert.Up1.Facts) (hUp1Ideal : Cert.Up1Ideal.Facts) (hUp1RefIdeal : Cert.Up1RefIdeal.Facts) (hUp2 : Cert.Up2.Facts) (hUp2Ideal : Cert.Up2Ideal.Facts) (hUp2RefIdeal : Cert.Up2RefIdeal.Facts) (hUp3 : Cert.Up3.Facts) (hUp3Ideal : Cert.Up3Ideal.Facts) (hUp3RefIdeal : Cert.Up3RefIdeal.Facts) (hUpDx1 : Cert.UpDx1.Facts) (hUpDx1Ideal : Cert.UpDx1Ideal.Facts) (hUpDx1RefIdeal : Cert.UpDx1RefIdeal.Facts) (hUpDx2 : Cert.UpDx2.Facts) (hUpDx2Ideal : Cert.UpDx2Ideal.Facts) (hUpDx2RefIdeal : Cert.UpDx2RefIdeal.Facts) (hUpDx3 : Cert.UpDx3.Facts) (hUpDx3Ideal : Cert.UpDx3Ideal.Facts) (hUpDx3RefIdeal : Cert.UpDx3RefIdeal.Facts) (hAdamMod : Cert.AdamMod.Facts) (hAdamModIdeal : Cert.AdamModIdeal.Facts) (hAdamModRefIdeal : Cert.AdamModRefIdeal.Facts) (hAdamScIn : Cert.AdamScIn.Facts) (hAdamScInIdeal : Cert.AdamScInIdeal.Facts) (hAdamScInRefIdeal : Cert.AdamScInRefIdeal.Facts) (hAdamScOut : Cert.AdamScOut.Facts) (hAdamScOutIdeal : Cert.AdamScOutIdeal.Facts) (hAdamScOutRefIdeal : Cert.AdamScOutRefIdeal.Facts) (hAdamPool : Cert.AdamPool.Facts) (hAdamPoolIdeal : Cert.AdamPoolIdeal.Facts) (hAdamPoolRefIdeal : Cert.AdamPoolRefIdeal.Facts) (hAdamPw1 : Cert.AdamPw1.Facts) (hAdamPw1Ideal : Cert.AdamPw1Ideal.Facts) (hAdamPw1RefIdeal : Cert.AdamPw1RefIdeal.Facts) (hAdamPw2 : Cert.AdamPw2.Facts) (hAdamPw2Ideal : Cert.AdamPw2Ideal.Facts) (hAdamPw2RefIdeal : Cert.AdamPw2RefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hModDw : Cert.ModDw.Facts) (hModDwIdeal : Cert.ModDwIdeal.Facts) (hModDwRefIdeal : Cert.ModDwRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_ScIn (hScIn := hScIn)
    ∧ quiescent_ScInIdeal (hScInIdeal := hScInIdeal)
    ∧ quiescent_ScInRefIdeal (hScInRefIdeal := hScInRefIdeal)
    ∧ quiescent_ScInDx (hScInDx := hScInDx)
    ∧ quiescent_ScInDxIdeal (hScInDxIdeal := hScInDxIdeal)
    ∧ quiescent_ScInDxRefIdeal (hScInDxRefIdeal := hScInDxRefIdeal)
    ∧ quiescent_ScInDw (hScInDw := hScInDw)
    ∧ quiescent_ScInDwIdeal (hScInDwIdeal := hScInDwIdeal)
    ∧ quiescent_ScInDwRefIdeal (hScInDwRefIdeal := hScInDwRefIdeal)
    ∧ quiescent_Pw1 (hPw1 := hPw1)
    ∧ quiescent_Pw1Ideal (hPw1Ideal := hPw1Ideal)
    ∧ quiescent_Pw1RefIdeal (hPw1RefIdeal := hPw1RefIdeal)
    ∧ quiescent_Pw1Dx (hPw1Dx := hPw1Dx)
    ∧ quiescent_Pw1DxIdeal (hPw1DxIdeal := hPw1DxIdeal)
    ∧ quiescent_Pw1DxRefIdeal (hPw1DxRefIdeal := hPw1DxRefIdeal)
    ∧ quiescent_Pw1Dw (hPw1Dw := hPw1Dw)
    ∧ quiescent_Pw1DwIdeal (hPw1DwIdeal := hPw1DwIdeal)
    ∧ quiescent_Pw1DwRefIdeal (hPw1DwRefIdeal := hPw1DwRefIdeal)
    ∧ quiescent_ScOut (hScOut := hScOut)
    ∧ quiescent_ScOutIdeal (hScOutIdeal := hScOutIdeal)
    ∧ quiescent_ScOutRefIdeal (hScOutRefIdeal := hScOutRefIdeal)
    ∧ quiescent_ScOutDx (hScOutDx := hScOutDx)
    ∧ quiescent_ScOutDxIdeal (hScOutDxIdeal := hScOutDxIdeal)
    ∧ quiescent_ScOutDxRefIdeal (hScOutDxRefIdeal := hScOutDxRefIdeal)
    ∧ quiescent_ScOutDw (hScOutDw := hScOutDw)
    ∧ quiescent_ScOutDwIdeal (hScOutDwIdeal := hScOutDwIdeal)
    ∧ quiescent_ScOutDwRefIdeal (hScOutDwRefIdeal := hScOutDwRefIdeal)
    ∧ quiescent_Down1 (hDown1 := hDown1)
    ∧ quiescent_Down1Ideal (hDown1Ideal := hDown1Ideal)
    ∧ quiescent_Down1RefIdeal (hDown1RefIdeal := hDown1RefIdeal)
    ∧ quiescent_Down2 (hDown2 := hDown2)
    ∧ quiescent_Down2Ideal (hDown2Ideal := hDown2Ideal)
    ∧ quiescent_Down2RefIdeal (hDown2RefIdeal := hDown2RefIdeal)
    ∧ quiescent_Down3 (hDown3 := hDown3)
    ∧ quiescent_Down3Ideal (hDown3Ideal := hDown3Ideal)
    ∧ quiescent_Down3RefIdeal (hDown3RefIdeal := hDown3RefIdeal)
    ∧ quiescent_DownDx1 (hDownDx1 := hDownDx1)
    ∧ quiescent_DownDx1Ideal (hDownDx1Ideal := hDownDx1Ideal)
    ∧ quiescent_DownDx1RefIdeal (hDownDx1RefIdeal := hDownDx1RefIdeal)
    ∧ quiescent_DownDx2 (hDownDx2 := hDownDx2)
    ∧ quiescent_DownDx2Ideal (hDownDx2Ideal := hDownDx2Ideal)
    ∧ quiescent_DownDx2RefIdeal (hDownDx2RefIdeal := hDownDx2RefIdeal)
    ∧ quiescent_DownDx3 (hDownDx3 := hDownDx3)
    ∧ quiescent_DownDx3Ideal (hDownDx3Ideal := hDownDx3Ideal)
    ∧ quiescent_DownDx3RefIdeal (hDownDx3RefIdeal := hDownDx3RefIdeal)
    ∧ quiescent_Up1 (hUp1 := hUp1)
    ∧ quiescent_Up1Ideal (hUp1Ideal := hUp1Ideal)
    ∧ quiescent_Up1RefIdeal (hUp1RefIdeal := hUp1RefIdeal)
    ∧ quiescent_Up2 (hUp2 := hUp2)
    ∧ quiescent_Up2Ideal (hUp2Ideal := hUp2Ideal)
    ∧ quiescent_Up2RefIdeal (hUp2RefIdeal := hUp2RefIdeal)
    ∧ quiescent_Up3 (hUp3 := hUp3)
    ∧ quiescent_Up3Ideal (hUp3Ideal := hUp3Ideal)
    ∧ quiescent_Up3RefIdeal (hUp3RefIdeal := hUp3RefIdeal)
    ∧ quiescent_UpDx1 (hUpDx1 := hUpDx1)
    ∧ quiescent_UpDx1Ideal (hUpDx1Ideal := hUpDx1Ideal)
    ∧ quiescent_UpDx1RefIdeal (hUpDx1RefIdeal := hUpDx1RefIdeal)
    ∧ quiescent_UpDx2 (hUpDx2 := hUpDx2)
    ∧ quiescent_UpDx2Ideal (hUpDx2Ideal := hUpDx2Ideal)
    ∧ quiescent_UpDx2RefIdeal (hUpDx2RefIdeal := hUpDx2RefIdeal)
    ∧ quiescent_UpDx3 (hUpDx3 := hUpDx3)
    ∧ quiescent_UpDx3Ideal (hUpDx3Ideal := hUpDx3Ideal)
    ∧ quiescent_UpDx3RefIdeal (hUpDx3RefIdeal := hUpDx3RefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamScIn (hAdamScIn := hAdamScIn)
    ∧ quiescent_AdamScInIdeal (hAdamScInIdeal := hAdamScInIdeal)
    ∧ quiescent_AdamScInRefIdeal (hAdamScInRefIdeal := hAdamScInRefIdeal)
    ∧ quiescent_AdamScOut (hAdamScOut := hAdamScOut)
    ∧ quiescent_AdamScOutIdeal (hAdamScOutIdeal := hAdamScOutIdeal)
    ∧ quiescent_AdamScOutRefIdeal (hAdamScOutRefIdeal := hAdamScOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamPw1 (hAdamPw1 := hAdamPw1)
    ∧ quiescent_AdamPw1Ideal (hAdamPw1Ideal := hAdamPw1Ideal)
    ∧ quiescent_AdamPw1RefIdeal (hAdamPw1RefIdeal := hAdamPw1RefIdeal)
    ∧ quiescent_AdamPw2 (hAdamPw2 := hAdamPw2)
    ∧ quiescent_AdamPw2Ideal (hAdamPw2Ideal := hAdamPw2Ideal)
    ∧ quiescent_AdamPw2RefIdeal (hAdamPw2RefIdeal := hAdamPw2RefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_ModDw (hModDw := hModDw)
    ∧ quiescent_ModDwIdeal (hModDwIdeal := hModDwIdeal)
    ∧ quiescent_ModDwRefIdeal (hModDwRefIdeal := hModDwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_ScIn_ScInIdeal
    ∧ algebraic_ScInIdeal_ScInRefIdeal (hScInIdeal := hScInIdeal) (hScInRefIdeal := hScInRefIdeal)
    ∧ preserves_ScInDx_ScInDxIdeal
    ∧ algebraic_ScInDxIdeal_ScInDxRefIdeal (hScInDxIdeal := hScInDxIdeal) (hScInDxRefIdeal := hScInDxRefIdeal)
    ∧ preserves_ScInDw_ScInDwIdeal
    ∧ algebraic_ScInDwIdeal_ScInDwRefIdeal (hScInDwIdeal := hScInDwIdeal) (hScInDwRefIdeal := hScInDwRefIdeal)
    ∧ preserves_Pw1_Pw1Ideal
    ∧ algebraic_Pw1Ideal_Pw1RefIdeal (hPw1Ideal := hPw1Ideal) (hPw1RefIdeal := hPw1RefIdeal)
    ∧ preserves_Pw1Dx_Pw1DxIdeal
    ∧ algebraic_Pw1DxIdeal_Pw1DxRefIdeal (hPw1DxIdeal := hPw1DxIdeal) (hPw1DxRefIdeal := hPw1DxRefIdeal)
    ∧ preserves_Pw1Dw_Pw1DwIdeal
    ∧ algebraic_Pw1DwIdeal_Pw1DwRefIdeal (hPw1DwIdeal := hPw1DwIdeal) (hPw1DwRefIdeal := hPw1DwRefIdeal)
    ∧ preserves_ScOut_ScOutIdeal
    ∧ algebraic_ScOutIdeal_ScOutRefIdeal (hScOutIdeal := hScOutIdeal) (hScOutRefIdeal := hScOutRefIdeal)
    ∧ preserves_ScOutDx_ScOutDxIdeal
    ∧ algebraic_ScOutDxIdeal_ScOutDxRefIdeal (hScOutDxIdeal := hScOutDxIdeal) (hScOutDxRefIdeal := hScOutDxRefIdeal)
    ∧ preserves_ScOutDw_ScOutDwIdeal
    ∧ algebraic_ScOutDwIdeal_ScOutDwRefIdeal (hScOutDwIdeal := hScOutDwIdeal) (hScOutDwRefIdeal := hScOutDwRefIdeal)
    ∧ preserves_Down1_Down1Ideal
    ∧ algebraic_Down1Ideal_Down1RefIdeal (hDown1Ideal := hDown1Ideal) (hDown1RefIdeal := hDown1RefIdeal)
    ∧ preserves_Down2_Down2Ideal
    ∧ algebraic_Down2Ideal_Down2RefIdeal (hDown2Ideal := hDown2Ideal) (hDown2RefIdeal := hDown2RefIdeal)
    ∧ preserves_Down3_Down3Ideal
    ∧ algebraic_Down3Ideal_Down3RefIdeal (hDown3Ideal := hDown3Ideal) (hDown3RefIdeal := hDown3RefIdeal)
    ∧ preserves_DownDx1_DownDx1Ideal
    ∧ algebraic_DownDx1Ideal_DownDx1RefIdeal (hDownDx1Ideal := hDownDx1Ideal) (hDownDx1RefIdeal := hDownDx1RefIdeal)
    ∧ preserves_DownDx2_DownDx2Ideal
    ∧ algebraic_DownDx2Ideal_DownDx2RefIdeal (hDownDx2Ideal := hDownDx2Ideal) (hDownDx2RefIdeal := hDownDx2RefIdeal)
    ∧ preserves_DownDx3_DownDx3Ideal
    ∧ algebraic_DownDx3Ideal_DownDx3RefIdeal (hDownDx3Ideal := hDownDx3Ideal) (hDownDx3RefIdeal := hDownDx3RefIdeal)
    ∧ preserves_Up1_Up1Ideal
    ∧ algebraic_Up1Ideal_Up1RefIdeal (hUp1Ideal := hUp1Ideal) (hUp1RefIdeal := hUp1RefIdeal)
    ∧ preserves_Up2_Up2Ideal
    ∧ algebraic_Up2Ideal_Up2RefIdeal (hUp2Ideal := hUp2Ideal) (hUp2RefIdeal := hUp2RefIdeal)
    ∧ preserves_Up3_Up3Ideal
    ∧ algebraic_Up3Ideal_Up3RefIdeal (hUp3Ideal := hUp3Ideal) (hUp3RefIdeal := hUp3RefIdeal)
    ∧ preserves_UpDx1_UpDx1Ideal
    ∧ algebraic_UpDx1Ideal_UpDx1RefIdeal (hUpDx1Ideal := hUpDx1Ideal) (hUpDx1RefIdeal := hUpDx1RefIdeal)
    ∧ preserves_UpDx2_UpDx2Ideal
    ∧ algebraic_UpDx2Ideal_UpDx2RefIdeal (hUpDx2Ideal := hUpDx2Ideal) (hUpDx2RefIdeal := hUpDx2RefIdeal)
    ∧ preserves_UpDx3_UpDx3Ideal
    ∧ algebraic_UpDx3Ideal_UpDx3RefIdeal (hUpDx3Ideal := hUpDx3Ideal) (hUpDx3RefIdeal := hUpDx3RefIdeal)
    ∧ preserves_AdamMod_AdamModIdeal
    ∧ algebraic_AdamModIdeal_AdamModRefIdeal (hAdamModIdeal := hAdamModIdeal) (hAdamModRefIdeal := hAdamModRefIdeal)
    ∧ preserves_AdamScIn_AdamScInIdeal
    ∧ algebraic_AdamScInIdeal_AdamScInRefIdeal (hAdamScInIdeal := hAdamScInIdeal) (hAdamScInRefIdeal := hAdamScInRefIdeal)
    ∧ preserves_AdamScOut_AdamScOutIdeal
    ∧ algebraic_AdamScOutIdeal_AdamScOutRefIdeal (hAdamScOutIdeal := hAdamScOutIdeal) (hAdamScOutRefIdeal := hAdamScOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamPw1_AdamPw1Ideal
    ∧ algebraic_AdamPw1Ideal_AdamPw1RefIdeal (hAdamPw1Ideal := hAdamPw1Ideal) (hAdamPw1RefIdeal := hAdamPw1RefIdeal)
    ∧ preserves_AdamPw2_AdamPw2Ideal
    ∧ algebraic_AdamPw2Ideal_AdamPw2RefIdeal (hAdamPw2Ideal := hAdamPw2Ideal) (hAdamPw2RefIdeal := hAdamPw2RefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_ModDw_ModDwIdeal
    ∧ algebraic_ModDwIdeal_ModDwRefIdeal (hModDwIdeal := hModDwIdeal) (hModDwRefIdeal := hModDwRefIdeal)
-- ==== Pre_finite.lean ====
abbrev S1x16384x1024 : Shape := ⟨3, ![1, 16384, 1024]⟩
abbrev S4x256x256 : Shape := ⟨3, ![4, 256, 256]⟩
abbrev S1024 : Shape := ⟨1, ![1024]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x16384x1024 : S_.BroadcastsInDim S1x16384x1024 (![] : Fin 0 → Fin S1x16384x1024.rank)
  reducesTo_S1x16384x1024_S_d0_1_2 : S1x16384x1024.ReducesTo [0, 1, 2] S_

variable [Facts]

def fn {F : FTy → Type} [FloatOps F] (main_arg0 : FVec F S1x16384x1024 .f32) (main_arg1 : FVec F S4x256x256 .f32) (main_arg2 : FVec F S1024 .f32) (main_arg3 : FVec F S1024 .f32) (main_arg4 : FVec F S1x16384x1024 .f32) : IVec S_ 1 :=
  let main_v0 : FVec F S4x256x256 .f32 := Host.absf main_arg1
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x16384x1024 .f32 := Host.absf main_arg4
  let main_cst_2 : FVec F S_ .f32 := constant S_ .f32 0x7F800000#32
  let main_v10 : FVec F S1x16384x1024 .f32 := broadcastInDim S1x16384x1024 ![] bcast_S_S1x16384x1024 main_cst_2
  let main_v11 : IVec S1x16384x1024 1 := cmpf .olt main_v9 main_v10
  let main_c_3 : IVec S_ 1 := constantI S_ 1 1#1
  let main_v12 : IVec S_ 1 := (fun x v => Host.reduce IntOp.andi x v reducesTo_S1x16384x1024_S_d0_1_2 h_S_) main_v11 main_c_3
  let main_v13 : IVec S_ 1 := andi main_v8 main_v12
  main_v13
-- ==== Kernel.lean ====
abbrev S1x16384x1024 : Shape := ⟨3, ![1, 16384, 1024]⟩
abbrev S4x256x256 : Shape := ⟨3, ![4, 256, 256]⟩
abbrev S1024 : Shape := ⟨1, ![1024]⟩
abbrev S1x16384x4x256 : Shape := ⟨4, ![1, 16384, 4, 256]⟩
abbrev S1x16384x1x256 : Shape := ⟨4, ![1, 16384, 1, 256]⟩
abbrev S1x16384x256 : Shape := ⟨3, ![1, 16384, 256]⟩
abbrev S_ : Shape := ⟨0, ![]⟩
abbrev S1x2x256 : Shape := ⟨3, ![1, 2, 256]⟩
abbrev S1x16382x256 : Shape := ⟨3, ![1, 16382, 256]⟩
abbrev S16384 : Shape := ⟨1, ![16384]⟩
abbrev S1x16384x1 : Shape := ⟨3, ![1, 16384, 1]⟩
abbrev S1x4x256 : Shape := ⟨3, ![1, 4, 256]⟩
abbrev S1x16380x256 : Shape := ⟨3, ![1, 16380, 256]⟩
abbrev S1x8x256 : Shape := ⟨3, ![1, 8, 256]⟩
abbrev S1x16376x256 : Shape := ⟨3, ![1, 16376, 256]⟩
abbrev S1x16x256 : Shape := ⟨3, ![1, 16, 256]⟩
abbrev S1x16368x256 : Shape := ⟨3, ![1, 16368, 256]⟩
abbrev S16384x1024 : Shape := ⟨2, ![16384, 1024]⟩
abbrev S1x1024 : Shape := ⟨2, ![1, 1024]⟩
abbrev S2x1024 : Shape := ⟨2, ![2, 1024]⟩
abbrev S8x1024 : Shape := ⟨2, ![8, 1024]⟩
abbrev S256x1024 : Shape := ⟨2, ![256, 1024]⟩
abbrev S272x1024 : Shape := ⟨2, ![272, 1024]⟩
abbrev S16x1024 : Shape := ⟨2, ![16, 1024]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩
abbrev S256x1 : Shape := ⟨2, ![256, 1]⟩

abbrev nBuf : Space → Nat
  | .hbm => 125
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S4x256x256, .f32⟩
  | .hbm, ⟨2, _⟩ => ⟨S1024, .f32⟩
  | .hbm, ⟨3, _⟩ => ⟨S1024, .f32⟩
  | .hbm, ⟨4, _⟩ => ⟨S1x16384x1024, .f32⟩
  | .hbm, ⟨5, _⟩ => ⟨S1x16384x4x256, .f32⟩
  | .hbm, ⟨6, _⟩ => ⟨S1x16384x1x256, .f32⟩
  | .hbm, ⟨7, _⟩ => ⟨S1x16384x256, .f32⟩
  | .hbm, ⟨8, _⟩ => ⟨S_, .f32⟩
  | .hbm, ⟨9, _⟩ => ⟨S_, .f32⟩
  | .hbm, ⟨10, _⟩ => ⟨S1x16384x256, .f32⟩
  | .hbm, ⟨11, _⟩ => ⟨S1x2x256, .f32⟩
  | .hbm, ⟨12, _⟩ => ⟨S_, .f32⟩
  | .hbm, ⟨13, _⟩ => ⟨S1x2x256, .f32⟩
  | .hbm, ⟨14, _⟩ => ⟨S1x16382x256, .f32⟩
  | .hbm, ⟨15, _⟩ => ⟨S1x16384x256, .f32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .f32⟩
  | .hbm, ⟨24, _⟩ => ⟨S1x16384x1, .f32⟩
  | .hbm, ⟨25, _⟩ => ⟨S1x16384x256, .f32⟩
  | .hbm, ⟨26, _⟩ => ⟨S1x16384x256, .f32⟩
  | .hbm, ⟨27, _⟩ => ⟨S1x16384x256, .f32⟩
  | .hbm, ⟨28, _⟩ => ⟨S1x16384x1x256, .f32⟩
  | .hbm, ⟨29, _⟩ => ⟨S1x16384x256, .f32⟩
  | .hbm, ⟨30, _⟩ => ⟨S1x16384x256, .f32⟩
  | .hbm, ⟨31, _⟩ => ⟨S1x16384x1x256, .f32⟩
  | .hbm, ⟨32, _⟩ => ⟨S1x16384x256, .f32⟩
  | .hbm, ⟨33, _⟩ => ⟨S_, .f32⟩
  | .hbm, ⟨34, _⟩ => ⟨S_, .f32⟩
  | .hbm, ⟨35, _⟩ => ⟨S1x16384x256, .f32⟩
  | .hbm, ⟨36, _⟩ => ⟨S1x4x256, .f32⟩
  | .hbm, ⟨37, _⟩ => ⟨S_, .f32⟩
  | .hbm, ⟨38, _⟩ => ⟨S1x4x256, .f32⟩
  | .hbm, ⟨39, _⟩ => ⟨S1x16380x256, .f32⟩
  | .hbm, ⟨40, _⟩ => ⟨S1x16384x256, .f32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .f32⟩
  | .hbm, ⟨49, _⟩ => ⟨S1x16384x1, .f32⟩
  | .hbm, ⟨50, _⟩ => ⟨S1x16384x256, .f32⟩
  | .hbm, ⟨51, _⟩ => ⟨S1x16384x256, .f32⟩
  | .hbm, ⟨52, _⟩ => ⟨S1x16384x256, .f32⟩
  | .hbm, ⟨53, _⟩ => ⟨S1x16384x1x256, .f32⟩
  | .hbm, ⟨54, _⟩ => ⟨S1x16384x256, .f32⟩
  | .hbm, ⟨55, _⟩ => ⟨S1x16384x256, .f32⟩
  | .hbm, ⟨56, _⟩ => ⟨S1x16384x1x256, .f32⟩
  | .hbm, ⟨57, _⟩ => ⟨S1x16384x256, .f32⟩
  | .hbm, ⟨58, _⟩ => ⟨S_, .f32⟩
  | .hbm, ⟨59, _⟩ => ⟨S_, .f32⟩
  | .hbm, ⟨60, _⟩ => ⟨S1x16384x256, .f32⟩
  | .hbm, ⟨61, _⟩ => ⟨S1x8x256, .f32⟩
  | .hbm, ⟨62, _⟩ => ⟨S_, .f32⟩
  | .hbm, ⟨63, _⟩ => ⟨S1x8x256, .f32⟩
  | .hbm, ⟨64, _⟩ => ⟨S1x16376x256, .f32⟩
  | .hbm, ⟨65, _⟩ => ⟨S1x16384x256, .f32⟩
  | .hbm, ⟨66, _⟩ => ⟨S16384, .i32⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S16384, .f32⟩
  | .hbm, ⟨74, _⟩ => ⟨S1x16384x1, .f32⟩
  | .hbm, ⟨75, _⟩ => ⟨S1x16384x256, .f32⟩
  | .hbm, ⟨76, _⟩ => ⟨S1x16384x256, .f32⟩
  | .hbm, ⟨77, _⟩ => ⟨S1x16384x256, .f32⟩
  | .hbm, ⟨78, _⟩ => ⟨S1x16384x1x256, .f32⟩
  | .hbm, ⟨79, _⟩ => ⟨S1x16384x256, .f32⟩
  | .hbm, ⟨80, _⟩ => ⟨S1x16384x256, .f32⟩
  | .hbm, ⟨81, _⟩ => ⟨S1x16384x1x256, .f32⟩
  | .hbm, ⟨82, _⟩ => ⟨S1x16384x256, .f32⟩
  | .hbm, ⟨83, _⟩ => ⟨S_, .f32⟩
  | .hbm, ⟨84, _⟩ => ⟨S_, .f32⟩
  | .hbm, ⟨85, _⟩ => ⟨S1x16384x256, .f32⟩
  | .hbm, ⟨86, _⟩ => ⟨S1x16x256, .f32⟩
  | .hbm, ⟨87, _⟩ => ⟨S_, .f32⟩
  | .hbm, ⟨88, _⟩ => ⟨S1x16x256, .f32⟩
  | .hbm, ⟨89, _⟩ => ⟨S1x16368x256, .f32⟩
  | .hbm, ⟨90, _⟩ => ⟨S1x16384x256, .f32⟩
  | .hbm, ⟨91, _⟩ => ⟨S16384, .i32⟩
  | .hbm, ⟨92, _⟩ => ⟨S_, .i32⟩
  | .hbm, ⟨93, _⟩ => ⟨S16384, .i32⟩
  | .hbm, ⟨94, _⟩ => ⟨S16384, .i32⟩
  | .hbm, ⟨95, _⟩ => ⟨S_, .i32⟩
  | .hbm, ⟨96, _⟩ => ⟨S16384, .i32⟩
  | .hbm, ⟨97, _⟩ => ⟨S16384, .i32⟩
  | .hbm, ⟨98, _⟩ => ⟨S16384, .f32⟩
  | .hbm, ⟨99, _⟩ => ⟨S1x16384x1, .f32⟩
  | .hbm, ⟨100, _⟩ => ⟨S1x16384x256, .f32⟩
  | .hbm, ⟨101, _⟩ => ⟨S1x16384x256, .f32⟩
  | .hbm, ⟨102, _⟩ => ⟨S1x16384x256, .f32⟩
  | .hbm, ⟨103, _⟩ => ⟨S1x16384x1x256, .f32⟩
  | .hbm, ⟨104, _⟩ => ⟨S1x16384x256, .f32⟩
  | .hbm, ⟨105, _⟩ => ⟨S1x16384x256, .f32⟩
  | .hbm, ⟨106, _⟩ => ⟨S1x16384x1x256, .f32⟩
  | .hbm, ⟨107, _⟩ => ⟨S1x16384x1x256, .f32⟩
  | .hbm, ⟨108, _⟩ => ⟨S1x16384x1x256, .f32⟩
  | .hbm, ⟨109, _⟩ => ⟨S1x16384x1x256, .f32⟩
  | .hbm, ⟨110, _⟩ => ⟨S1x16384x4x256, .f32⟩
  | .hbm, ⟨111, _⟩ => ⟨S16384x1024, .f32⟩
  | .hbm, ⟨112, _⟩ => ⟨S16384x1024, .bf16⟩
  | .hbm, ⟨113, _⟩ => ⟨S16384x1024, .f32⟩
  | .hbm, ⟨114, _⟩ => ⟨S16384x1024, .bf16⟩
  | .hbm, ⟨115, _⟩ => ⟨S4x256x256, .bf16⟩
  | .hbm, ⟨116, _⟩ => ⟨S1x1024, .f32⟩
  | .hbm, ⟨117, _⟩ => ⟨S1x1024, .f32⟩
  | .hbm, ⟨118, _⟩ => ⟨S2x1024, .f32⟩
  | .hbm, ⟨119, _⟩ => ⟨S_, .i32⟩
  | .hbm, ⟨120, _⟩ => ⟨S_, .f32⟩
  | .hbm, ⟨121, _⟩ => ⟨S8x1024, .f32⟩
  | .hbm, ⟨122, _⟩ => ⟨S16384x1024, .f32⟩
  | .hbm, ⟨123, _⟩ => ⟨S4x256x256, .f32⟩
  | .hbm, ⟨124, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S4x256x256, .bf16⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | .local _ .vmem, ⟨8, _⟩ => ⟨S4x256x256, .f32⟩
  | .local _ .vmem, ⟨9, _⟩ => ⟨S8x1024, .f32⟩
  | .local _ .vmem, ⟨10, _⟩ => ⟨S272x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_call0_cst : Ref sig .tc := ⟨.hbm, 33, rfl⟩
abbrev main_call1_call0_v0 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call2_call0_cst : Ref sig .tc := ⟨.hbm, 58, rfl⟩
abbrev main_call2_call0_v0 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_5 : Ref sig .tc := ⟨.hbm, 67, rfl⟩
abbrev main_v49 : Ref sig .tc := ⟨.hbm, 68, rfl⟩
abbrev main_v50 : Ref sig .tc := ⟨.hbm, 69, rfl⟩
abbrev main_c_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call3_call0_cst : Ref sig .tc := ⟨.hbm, 83, rfl⟩
abbrev main_call3_call0_v0 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_8 : Ref sig .tc := ⟨.hbm, 92, rfl⟩
abbrev main_v69 : Ref sig .tc := ⟨.hbm, 93, rfl⟩
abbrev main_v70 : Ref sig .tc := ⟨.hbm, 94, rfl⟩
abbrev main_c_9 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_c_10 : Ref sig .tc := ⟨.hbm, 119, rfl⟩
abbrev main_call4_v0 : Ref sig .tc := ⟨.hbm, 120, rfl⟩
abbrev main_v94 : Ref sig .tc := ⟨.hbm, 121, rfl⟩
abbrev main_v95_0 : Ref sig .tc := ⟨.hbm, 122, rfl⟩
abbrev main_v95_1 : Ref sig .tc := ⟨.hbm, 123, rfl⟩
abbrev main_v95_2 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x16384x1024 : Shape := ⟨3, ![1, 16384, 1024]⟩
abbrev S4x256x256 : Shape := ⟨3, ![4, 256, 256]⟩
abbrev S1024 : Shape := ⟨1, ![1024]⟩
abbrev S1x16384x4x256 : Shape := ⟨4, ![1, 16384, 4, 256]⟩
abbrev S1x16384x1x256 : Shape := ⟨4, ![1, 16384, 1, 256]⟩
abbrev S1x16384x256 : Shape := ⟨3, ![1, 16384, 256]⟩
abbrev S_ : Shape := ⟨0, ![]⟩
abbrev S1x2x256 : Shape := ⟨3, ![1, 2, 256]⟩
abbrev S1x16382x256 : Shape := ⟨3, ![1, 16382, 256]⟩
abbrev S16384 : Shape := ⟨1, ![16384]⟩
abbrev S1x16384x1 : Shape := ⟨3, ![1, 16384, 1]⟩
abbrev S1x4x256 : Shape := ⟨3, ![1, 4, 256]⟩
abbrev S1x16380x256 : Shape := ⟨3, ![1, 16380, 256]⟩
abbrev S1x8x256 : Shape := ⟨3, ![1, 8, 256]⟩
abbrev S1x16376x256 : Shape := ⟨3, ![1, 16376, 256]⟩
abbrev S1x16x256 : Shape := ⟨3, ![1, 16, 256]⟩
abbrev S1x16368x256 : Shape := ⟨3, ![1, 16368, 256]⟩
abbrev S4x256x1x16384 : Shape := ⟨4, ![4, 256, 1, 16384]⟩
abbrev S1x1x1024 : Shape := ⟨3, ![1, 1, 1024]⟩
abbrev S1x1024 : Shape := ⟨2, ![1, 1024]⟩
abbrev S4x1x16384x256 : Shape := ⟨4, ![4, 1, 16384, 256]⟩
abbrev S16384x1024 : Shape := ⟨2, ![16384, 1024]⟩
abbrev S6x1024 : Shape := ⟨2, ![6, 1024]⟩
abbrev S8x1024 : Shape := ⟨2, ![8, 1024]⟩

abbrev nBuf : Space → Nat
  | .hbm => 241
  | .vmem => 0
  | .smem => 0
  | _ => 0

abbrev hbmTy0_0 (i : Nat) : BufTy := match i % 128 with
  | 0 => ⟨S1x16384x1024, .f32⟩
  | 1 => ⟨S4x256x256, .f32⟩
  | 2 => ⟨S1024, .f32⟩
  | 3 => ⟨S1024, .f32⟩
  | 4 => ⟨S1x16384x1024, .f32⟩
  | 5 => ⟨S1x16384x4x256, .f32⟩
  | 6 => ⟨S1x16384x1x256, .f32⟩
  | 7 => ⟨S1x16384x256, .f32⟩
  | 8 => ⟨S_, .f32⟩
  | 9 => ⟨S_, .f32⟩
  | 10 => ⟨S1x16384x256, .f32⟩
  | 11 => ⟨S1x2x256, .f32⟩
  | 12 => ⟨S_, .f32⟩
  | 13 => ⟨S1x2x256, .f32⟩
  | 14 => ⟨S1x16382x256, .f32⟩
  | 15 => ⟨S1x16384x256, .f32⟩
  | 16 => ⟨S_, .f32⟩
  | 17 => ⟨S1x2x256, .f32⟩
  | 18 => ⟨S16384, .i32⟩
  | 19 => ⟨S_, .i32⟩
  | 20 => ⟨S16384, .i32⟩
  | 21 => ⟨S16384, .i32⟩
  | 22 => ⟨S_, .i32⟩
  | 23 => ⟨S16384, .i32⟩
  | 24 => ⟨S16384, .i32⟩
  | 25 => ⟨S16384, .f32⟩
  | 26 => ⟨S1x16384x1, .f32⟩
  | 27 => ⟨S1x16384x256, .f32⟩
  | 28 => ⟨S1x16384x256, .f32⟩
  | 29 => ⟨S1x16384x256, .f32⟩
  | 30 => ⟨S1x16384x1x256, .f32⟩
  | 31 => ⟨S1x16384x256, .f32⟩
  | 32 => ⟨S1x16384x256, .f32⟩
  | 33 => ⟨S1x16384x1x256, .f32⟩
  | 34 => ⟨S1x16384x256, .f32⟩
  | 35 => ⟨S_, .f32⟩
  | 36 => ⟨S_, .f32⟩
  | 37 => ⟨S1x16384x256, .f32⟩
  | 38 => ⟨S1x4x256, .f32⟩
  | 39 => ⟨S_, .f32⟩
  | 40 => ⟨S1x4x256, .f32⟩
  | 41 => ⟨S1x16380x256, .f32⟩
  | 42 => ⟨S1x16384x256, .f32⟩
  | 43 => ⟨S_, .f32⟩
  | 44 => ⟨S1x4x256, .f32⟩
  | 45 => ⟨S16384, .i32⟩
  | 46 => ⟨S_, .i32⟩
  | 47 => ⟨S16384, .i32⟩
  | 48 => ⟨S16384, .i32⟩
  | 49 => ⟨S_, .i32⟩
  | 50 => ⟨S16384, .i32⟩
  | 51 => ⟨S16384, .i32⟩
  | 52 => ⟨S16384, .f32⟩
  | 53 => ⟨S1x16384x1, .f32⟩
  | 54 => ⟨S1x16384x256, .f32⟩
  | 55 => ⟨S1x16384x256, .f32⟩
  | 56 => ⟨S1x16384x256, .f32⟩
  | 57 => ⟨S1x16384x1x256, .f32⟩
  | 58 => ⟨S1x16384x256, .f32⟩
  | 59 => ⟨S1x16384x256, .f32⟩
  | 60 => ⟨S1x16384x1x256, .f32⟩
  | 61 => ⟨S1x16384x256, .f32⟩
  | 62 => ⟨S_, .f32⟩
  | 63 => ⟨S_, .f32⟩
  | 64 => ⟨S1x16384x256, .f32⟩
  | 65 => ⟨S1x8x256, .f32⟩
  | 66 => ⟨S_, .f32⟩
  | 67 => ⟨S1x8x256, .f32⟩
  | 68 => ⟨S1x16376x256, .f32⟩
  | 69 => ⟨S1x16384x256, .f32⟩
  | 70 => ⟨S_, .f32⟩
  | 71 => ⟨S1x8x256, .f32⟩
  | 72 => ⟨S16384, .i32⟩
  | 73 => ⟨S_, .i32⟩
  | 74 => ⟨S16384, .i32⟩
  | 75 => ⟨S16384, .i32⟩
  | 76 => ⟨S_, .i32⟩
  | 77 => ⟨S16384, .i32⟩
  | 78 => ⟨S16384, .i32⟩
  | 79 => ⟨S16384, .f32⟩
  | 80 => ⟨S1x16384x1, .f32⟩
  | 81 => ⟨S1x16384x256, .f32⟩
  | 82 => ⟨S1x16384x256, .f32⟩
  | 83 => ⟨S1x16384x256, .f32⟩
  | 84 => ⟨S1x16384x1x256, .f32⟩
  | 85 => ⟨S1x16384x256, .f32⟩
  | 86 => ⟨S1x16384x256, .f32⟩
  | 87 => ⟨S1x16384x1x256, .f32⟩
  | 88 => ⟨S1x16384x256, .f32⟩
  | 89 => ⟨S_, .f32⟩
  | 90 => ⟨S_, .f32⟩
  | 91 => ⟨S1x16384x256, .f32⟩
  | 92 => ⟨S1x16x256, .f32⟩
  | 93 => ⟨S_, .f32⟩
  | 94 => ⟨S1x16x256, .f32⟩
  | 95 => ⟨S1x16368x256, .f32⟩
  | 96 => ⟨S1x16384x256, .f32⟩
  | 97 => ⟨S_, .f32⟩
  | 98 => ⟨S1x16x256, .f32⟩
  | 99 => ⟨S16384, .i32⟩
  | 100 => ⟨S_, .i32⟩
  | 101 => ⟨S16384, .i32⟩
  | 102 => ⟨S16384, .i32⟩
  | 103 => ⟨S_, .i32⟩
  | 104 => ⟨S16384, .i32⟩
  | 105 => ⟨S16384, .i32⟩
  | 106 => ⟨S16384, .f32⟩
  | 107 => ⟨S1x16384x1, .f32⟩
  | 108 => ⟨S1x16384x256, .f32⟩
  | 109 => ⟨S1x16384x256, .f32⟩
  | 110 => ⟨S1x16384x256, .f32⟩
  | 111 => ⟨S1x16384x1x256, .f32⟩
  | 112 => ⟨S1x16384x256, .f32⟩
  | 113 => ⟨S1x16384x256, .f32⟩
  | 114 => ⟨S1x16384x1x256, .f32⟩
  | 115 => ⟨S1x16384x1x256, .f32⟩
  | 116 => ⟨S1x16384x1x256, .f32⟩
  | 117 => ⟨S1x16384x1x256, .f32⟩
  | 118 => ⟨S1x16384x4x256, .f32⟩
  | 119 => ⟨S4x256x1x16384, .f32⟩
  | 120 => ⟨S1x16384x4x256, .f32⟩
  | 121 => ⟨S1x16384x1024, .f32⟩
  | 122 => ⟨S1x1x1024, .f32⟩
  | 123 => ⟨S1x16384x1024, .f32⟩
  | 124 => ⟨S1x16384x1024, .f32⟩
  | 125 => ⟨S1x1x1024, .f32⟩
  | 126 => ⟨S1x16384x1024, .f32⟩
  | 127 => ⟨S1x16384x1024, .f32⟩
  | _ => ⟨S1x16384x1024, .f32⟩

abbrev hbmTy0_1 (i : Nat) : BufTy := match i % 128 with
  | 0 => ⟨S1x16384x1024, .f32⟩
  | 1 => ⟨S_, .f32⟩
  | 2 => ⟨S1x1024, .f32⟩
  | 3 => ⟨S1x1x1024, .f32⟩
  | 4 => ⟨S1x16384x1024, .f32⟩
  | 5 => ⟨S1x16384x1024, .f32⟩
  | 6 => ⟨S_, .f32⟩
  | 7 => ⟨S1024, .f32⟩
  | 8 => ⟨S_, .f32⟩
  | 9 => ⟨S1x1024, .f32⟩
  | 10 => ⟨S1x1x1024, .f32⟩
  | 11 => ⟨S_, .f32⟩
  | 12 => ⟨S1024, .f32⟩
  | 13 => ⟨S1x16384x4x256, .f32⟩
  | 14 => ⟨S4x256x1x16384, .f32⟩
  | 15 => ⟨S4x1x16384x256, .f32⟩
  | 16 => ⟨S1x16384x4x256, .f32⟩
  | 17 => ⟨S4x256x256, .f32⟩
  | 18 => ⟨S4x256x256, .f32⟩
  | 19 => ⟨S1x16384x1x256, .f32⟩
  | 20 => ⟨S1x16384x256, .f32⟩
  | 21 => ⟨S1x16384x1x256, .f32⟩
  | 22 => ⟨S1x16384x256, .f32⟩
  | 23 => ⟨S1x16384x1x256, .f32⟩
  | 24 => ⟨S1x16384x256, .f32⟩
  | 25 => ⟨S1x16384x1x256, .f32⟩
  | 26 => ⟨S1x16384x256, .f32⟩
  | 27 => ⟨S1x16384x256, .f32⟩
  | 28 => ⟨S1x16384x1x256, .f32⟩
  | 29 => ⟨S_, .f32⟩
  | 30 => ⟨S1x16384x4x256, .f32⟩
  | 31 => ⟨S1x16384x256, .f32⟩
  | 32 => ⟨S1x16384x256, .f32⟩
  | 33 => ⟨S1x16384x256, .f32⟩
  | 34 => ⟨S1x16x256, .f32⟩
  | 35 => ⟨S1x16368x256, .f32⟩
  | 36 => ⟨S_, .f32⟩
  | 37 => ⟨S1x16384x256, .f32⟩
  | 38 => ⟨S1x16384x256, .f32⟩
  | 39 => ⟨S_, .f32⟩
  | 40 => ⟨S_, .f32⟩
  | 41 => ⟨S1x16384x256, .f32⟩
  | 42 => ⟨S1x16384x1x256, .f32⟩
  | 43 => ⟨S_, .f32⟩
  | 44 => ⟨S1x16384x4x256, .f32⟩
  | 45 => ⟨S1x16384x4x256, .f32⟩
  | 46 => ⟨S1x16384x256, .f32⟩
  | 47 => ⟨S1x16384x1x256, .f32⟩
  | 48 => ⟨S_, .f32⟩
  | 49 => ⟨S1x16384x4x256, .f32⟩
  | 50 => ⟨S1x16384x4x256, .f32⟩
  | 51 => ⟨S1x16384x256, .f32⟩
  | 52 => ⟨S1x16384x256, .f32⟩
  | 53 => ⟨S1x16384x256, .f32⟩
  | 54 => ⟨S1x8x256, .f32⟩
  | 55 => ⟨S1x16376x256, .f32⟩
  | 56 => ⟨S_, .f32⟩
  | 57 => ⟨S1x16384x256, .f32⟩
  | 58 => ⟨S1x16384x256, .f32⟩
  | 59 => ⟨S_, .f32⟩
  | 60 => ⟨S_, .f32⟩
  | 61 => ⟨S1x16384x256, .f32⟩
  | 62 => ⟨S1x16384x1x256, .f32⟩
  | 63 => ⟨S_, .f32⟩
  | 64 => ⟨S1x16384x4x256, .f32⟩
  | 65 => ⟨S1x16384x4x256, .f32⟩
  | 66 => ⟨S1x16384x256, .f32⟩
  | 67 => ⟨S1x16384x1x256, .f32⟩
  | 68 => ⟨S_, .f32⟩
  | 69 => ⟨S1x16384x4x256, .f32⟩
  | 70 => ⟨S1x16384x4x256, .f32⟩
  | 71 => ⟨S1x16384x256, .f32⟩
  | 72 => ⟨S1x16384x256, .f32⟩
  | 73 => ⟨S1x16384x256, .f32⟩
  | 74 => ⟨S1x4x256, .f32⟩
  | 75 => ⟨S1x16380x256, .f32⟩
  | 76 => ⟨S_, .f32⟩
  | 77 => ⟨S1x16384x256, .f32⟩
  | 78 => ⟨S1x16384x256, .f32⟩
  | 79 => ⟨S_, .f32⟩
  | 80 => ⟨S_, .f32⟩
  | 81 => ⟨S1x16384x256, .f32⟩
  | 82 => ⟨S1x16384x1x256, .f32⟩
  | 83 => ⟨S_, .f32⟩
  | 84 => ⟨S1x16384x4x256, .f32⟩
  | 85 => ⟨S1x16384x4x256, .f32⟩
  | 86 => ⟨S1x16384x256, .f32⟩
  | 87 => ⟨S1x16384x1x256, .f32⟩
  | 88 => ⟨S_, .f32⟩
  | 89 => ⟨S1x16384x4x256, .f32⟩
  | 90 => ⟨S1x16384x4x256, .f32⟩
  | 91 => ⟨S1x16384x256, .f32⟩
  | 92 => ⟨S1x16384x256, .f32⟩
  | 93 => ⟨S1x16384x256, .f32⟩
  | 94 => ⟨S1x2x256, .f32⟩
  | 95 => ⟨S1x16382x256, .f32⟩
  | 96 => ⟨S_, .f32⟩
  | 97 => ⟨S1x16384x256, .f32⟩
  | 98 => ⟨S1x16384x256, .f32⟩
  | 99 => ⟨S_, .f32⟩
  | 100 => ⟨S_, .f32⟩
  | 101 => ⟨S1x16384x256, .f32⟩
  | 102 => ⟨S1x16384x1x256, .f32⟩
  | 103 => ⟨S_, .f32⟩
  | 104 => ⟨S1x16384x4x256, .f32⟩
  | 105 => ⟨S1x16384x4x256, .f32⟩
  | 106 => ⟨S1x16384x1024, .f32⟩
  | 107 => ⟨S16384x1024, .f32⟩
  | 108 => ⟨S1x1024, .f32⟩
  | 109 => ⟨S1x1024, .f32⟩
  | 110 => ⟨S_, .f32⟩
  | 111 => ⟨S6x1024, .f32⟩
  | 112 => ⟨S8x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_call0_cst : Ref sig .tc := ⟨.hbm, 35, rfl⟩
abbrev main_call1_call0_v0 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call2_call0_cst : Ref sig .tc := ⟨.hbm, 62, rfl⟩
abbrev main_call2_call0_v0 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call3_call0_cst : Ref sig .tc := ⟨.hbm, 89, rfl⟩
abbrev main_call3_call0_v0 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_c_12 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_14 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_15 : Ref sig .tc := ⟨.hbm, 134, rfl⟩
abbrev main_v104 : Ref sig .tc := ⟨.hbm, 135, rfl⟩
abbrev main_cst_16 : Ref sig .tc := ⟨.hbm, 136, rfl⟩
abbrev main_v105 : Ref sig .tc := ⟨.hbm, 137, rfl⟩
abbrev main_v106 : Ref sig .tc := ⟨.hbm, 138, rfl⟩
abbrev main_cst_17 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_18 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_19 : Ref sig .tc := ⟨.hbm, 164, rfl⟩
abbrev main_v130 : Ref sig .tc := ⟨.hbm, 165, rfl⟩
abbrev main_v131 : Ref sig .tc := ⟨.hbm, 166, rfl⟩
abbrev main_call4_call0_cst : Ref sig .tc := ⟨.hbm, 167, rfl⟩
abbrev main_call4_call0_v0 : Ref sig .tc := ⟨.hbm, 168, rfl⟩
abbrev main_v132 : Ref sig .tc := ⟨.hbm, 169, rfl⟩
abbrev main_v133 : Ref sig .tc := ⟨.hbm, 170, rfl⟩
abbrev main_cst_20 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_21 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_22 : Ref sig .tc := ⟨.hbm, 184, rfl⟩
abbrev main_v145 : Ref sig .tc := ⟨.hbm, 185, rfl⟩
abbrev main_v146 : Ref sig .tc := ⟨.hbm, 186, rfl⟩
abbrev main_call5_call0_cst : Ref sig .tc := ⟨.hbm, 187, rfl⟩
abbrev main_call5_call0_v0 : Ref sig .tc := ⟨.hbm, 188, rfl⟩
abbrev main_v147 : Ref sig .tc := ⟨.hbm, 189, rfl⟩
abbrev main_v148 : Ref sig .tc := ⟨.hbm, 190, rfl⟩
abbrev main_cst_23 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_24 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_25 : Ref sig .tc := ⟨.hbm, 204, rfl⟩
abbrev main_v160 : Ref sig .tc := ⟨.hbm, 205, rfl⟩
abbrev main_v161 : Ref sig .tc := ⟨.hbm, 206, rfl⟩
abbrev main_call6_call0_cst : Ref sig .tc := ⟨.hbm, 207, rfl⟩
abbrev main_call6_call0_v0 : Ref sig .tc := ⟨.hbm, 208, rfl⟩
abbrev main_v162 : Ref sig .tc := ⟨.hbm, 209, rfl⟩
abbrev main_v163 : Ref sig .tc := ⟨.hbm, 210, rfl⟩
abbrev main_cst_26 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_27 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_28 : Ref sig .tc := ⟨.hbm, 224, rfl⟩
abbrev main_v175 : Ref sig .tc := ⟨.hbm, 225, rfl⟩
abbrev main_v176 : Ref sig .tc := ⟨.hbm, 226, rfl⟩
abbrev main_call7_call0_cst : Ref sig .tc := ⟨.hbm, 227, rfl⟩
abbrev main_call7_call0_v0 : Ref sig .tc := ⟨.hbm, 228, rfl⟩
abbrev main_v177 : Ref sig .tc := ⟨.hbm, 229, rfl⟩
abbrev main_v178 : Ref sig .tc := ⟨.hbm, 230, rfl⟩
abbrev main_cst_29 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_30 : Ref sig .tc := ⟨.hbm, 238, rfl⟩
abbrev main_v185 : Ref sig .tc := ⟨.hbm, 239, rfl⟩
abbrev main_v186 : Ref sig .tc := ⟨.hbm, 240, rfl⟩

abbrev nD : Nat := 1
abbrev τ : Topo := Topo.v7x

variable {F : FTy → Type} [FloatOps F]
-- ==== Down.lean ====
abbrev S1x16384x2816 : Shape := ⟨3, ![1, 16384, 2816]⟩
abbrev S2816x1024 : Shape := ⟨2, ![2816, 1024]⟩
abbrev S16384x2816 : Shape := ⟨2, ![16384, 2816]⟩
abbrev S1x2816x1024 : Shape := ⟨3, ![1, 2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x16384x2816, .f32⟩
  | .hbm, ⟨1, _⟩ => ⟨S2816x1024, .f32⟩
  | .hbm, ⟨2, _⟩ => ⟨S16384x2816, .f32⟩
  | .hbm, ⟨3, _⟩ => ⟨S16384x2816, .bf16⟩
  | .hbm, ⟨4, _⟩ => ⟨S1x2816x1024, .f32⟩
  | .hbm, ⟨5, _⟩ => ⟨S1x2816x1024, .bf16⟩
  | .hbm, ⟨6, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S1x16384x2816 : Shape := ⟨3, ![1, 16384, 2816]⟩
abbrev S2816x1024 : Shape := ⟨2, ![2816, 1024]⟩
abbrev S1x16384x1024 : Shape := ⟨3, ![1, 16384, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1x16384x2816, .f32⟩
  | .hbm, ⟨1, _⟩ => ⟨S2816x1024, .f32⟩
  | .hbm, ⟨2, _⟩ => ⟨S1x16384x1024, .f32⟩
  | .hbm, ⟨3, _⟩ => ⟨S16384x1024, .f32⟩
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Up.lean ====
abbrev S1x16384x1024 : Shape := ⟨3, ![1, 16384, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S16384x1024 : Shape := ⟨2, ![16384, 1024]⟩
abbrev S16384x5632 : Shape := ⟨2, ![16384, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 9
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S1x4x1024x1408, .f32⟩
  | .hbm, ⟨5, _⟩ => ⟨S1x4x1024x1408, .bf16⟩
  | .hbm, ⟨6, _⟩ => ⟨S16384x1024, .f32⟩
  | .hbm, ⟨7, _⟩ => ⟨S16384x1024, .bf16⟩
  | .hbm, ⟨8, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S1x16384x1024 : Shape := ⟨3, ![1, 16384, 1024]⟩
abbrev S1024x5632 : Shape := ⟨2, ![1024, 5632]⟩
abbrev S1x16384x5632 : Shape := ⟨3, ![1, 16384, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x5632, .f32⟩
  | .hbm, ⟨2, _⟩ => ⟨S1x16384x5632, .f32⟩
  | .hbm, ⟨3, _⟩ => ⟨S16384x5632, .f32⟩
  | .hbm, ⟨4, _⟩ => ⟨S16384x5632, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDx.lean ====
abbrev S1x16384x2816 : Shape := ⟨3, ![1, 16384, 2816]⟩
abbrev S2816x1024 : Shape := ⟨2, ![2816, 1024]⟩
abbrev S1x16384x1024 : Shape := ⟨3, ![1, 16384, 1024]⟩
abbrev S16384x1024 : Shape := ⟨2, ![16384, 1024]⟩
abbrev S1x2816x1024 : Shape := ⟨3, ![1, 2816, 1024]⟩
abbrev S16384x2816 : Shape := ⟨2, ![16384, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x16384x2816, .f32⟩
  | .hbm, ⟨1, _⟩ => ⟨S2816x1024, .f32⟩
  | .hbm, ⟨2, _⟩ => ⟨S1x16384x1024, .f32⟩
  | .hbm, ⟨3, _⟩ => ⟨S16384x1024, .f32⟩
  | .hbm, ⟨4, _⟩ => ⟨S16384x1024, .bf16⟩
  | .hbm, ⟨5, _⟩ => ⟨S1x2816x1024, .f32⟩
  | .hbm, ⟨6, _⟩ => ⟨S1x2816x1024, .bf16⟩
  | .hbm, ⟨7, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S1x16384x2816 : Shape := ⟨3, ![1, 16384, 2816]⟩
abbrev S2816x1024 : Shape := ⟨2, ![2816, 1024]⟩
abbrev S1x16384x1024 : Shape := ⟨3, ![1, 16384, 1024]⟩
abbrev S1024x2816 : Shape := ⟨2, ![1024, 2816]⟩
abbrev S16384x2816 : Shape := ⟨2, ![16384, 2816]⟩

abbrev nBuf : Space → Nat
  | .hbm => 9
  | .vmem => 0
  | .smem => 0
  | _ => 0

abbrev bufTy : (tb : Table) → Fin (tcTables nBuf tb) → BufTy
  | .hbm, ⟨0, _⟩ => ⟨S1x16384x2816, .f32⟩
  | .hbm, ⟨1, _⟩ => ⟨S2816x1024, .f32⟩
  | .hbm, ⟨2, _⟩ => ⟨S1x16384x1024, .f32⟩
  | .hbm, ⟨3, _⟩ => ⟨S1x16384x1024, .f32⟩
  | .hbm, ⟨4, _⟩ => ⟨S1024x2816, .f32⟩
  | .hbm, ⟨5, _⟩ => ⟨S2816x1024, .f32⟩
  | .hbm, ⟨6, _⟩ => ⟨S1x16384x2816, .f32⟩
  | .hbm, ⟨7, _⟩ => ⟨S16384x2816, .f32⟩
  | .hbm, ⟨8, _⟩ => ⟨S16384x2816, .bf16⟩
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S1x16384x2816 : Shape := ⟨3, ![1, 16384, 2816]⟩
abbrev S2816x1024 : Shape := ⟨2, ![2816, 1024]⟩
abbrev S1x16384x1024 : Shape := ⟨3, ![1, 16384, 1024]⟩
abbrev S16384x2816 : Shape := ⟨2, ![16384, 2816]⟩
abbrev S16384x1024 : Shape := ⟨2, ![16384, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x16384x2816, .f32⟩
  | .hbm, ⟨1, _⟩ => ⟨S2816x1024, .f32⟩
  | .hbm, ⟨2, _⟩ => ⟨S1x16384x1024, .f32⟩
  | .hbm, ⟨3, _⟩ => ⟨S16384x2816, .f32⟩
  | .hbm, ⟨4, _⟩ => ⟨S16384x2816, .bf16⟩
  | .hbm, ⟨5, _⟩ => ⟨S16384x1024, .f32⟩
  | .hbm, ⟨6, _⟩ => ⟨S16384x1024, .bf16⟩
  | .hbm, ⟨7, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S1x16384x2816 : Shape := ⟨3, ![1, 16384, 2816]⟩
abbrev S2816x1024 : Shape := ⟨2, ![2816, 1024]⟩
abbrev S1x16384x1024 : Shape := ⟨3, ![1, 16384, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S1x16384x2816, .f32⟩
  | .hbm, ⟨1, _⟩ => ⟨S2816x1024, .f32⟩
  | .hbm, ⟨2, _⟩ => ⟨S1x16384x1024, .f32⟩
  | .hbm, ⟨3, _⟩ => ⟨S1x16384x1024, .f32⟩
  | .hbm, ⟨4, _⟩ => ⟨S1024x2816, .f32⟩
  | .hbm, ⟨5, _⟩ => ⟨S2816x1024, .f32⟩
  | .hbm, ⟨6, _⟩ => ⟨S1x16384x2816, .f32⟩
  | .hbm, ⟨7, _⟩ => ⟨S2816x1024, .bf16⟩
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDx.lean ====
abbrev S1x16384x1024 : Shape := ⟨3, ![1, 16384, 1024]⟩
abbrev S1024x5632 : Shape := ⟨2, ![1024, 5632]⟩
abbrev S1x16384x5632 : Shape := ⟨3, ![1, 16384, 5632]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S16384x5632 : Shape := ⟨2, ![16384, 5632]⟩
abbrev S16384x1024 : Shape := ⟨2, ![16384, 1024]⟩
abbrev S512x5632 : Shape := ⟨2, ![512, 5632]⟩
abbrev S512x1024 : Shape := ⟨2, ![512, 1024]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1x1024x1408 : Shape := ⟨4, ![1, 1, 1024, 1408]⟩

abbrev nBuf : Space → Nat
  | .hbm => 10
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1024x5632, .f32⟩
  | .hbm, ⟨2, _⟩ => ⟨S1x16384x5632, .f32⟩
  | .hbm, ⟨3, _⟩ => ⟨S1024x4x1408, .f32⟩
  | .hbm, ⟨4, _⟩ => ⟨S4x1024x1408, .f32⟩
  | .hbm, ⟨5, _⟩ => ⟨S1x4x1024x1408, .f32⟩
  | .hbm, ⟨6, _⟩ => ⟨S1x4x1024x1408, .bf16⟩
  | .hbm, ⟨7, _⟩ => ⟨S16384x5632, .f32⟩
  | .hbm, ⟨8, _⟩ => ⟨S16384x5632, .bf16⟩
  | .hbm, ⟨9, _⟩ => ⟨S16384x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1024x5632, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UpDxRefIdeal.lean ====
abbrev S1x16384x1024 : Shape := ⟨3, ![1, 16384, 1024]⟩
abbrev S1024x5632 : Shape := ⟨2, ![1024, 5632]⟩
abbrev S1x16384x5632 : Shape := ⟨3, ![1, 16384, 5632]⟩
abbrev S5632x1024 : Shape := ⟨2, ![5632, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x5632, .f32⟩
  | .hbm, ⟨2, _⟩ => ⟨S1x16384x5632, .f32⟩
  | .hbm, ⟨3, _⟩ => ⟨S1x16384x5632, .f32⟩
  | .hbm, ⟨4, _⟩ => ⟨S5632x1024, .f32⟩
  | .hbm, ⟨5, _⟩ => ⟨S1024x5632, .f32⟩
  | .hbm, ⟨6, _⟩ => ⟨S1x16384x1024, .f32⟩
  | .hbm, ⟨7, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S1x16384x1024 : Shape := ⟨3, ![1, 16384, 1024]⟩
abbrev S1024x5632 : Shape := ⟨2, ![1024, 5632]⟩
abbrev S1x16384x5632 : Shape := ⟨3, ![1, 16384, 5632]⟩
abbrev S16384x1024 : Shape := ⟨2, ![16384, 1024]⟩
abbrev S16384x5632 : Shape := ⟨2, ![16384, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1024x5632, .f32⟩
  | .hbm, ⟨2, _⟩ => ⟨S1x16384x5632, .f32⟩
  | .hbm, ⟨3, _⟩ => ⟨S16384x1024, .f32⟩
  | .hbm, ⟨4, _⟩ => ⟨S16384x1024, .bf16⟩
  | .hbm, ⟨5, _⟩ => ⟨S16384x5632, .f32⟩
  | .hbm, ⟨6, _⟩ => ⟨S16384x5632, .bf16⟩
  | .hbm, ⟨7, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S1x16384x1024 : Shape := ⟨3, ![1, 16384, 1024]⟩
abbrev S1024x5632 : Shape := ⟨2, ![1024, 5632]⟩
abbrev S1x16384x5632 : Shape := ⟨3, ![1, 16384, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x5632, .f32⟩
  | .hbm, ⟨2, _⟩ => ⟨S1x16384x5632, .f32⟩
  | .hbm, ⟨3, _⟩ => ⟨S1x16384x5632, .f32⟩
  | .hbm, ⟨4, _⟩ => ⟨S5632x1024, .f32⟩
  | .hbm, ⟨5, _⟩ => ⟨S1024x5632, .f32⟩
  | .hbm, ⟨6, _⟩ => ⟨S1x16384x1024, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ScIn.lean ====
abbrev S1x16384x1024 : Shape := ⟨3, ![1, 16384, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S16384x1024 : Shape := ⟨2, ![16384, 1024]⟩
abbrev S16384x3072 : Shape := ⟨2, ![16384, 3072]⟩
abbrev S1024x1024 : Shape := ⟨2, ![1024, 1024]⟩
abbrev S1x1x1024x768 : Shape := ⟨4, ![1, 1, 1024, 768]⟩
abbrev S1024x768 : Shape := ⟨2, ![1024, 768]⟩

abbrev nBuf : Space → Nat
  | .hbm => 9
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S1024x3072, .f32⟩
  | .hbm, ⟨2, _⟩ => ⟨S1024x4x768, .f32⟩
  | .hbm, ⟨3, _⟩ => ⟨S4x1024x768, .f32⟩
  | .hbm, ⟨4, _⟩ => ⟨S1x4x1024x768, .f32⟩
  | .hbm, ⟨5, _⟩ => ⟨S1x4x1024x768, .bf16⟩
  | .hbm, ⟨6, _⟩ => ⟨S16384x1024, .f32⟩
  | .hbm, ⟨7, _⟩ => ⟨S16384x1024, .bf16⟩
  | .hbm, ⟨8, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S1024x768, .bf16⟩
  | .local _ .vmem, ⟨5, _⟩ => ⟨S1024x768, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInRefIdeal.lean ====
abbrev S1x16384x1024 : Shape := ⟨3, ![1, 16384, 1024]⟩
abbrev S1024x3072 : Shape := ⟨2, ![1024, 3072]⟩
abbrev S1x16384x3072 : Shape := ⟨3, ![1, 16384, 3072]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x3072, .f32⟩
  | .hbm, ⟨2, _⟩ => ⟨S1x16384x3072, .f32⟩
  | .hbm, ⟨3, _⟩ => ⟨S16384x3072, .f32⟩
  | .hbm, ⟨4, _⟩ => ⟨S16384x3072, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ScInDx.lean ====
abbrev S1x16384x1024 : Shape := ⟨3, ![1, 16384, 1024]⟩
abbrev S1024x3072 : Shape := ⟨2, ![1024, 3072]⟩
abbrev S1x16384x3072 : Shape := ⟨3, ![1, 16384, 3072]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S16384x3072 : Shape := ⟨2, ![16384, 3072]⟩
abbrev S16384x1024 : Shape := ⟨2, ![16384, 1024]⟩
abbrev S512x3072 : Shape := ⟨2, ![512, 3072]⟩
abbrev S512x1024 : Shape := ⟨2, ![512, 1024]⟩
abbrev S4 : Shape := ⟨1, ![4]⟩
abbrev S1 : Shape := ⟨1, ![1]⟩
abbrev S_ : Shape := ⟨0, ![]⟩
abbrev S1024x768 : Shape := ⟨2, ![1024, 768]⟩
abbrev S1x1x1024x768 : Shape := ⟨4, ![1, 1, 1024, 768]⟩

abbrev nBuf : Space → Nat
  | .hbm => 10
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1024x3072, .f32⟩
  | .hbm, ⟨2, _⟩ => ⟨S1x16384x3072, .f32⟩
  | .hbm, ⟨3, _⟩ => ⟨S1024x4x768, .f32⟩
  | .hbm, ⟨4, _⟩ => ⟨S4x1024x768, .f32⟩
  | .hbm, ⟨5, _⟩ => ⟨S1x4x1024x768, .f32⟩
  | .hbm, ⟨6, _⟩ => ⟨S1x4x1024x768, .bf16⟩
  | .hbm, ⟨7, _⟩ => ⟨S16384x3072, .f32⟩
  | .hbm, ⟨8, _⟩ => ⟨S16384x3072, .bf16⟩
  | .hbm, ⟨9, _⟩ => ⟨S16384x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .f32⟩
  | .local _ .vmem, ⟨3, _⟩ => ⟨S512x1024, .f32⟩
  | .local _ .vmem, ⟨4, _⟩ => ⟨S1024x3072, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ScInDxRefIdeal.lean ====
abbrev S1x16384x1024 : Shape := ⟨3, ![1, 16384, 1024]⟩
abbrev S1024x3072 : Shape := ⟨2, ![1024, 3072]⟩
abbrev S1x16384x3072 : Shape := ⟨3, ![1, 16384, 3072]⟩
abbrev S3072x1024 : Shape := ⟨2, ![3072, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x3072, .f32⟩
  | .hbm, ⟨2, _⟩ => ⟨S1x16384x3072, .f32⟩
  | .hbm, ⟨3, _⟩ => ⟨S1x16384x3072, .f32⟩
  | .hbm, ⟨4, _⟩ => ⟨S3072x1024, .f32⟩
  | .hbm, ⟨5, _⟩ => ⟨S1024x3072, .f32⟩
  | .hbm, ⟨6, _⟩ => ⟨S1x16384x1024, .f32⟩
  | .hbm, ⟨7, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ScInDw.lean ====
abbrev S1x16384x1024 : Shape := ⟨3, ![1, 16384, 1024]⟩
abbrev S1024x3072 : Shape := ⟨2, ![1024, 3072]⟩
abbrev S1x16384x3072 : Shape := ⟨3, ![1, 16384, 3072]⟩
abbrev S16384x1024 : Shape := ⟨2, ![16384, 1024]⟩
abbrev S16384x3072 : Shape := ⟨2, ![16384, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1024x3072, .f32⟩
  | .hbm, ⟨2, _⟩ => ⟨S1x16384x3072, .f32⟩
  | .hbm, ⟨3, _⟩ => ⟨S16384x1024, .f32⟩
  | .hbm, ⟨4, _⟩ => ⟨S16384x1024, .bf16⟩
  | .hbm, ⟨5, _⟩ => ⟨S16384x3072, .f32⟩
  | .hbm, ⟨6, _⟩ => ⟨S16384x3072, .bf16⟩
  | .hbm, ⟨7, _⟩ => ⟨S4x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInDwRefIdeal.lean ====
abbrev S1x16384x1024 : Shape := ⟨3, ![1, 16384, 1024]⟩
abbrev S1024x3072 : Shape := ⟨2, ![1024, 3072]⟩
abbrev S1x16384x3072 : Shape := ⟨3, ![1, 16384, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x3072, .f32⟩
  | .hbm, ⟨2, _⟩ => ⟨S1x16384x3072, .f32⟩
  | .hbm, ⟨3, _⟩ => ⟨S1x16384x3072, .f32⟩
  | .hbm, ⟨4, _⟩ => ⟨S3072x1024, .f32⟩
  | .hbm, ⟨5, _⟩ => ⟨S1024x3072, .f32⟩
  | .hbm, ⟨6, _⟩ => ⟨S1x16384x1024, .f32⟩
  | .hbm, ⟨7, _⟩ => ⟨S1024x4x768, .f32⟩
  | .hbm, ⟨8, _⟩ => ⟨S4x1024x768, .f32⟩
  | .hbm, ⟨9, _⟩ => ⟨S4x1024x768, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Pw1.lean ====
abbrev S1x16384x1024 : Shape := ⟨3, ![1, 16384, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S1x4x1024x512 : Shape := ⟨4, ![1, 4, 1024, 512]⟩
abbrev S16384x1024 : Shape := ⟨2, ![16384, 1024]⟩
abbrev S16384x2048 : Shape := ⟨2, ![16384, 2048]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 9
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S1024x2048, .f32⟩
  | .hbm, ⟨2, _⟩ => ⟨S1024x4x512, .f32⟩
  | .hbm, ⟨3, _⟩ => ⟨S4x1024x512, .f32⟩
  | .hbm, ⟨4, _⟩ => ⟨S1x4x1024x512, .f32⟩
  | .hbm, ⟨5, _⟩ => ⟨S1x4x1024x512, .bf16⟩
  | .hbm, ⟨6, _⟩ => ⟨S16384x1024, .f32⟩
  | .hbm, ⟨7, _⟩ => ⟨S16384x1024, .bf16⟩
  | .hbm, ⟨8, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .bf16⟩
  | .local _ .vmem, ⟨5, _⟩ => ⟨S1024x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Pw1RefIdeal.lean ====
abbrev S1x16384x1024 : Shape := ⟨3, ![1, 16384, 1024]⟩
abbrev S1024x2048 : Shape := ⟨2, ![1024, 2048]⟩
abbrev S1x16384x2048 : Shape := ⟨3, ![1, 16384, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x2048, .f32⟩
  | .hbm, ⟨2, _⟩ => ⟨S1x16384x2048, .f32⟩
  | .hbm, ⟨3, _⟩ => ⟨S16384x2048, .f32⟩
  | .hbm, ⟨4, _⟩ => ⟨S16384x2048, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Pw1Dx.lean ====
abbrev S1x16384x1024 : Shape := ⟨3, ![1, 16384, 1024]⟩
abbrev S1024x2048 : Shape := ⟨2, ![1024, 2048]⟩
abbrev S1x16384x2048 : Shape := ⟨3, ![1, 16384, 2048]⟩
abbrev S1024x4x512 : Shape := ⟨3, ![1024, 4, 512]⟩
abbrev S4x1024x512 : Shape := ⟨3, ![4, 1024, 512]⟩
abbrev S1x4x1024x512 : Shape := ⟨4, ![1, 4, 1024, 512]⟩
abbrev S16384x2048 : Shape := ⟨2, ![16384, 2048]⟩
abbrev S16384x1024 : Shape := ⟨2, ![16384, 1024]⟩
abbrev S512x2048 : Shape := ⟨2, ![512, 2048]⟩
abbrev S512x1024 : Shape := ⟨2, ![512, 1024]⟩
abbrev S4 : Shape := ⟨1, ![4]⟩
abbrev S1 : Shape := ⟨1, ![1]⟩
abbrev S_ : Shape := ⟨0, ![]⟩
abbrev S1024x512 : Shape := ⟨2, ![1024, 512]⟩
abbrev S1x1x1024x512 : Shape := ⟨4, ![1, 1, 1024, 512]⟩

abbrev nBuf : Space → Nat
  | .hbm => 10
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1024x2048, .f32⟩
  | .hbm, ⟨2, _⟩ => ⟨S1x16384x2048, .f32⟩
  | .hbm, ⟨3, _⟩ => ⟨S1024x4x512, .f32⟩
  | .hbm, ⟨4, _⟩ => ⟨S4x1024x512, .f32⟩
  | .hbm, ⟨5, _⟩ => ⟨S1x4x1024x512, .f32⟩
  | .hbm, ⟨6, _⟩ => ⟨S1x4x1024x512, .bf16⟩
  | .hbm, ⟨7, _⟩ => ⟨S16384x2048, .f32⟩
  | .hbm, ⟨8, _⟩ => ⟨S16384x2048, .bf16⟩
  | .hbm, ⟨9, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Pw1DxRefIdeal.lean ====
abbrev S1x16384x1024 : Shape := ⟨3, ![1, 16384, 1024]⟩
abbrev S1024x2048 : Shape := ⟨2, ![1024, 2048]⟩
abbrev S1x16384x2048 : Shape := ⟨3, ![1, 16384, 2048]⟩
abbrev S2048x1024 : Shape := ⟨2, ![2048, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x2048, .f32⟩
  | .hbm, ⟨2, _⟩ => ⟨S1x16384x2048, .f32⟩
  | .hbm, ⟨3, _⟩ => ⟨S1x16384x2048, .f32⟩
  | .hbm, ⟨4, _⟩ => ⟨S2048x1024, .f32⟩
  | .hbm, ⟨5, _⟩ => ⟨S1024x2048, .f32⟩
  | .hbm, ⟨6, _⟩ => ⟨S1x16384x1024, .f32⟩
  | .hbm, ⟨7, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Pw1Dw.lean ====
abbrev S1x16384x1024 : Shape := ⟨3, ![1, 16384, 1024]⟩
abbrev S1024x2048 : Shape := ⟨2, ![1024, 2048]⟩
abbrev S1x16384x2048 : Shape := ⟨3, ![1, 16384, 2048]⟩
abbrev S16384x1024 : Shape := ⟨2, ![16384, 1024]⟩
abbrev S16384x2048 : Shape := ⟨2, ![16384, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1024x2048, .f32⟩
  | .hbm, ⟨2, _⟩ => ⟨S1x16384x2048, .f32⟩
  | .hbm, ⟨3, _⟩ => ⟨S16384x1024, .f32⟩
  | .hbm, ⟨4, _⟩ => ⟨S16384x1024, .bf16⟩
  | .hbm, ⟨5, _⟩ => ⟨S16384x2048, .f32⟩
  | .hbm, ⟨6, _⟩ => ⟨S16384x2048, .bf16⟩
  | .hbm, ⟨7, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Pw1DwRefIdeal.lean ====
abbrev S1x16384x1024 : Shape := ⟨3, ![1, 16384, 1024]⟩
abbrev S1024x2048 : Shape := ⟨2, ![1024, 2048]⟩
abbrev S1x16384x2048 : Shape := ⟨3, ![1, 16384, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x2048, .f32⟩
  | .hbm, ⟨2, _⟩ => ⟨S1x16384x2048, .f32⟩
  | .hbm, ⟨3, _⟩ => ⟨S1x16384x2048, .f32⟩
  | .hbm, ⟨4, _⟩ => ⟨S2048x1024, .f32⟩
  | .hbm, ⟨5, _⟩ => ⟨S1024x2048, .f32⟩
  | .hbm, ⟨6, _⟩ => ⟨S1x16384x1024, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ScOut.lean ====
abbrev S1x16384x1024 : Shape := ⟨3, ![1, 16384, 1024]⟩
abbrev S1024x1024 : Shape := ⟨2, ![1024, 1024]⟩
abbrev S16384x1024 : Shape := ⟨2, ![16384, 1024]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1x1024x1024, .f32⟩
  | .hbm, ⟨5, _⟩ => ⟨S1x1024x1024, .bf16⟩
  | .hbm, ⟨6, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScOutRefIdeal.lean ====
abbrev S1x16384x1024 : Shape := ⟨3, ![1, 16384, 1024]⟩
abbrev S1024x1024 : Shape := ⟨2, ![1024, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x16384x1024, .f32⟩
  | .hbm, ⟨3, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ScOutDx.lean ====
abbrev S1x16384x1024 : Shape := ⟨3, ![1, 16384, 1024]⟩
abbrev S1024x1024 : Shape := ⟨2, ![1024, 1024]⟩
abbrev S16384x1024 : Shape := ⟨2, ![16384, 1024]⟩
abbrev S1x1024x1024 : Shape := ⟨3, ![1, 1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x16384x1024, .f32⟩
  | .hbm, ⟨3, _⟩ => ⟨S16384x1024, .f32⟩
  | .hbm, ⟨4, _⟩ => ⟨S16384x1024, .bf16⟩
  | .hbm, ⟨5, _⟩ => ⟨S1x1024x1024, .f32⟩
  | .hbm, ⟨6, _⟩ => ⟨S1x1024x1024, .bf16⟩
  | .hbm, ⟨7, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScOutDxRefIdeal.lean ====
abbrev S1x16384x1024 : Shape := ⟨3, ![1, 16384, 1024]⟩
abbrev S1024x1024 : Shape := ⟨2, ![1024, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x16384x1024, .f32⟩
  | .hbm, ⟨3, _⟩ => ⟨S1x16384x1024, .f32⟩
  | .hbm, ⟨4, _⟩ => ⟨S1024x1024, .f32⟩
  | .hbm, ⟨5, _⟩ => ⟨S1024x1024, .f32⟩
  | .hbm, ⟨6, _⟩ => ⟨S1x16384x1024, .f32⟩
  | .hbm, ⟨7, _⟩ => ⟨S16384x1024, .f32⟩
  | .hbm, ⟨8, _⟩ => ⟨S16384x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ScOutDw.lean ====
abbrev S1x16384x1024 : Shape := ⟨3, ![1, 16384, 1024]⟩
abbrev S1024x1024 : Shape := ⟨2, ![1024, 1024]⟩
abbrev S16384x1024 : Shape := ⟨2, ![16384, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x16384x1024, .f32⟩
  | .hbm, ⟨3, _⟩ => ⟨S16384x1024, .f32⟩
  | .hbm, ⟨4, _⟩ => ⟨S16384x1024, .bf16⟩
  | .hbm, ⟨5, _⟩ => ⟨S16384x1024, .f32⟩
  | .hbm, ⟨6, _⟩ => ⟨S16384x1024, .bf16⟩
  | .hbm, ⟨7, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ScOutDwRefIdeal.lean ====
abbrev S1x16384x1024 : Shape := ⟨3, ![1, 16384, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x16384x1024, .f32⟩
  | .hbm, ⟨3, _⟩ => ⟨S1x16384x1024, .f32⟩
  | .hbm, ⟨4, _⟩ => ⟨S1024x1024, .f32⟩
  | .hbm, ⟨5, _⟩ => ⟨S1024x1024, .f32⟩
  | .hbm, ⟨6, _⟩ => ⟨S1x16384x1024, .f32⟩
  | .hbm, ⟨7, _⟩ => ⟨S1024x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Down1.lean ====
abbrev S1x16384x2816 : Shape := ⟨3, ![1, 16384, 2816]⟩
abbrev S3x2816x1024 : Shape := ⟨3, ![3, 2816, 1024]⟩
abbrev S16384x2816 : Shape := ⟨2, ![16384, 2816]⟩
abbrev S16384x1024 : Shape := ⟨2, ![16384, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S16384x2816, .f32⟩
  | .hbm, ⟨3, _⟩ => ⟨S16384x2816, .bf16⟩
  | .hbm, ⟨4, _⟩ => ⟨S3x2816x1024, .bf16⟩
  | .hbm, ⟨5, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down1RefIdeal.lean ====
abbrev S1x16384x2816 : Shape := ⟨3, ![1, 16384, 2816]⟩
abbrev S3x2816x1024 : Shape := ⟨3, ![3, 2816, 1024]⟩
abbrev S1x2816x1024 : Shape := ⟨3, ![1, 2816, 1024]⟩
abbrev S2816x1024 : Shape := ⟨2, ![2816, 1024]⟩
abbrev S1x16384x1024 : Shape := ⟨3, ![1, 16384, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S1x2816x1024, .f32⟩
  | .hbm, ⟨3, _⟩ => ⟨S2816x1024, .f32⟩
  | .hbm, ⟨4, _⟩ => ⟨S1x16384x1024, .f32⟩
  | .hbm, ⟨5, _⟩ => ⟨S16384x1024, .f32⟩
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down2.lean ====
abbrev S1x16384x2816 : Shape := ⟨3, ![1, 16384, 2816]⟩
abbrev S3x2816x1024 : Shape := ⟨3, ![3, 2816, 1024]⟩
abbrev S16384x2816 : Shape := ⟨2, ![16384, 2816]⟩
abbrev S16384x1024 : Shape := ⟨2, ![16384, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S16384x2816, .f32⟩
  | .hbm, ⟨3, _⟩ => ⟨S16384x2816, .bf16⟩
  | .hbm, ⟨4, _⟩ => ⟨S3x2816x1024, .bf16⟩
  | .hbm, ⟨5, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down2RefIdeal.lean ====
abbrev S1x16384x2816 : Shape := ⟨3, ![1, 16384, 2816]⟩
abbrev S3x2816x1024 : Shape := ⟨3, ![3, 2816, 1024]⟩
abbrev S1x2816x1024 : Shape := ⟨3, ![1, 2816, 1024]⟩
abbrev S2816x1024 : Shape := ⟨2, ![2816, 1024]⟩
abbrev S1x16384x1024 : Shape := ⟨3, ![1, 16384, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S1x2816x1024, .f32⟩
  | .hbm, ⟨3, _⟩ => ⟨S2816x1024, .f32⟩
  | .hbm, ⟨4, _⟩ => ⟨S1x16384x1024, .f32⟩
  | .hbm, ⟨5, _⟩ => ⟨S16384x1024, .f32⟩
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down3.lean ====
abbrev S1x16384x2816 : Shape := ⟨3, ![1, 16384, 2816]⟩
abbrev S3x2816x1024 : Shape := ⟨3, ![3, 2816, 1024]⟩
abbrev S16384x2816 : Shape := ⟨2, ![16384, 2816]⟩
abbrev S16384x1024 : Shape := ⟨2, ![16384, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S16384x2816, .f32⟩
  | .hbm, ⟨3, _⟩ => ⟨S16384x2816, .bf16⟩
  | .hbm, ⟨4, _⟩ => ⟨S3x2816x1024, .bf16⟩
  | .hbm, ⟨5, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down3RefIdeal.lean ====
abbrev S1x16384x2816 : Shape := ⟨3, ![1, 16384, 2816]⟩
abbrev S3x2816x1024 : Shape := ⟨3, ![3, 2816, 1024]⟩
abbrev S1x2816x1024 : Shape := ⟨3, ![1, 2816, 1024]⟩
abbrev S2816x1024 : Shape := ⟨2, ![2816, 1024]⟩
abbrev S1x16384x1024 : Shape := ⟨3, ![1, 16384, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S1x2816x1024, .f32⟩
  | .hbm, ⟨3, _⟩ => ⟨S2816x1024, .f32⟩
  | .hbm, ⟨4, _⟩ => ⟨S1x16384x1024, .f32⟩
  | .hbm, ⟨5, _⟩ => ⟨S16384x1024, .f32⟩
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDx1.lean ====
abbrev S1x16384x2816 : Shape := ⟨3, ![1, 16384, 2816]⟩
abbrev S3x2816x1024 : Shape := ⟨3, ![3, 2816, 1024]⟩
abbrev S1x16384x1024 : Shape := ⟨3, ![1, 16384, 1024]⟩
abbrev S16384x1024 : Shape := ⟨2, ![16384, 1024]⟩
abbrev S16384x2816 : Shape := ⟨2, ![16384, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S1x16384x1024, .f32⟩
  | .hbm, ⟨3, _⟩ => ⟨S16384x1024, .f32⟩
  | .hbm, ⟨4, _⟩ => ⟨S16384x1024, .bf16⟩
  | .hbm, ⟨5, _⟩ => ⟨S3x2816x1024, .bf16⟩
  | .hbm, ⟨6, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx1RefIdeal.lean ====
abbrev S1x16384x2816 : Shape := ⟨3, ![1, 16384, 2816]⟩
abbrev S3x2816x1024 : Shape := ⟨3, ![3, 2816, 1024]⟩
abbrev S1x16384x1024 : Shape := ⟨3, ![1, 16384, 1024]⟩
abbrev S1x2816x1024 : Shape := ⟨3, ![1, 2816, 1024]⟩
abbrev S2816x1024 : Shape := ⟨2, ![2816, 1024]⟩
abbrev S1024x2816 : Shape := ⟨2, ![1024, 2816]⟩
abbrev S16384x2816 : Shape := ⟨2, ![16384, 2816]⟩

abbrev nBuf : Space → Nat
  | .hbm => 11
  | .vmem => 0
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S1x16384x1024, .f32⟩
  | .hbm, ⟨3, _⟩ => ⟨S1x2816x1024, .f32⟩
  | .hbm, ⟨4, _⟩ => ⟨S2816x1024, .f32⟩
  | .hbm, ⟨5, _⟩ => ⟨S1x16384x1024, .f32⟩
  | .hbm, ⟨6, _⟩ => ⟨S1024x2816, .f32⟩
  | .hbm, ⟨7, _⟩ => ⟨S2816x1024, .f32⟩
  | .hbm, ⟨8, _⟩ => ⟨S1x16384x2816, .f32⟩
  | .hbm, ⟨9, _⟩ => ⟨S16384x2816, .f32⟩
  | .hbm, ⟨10, _⟩ => ⟨S16384x2816, .bf16⟩
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDx2.lean ====
abbrev S1x16384x2816 : Shape := ⟨3, ![1, 16384, 2816]⟩
abbrev S3x2816x1024 : Shape := ⟨3, ![3, 2816, 1024]⟩
abbrev S1x16384x1024 : Shape := ⟨3, ![1, 16384, 1024]⟩
abbrev S16384x1024 : Shape := ⟨2, ![16384, 1024]⟩
abbrev S16384x2816 : Shape := ⟨2, ![16384, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S1x16384x1024, .f32⟩
  | .hbm, ⟨3, _⟩ => ⟨S16384x1024, .f32⟩
  | .hbm, ⟨4, _⟩ => ⟨S16384x1024, .bf16⟩
  | .hbm, ⟨5, _⟩ => ⟨S3x2816x1024, .bf16⟩
  | .hbm, ⟨6, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx2RefIdeal.lean ====
abbrev S1x16384x2816 : Shape := ⟨3, ![1, 16384, 2816]⟩
abbrev S3x2816x1024 : Shape := ⟨3, ![3, 2816, 1024]⟩
abbrev S1x16384x1024 : Shape := ⟨3, ![1, 16384, 1024]⟩
abbrev S1x2816x1024 : Shape := ⟨3, ![1, 2816, 1024]⟩
abbrev S2816x1024 : Shape := ⟨2, ![2816, 1024]⟩
abbrev S1024x2816 : Shape := ⟨2, ![1024, 2816]⟩
abbrev S16384x2816 : Shape := ⟨2, ![16384, 2816]⟩

abbrev nBuf : Space → Nat
  | .hbm => 11
  | .vmem => 0
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S1x16384x1024, .f32⟩
  | .hbm, ⟨3, _⟩ => ⟨S1x2816x1024, .f32⟩
  | .hbm, ⟨4, _⟩ => ⟨S2816x1024, .f32⟩
  | .hbm, ⟨5, _⟩ => ⟨S1x16384x1024, .f32⟩
  | .hbm, ⟨6, _⟩ => ⟨S1024x2816, .f32⟩
  | .hbm, ⟨7, _⟩ => ⟨S2816x1024, .f32⟩
  | .hbm, ⟨8, _⟩ => ⟨S1x16384x2816, .f32⟩
  | .hbm, ⟨9, _⟩ => ⟨S16384x2816, .f32⟩
  | .hbm, ⟨10, _⟩ => ⟨S16384x2816, .bf16⟩
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDx3.lean ====
abbrev S1x16384x2816 : Shape := ⟨3, ![1, 16384, 2816]⟩
abbrev S3x2816x1024 : Shape := ⟨3, ![3, 2816, 1024]⟩
abbrev S1x16384x1024 : Shape := ⟨3, ![1, 16384, 1024]⟩
abbrev S16384x1024 : Shape := ⟨2, ![16384, 1024]⟩
abbrev S16384x2816 : Shape := ⟨2, ![16384, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S1x16384x1024, .f32⟩
  | .hbm, ⟨3, _⟩ => ⟨S16384x1024, .f32⟩
  | .hbm, ⟨4, _⟩ => ⟨S16384x1024, .bf16⟩
  | .hbm, ⟨5, _⟩ => ⟨S3x2816x1024, .bf16⟩
  | .hbm, ⟨6, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx3RefIdeal.lean ====
abbrev S1x16384x2816 : Shape := ⟨3, ![1, 16384, 2816]⟩
abbrev S3x2816x1024 : Shape := ⟨3, ![3, 2816, 1024]⟩
abbrev S1x16384x1024 : Shape := ⟨3, ![1, 16384, 1024]⟩
abbrev S1x2816x1024 : Shape := ⟨3, ![1, 2816, 1024]⟩
abbrev S2816x1024 : Shape := ⟨2, ![2816, 1024]⟩
abbrev S1024x2816 : Shape := ⟨2, ![1024, 2816]⟩
abbrev S16384x2816 : Shape := ⟨2, ![16384, 2816]⟩

abbrev nBuf : Space → Nat
  | .hbm => 11
  | .vmem => 0
  | .smem => 0
  | _ => 0

abbrev bufTy : (tb : Table) → Fin (tcTables nBuf tb) → BufTy
  | .hbm, ⟨0, _⟩ => ⟨S1x16384x2816, .f32⟩
  | .hbm, ⟨1, _⟩ => ⟨S3x2816x1024, .f32⟩
  | .hbm, ⟨2, _⟩ => ⟨S1x16384x1024, .f32⟩
  | .hbm, ⟨3, _⟩ => ⟨S1x2816x1024, .f32⟩
  | .hbm, ⟨4, _⟩ => ⟨S2816x1024, .f32⟩
  | .hbm, ⟨5, _⟩ => ⟨S1x16384x1024, .f32⟩
  | .hbm, ⟨6, _⟩ => ⟨S1024x2816, .f32⟩
  | .hbm, ⟨7, _⟩ => ⟨S2816x1024, .f32⟩
  | .hbm, ⟨8, _⟩ => ⟨S1x16384x2816, .f32⟩
  | .hbm, ⟨9, _⟩ => ⟨S16384x2816, .f32⟩
  | .hbm, ⟨10, _⟩ => ⟨S16384x2816, .bf16⟩
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up1.lean ====
abbrev S1x16384x1024 : Shape := ⟨3, ![1, 16384, 1024]⟩
abbrev S3x1024x5632 : Shape := ⟨3, ![3, 1024, 5632]⟩
abbrev S16384x1024 : Shape := ⟨2, ![16384, 1024]⟩
abbrev S3x1024x4x1408 : Shape := ⟨4, ![3, 1024, 4, 1408]⟩
abbrev S3x4x1024x1408 : Shape := ⟨4, ![3, 4, 1024, 1408]⟩
abbrev S16384x5632 : Shape := ⟨2, ![16384, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S16384x1024, .f32⟩
  | .hbm, ⟨3, _⟩ => ⟨S16384x1024, .bf16⟩
  | .hbm, ⟨4, _⟩ => ⟨S3x1024x4x1408, .f32⟩
  | .hbm, ⟨5, _⟩ => ⟨S3x4x1024x1408, .f32⟩
  | .hbm, ⟨6, _⟩ => ⟨S3x4x1024x1408, .bf16⟩
  | .hbm, ⟨7, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up1RefIdeal.lean ====
abbrev S1x16384x1024 : Shape := ⟨3, ![1, 16384, 1024]⟩
abbrev S3x1024x5632 : Shape := ⟨3, ![3, 1024, 5632]⟩
abbrev S1x1024x5632 : Shape := ⟨3, ![1, 1024, 5632]⟩
abbrev S1024x5632 : Shape := ⟨2, ![1024, 5632]⟩
abbrev S1x16384x5632 : Shape := ⟨3, ![1, 16384, 5632]⟩
abbrev S16384x5632 : Shape := ⟨2, ![16384, 5632]⟩

abbrev nBuf : Space → Nat
  | .hbm => 7
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S1x1024x5632, .f32⟩
  | .hbm, ⟨3, _⟩ => ⟨S1024x5632, .f32⟩
  | .hbm, ⟨4, _⟩ => ⟨S1x16384x5632, .f32⟩
  | .hbm, ⟨5, _⟩ => ⟨S16384x5632, .f32⟩
  | .hbm, ⟨6, _⟩ => ⟨S16384x5632, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up2.lean ====
abbrev S1x16384x1024 : Shape := ⟨3, ![1, 16384, 1024]⟩
abbrev S3x1024x5632 : Shape := ⟨3, ![3, 1024, 5632]⟩
abbrev S16384x1024 : Shape := ⟨2, ![16384, 1024]⟩
abbrev S3x1024x4x1408 : Shape := ⟨4, ![3, 1024, 4, 1408]⟩
abbrev S3x4x1024x1408 : Shape := ⟨4, ![3, 4, 1024, 1408]⟩
abbrev S16384x5632 : Shape := ⟨2, ![16384, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S16384x1024, .f32⟩
  | .hbm, ⟨3, _⟩ => ⟨S16384x1024, .bf16⟩
  | .hbm, ⟨4, _⟩ => ⟨S3x1024x4x1408, .f32⟩
  | .hbm, ⟨5, _⟩ => ⟨S3x4x1024x1408, .f32⟩
  | .hbm, ⟨6, _⟩ => ⟨S3x4x1024x1408, .bf16⟩
  | .hbm, ⟨7, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  let c0_i32_13 : BitVec 32 := 0#32
  ![c1_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up2RefIdeal.lean ====
abbrev S1x16384x1024 : Shape := ⟨3, ![1, 16384, 1024]⟩
abbrev S3x1024x5632 : Shape := ⟨3, ![3, 1024, 5632]⟩
abbrev S1x1024x5632 : Shape := ⟨3, ![1, 1024, 5632]⟩
abbrev S1024x5632 : Shape := ⟨2, ![1024, 5632]⟩
abbrev S1x16384x5632 : Shape := ⟨3, ![1, 16384, 5632]⟩
abbrev S16384x5632 : Shape := ⟨2, ![16384, 5632]⟩

abbrev nBuf : Space → Nat
  | .hbm => 7
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S1x1024x5632, .f32⟩
  | .hbm, ⟨3, _⟩ => ⟨S1024x5632, .f32⟩
  | .hbm, ⟨4, _⟩ => ⟨S1x16384x5632, .f32⟩
  | .hbm, ⟨5, _⟩ => ⟨S16384x5632, .f32⟩
  | .hbm, ⟨6, _⟩ => ⟨S16384x5632, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up3.lean ====
abbrev S1x16384x1024 : Shape := ⟨3, ![1, 16384, 1024]⟩
abbrev S3x1024x5632 : Shape := ⟨3, ![3, 1024, 5632]⟩
abbrev S16384x1024 : Shape := ⟨2, ![16384, 1024]⟩
abbrev S3x1024x4x1408 : Shape := ⟨4, ![3, 1024, 4, 1408]⟩
abbrev S3x4x1024x1408 : Shape := ⟨4, ![3, 4, 1024, 1408]⟩
abbrev S16384x5632 : Shape := ⟨2, ![16384, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S16384x1024, .f32⟩
  | .hbm, ⟨3, _⟩ => ⟨S16384x1024, .bf16⟩
  | .hbm, ⟨4, _⟩ => ⟨S3x1024x4x1408, .f32⟩
  | .hbm, ⟨5, _⟩ => ⟨S3x4x1024x1408, .f32⟩
  | .hbm, ⟨6, _⟩ => ⟨S3x4x1024x1408, .bf16⟩
  | .hbm, ⟨7, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_11 : BitVec 32 := 0#32
  let c0_i32_12 : BitVec 32 := 0#32
  ![c2_i32.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up3RefIdeal.lean ====
abbrev S1x16384x1024 : Shape := ⟨3, ![1, 16384, 1024]⟩
abbrev S3x1024x5632 : Shape := ⟨3, ![3, 1024, 5632]⟩
abbrev S1x1024x5632 : Shape := ⟨3, ![1, 1024, 5632]⟩
abbrev S1024x5632 : Shape := ⟨2, ![1024, 5632]⟩
abbrev S1x16384x5632 : Shape := ⟨3, ![1, 16384, 5632]⟩
abbrev S16384x5632 : Shape := ⟨2, ![16384, 5632]⟩

abbrev nBuf : Space → Nat
  | .hbm => 7
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S1x1024x5632, .f32⟩
  | .hbm, ⟨3, _⟩ => ⟨S1024x5632, .f32⟩
  | .hbm, ⟨4, _⟩ => ⟨S1x16384x5632, .f32⟩
  | .hbm, ⟨5, _⟩ => ⟨S16384x5632, .f32⟩
  | .hbm, ⟨6, _⟩ => ⟨S16384x5632, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpDx1.lean ====
abbrev S1x16384x1024 : Shape := ⟨3, ![1, 16384, 1024]⟩
abbrev S3x1024x5632 : Shape := ⟨3, ![3, 1024, 5632]⟩
abbrev S1x16384x5632 : Shape := ⟨3, ![1, 16384, 5632]⟩
abbrev S16384x5632 : Shape := ⟨2, ![16384, 5632]⟩
abbrev S3x1024x4x1408 : Shape := ⟨4, ![3, 1024, 4, 1408]⟩
abbrev S3x4x1024x1408 : Shape := ⟨4, ![3, 4, 1024, 1408]⟩
abbrev S16384x1024 : Shape := ⟨2, ![16384, 1024]⟩
abbrev S512x5632 : Shape := ⟨2, ![512, 5632]⟩
abbrev S512x1024 : Shape := ⟨2, ![512, 1024]⟩
abbrev S1024x5632 : Shape := ⟨2, ![1024, 5632]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1x1024x1408 : Shape := ⟨4, ![1, 1, 1024, 1408]⟩

abbrev nBuf : Space → Nat
  | .hbm => 9
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S1x16384x5632, .f32⟩
  | .hbm, ⟨3, _⟩ => ⟨S16384x5632, .f32⟩
  | .hbm, ⟨4, _⟩ => ⟨S16384x5632, .bf16⟩
  | .hbm, ⟨5, _⟩ => ⟨S3x1024x4x1408, .f32⟩
  | .hbm, ⟨6, _⟩ => ⟨S3x4x1024x1408, .f32⟩
  | .hbm, ⟨7, _⟩ => ⟨S3x4x1024x1408, .bf16⟩
  | .hbm, ⟨8, _⟩ => ⟨S16384x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1024x5632, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UpDx1RefIdeal.lean ====
abbrev S1x16384x1024 : Shape := ⟨3, ![1, 16384, 1024]⟩
abbrev S3x1024x5632 : Shape := ⟨3, ![3, 1024, 5632]⟩
abbrev S1x16384x5632 : Shape := ⟨3, ![1, 16384, 5632]⟩
abbrev S1x1024x5632 : Shape := ⟨3, ![1, 1024, 5632]⟩
abbrev S1024x5632 : Shape := ⟨2, ![1024, 5632]⟩
abbrev S5632x1024 : Shape := ⟨2, ![5632, 1024]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S1x16384x5632, .f32⟩
  | .hbm, ⟨3, _⟩ => ⟨S1x1024x5632, .f32⟩
  | .hbm, ⟨4, _⟩ => ⟨S1024x5632, .f32⟩
  | .hbm, ⟨5, _⟩ => ⟨S1x16384x5632, .f32⟩
  | .hbm, ⟨6, _⟩ => ⟨S5632x1024, .f32⟩
  | .hbm, ⟨7, _⟩ => ⟨S1024x5632, .f32⟩
  | .hbm, ⟨8, _⟩ => ⟨S1x16384x1024, .f32⟩
  | .hbm, ⟨9, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx2.lean ====
abbrev S1x16384x1024 : Shape := ⟨3, ![1, 16384, 1024]⟩
abbrev S3x1024x5632 : Shape := ⟨3, ![3, 1024, 5632]⟩
abbrev S1x16384x5632 : Shape := ⟨3, ![1, 16384, 5632]⟩
abbrev S16384x5632 : Shape := ⟨2, ![16384, 5632]⟩
abbrev S3x1024x4x1408 : Shape := ⟨4, ![3, 1024, 4, 1408]⟩
abbrev S3x4x1024x1408 : Shape := ⟨4, ![3, 4, 1024, 1408]⟩
abbrev S16384x1024 : Shape := ⟨2, ![16384, 1024]⟩
abbrev S512x5632 : Shape := ⟨2, ![512, 5632]⟩
abbrev S512x1024 : Shape := ⟨2, ![512, 1024]⟩
abbrev S1024x5632 : Shape := ⟨2, ![1024, 5632]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1x1024x1408 : Shape := ⟨4, ![1, 1, 1024, 1408]⟩

abbrev nBuf : Space → Nat
  | .hbm => 9
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S1x16384x5632, .f32⟩
  | .hbm, ⟨3, _⟩ => ⟨S16384x5632, .f32⟩
  | .hbm, ⟨4, _⟩ => ⟨S16384x5632, .bf16⟩
  | .hbm, ⟨5, _⟩ => ⟨S3x1024x4x1408, .f32⟩
  | .hbm, ⟨6, _⟩ => ⟨S3x4x1024x1408, .f32⟩
  | .hbm, ⟨7, _⟩ => ⟨S3x4x1024x1408, .bf16⟩
  | .hbm, ⟨8, _⟩ => ⟨S16384x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1024x5632, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UpDx2RefIdeal.lean ====
abbrev S1x16384x1024 : Shape := ⟨3, ![1, 16384, 1024]⟩
abbrev S3x1024x5632 : Shape := ⟨3, ![3, 1024, 5632]⟩
abbrev S1x16384x5632 : Shape := ⟨3, ![1, 16384, 5632]⟩
abbrev S1x1024x5632 : Shape := ⟨3, ![1, 1024, 5632]⟩
abbrev S1024x5632 : Shape := ⟨2, ![1024, 5632]⟩
abbrev S5632x1024 : Shape := ⟨2, ![5632, 1024]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S1x16384x5632, .f32⟩
  | .hbm, ⟨3, _⟩ => ⟨S1x1024x5632, .f32⟩
  | .hbm, ⟨4, _⟩ => ⟨S1024x5632, .f32⟩
  | .hbm, ⟨5, _⟩ => ⟨S1x16384x5632, .f32⟩
  | .hbm, ⟨6, _⟩ => ⟨S5632x1024, .f32⟩
  | .hbm, ⟨7, _⟩ => ⟨S1024x5632, .f32⟩
  | .hbm, ⟨8, _⟩ => ⟨S1x16384x1024, .f32⟩
  | .hbm, ⟨9, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx3.lean ====
abbrev S1x16384x1024 : Shape := ⟨3, ![1, 16384, 1024]⟩
abbrev S3x1024x5632 : Shape := ⟨3, ![3, 1024, 5632]⟩
abbrev S1x16384x5632 : Shape := ⟨3, ![1, 16384, 5632]⟩
abbrev S16384x5632 : Shape := ⟨2, ![16384, 5632]⟩
abbrev S3x1024x4x1408 : Shape := ⟨4, ![3, 1024, 4, 1408]⟩
abbrev S3x4x1024x1408 : Shape := ⟨4, ![3, 4, 1024, 1408]⟩
abbrev S16384x1024 : Shape := ⟨2, ![16384, 1024]⟩
abbrev S512x5632 : Shape := ⟨2, ![512, 5632]⟩
abbrev S512x1024 : Shape := ⟨2, ![512, 1024]⟩
abbrev S1024x5632 : Shape := ⟨2, ![1024, 5632]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1x1024x1408 : Shape := ⟨4, ![1, 1, 1024, 1408]⟩

abbrev nBuf : Space → Nat
  | .hbm => 9
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S1x16384x5632, .f32⟩
  | .hbm, ⟨3, _⟩ => ⟨S16384x5632, .f32⟩
  | .hbm, ⟨4, _⟩ => ⟨S16384x5632, .bf16⟩
  | .hbm, ⟨5, _⟩ => ⟨S3x1024x4x1408, .f32⟩
  | .hbm, ⟨6, _⟩ => ⟨S3x4x1024x1408, .f32⟩
  | .hbm, ⟨7, _⟩ => ⟨S3x4x1024x1408, .bf16⟩
  | .hbm, ⟨8, _⟩ => ⟨S16384x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1024x5632, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UpDx3RefIdeal.lean ====
abbrev S1x16384x1024 : Shape := ⟨3, ![1, 16384, 1024]⟩
abbrev S3x1024x5632 : Shape := ⟨3, ![3, 1024, 5632]⟩
abbrev S1x16384x5632 : Shape := ⟨3, ![1, 16384, 5632]⟩
abbrev S1x1024x5632 : Shape := ⟨3, ![1, 1024, 5632]⟩
abbrev S1024x5632 : Shape := ⟨2, ![1024, 5632]⟩
abbrev S5632x1024 : Shape := ⟨2, ![5632, 1024]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S3x1024x5632, .f32⟩
  | .hbm, ⟨2, _⟩ => ⟨S1x16384x5632, .f32⟩
  | .hbm, ⟨3, _⟩ => ⟨S1x1024x5632, .f32⟩
  | .hbm, ⟨4, _⟩ => ⟨S1024x5632, .f32⟩
  | .hbm, ⟨5, _⟩ => ⟨S1x16384x5632, .f32⟩
  | .hbm, ⟨6, _⟩ => ⟨S5632x1024, .f32⟩
  | .hbm, ⟨7, _⟩ => ⟨S1024x5632, .f32⟩
  | .hbm, ⟨8, _⟩ => ⟨S1x16384x1024, .f32⟩
  | .hbm, ⟨9, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamMod.lean ====
abbrev S4x1024x1536 : Shape := ⟨3, ![4, 1024, 1536]⟩
abbrev S4096x1536 : Shape := ⟨2, ![4096, 1536]⟩
abbrev S128x1536 : Shape := ⟨2, ![128, 1536]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModRefIdeal.lean ====
abbrev S4x1024x1536 : Shape := ⟨3, ![4, 1024, 1536]⟩
abbrev S_ : Shape := ⟨0, ![]⟩
abbrev S4096x1536 : Shape := ⟨2, ![4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S4096x1536, .f32⟩
  | .hbm, ⟨38, _⟩ => ⟨S4096x1536, .f32⟩
  | .hbm, ⟨39, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamScIn.lean ====
abbrev S2x1024x768 : Shape := ⟨3, ![2, 1024, 768]⟩
abbrev S2048x768 : Shape := ⟨2, ![2048, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamScInRefIdeal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamScOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamScOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPool.lean ====
abbrev S1x4x64x256 : Shape := ⟨4, ![1, 4, 64, 256]⟩
abbrev S256x256 : Shape := ⟨2, ![256, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S1x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolRefIdeal.lean ====
abbrev S1x4x64x256 : Shape := ⟨4, ![1, 4, 64, 256]⟩
abbrev S_ : Shape := ⟨0, ![]⟩
abbrev S256x256 : Shape := ⟨2, ![256, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S_, .f32⟩
  | .hbm, ⟨5, _⟩ => ⟨S1x4x64x256, .f32⟩
  | .hbm, ⟨6, _⟩ => ⟨S1x4x64x256, .f32⟩
  | .hbm, ⟨7, _⟩ => ⟨S_, .f32⟩
  | .hbm, ⟨8, _⟩ => ⟨S1x4x64x256, .f32⟩
  | .hbm, ⟨9, _⟩ => ⟨S1x4x64x256, .f32⟩
  | .hbm, ⟨10, _⟩ => ⟨S1x4x64x256, .f32⟩
  | .hbm, ⟨11, _⟩ => ⟨S_, .f32⟩
  | .hbm, ⟨12, _⟩ => ⟨S1x4x64x256, .f32⟩
  | .hbm, ⟨13, _⟩ => ⟨S1x4x64x256, .f32⟩
  | .hbm, ⟨14, _⟩ => ⟨S1x4x64x256, .f32⟩
  | .hbm, ⟨15, _⟩ => ⟨S_, .f32⟩
  | .hbm, ⟨16, _⟩ => ⟨S1x4x64x256, .f32⟩
  | .hbm, ⟨17, _⟩ => ⟨S1x4x64x256, .f32⟩
  | .hbm, ⟨18, _⟩ => ⟨S1x4x64x256, .f32⟩
  | .hbm, ⟨19, _⟩ => ⟨S_, .f32⟩
  | .hbm, ⟨20, _⟩ => ⟨S1x4x64x256, .f32⟩
  | .hbm, ⟨21, _⟩ => ⟨S1x4x64x256, .f32⟩
  | .hbm, ⟨22, _⟩ => ⟨S_, .f32⟩
  | .hbm, ⟨23, _⟩ => ⟨S1x4x64x256, .f32⟩
  | .hbm, ⟨24, _⟩ => ⟨S1x4x64x256, .f32⟩
  | .hbm, ⟨25, _⟩ => ⟨S1x4x64x256, .f32⟩
  | .hbm, ⟨26, _⟩ => ⟨S_, .f32⟩
  | .hbm, ⟨27, _⟩ => ⟨S1x4x64x256, .f32⟩
  | .hbm, ⟨28, _⟩ => ⟨S1x4x64x256, .f32⟩
  | .hbm, ⟨29, _⟩ => ⟨S1x4x64x256, .f32⟩
  | .hbm, ⟨30, _⟩ => ⟨S_, .f32⟩
  | .hbm, ⟨31, _⟩ => ⟨S1x4x64x256, .f32⟩
  | .hbm, ⟨32, _⟩ => ⟨S1x4x64x256, .f32⟩
  | .hbm, ⟨33, _⟩ => ⟨S1x4x64x256, .f32⟩
  | .hbm, ⟨34, _⟩ => ⟨S_, .f32⟩
  | .hbm, ⟨35, _⟩ => ⟨S1x4x64x256, .f32⟩
  | .hbm, ⟨36, _⟩ => ⟨S1x4x64x256, .f32⟩
  | .hbm, ⟨37, _⟩ => ⟨S256x256, .f32⟩
  | .hbm, ⟨38, _⟩ => ⟨S256x256, .f32⟩
  | .hbm, ⟨39, _⟩ => ⟨S256x256, .f32⟩
  | _, _ => ⟨S1x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPw1.lean ====
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPw1RefIdeal.lean ====
abbrev S1x1024x512 : Shape := ⟨3, ![1, 1024, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPw2.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPw2RefIdeal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUp.lean ====
abbrev S4x1024x1408 : Shape := ⟨3, ![4, 1024, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S480x128 : Shape := ⟨2, ![480, 128]⟩

abbrev nBuf : Space → Nat
  | .hbm => 7
  | .vmem => 7
  | .smem => 0
  | _ => 0

abbrev bufTy : (tb : Table) → Fin (tcTables nBuf tb) → BufTy
  | .hbm, ⟨0, _⟩ => ⟨S480x128, .f32⟩
  | .hbm, ⟨1, _⟩ => ⟨S480x128, .f32⟩
  | .hbm, ⟨2, _⟩ => ⟨S480x128, .f32⟩
  | .hbm, ⟨3, _⟩ => ⟨S480x128, .f32⟩
  | .hbm, ⟨4, _⟩ => ⟨S480x128, .f32⟩
  | .hbm, ⟨5, _⟩ => ⟨S480x128, .f32⟩
  | .hbm, ⟨6, _⟩ => ⟨S480x128, .f32⟩
  | .local _ .vmem, ⟨0, _⟩ => ⟨S480x128, .f32⟩
  | .local _ .vmem, ⟨1, _⟩ => ⟨S480x128, .f32⟩
  | .local _ .vmem, ⟨2, _⟩ => ⟨S480x128, .f32⟩
  | .local _ .vmem, ⟨3, _⟩ => ⟨S480x128, .f32⟩
  | .local _ .vmem, ⟨4, _⟩ => ⟨S480x128, .f32⟩
  | .local _ .vmem, ⟨5, _⟩ => ⟨S480x128, .f32⟩
  | .local _ .vmem, ⟨6, _⟩ => ⟨S480x128, .f32⟩
  | _, _ => ⟨S480x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S480x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S480x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S480x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S480x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S480x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S480x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S480x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S480x128 : Shape := ⟨2, ![480, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S480x128, .f32⟩
  | .hbm, ⟨1, _⟩ => ⟨S480x128, .f32⟩
  | .hbm, ⟨2, _⟩ => ⟨S480x128, .f32⟩
  | .hbm, ⟨3, _⟩ => ⟨S480x128, .f32⟩
  | .hbm, ⟨4, _⟩ => ⟨S_, .f32⟩
  | .hbm, ⟨5, _⟩ => ⟨S480x128, .f32⟩
  | .hbm, ⟨6, _⟩ => ⟨S480x128, .f32⟩
  | .hbm, ⟨7, _⟩ => ⟨S_, .f32⟩
  | .hbm, ⟨8, _⟩ => ⟨S480x128, .f32⟩
  | .hbm, ⟨9, _⟩ => ⟨S480x128, .f32⟩
  | .hbm, ⟨10, _⟩ => ⟨S480x128, .f32⟩
  | .hbm, ⟨11, _⟩ => ⟨S_, .f32⟩
  | .hbm, ⟨12, _⟩ => ⟨S480x128, .f32⟩
  | .hbm, ⟨13, _⟩ => ⟨S480x128, .f32⟩
  | .hbm, ⟨14, _⟩ => ⟨S480x128, .f32⟩
  | .hbm, ⟨15, _⟩ => ⟨S_, .f32⟩
  | .hbm, ⟨16, _⟩ => ⟨S480x128, .f32⟩
  | .hbm, ⟨17, _⟩ => ⟨S480x128, .f32⟩
  | .hbm, ⟨18, _⟩ => ⟨S480x128, .f32⟩
  | .hbm, ⟨19, _⟩ => ⟨S_, .f32⟩
  | .hbm, ⟨20, _⟩ => ⟨S480x128, .f32⟩
  | .hbm, ⟨21, _⟩ => ⟨S480x128, .f32⟩
  | .hbm, ⟨22, _⟩ => ⟨S_, .f32⟩
  | .hbm, ⟨23, _⟩ => ⟨S480x128, .f32⟩
  | .hbm, ⟨24, _⟩ => ⟨S480x128, .f32⟩
  | .hbm, ⟨25, _⟩ => ⟨S480x128, .f32⟩
  | .hbm, ⟨26, _⟩ => ⟨S_, .f32⟩
  | .hbm, ⟨27, _⟩ => ⟨S480x128, .f32⟩
  | .hbm, ⟨28, _⟩ => ⟨S480x128, .f32⟩
  | .hbm, ⟨29, _⟩ => ⟨S480x128, .f32⟩
  | .hbm, ⟨30, _⟩ => ⟨S_, .f32⟩
  | .hbm, ⟨31, _⟩ => ⟨S480x128, .f32⟩
  | .hbm, ⟨32, _⟩ => ⟨S480x128, .f32⟩
  | .hbm, ⟨33, _⟩ => ⟨S480x128, .f32⟩
  | .hbm, ⟨34, _⟩ => ⟨S_, .f32⟩
  | .hbm, ⟨35, _⟩ => ⟨S480x128, .f32⟩
  | .hbm, ⟨36, _⟩ => ⟨S480x128, .f32⟩
  | _, _ => ⟨S480x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ModDw.lean ====
abbrev S8x1024 : Shape := ⟨2, ![8, 1024]⟩
abbrev S4x1024x1536 : Shape := ⟨3, ![4, 1024, 1536]⟩
abbrev S4x1536 : Shape := ⟨2, ![4, 1536]⟩
abbrev S4x8x1536 : Shape := ⟨3, ![4, 8, 1536]⟩
abbrev S_ : Shape := ⟨0, ![]⟩
abbrev S16x1024 : Shape := ⟨2, ![16, 1024]⟩
abbrev S4x16x1536 : Shape := ⟨3, ![4, 16, 1536]⟩
abbrev S1x16x512 : Shape := ⟨3, ![1, 16, 512]⟩
abbrev S1x1024x512 : Shape := ⟨3, ![1, 1024, 512]⟩
abbrev S16x512 : Shape := ⟨2, ![16, 512]⟩
abbrev S1024x512 : Shape := ⟨2, ![1024, 512]⟩

abbrev nBuf : Space → Nat
  | .hbm => 11
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S4x8x1536, .f32⟩
  | .hbm, ⟨4, _⟩ => ⟨S_, .i32⟩
  | .hbm, ⟨5, _⟩ => ⟨S_, .f32⟩
  | .hbm, ⟨6, _⟩ => ⟨S16x1024, .f32⟩
  | .hbm, ⟨7, _⟩ => ⟨S_, .i32⟩
  | .hbm, ⟨8, _⟩ => ⟨S_, .f32⟩
  | .hbm, ⟨9, _⟩ => ⟨S4x16x1536, .f32⟩
  | .hbm, ⟨10, _⟩ => ⟨S4x1024x1536, .f32⟩
  | .local _ .vmem, ⟨0, _⟩ => ⟨S16x1024, .f32⟩
  | .local _ .vmem, ⟨1, _⟩ => ⟨S1x16x512, .f32⟩
  | .local _ .vmem, ⟨2, _⟩ => ⟨S1x16x512, .f32⟩
  | .local _ .vmem, ⟨3, _⟩ => ⟨S1x1024x512, .f32⟩
  | .local _ .vmem, ⟨4, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ModDwRefIdeal.lean ====
abbrev S8x1024 : Shape := ⟨2, ![8, 1024]⟩
abbrev S4x1024x1536 : Shape := ⟨3, ![4, 1024, 1536]⟩
abbrev S4x1536 : Shape := ⟨2, ![4, 1536]⟩
abbrev S4x8x1536 : Shape := ⟨3, ![4, 8, 1536]⟩
abbrev S_ : Shape := ⟨0, ![]⟩
abbrev S8x4x1536 : Shape := ⟨3, ![8, 4, 1536]⟩
abbrev S4x1x1536 : Shape := ⟨3, ![4, 1, 1536]⟩
abbrev S4x1536x1024 : Shape := ⟨3, ![4, 1536, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S4x8x1536, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x4x1536, .f32⟩
  | .hbm, ⟨18, _⟩ => ⟨S4x1x1536, .f32⟩
  | .hbm, ⟨19, _⟩ => ⟨S4x8x1536, .f32⟩
  | .hbm, ⟨20, _⟩ => ⟨S4x8x1536, .f32⟩
  | .hbm, ⟨21, _⟩ => ⟨S4x8x1536, .f32⟩
  | .hbm, ⟨22, _⟩ => ⟨S4x8x1536, .f32⟩
  | .hbm, ⟨23, _⟩ => ⟨S_, .f32⟩
  | .hbm, ⟨24, _⟩ => ⟨S4x1536, .f32⟩
  | .hbm, ⟨25, _⟩ => ⟨S4x1x1536, .f32⟩
  | .hbm, ⟨26, _⟩ => ⟨S8x4x1536, .f32⟩
  | .hbm, ⟨27, _⟩ => ⟨S_, .f32⟩
  | .hbm, ⟨28, _⟩ => ⟨S4x1536, .f32⟩
  | .hbm, ⟨29, _⟩ => ⟨S4x1536x1024, .f32⟩
  | .hbm, ⟨30, _⟩ => ⟨S4x1024x1536, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Proof.Pool.Finite.lean ====
module

public import proofs.«01_k».proof.Pre_finite
public import proofs.«01_k».proof.Proof.Gen.Pre_finite
public import Idealize.ShloMosaic.Lib.ReduceAll
public import Idealize.ShloMosaic.Lib.Pointwise

/-! What the precondition says: every entry of the weights, of the scale and of the cotangent is a real number. -/

@[expose] public section

noncomputable section

namespace Cert.Pool

open Idealize.ShloMosaic Cert.Pre_finite Cert.Pre_finite.Gen

theorem and_one {a b : BitVec 1} (h : IntOp.andi a b = 1#1) : a = 1#1 ∧ b = 1#1 := by
  revert h; unfold IntOp.andi; revert a b; decide

theorem top_bits : Ideal.ofBits .f32 0x7F800000#32 = (⊤ : EReal) := by
  unfold Ideal.ofBits Ideal.ieee
  simp

theorem real_of_lt {x : Ideal .f32} (h : FloatOps.cmpf .olt (FloatOps.absf x) (Ideal.ofBits .f32 0x7F800000#32) = 1#1) :
    ∃ r : ℝ, x = (r : EReal) := by
  have h' : BitVec.ofBool (decide (max (x : EReal) (-x) < ⊤)) = 1#1 := top_bits ▸ h
  have lt : max (x : EReal) (-x) < ⊤ := by
    by_contra c
    rw [decide_eq_false c] at h'
    exact absurd h' (by decide)
  have lt1 : (x : EReal) ≠ ⊤ := (lt_of_le_of_lt (le_max_left _ _) lt).ne
  have lt2 : (x : EReal) ≠ ⊥ := fun e => (lt_of_le_of_lt (le_max_right _ _) lt).ne (by rw [e]; exact EReal.neg_bot)
  exact ⟨(x : EReal).toReal, (EReal.coe_toReal lt1 lt2).symm⟩

instance : Subsingleton S_.Idx := ⟨fun a b => funext fun i => i.elim0⟩

theorem entries {s : Shape} {axes : List (Fin s.rank)} (x : FVec Ideal s .f32) (hb : S_.BroadcastsInDim s (![] : Fin 0 → Fin s.rank)) (hr : s.ReducesTo axes S_) (hu : 0 < S_.numel)
    (j : S_.Idx)
    (h : Host.reduce IntOp.andi (cmpf .olt (Host.absf x) (broadcastInDim s ![] hb (constant (F := Ideal) S_ .f32 0x7F800000#32))) (constantI S_ 1 1#1) hr hu j = 1#1)
    (i : s.Idx) : ∃ r : ℝ, x i = r :=
  real_of_lt (Host.reduce_andi_all _ _ hr hu j h i)

theorem finite_of_pre (x0 : FVec Ideal S1x16384x1024 .f32) (x1 : FVec Ideal S4x256x256 .f32) (x2 x3 : FVec Ideal S1024 .f32) (x4 : FVec Ideal S1x16384x1024 .f32)
    (h : Cert.Pre_finite.fn (F := Ideal) x0 x1 x2 x3 x4 = fun _ => 1#1) :
    (∀ i, ∃ r : ℝ, x1 i = r) ∧ (∀ i, ∃ r : ℝ, x3 i = r) ∧ ∀ i, ∃ r : ℝ, x4 i = r := by
  have e := congrFun h fun a => a.elim0
  dsimp only [Cert.Pre_finite.fn] at e
  obtain ⟨e', e4⟩ := and_one e
  obtain ⟨e1, e3⟩ := and_one e'
  exact ⟨entries x1 _ _ _ _ e1, entries x3 _ _ _ _ e3, entries x4 _ _ _ _ e4⟩

end Cert.Pool

end
-- ==== Proof.Pool.Window.lean ====
module

public import Idealize.ShloMosaic.Lib.Pointwise
public import Idealize.ShloMosaic.Lib.Pipeline.ValueKit

/-! A sum over a window that reaches to the last row, and what is left of it when the summand is a difference of two terms
a fixed number of rows apart. -/

@[expose] public section

noncomputable section

namespace Cert.Pool

open Idealize.ShloMosaic

/-- A left fold of additions is the start plus the sum. -/
theorem foldl_add_eq {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

theorem numel_row (N : ℕ) : (⟨3, ![1, N, 1]⟩ : Shape).numel = N := by
  simp [Shape.numel, Fin.prod_univ_succ]

theorem symm_row {N : ℕ} (n : Fin (⟨3, ![1, N, 1]⟩ : Shape).numel) :
    (⟨3, ![1, N, 1]⟩ : Shape).rowMajor.symm n = (ix3 (0 : Fin 1) (n.cast (numel_row N)) (0 : Fin 1) : (⟨3, ![1, N, 1]⟩ : Shape).Idx) :=
  ((⟨3, ![1, N, 1]⟩ : Shape).rowMajor.symm_apply_eq).2 (Fin.ext (by
    rw [Shape.rowMajor_val_three]
    show n.val = (0 * N + n.val) * 1 + 0
    omega))

/-- The sum over a window of as many rows as the array has, padded with zeros past the last row: the sum of the rows from
the given one on. -/
theorem sum_from {N M C : ℕ} (hN : M + 1 = N) (x : (⟨3, ![1, N, C]⟩ : Shape).Idx → EReal) {u : Shape} (init : u.Idx → EReal) (hi : ∀ i, init i = 0)
    (h : (⟨3, ![1, N, C]⟩ : Shape).ReduceWindows (![1, N, 1] : Fin 3 → ℕ) ![1, 1, 1] ![0, 0, 0] ![0, M, 0] ⟨3, ![1, N, C]⟩) (hu : 0 < u.numel)
    (T : Fin N) (k : Fin C) (f : ℕ → EReal) (hf : ∀ n (hn : n < N), x (ix3 (0 : Fin 1) (⟨n, hn⟩ : Fin N) k) = f n) (hf0 : ∀ n, N ≤ n → f n = 0) :
    Host.reduceWindowAdd (F := Ideal) (φ := .f32) ![1, N, 1] ![1, 1, 1] ![0, 0, 0] ![0, M, 0] x init h hu (ix3 (0 : Fin 1) T k)
      = ∑ n ∈ Finset.range N, f (T.val + n) := by
  unfold Host.reduceWindowAdd
  rw [Ideal.hostReduceWindowAdd_def]
  unfold Ideal.hostReduceWindowAdd Host.reduceWindow
  rw [foldl_add_eq, hi, zero_add, ← Fin.sum_univ_def, Finset.sum_range, ← (finCongr (numel_row N)).sum_comp]
  refine Finset.sum_congr rfl fun n _ => ?_
  have hn : n.val < N := lt_of_lt_of_eq n.isLt (numel_row N)
  have h1 : ((⟨3, ![1, N, 1]⟩ : Shape).rowMajor.symm n 1).val = n.val := by rw [symm_row]; rfl
  have h0 : ((⟨3, ![1, N, 1]⟩ : Shape).rowMajor.symm n 0).val = 0 := by rw [symm_row]; rfl
  have h2 : ((⟨3, ![1, N, 1]⟩ : Shape).rowMajor.symm n 2).val = 0 := by rw [symm_row]; rfl
  show _ = f (T.val + n.val)
  dsimp only
  split
  · next hin =>
    have hT := (hin 1).2
    change T.val * 1 + ((⟨3, ![1, N, 1]⟩ : Shape).rowMajor.symm n 1).val - 0 < N at hT
    rw [h1] at hT
    refine (congrArg x (funext fun a => Fin.ext ?_)).trans (hf (T.val + n.val) (by omega))
    match a with
    | ⟨0, _⟩ =>
      show 0 * 1 + ((⟨3, ![1, N, 1]⟩ : Shape).rowMajor.symm n 0).val - 0 = 0
      rw [h0]
    | ⟨1, _⟩ =>
      show T.val * 1 + ((⟨3, ![1, N, 1]⟩ : Shape).rowMajor.symm n 1).val - 0 = T.val + n.val
      rw [h1]; omega
    | ⟨2, _⟩ =>
      show k.val * 1 + ((⟨3, ![1, N, 1]⟩ : Shape).rowMajor.symm n 2).val - 0 = k.val
      rw [h2]; omega
  · next hin =>
    refine (hf0 _ (le_of_not_gt fun hlt => hin fun a => ?_)).symm
    match a with
    | ⟨0, _⟩ =>
      show 0 ≤ 0 * 1 + ((⟨3, ![1, N, 1]⟩ : Shape).rowMajor.symm n 0).val ∧ 0 * 1 + ((⟨3, ![1, N, 1]⟩ : Shape).rowMajor.symm n 0).val - 0 < 1
      rw [h0]; omega
    | ⟨1, _⟩ =>
      show 0 ≤ T.val * 1 + ((⟨3, ![1, N, 1]⟩ : Shape).rowMajor.symm n 1).val ∧ T.val * 1 + ((⟨3, ![1, N, 1]⟩ : Shape).rowMajor.symm n 1).val - 0 < N
      rw [h1]; omega
    | ⟨2, _⟩ =>
      show 0 ≤ k.val * 1 + ((⟨3, ![1, N, 1]⟩ : Shape).rowMajor.symm n 2).val ∧ k.val * 1 + ((⟨3, ![1, N, 1]⟩ : Shape).rowMajor.symm n 2).val - 0 < C
      rw [h2]; have := k.isLt; omega

/-- The differences of terms `w` apart, summed from `T` on, leave the first `w` terms, where the terms are zero from `N` on. -/
theorem sum_differences (N w T : ℕ) (f : ℕ → ℝ) (h : ∀ n, N ≤ n → f n = 0) :
    ∑ n ∈ Finset.range N, (f (T + n) - f (T + n + w)) = ∑ j ∈ Finset.range w, f (T + j) := by
  have a := Finset.sum_range_add (fun n => f (T + n)) N w
  have b := Finset.sum_range_add (fun n => f (T + n)) w N
  have z : ∑ x ∈ Finset.range w, f (T + (N + x)) = 0 := Finset.sum_eq_zero fun x _ => h _ (by omega)
  rw [Finset.sum_sub_distrib]
  rw [Nat.add_comm w N, a, z, add_zero] at b
  rw [b, add_sub_assoc, sub_eq_zero.2, add_zero]
  exact Finset.sum_congr rfl fun n _ => by congr 1; omega

/-- A sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over the extended reals, for terms that are real. -/
theorem sum_differences' (N w T : ℕ) (f : ℕ → EReal) (hf : ∀ n, ∃ r : ℝ, f n = (r : EReal)) (h : ∀ n, N ≤ n → f n = 0) :
    ∑ n ∈ Finset.range N, (f (T + n) + -f (T + n + w)) = ∑ j ∈ Finset.range w, f (T + j) := by
  choose g hg using hf
  have hz : ∀ n, N ≤ n → g n = 0 := fun n hn => by
    have := (hg n).symm.trans (h n hn)
    exact_mod_cast this
  have e := congrArg (fun r : ℝ => (r : EReal)) (sum_differences N w T g hz)
  simp only [hg]
  simp only [coe_sum, EReal.coe_add, EReal.coe_neg, sub_eq_add_neg] at e
  exact e

end Cert.Pool

end
-- ==== Proof.Pool.Point.lean ====
module

public import proofs.«01_k».proof.Proof.Gen.KernelIdeal.Skeleton
public import Idealize.ShloMosaic.Lib.Pointwise
public import Idealize.ShloMosaic.Lib.Pipeline.ValueKit

/-! What the body's vector expressions are at an index, over the extended reals: the gradient of the pooled means of
a block of rows, its product with the inverse counts, and the terms the block adds to the two accumulators. -/

@[expose] public section

set_option maxRecDepth 16384

noncomputable section

namespace Cert.KernelIdeal.Pool

open Cert.KernelIdeal.Gen
open Idealize.ShloMosaic

/-- Lane `j` of the column group `g`. -/
def colAt (g : Fin 4) (j : Fin 256) : Fin 1024 := ⟨256 * g.val + j.val, by omega⟩
/-- The group of a column. -/
def grp (c : Fin 1024) : Fin 4 := ⟨c.val / 256, by omega⟩
/-- The lane of a column in its group. -/
def lane (c : Fin 1024) : Fin 256 := ⟨c.val % 256, by omega⟩

theorem grp_colAt (g : Fin 4) (j : Fin 256) : grp (colAt g j) = g := Fin.ext (by show (256 * g.val + j.val) / 256 = g.val; omega)
theorem lane_colAt (g : Fin 4) (j : Fin 256) : lane (colAt g j) = j := Fin.ext (by show (256 * g.val + j.val) % 256 = j.val; omega)
theorem colAt_grp_lane (c : Fin 1024) : colAt (grp c) (lane c) = c := Fin.ext (by show 256 * (c.val / 256) + c.val % 256 = c.val; omega)

/-- One over the number of rows in the window of width `w` that ends at row `T`. -/
def invCount (w T : ℕ) : EReal := Ideal.div 1 (((min (T + 1) w : ℕ) : ℝ) : EReal)

/-- The width of the window of the column group `g`. -/
def width (g : Fin 4) : ℕ := 2 ^ (g.val + 1)

/-- The gradient of the pooled means of the block: the scaled cotangent times the transposed weights of the group. -/
def dpB (x1 : FVec Ideal S256x1024 .bf16) (x2 : FVec Ideal S4x256x256 .bf16) (x3 : FVec Ideal S8x1024 .f32) (r : Fin 256) (c : Fin 1024) : EReal :=
  ∑ j : Fin 256, x1 (ix2 r (colAt (grp c) j)) * x3 (ix2 1 (colAt (grp c) j)) * x2 (ix3 (grp c) (lane c) j)

/-- The same divided by the number of rows the mean was taken over; the block begins at row `n`. -/
def qB (n : ℕ) (x1 : FVec Ideal S256x1024 .bf16) (x2 : FVec Ideal S4x256x256 .bf16) (x3 : FVec Ideal S8x1024 .f32) (r : Fin 256) (c : Fin 1024) : EReal :=
  dpB x1 x2 x3 r c * invCount (width (grp c)) (n + r.val)

/-- The block's term of the gradient of the weights. -/
def dwB (x0 x1 : FVec Ideal S256x1024 .bf16) (x3 : FVec Ideal S8x1024 .f32) (g : Fin 4) (k j : Fin 256) : EReal :=
  ∑ r : Fin 256, x0 (ix2 r (colAt g k)) * (x1 (ix2 r (colAt g j)) * x3 (ix2 1 (colAt g j)))

/-- The block's term of the gradient of the bias. -/
def dbB (x1 : FVec Ideal S256x1024 .bf16) (x3 : FVec Ideal S8x1024 .f32) (c : Fin 1024) : EReal :=
  (∑ r : Fin 256, x1 (ix2 r c)) * x3 (ix2 1 c)

/-- The block's term of the gradient of the scale. -/
def dsB (x0 x1 : FVec Ideal S256x1024 .bf16) (x2 : FVec Ideal S4x256x256 .bf16) (x3 : FVec Ideal S8x1024 .f32) (c : Fin 1024) : EReal :=
  ∑ r : Fin 256, x1 (ix2 r c) * ((∑ k : Fin 256, x0 (ix2 r (colAt (grp c) k)) * x2 (ix3 (grp c) k (lane c))) + x3 (ix2 0 c))

/-- The count of a row, computed in words, as a number. -/
theorem count_word (n r w : ℕ) (h : n + r + 1 < 2 ^ 31) (hw : w < 2 ^ 31) :
    FloatOps.sitofp (F := Ideal) FTy.f32 (IntOp.minsi (IntOp.addi (IntOp.addi (BitVec.ofNat 32 n) (BitVec.ofNat 32 r)) 1#32) (BitVec.ofNat 32 w))
      = (((min (n + r + 1) w : ℕ) : ℝ) : EReal) := by
  show (((IntOp.minsi (IntOp.addi (IntOp.addi (BitVec.ofNat 32 n) (BitVec.ofNat 32 r)) 1#32) (BitVec.ofNat 32 w)).toInt : ℝ) : EReal) = _
  have e : IntOp.addi (IntOp.addi (BitVec.ofNat 32 n) (BitVec.ofNat 32 r)) 1#32 = BitVec.ofNat 32 (n + r + 1) := by
    simp [IntOp.addi, BitVec.ofNat_add]
  have t1 : (BitVec.ofNat 32 (n + r + 1)).toInt = ((n + r + 1 : ℕ) : ℤ) := by
    rw [BitVec.toInt_eq_toNat_cond, BitVec.toNat_ofNat, Nat.mod_eq_of_lt (by omega), if_pos (by omega)]
  have t2 : (BitVec.ofNat 32 w).toInt = (w : ℤ) := by
    rw [BitVec.toInt_eq_toNat_cond, BitVec.toNat_ofNat, Nat.mod_eq_of_lt (by omega), if_pos (by omega)]
  have : (IntOp.minsi (IntOp.addi (IntOp.addi (BitVec.ofNat 32 n) (BitVec.ofNat 32 r)) 1#32) (BitVec.ofNat 32 w)).toInt
      = ((min (n + r + 1) w : ℕ) : ℤ) := by
    rw [e]
    unfold IntOp.minsi
    by_cases hlt : n + r + 1 < w
    · rw [if_pos (by simp only [BitVec.slt, t1, t2, decide_eq_true_eq]; omega), t1, Nat.min_eq_left (by omega)]
    · rw [if_neg (by simp only [BitVec.slt, t1, t2, decide_eq_true_eq]; omega), t2, Nat.min_eq_right (by omega)]
  rw [this]; norm_cast

section
variable (n : ℕ) (hn : n + 256 < 2 ^ 31) (x0 x1 : FVec Ideal S256x1024 .bf16) (x2 : FVec Ideal S4x256x256 .bf16) (x3 : FVec Ideal S8x1024 .f32)

/-- Row `1` of the vector block at the columns of group `g`: the scale. -/
def RowAt (x3 : FVec Ideal S8x1024 .f32) (row : Fin 8) (g : Fin 4) (v : FVec Ideal S1x256 .f32) : Prop := ∀ j : Fin 256, v (ix2 0 j) = x3 (ix2 row (colAt g j))
/-- The weights of group `g`. -/
def GroupAt (x2 : FVec Ideal S4x256x256 .bf16) (g : Fin 4) (w : FVec Ideal S1x256x256 .bf16) : Prop := ∀ k j : Fin 256, w (ix3 0 k j) = x2 (ix3 g k j)
/-- The pooled block at the columns of group `g`. -/
def ColsAt (x0 : FVec Ideal S256x1024 .bf16) (g : Fin 4) (p : FVec Ideal S256x256 .bf16) : Prop := ∀ r k : Fin 256, p (ix2 r k) = x0 (ix2 r (colAt g k))

theorem dpB_colAt (r : Fin 256) (g : Fin 4) (k : Fin 256) :
    dpB x1 x2 x3 r (colAt g k) = ∑ j : Fin 256, x1 (ix2 r (colAt g j)) * x3 (ix2 1 (colAt g j)) * x2 (ix3 g k j) := by
  unfold dpB; rw [grp_colAt, lane_colAt]

variable {v v' : FVec Ideal S1x256 .f32} {w : FVec Ideal S1x256x256 .bf16} {p : FVec Ideal S256x256 .bf16}

/-! The gradient of the pooled means, group by group. -/

theorem pay14_apply (hv : RowAt x3 1 0 v) (hw : GroupAt x2 0 w) (r k : Fin 256) :
    k0_pay14 (F := Ideal) (k0_pay6 x1) v w (ix2 r k) = dpB x1 x2 x3 r (colAt 0 k) := by
  rw [dpB_colAt]
  pointwise [k0_pay14, k0_pay6, k0_pay12]
  exact Finset.sum_congr rfl fun j _ => by rw [hv j, hw k j]; congr 4; exact Fin.ext (by simp [colAt])

theorem pay21_apply (hv : RowAt x3 1 1 v) (hw : GroupAt x2 1 w) (r k : Fin 256) :
    k0_pay21 (F := Ideal) (k0_pay19 (k0_pay6 x1) v) w (ix2 r k) = dpB x1 x2 x3 r (colAt 1 k) := by
  rw [dpB_colAt]
  pointwise [k0_pay21, k0_pay6, k0_pay19]
  exact Finset.sum_congr rfl fun j _ => by rw [hv j, hw k j]; rfl

theorem pay27_apply (hv : RowAt x3 1 2 v) (hw : GroupAt x2 2 w) (r k : Fin 256) :
    k0_pay27 (F := Ideal) (k0_pay6 x1) v w (ix2 r k) = dpB x1 x2 x3 r (colAt 2 k) := by
  rw [dpB_colAt]
  pointwise [k0_pay27, k0_pay6, k0_pay25]
  exact Finset.sum_congr rfl fun j _ => by rw [hv j, hw k j]; rfl

theorem pay34_apply (hv : RowAt x3 1 3 v) (hw : GroupAt x2 3 w) (r k : Fin 256) :
    k0_pay34 (F := Ideal) (k0_pay6 x1) v w (ix2 r k) = dpB x1 x2 x3 r (colAt 3 k) := by
  rw [dpB_colAt]
  pointwise [k0_pay34, k0_pay6, k0_pay32]
  exact Finset.sum_congr rfl fun j _ => by rw [hv j, hw k j]; rfl

/-! The same over the counts: what the scratch takes. -/

theorem qB_colAt (r : Fin 256) (g : Fin 4) (k : Fin 256) :
    qB n x1 x2 x3 r (colAt g k) = dpB x1 x2 x3 r (colAt g k) * Ideal.div 1 (((min (n + r.val + 1) (width g) : ℕ) : ℝ) : EReal) := by
  unfold qB invCount; rw [grp_colAt]

include hn
theorem pay16_apply (hv : RowAt x3 1 0 v) (hw : GroupAt x2 0 w) (r k : Fin 256) :
    k0_pay16 (F := Ideal) (k0_pay14 (k0_pay6 x1) v w) (k0_pay15 (BitVec.ofNat 32 n)) (ix2 r k) = qB n x1 x2 x3 r (colAt 0 k) := by
  rw [qB_colAt, ← pay14_apply x1 x2 x3 hv hw, show width 0 = 2 from rfl, ← count_word n r.val 2 (by omega) (by omega)]
  pointwise [k0_pay16, k0_pay15]

theorem pay22_apply (hv : RowAt x3 1 1 v) (hw : GroupAt x2 1 w) (r k : Fin 256) :
    k0_pay22 (F := Ideal) (BitVec.ofNat 32 n) (k0_pay19 (k0_pay6 x1) v) w (ix2 r k) = qB n x1 x2 x3 r (colAt 1 k) := by
  rw [qB_colAt, ← pay21_apply x1 x2 x3 hv hw, show width 1 = 4 from rfl, ← count_word n r.val 4 (by omega) (by omega)]
  pointwise [k0_pay22]

theorem pay28_apply (hv : RowAt x3 1 2 v) (hw : GroupAt x2 2 w) (r k : Fin 256) :
    k0_pay28 (F := Ideal) (BitVec.ofNat 32 n) (k0_pay6 x1) v w (ix2 r k) = qB n x1 x2 x3 r (colAt 2 k) := by
  rw [qB_colAt, ← pay27_apply x1 x2 x3 hv hw, show width 2 = 8 from rfl, ← count_word n r.val 8 (by omega) (by omega)]
  pointwise [k0_pay28]

theorem pay37_apply (hv : RowAt x3 1 3 v) (hw : GroupAt x2 3 w) (r k : Fin 256) :
    k0_pay37 (F := Ideal) (k0_pay34 (k0_pay6 x1) v w) (k0_pay35 (BitVec.ofNat 32 n)) k0_pay36 (ix2 r k) = qB n x1 x2 x3 r (colAt 3 k) := by
  rw [qB_colAt, ← pay34_apply x1 x2 x3 hv hw, show width 3 = 16 from rfl, ← count_word n r.val 16 (by omega) (by omega)]
  pointwise [k0_pay37, k0_pay35, k0_pay36]
omit hn

/-! The terms of the gradient of the weights. -/

theorem pay13_apply (hp : ColsAt x0 0 p) (hv : RowAt x3 1 0 v) (a : FVec Ideal S1x256x256 .f32) (k j : Fin 256) :
    k0_pay13 (k0_pay6 x1) (k0_pay8 p) v a (ix3 0 k j) = a (ix3 0 k j) + dwB x0 x1 x3 0 k j := by
  unfold dwB
  pointwise [k0_pay13, k0_pay6, k0_pay8, k0_pay12]
  refine congrArg _ (Finset.sum_congr rfl fun r _ => by rw [hp r k, hv j]; congr 4; exact Fin.ext (by simp [colAt]))

theorem pay20_apply (hp : ColsAt x0 1 p) (hv : RowAt x3 1 1 v) (a : FVec Ideal S1x256x256 .f32) (k j : Fin 256) :
    k0_pay20 (k0_pay6 x1) p v a (ix3 0 k j) = a (ix3 0 k j) + dwB x0 x1 x3 1 k j := by
  unfold dwB
  pointwise [k0_pay20, k0_pay6, k0_pay17, k0_pay19]
  exact congrArg _ (Finset.sum_congr rfl fun r _ => by rw [hp r k, hv j]; rfl)

theorem pay26_apply (hp : ColsAt x0 2 p) (hv : RowAt x3 1 2 v) (a : FVec Ideal S1x256x256 .f32) (k j : Fin 256) :
    k0_pay26 (k0_pay6 x1) (k0_pay23 p) v a (ix3 0 k j) = a (ix3 0 k j) + dwB x0 x1 x3 2 k j := by
  unfold dwB
  pointwise [k0_pay26, k0_pay6, k0_pay23, k0_pay25]
  exact congrArg _ (Finset.sum_congr rfl fun r _ => by rw [hp r k, hv j]; rfl)

theorem pay33_apply (hp : ColsAt x0 3 p) (hv : RowAt x3 1 3 v) (a : FVec Ideal S1x256x256 .f32) (k j : Fin 256) :
    k0_pay33 (k0_pay6 x1) (k0_pay29 p) v a (ix3 0 k j) = a (ix3 0 k j) + dwB x0 x1 x3 3 k j := by
  unfold dwB
  pointwise [k0_pay33, k0_pay6, k0_pay29, k0_pay32]
  exact congrArg _ (Finset.sum_congr rfl fun r _ => by rw [hp r k, hv j]; rfl)

/-! The terms of the gradients of the bias and of the scale. -/

theorem pay7_apply (a : FVec Ideal S1x1024 .f32) {s : FVec Ideal S1x1024 .f32} (hs : ∀ c : Fin 1024, s (ix2 0 c) = x3 (ix2 1 c)) (c : Fin 1024) :
    k0_pay7 x1 a s (ix2 0 c) = a (ix2 0 c) + dbB x1 x3 c := by
  unfold dbB
  pointwise [k0_pay7, k0_pay6]
  rw [hs c]

theorem dsB_colAt (g : Fin 4) (j : Fin 256) :
    dsB x0 x1 x2 x3 (colAt g j) = ∑ r : Fin 256, x1 (ix2 r (colAt g j)) * ((∑ k : Fin 256, x0 (ix2 r (colAt g k)) * x2 (ix3 g k j)) + x3 (ix2 0 (colAt g j))) := by
  unfold dsB; rw [grp_colAt, lane_colAt]

theorem pay11_apply (hp : ColsAt x0 0 p) (hw : GroupAt x2 0 w) (hv : RowAt x3 0 0 v) (a : FVec Ideal S1x256 .f32) (j : Fin 256) :
    k0_pay11 (k0_pay6 x1) (k0_pay9 p w) (k0_pay10 v) a (ix2 0 j) = a (ix2 0 j) + dsB x0 x1 x2 x3 (colAt 0 j) := by
  rw [dsB_colAt]
  pointwise [k0_pay11, k0_pay6, k0_pay8, k0_pay9, k0_pay10]
  refine congrArg _ (Finset.sum_congr rfl fun r _ => ?_)
  rw [hv j]
  congr 2
  · exact congrArg _ (Fin.ext (by simp [colAt]))
  · exact Finset.sum_congr rfl fun k _ => by rw [hp r k, hw k j]

theorem pay18_apply (hp : ColsAt x0 1 p) (hw : GroupAt x2 1 w) (hv : RowAt x3 0 1 v) (a : FVec Ideal S1x256 .f32) (j : Fin 256) :
    k0_pay18 (k0_pay6 x1) p w v a (ix2 0 j) = a (ix2 0 j) + dsB x0 x1 x2 x3 (colAt 1 j) := by
  rw [dsB_colAt]
  pointwise [k0_pay18, k0_pay6, k0_pay17]
  refine congrArg _ (Finset.sum_congr rfl fun r _ => ?_)
  rw [hv j]
  congr 2
  exact Finset.sum_congr rfl fun k _ => by rw [hp r k, hw k j]

theorem pay24_apply (hp : ColsAt x0 2 p) (hw : GroupAt x2 2 w) (hv : RowAt x3 0 2 v) (a : FVec Ideal S1x256 .f32) (j : Fin 256) :
    k0_pay24 (k0_pay6 x1) p w v a (ix2 0 j) = a (ix2 0 j) + dsB x0 x1 x2 x3 (colAt 2 j) := by
  rw [dsB_colAt]
  pointwise [k0_pay24, k0_pay6, k0_pay23]
  refine congrArg _ (Finset.sum_congr rfl fun r _ => ?_)
  rw [hv j]
  congr 2
  exact Finset.sum_congr rfl fun k _ => by rw [hp r k, hw k j]

theorem pay31_apply (hp : ColsAt x0 3 p) (hw : GroupAt x2 3 w) (hv : RowAt x3 0 3 v) (a : FVec Ideal S1x256 .f32) (j : Fin 256) :
    k0_pay31 (k0_pay6 x1) (k0_pay29 p) (k0_pay30 w) v a (ix2 0 j) = a (ix2 0 j) + dsB x0 x1 x2 x3 (colAt 3 j) := by
  rw [dsB_colAt]
  pointwise [k0_pay31, k0_pay6, k0_pay29, k0_pay30]
  refine congrArg _ (Finset.sum_congr rfl fun r _ => ?_)
  rw [hv j]
  congr 2
  exact Finset.sum_congr rfl fun k _ => by rw [hp r k, hw k j]

end

end Cert.KernelIdeal.Pool

end
-- ==== Proof.Pool.RefRead.lean ====
module

public import proofs.«01_k».proof.Proof.Gen.ReferenceIdeal.Read
public import proofs.«01_k».proof.Proof.Pool.Window
public import proofs.«01_k».proof.Proof.Pool.Point

/-! The reference's values at an index, over the extended reals. -/

@[expose] public section

set_option maxRecDepth 16384

noncomputable section

namespace Cert.ReferenceIdeal.Pool

open Cert.ReferenceIdeal.Gen Cert.ReferenceIdeal.Read Cert.Pool
open Cert.KernelIdeal.Pool (colAt grp lane width)
open Idealize.ShloMosaic

/-- The scaled cotangent. -/
def dm (x3 : FVec Ideal S1024 .f32) (x4 : FVec Ideal S1x16384x1024 .f32) (T : Fin 16384) (c : Fin 1024) : EReal :=
  x4 (ix3 0 T c) * x3 (ix1 c)

/-- The gradient of the pooled means. -/
def dp (x1 : FVec Ideal S4x256x256 .f32) (x3 : FVec Ideal S1024 .f32) (x4 : FVec Ideal S1x16384x1024 .f32) (T : Fin 16384) (g : Fin 4) (k : Fin 256) : EReal :=
  ∑ j : Fin 256, dm x3 x4 T (colAt g j) * x1 (ix3 g k j)

variable (x0 : FVec Ideal S1x16384x1024 .f32) (x1 : FVec Ideal S4x256x256 .f32) (x2 x3 : FVec Ideal S1024 .f32) (x4 : FVec Ideal S1x16384x1024 .f32)

theorem v103_apply (T : Fin 16384) (c : Fin 1024) : val_main_v103 (F := Ideal) x3 x4 (ix3 0 T c) = dm x3 x4 T c := by
  unfold dm
  pointwise [val_main_v103, val_main_v102, val_main_v96]

theorem v109_apply (g : Fin 4) (j : Fin 256) (T : Fin 16384) : val_main_v109 (F := Ideal) x3 x4 (ix4 g j 0 T) = dm x3 x4 T (colAt g j) := by
  rw [← v103_apply]
  unfold val_main_v109 val_main_v108
  generalize val_main_v103 (F := Ideal) x3 x4 = y
  pointwise
  exact congrArg (fun c => y (ix3 0 T c)) (Fin.ext (by show g.val * 256 + j.val = 256 * g.val + j.val; omega))

theorem v111_apply (T : Fin 16384) (g : Fin 4) (k : Fin 256) : val_main_v111 (F := Ideal) x1 x3 x4 (ix4 0 T g k) = dp x1 x3 x4 T g k := by
  unfold dp
  simp only [← v109_apply]
  unfold val_main_v111 val_main_v110
  generalize val_main_v109 (F := Ideal) x3 x4 = y
  pointwise

/-- The count of a row as the reference computes it. -/
theorem count_at (T w : ℕ) (hT : T < 16384) (hw : w < 2 ^ 31) :
    FloatOps.sitofp (F := Ideal) FTy.f32 (IntOp.minsi (IntOp.addi 1#32 (BitVec.ofNat 32 T)) (BitVec.ofNat 32 w)) = (((min (T + 1) w : ℕ) : ℝ) : EReal) := by
  have h := Cert.KernelIdeal.Pool.count_word 0 T w (by omega) hw
  rw [Nat.zero_add] at h
  rw [← h]
  simp [IntOp.addi, BitVec.add_comm]

theorem v125_apply (T : Fin 16384) (k : Fin 256) : val_main_v125 (F := Ideal) (ix3 0 T k) = (((min (T.val + 1) 16 : ℕ) : ℝ) : EReal) := by
  rw [← count_at _ _ T.isLt (by decide)]
  unfold val_main_v125 val_main_v78 val_main_v77
  pointwise [val_main_v76, val_main_v75, val_main_v74, val_main_v73, val_main_v72, val_main_c_12, val_main_c_13]
theorem v140_apply (T : Fin 16384) (k : Fin 256) : val_main_v140 (F := Ideal) (ix3 0 T k) = (((min (T.val + 1) 8 : ℕ) : ℝ) : EReal) := by
  rw [← count_at _ _ T.isLt (by decide)]
  unfold val_main_v140 val_main_v57 val_main_v56
  pointwise [val_main_v55, val_main_v54, val_main_v53, val_main_v52, val_main_v51, val_main_c_8, val_main_c_9]
theorem v155_apply (T : Fin 16384) (k : Fin 256) : val_main_v155 (F := Ideal) (ix3 0 T k) = (((min (T.val + 1) 4 : ℕ) : ℝ) : EReal) := by
  rw [← count_at _ _ T.isLt (by decide)]
  unfold val_main_v155 val_main_v36 val_main_v35
  pointwise [val_main_v34, val_main_v33, val_main_v32, val_main_v31, val_main_v30, val_main_c_4, val_main_c_5]
theorem v170_apply (T : Fin 16384) (k : Fin 256) : val_main_v170 (F := Ideal) (ix3 0 T k) = (((min (T.val + 1) 2 : ℕ) : ℝ) : EReal) := by
  rw [← count_at _ _ T.isLt (by decide)]
  unfold val_main_v170 val_main_v15 val_main_v14
  pointwise [val_main_v13, val_main_v12, val_main_v11, val_main_v10, val_main_v9, val_main_c, val_main_c_1]

/-- The gradient of the pooled means over the count of its row, and nothing past the last row. -/
def q (w : ℕ) (g : Fin 4) (k : Fin 256) (n : ℕ) : EReal :=
  if h : n < 16384 then Ideal.div (dp x1 x3 x4 ⟨n, h⟩ g k) (((min (n + 1) w : ℕ) : ℝ) : EReal) else 0

theorem q_past (w : ℕ) (g : Fin 4) (k : Fin 256) (n : ℕ) (h : 16384 ≤ n) : q x1 x3 x4 w g k n = 0 := dif_neg (by omega)

/-- The sum of the differences of quotients the reference takes, group by group. -/
def cum (w : ℕ) (g : Fin 4) (k : Fin 256) (T : ℕ) : EReal :=
  ∑ n ∈ Finset.range 16384, (q x1 x3 x4 w g k (T + n) + -q x1 x3 x4 w g k (T + n + w))

theorem v121_apply (T : Fin 16384) (k : Fin 256) : val_main_v121 (F := Ideal) x1 x3 x4 (ix3 0 T k) = dp x1 x3 x4 T 3 k := by
  rw [← v111_apply]
  unfold val_main_v121 val_main_v120
  generalize val_main_v111 (F := Ideal) x1 x3 x4 = y
  pointwise

theorem v126_apply (T : Fin 16384) (k : Fin 256) : val_main_v126 (F := Ideal) x1 x3 x4 (ix3 0 T k) = q x1 x3 x4 16 3 k T.val := by
  unfold q
  rw [dif_pos T.isLt, ← v125_apply T k, ← v121_apply]
  rfl

theorem v130_apply (T : Fin 16384) (k : Fin 256) : val_main_v130 (F := Ideal) x1 x3 x4 (ix3 0 T k) = -q x1 x3 x4 16 3 k (T.val + 16) := by
  by_cases h : T.val + 16 < 16384
  · rw [← v126_apply x1 x3 x4 ⟨T.val + 16, h⟩ k]
    unfold val_main_v130 val_main_v129 val_main_v127
    generalize val_main_v126 (F := Ideal) x1 x3 x4 = y
    pointwise
    rw [dif_pos (show T.val < 16368 by omega)]
    exact congrArg (fun t => -y (ix3 0 t k)) (Fin.ext (Nat.add_comm 16 T.val))
  · unfold val_main_v130
    rw [q_past _ _ _ _ _ _ _ (by omega), neg_zero]
    generalize val_main_v129 (F := Ideal) x1 x3 x4 = y
    pointwise [val_main_cst_19]
    exact dif_neg (by omega)

theorem v131_apply (T : Fin 16384) (k : Fin 256) :
    val_main_v131 (F := Ideal) x1 x3 x4 (ix3 0 T k) = q x1 x3 x4 16 3 k T.val + -q x1 x3 x4 16 3 k (T.val + 16) := by
  rw [← v126_apply, ← v130_apply]
  rfl

theorem v132_apply (T : Fin 16384) (k : Fin 256) : val_main_v132 (F := Ideal) x1 x3 x4 (ix3 0 T k) = cum x1 x3 x4 16 3 k T.val := by
  unfold val_main_v132 cum
  have hi : ∀ i, val_main_call4_call0_v0 (F := Ideal) i = (0 : EReal) := fun i => by
    unfold val_main_call4_call0_v0
    pointwise [val_main_call4_call0_cst]
  have hs := v131_apply x1 x3 x4
  generalize val_main_v131 (F := Ideal) x1 x3 x4 = y at hs ⊢
  generalize val_main_call4_call0_v0 (F := Ideal) = z at hi ⊢
  exact sum_from (by norm_num) y z hi _ _ T k (fun n => q x1 x3 x4 16 3 k n + -q x1 x3 x4 16 3 k (n + 16))
    (fun n hn => hs ⟨n, hn⟩ k) (fun n hn => by rw [q_past _ _ _ _ _ _ _ hn, q_past _ _ _ _ _ _ _ (by omega), neg_zero, add_zero])

theorem v119_apply (T : Fin 16384) (k : Fin 256) : val_main_v119 (F := Ideal) x1 x3 x4 (ix3 0 T k) = dp x1 x3 x4 T 2 k := by
  rw [← v111_apply]
  unfold val_main_v119 val_main_v118
  generalize val_main_v111 (F := Ideal) x1 x3 x4 = y
  pointwise

theorem v141_apply (T : Fin 16384) (k : Fin 256) : val_main_v141 (F := Ideal) x1 x3 x4 (ix3 0 T k) = q x1 x3 x4 8 2 k T.val := by
  unfold q
  rw [dif_pos T.isLt, ← v140_apply T k, ← v119_apply]
  rfl

theorem v145_apply (T : Fin 16384) (k : Fin 256) : val_main_v145 (F := Ideal) x1 x3 x4 (ix3 0 T k) = -q x1 x3 x4 8 2 k (T.val + 8) := by
  by_cases h : T.val + 8 < 16384
  · rw [← v141_apply x1 x3 x4 ⟨T.val + 8, h⟩ k]
    unfold val_main_v145 val_main_v144 val_main_v142
    generalize val_main_v141 (F := Ideal) x1 x3 x4 = y
    pointwise
    rw [dif_pos (show T.val < 16376 by omega)]
    exact congrArg (fun t => -y (ix3 0 t k)) (Fin.ext (Nat.add_comm 8 T.val))
  · unfold val_main_v145
    rw [q_past _ _ _ _ _ _ _ (by omega), neg_zero]
    generalize val_main_v144 (F := Ideal) x1 x3 x4 = y
    pointwise [val_main_cst_22]
    exact dif_neg (by omega)

theorem v146_apply (T : Fin 16384) (k : Fin 256) :
    val_main_v146 (F := Ideal) x1 x3 x4 (ix3 0 T k) = q x1 x3 x4 8 2 k T.val + -q x1 x3 x4 8 2 k (T.val + 8) := by
  rw [← v141_apply, ← v145_apply]
  rfl

theorem v147_apply (T : Fin 16384) (k : Fin 256) : val_main_v147 (F := Ideal) x1 x3 x4 (ix3 0 T k) = cum x1 x3 x4 8 2 k T.val := by
  unfold val_main_v147 cum
  have hi : ∀ i, val_main_call5_call0_v0 (F := Ideal) i = (0 : EReal) := fun i => by
    unfold val_main_call5_call0_v0
    pointwise [val_main_call5_call0_cst]
  have hs := v146_apply x1 x3 x4
  generalize val_main_v146 (F := Ideal) x1 x3 x4 = y at hs ⊢
  generalize val_main_call5_call0_v0 (F := Ideal) = z at hi ⊢
  exact sum_from (by norm_num) y z hi _ _ T k (fun n => q x1 x3 x4 8 2 k n + -q x1 x3 x4 8 2 k (n + 8))
    (fun n hn => hs ⟨n, hn⟩ k) (fun n hn => by rw [q_past _ _ _ _ _ _ _ hn, q_past _ _ _ _ _ _ _ (by omega), neg_zero, add_zero])

theorem v117_apply (T : Fin 16384) (k : Fin 256) : val_main_v117 (F := Ideal) x1 x3 x4 (ix3 0 T k) = dp x1 x3 x4 T 1 k := by
  rw [← v111_apply]
  unfold val_main_v117 val_main_v116
  generalize val_main_v111 (F := Ideal) x1 x3 x4 = y
  pointwise

theorem v156_apply (T : Fin 16384) (k : Fin 256) : val_main_v156 (F := Ideal) x1 x3 x4 (ix3 0 T k) = q x1 x3 x4 4 1 k T.val := by
  unfold q
  rw [dif_pos T.isLt, ← v155_apply T k, ← v117_apply]
  rfl

theorem v160_apply (T : Fin 16384) (k : Fin 256) : val_main_v160 (F := Ideal) x1 x3 x4 (ix3 0 T k) = -q x1 x3 x4 4 1 k (T.val + 4) := by
  by_cases h : T.val + 4 < 16384
  · rw [← v156_apply x1 x3 x4 ⟨T.val + 4, h⟩ k]
    unfold val_main_v160 val_main_v159 val_main_v157
    generalize val_main_v156 (F := Ideal) x1 x3 x4 = y
    pointwise
    rw [dif_pos (show T.val < 16380 by omega)]
    exact congrArg (fun t => -y (ix3 0 t k)) (Fin.ext (Nat.add_comm 4 T.val))
  · unfold val_main_v160
    rw [q_past _ _ _ _ _ _ _ (by omega), neg_zero]
    generalize val_main_v159 (F := Ideal) x1 x3 x4 = y
    pointwise [val_main_cst_25]
    exact dif_neg (by omega)

theorem v161_apply (T : Fin 16384) (k : Fin 256) :
    val_main_v161 (F := Ideal) x1 x3 x4 (ix3 0 T k) = q x1 x3 x4 4 1 k T.val + -q x1 x3 x4 4 1 k (T.val + 4) := by
  rw [← v156_apply, ← v160_apply]
  rfl

theorem v162_apply (T : Fin 16384) (k : Fin 256) : val_main_v162 (F := Ideal) x1 x3 x4 (ix3 0 T k) = cum x1 x3 x4 4 1 k T.val := by
  unfold val_main_v162 cum
  have hi : ∀ i, val_main_call6_call0_v0 (F := Ideal) i = (0 : EReal) := fun i => by
    unfold val_main_call6_call0_v0
    pointwise [val_main_call6_call0_cst]
  have hs := v161_apply x1 x3 x4
  generalize val_main_v161 (F := Ideal) x1 x3 x4 = y at hs ⊢
  generalize val_main_call6_call0_v0 (F := Ideal) = z at hi ⊢
  exact sum_from (by norm_num) y z hi _ _ T k (fun n => q x1 x3 x4 4 1 k n + -q x1 x3 x4 4 1 k (n + 4))
    (fun n hn => hs ⟨n, hn⟩ k) (fun n hn => by rw [q_past _ _ _ _ _ _ _ hn, q_past _ _ _ _ _ _ _ (by omega), neg_zero, add_zero])

theorem v115_apply (T : Fin 16384) (k : Fin 256) : val_main_v115 (F := Ideal) x1 x3 x4 (ix3 0 T k) = dp x1 x3 x4 T 0 k := by
  rw [← v111_apply]
  unfold val_main_v115 val_main_v114
  generalize val_main_v111 (F := Ideal) x1 x3 x4 = y
  pointwise

theorem v171_apply (T : Fin 16384) (k : Fin 256) : val_main_v171 (F := Ideal) x1 x3 x4 (ix3 0 T k) = q x1 x3 x4 2 0 k T.val := by
  unfold q
  rw [dif_pos T.isLt, ← v170_apply T k, ← v115_apply]
  rfl

theorem v175_apply (T : Fin 16384) (k : Fin 256) : val_main_v175 (F := Ideal) x1 x3 x4 (ix3 0 T k) = -q x1 x3 x4 2 0 k (T.val + 2) := by
  by_cases h : T.val + 2 < 16384
  · rw [← v171_apply x1 x3 x4 ⟨T.val + 2, h⟩ k]
    unfold val_main_v175 val_main_v174 val_main_v172
    generalize val_main_v171 (F := Ideal) x1 x3 x4 = y
    pointwise
    rw [dif_pos (show T.val < 16382 by omega)]
    exact congrArg (fun t => -y (ix3 0 t k)) (Fin.ext (Nat.add_comm 2 T.val))
  · unfold val_main_v175
    rw [q_past _ _ _ _ _ _ _ (by omega), neg_zero]
    generalize val_main_v174 (F := Ideal) x1 x3 x4 = y
    pointwise [val_main_cst_28]
    exact dif_neg (by omega)

theorem v176_apply (T : Fin 16384) (k : Fin 256) :
    val_main_v176 (F := Ideal) x1 x3 x4 (ix3 0 T k) = q x1 x3 x4 2 0 k T.val + -q x1 x3 x4 2 0 k (T.val + 2) := by
  rw [← v171_apply, ← v175_apply]
  rfl

theorem v177_apply (T : Fin 16384) (k : Fin 256) : val_main_v177 (F := Ideal) x1 x3 x4 (ix3 0 T k) = cum x1 x3 x4 2 0 k T.val := by
  unfold val_main_v177 cum
  have hi : ∀ i, val_main_call7_call0_v0 (F := Ideal) i = (0 : EReal) := fun i => by
    unfold val_main_call7_call0_v0
    pointwise [val_main_call7_call0_cst]
  have hs := v176_apply x1 x3 x4
  generalize val_main_v176 (F := Ideal) x1 x3 x4 = y at hs ⊢
  generalize val_main_call7_call0_v0 (F := Ideal) = z at hi ⊢
  exact sum_from (by norm_num) y z hi _ _ T k (fun n => q x1 x3 x4 2 0 k n + -q x1 x3 x4 2 0 k (n + 2))
    (fun n hn => hs ⟨n, hn⟩ k) (fun n hn => by rw [q_past _ _ _ _ _ _ _ hn, q_past _ _ _ _ _ _ _ (by omega), neg_zero, add_zero])

/-- What the reference's first result is, of one group. -/
def dhR (w : ℕ) (g : Fin 4) (k : Fin 256) (T : Fin 16384) : EReal := -dp x1 x3 x4 T g k + cum x1 x3 x4 w g k T.val

theorem v124_apply (T : Fin 16384) (g : Fin 4) (k : Fin 256) : val_main_v124 (F := Ideal) x1 x3 x4 (ix4 0 T g k) = if g = 3 then -dp x1 x3 x4 T 3 k else 0 := by
  rw [← v121_apply]
  unfold val_main_v124 val_main_v123 val_main_v122
  generalize val_main_v121 (F := Ideal) x1 x3 x4 = y
  fin_cases g <;> pointwise [val_main_cst_18] <;> rfl
theorem v134_apply (T : Fin 16384) (g : Fin 4) (k : Fin 256) : val_main_v134 (F := Ideal) x1 x3 x4 (ix4 0 T g k) = if g = 3 then cum x1 x3 x4 16 3 k T.val else 0 := by
  rw [← v132_apply]
  unfold val_main_v134 val_main_v133
  generalize val_main_v132 (F := Ideal) x1 x3 x4 = y
  fin_cases g <;> pointwise [val_main_cst_20] <;> rfl
theorem v138_apply (T : Fin 16384) (g : Fin 4) (k : Fin 256) : val_main_v138 (F := Ideal) x1 x3 x4 (ix4 0 T g k) = if g = 2 then -dp x1 x3 x4 T 2 k else 0 := by
  rw [← v119_apply]
  unfold val_main_v138 val_main_v137 val_main_v136
  generalize val_main_v119 (F := Ideal) x1 x3 x4 = y
  fin_cases g <;> pointwise [val_main_cst_21] <;> rfl
theorem v149_apply (T : Fin 16384) (g : Fin 4) (k : Fin 256) : val_main_v149 (F := Ideal) x1 x3 x4 (ix4 0 T g k) = if g = 2 then cum x1 x3 x4 8 2 k T.val else 0 := by
  rw [← v147_apply]
  unfold val_main_v149 val_main_v148
  generalize val_main_v147 (F := Ideal) x1 x3 x4 = y
  fin_cases g <;> pointwise [val_main_cst_23] <;> rfl
theorem v153_apply (T : Fin 16384) (g : Fin 4) (k : Fin 256) : val_main_v153 (F := Ideal) x1 x3 x4 (ix4 0 T g k) = if g = 1 then -dp x1 x3 x4 T 1 k else 0 := by
  rw [← v117_apply]
  unfold val_main_v153 val_main_v152 val_main_v151
  generalize val_main_v117 (F := Ideal) x1 x3 x4 = y
  fin_cases g <;> pointwise [val_main_cst_24] <;> rfl
theorem v164_apply (T : Fin 16384) (g : Fin 4) (k : Fin 256) : val_main_v164 (F := Ideal) x1 x3 x4 (ix4 0 T g k) = if g = 1 then cum x1 x3 x4 4 1 k T.val else 0 := by
  rw [← v162_apply]
  unfold val_main_v164 val_main_v163
  generalize val_main_v162 (F := Ideal) x1 x3 x4 = y
  fin_cases g <;> pointwise [val_main_cst_26] <;> rfl
theorem v168_apply (T : Fin 16384) (g : Fin 4) (k : Fin 256) : val_main_v168 (F := Ideal) x1 x3 x4 (ix4 0 T g k) = if g = 0 then -dp x1 x3 x4 T 0 k else 0 := by
  rw [← v115_apply]
  unfold val_main_v168 val_main_v167 val_main_v166
  generalize val_main_v115 (F := Ideal) x1 x3 x4 = y
  fin_cases g <;> pointwise [val_main_cst_27] <;> rfl
theorem v179_apply (T : Fin 16384) (g : Fin 4) (k : Fin 256) : val_main_v179 (F := Ideal) x1 x3 x4 (ix4 0 T g k) = if g = 0 then cum x1 x3 x4 2 0 k T.val else 0 := by
  rw [← v177_apply]
  unfold val_main_v179 val_main_v178
  generalize val_main_v177 (F := Ideal) x1 x3 x4 = y
  fin_cases g <;> pointwise [val_main_cst_29] <;> rfl

theorem v180_apply (T : Fin 16384) (g : Fin 4) (k : Fin 256) : val_main_v180 (F := Ideal) x1 x3 x4 (ix4 0 T g k) = dhR x1 x3 x4 (width g) g k T := by
  have e : val_main_v180 (F := Ideal) x1 x3 x4 (ix4 0 T g k)
      = val_main_v124 (F := Ideal) x1 x3 x4 (ix4 0 T g k) + val_main_v134 (F := Ideal) x1 x3 x4 (ix4 0 T g k)
        + val_main_v138 (F := Ideal) x1 x3 x4 (ix4 0 T g k) + val_main_v149 (F := Ideal) x1 x3 x4 (ix4 0 T g k)
        + val_main_v153 (F := Ideal) x1 x3 x4 (ix4 0 T g k) + val_main_v164 (F := Ideal) x1 x3 x4 (ix4 0 T g k)
        + val_main_v168 (F := Ideal) x1 x3 x4 (ix4 0 T g k) + val_main_v179 (F := Ideal) x1 x3 x4 (ix4 0 T g k) := rfl
  rw [e, v124_apply, v134_apply, v138_apply, v149_apply, v153_apply, v164_apply, v168_apply, v179_apply]
  unfold dhR width
  fin_cases g <;> simp

theorem v182_apply (T : Fin 16384) (g : Fin 4) (k : Fin 256) : val_main_v182 (F := Ideal) x1 x3 x4 (ix2 T (colAt g k)) = dhR x1 x3 x4 (width g) g k T := by
  rw [← v180_apply]
  unfold val_main_v182 val_main_v181
  generalize val_main_v180 (F := Ideal) x1 x3 x4 = y
  pointwise
  exact congrArg₂ (fun a b => y (ix4 0 T a b)) (Cert.KernelIdeal.Pool.grp_colAt g k) (Cert.KernelIdeal.Pool.lane_colAt g k)

/-- The pooled means, as the reference computes them from the activations. -/
def pooled (T : Fin 16384) (g : Fin 4) (k : Fin 256) : EReal := val_main_v89 (F := Ideal) x0 (ix4 0 T g k)

/-- The gradient of the weights. -/
theorem v113_apply (g : Fin 4) (k j : Fin 256) :
    val_main_v113 (F := Ideal) x0 x3 x4 (ix3 g k j) = ∑ T : Fin 16384, dm x3 x4 T (colAt g j) * pooled x0 T g k := by
  unfold pooled
  simp only [← v109_apply]
  unfold val_main_v113 val_main_v112
  generalize val_main_v109 (F := Ideal) x3 x4 = y
  generalize val_main_v89 (F := Ideal) x0 = z
  pointwise
  exact Fin.sum_univ_one _

/-- The mixed means before the scale. -/
def mixed (T : Fin 16384) (c : Fin 1024) : EReal := (∑ k : Fin 256, x1 (ix3 (grp c) k (lane c)) * pooled x0 T (grp c) k) + x2 (ix1 c)

theorem v95_apply (T : Fin 16384) (c : Fin 1024) : val_main_v95 (F := Ideal) x0 x1 x2 (ix3 0 T c) = mixed x0 x1 x2 T c := by
  unfold mixed pooled
  unfold val_main_v95 val_main_v92 val_main_v91 val_main_v90 val_main_v94 val_main_v93
  generalize val_main_v89 (F := Ideal) x0 = z
  pointwise
  rfl

/-- A sum over two axes of size one is the element. -/
theorem sum_unit_axes (h : S1x1x1024.ReducesTo [0, 1] S1024) (x : S1x1x1024.Idx → EReal) (c : Fin 1024) :
    Ideal.hostReduceAdd h x 0 (ix1 c) = x (ix3 0 0 c) := by
  unfold Ideal.hostReduceAdd
  have e : (Finset.univ.filter fun i : S1x1x1024.Idx => h.drop i = ix1 c) = {ix3 0 0 c} := by
    ext i
    rw [Finset.mem_filter, Finset.mem_singleton]
    have hv : (h.drop i 0 : ℕ) = i 2 := Shape.ReducesTo.drop_apply_val h i 0
    constructor
    · rintro ⟨-, hd⟩
      have hc : (i 2 : ℕ) = c.val := hv.symm.trans (congrArg Fin.val (congrFun hd 0))
      funext a
      apply Fin.ext
      match a with
      | ⟨0, _⟩ => exact Nat.lt_one_iff.mp (i 0).isLt
      | ⟨1, _⟩ => exact Nat.lt_one_iff.mp (i 1).isLt
      | ⟨2, _⟩ => exact hc
    · rintro rfl
      refine ⟨Finset.mem_univ _, funext fun a => Fin.ext ?_⟩
      match a with
      | ⟨0, _⟩ => exact hv
  rw [zero_add, e, Finset.sum_singleton]

theorem v107_apply (c : Fin 1024) : val_main_v107 (F := Ideal) x3 x4 (ix1 c) = ∑ T : Fin 16384, dm x3 x4 T c := by
  simp only [← v103_apply]
  unfold val_main_v107 val_main_v106 val_main_v105
  generalize val_main_v103 (F := Ideal) x3 x4 = y
  pointwise [val_main_cst_16, val_main_cst_17]
  rw [sum_unit_axes]
  pointwise

theorem v104_apply (c : Fin 1024) : val_main_v104 (F := Ideal) x0 x1 x2 x4 (ix1 c) = ∑ T : Fin 16384, mixed x0 x1 x2 T c * x4 (ix3 0 T c) := by
  simp only [← v95_apply]
  unfold val_main_v104 val_main_v101 val_main_v100 val_main_v99
  generalize val_main_v95 (F := Ideal) x0 x1 x2 = y
  pointwise [val_main_cst_14, val_main_cst_15]
  rw [sum_unit_axes]
  pointwise

theorem v186_row0 (c : Fin 1024) : val_main_v186 (F := Ideal) x0 x1 x2 x3 x4 (ix2 0 c) = ∑ T : Fin 16384, dm x3 x4 T c := by
  rw [← v107_apply]
  unfold val_main_v186 val_main_v183
  generalize val_main_v107 (F := Ideal) x3 x4 = y
  generalize val_main_v184 (F := Ideal) x0 x1 x2 x4 = z
  pointwise
theorem v186_row1 (c : Fin 1024) : val_main_v186 (F := Ideal) x0 x1 x2 x3 x4 (ix2 1 c) = ∑ T : Fin 16384, mixed x0 x1 x2 T c * x4 (ix3 0 T c) := by
  rw [← v104_apply]
  unfold val_main_v186 val_main_v184
  generalize val_main_v104 (F := Ideal) x0 x1 x2 x4 = y
  generalize val_main_v183 (F := Ideal) x3 x4 = z
  pointwise
theorem v186_rest (r : Fin 8) (c : Fin 1024) (h : ¬r.val < 2) : val_main_v186 (F := Ideal) x0 x1 x2 x3 x4 (ix2 r c) = 0 := by
  unfold val_main_v186 val_main_v185
  generalize val_main_v184 (F := Ideal) x0 x1 x2 x4 = y
  generalize val_main_v183 (F := Ideal) x3 x4 = z
  pointwise [val_main_cst_30]
  rw [dif_neg (by omega), dif_neg (by omega)]

end Cert.ReferenceIdeal.Pool

end
-- ==== Proof.Pool.RunA.lean ====
module

public import proofs.«01_k».proof.Proof.Gen.KernelIdeal.Frame
public import proofs.«01_k».proof.Proof.Gen.KernelIdeal.Skeleton

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first two branches are taken: the grid is at its first point. -/
abbrev atStart (i : grid0.Coords) : Prop :=
  (Scalar.cmpi .ne (Scalar.extui (Scalar.cmpi .eq (BitVec.ofNat 32 (i 0).val) 0#32)) 0#32) = 1#1

/-- The third branch is taken: the grid is past its first point. -/
abbrev pastStart (i : grid0.Coords) : Prop :=
  (Scalar.cmpi .ne (Scalar.extui (Scalar.xori (Scalar.cmpi .eq (BitVec.ofNat 32 (i 0).val) 0#32) 1#1)) 0#32) = 1#1

theorem atStart_iff : ∀ t : Fin cfg0.N, atStart (grid0.coords t) ↔ t.val = 0 :=
  (by decide +kernel : ∀ t : Fin grid0.N, atStart (grid0.coords t) ↔ t.val = 0)

theorem pastStart_iff : ∀ t : Fin cfg0.N, pastStart (grid0.coords t) ↔ t.val ≠ 0 :=
  (by decide +kernel : ∀ t : Fin grid0.N, pastStart (grid0.coords t) ↔ t.val ≠ 0)

set_option maxHeartbeats 1000000 in
/-- The body at the first point of the grid, with the pieces its stores leave in the three results and in the scratch (last store first). -/
noncomputable def runA (c : Dev nD) (i : grid0.Coords) (arg1 : Memref sig .tc .vmem S256x1024 .bf16) (harg1 : arg1.IsWhole) (arg2 : Memref sig .tc .vmem S256x1024 .bf16) (harg2 : arg2.IsWhole)
    (arg3 : Memref sig .tc .vmem S4x256x256 .bf16) (harg3 : arg3.IsWhole) (arg4 : Memref sig .tc .vmem S8x1024 .f32) (harg4 : arg4.IsWhole)
    (arg5 : Memref sig .tc .vmem S256x1024 .f32) (harg5 : arg5.IsWhole) (arg6 : Memref sig .tc .vmem S4x256x256 .f32) (harg6 : arg6.IsWhole)
    (arg7 : Memref sig .tc .vmem S8x1024 .f32) (harg7 : arg7.IsWhole) (arg8 : Memref sig .tc .vmem S272x1024 .f32) (harg8 : arg8.IsWhole)
    (hc0 : atStart i) (hc2 : ¬pastStart i)
    (x0 : Vec F S256x1024 .bf16) (x1 : Vec F S256x1024 .bf16) (x2 : Vec F S4x256x256 .bf16) (x3 : Vec F S8x1024 .f32) :
    Σ' (L4 : List (View.Piece (Elt F) S256x1024 .f32)) (L5 : List (View.Piece (Elt F) S4x256x256 .f32)) (L6 : List (View.Piece (Elt F) S8x1024 .f32)),
    { LS : List (View.Piece (Elt F) S272x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS)) -∗ K ⟨⟩))
          ⊢ wp frame (wpE (defs₀ (F := F)) Variants.none c none) E (cc0_pool_bwd_1 i arg1 harg1 arg2 harg2 arg3 harg3 arg4 harg4 arg5 harg5 arg6 harg6 arg7 harg7 arg8 harg8) K } := by
  refine ⟨?_, ?_, ?_, ?_, fun E K => ?run⟩
  case run =>
    simp only [cc0_pool_bwd_1_eq_skeleton]; unfold cc0_pool_bwd_1_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists _; iexact H6
    iexists _; iexact HS0

end Cert.KernelIdeal.Pool

end
-- ==== Proof.Pool.RunB.lean ====
module

public import proofs.«01_k».proof.Proof.Gen.KernelIdeal.Frame
public import proofs.«01_k».proof.Proof.Gen.KernelIdeal.Skeleton
public import proofs.«01_k».proof.Proof.Pool.RunA

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the any later point of the grid, with the pieces its stores leave in the three results and in the scratch (last store first). -/
noncomputable def runB (c : Dev nD) (i : grid0.Coords) (arg1 : Memref sig .tc .vmem S256x1024 .bf16) (harg1 : arg1.IsWhole) (arg2 : Memref sig .tc .vmem S256x1024 .bf16) (harg2 : arg2.IsWhole)
    (arg3 : Memref sig .tc .vmem S4x256x256 .bf16) (harg3 : arg3.IsWhole) (arg4 : Memref sig .tc .vmem S8x1024 .f32) (harg4 : arg4.IsWhole)
    (arg5 : Memref sig .tc .vmem S256x1024 .f32) (harg5 : arg5.IsWhole) (arg6 : Memref sig .tc .vmem S4x256x256 .f32) (harg6 : arg6.IsWhole)
    (arg7 : Memref sig .tc .vmem S8x1024 .f32) (harg7 : arg7.IsWhole) (arg8 : Memref sig .tc .vmem S272x1024 .f32) (harg8 : arg8.IsWhole)
    (hc0 : ¬atStart i) (hc2 : pastStart i)
    (x0 : Vec F S256x1024 .bf16) (x1 : Vec F S256x1024 .bf16) (x2 : Vec F S4x256x256 .bf16) (x3 : Vec F S8x1024 .f32)
    (x5 : Vec F S4x256x256 .f32) (x6 : Vec F S8x1024 .f32) (xs : Vec F S272x1024 .f32) :
    Σ' (L4 : List (View.Piece (Elt F) S256x1024 .f32)) (L5 : List (View.Piece (Elt F) S4x256x256 .f32)) (L6 : List (View.Piece (Elt F) S8x1024 .f32)),
    { LS : List (View.Piece (Elt F) S272x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread x5) L5) ∗ (arg7.view.loc (c : Thread nD τ) ↦[arg7.view.set]{fullShare} arg7.view.writes (Elt F) (harg7.unread x6) L6) ∗ (arg8.view.loc (c : Thread nD τ) ↦[arg8.view.set]{fullShare} arg8.view.writes (Elt F) (harg8.unread xs) LS)) -∗ K ⟨⟩))
          ⊢ wp frame (wpE (defs₀ (F := F)) Variants.none c none) E (cc0_pool_bwd_1 i arg1 harg1 arg2 harg2 arg3 harg3 arg4 harg4 arg5 harg5 arg6 harg6 arg7 harg7 arg8 harg8) K } := by
  refine ⟨?_, ?_, ?_, ?_, fun E K => ?run⟩
  case run =>
    simp only [cc0_pool_bwd_1_eq_skeleton]; unfold cc0_pool_bwd_1_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0
    sl_exec (disch := first | sl_exact hc0 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexact H5
    isplitl [H6]
    · iexact H6
    iexact HS0

end Cert.KernelIdeal.Pool

end
-- ==== Proof.Pool.Pieces.lean ====
module

public import proofs.«01_k».proof.Proof.Pool.RunB
public import proofs.«01_k».proof.Proof.Pool.Point

@[expose] public section

set_option maxRecDepth 16384

noncomputable section

namespace Cert.KernelIdeal.Pool

open Cert.KernelIdeal.Gen
open Idealize.ShloMosaic

/-- An index of a rectangle of unit steps, in the array. -/
theorem unit2_emb {R C : ℕ} {o0 o1 h w : ℕ} {inb} (a : Fin h) (b : Fin w) (h0 : o0 + a.val < R) (h1 : o1 + b.val < C) :
    (Rect.unit (s := ⟨2, ![R, C]⟩) ![o0, o1] ![h, w] inb).emb (ix2 a b) = ix2 ⟨o0 + a.val, h0⟩ ⟨o1 + b.val, h1⟩ := by
  funext i
  refine Fin.ext ?_
  match i with
  | 0 => show o0 + 1 * a.val = o0 + a.val; omega
  | 1 => show o1 + 1 * b.val = o1 + b.val; omega

theorem rowAt_load (a4 : Memref sig .tc .vmem S8x1024 .f32) (h4 : a4.IsWhole) (x3 : FVec Ideal S8x1024 .f32) (row : Fin 8) (g : Fin 4)
    {off : Fin 2 → ℕ} {inb} (ho : off = ![row.val, 256 * g.val]) :
    RowAt x3 row g (View.readAt (Elt Ideal) a4.view (Rect.unit (s := S8x1024) off S1x256.size inb).toLoadRect (h4.unread x3)) := by
  subst ho
  intro j
  rw [View.readAt_eq_ld, h4.read_unread]
  exact congrArg x3 (unit2_emb (0 : Fin 1) j (by simp) (by omega))

theorem colsAt_load (a1 : Memref sig .tc .vmem S256x1024 .bf16) (h1 : a1.IsWhole) (x0 : FVec Ideal S256x1024 .bf16) (g : Fin 4)
    {off : Fin 2 → ℕ} {inb} (ho : off = ![0, 256 * g.val]) :
    ColsAt x0 g (View.readAt (Elt Ideal) a1.view (Rect.unit (s := S256x1024) off S256x256.size inb).toLoadRect (h1.unread x0)) := by
  subst ho
  intro r k
  rw [View.readAt_eq_ld, h1.read_unread]
  refine congrArg x0 ((unit2_emb r k (by omega) (by omega)).trans ?_)
  exact congrArg₂ ix2 (Fin.ext (Nat.zero_add _)) rfl

theorem unit3_emb {P R C : ℕ} {o0 o1 o2 d h w : ℕ} {inb} (c : Fin d) (a : Fin h) (b : Fin w) (h0 : o0 + c.val < P) (h1 : o1 + a.val < R) (h2 : o2 + b.val < C) :
    (Rect.unit (s := ⟨3, ![P, R, C]⟩) ![o0, o1, o2] ![d, h, w] inb).emb (ix3 c a b) = ix3 ⟨o0 + c.val, h0⟩ ⟨o1 + a.val, h1⟩ ⟨o2 + b.val, h2⟩ := by
  funext i
  refine Fin.ext ?_
  match i with
  | 0 => show o0 + 1 * c.val = o0 + c.val; omega
  | 1 => show o1 + 1 * a.val = o1 + a.val; omega
  | 2 => show o2 + 1 * b.val = o2 + b.val; omega

theorem groupAt_load (a3 : Memref sig .tc .vmem S4x256x256 .bf16) (h3 : a3.IsWhole) (x2 : FVec Ideal S4x256x256 .bf16) (g : Fin 4)
    {off : Fin 3 → ℕ} {inb} (ho : off = ![g.val, 0, 0]) :
    GroupAt x2 g (View.readAt (Elt Ideal) a3.view (Rect.unit (s := S4x256x256) off S1x256x256.size inb).toLoadRect (h3.unread x2)) := by
  subst ho
  intro k j
  rw [View.readAt_eq_ld, h3.read_unread]
  refine congrArg x2 ((unit3_emb (0 : Fin 1) k j (by simp) (by omega) (by omega)).trans ?_)
  congr 1 <;> exact Fin.ext (by simp)

theorem whole_load (a2 : Memref sig .tc .vmem S256x1024 .bf16) (h2 : a2.IsWhole) (x1 : FVec Ideal S256x1024 .bf16) {inb} :
    View.readAt (Elt Ideal) a2.view (Rect.unit (s := S256x1024) ![0, 0] S256x1024.size inb).toLoadRect (h2.unread x1) = x1 := by
  simp (disch := decide) only [View.readAt_eq_ld, Memref.IsWhole.read_unread, View.ld_unit_lit']

theorem row0_word (i : grid0.Coords) : Scalar.muli (Scalar.subi 63#32 (BitVec.ofNat 32 (i 0).val)) 256#32 = BitVec.ofNat 32 ((63 - (i 0).val) * 256) := by
  have h : (i 0).val < 64 := (i 0).isLt
  generalize (i 0).val = t at h
  interval_cases t <;> rfl

section Stage
variable {n : ℕ} {Q : ℕ → Fin 1024 → EReal} {L : List (View.Piece (Elt Ideal) S272x1024 .f32)}

/-- A load of rows of the scratch: the quotients from there on. -/
theorem stage_load (hcan : ∀ y, View.canon L y = Q (n + (y 0).val) (y 1)) (v : View sig .tc .vmem S272x1024 .f32) (o p : ℕ) (hp : p + 256 ≤ 1024)
    {inb} (r k : Fin 256) :
    v.readCov L (Rect.unit (s := S272x1024) ![o, p] S256x256.size inb).toLoadRect (ix2 r k) = Q (n + r.val + o) ⟨p + k.val, by omega⟩ := by
  have h0 : o + 256 ≤ 272 := inb 0
  rw [View.readCov_eq_canon']
  dsimp only
  rw [hcan]
  refine congrArg₂ Q ?_ (Fin.ext ?_)
  · show n + (o + 1 * r.val) = n + r.val + o; omega
  · show p + 1 * k.val = p + k.val; omega

theorem pay38_apply (d s0 s1 : FVec Ideal S256x256 .f32) (r k : Fin 256) :
    k0_pay38 d s0 s1 (ix2 r k) = s0 (ix2 r k) + s1 (ix2 r k) - d (ix2 r k) := by
  pointwise [k0_pay38]
theorem pay39_apply (d s0 s1 s2 s3 : FVec Ideal S256x256 .f32) (r k : Fin 256) :
    k0_pay39 d s0 s1 s2 s3 (ix2 r k) = s0 (ix2 r k) + s1 (ix2 r k) + s2 (ix2 r k) + s3 (ix2 r k) - d (ix2 r k) := by
  pointwise [k0_pay39]
theorem pay41_apply (d s0 s1 s2 s3 s4 s5 s6 s7 : FVec Ideal S256x256 .f32) (r k : Fin 256) :
    k0_pay41 d (k0_pay40 s0 s1 s2 s3) s4 s5 s6 s7 (ix2 r k)
      = s0 (ix2 r k) + s1 (ix2 r k) + s2 (ix2 r k) + s3 (ix2 r k) + s4 (ix2 r k) + s5 (ix2 r k) + s6 (ix2 r k) + s7 (ix2 r k) - d (ix2 r k) := by
  pointwise [k0_pay41, k0_pay40]
theorem pay1_apply (d s0 s1 s2 s3 s4 s5 s6 s7 s8 s9 s10 s11 s12 s13 s14 s15 : FVec Ideal S256x256 .f32) (r k : Fin 256) :
    k0_pay1 d (k0_pay42 s0 s1 s2 s3 s4 s5 s6 s7 s8 s9) s10 s11 s12 s13 s14 s15 (ix2 r k)
      = s0 (ix2 r k) + s1 (ix2 r k) + s2 (ix2 r k) + s3 (ix2 r k) + s4 (ix2 r k) + s5 (ix2 r k) + s6 (ix2 r k) + s7 (ix2 r k)
        + s8 (ix2 r k) + s9 (ix2 r k) + s10 (ix2 r k) + s11 (ix2 r k) + s12 (ix2 r k) + s13 (ix2 r k) + s14 (ix2 r k) + s15 (ix2 r k) - d (ix2 r k) := by
  pointwise [k0_pay1, k0_pay42]

theorem pay38_stage (hcan : ∀ y, View.canon L y = Q (n + (y 0).val) (y 1)) (v : View sig .tc .vmem S272x1024 .f32) (d : FVec Ideal S256x256 .f32) (dp : EReal) (r k : Fin 256)
    (hd : d (ix2 r k) = dp) :
    k0_pay38 (F := Ideal) d (v.readCov L (Rect.unit (s := S272x1024) ![0, 0] S256x256.size inb_S272x1024_S256x256_0_0).toLoadRect)
      (v.readCov L (Rect.unit (s := S272x1024) ![1, 0] S256x256.size inb_S272x1024_S256x256_1_0).toLoadRect) (ix2 r k)
      = (∑ j ∈ Finset.range (width 0), Q (n + r.val + j) (colAt 0 k)) - dp := by
  have e : colAt 0 k = ⟨0 + k.val, by omega⟩ := Fin.ext (by simp [colAt])
  rw [pay38_apply, hd, stage_load hcan v 0 0 (by omega), stage_load hcan v 1 0 (by omega), e, show width 0 = 2 from rfl]
  simp only [Finset.sum_range_succ, Finset.sum_range_zero, zero_add]

theorem pay39_stage (hcan : ∀ y, View.canon L y = Q (n + (y 0).val) (y 1)) (v : View sig .tc .vmem S272x1024 .f32) (d : FVec Ideal S256x256 .f32) (dp : EReal) (r k : Fin 256)
    (hd : d (ix2 r k) = dp) :
    k0_pay39 (F := Ideal) d (v.readCov L (Rect.unit (s := S272x1024) ![0, 256] S256x256.size inb_S272x1024_S256x256_0_256).toLoadRect)
      (v.readCov L (Rect.unit (s := S272x1024) ![1, 256] S256x256.size inb_S272x1024_S256x256_1_256).toLoadRect)
      (v.readCov L (Rect.unit (s := S272x1024) ![2, 256] S256x256.size inb_S272x1024_S256x256_2_256).toLoadRect)
      (v.readCov L (Rect.unit (s := S272x1024) ![3, 256] S256x256.size inb_S272x1024_S256x256_3_256).toLoadRect) (ix2 r k)
      = (∑ j ∈ Finset.range (width 1), Q (n + r.val + j) (colAt 1 k)) - dp := by
  have e : colAt 1 k = ⟨256 + k.val, by omega⟩ := Fin.ext (by simp [colAt])
  rw [pay39_apply, hd, stage_load hcan v 0 256 (by omega), stage_load hcan v 1 256 (by omega), stage_load hcan v 2 256 (by omega), stage_load hcan v 3 256 (by omega), e, show width 1 = 4 from rfl]
  simp only [Finset.sum_range_succ, Finset.sum_range_zero, zero_add]

theorem pay41_stage (hcan : ∀ y, View.canon L y = Q (n + (y 0).val) (y 1)) (v : View sig .tc .vmem S272x1024 .f32) (d : FVec Ideal S256x256 .f32) (dp : EReal) (r k : Fin 256)
    (hd : d (ix2 r k) = dp) :
    k0_pay41 (F := Ideal) d (k0_pay40 (v.readCov L (Rect.unit (s := S272x1024) ![0, 512] S256x256.size inb_S272x1024_S256x256_0_512).toLoadRect)
      (v.readCov L (Rect.unit (s := S272x1024) ![1, 512] S256x256.size inb_S272x1024_S256x256_1_512).toLoadRect)
      (v.readCov L (Rect.unit (s := S272x1024) ![2, 512] S256x256.size inb_S272x1024_S256x256_2_512).toLoadRect)
      (v.readCov L (Rect.unit (s := S272x1024) ![3, 512] S256x256.size inb_S272x1024_S256x256_3_512).toLoadRect)) (v.readCov L (Rect.unit (s := S272x1024) ![4, 512] S256x256.size inb_S272x1024_S256x256_4_512).toLoadRect)
      (v.readCov L (Rect.unit (s := S272x1024) ![5, 512] S256x256.size inb_S272x1024_S256x256_5_512).toLoadRect)
      (v.readCov L (Rect.unit (s := S272x1024) ![6, 512] S256x256.size inb_S272x1024_S256x256_6_512).toLoadRect)
      (v.readCov L (Rect.unit (s := S272x1024) ![7, 512] S256x256.size inb_S272x1024_S256x256_7_512).toLoadRect) (ix2 r k)
      = (∑ j ∈ Finset.range (width 2), Q (n + r.val + j) (colAt 2 k)) - dp := by
  have e : colAt 2 k = ⟨512 + k.val, by omega⟩ := Fin.ext (by simp [colAt])
  rw [pay41_apply, hd, stage_load hcan v 0 512 (by omega), stage_load hcan v 1 512 (by omega), stage_load hcan v 2 512 (by omega), stage_load hcan v 3 512 (by omega), stage_load hcan v 4 512 (by omega), stage_load hcan v 5 512 (by omega), stage_load hcan v 6 512 (by omega), stage_load hcan v 7 512 (by omega), e, show width 2 = 8 from rfl]
  simp only [Finset.sum_range_succ, Finset.sum_range_zero, zero_add]

theorem pay1_stage (hcan : ∀ y, View.canon L y = Q (n + (y 0).val) (y 1)) (v : View sig .tc .vmem S272x1024 .f32) (d : FVec Ideal S256x256 .f32) (dp : EReal) (r k : Fin 256)
    (hd : d (ix2 r k) = dp) :
    k0_pay1 (F := Ideal) d (k0_pay42 (v.readCov L (Rect.unit (s := S272x1024) ![0, 768] S256x256.size inb_S272x1024_S256x256_0_768).toLoadRect)
      (v.readCov L (Rect.unit (s := S272x1024) ![1, 768] S256x256.size inb_S272x1024_S256x256_1_768).toLoadRect)
      (v.readCov L (Rect.unit (s := S272x1024) ![2, 768] S256x256.size inb_S272x1024_S256x256_2_768).toLoadRect)
      (v.readCov L (Rect.unit (s := S272x1024) ![3, 768] S256x256.size inb_S272x1024_S256x256_3_768).toLoadRect)
      (v.readCov L (Rect.unit (s := S272x1024) ![4, 768] S256x256.size inb_S272x1024_S256x256_4_768).toLoadRect)
      (v.readCov L (Rect.unit (s := S272x1024) ![5, 768] S256x256.size inb_S272x1024_S256x256_5_768).toLoadRect)
      (v.readCov L (Rect.unit (s := S272x1024) ![6, 768] S256x256.size inb_S272x1024_S256x256_6_768).toLoadRect)
      (v.readCov L (Rect.unit (s := S272x1024) ![7, 768] S256x256.size inb_S272x1024_S256x256_7_768).toLoadRect)
      (v.readCov L (Rect.unit (s := S272x1024) ![8, 768] S256x256.size inb_S272x1024_S256x256_8_768).toLoadRect)
      (v.readCov L (Rect.unit (s := S272x1024) ![9, 768] S256x256.size inb_S272x1024_S256x256_9_768).toLoadRect)) (v.readCov L (Rect.unit (s := S272x1024) ![10, 768] S256x256.size inb_S272x1024_S256x256_10_768).toLoadRect)
      (v.readCov L (Rect.unit (s := S272x1024) ![11, 768] S256x256.size inb_S272x1024_S256x256_11_768).toLoadRect)
      (v.readCov L (Rect.unit (s := S272x1024) ![12, 768] S256x256.size inb_S272x1024_S256x256_12_768).toLoadRect)
      (v.readCov L (Rect.unit (s := S272x1024) ![13, 768] S256x256.size inb_S272x1024_S256x256_13_768).toLoadRect)
      (v.readCov L (Rect.unit (s := S272x1024) ![14, 768] S256x256.size inb_S272x1024_S256x256_14_768).toLoadRect)
      (v.readCov L (Rect.unit (s := S272x1024) ![15, 768] S256x256.size inb_S272x1024_S256x256_15_768).toLoadRect) (ix2 r k)
      = (∑ j ∈ Finset.range (width 3), Q (n + r.val + j) (colAt 3 k)) - dp := by
  have e : colAt 3 k = ⟨768 + k.val, by omega⟩ := Fin.ext (by simp [colAt])
  rw [pay1_apply, hd, stage_load hcan v 0 768 (by omega), stage_load hcan v 1 768 (by omega), stage_load hcan v 2 768 (by omega), stage_load hcan v 3 768 (by omega), stage_load hcan v 4 768 (by omega), stage_load hcan v 5 768 (by omega), stage_load hcan v 6 768 (by omega), stage_load hcan v 7 768 (by omega), stage_load hcan v 8 768 (by omega), stage_load hcan v 9 768 (by omega), stage_load hcan v 10 768 (by omega), stage_load hcan v 11 768 (by omega), stage_load hcan v 12 768 (by omega), stage_load hcan v 13 768 (by omega), stage_load hcan v 14 768 (by omega), stage_load hcan v 15 768 (by omega), e, show width 3 = 16 from rfl]
  simp only [Finset.sum_range_succ, Finset.sum_range_zero, zero_add]
end Stage

/-- The same through a load's box. -/
theorem unit2_idx {R C : ℕ} {o0 o1 h w : ℕ} {inb} (a : Fin h) (b : Fin w) (h0 : o0 + a.val < R) (h1 : o1 + b.val < C) :
    (Rect.unit (s := ⟨2, ![R, C]⟩) ![o0, o1] ![h, w] inb).toLoadRect.idx (ix2 a b) = ix2 ⟨o0 + a.val, h0⟩ ⟨o1 + b.val, h1⟩ :=
  unit2_emb a b h0 h1

theorem unit3_idx {P R C : ℕ} {o0 o1 o2 d h w : ℕ} {inb} (c : Fin d) (a : Fin h) (b : Fin w) (h0 : o0 + c.val < P) (h1 : o1 + a.val < R) (h2 : o2 + b.val < C) :
    (Rect.unit (s := ⟨3, ![P, R, C]⟩) ![o0, o1, o2] ![d, h, w] inb).toLoadRect.idx (ix3 c a b) = ix3 ⟨o0 + c.val, h0⟩ ⟨o1 + a.val, h1⟩ ⟨o2 + b.val, h2⟩ :=
  unit3_emb c a b h0 h1 h2

theorem exists_ix2 {h w : ℕ} (x : (⟨2, ![h, w]⟩ : Shape).Idx) : ∃ (a : Fin h) (b : Fin w), x = ix2 a b :=
  ⟨x 0, x 1, by funext a; match a with | 0 => rfl | 1 => rfl⟩
theorem exists_ix3 {d h w : ℕ} (x : (⟨3, ![d, h, w]⟩ : Shape).Idx) : ∃ (c : Fin d) (a : Fin h) (b : Fin w), x = ix3 c a b :=
  ⟨x 0, x 1, x 2, by funext a; match a with | 0 => rfl | 1 => rfl | 2 => rfl⟩

/-- The block's term of the accumulator: the bias gradient in row `0`, the scale gradient in row `1`. -/
def accB (x0 x1 : FVec Ideal S256x1024 .bf16) (x2 : FVec Ideal S4x256x256 .bf16) (x3 : FVec Ideal S8x1024 .f32) (r : Fin 8) (c : Fin 1024) : EReal :=
  if r = 0 then dbB x1 x3 c else if r = 1 then dsB x0 x1 x2 x3 c else 0

/-- The block of the first result: the sum of the window's rows below, less the gradient of the means. -/
def dhB (n : ℕ) (Q : ℕ → Fin 1024 → EReal) (x1 : FVec Ideal S256x1024 .bf16) (x2 : FVec Ideal S4x256x256 .bf16) (x3 : FVec Ideal S8x1024 .f32) (r : Fin 256) (c : Fin 1024) : EReal :=
  (∑ j ∈ Finset.range (width (grp c)), Q (n + r.val + j) c) - dpB x1 x2 x3 r c

section
variable (c : Dev nD) (i : grid0.Coords) (a1 : Memref sig .tc .vmem S256x1024 .bf16) (h1 : a1.IsWhole) (a2 : Memref sig .tc .vmem S256x1024 .bf16) (h2 : a2.IsWhole)
    (a3 : Memref sig .tc .vmem S4x256x256 .bf16) (h3 : a3.IsWhole) (a4 : Memref sig .tc .vmem S8x1024 .f32) (h4 : a4.IsWhole)
    (a5 : Memref sig .tc .vmem S256x1024 .f32) (h5 : a5.IsWhole) (a6 : Memref sig .tc .vmem S4x256x256 .f32) (h6 : a6.IsWhole)
    (a7 : Memref sig .tc .vmem S8x1024 .f32) (h7 : a7.IsWhole) (a8 : Memref sig .tc .vmem S272x1024 .f32) (h8 : a8.IsWhole)
    (hc0 : ¬atStart i) (hc2 : pastStart i)
    (x0 : FVec Ideal S256x1024 .bf16) (x1 : FVec Ideal S256x1024 .bf16) (x2 : FVec Ideal S4x256x256 .bf16) (x3 : FVec Ideal S8x1024 .f32)
    (x5 : FVec Ideal S4x256x256 .f32) (x6 : FVec Ideal S8x1024 .f32) (xs : FVec Ideal S272x1024 .f32)

/-- The rows of the scratch hold the quotients of the block and, below them, the ones handed on. -/
theorem runB_scratch (Q : ℕ → Fin 1024 → EReal) (hq : ∀ r c, qB ((63 - (i 0).val) * 256) x1 x2 x3 r c = Q (((63 - (i 0).val) * 256) + r.val) c)
    (hs : ∀ (k : Fin 16) (c : Fin 1024), xs (ix2 ⟨k.val, by omega⟩ c) = Q (((63 - (i 0).val) * 256) + (256 + k.val)) c) :
    ∀ p ∈ (runB (F := Ideal) c i a1 h1 a2 h2 a3 h3 a4 h4 a5 h5 a6 h6 a7 h7 a8 h8 hc0 hc2 x0 x1 x2 x3 x5 x6 xs).2.2.2.1,
      ∀ x : p.1.shape.Idx, p.2 x = Q (((63 - (i 0).val) * 256) + (p.1.emb x 0).val) (p.1.emb x 1) := by
  have hn : ((63 - (i 0).val) * 256) + 256 < 2 ^ 31 := by omega
  unfold runB
  dsimp only
  sl_unfold_words
  simp only [List.forall_mem_cons, List.not_mem_nil, false_imp_iff, implies_true, and_true]
  refine ⟨fun x => ?_, fun x => ?_, fun x => ?_, fun x => ?_, fun x => ?_⟩
  · obtain ⟨r, k, rfl⟩ := exists_ix2 (h := 256) (w := 256) x
    rw [row0_word, whole_load]
    refine (pay37_apply _ hn x1 x2 x3 (rowAt_load a4 h4 x3 1 3 rfl) (groupAt_load a3 h3 x2 3 rfl) r k).trans ((hq _ _).trans ?_)
    rw [unit2_emb r k (by omega) (by omega)]
    exact congrArg₂ Q (congrArg _ (Nat.zero_add _).symm) rfl
  · obtain ⟨r, k, rfl⟩ := exists_ix2 (h := 256) (w := 256) x
    rw [row0_word, whole_load]
    refine (pay28_apply _ hn x1 x2 x3 (rowAt_load a4 h4 x3 1 2 rfl) (groupAt_load a3 h3 x2 2 rfl) r k).trans ((hq _ _).trans ?_)
    rw [unit2_emb r k (by omega) (by omega)]
    exact congrArg₂ Q (congrArg _ (Nat.zero_add _).symm) rfl
  · obtain ⟨r, k, rfl⟩ := exists_ix2 (h := 256) (w := 256) x
    rw [row0_word, whole_load]
    refine (pay22_apply _ hn x1 x2 x3 (rowAt_load a4 h4 x3 1 1 rfl) (groupAt_load a3 h3 x2 1 rfl) r k).trans ((hq _ _).trans ?_)
    rw [unit2_emb r k (by omega) (by omega)]
    exact congrArg₂ Q (congrArg _ (Nat.zero_add _).symm) rfl
  · obtain ⟨r, k, rfl⟩ := exists_ix2 (h := 256) (w := 256) x
    rw [row0_word, whole_load]
    refine (pay16_apply _ hn x1 x2 x3 (rowAt_load a4 h4 x3 1 0 rfl) (groupAt_load a3 h3 x2 0 rfl) r k).trans ((hq _ _).trans ?_)
    rw [unit2_emb r k (by omega) (by omega)]
    exact congrArg₂ Q (congrArg _ (Nat.zero_add _).symm) rfl
  · obtain ⟨r, k, rfl⟩ := exists_ix2 (h := 16) (w := 1024) x
    rw [unit2_emb r k (by omega) (by omega)]
    refine Eq.trans ?_ ((hs r k).trans ?_)
    · pointwise [k0_pay5]
      rw [View.readAt_eq_ld, h8.read_unread]
      exact congrArg xs ((unit2_emb r k (by omega) (by omega)).trans (congrArg₂ ix2 (Fin.ext (Nat.zero_add _)) (Fin.ext (Nat.zero_add _))))
    · exact congrArg₂ Q rfl (Fin.ext (Nat.zero_add _).symm)

theorem runB_scratch_cover : ∀ y : S272x1024.Idx, ∃ p ∈ (runB (F := Ideal) c i a1 h1 a2 h2 a3 h3 a4 h4 a5 h5 a6 h6 a7 h7 a8 h8 hc0 hc2 x0 x1 x2 x3 x5 x6 xs).2.2.2.1, y ∈ p.1.set := by
  unfold runB
  dsimp only
  sl_unfold_words
  intro y
  simp only [List.exists_mem_cons_iff, List.not_mem_nil, false_and, exists_false, or_false, Rect.mem_set_unit, Fin.forall_fin_two]
  have h0 : (y 0).val < 272 := (y 0).isLt
  have h1 : (y 1).val < 1024 := (y 1).isLt
  simp
  omega

/-- So the scratch afterwards. -/
theorem runB_scratch_canon (Q : ℕ → Fin 1024 → EReal) (hq : ∀ r c, qB ((63 - (i 0).val) * 256) x1 x2 x3 r c = Q (((63 - (i 0).val) * 256) + r.val) c)
    (hs : ∀ (k : Fin 16) (c : Fin 1024), xs (ix2 ⟨k.val, by omega⟩ c) = Q (((63 - (i 0).val) * 256) + (256 + k.val)) c) (y : S272x1024.Idx) :
    View.canon (runB (F := Ideal) c i a1 h1 a2 h2 a3 h3 a4 h4 a5 h5 a6 h6 a7 h7 a8 h8 hc0 hc2 x0 x1 x2 x3 x5 x6 xs).2.2.2.1 y = Q (((63 - (i 0).val) * 256) + (y 0).val) (y 1) :=
  View.canon_apply_of_pieces (Val := Elt Ideal) (fun y => Q (((63 - (i 0).val) * 256) + (y 0).val) (y 1)) _ (runB_scratch _ _ _ _ _ _ _ _ _ _ _ _ _ _ _ _ _ _ _ _ _ _ _ _ _ _ _ Q hq hs) y
    (runB_scratch_cover _ _ _ _ _ _ _ _ _ _ _ _ _ _ _ _ _ _ _ _ _ _ _ _ _ _ _ y)

/-- The block of the first result. -/
theorem runB_dh (Q : ℕ → Fin 1024 → EReal) (hq : ∀ r c, qB ((63 - (i 0).val) * 256) x1 x2 x3 r c = Q (((63 - (i 0).val) * 256) + r.val) c)
    (hs : ∀ (k : Fin 16) (c : Fin 1024), xs (ix2 ⟨k.val, by omega⟩ c) = Q (((63 - (i 0).val) * 256) + (256 + k.val)) c) :
    ∀ p ∈ (runB (F := Ideal) c i a1 h1 a2 h2 a3 h3 a4 h4 a5 h5 a6 h6 a7 h7 a8 h8 hc0 hc2 x0 x1 x2 x3 x5 x6 xs).1,
      ∀ x : p.1.shape.Idx, p.2 x = dhB ((63 - (i 0).val) * 256) Q x1 x2 x3 (p.1.emb x 0) (p.1.emb x 1) := by
  have hcan := runB_scratch_canon c i a1 h1 a2 h2 a3 h3 a4 h4 a5 h5 a6 h6 a7 h7 a8 h8 hc0 hc2 x0 x1 x2 x3 x5 x6 xs Q hq hs
  revert hcan
  unfold runB
  dsimp only
  sl_unfold_words
  intro hcan
  simp only [List.forall_mem_cons, List.not_mem_nil, false_imp_iff, implies_true, and_true]
  refine ⟨fun x => ?_, fun x => ?_, fun x => ?_, fun x => ?_⟩
  · obtain ⟨r, k, rfl⟩ := exists_ix2 (h := 256) (w := 256) x
    have e : colAt 3 k = ⟨768 + k.val, by omega⟩ := Fin.ext (by simp [colAt])
    refine Eq.trans (b := dhB ((63 - (i 0).val) * 256) Q x1 x2 x3 r (colAt 3 k)) ?_ ?_
    · unfold dhB
      rw [grp_colAt]
      refine pay1_stage hcan a8.view _ _ r k ?_
      rw [whole_load]
      exact pay34_apply x1 x2 x3 (rowAt_load a4 h4 x3 1 3 rfl) (groupAt_load a3 h3 x2 3 rfl) r k
    · rw [unit2_emb r k (by omega) (by omega)]
      exact congrArg₂ (dhB ((63 - (i 0).val) * 256) Q x1 x2 x3) (Fin.ext (Nat.zero_add _).symm) e
  · obtain ⟨r, k, rfl⟩ := exists_ix2 (h := 256) (w := 256) x
    have e : colAt 2 k = ⟨512 + k.val, by omega⟩ := Fin.ext (by simp [colAt])
    refine Eq.trans (b := dhB ((63 - (i 0).val) * 256) Q x1 x2 x3 r (colAt 2 k)) ?_ ?_
    · unfold dhB
      rw [grp_colAt]
      refine pay41_stage hcan a8.view _ _ r k ?_
      rw [whole_load]
      exact pay27_apply x1 x2 x3 (rowAt_load a4 h4 x3 1 2 rfl) (groupAt_load a3 h3 x2 2 rfl) r k
    · rw [unit2_emb r k (by omega) (by omega)]
      exact congrArg₂ (dhB ((63 - (i 0).val) * 256) Q x1 x2 x3) (Fin.ext (Nat.zero_add _).symm) e
  · obtain ⟨r, k, rfl⟩ := exists_ix2 (h := 256) (w := 256) x
    have e : colAt 1 k = ⟨256 + k.val, by omega⟩ := Fin.ext (by simp [colAt])
    refine Eq.trans (b := dhB ((63 - (i 0).val) * 256) Q x1 x2 x3 r (colAt 1 k)) ?_ ?_
    · unfold dhB
      rw [grp_colAt]
      refine pay39_stage hcan a8.view _ _ r k ?_
      rw [whole_load]
      exact pay21_apply x1 x2 x3 (rowAt_load a4 h4 x3 1 1 rfl) (groupAt_load a3 h3 x2 1 rfl) r k
    · rw [unit2_emb r k (by omega) (by omega)]
      exact congrArg₂ (dhB ((63 - (i 0).val) * 256) Q x1 x2 x3) (Fin.ext (Nat.zero_add _).symm) e
  · obtain ⟨r, k, rfl⟩ := exists_ix2 (h := 256) (w := 256) x
    have e : colAt 0 k = ⟨0 + k.val, by omega⟩ := Fin.ext (by simp [colAt])
    refine Eq.trans (b := dhB ((63 - (i 0).val) * 256) Q x1 x2 x3 r (colAt 0 k)) ?_ ?_
    · unfold dhB
      rw [grp_colAt]
      refine pay38_stage hcan a8.view _ _ r k ?_
      rw [whole_load]
      exact pay14_apply x1 x2 x3 (rowAt_load a4 h4 x3 1 0 rfl) (groupAt_load a3 h3 x2 0 rfl) r k
    · rw [unit2_emb r k (by omega) (by omega)]
      exact congrArg₂ (dhB ((63 - (i 0).val) * 256) Q x1 x2 x3) (Fin.ext (Nat.zero_add _).symm) e

theorem runB_dh_cover : ∀ y : S256x1024.Idx, ∃ p ∈ (runB (F := Ideal) c i a1 h1 a2 h2 a3 h3 a4 h4 a5 h5 a6 h6 a7 h7 a8 h8 hc0 hc2 x0 x1 x2 x3 x5 x6 xs).1, y ∈ p.1.set := by
  unfold runB
  dsimp only
  sl_unfold_words
  intro y
  simp only [List.exists_mem_cons_iff, List.not_mem_nil, false_and, exists_false, or_false, Rect.mem_set_unit, Fin.forall_fin_two]
  have h0 : (y 0).val < 256 := (y 0).isLt
  have h1 : (y 1).val < 1024 := (y 1).isLt
  simp
  omega

theorem runB_dh_read (Q : ℕ → Fin 1024 → EReal) (hq : ∀ r c, qB ((63 - (i 0).val) * 256) x1 x2 x3 r c = Q (((63 - (i 0).val) * 256) + r.val) c)
    (hs : ∀ (k : Fin 16) (c : Fin 1024), xs (ix2 ⟨k.val, by omega⟩ c) = Q (((63 - (i 0).val) * 256) + (256 + k.val)) c) (f) (y : S256x1024.Idx) :
    a5.view.read (Elt Ideal) (a5.view.writes (Elt Ideal) f (runB (F := Ideal) c i a1 h1 a2 h2 a3 h3 a4 h4 a5 h5 a6 h6 a7 h7 a8 h8 hc0 hc2 x0 x1 x2 x3 x5 x6 xs).1) y = dhB ((63 - (i 0).val) * 256) Q x1 x2 x3 (y 0) (y 1) :=
  View.read_writes_apply_of_pieces a5.view f (fun y => dhB ((63 - (i 0).val) * 256) Q x1 x2 x3 (y 0) (y 1)) _ (runB_dh _ _ _ _ _ _ _ _ _ _ _ _ _ _ _ _ _ _ _ _ _ _ _ _ _ _ _ Q hq hs) y (runB_dh_cover _ _ _ _ _ _ _ _ _ _ _ _ _ _ _ _ _ _ _ _ _ _ _ _ _ _ _ y)
end
section
variable (c : Dev nD) (i : grid0.Coords) (a1 : Memref sig .tc .vmem S256x1024 .bf16) (h1 : a1.IsWhole) (a2 : Memref sig .tc .vmem S256x1024 .bf16) (h2 : a2.IsWhole)
    (a3 : Memref sig .tc .vmem S4x256x256 .bf16) (h3 : a3.IsWhole) (a4 : Memref sig .tc .vmem S8x1024 .f32) (h4 : a4.IsWhole)
    (a5 : Memref sig .tc .vmem S256x1024 .f32) (h5 : a5.IsWhole) (a6 : Memref sig .tc .vmem S4x256x256 .f32) (h6 : a6.IsWhole)
    (a7 : Memref sig .tc .vmem S8x1024 .f32) (h7 : a7.IsWhole) (a8 : Memref sig .tc .vmem S272x1024 .f32) (h8 : a8.IsWhole)
    (hc0 : atStart i) (hc2 : ¬pastStart i)
    (x0 : FVec Ideal S256x1024 .bf16) (x1 : FVec Ideal S256x1024 .bf16) (x2 : FVec Ideal S4x256x256 .bf16) (x3 : FVec Ideal S8x1024 .f32)

/-- The rows of the scratch hold the quotients of the block and, below them, the ones handed on. -/
theorem runA_scratch (Q : ℕ → Fin 1024 → EReal) (hq : ∀ r c, qB ((63 - (i 0).val) * 256) x1 x2 x3 r c = Q (((63 - (i 0).val) * 256) + r.val) c)
    (hs : ∀ (k : Fin 16) (c : Fin 1024), 0 = Q (((63 - (i 0).val) * 256) + (256 + k.val)) c) :
    ∀ p ∈ (runA (F := Ideal) c i a1 h1 a2 h2 a3 h3 a4 h4 a5 h5 a6 h6 a7 h7 a8 h8 hc0 hc2 x0 x1 x2 x3).2.2.2.1,
      ∀ x : p.1.shape.Idx, p.2 x = Q (((63 - (i 0).val) * 256) + (p.1.emb x 0).val) (p.1.emb x 1) := by
  have hn : ((63 - (i 0).val) * 256) + 256 < 2 ^ 31 := by omega
  unfold runA
  dsimp only
  sl_unfold_words
  simp only [List.forall_mem_cons, List.not_mem_nil, false_imp_iff, implies_true, and_true]
  refine ⟨fun x => ?_, fun x => ?_, fun x => ?_, fun x => ?_, fun x => ?_⟩
  · obtain ⟨r, k, rfl⟩ := exists_ix2 (h := 256) (w := 256) x
    rw [row0_word, whole_load]
    refine (pay37_apply _ hn x1 x2 x3 (rowAt_load a4 h4 x3 1 3 rfl) (groupAt_load a3 h3 x2 3 rfl) r k).trans ((hq _ _).trans ?_)
    rw [unit2_emb r k (by omega) (by omega)]
    exact congrArg₂ Q (congrArg _ (Nat.zero_add _).symm) rfl
  · obtain ⟨r, k, rfl⟩ := exists_ix2 (h := 256) (w := 256) x
    rw [row0_word, whole_load]
    refine (pay28_apply _ hn x1 x2 x3 (rowAt_load a4 h4 x3 1 2 rfl) (groupAt_load a3 h3 x2 2 rfl) r k).trans ((hq _ _).trans ?_)
    rw [unit2_emb r k (by omega) (by omega)]
    exact congrArg₂ Q (congrArg _ (Nat.zero_add _).symm) rfl
  · obtain ⟨r, k, rfl⟩ := exists_ix2 (h := 256) (w := 256) x
    rw [row0_word, whole_load]
    refine (pay22_apply _ hn x1 x2 x3 (rowAt_load a4 h4 x3 1 1 rfl) (groupAt_load a3 h3 x2 1 rfl) r k).trans ((hq _ _).trans ?_)
    rw [unit2_emb r k (by omega) (by omega)]
    exact congrArg₂ Q (congrArg _ (Nat.zero_add _).symm) rfl
  · obtain ⟨r, k, rfl⟩ := exists_ix2 (h := 256) (w := 256) x
    rw [row0_word, whole_load]
    refine (pay16_apply _ hn x1 x2 x3 (rowAt_load a4 h4 x3 1 0 rfl) (groupAt_load a3 h3 x2 0 rfl) r k).trans ((hq _ _).trans ?_)
    rw [unit2_emb r k (by omega) (by omega)]
    exact congrArg₂ Q (congrArg _ (Nat.zero_add _).symm) rfl
  · obtain ⟨r, k, rfl⟩ := exists_ix2 (h := 16) (w := 1024) x
    rw [unit2_emb r k (by omega) (by omega)]
    refine Eq.trans ?_ ((hs r k).trans ?_)
    · pointwise [k0_pay4]
    · exact congrArg₂ Q rfl (Fin.ext (Nat.zero_add _).symm)

theorem runA_scratch_cover : ∀ y : S272x1024.Idx, ∃ p ∈ (runA (F := Ideal) c i a1 h1 a2 h2 a3 h3 a4 h4 a5 h5 a6 h6 a7 h7 a8 h8 hc0 hc2 x0 x1 x2 x3).2.2.2.1, y ∈ p.1.set := by
  unfold runA
  dsimp only
  sl_unfold_words
  intro y
  simp only [List.exists_mem_cons_iff, List.not_mem_nil, false_and, exists_false, or_false, Rect.mem_set_unit, Fin.forall_fin_two]
  have h0 : (y 0).val < 272 := (y 0).isLt
  have h1 : (y 1).val < 1024 := (y 1).isLt
  simp
  omega

/-- So the scratch afterwards. -/
theorem runA_scratch_canon (Q : ℕ → Fin 1024 → EReal) (hq : ∀ r c, qB ((63 - (i 0).val) * 256) x1 x2 x3 r c = Q (((63 - (i 0).val) * 256) + r.val) c)
    (hs : ∀ (k : Fin 16) (c : Fin 1024), 0 = Q (((63 - (i 0).val) * 256) + (256 + k.val)) c) (y : S272x1024.Idx) :
    View.canon (runA (F := Ideal) c i a1 h1 a2 h2 a3 h3 a4 h4 a5 h5 a6 h6 a7 h7 a8 h8 hc0 hc2 x0 x1 x2 x3).2.2.2.1 y = Q (((63 - (i 0).val) * 256) + (y 0).val) (y 1) :=
  View.canon_apply_of_pieces (Val := Elt Ideal) (fun y => Q (((63 - (i 0).val) * 256) + (y 0).val) (y 1)) _ (runA_scratch _ _ _ _ _ _ _ _ _ _ _ _ _ _ _ _ _ _ _ _ _ _ _ _ Q hq hs) y
    (runA_scratch_cover _ _ _ _ _ _ _ _ _ _ _ _ _ _ _ _ _ _ _ _ _ _ _ _ y)

/-- The block of the first result. -/
theorem runA_dh (Q : ℕ → Fin 1024 → EReal) (hq : ∀ r c, qB ((63 - (i 0).val) * 256) x1 x2 x3 r c = Q (((63 - (i 0).val) * 256) + r.val) c)
    (hs : ∀ (k : Fin 16) (c : Fin 1024), 0 = Q (((63 - (i 0).val) * 256) + (256 + k.val)) c) :
    ∀ p ∈ (runA (F := Ideal) c i a1 h1 a2 h2 a3 h3 a4 h4 a5 h5 a6 h6 a7 h7 a8 h8 hc0 hc2 x0 x1 x2 x3).1,
      ∀ x : p.1.shape.Idx, p.2 x = dhB ((63 - (i 0).val) * 256) Q x1 x2 x3 (p.1.emb x 0) (p.1.emb x 1) := by
  have hcan := runA_scratch_canon c i a1 h1 a2 h2 a3 h3 a4 h4 a5 h5 a6 h6 a7 h7 a8 h8 hc0 hc2 x0 x1 x2 x3  Q hq hs
  revert hcan
  unfold runA
  dsimp only
  sl_unfold_words
  intro hcan
  simp only [List.forall_mem_cons, List.not_mem_nil, false_imp_iff, implies_true, and_true]
  refine ⟨fun x => ?_, fun x => ?_, fun x => ?_, fun x => ?_⟩
  · obtain ⟨r, k, rfl⟩ := exists_ix2 (h := 256) (w := 256) x
    have e : colAt 3 k = ⟨768 + k.val, by omega⟩ := Fin.ext (by simp [colAt])
    refine Eq.trans (b := dhB ((63 - (i 0).val) * 256) Q x1 x2 x3 r (colAt 3 k)) ?_ ?_
    · unfold dhB
      rw [grp_colAt]
      refine pay1_stage hcan a8.view _ _ r k ?_
      rw [whole_load]
      exact pay34_apply x1 x2 x3 (rowAt_load a4 h4 x3 1 3 rfl) (groupAt_load a3 h3 x2 3 rfl) r k
    · rw [unit2_emb r k (by omega) (by omega)]
      exact congrArg₂ (dhB ((63 - (i 0).val) * 256) Q x1 x2 x3) (Fin.ext (Nat.zero_add _).symm) e
  · obtain ⟨r, k, rfl⟩ := exists_ix2 (h := 256) (w := 256) x
    have e : colAt 2 k = ⟨512 + k.val, by omega⟩ := Fin.ext (by simp [colAt])
    refine Eq.trans (b := dhB ((63 - (i 0).val) * 256) Q x1 x2 x3 r (colAt 2 k)) ?_ ?_
    · unfold dhB
      rw [grp_colAt]
      refine pay41_stage hcan a8.view _ _ r k ?_
      rw [whole_load]
      exact pay27_apply x1 x2 x3 (rowAt_load a4 h4 x3 1 2 rfl) (groupAt_load a3 h3 x2 2 rfl) r k
    · rw [unit2_emb r k (by omega) (by omega)]
      exact congrArg₂ (dhB ((63 - (i 0).val) * 256) Q x1 x2 x3) (Fin.ext (Nat.zero_add _).symm) e
  · obtain ⟨r, k, rfl⟩ := exists_ix2 (h := 256) (w := 256) x
    have e : colAt 1 k = ⟨256 + k.val, by omega⟩ := Fin.ext (by simp [colAt])
    refine Eq.trans (b := dhB ((63 - (i 0).val) * 256) Q x1 x2 x3 r (colAt 1 k)) ?_ ?_
    · unfold dhB
      rw [grp_colAt]
      refine pay39_stage hcan a8.view _ _ r k ?_
      rw [whole_load]
      exact pay21_apply x1 x2 x3 (rowAt_load a4 h4 x3 1 1 rfl) (groupAt_load a3 h3 x2 1 rfl) r k
    · rw [unit2_emb r k (by omega) (by omega)]
      exact congrArg₂ (dhB ((63 - (i 0).val) * 256) Q x1 x2 x3) (Fin.ext (Nat.zero_add _).symm) e
  · obtain ⟨r, k, rfl⟩ := exists_ix2 (h := 256) (w := 256) x
    have e : colAt 0 k = ⟨0 + k.val, by omega⟩ := Fin.ext (by simp [colAt])
    refine Eq.trans (b := dhB ((63 - (i 0).val) * 256) Q x1 x2 x3 r (colAt 0 k)) ?_ ?_
    · unfold dhB
      rw [grp_colAt]
      refine pay38_stage hcan a8.view _ _ r k ?_
      rw [whole_load]
      exact pay14_apply x1 x2 x3 (rowAt_load a4 h4 x3 1 0 rfl) (groupAt_load a3 h3 x2 0 rfl) r k
    · rw [unit2_emb r k (by omega) (by omega)]
      exact congrArg₂ (dhB ((63 - (i 0).val) * 256) Q x1 x2 x3) (Fin.ext (Nat.zero_add _).symm) e

theorem runA_dh_cover : ∀ y : S256x1024.Idx, ∃ p ∈ (runA (F := Ideal) c i a1 h1 a2 h2 a3 h3 a4 h4 a5 h5 a6 h6 a7 h7 a8 h8 hc0 hc2 x0 x1 x2 x3).1, y ∈ p.1.set := by
  unfold runA
  dsimp only
  sl_unfold_words
  intro y
  simp only [List.exists_mem_cons_iff, List.not_mem_nil, false_and, exists_false, or_false, Rect.mem_set_unit, Fin.forall_fin_two]
  have h0 : (y 0).val < 256 := (y 0).isLt
  have h1 : (y 1).val < 1024 := (y 1).isLt
  simp
  omega

theorem runA_dh_read (Q : ℕ → Fin 1024 → EReal) (hq : ∀ r c, qB ((63 - (i 0).val) * 256) x1 x2 x3 r c = Q (((63 - (i 0).val) * 256) + r.val) c)
    (hs : ∀ (k : Fin 16) (c : Fin 1024), 0 = Q (((63 - (i 0).val) * 256) + (256 + k.val)) c) (f) (y : S256x1024.Idx) :
    a5.view.read (Elt Ideal) (a5.view.writes (Elt Ideal) f (runA (F := Ideal) c i a1 h1 a2 h2 a3 h3 a4 h4 a5 h5 a6 h6 a7 h7 a8 h8 hc0 hc2 x0 x1 x2 x3).1) y = dhB ((63 - (i 0).val) * 256) Q x1 x2 x3 (y 0) (y 1) :=
  View.read_writes_apply_of_pieces a5.view f (fun y => dhB ((63 - (i 0).val) * 256) Q x1 x2 x3 (y 0) (y 1)) _ (runA_dh _ _ _ _ _ _ _ _ _ _ _ _ _ _ _ _ _ _ _ _ _ _ _ _ Q hq hs) y (runA_dh_cover _ _ _ _ _ _ _ _ _ _ _ _ _ _ _ _ _ _ _ _ _ _ _ _ y)
end

end Cert.KernelIdeal.Pool

end
-- ==== Proof.Pool.Sums.lean ====
module

public import proofs.«01_k».proof.Proof.Pool.Pieces

/-! What one run of the body leaves in the two accumulated results: what they held, with the block's term added. -/

@[expose] public section

set_option maxRecDepth 16384
set_option maxHeartbeats 1000000

noncomputable section

namespace Cert.KernelIdeal.Pool

open Cert.KernelIdeal.Gen
open Idealize.ShloMosaic

/-- A load at an index outside the last store's rectangle reads the stores before it. -/
theorem canon_skip {s : Shape} {e : EltTy} {off size : Fin s.rank → ℕ} {inb : ∀ a, off a + size a ≤ s.size a} {w : (Rect.unit off size inb).shape.Idx → Elt Ideal e} {L : List (View.Piece (Elt Ideal) s e)} {y : s.Idx} (a : Fin s.rank)
    (h : (y a).val < off a ∨ off a + size a ≤ (y a).val) :
    View.canon ((⟨Rect.unit off size inb, w⟩ : View.Piece (Elt Ideal) s e) :: L) y = View.canon L y :=
  View.canon_cons_of_not_mem _ L fun hm => by
    have := (Rect.mem_set_unit (inb := inb)).mp hm a
    omega

theorem canon_zero2 {w : FVec Ideal S8x1024 .f32} (hw : ∀ y, w y = (0 : EReal)) {inb} (y : S8x1024.Idx) :
    View.canon [(⟨Rect.unit ![0, 0] S8x1024.size inb, w⟩ : View.Piece (Elt Ideal) S8x1024 .f32)] y = (0 : EReal) := by
  rw [View.canon_cons_unit_lit']
  · exact hw y
  · intro a; match a with | 0 => rfl | 1 => rfl

theorem canon_zero3 {w : FVec Ideal S4x256x256 .f32} (hw : ∀ y, w y = (0 : EReal)) {inb} (y : S4x256x256.Idx) :
    View.canon [(⟨Rect.unit ![0, 0, 0] S4x256x256.size inb, w⟩ : View.Piece (Elt Ideal) S4x256x256 .f32)] y = (0 : EReal) := by
  rw [View.canon_cons_unit_lit']
  · exact hw y
  · intro a; match a with | 0 => rfl | 1 => rfl | 2 => rfl

theorem pay2_zero (y : S8x1024.Idx) : k0_pay2 (F := Ideal) y = (0 : EReal) := by
  obtain ⟨a, b, rfl⟩ := exists_ix2 (h := 8) (w := 1024) y
  pointwise [k0_pay2]

theorem pay3_zero (y : S4x256x256.Idx) : k0_pay3 (F := Ideal) y = (0 : EReal) := by
  obtain ⟨a, b, c, rfl⟩ := exists_ix3 (d := 4) (h := 256) (w := 256) y
  pointwise [k0_pay3]

section
variable (x0 x1 : FVec Ideal S256x1024 .bf16) (x2 : FVec Ideal S4x256x256 .bf16) (x3 : FVec Ideal S8x1024 .f32)
theorem accB_row0 (c : Fin 1024) : accB x0 x1 x2 x3 0 c = dbB x1 x3 c := if_pos rfl
theorem accB_row1 (c : Fin 1024) : accB x0 x1 x2 x3 1 c = dsB x0 x1 x2 x3 c := (if_neg (by decide)).trans (if_pos rfl)
theorem accB_rest (r : Fin 8) (c : Fin 1024) (h : ¬r.val < 2) : accB x0 x1 x2 x3 r c = 0 :=
  (if_neg fun e => h (by rw [e]; decide)).trans (if_neg fun e => h (by rw [e]; decide))
end

section
variable (c : Dev nD) (i : grid0.Coords) (a1 : Memref sig .tc .vmem S256x1024 .bf16) (h1 : a1.IsWhole) (a2 : Memref sig .tc .vmem S256x1024 .bf16) (h2 : a2.IsWhole)
    (a3 : Memref sig .tc .vmem S4x256x256 .bf16) (h3 : a3.IsWhole) (a4 : Memref sig .tc .vmem S8x1024 .f32) (h4 : a4.IsWhole)
    (a5 : Memref sig .tc .vmem S256x1024 .f32) (h5 : a5.IsWhole) (a6 : Memref sig .tc .vmem S4x256x256 .f32) (h6 : a6.IsWhole)
    (a7 : Memref sig .tc .vmem S8x1024 .f32) (h7 : a7.IsWhole) (a8 : Memref sig .tc .vmem S272x1024 .f32) (h8 : a8.IsWhole)
    (hc0 : ¬atStart i) (hc2 : pastStart i)
    (x0 : FVec Ideal S256x1024 .bf16) (x1 : FVec Ideal S256x1024 .bf16) (x2 : FVec Ideal S4x256x256 .bf16) (x3 : FVec Ideal S8x1024 .f32)
    (x5 : FVec Ideal S4x256x256 .f32) (x6 : FVec Ideal S8x1024 .f32) (xs : FVec Ideal S272x1024 .f32)

/-- The gradient of the weights, piece by piece. -/
theorem runB_dw : ∀ p ∈ (runB (F := Ideal) c i a1 h1 a2 h2 a3 h3 a4 h4 a5 h5 a6 h6 a7 h7 a8 h8 hc0 hc2 x0 x1 x2 x3 x5 x6 xs).2.1, ∀ x : p.1.shape.Idx, p.2 x = x5 (p.1.emb x) + dwB x0 x1 x3 (p.1.emb x 0) (p.1.emb x 1) (p.1.emb x 2) := by
  unfold runB
  dsimp only
  sl_unfold_words
  simp only [List.forall_mem_cons, List.not_mem_nil, false_imp_iff, implies_true, and_true]
  refine ⟨fun x => ?_, fun x => ?_, fun x => ?_, fun x => ?_⟩
  · obtain ⟨z, k, j, rfl⟩ := exists_ix3 (d := 1) (h := 256) (w := 256) x
    obtain rfl : z = 0 := Subsingleton.elim _ _
    have e := unit3_emb (P := 4) (R := 256) (C := 256) (o0 := 3) (o1 := 0) (o2 := 0) (inb := inb_S4x256x256_S1x256x256_3_0_0) (0 : Fin 1) k j (by simp) (by omega) (by omega)
    simp only [Nat.zero_add] at e
    rw [whole_load]
    refine (pay33_apply x0 x1 x3 (colsAt_load a1 h1 x0 3 rfl) (rowAt_load a4 h4 x3 1 3 rfl) _ k j).trans ?_
    refine congrArg₂ (· + ·) ?_ ?_
    · rw [View.readAt_eq_ld, h6.read_unread]
      rfl
    · rw [e]
      exact congrArg₂ (dwB x0 x1 x3 _) rfl rfl
  · obtain ⟨z, k, j, rfl⟩ := exists_ix3 (d := 1) (h := 256) (w := 256) x
    obtain rfl : z = 0 := Subsingleton.elim _ _
    have e := unit3_emb (P := 4) (R := 256) (C := 256) (o0 := 2) (o1 := 0) (o2 := 0) (inb := inb_S4x256x256_S1x256x256_2_0_0) (0 : Fin 1) k j (by simp) (by omega) (by omega)
    simp only [Nat.zero_add] at e
    rw [whole_load]
    refine (pay26_apply x0 x1 x3 (colsAt_load a1 h1 x0 2 rfl) (rowAt_load a4 h4 x3 1 2 rfl) _ k j).trans ?_
    refine congrArg₂ (· + ·) ?_ ?_
    · rw [View.readAt_eq_ld, h6.read_unread]
      rfl
    · rw [e]
      exact congrArg₂ (dwB x0 x1 x3 _) rfl rfl
  · obtain ⟨z, k, j, rfl⟩ := exists_ix3 (d := 1) (h := 256) (w := 256) x
    obtain rfl : z = 0 := Subsingleton.elim _ _
    have e := unit3_emb (P := 4) (R := 256) (C := 256) (o0 := 1) (o1 := 0) (o2 := 0) (inb := inb_S4x256x256_S1x256x256_1_0_0) (0 : Fin 1) k j (by simp) (by omega) (by omega)
    simp only [Nat.zero_add] at e
    rw [whole_load]
    refine (pay20_apply x0 x1 x3 (colsAt_load a1 h1 x0 1 rfl) (rowAt_load a4 h4 x3 1 1 rfl) _ k j).trans ?_
    refine congrArg₂ (· + ·) ?_ ?_
    · rw [View.readAt_eq_ld, h6.read_unread]
      rfl
    · rw [e]
      exact congrArg₂ (dwB x0 x1 x3 _) rfl rfl
  · obtain ⟨z, k, j, rfl⟩ := exists_ix3 (d := 1) (h := 256) (w := 256) x
    obtain rfl : z = 0 := Subsingleton.elim _ _
    have e := unit3_emb (P := 4) (R := 256) (C := 256) (o0 := 0) (o1 := 0) (o2 := 0) (inb := inb_S4x256x256_S1x256x256_0_0_0) (0 : Fin 1) k j (by simp) (by omega) (by omega)
    simp only [Nat.zero_add] at e
    rw [whole_load]
    refine (pay13_apply x0 x1 x3 (colsAt_load a1 h1 x0 0 rfl) (rowAt_load a4 h4 x3 1 0 rfl) _ k j).trans ?_
    refine congrArg₂ (· + ·) ?_ ?_
    · rw [View.readAt_eq_ld, h6.read_unread]
      rfl
    · rw [e]
      exact congrArg₂ (dwB x0 x1 x3 _) rfl rfl

theorem runB_dw_cover : ∀ y : S4x256x256.Idx, ∃ p ∈ (runB (F := Ideal) c i a1 h1 a2 h2 a3 h3 a4 h4 a5 h5 a6 h6 a7 h7 a8 h8 hc0 hc2 x0 x1 x2 x3 x5 x6 xs).2.1, y ∈ p.1.set := by
  unfold runB
  dsimp only
  sl_unfold_words
  intro y
  simp only [List.exists_mem_cons_iff, List.not_mem_nil, false_and, exists_false, or_false, Rect.mem_set_unit, Fin.forall_fin_succ]
  have h0 : (y 0).val < 4 := (y 0).isLt
  have h1 : (y 1).val < 256 := (y 1).isLt
  have h2 : (y 2).val < 256 := (y 2).isLt
  simp
  omega

theorem runB_dw_read (y : S4x256x256.Idx) :
    a6.view.read (Elt Ideal) (a6.view.writes (Elt Ideal) (h6.unread x5) (runB (F := Ideal) c i a1 h1 a2 h2 a3 h3 a4 h4 a5 h5 a6 h6 a7 h7 a8 h8 hc0 hc2 x0 x1 x2 x3 x5 x6 xs).2.1) y = x5 y + dwB x0 x1 x3 (y 0) (y 1) (y 2) := by
  have hG := runB_dw c i a1 h1 a2 h2 a3 h3 a4 h4 a5 h5 a6 h6 a7 h7 a8 h8 hc0 hc2 x0 x1 x2 x3 x5 x6 xs
  have hc := runB_dw_cover c i a1 h1 a2 h2 a3 h3 a4 h4 a5 h5 a6 h6 a7 h7 a8 h8 hc0 hc2 x0 x1 x2 x3 x5 x6 xs y
  revert hG hc
  generalize (runB (F := Ideal) c i a1 h1 a2 h2 a3 h3 a4 h4 a5 h5 a6 h6 a7 h7 a8 h8 hc0 hc2 x0 x1 x2 x3 x5 x6 xs).2.1 = L
  generalize h6.unread (Val := Elt Ideal) x5 = f
  intro hG hc
  exact View.read_writes_apply_of_pieces a6.view f (fun y => x5 y + dwB x0 x1 x3 (y 0) (y 1) (y 2)) L hG y hc

/-- The two accumulated rows, piece by piece. -/
theorem runB_acc : ∀ p ∈ (runB (F := Ideal) c i a1 h1 a2 h2 a3 h3 a4 h4 a5 h5 a6 h6 a7 h7 a8 h8 hc0 hc2 x0 x1 x2 x3 x5 x6 xs).2.2.1, ∀ x : p.1.shape.Idx, p.2 x = x6 (p.1.emb x) + accB x0 x1 x2 x3 (p.1.emb x 0) (p.1.emb x 1) := by
  unfold runB
  dsimp only
  sl_unfold_words
  simp only [List.forall_mem_cons, List.not_mem_nil, false_imp_iff, implies_true, and_true]
  refine ⟨fun x => ?_, fun x => ?_, fun x => ?_, fun x => ?_, fun x => ?_⟩
  · obtain ⟨z, j, rfl⟩ := exists_ix2 (h := 1) (w := 256) x
    obtain rfl : z = 0 := Subsingleton.elim _ _
    have e := unit2_emb (R := 8) (C := 1024) (o0 := 1) (o1 := 768) (inb := inb_S8x1024_S1x256_1_768) (0 : Fin 1) j (by simp) (by omega)
    rw [whole_load]
    refine (pay31_apply x0 x1 x2 x3 (colsAt_load a1 h1 x0 3 rfl) (groupAt_load a3 h3 x2 3 rfl) (rowAt_load a4 h4 x3 0 3 rfl) _ j).trans ?_
    refine congrArg₂ (· + ·) ?_ ?_
    · rw [View.readAt_eq_ld, h7.read_unread]
      rfl
    · rw [e]
      exact (accB_row1 x0 x1 x2 x3 (colAt 3 j)).symm.trans (congrArg₂ (accB x0 x1 x2 x3) rfl (Fin.ext (by simp [colAt])))
  · obtain ⟨z, j, rfl⟩ := exists_ix2 (h := 1) (w := 256) x
    obtain rfl : z = 0 := Subsingleton.elim _ _
    have e := unit2_emb (R := 8) (C := 1024) (o0 := 1) (o1 := 512) (inb := inb_S8x1024_S1x256_1_512) (0 : Fin 1) j (by simp) (by omega)
    rw [whole_load]
    refine (pay24_apply x0 x1 x2 x3 (colsAt_load a1 h1 x0 2 rfl) (groupAt_load a3 h3 x2 2 rfl) (rowAt_load a4 h4 x3 0 2 rfl) _ j).trans ?_
    refine congrArg₂ (· + ·) ?_ ?_
    · rw [View.readAt_eq_ld, h7.read_unread]
      rfl
    · rw [e]
      exact (accB_row1 x0 x1 x2 x3 (colAt 2 j)).symm.trans (congrArg₂ (accB x0 x1 x2 x3) rfl (Fin.ext (by simp [colAt])))
  · obtain ⟨z, j, rfl⟩ := exists_ix2 (h := 1) (w := 256) x
    obtain rfl : z = 0 := Subsingleton.elim _ _
    have e := unit2_emb (R := 8) (C := 1024) (o0 := 1) (o1 := 256) (inb := inb_S8x1024_S1x256_1_256) (0 : Fin 1) j (by simp) (by omega)
    rw [whole_load]
    refine (pay18_apply x0 x1 x2 x3 (colsAt_load a1 h1 x0 1 rfl) (groupAt_load a3 h3 x2 1 rfl) (rowAt_load a4 h4 x3 0 1 rfl) _ j).trans ?_
    refine congrArg₂ (· + ·) ?_ ?_
    · rw [View.readAt_eq_ld, h7.read_unread]
      rfl
    · rw [e]
      exact (accB_row1 x0 x1 x2 x3 (colAt 1 j)).symm.trans (congrArg₂ (accB x0 x1 x2 x3) rfl (Fin.ext (by simp [colAt])))
  · obtain ⟨z, j, rfl⟩ := exists_ix2 (h := 1) (w := 256) x
    obtain rfl : z = 0 := Subsingleton.elim _ _
    have e := unit2_emb (R := 8) (C := 1024) (o0 := 1) (o1 := 0) (inb := inb_S8x1024_S1x256_1_0) (0 : Fin 1) j (by simp) (by omega)
    rw [whole_load]
    refine (pay11_apply x0 x1 x2 x3 (colsAt_load a1 h1 x0 0 rfl) (groupAt_load a3 h3 x2 0 rfl) (rowAt_load a4 h4 x3 0 0 rfl) _ j).trans ?_
    refine congrArg₂ (· + ·) ?_ ?_
    · rw [View.readAt_eq_ld, h7.read_unread]
      rfl
    · rw [e]
      exact (accB_row1 x0 x1 x2 x3 (colAt 0 j)).symm.trans (congrArg₂ (accB x0 x1 x2 x3) rfl (Fin.ext (by simp [colAt])))
  · obtain ⟨z, j, rfl⟩ := exists_ix2 (h := 1) (w := 1024) x
    obtain rfl : z = 0 := Subsingleton.elim _ _
    have e := unit2_emb (R := 8) (C := 1024) (o0 := 0) (o1 := 0) (inb := inb_S8x1024_S1x1024_0_0) (0 : Fin 1) j (by simp) (by omega)
    rw [whole_load]
    refine (pay7_apply x1 x3 _ (fun c => by rw [View.readAt_eq_ld, h4.read_unread]; exact congrArg x3 ((unit2_emb (R := 8) (C := 1024) (o0 := 1) (o1 := 0) (0 : Fin 1) c (by simp) (by omega)).trans (congrArg₂ ix2 rfl (Fin.ext (Nat.zero_add _))))) j).trans ?_
    refine congrArg₂ (· + ·) ?_ ?_
    · rw [View.readAt_eq_ld, h7.read_unread]
      rfl
    · rw [e]
      exact (accB_row0 x0 x1 x2 x3 (j)).symm.trans (congrArg₂ (accB x0 x1 x2 x3) rfl (Fin.ext (by simp [colAt])))

theorem runB_acc_cover : ∀ y : S8x1024.Idx, (y 0).val < 2 → ∃ p ∈ (runB (F := Ideal) c i a1 h1 a2 h2 a3 h3 a4 h4 a5 h5 a6 h6 a7 h7 a8 h8 hc0 hc2 x0 x1 x2 x3 x5 x6 xs).2.2.1, y ∈ p.1.set := by
  unfold runB
  dsimp only
  sl_unfold_words
  intro y hy
  simp only [List.exists_mem_cons_iff, List.not_mem_nil, false_and, exists_false, or_false, Rect.mem_set_unit, Fin.forall_fin_two]
  have h0 : (y 0).val < 8 := (y 0).isLt
  have h1 : (y 1).val < 1024 := (y 1).isLt
  simp
  omega

theorem runB_acc_miss : ∀ y : S8x1024.Idx, ¬(y 0).val < 2 → ∀ p ∈ (runB (F := Ideal) c i a1 h1 a2 h2 a3 h3 a4 h4 a5 h5 a6 h6 a7 h7 a8 h8 hc0 hc2 x0 x1 x2 x3 x5 x6 xs).2.2.1, y ∉ p.1.set := by
  unfold runB
  dsimp only
  sl_unfold_words
  intro y hy
  simp only [List.forall_mem_cons, List.not_mem_nil, false_imp_iff, implies_true, and_true, Rect.mem_set_unit, Fin.forall_fin_two]
  simp
  omega

theorem runB_acc_read (y : S8x1024.Idx) :
    a7.view.read (Elt Ideal) (a7.view.writes (Elt Ideal) (h7.unread x6) (runB (F := Ideal) c i a1 h1 a2 h2 a3 h3 a4 h4 a5 h5 a6 h6 a7 h7 a8 h8 hc0 hc2 x0 x1 x2 x3 x5 x6 xs).2.2.1) y = x6 y + accB x0 x1 x2 x3 (y 0) (y 1) := by
  have hG := runB_acc c i a1 h1 a2 h2 a3 h3 a4 h4 a5 h5 a6 h6 a7 h7 a8 h8 hc0 hc2 x0 x1 x2 x3 x5 x6 xs
  have hc := runB_acc_cover c i a1 h1 a2 h2 a3 h3 a4 h4 a5 h5 a6 h6 a7 h7 a8 h8 hc0 hc2 x0 x1 x2 x3 x5 x6 xs y
  have hm := runB_acc_miss c i a1 h1 a2 h2 a3 h3 a4 h4 a5 h5 a6 h6 a7 h7 a8 h8 hc0 hc2 x0 x1 x2 x3 x5 x6 xs y
  have hu : a7.view.read (Elt Ideal) (h7.unread (Val := Elt Ideal) x6) = x6 := h7.read_unread (Val := Elt Ideal) x6
  revert hG hc hm hu
  generalize (runB (F := Ideal) c i a1 h1 a2 h2 a3 h3 a4 h4 a5 h5 a6 h6 a7 h7 a8 h8 hc0 hc2 x0 x1 x2 x3 x5 x6 xs).2.2.1 = L
  generalize h7.unread (Val := Elt Ideal) x6 = f
  intro hG hc hm hu
  by_cases hy : (y 0).val < 2
  · exact View.read_writes_apply_of_pieces a7.view f (fun y => x6 y + accB x0 x1 x2 x3 (y 0) (y 1)) L hG y (hc hy)
  · rw [View.read_writes_apply_of_forall_not_mem a7.view f y L (hm hy), hu]
    exact ((congrArg (x6 y + ·) (accB_rest x0 x1 x2 x3 (y 0) (y 1) hy)).trans (add_zero _)).symm

end
section
variable (c : Dev nD) (i : grid0.Coords) (a1 : Memref sig .tc .vmem S256x1024 .bf16) (h1 : a1.IsWhole) (a2 : Memref sig .tc .vmem S256x1024 .bf16) (h2 : a2.IsWhole)
    (a3 : Memref sig .tc .vmem S4x256x256 .bf16) (h3 : a3.IsWhole) (a4 : Memref sig .tc .vmem S8x1024 .f32) (h4 : a4.IsWhole)
    (a5 : Memref sig .tc .vmem S256x1024 .f32) (h5 : a5.IsWhole) (a6 : Memref sig .tc .vmem S4x256x256 .f32) (h6 : a6.IsWhole)
    (a7 : Memref sig .tc .vmem S8x1024 .f32) (h7 : a7.IsWhole) (a8 : Memref sig .tc .vmem S272x1024 .f32) (h8 : a8.IsWhole)
    (hc0 : atStart i) (hc2 : ¬pastStart i)
    (x0 : FVec Ideal S256x1024 .bf16) (x1 : FVec Ideal S256x1024 .bf16) (x2 : FVec Ideal S4x256x256 .bf16) (x3 : FVec Ideal S8x1024 .f32)

/-- The gradient of the weights: the block's term over the zeros stored first. -/
theorem runA_dw : ∃ P : List (View.Piece (Elt Ideal) S4x256x256 .f32), (runA (F := Ideal) c i a1 h1 a2 h2 a3 h3 a4 h4 a5 h5 a6 h6 a7 h7 a8 h8 hc0 hc2 x0 x1 x2 x3).2.1 = P ++ [⟨Rect.unit ![0, 0, 0] S4x256x256.size inb_S4x256x256_S4x256x256_0_0_0, k0_pay3 (F := Ideal)⟩] ∧
    (∀ p ∈ P, ∀ x : p.1.shape.Idx, p.2 x = dwB x0 x1 x3 (p.1.emb x 0) (p.1.emb x 1) (p.1.emb x 2)) ∧ (∀ y : S4x256x256.Idx, ∃ p ∈ P, y ∈ p.1.set) := by
  unfold runA
  dsimp only
  sl_unfold_words
  refine ⟨[_, _, _, _], rfl, ?_, ?_⟩
  · simp only [List.forall_mem_cons, List.not_mem_nil, false_imp_iff, implies_true, and_true]
    refine ⟨fun x => ?_, fun x => ?_, fun x => ?_, fun x => ?_⟩
    · obtain ⟨z, k, j, rfl⟩ := exists_ix3 (d := 1) (h := 256) (w := 256) x
      obtain rfl : z = 0 := Subsingleton.elim _ _
      have e := unit3_emb (P := 4) (R := 256) (C := 256) (o0 := 3) (o1 := 0) (o2 := 0) (inb := inb_S4x256x256_S1x256x256_3_0_0) (0 : Fin 1) k j (by simp) (by omega) (by omega)
      simp only [Nat.zero_add] at e
      rw [whole_load]
      refine (pay33_apply x0 x1 x3 (colsAt_load a1 h1 x0 3 rfl) (rowAt_load a4 h4 x3 1 3 rfl) _ k j).trans ?_
      rw [e]
      refine Eq.trans (congrArg₂ (· + ·) ?_ (congrArg₂ (dwB x0 x1 x3 _) rfl rfl)) (zero_add _)
      rw [View.readCov_eq_canon']
      dsimp only
      rw [unit3_idx 0 k j (by simp) (by omega) (by omega)]
      rw [canon_skip 0 (by right; exact Nat.le_of_ble_eq_true rfl)]
      rw [canon_skip 0 (by right; exact Nat.le_of_ble_eq_true rfl)]
      rw [canon_skip 0 (by right; exact Nat.le_of_ble_eq_true rfl)]
      exact canon_zero3 pay3_zero _
    · obtain ⟨z, k, j, rfl⟩ := exists_ix3 (d := 1) (h := 256) (w := 256) x
      obtain rfl : z = 0 := Subsingleton.elim _ _
      have e := unit3_emb (P := 4) (R := 256) (C := 256) (o0 := 2) (o1 := 0) (o2 := 0) (inb := inb_S4x256x256_S1x256x256_2_0_0) (0 : Fin 1) k j (by simp) (by omega) (by omega)
      simp only [Nat.zero_add] at e
      rw [whole_load]
      refine (pay26_apply x0 x1 x3 (colsAt_load a1 h1 x0 2 rfl) (rowAt_load a4 h4 x3 1 2 rfl) _ k j).trans ?_
      rw [e]
      refine Eq.trans (congrArg₂ (· + ·) ?_ (congrArg₂ (dwB x0 x1 x3 _) rfl rfl)) (zero_add _)
      rw [View.readCov_eq_canon']
      dsimp only
      rw [unit3_idx 0 k j (by simp) (by omega) (by omega)]
      rw [canon_skip 0 (by right; exact Nat.le_of_ble_eq_true rfl)]
      rw [canon_skip 0 (by right; exact Nat.le_of_ble_eq_true rfl)]
      exact canon_zero3 pay3_zero _
    · obtain ⟨z, k, j, rfl⟩ := exists_ix3 (d := 1) (h := 256) (w := 256) x
      obtain rfl : z = 0 := Subsingleton.elim _ _
      have e := unit3_emb (P := 4) (R := 256) (C := 256) (o0 := 1) (o1 := 0) (o2 := 0) (inb := inb_S4x256x256_S1x256x256_1_0_0) (0 : Fin 1) k j (by simp) (by omega) (by omega)
      simp only [Nat.zero_add] at e
      rw [whole_load]
      refine (pay20_apply x0 x1 x3 (colsAt_load a1 h1 x0 1 rfl) (rowAt_load a4 h4 x3 1 1 rfl) _ k j).trans ?_
      rw [e]
      refine Eq.trans (congrArg₂ (· + ·) ?_ (congrArg₂ (dwB x0 x1 x3 _) rfl rfl)) (zero_add _)
      rw [View.readCov_eq_canon']
      dsimp only
      rw [unit3_idx 0 k j (by simp) (by omega) (by omega)]
      rw [canon_skip 0 (by right; exact Nat.le_of_ble_eq_true rfl)]
      exact canon_zero3 pay3_zero _
    · obtain ⟨z, k, j, rfl⟩ := exists_ix3 (d := 1) (h := 256) (w := 256) x
      obtain rfl : z = 0 := Subsingleton.elim _ _
      have e := unit3_emb (P := 4) (R := 256) (C := 256) (o0 := 0) (o1 := 0) (o2 := 0) (inb := inb_S4x256x256_S1x256x256_0_0_0) (0 : Fin 1) k j (by simp) (by omega) (by omega)
      simp only [Nat.zero_add] at e
      rw [whole_load]
      refine (pay13_apply x0 x1 x3 (colsAt_load a1 h1 x0 0 rfl) (rowAt_load a4 h4 x3 1 0 rfl) _ k j).trans ?_
      rw [e]
      refine Eq.trans (congrArg₂ (· + ·) ?_ (congrArg₂ (dwB x0 x1 x3 _) rfl rfl)) (zero_add _)
      rw [View.readCov_eq_canon']
      dsimp only
      rw [unit3_idx 0 k j (by simp) (by omega) (by omega)]
      exact canon_zero3 pay3_zero _

  · intro y
    simp only [List.exists_mem_cons_iff, List.not_mem_nil, false_and, exists_false, or_false, Rect.mem_set_unit, Fin.forall_fin_succ]
    have h0 : (y 0).val < 4 := (y 0).isLt
    have h1 : (y 1).val < 256 := (y 1).isLt
    have h2 : (y 2).val < 256 := (y 2).isLt
    simp
    omega

theorem runA_dw_read (f) (y : S4x256x256.Idx) :
    a6.view.read (Elt Ideal) (a6.view.writes (Elt Ideal) f (runA (F := Ideal) c i a1 h1 a2 h2 a3 h3 a4 h4 a5 h5 a6 h6 a7 h7 a8 h8 hc0 hc2 x0 x1 x2 x3).2.1) y = dwB x0 x1 x3 (y 0) (y 1) (y 2) := by
  obtain ⟨P, hP, hG, hc⟩ := runA_dw c i a1 h1 a2 h2 a3 h3 a4 h4 a5 h5 a6 h6 a7 h7 a8 h8 hc0 hc2 x0 x1 x2 x3
  rw [hP, View.writes_append]
  exact View.read_writes_apply_of_pieces a6.view _ (fun y => dwB x0 x1 x3 (y 0) (y 1) (y 2)) P hG y (hc y)

/-- The two accumulated rows: the block's terms over the zeros stored first. -/
theorem runA_acc : ∃ P : List (View.Piece (Elt Ideal) S8x1024 .f32), (runA (F := Ideal) c i a1 h1 a2 h2 a3 h3 a4 h4 a5 h5 a6 h6 a7 h7 a8 h8 hc0 hc2 x0 x1 x2 x3).2.2.1 = P ++ [⟨Rect.unit ![0, 0] S8x1024.size inb_S8x1024_S8x1024_0_0, k0_pay2 (F := Ideal)⟩] ∧
    (∀ p ∈ P, ∀ x : p.1.shape.Idx, p.2 x = accB x0 x1 x2 x3 (p.1.emb x 0) (p.1.emb x 1)) ∧ (∀ y : S8x1024.Idx, (y 0).val < 2 → ∃ p ∈ P, y ∈ p.1.set) ∧ (∀ y : S8x1024.Idx, ¬(y 0).val < 2 → ∀ p ∈ P, y ∉ p.1.set) := by
  unfold runA
  dsimp only
  sl_unfold_words
  refine ⟨[_, _, _, _, _], rfl, ?_, ?_, ?_⟩
  · simp only [List.forall_mem_cons, List.not_mem_nil, false_imp_iff, implies_true, and_true]
    refine ⟨fun x => ?_, fun x => ?_, fun x => ?_, fun x => ?_, fun x => ?_⟩
    · obtain ⟨z, j, rfl⟩ := exists_ix2 (h := 1) (w := 256) x
      obtain rfl : z = 0 := Subsingleton.elim _ _
      have e := unit2_emb (R := 8) (C := 1024) (o0 := 1) (o1 := 768) (inb := inb_S8x1024_S1x256_1_768) (0 : Fin 1) j (by simp) (by omega)
      rw [whole_load]
      refine (pay31_apply x0 x1 x2 x3 (colsAt_load a1 h1 x0 3 rfl) (groupAt_load a3 h3 x2 3 rfl) (rowAt_load a4 h4 x3 0 3 rfl) _ j).trans ?_
      rw [e]
      refine Eq.trans (congrArg₂ (· + ·) ?_ ((accB_row1 x0 x1 x2 x3 (colAt 3 j)).symm.trans (congrArg₂ (accB x0 x1 x2 x3) rfl (Fin.ext (by simp [colAt]))))) (zero_add _)
      rw [View.readCov_eq_canon']
      dsimp only
      rw [unit2_idx 0 j (by simp) (by omega)]
      rw [canon_skip 1 (by right; show 512 + 256 ≤ 768 + j.val; omega)]
      rw [canon_skip 1 (by right; show 256 + 256 ≤ 768 + j.val; omega)]
      rw [canon_skip 1 (by right; show 0 + 256 ≤ 768 + j.val; omega)]
      rw [canon_skip 0 (by right; exact Nat.le_of_ble_eq_true rfl)]
      exact canon_zero2 pay2_zero _
    · obtain ⟨z, j, rfl⟩ := exists_ix2 (h := 1) (w := 256) x
      obtain rfl : z = 0 := Subsingleton.elim _ _
      have e := unit2_emb (R := 8) (C := 1024) (o0 := 1) (o1 := 512) (inb := inb_S8x1024_S1x256_1_512) (0 : Fin 1) j (by simp) (by omega)
      rw [whole_load]
      refine (pay24_apply x0 x1 x2 x3 (colsAt_load a1 h1 x0 2 rfl) (groupAt_load a3 h3 x2 2 rfl) (rowAt_load a4 h4 x3 0 2 rfl) _ j).trans ?_
      rw [e]
      refine Eq.trans (congrArg₂ (· + ·) ?_ ((accB_row1 x0 x1 x2 x3 (colAt 2 j)).symm.trans (congrArg₂ (accB x0 x1 x2 x3) rfl (Fin.ext (by simp [colAt]))))) (zero_add _)
      rw [View.readCov_eq_canon']
      dsimp only
      rw [unit2_idx 0 j (by simp) (by omega)]
      rw [canon_skip 1 (by right; show 256 + 256 ≤ 512 + j.val; omega)]
      rw [canon_skip 1 (by right; show 0 + 256 ≤ 512 + j.val; omega)]
      rw [canon_skip 0 (by right; exact Nat.le_of_ble_eq_true rfl)]
      exact canon_zero2 pay2_zero _
    · obtain ⟨z, j, rfl⟩ := exists_ix2 (h := 1) (w := 256) x
      obtain rfl : z = 0 := Subsingleton.elim _ _
      have e := unit2_emb (R := 8) (C := 1024) (o0 := 1) (o1 := 256) (inb := inb_S8x1024_S1x256_1_256) (0 : Fin 1) j (by simp) (by omega)
      rw [whole_load]
      refine (pay18_apply x0 x1 x2 x3 (colsAt_load a1 h1 x0 1 rfl) (groupAt_load a3 h3 x2 1 rfl) (rowAt_load a4 h4 x3 0 1 rfl) _ j).trans ?_
      rw [e]
      refine Eq.trans (congrArg₂ (· + ·) ?_ ((accB_row1 x0 x1 x2 x3 (colAt 1 j)).symm.trans (congrArg₂ (accB x0 x1 x2 x3) rfl (Fin.ext (by simp [colAt]))))) (zero_add _)
      rw [View.readCov_eq_canon']
      dsimp only
      rw [unit2_idx 0 j (by simp) (by omega)]
      rw [canon_skip 1 (by right; show 0 + 256 ≤ 256 + j.val; omega)]
      rw [canon_skip 0 (by right; exact Nat.le_of_ble_eq_true rfl)]
      exact canon_zero2 pay2_zero _
    · obtain ⟨z, j, rfl⟩ := exists_ix2 (h := 1) (w := 256) x
      obtain rfl : z = 0 := Subsingleton.elim _ _
      have e := unit2_emb (R := 8) (C := 1024) (o0 := 1) (o1 := 0) (inb := inb_S8x1024_S1x256_1_0) (0 : Fin 1) j (by simp) (by omega)
      rw [whole_load]
      refine (pay11_apply x0 x1 x2 x3 (colsAt_load a1 h1 x0 0 rfl) (groupAt_load a3 h3 x2 0 rfl) (rowAt_load a4 h4 x3 0 0 rfl) _ j).trans ?_
      rw [e]
      refine Eq.trans (congrArg₂ (· + ·) ?_ ((accB_row1 x0 x1 x2 x3 (colAt 0 j)).symm.trans (congrArg₂ (accB x0 x1 x2 x3) rfl (Fin.ext (by simp [colAt]))))) (zero_add _)
      rw [View.readCov_eq_canon']
      dsimp only
      rw [unit2_idx 0 j (by simp) (by omega)]
      rw [canon_skip 0 (by right; exact Nat.le_of_ble_eq_true rfl)]
      exact canon_zero2 pay2_zero _
    · obtain ⟨z, j, rfl⟩ := exists_ix2 (h := 1) (w := 1024) x
      obtain rfl : z = 0 := Subsingleton.elim _ _
      have e := unit2_emb (R := 8) (C := 1024) (o0 := 0) (o1 := 0) (inb := inb_S8x1024_S1x1024_0_0) (0 : Fin 1) j (by simp) (by omega)
      rw [whole_load]
      refine (pay7_apply x1 x3 _ (fun c => by rw [View.readAt_eq_ld, h4.read_unread]; exact congrArg x3 ((unit2_emb (R := 8) (C := 1024) (o0 := 1) (o1 := 0) (0 : Fin 1) c (by simp) (by omega)).trans (congrArg₂ ix2 rfl (Fin.ext (Nat.zero_add _))))) j).trans ?_
      rw [e]
      refine Eq.trans (congrArg₂ (· + ·) ?_ ((accB_row0 x0 x1 x2 x3 (j)).symm.trans (congrArg₂ (accB x0 x1 x2 x3) rfl (Fin.ext (by simp [colAt]))))) (zero_add _)
      rw [View.readCov_eq_canon']
      dsimp only
      rw [unit2_idx 0 j (by simp) (by omega)]
      exact canon_zero2 pay2_zero _

  · intro y hy
    simp only [List.exists_mem_cons_iff, List.not_mem_nil, false_and, exists_false, or_false, Rect.mem_set_unit, Fin.forall_fin_two]
    have h0 : (y 0).val < 8 := (y 0).isLt
    have h1 : (y 1).val < 1024 := (y 1).isLt
    simp
    omega

  · intro y hy
    simp only [List.forall_mem_cons, List.not_mem_nil, false_imp_iff, implies_true, and_true, Rect.mem_set_unit, Fin.forall_fin_two]
    simp
    omega

theorem runA_acc_read (f) (y : S8x1024.Idx) :
    a7.view.read (Elt Ideal) (a7.view.writes (Elt Ideal) f (runA (F := Ideal) c i a1 h1 a2 h2 a3 h3 a4 h4 a5 h5 a6 h6 a7 h7 a8 h8 hc0 hc2 x0 x1 x2 x3).2.2.1) y = accB x0 x1 x2 x3 (y 0) (y 1) := by
  obtain ⟨P, hP, hG, hc, hm⟩ := runA_acc c i a1 h1 a2 h2 a3 h3 a4 h4 a5 h5 a6 h6 a7 h7 a8 h8 hc0 hc2 x0 x1 x2 x3
  rw [hP, View.writes_append]
  by_cases hy : (y 0).val < 2
  · exact View.read_writes_apply_of_pieces a7.view _ (fun y => accB x0 x1 x2 x3 (y 0) (y 1)) P hG y (hc y hy)
  · rw [View.read_writes_apply_of_forall_not_mem a7.view _ y _ (hm y hy)]
    refine Eq.trans ?_ (accB_rest x0 x1 x2 x3 (y 0) (y 1) hy).symm
    rw [View.read_writes_apply_eq_canon _ _ _ _ ⟨_, List.mem_singleton_self _, by
        simp only [Rect.mem_set_unit, Fin.forall_fin_two]
        have h0 : (y 0).val < 8 := (y 0).isLt
        have h1 : (y 1).val < 1024 := (y 1).isLt
        simp
        omega⟩]
    exact canon_zero2 pay2_zero y

end

end Cert.KernelIdeal.Pool

end
-- ==== Proof.Pool.Body.lean ====
module

public import proofs.«01_k».proof.Proof.Pool.Sums

/-! What the pipeline's buffers hold after each point of the grid, in closed form, and the body's obligation at a point. The
grid walks the blocks of rows from the last to the first. -/

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The gradient of the pooled means at a row of the whole array. -/
def dpF (x1 : FVec Ideal S16384x1024 .bf16) (x2 : FVec Ideal S4x256x256 .bf16) (x3 : FVec Ideal S8x1024 .f32) (T : Fin 16384) (c : Fin 1024) : EReal :=
  ∑ j : Fin 256, x1 (ix2 T (colAt (grp c) j)) * x3 (ix2 1 (colAt (grp c) j)) * x2 (ix3 (grp c) (lane c) j)

/-- The same over the count of its row, and nothing past the last row. -/
def qF (x1 : FVec Ideal S16384x1024 .bf16) (x2 : FVec Ideal S4x256x256 .bf16) (x3 : FVec Ideal S8x1024 .f32) (T : ℕ) (c : Fin 1024) : EReal :=
  if h : T < 16384 then dpF x1 x2 x3 ⟨T, h⟩ c * invCount (width (grp c)) T else 0

variable (m : (ℓ : Loc nD τ sig) → Buf (Elt Ideal) ℓ) (ρ : Dev nD → PrngReg)

/-- The four arrays the kernel reads, as the region finds them. -/
def arr0 (c : Dev nD) : FVec Ideal S16384x1024 .bf16 := V m c main_v87
def arr1 (c : Dev nD) : FVec Ideal S16384x1024 .bf16 := V m c main_v89
def arr2 (c : Dev nD) : FVec Ideal S4x256x256 .bf16 := V m c main_v90
def arr3 (c : Dev nD) : FVec Ideal S8x1024 .f32 := V m c main_v94

theorem coord_val : ∀ t : Fin cfg0.N, (grid0.coords t 0).val = t.val :=
  (by decide +kernel : ∀ t : Fin grid0.N, (grid0.coords t 0).val = t.val)

theorem lt_64 (t : Fin cfg0.N) : t.val < 64 := lt_of_lt_of_eq t.isLt (show cfg0.N = 64 from N_0)

theorem idx_val : ∀ t : Fin cfg0.N, win0_0.index t = ![63 - t.val, 0] ∧ win0_1.index t = ![63 - t.val, 0] ∧ win0_2.index t = ![0, 0, 0]
    ∧ win0_3.index t = ![0, 0] ∧ win0_4.index t = ![63 - t.val, 0] ∧ win0_5.index t = ![0, 0, 0] ∧ win0_6.index t = ![0, 0] :=
  (by decide +kernel : ∀ t : Fin grid0.N, win0_0.index t = ![63 - t.val, 0] ∧ win0_1.index t = ![63 - t.val, 0] ∧ win0_2.index t = ![0, 0, 0]
    ∧ win0_3.index t = ![0, 0] ∧ win0_4.index t = ![63 - t.val, 0] ∧ win0_5.index t = ![0, 0, 0] ∧ win0_6.index t = ![0, 0])

/-! The blocks, read off the arrays. -/

/-- The row `r` of the block of point `t`. -/
def rowOf (t : Fin cfg0.N) (r : Fin 256) : Fin 16384 := ⟨(63 - t.val) * 256 + r.val, by have := lt_64 t; omega⟩

theorem emb0 (t : Fin cfg0.N) (r : Fin 256) (k : Fin 1024) : ((cfg0.win 0).blk t).view.emb (ix2 r k) = ix2 (rowOf t r) k := by blk_ext [idx_val t, rowOf]
theorem emb1 (t : Fin cfg0.N) (r : Fin 256) (k : Fin 1024) : ((cfg0.win 1).blk t).view.emb (ix2 r k) = ix2 (rowOf t r) k := by blk_ext [idx_val t, rowOf]
theorem emb2 (t : Fin cfg0.N) (y : S4x256x256.Idx) : ((cfg0.win 2).blk t).view.emb y = y := by blk_ext [idx_val t]
theorem emb3 (t : Fin cfg0.N) (y : S8x1024.Idx) : ((cfg0.win 3).blk t).view.emb y = y := by blk_ext [idx_val t]

theorem read0 (A : FVec Ideal S16384x1024 .bf16) (t : Fin cfg0.N) (r : Fin 256) (k : Fin 1024) :
    ((cfg0.win 0).blk t).view.read (Elt Ideal) A (ix2 r k) = A (ix2 (rowOf t r) k) := congrArg A (emb0 t r k)
theorem read1 (A : FVec Ideal S16384x1024 .bf16) (t : Fin cfg0.N) (r : Fin 256) (k : Fin 1024) :
    ((cfg0.win 1).blk t).view.read (Elt Ideal) A (ix2 r k) = A (ix2 (rowOf t r) k) := congrArg A (emb1 t r k)
theorem read2 (A : FVec Ideal S4x256x256 .bf16) (t : Fin cfg0.N) (y : S4x256x256.Idx) :
    ((cfg0.win 2).blk t).view.read (Elt Ideal) A y = A y := congrArg A (emb2 t y)
theorem read3 (A : FVec Ideal S8x1024 .f32) (t : Fin cfg0.N) (y : S8x1024.Idx) :
    ((cfg0.win 3).blk t).view.read (Elt Ideal) A y = A y := congrArg A (emb3 t y)

def blk0 (c : Dev nD) (t : Fin cfg0.N) : FVec Ideal S256x1024 .bf16 := iblk m c 0 t
def blk1 (c : Dev nD) (t : Fin cfg0.N) : FVec Ideal S256x1024 .bf16 := iblk m c 1 t
def blk2 (c : Dev nD) (t : Fin cfg0.N) : FVec Ideal S4x256x256 .bf16 := iblk m c 2 t
def blk3 (c : Dev nD) (t : Fin cfg0.N) : FVec Ideal S8x1024 .f32 := iblk m c 3 t

theorem blk0_def (c : Dev nD) (t : Fin cfg0.N) : blk0 m c t = ((cfg0.win 0).blk t).view.read (Elt Ideal) (arr0 m c) := by unfold blk0 iblk arr0; rfl
theorem blk1_def (c : Dev nD) (t : Fin cfg0.N) : blk1 m c t = ((cfg0.win 1).blk t).view.read (Elt Ideal) (arr1 m c) := by unfold blk1 iblk arr1; rfl
theorem blk2_def (c : Dev nD) (t : Fin cfg0.N) : blk2 m c t = ((cfg0.win 2).blk t).view.read (Elt Ideal) (arr2 m c) := by unfold blk2 iblk arr2; rfl
theorem blk3_def (c : Dev nD) (t : Fin cfg0.N) : blk3 m c t = ((cfg0.win 3).blk t).view.read (Elt Ideal) (arr3 m c) := by unfold blk3 iblk arr3; rfl

theorem blk0_apply (c : Dev nD) (t : Fin cfg0.N) (r : Fin 256) (k : Fin 1024) : blk0 m c t (ix2 r k) = arr0 m c (ix2 (rowOf t r) k) := by
  rw [blk0_def]; exact read0 _ t r k
theorem blk1_apply (c : Dev nD) (t : Fin cfg0.N) (r : Fin 256) (k : Fin 1024) : blk1 m c t (ix2 r k) = arr1 m c (ix2 (rowOf t r) k) := by
  rw [blk1_def]; exact read1 _ t r k
theorem blk2_eq (c : Dev nD) (t : Fin cfg0.N) : blk2 m c t = arr2 m c := by
  funext y; rw [blk2_def]; exact read2 _ t y
theorem blk3_eq (c : Dev nD) (t : Fin cfg0.N) : blk3 m c t = arr3 m c := by
  funext y; rw [blk3_def]; exact read3 _ t y

/-- The quotients of the whole array. -/
def quot (c : Dev nD) : ℕ → Fin 1024 → EReal := qF (arr1 m c) (arr2 m c) (arr3 m c)

theorem dpB_blk (c : Dev nD) (t : Fin cfg0.N) (r : Fin 256) (k : Fin 1024) :
    dpB (blk1 m c t) (blk2 m c t) (blk3 m c t) r k = dpF (arr1 m c) (arr2 m c) (arr3 m c) (rowOf t r) k := by
  unfold dpB dpF
  rw [blk2_eq, blk3_eq]
  exact Finset.sum_congr rfl fun j _ => by rw [blk1_apply]

theorem qB_blk (c : Dev nD) (t : Fin cfg0.N) (r : Fin 256) (k : Fin 1024) :
    qB ((63 - t.val) * 256) (blk1 m c t) (blk2 m c t) (blk3 m c t) r k = quot m c ((63 - t.val) * 256 + r.val) k := by
  unfold qB quot qF
  rw [dpB_blk, dif_pos (show (63 - t.val) * 256 + r.val < 16384 from (rowOf t r).isLt)]; rfl

theorem quot_past (c : Dev nD) (T : ℕ) (k : Fin 1024) (h : 16384 ≤ T) : quot m c T k = 0 := by
  unfold quot qF; rw [dif_neg (by omega)]

/-! What the buffers hold after each point. -/

/-- The scratch: the quotients of the block and of the sixteen rows after it. -/
def scrAt (c : Dev nD) (n : ℕ) : FVec Ideal S272x1024 .f32 := fun y => quot m c ((63 - n) * 256 + (y 0).val) (y 1)
/-- The first result's block. -/
def dhAt (c : Dev nD) (t : Fin cfg0.N) : FVec Ideal S256x1024 .f32 := fun y =>
  dhB ((63 - t.val) * 256) (quot m c) (blk1 m c t) (blk2 m c t) (blk3 m c t) (y 0) (y 1)
/-- The point of a number, past the last one the last. -/
def pt (n : ℕ) : Fin cfg0.N := ⟨min n 63, lt_of_lt_of_eq (by omega) (show 64 = cfg0.N from N_0.symm)⟩
theorem pt_val (t : Fin cfg0.N) : pt t.val = t := Fin.ext (by have := lt_64 t; show min t.val 63 = t.val; omega)
/-- The second result's buffer: the terms of the blocks so far. -/
def dwAt (c : Dev nD) (n : ℕ) : FVec Ideal S4x256x256 .f32 := fun y =>
  ∑ s ∈ Finset.range (n + 1), dwB (blk0 m c (pt s)) (blk1 m c (pt s)) (blk3 m c (pt s)) (y 0) (y 1) (y 2)
/-- The third result's buffer: the terms of the blocks so far. -/
def accAt (c : Dev nD) (n : ℕ) : FVec Ideal S8x1024 .f32 := fun y =>
  ∑ s ∈ Finset.range (n + 1), accB (blk0 m c (pt s)) (blk1 m c (pt s)) (blk2 m c (pt s)) (blk3 m c (pt s)) (y 0) (y 1)

theorem dwAt_zero (c : Dev nD) (t : Fin cfg0.N) (ht : t.val = 0) (y : S4x256x256.Idx) :
    dwB (blk0 m c t) (blk1 m c t) (blk3 m c t) (y 0) (y 1) (y 2) = dwAt m c t.val y := by
  unfold dwAt; rw [ht, Finset.sum_range_one, ← ht, pt_val]
theorem dwAt_step (c : Dev nD) (t : Fin cfg0.N) (ht : t.val ≠ 0) (y : S4x256x256.Idx) :
    dwAt m c (t.val - 1) y + dwB (blk0 m c t) (blk1 m c t) (blk3 m c t) (y 0) (y 1) (y 2) = dwAt m c t.val y := by
  unfold dwAt; rw [Finset.sum_range_succ (n := t.val), pt_val, Nat.sub_add_cancel (by omega)]
theorem accAt_zero (c : Dev nD) (t : Fin cfg0.N) (ht : t.val = 0) (y : S8x1024.Idx) :
    accB (blk0 m c t) (blk1 m c t) (blk2 m c t) (blk3 m c t) (y 0) (y 1) = accAt m c t.val y := by
  unfold accAt; rw [ht, Finset.sum_range_one, ← ht, pt_val]
theorem accAt_step (c : Dev nD) (t : Fin cfg0.N) (ht : t.val ≠ 0) (y : S8x1024.Idx) :
    accAt m c (t.val - 1) y + accB (blk0 m c t) (blk1 m c t) (blk2 m c t) (blk3 m c t) (y 0) (y 1) = accAt m c t.val y := by
  unfold accAt; rw [Finset.sum_range_succ (n := t.val), pt_val, Nat.sub_add_cancel (by omega)]

/-! The facts the runs ask for. -/

theorem hq_at (c : Dev nD) (t : Fin cfg0.N) : ∀ r k, qB ((63 - (grid0.coords t 0).val) * 256) (blk1 m c t) (blk2 m c t) (blk3 m c t) r k
    = quot m c ((63 - (grid0.coords t 0).val) * 256 + r.val) k := fun r k => by rw [coord_val]; exact qB_blk m c t r k
theorem hs_first (c : Dev nD) (t : Fin cfg0.N) (ht : t.val = 0) : ∀ (k : Fin 16) (j : Fin 1024),
    0 = quot m c ((63 - (grid0.coords t 0).val) * 256 + (256 + k.val)) j := fun k j => by
  rw [coord_val, quot_past _ _ _ _ (by omega)]
theorem hs_later (c : Dev nD) (t : Fin cfg0.N) (ht : t.val ≠ 0) : ∀ (k : Fin 16) (j : Fin 1024),
    scrAt m c (t.val - 1) (ix2 ⟨k.val, by omega⟩ j) = quot m c ((63 - (grid0.coords t 0).val) * 256 + (256 + k.val)) j := fun k j => by
  rw [coord_val]
  show quot m c ((63 - (t.val - 1)) * 256 + k.val) j = _
  have := lt_64 t
  congr 1; omega

/-! The proof data. -/

abbrev ms0 (t : Fin cfg0.N) : Memref sig .tc .vmem S256x1024 .bf16 := win0_0.stage (cfg0.slots t 0)
abbrev ms1 (t : Fin cfg0.N) : Memref sig .tc .vmem S256x1024 .bf16 := win0_1.stage (cfg0.slots t 1)
abbrev ms2 (t : Fin cfg0.N) : Memref sig .tc .vmem S4x256x256 .bf16 := win0_2.stage (cfg0.slots t 2)
abbrev ms3 (t : Fin cfg0.N) : Memref sig .tc .vmem S8x1024 .f32 := win0_3.stage (cfg0.slots t 3)
abbrev ms4 (t : Fin cfg0.N) : Memref sig .tc .vmem S256x1024 .f32 := win0_4.stage (cfg0.slots t 4)
abbrev ms5 (t : Fin cfg0.N) : Memref sig .tc .vmem S4x256x256 .f32 := win0_5.stage (cfg0.slots t 5)
abbrev ms6 (t : Fin cfg0.N) : Memref sig .tc .vmem S8x1024 .f32 := win0_6.stage (cfg0.slots t 6)
abbrev scr : Memref sig .tc .vmem S272x1024 .f32 := Memref.whole cc0_scratch0

theorem scoped_eq (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Between points: the scratch at what the point before left. -/
def Inv (c : Dev nD) : ℕ → sProp 𝕄
  | 0 => Pipeline.ΦA spec0 c
  | n + 1 => iprop(iprop(owns (c : Thread nD τ) scr fullShare (scrAt m c n)) ∗ (∃ r, prngReg c r))

theorem Inv_zero (c : Dev nD) (n : ℕ) (h : n = 0) : Inv m c n = Pipeline.ΦA spec0 c := by subst h; rfl
theorem Inv_succ (c : Dev nD) (n : ℕ) : Inv m c (n + 1) = iprop(iprop(owns (c : Thread nD τ) scr fullShare (scrAt m c n)) ∗ (∃ r, prngReg c r)) := rfl
theorem Inv_pos (c : Dev nD) (n : ℕ) (h : n ≠ 0) : Inv m c n = iprop(iprop(owns (c : Thread nD τ) scr fullShare (scrAt m c (n - 1))) ∗ (∃ r, prngReg c r)) := by
  obtain ⟨k, rfl⟩ := Nat.exists_eq_succ_of_ne_zero h; rfl

def dats (_ : Fin 1) (c : Dev nD) : Dat τ (Elt Ideal) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => dhAt m c t
    | ⟨5, _⟩ => dwAt m c t.val
    | ⟨6, _⟩ => accAt m c t.val
  Φ t := Inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = blk0 m c t := by dsimp only [dats]
theorem after_1 (c : Dev nD) (t : Fin cfg0.N) : (dats m 0 c).after 1 t = blk1 m c t := by dsimp only [dats]
theorem after_2 (c : Dev nD) (t : Fin cfg0.N) : (dats m 0 c).after 2 t = blk2 m c t := by dsimp only [dats]
theorem after_3 (c : Dev nD) (t : Fin cfg0.N) : (dats m 0 c).after 3 t = blk3 m c t := by dsimp only [dats]
theorem after_4 (c : Dev nD) (t : Fin cfg0.N) : (dats m 0 c).after 4 t = dhAt m c t := by dsimp only [dats]
theorem after_5 (c : Dev nD) (t : Fin cfg0.N) : (dats m 0 c).after 5 t = dwAt m c t.val := by dsimp only [dats]
theorem after_6 (c : Dev nD) (t : Fin cfg0.N) : (dats m 0 c).after 6 t = accAt m c t.val := by dsimp only [dats]

theorem before_0 (c : Dev nD) (t : Fin cfg0.N) (d) : (dats m 0 c).before 0 t d = blk0 m c t := before0_0_of m (dats m 0 c) (A_eq m c 0) (after_0 m c) t d
theorem before_1 (c : Dev nD) (t : Fin cfg0.N) (d) : (dats m 0 c).before 1 t d = blk1 m c t := before0_1_of m (dats m 0 c) (A_eq m c 1) (after_1 m c) t d
theorem before_2 (c : Dev nD) (t : Fin cfg0.N) (d) : (dats m 0 c).before 2 t d = blk2 m c t := before0_2_of m (dats m 0 c) (A_eq m c 2) (after_2 m c) t d
theorem before_3 (c : Dev nD) (t : Fin cfg0.N) (d) : (dats m 0 c).before 3 t d = blk3 m c t := before0_3_of m (dats m 0 c) (A_eq m c 3) (after_3 m c) t d

theorem before_5 (c : Dev nD) (t : Fin cfg0.N) (ht : t.val ≠ 0) (d) : (dats m 0 c).before 5 t d = dwAt m c (t.val - 1) :=
  ((dats m 0 c).before_out_kept 5 rfl t ht (by rw [Bool.eq_false_iff]; intro h; have := (flush0_5 _).mp h; have := lt_64 t; dsimp only at *; omega)
    (fun _ => rfl) (fun _ _ => rfl) d).trans (after_5 m c _)
theorem before_6 (c : Dev nD) (t : Fin cfg0.N) (ht : t.val ≠ 0) (d) : (dats m 0 c).before 6 t d = accAt m c (t.val - 1) :=
  ((dats m 0 c).before_out_kept 6 rfl t ht (by rw [Bool.eq_false_iff]; intro h; have := (flush0_6 _).mp h; have := lt_64 t; dsimp only at *; omega)
    (fun _ => rfl) (fun _ _ => rfl) d).trans (after_6 m c _)

end Cert.KernelIdeal.Pool

end
-- ==== Proof.Pool.Compare.lean ====
module

public import proofs.«01_k».proof.Proof.Pool.RefRead
public import proofs.«01_k».proof.Proof.Pool.Body

/-! The kernel's three results against the reference's, as formulas over the arrays both read: the inverse counts are the
quotients by the counts, the window's rows summed below a row are the difference of the reference's running sums, and the
blocks' terms add up to the sums over all rows. -/

@[expose] public section

set_option maxRecDepth 16384

noncomputable section

namespace Cert.Pool

open Cert.KernelIdeal.Gen Cert.KernelIdeal.Pool
open Idealize.ShloMosaic
open Cert.ReferenceIdeal.Pool (dm dp q q_past cum dhR pooled mixed)

/-- A sum over the blocks from the last to the first, of a sum over a block's rows, is the sum over all rows. -/
theorem sum_blocks (f : Fin 16384 → EReal) :
    ∑ s ∈ Finset.range (63 + 1), ∑ r : Fin 256, f (rowOf (pt s) r) = ∑ T : Fin 16384, f T := by
  rw [← Finset.sum_range_reflect]
  have e : ∀ s ∈ Finset.range 64, ∀ r : Fin 256, ∀ h : s * 256 + r.val < 16384, rowOf (pt (63 + 1 - 1 - s)) r = ⟨s * 256 + r.val, h⟩ := fun s hs r h => by
    have := Finset.mem_range.mp hs
    refine Fin.ext ?_
    show (63 - min (63 + 1 - 1 - s) 63) * 256 + r.val = s * 256 + r.val
    congr 2; omega
  have e2 : ∑ s ∈ Finset.range (63 + 1), ∑ r : Fin 256, f (rowOf (pt (63 + 1 - 1 - s)) r)
      = ∑ s : Fin 64, ∑ r : Fin 256, f ⟨s.val * 256 + r.val, by omega⟩ := by
    rw [Finset.sum_range]
    exact Finset.sum_congr rfl fun s _ => Finset.sum_congr rfl fun r _ => congrArg f (e s.val (Finset.mem_range.mpr s.isLt) r (by omega))
  rw [e2, ← Fintype.sum_prod_type' (f := fun (s : Fin 64) (r : Fin 256) => f ⟨s.val * 256 + r.val, by omega⟩)]
  refine Fintype.sum_equiv (finProdFinEquiv (m := 64) (n := 256)) _ _ fun x => ?_
  refine congrArg f (Fin.ext ?_)
  show x.1.val * 256 + x.2.val = x.2.val + 256 * x.1.val
  omega

section
variable (x0 : (⟨Cert.ReferenceIdeal.S1x16384x1024, .f32⟩ : BufTy).Contents (Elt Ideal)) (x1 : (⟨Cert.ReferenceIdeal.S4x256x256, .f32⟩ : BufTy).Contents (Elt Ideal))
  (x2 x3 : (⟨Cert.ReferenceIdeal.S1024, .f32⟩ : BufTy).Contents (Elt Ideal)) (x4 : (⟨Cert.ReferenceIdeal.S1x16384x1024, .f32⟩ : BufTy).Contents (Elt Ideal))
  (a0 a1 : FVec Ideal Cert.KernelIdeal.S16384x1024 .bf16) (a2 : FVec Ideal Cert.KernelIdeal.S4x256x256 .bf16) (a3 : FVec Ideal Cert.KernelIdeal.S8x1024 .f32)

variable {x1 x3 x4 a1 a2 a3} in
theorem dpF_eq (h1 : ∀ T k, a1 (ix2 T k) = x4 (ix3 0 T k)) (h2 : ∀ g k j, a2 (ix3 g k j) = x1 (ix3 g k j)) (h3 : ∀ k, a3 (ix2 1 k) = x3 (ix1 k))
    (T : Fin 16384) (c : Fin 1024) : dpF a1 a2 a3 T c = dp x1 x3 x4 T (grp c) (lane c) := by
  unfold dpF dp dm
  exact Finset.sum_congr rfl fun j _ => by rw [h1, h2, h3]

variable {x1 x3 x4 a1 a2 a3} in
theorem qF_eq (h1 : ∀ T k, a1 (ix2 T k) = x4 (ix3 0 T k)) (h2 : ∀ g k j, a2 (ix3 g k j) = x1 (ix3 g k j)) (h3 : ∀ k, a3 (ix2 1 k) = x3 (ix1 k))
    (T : ℕ) (c : Fin 1024) : qF a1 a2 a3 T c = q x1 x3 x4 (width (grp c)) (grp c) (lane c) T := by
  unfold qF q
  split
  · rw [dpF_eq h1 h2 h3]
    have hw : 1 ≤ width (grp c) := Nat.one_le_two_pow
    have hn : (((min (T + 1) (width (grp c)) : ℕ) : ℝ)) ≠ 0 := by
      have : 1 ≤ min (T + 1) (width (grp c)) := le_min (by omega) hw
      exact_mod_cast (by omega : min (T + 1) (width (grp c)) ≠ 0)
    unfold invCount
    rw [Ideal.div_coe hn, Ideal.div_coe hn, one_mul]
  · rfl

theorem real_mul {x y : EReal} (hx : ∃ r : ℝ, x = r) (hy : ∃ r : ℝ, y = r) : ∃ r : ℝ, x * y = r := by
  obtain ⟨a, rfl⟩ := hx; obtain ⟨b, rfl⟩ := hy
  exact ⟨a * b, (EReal.coe_mul a b).symm⟩

theorem real_sum {ι : Type} (s : Finset ι) (f : ι → EReal) (hf : ∀ i, ∃ r : ℝ, f i = r) : ∃ r : ℝ, ∑ i ∈ s, f i = r := by
  choose g hg using hf
  exact ⟨∑ i ∈ s, g i, by rw [coe_sum]; exact Finset.sum_congr rfl fun i _ => hg i⟩

variable {x1 x3 x4} in
theorem q_real (f1 : ∀ i, ∃ r : ℝ, x1 i = r) (f3 : ∀ i, ∃ r : ℝ, x3 i = r) (f4 : ∀ i, ∃ r : ℝ, x4 i = r) (g : Fin 4) (k : Fin 256) (T : ℕ) :
    ∃ r : ℝ, q x1 x3 x4 (width g) g k T = r := by
  unfold q
  split
  · have hw : 1 ≤ width g := Nat.one_le_two_pow
    have hn : (((min (T + 1) (width g) : ℕ) : ℝ)) ≠ 0 := by
      have : 1 ≤ min (T + 1) (width g) := le_min (by omega) hw
      exact_mod_cast (by omega : min (T + 1) (width g) ≠ 0)
    rw [Ideal.div_coe hn]
    refine real_mul ?_ ⟨_, rfl⟩
    unfold dp dm
    exact real_sum _ _ fun j => real_mul (real_mul (f4 _) (f3 _)) (f1 _)
  · exact ⟨0, rfl⟩

variable {x1 x3 x4 a1 a2 a3} in
/-- The first result. -/
theorem dh_eq (f1 : ∀ i, ∃ r : ℝ, x1 i = r) (f3 : ∀ i, ∃ r : ℝ, x3 i = r) (f4 : ∀ i, ∃ r : ℝ, x4 i = r)
    (h1 : ∀ T k, a1 (ix2 T k) = x4 (ix3 0 T k)) (h2 : ∀ g k j, a2 (ix3 g k j) = x1 (ix3 g k j)) (h3 : ∀ k, a3 (ix2 1 k) = x3 (ix1 k))
    (T : Fin 16384) (c : Fin 1024) :
    (∑ j ∈ Finset.range (width (grp c)), qF a1 a2 a3 (T.val + j) c) - dpF a1 a2 a3 T c = dhR x1 x3 x4 (width (grp c)) (grp c) (lane c) T := by
  unfold dhR cum
  rw [sum_differences' 16384 (width (grp c)) T.val (q x1 x3 x4 (width (grp c)) (grp c) (lane c)) (q_real f1 f3 f4 (grp c) (lane c)) fun n hn => q_past _ _ _ _ _ _ _ hn,
    dpF_eq h1 h2 h3, sub_eq_add_neg, add_comm]
  congr 1
  exact Finset.sum_congr rfl fun j _ => qF_eq h1 h2 h3 _ _

variable {x0 x3 x4 a0 a1 a3} in
/-- The second result. -/
theorem dw_eq (h0 : ∀ T g k, a0 (ix2 T (colAt g k)) = pooled x0 T g k) (h1 : ∀ T k, a1 (ix2 T k) = x4 (ix3 0 T k)) (h3 : ∀ k, a3 (ix2 1 k) = x3 (ix1 k))
    (b0 b1 : ℕ → FVec Ideal Cert.KernelIdeal.S256x1024 .bf16) (hb0 : ∀ s r k, b0 s (ix2 r k) = a0 (ix2 (rowOf (pt s) r) k))
    (hb1 : ∀ s r k, b1 s (ix2 r k) = a1 (ix2 (rowOf (pt s) r) k)) (g : Fin 4) (k j : Fin 256) :
    ∑ s ∈ Finset.range (63 + 1), dwB (b0 s) (b1 s) a3 g k j = ∑ T : Fin 16384, dm x3 x4 T (colAt g j) * pooled x0 T g k := by
  rw [← sum_blocks]
  unfold dwB dm
  exact Finset.sum_congr rfl fun s _ => Finset.sum_congr rfl fun r _ => by rw [hb0, hb1, h0, h1, h3, mul_comm]

/-- A sum of finite numbers times a finite number. -/
theorem sum_mul_real {ι : Type} (s : Finset ι) (f : ι → EReal) (y : EReal) (hf : ∀ i, ∃ r : ℝ, f i = r) (hy : ∃ r : ℝ, y = r) :
    (∑ i ∈ s, f i) * y = ∑ i ∈ s, f i * y := by
  choose g hg using hf
  obtain ⟨b, rfl⟩ := hy
  have e : ∀ i, f i * (b : EReal) = ((g i * b : ℝ) : EReal) := fun i => by rw [hg, EReal.coe_mul]
  rw [Finset.sum_congr rfl fun i _ => hg i, Finset.sum_congr rfl fun i _ => e i, ← coe_sum, ← coe_sum, ← EReal.coe_mul, Finset.sum_mul]

variable {x3 x4 a1 a3} in
/-- The third result's first row. -/
theorem db_eq (f3 : ∀ i, ∃ r : ℝ, x3 i = r) (f4 : ∀ i, ∃ r : ℝ, x4 i = r)
    (h1 : ∀ T k, a1 (ix2 T k) = x4 (ix3 0 T k)) (h3 : ∀ k, a3 (ix2 1 k) = x3 (ix1 k))
    (b1 : ℕ → FVec Ideal Cert.KernelIdeal.S256x1024 .bf16) (hb1 : ∀ s r k, b1 s (ix2 r k) = a1 (ix2 (rowOf (pt s) r) k)) (c : Fin 1024) :
    ∑ s ∈ Finset.range (63 + 1), dbB (b1 s) a3 c = ∑ T : Fin 16384, dm x3 x4 T c := by
  rw [← sum_blocks]
  unfold dbB dm
  refine Finset.sum_congr rfl fun s _ => ?_
  rw [h3, sum_mul_real _ _ _ (fun r => by rw [hb1, h1]; exact f4 _) (f3 _)]
  exact Finset.sum_congr rfl fun r _ => by rw [hb1, h1]

variable {x0 x1 x2 x4 a0 a1 a2 a3} in
/-- The third result's second row. -/
theorem ds_eq (h0 : ∀ T g k, a0 (ix2 T (colAt g k)) = pooled x0 T g k) (h1 : ∀ T k, a1 (ix2 T k) = x4 (ix3 0 T k))
    (h2 : ∀ g k j, a2 (ix3 g k j) = x1 (ix3 g k j)) (h3 : ∀ k, a3 (ix2 0 k) = x2 (ix1 k))
    (b0 b1 : ℕ → FVec Ideal Cert.KernelIdeal.S256x1024 .bf16) (hb0 : ∀ s r k, b0 s (ix2 r k) = a0 (ix2 (rowOf (pt s) r) k))
    (hb1 : ∀ s r k, b1 s (ix2 r k) = a1 (ix2 (rowOf (pt s) r) k)) (c : Fin 1024) :
    ∑ s ∈ Finset.range (63 + 1), dsB (b0 s) (b1 s) a2 a3 c = ∑ T : Fin 16384, mixed x0 x1 x2 T c * x4 (ix3 0 T c) := by
  rw [← sum_blocks]
  unfold dsB mixed
  refine Finset.sum_congr rfl fun s _ => Finset.sum_congr rfl fun r _ => ?_
  rw [hb1, h1, h3, mul_comm]
  congr 2
  exact Finset.sum_congr rfl fun k _ => by rw [hb0, h0, h2, mul_comm]

end

end Cert.Pool

end
-- ==== Proof.Pool.Entry.lean ====
module

public import proofs.«01_k».proof.Proof.Pool.RefRead
public import proofs.«01_k».proof.Proof.Pool.Body
public import Idealize.ShloMosaic.Lib.StableHlo.RunRead

/-! The arrays the kernel reads, in terms of the arguments. -/

@[expose] public section

set_option maxRecDepth 16384

noncomputable section

namespace Cert.KernelIdeal.Pool

open Cert.KernelIdeal.Gen
open Idealize.ShloMosaic Idealize.ShloMosaic.TcCoe Idealize.ShloMosaic.StableHlo Idealize.SL.Sem
open Cert.ReferenceIdeal.Read

/-- Two parts laid side by side, each written another way. -/
theorem cat2 {e : EltTy} {s a b : Shape} {d : Fin s.rank} {x x' : (⟨a, e⟩ : BufTy).Contents (Elt Ideal)} {y y' : (⟨b, e⟩ : BufTy).Contents (Elt Ideal)}
    (hx : x = x') (hy : y = y') (h) (h') :
    concatenate s d [⟨a, x⟩, ⟨b, y⟩] h = concatenate s d [⟨a, x'⟩, ⟨b, y'⟩] h' := by
  subst hx hy; rfl

/-- Four parts laid side by side, each written another way. -/
theorem cat4 {e : EltTy} {s a : Shape} {d : Fin s.rank} {x x' y y' z z' u u' : (⟨a, e⟩ : BufTy).Contents (Elt Ideal)}
    (hx : x = x') (hy : y = y') (hz : z = z') (hu : u = u') (h) (h') :
    concatenate s d [⟨a, x⟩, ⟨a, y⟩, ⟨a, z⟩, ⟨a, u⟩] h = concatenate s d [⟨a, x'⟩, ⟨a, y'⟩, ⟨a, z'⟩, ⟨a, u'⟩] h' := by
  subst hx hy hz hu; rfl

variable (m : (ℓ : Loc nD τ sig) → Buf (Elt Ideal) ℓ)

/-- The buffers after the first line of host operations. -/
def st0 (c : Dev nD) : Valuation τ sig (Elt Ideal) := after hostOps0 fun b => m (c, b)

/-- The buffers after line 2 of host operations. -/
def st1 (c : Dev nD) : Valuation τ sig (Elt Ideal) := after hostOps0_1 (st0 m c)

/-- The buffers after line 3 of host operations. -/
def st2 (c : Dev nD) : Valuation τ sig (Elt Ideal) := after hostOps0_2 (st1 m c)

/-- The buffers after line 4 of host operations. -/
def st3 (c : Dev nD) : Valuation τ sig (Elt Ideal) := after hostOps0_3 (st2 m c)

/-- The buffers after line 5 of host operations. -/
def st4 (c : Dev nD) : Valuation τ sig (Elt Ideal) := after hostOps0_4 (st3 m c)

/-- The buffers after line 6 of host operations. -/
def st5 (c : Dev nD) : Valuation τ sig (Elt Ideal) := after hostOps0_5 (st4 m c)

/-- The buffers after line 7 of host operations. -/
def st6 (c : Dev nD) : Valuation τ sig (Elt Ideal) := after hostOps0_6 (st5 m c)

/-- The buffers after line 8 of host operations. -/
def st7 (c : Dev nD) : Valuation τ sig (Elt Ideal) := after hostOps0_7 (st6 m c)

/-- The buffers after line 9 of host operations. -/
def st8 (c : Dev nD) : Valuation τ sig (Elt Ideal) := after hostOps0_8 (st7 m c)

/-- The buffers after line 10 of host operations. -/
def st9 (c : Dev nD) : Valuation τ sig (Elt Ideal) := after hostOps0_9 (st8 m c)

/-- The kernel finds the buffers as the last line leaves them. -/
theorem V_eq (c : Dev nD) (b : Ref sig .tc) : V m c b = st9 m c (Proc.devRef .tc b) := by
  unfold V st9 st8 st7 st6 st5 st4 st3 st2 st1 st0
  simp only [List.flatten_cons, List.flatten_nil, List.append_nil, after_append]

theorem st0_v0 (c : Dev nD) : st0 m c (Proc.devRef .tc main_v0) = val_main_v0 (m ((c : Thread nD τ).loc main_arg0)) := by
  unfold st0
  after_reads_simp
  rfl

theorem st0_v2 (c : Dev nD) : st0 m c (Proc.devRef .tc main_v2) = val_main_v2 (m ((c : Thread nD τ).loc main_arg0)) := by
  unfold st0
  after_reads_simp
  rfl

theorem st1_v0 (c : Dev nD) : st1 m c (Proc.devRef .tc main_v0) = val_main_v0 (m ((c : Thread nD τ).loc main_arg0)) := by
  rw [← st0_v0]
  unfold st1
  after_reads_simp

theorem st1_v3 (c : Dev nD) : st1 m c (Proc.devRef .tc main_v3) = val_main_v3 (m ((c : Thread nD τ).loc main_arg0)) := by
  have h0 := st0_v2 m c
  unfold st1
  generalize st0 m c = W at *
  after_reads_simp
  rw [h0]
  rfl

theorem st2_v0 (c : Dev nD) : st2 m c (Proc.devRef .tc main_v0) = val_main_v0 (m ((c : Thread nD τ).loc main_arg0)) := by
  rw [← st1_v0]
  unfold st2
  after_reads_simp

theorem st2_v20 (c : Dev nD) : st2 m c (Proc.devRef .tc main_v20) = val_main_v21 (m ((c : Thread nD τ).loc main_arg0)) := by
  have h0 := st1_v0 m c
  have h1 := st1_v3 m c
  unfold st2
  generalize st1 m c = W at *
  after_reads_simp
  rw [cat2 (x' := val_main_v5) (y' := val_main_v6 (m ((c : Thread nD τ).loc main_arg0))), h0, h1]
  · rfl
  · after_reads_simp
    rfl
  · after_reads_simp
    rw [h1]
    rfl

theorem st2_v22 (c : Dev nD) : st2 m c (Proc.devRef .tc main_v22) = val_main_v23 (m ((c : Thread nD τ).loc main_arg0)) := by
  have h0 := st1_v0 m c
  unfold st2
  generalize st1 m c = W at *
  after_reads_simp
  rw [h0]
  rfl

theorem st3_v0 (c : Dev nD) : st3 m c (Proc.devRef .tc main_v0) = val_main_v0 (m ((c : Thread nD τ).loc main_arg0)) := by
  rw [← st2_v0]
  unfold st3
  after_reads_simp

theorem st3_v20 (c : Dev nD) : st3 m c (Proc.devRef .tc main_v20) = val_main_v21 (m ((c : Thread nD τ).loc main_arg0)) := by
  rw [← st2_v20]
  unfold st3
  after_reads_simp

theorem st3_v23 (c : Dev nD) : st3 m c (Proc.devRef .tc main_v23) = val_main_v24 (m ((c : Thread nD τ).loc main_arg0)) := by
  have h0 := st2_v22 m c
  unfold st3
  generalize st2 m c = W at *
  after_reads_simp
  rw [h0]
  rfl

theorem st4_v0 (c : Dev nD) : st4 m c (Proc.devRef .tc main_v0) = val_main_v0 (m ((c : Thread nD τ).loc main_arg0)) := by
  rw [← st3_v0]
  unfold st4
  after_reads_simp

theorem st4_v20 (c : Dev nD) : st4 m c (Proc.devRef .tc main_v20) = val_main_v21 (m ((c : Thread nD τ).loc main_arg0)) := by
  rw [← st3_v20]
  unfold st4
  after_reads_simp

theorem st4_v40 (c : Dev nD) : st4 m c (Proc.devRef .tc main_v40) = val_main_v42 (m ((c : Thread nD τ).loc main_arg0)) := by
  have h0 := st3_v0 m c
  have h1 := st3_v23 m c
  unfold st4
  generalize st3 m c = W at *
  after_reads_simp
  rw [cat2 (x' := val_main_v26) (y' := val_main_v27 (m ((c : Thread nD τ).loc main_arg0))), h0, h1]
  · rfl
  · after_reads_simp
    rfl
  · after_reads_simp
    rw [h1]
    rfl

theorem st4_v42 (c : Dev nD) : st4 m c (Proc.devRef .tc main_v42) = val_main_v44 (m ((c : Thread nD τ).loc main_arg0)) := by
  have h0 := st3_v0 m c
  unfold st4
  generalize st3 m c = W at *
  after_reads_simp
  rw [h0]
  rfl

theorem st5_v0 (c : Dev nD) : st5 m c (Proc.devRef .tc main_v0) = val_main_v0 (m ((c : Thread nD τ).loc main_arg0)) := by
  rw [← st4_v0]
  unfold st5
  after_reads_simp

theorem st5_v20 (c : Dev nD) : st5 m c (Proc.devRef .tc main_v20) = val_main_v21 (m ((c : Thread nD τ).loc main_arg0)) := by
  rw [← st4_v20]
  unfold st5
  after_reads_simp

theorem st5_v40 (c : Dev nD) : st5 m c (Proc.devRef .tc main_v40) = val_main_v42 (m ((c : Thread nD τ).loc main_arg0)) := by
  rw [← st4_v40]
  unfold st5
  after_reads_simp

theorem st5_v43 (c : Dev nD) : st5 m c (Proc.devRef .tc main_v43) = val_main_v45 (m ((c : Thread nD τ).loc main_arg0)) := by
  have h0 := st4_v42 m c
  unfold st5
  generalize st4 m c = W at *
  after_reads_simp
  rw [h0]
  rfl

theorem st6_v0 (c : Dev nD) : st6 m c (Proc.devRef .tc main_v0) = val_main_v0 (m ((c : Thread nD τ).loc main_arg0)) := by
  rw [← st5_v0]
  unfold st6
  after_reads_simp

theorem st6_v20 (c : Dev nD) : st6 m c (Proc.devRef .tc main_v20) = val_main_v21 (m ((c : Thread nD τ).loc main_arg0)) := by
  rw [← st5_v20]
  unfold st6
  after_reads_simp

theorem st6_v40 (c : Dev nD) : st6 m c (Proc.devRef .tc main_v40) = val_main_v42 (m ((c : Thread nD τ).loc main_arg0)) := by
  rw [← st5_v40]
  unfold st6
  after_reads_simp

theorem st6_v60 (c : Dev nD) : st6 m c (Proc.devRef .tc main_v60) = val_main_v63 (m ((c : Thread nD τ).loc main_arg0)) := by
  have h0 := st5_v0 m c
  have h1 := st5_v43 m c
  unfold st6
  generalize st5 m c = W at *
  after_reads_simp
  rw [cat2 (x' := val_main_v47) (y' := val_main_v48 (m ((c : Thread nD τ).loc main_arg0))), h0, h1]
  · rfl
  · after_reads_simp
    rfl
  · after_reads_simp
    rw [h1]
    rfl

theorem st6_v62 (c : Dev nD) : st6 m c (Proc.devRef .tc main_v62) = val_main_v65 (m ((c : Thread nD τ).loc main_arg0)) := by
  have h0 := st5_v0 m c
  unfold st6
  generalize st5 m c = W at *
  after_reads_simp
  rw [h0]
  rfl

theorem st7_v0 (c : Dev nD) : st7 m c (Proc.devRef .tc main_v0) = val_main_v0 (m ((c : Thread nD τ).loc main_arg0)) := by
  rw [← st6_v0]
  unfold st7
  after_reads_simp

theorem st7_v20 (c : Dev nD) : st7 m c (Proc.devRef .tc main_v20) = val_main_v21 (m ((c : Thread nD τ).loc main_arg0)) := by
  rw [← st6_v20]
  unfold st7
  after_reads_simp

theorem st7_v40 (c : Dev nD) : st7 m c (Proc.devRef .tc main_v40) = val_main_v42 (m ((c : Thread nD τ).loc main_arg0)) := by
  rw [← st6_v40]
  unfold st7
  after_reads_simp

theorem st7_v60 (c : Dev nD) : st7 m c (Proc.devRef .tc main_v60) = val_main_v63 (m ((c : Thread nD τ).loc main_arg0)) := by
  rw [← st6_v60]
  unfold st7
  after_reads_simp

theorem st7_v63 (c : Dev nD) : st7 m c (Proc.devRef .tc main_v63) = val_main_v66 (m ((c : Thread nD τ).loc main_arg0)) := by
  have h0 := st6_v62 m c
  unfold st7
  generalize st6 m c = W at *
  after_reads_simp
  rw [h0]
  rfl

theorem st8_v80 (c : Dev nD) : st8 m c (Proc.devRef .tc main_v80) = val_main_v84 (m ((c : Thread nD τ).loc main_arg0)) := by
  have h0 := st7_v0 m c
  have h1 := st7_v63 m c
  unfold st8
  generalize st7 m c = W at *
  after_reads_simp
  rw [cat2 (x' := val_main_v68) (y' := val_main_v69 (m ((c : Thread nD τ).loc main_arg0))), h0, h1]
  · rfl
  · after_reads_simp
    rfl
  · after_reads_simp
    rw [h1]
    rfl

theorem st8_v85 (c : Dev nD) : st8 m c (Proc.devRef .tc main_v85) = val_main_v89 (m ((c : Thread nD τ).loc main_arg0)) := by
  have h0 := st7_v20 m c
  have h1 := st7_v40 m c
  have h2 := st7_v60 m c
  have h3 := st8_v80 m c
  unfold st8 at *
  generalize st7 m c = W at *
  after_reads_simp
  refine cat4 ?_ ?_ ?_ ?_ _ _
  · show upto hostOps0_8 W 24 (Proc.devRef .tc main_v81) = _
    after_reads_simp
    rw [h0]
    rfl
  · show upto hostOps0_8 W 24 (Proc.devRef .tc main_v82) = _
    after_reads_simp
    rw [h1]
    rfl
  · show upto hostOps0_8 W 24 (Proc.devRef .tc main_v83) = _
    after_reads_simp
    rw [h2]
    rfl
  · show upto hostOps0_8 W 24 (Proc.devRef .tc main_v84) = _
    rw [show val_main_v88 (m ((c : Thread nD τ).loc main_arg0)) = broadcastInDim S1x16384x1x256 ![0, 1, 3] bcast_S1x16384x256_S1x16384x1x256_0_1_3 (val_main_v84 (m ((c : Thread nD τ).loc main_arg0))) from rfl, ← h3]
    after_reads_simp

theorem arr0_eq (c : Dev nD) : arr0 m c = truncf .bf16 (shapeCast _ (val_main_v89 (m ((c : Thread nD τ).loc main_arg0))) shapeCasts_S1x16384x4x256_S16384x1024) bitsLt_bf16_f32 := by
  unfold arr0
  rw [V_eq, ← st8_v85]
  unfold st9 st8
  generalize st7 m c = W at *
  after_reads_simp
  rfl

theorem arr1_eq (c : Dev nD) : arr1 m c = truncf .bf16 (shapeCast _ (m ((c : Thread nD τ).loc main_arg4)) shapeCasts_S1x16384x1024_S16384x1024) bitsLt_bf16_f32 := by
  unfold arr1 V
  after_reads_simp
  rfl

theorem arr2_eq (c : Dev nD) : arr2 m c = truncf .bf16 (m ((c : Thread nD τ).loc main_arg1)) bitsLt_bf16_f32 := by
  unfold arr2 V
  after_reads_simp

/-- The bias over the scale. -/
def vecs (x2 x3 : (⟨S1024, .f32⟩ : BufTy).Contents (Elt Ideal)) : (⟨S2x1024, .f32⟩ : BufTy).Contents (Elt Ideal) :=
  concatenate S2x1024 0 [⟨S1x1024, broadcastInDim S1x1024 ![1] bcast_S1024_S1x1024_1 x2⟩, ⟨S1x1024, broadcastInDim S1x1024 ![1] bcast_S1024_S1x1024_1 x3⟩] concatenates_S1x1024_S1x1024_S2x1024_d0

theorem st8_v93 (c : Dev nD) : st8 m c (Proc.devRef .tc main_v93) = vecs (m ((c : Thread nD τ).loc main_arg2)) (m ((c : Thread nD τ).loc main_arg3)) := by
  unfold st8 st7 st6 st5 st4 st3 st2 st1 st0
  simp only [← after_append]
  after_reads_simp
  refine cat2 ?_ ?_ _ _
  · after_reads_simp
  · after_reads_simp

theorem arr3_eq (c : Dev nD) : arr3 m c = pad (α := Ideal .f32) S8x1024 ![0, 0] ![6, 0] ![0, 0] (vecs (m ((c : Thread nD τ).loc main_arg2)) (m ((c : Thread nD τ).loc main_arg3))) (sitofp (F := Ideal) .f32 (constantI S_ 32 0#32)) pads_S2x1024_S8x1024_060_000 h_S_ := by
  have hc : st8 m c (Proc.devRef .tc main_c_10) = constantI S_ 32 0#32 := by
    unfold st8
    after_reads_simp
  unfold arr3
  rw [V_eq, ← st8_v93]
  unfold st9
  generalize st8 m c = W at *
  after_reads_simp
  rw [hc]
  rfl

end Cert.KernelIdeal.Pool

end
-- ==== Proof.Pool.Args.lean ====
module

public import proofs.«01_k».proof.Proof.Pool.Entry
public import Idealize.ShloMosaic.Lib.Pointwise

/-! The arrays the kernel reads, entry by entry. -/

@[expose] public section

set_option maxRecDepth 16384

noncomputable section

namespace Cert.KernelIdeal.Pool

open Cert.KernelIdeal.Gen
open Idealize.ShloMosaic Idealize.ShloMosaic.TcCoe Idealize.ShloMosaic.StableHlo Idealize.SL.Sem

theorem vecs_row0 (x2 x3 : (⟨S1024, .f32⟩ : BufTy).Contents (Elt Ideal)) (k : Fin 1024) : vecs x2 x3 (ix2 0 k) = x2 (ix1 k) := by
  unfold vecs
  pointwise

theorem vecs_row1 (x2 x3 : (⟨S1024, .f32⟩ : BufTy).Contents (Elt Ideal)) (k : Fin 1024) : vecs x2 x3 (ix2 1 k) = x3 (ix1 k) := by
  unfold vecs
  pointwise

theorem padded_row0 (u : (⟨S2x1024, .f32⟩ : BufTy).Contents (Elt Ideal)) (z : (⟨S_, .f32⟩ : BufTy).Contents (Elt Ideal)) (k : Fin 1024) :
    pad (α := Ideal .f32) S8x1024 ![0, 0] ![6, 0] ![0, 0] u z pads_S2x1024_S8x1024_060_000 h_S_ (ix2 0 k) = u (ix2 0 k) := by
  pointwise

theorem padded_row1 (u : (⟨S2x1024, .f32⟩ : BufTy).Contents (Elt Ideal)) (z : (⟨S_, .f32⟩ : BufTy).Contents (Elt Ideal)) (k : Fin 1024) :
    pad (α := Ideal .f32) S8x1024 ![0, 0] ![6, 0] ![0, 0] u z pads_S2x1024_S8x1024_060_000 h_S_ (ix2 1 k) = u (ix2 1 k) := by
  pointwise

theorem pooled_at (y : (⟨S1x16384x4x256, .f32⟩ : BufTy).Contents (Elt Ideal)) (T : Fin 16384) (g : Fin 4) (k : Fin 256) :
    (truncf (F := Ideal) .bf16 (shapeCast S16384x1024 y shapeCasts_S1x16384x4x256_S16384x1024) bitsLt_bf16_f32) (ix2 T (colAt g k)) = y (ix4 0 T g k) := by
  unfold colAt
  pointwise

theorem ct_at (y : (⟨S1x16384x1024, .f32⟩ : BufTy).Contents (Elt Ideal)) (T : Fin 16384) (k : Fin 1024) :
    (truncf (F := Ideal) .bf16 (shapeCast S16384x1024 y shapeCasts_S1x16384x1024_S16384x1024) bitsLt_bf16_f32) (ix2 T k) = y (ix3 0 T k) := by
  pointwise

variable (m : (ℓ : Loc nD τ sig) → Buf (Elt Ideal) ℓ)

theorem arr0_apply (c : Dev nD) (T : Fin 16384) (g : Fin 4) (k : Fin 256) :
    arr0 m c (ix2 T (colAt g k)) = Cert.ReferenceIdeal.Pool.pooled (m ((c : Thread nD τ).loc main_arg0)) T g k := by
  rw [arr0_eq]
  exact pooled_at _ T g k

theorem arr1_apply (c : Dev nD) (T : Fin 16384) (k : Fin 1024) :
    arr1 m c (ix2 T k) = m ((c : Thread nD τ).loc main_arg4) (ix3 0 T k) := by
  rw [arr1_eq]
  exact ct_at _ T k

theorem arr2_apply (c : Dev nD) (g : Fin 4) (k j : Fin 256) :
    arr2 m c (ix3 g k j) = m ((c : Thread nD τ).loc main_arg1) (ix3 g k j) := by
  rw [arr2_eq]
  rfl

theorem arr3_row0 (c : Dev nD) (k : Fin 1024) : arr3 m c (ix2 0 k) = m ((c : Thread nD τ).loc main_arg2) (ix1 k) := by
  rw [arr3_eq, padded_row0, vecs_row0]

theorem arr3_row1 (c : Dev nD) (k : Fin 1024) : arr3 m c (ix2 1 k) = m ((c : Thread nD τ).loc main_arg3) (ix1 k) := by
  rw [arr3_eq, padded_row1, vecs_row1]

end Cert.KernelIdeal.Pool

end
-- ==== Proof.Pool.Launch.lean ====
module

public import proofs.«01_k».proof.Proof.Pool.Body

/-! The body keeps the closed forms from point to point; the run of the whole kernel. -/

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! What a run of the body at a point leaves, in the closed forms. -/

section
variable (c : Dev nD) (t : Fin cfg0.N) (a1 : Memref sig .tc .vmem S256x1024 .bf16) (h1 : a1.IsWhole) (a2 : Memref sig .tc .vmem S256x1024 .bf16) (h2 : a2.IsWhole)
    (a3 : Memref sig .tc .vmem S4x256x256 .bf16) (h3 : a3.IsWhole) (a4 : Memref sig .tc .vmem S8x1024 .f32) (h4 : a4.IsWhole)
    (a5 : Memref sig .tc .vmem S256x1024 .f32) (h5 : a5.IsWhole) (a6 : Memref sig .tc .vmem S4x256x256 .f32) (h6 : a6.IsWhole)
    (a7 : Memref sig .tc .vmem S8x1024 .f32) (h7 : a7.IsWhole) (a8 : Memref sig .tc .vmem S272x1024 .f32) (h8 : a8.IsWhole)

theorem first_scr (hc0 : atStart (grid0.coords t)) (hc2 : ¬pastStart (grid0.coords t)) (ht : t.val = 0) (f) :
    a8.view.read (Elt Ideal) (a8.view.writes (Elt Ideal) f (runA (F := Ideal) c (grid0.coords t) a1 h1 a2 h2 a3 h3 a4 h4 a5 h5 a6 h6 a7 h7 a8 h8 hc0 hc2 (blk0 m c t) (blk1 m c t) (blk2 m c t) (blk3 m c t)).2.2.2.1) = scrAt m c t.val := by
  have hG := runA_scratch_canon c (grid0.coords t) a1 h1 a2 h2 a3 h3 a4 h4 a5 h5 a6 h6 a7 h7 a8 h8 hc0 hc2 (blk0 m c t) (blk1 m c t) (blk2 m c t) (blk3 m c t) (quot m c) (hq_at m c t) (hs_first m c t ht)
  have hc := runA_scratch_cover c (grid0.coords t) a1 h1 a2 h2 a3 h3 a4 h4 a5 h5 a6 h6 a7 h7 a8 h8 hc0 hc2 (blk0 m c t) (blk1 m c t) (blk2 m c t) (blk3 m c t)
  revert hG hc
  generalize (runA (F := Ideal) c (grid0.coords t) a1 h1 a2 h2 a3 h3 a4 h4 a5 h5 a6 h6 a7 h7 a8 h8 hc0 hc2 (blk0 m c t) (blk1 m c t) (blk2 m c t) (blk3 m c t)).2.2.2.1 = L
  intro hG hc
  rw [View.read_writes_eq_canon a8.view f L hc]
  funext y
  rw [hG y, coord_val]; rfl
theorem first_dh (hc0 : atStart (grid0.coords t)) (hc2 : ¬pastStart (grid0.coords t)) (ht : t.val = 0) (f) :
    a5.view.read (Elt Ideal) (a5.view.writes (Elt Ideal) f (runA (F := Ideal) c (grid0.coords t) a1 h1 a2 h2 a3 h3 a4 h4 a5 h5 a6 h6 a7 h7 a8 h8 hc0 hc2 (blk0 m c t) (blk1 m c t) (blk2 m c t) (blk3 m c t)).1) = dhAt m c t := by
  funext y
  rw [runA_dh_read c (grid0.coords t) a1 h1 a2 h2 a3 h3 a4 h4 a5 h5 a6 h6 a7 h7 a8 h8 hc0 hc2 (blk0 m c t) (blk1 m c t) (blk2 m c t) (blk3 m c t) (quot m c) (hq_at m c t) (hs_first m c t ht) f y, coord_val]; rfl
theorem first_dw (hc0 : atStart (grid0.coords t)) (hc2 : ¬pastStart (grid0.coords t)) (ht : t.val = 0) (f) :
    a6.view.read (Elt Ideal) (a6.view.writes (Elt Ideal) f (runA (F := Ideal) c (grid0.coords t) a1 h1 a2 h2 a3 h3 a4 h4 a5 h5 a6 h6 a7 h7 a8 h8 hc0 hc2 (blk0 m c t) (blk1 m c t) (blk2 m c t) (blk3 m c t)).2.1) = dwAt m c t.val := by
  funext y
  exact (runA_dw_read c (grid0.coords t) a1 h1 a2 h2 a3 h3 a4 h4 a5 h5 a6 h6 a7 h7 a8 h8 hc0 hc2 (blk0 m c t) (blk1 m c t) (blk2 m c t) (blk3 m c t) f y).trans (dwAt_zero m c t ht y)
theorem first_acc (hc0 : atStart (grid0.coords t)) (hc2 : ¬pastStart (grid0.coords t)) (ht : t.val = 0) (f) :
    a7.view.read (Elt Ideal) (a7.view.writes (Elt Ideal) f (runA (F := Ideal) c (grid0.coords t) a1 h1 a2 h2 a3 h3 a4 h4 a5 h5 a6 h6 a7 h7 a8 h8 hc0 hc2 (blk0 m c t) (blk1 m c t) (blk2 m c t) (blk3 m c t)).2.2.1) = accAt m c t.val := by
  funext y
  exact (runA_acc_read c (grid0.coords t) a1 h1 a2 h2 a3 h3 a4 h4 a5 h5 a6 h6 a7 h7 a8 h8 hc0 hc2 (blk0 m c t) (blk1 m c t) (blk2 m c t) (blk3 m c t) f y).trans (accAt_zero m c t ht y)

theorem later_scr (hc0 : ¬atStart (grid0.coords t)) (hc2 : pastStart (grid0.coords t)) (ht : t.val ≠ 0) (f) :
    a8.view.read (Elt Ideal) (a8.view.writes (Elt Ideal) f (runB (F := Ideal) c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1))).2.2.2.1) = scrAt m c t.val := by
  have hG := runB_scratch_canon c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1)) (quot m c) (hq_at m c t) (hs_later m c t ht)
  have hc := runB_scratch_cover c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1))
  revert hG hc
  generalize (runB (F := Ideal) c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1))).2.2.2.1 = L
  intro hG hc
  rw [View.read_writes_eq_canon a8.view f L hc]
  funext y
  rw [hG y, coord_val]; rfl
theorem later_dh (hc0 : ¬atStart (grid0.coords t)) (hc2 : pastStart (grid0.coords t)) (ht : t.val ≠ 0) (f) :
    a5.view.read (Elt Ideal) (a5.view.writes (Elt Ideal) f (runB (F := Ideal) c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1))).1) = dhAt m c t := by
  funext y
  rw [runB_dh_read c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1)) (quot m c) (hq_at m c t) (hs_later m c t ht) f y, coord_val]; rfl
theorem later_dw (hc0 : ¬atStart (grid0.coords t)) (hc2 : pastStart (grid0.coords t)) (ht : t.val ≠ 0) :
    a6.view.read (Elt Ideal) (a6.view.writes (Elt Ideal) (h6.unread (dwAt m c (t.val - 1))) (runB (F := Ideal) c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1))).2.1) = dwAt m c t.val := by
  funext y
  exact (runB_dw_read c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1)) y).trans (dwAt_step m c t ht y)
theorem later_acc (hc0 : ¬atStart (grid0.coords t)) (hc2 : pastStart (grid0.coords t)) (ht : t.val ≠ 0) :
    a7.view.read (Elt Ideal) (a7.view.writes (Elt Ideal) (h7.unread (accAt m c (t.val - 1))) (runB (F := Ideal) c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1))).2.2.1) = accAt m c t.val := by
  funext y
  exact (runB_acc_read c (grid0.coords t) a1 h1 a2 h2 a3 h3 a4 h4 a5 h5 a6 h6 a7 h7 a8 h8 hc0 hc2 (blk0 m c t) (blk1 m c t) (blk2 m c t) (blk3 m c t) (dwAt m c (t.val - 1)) (accAt m c (t.val - 1)) (scrAt m c (t.val - 1)) y).trans (accAt_step m c t ht y)
end

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

theorem Phi_castSucc (c : Dev nD) (t : Fin cfg0.N) : (dats m 0 c).Φ t.castSucc = Inv m c t.val := by dsimp only [dats]; rfl
theorem Phi_succ (c : Dev nD) (t : Fin cfg0.N) : (dats m 0 c).Φ t.succ = Inv m c (t.val + 1) := by dsimp only [dats]; rfl

set_option maxHeartbeats 3200000 in
theorem sound_first (c : Dev nD) (t : Fin cfg0.N) (ht : t.val = 0) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, after_0, after_1, after_2, after_3, after_4, after_5, after_6, Phi_succ, Inv_succ, Phi_castSucc, Inv_zero m c _ ht, scoped_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((runA (F := Ideal) c (grid0.coords t) _ _ _ _ _ _ _ _ _ _ _ _ _ _ scr (Memref.isWhole_whole _) ((atStart_iff t).mpr ht) (fun h => ((pastStart_iff t).mp h) ht) (blk0 m c t) (blk1 m c t) (blk2 m c t) (blk3 m c t)).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS]; · iexact HS
  iintro ⟨H0, H1, H2, H3, ⟨%e4, H4⟩, ⟨%e5, H5⟩, ⟨%e6, H6⟩, ⟨%es, HS⟩⟩
  isplitl [HS Hg]
  · isplitl [HS]
    · unfold owns; iexists _; isplitr
      swap; · iexact HS
      ipureintro; exact first_scr m c t _ _ _ _ _ _ _ _ _ _ _ _ _ _ _ _ _ _ ht _
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact first_dh m c t _ _ _ _ _ _ _ _ _ _ _ _ _ _ _ _ _ _ ht _
  isplitl [H5]
  · unfold owns; iexists _; isplitr
    swap; · iexact H5
    ipureintro; exact first_dw m c t _ _ _ _ _ _ _ _ _ _ _ _ _ _ _ _ _ _ ht _
  unfold owns; iexists _; isplitr
  swap; · iexact H6
  ipureintro; exact first_acc m c t _ _ _ _ _ _ _ _ _ _ _ _ _ _ _ _ _ _ ht _

set_option maxHeartbeats 3200000 in
theorem sound_later (c : Dev nD) (t : Fin cfg0.N) (ht : t.val ≠ 0) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_5 m c t ht, before_6 m c t ht]
  rw [show (dats m 0 c).owesAt () t.succ = (dats m 0 c).owesAt () t.castSucc from rfl, after_0, after_1, after_2, after_3, after_4, after_5, after_6, Phi_succ, Inv_succ, Phi_castSucc, Inv_pos m c _ ht]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((runB (F := Ideal) c (grid0.coords t) _ _ _ _ _ _ _ _ _ _ _ _ _ _ scr (Memref.isWhole_whole _) (fun h => ht ((atStart_iff t).mp h)) ((pastStart_iff t).mpr ht) (blk0 m c t) (blk1 m c t) (blk2 m c t) (blk3 m c t) (dwAt m c (t.val - 1)) (accAt m c (t.val - 1)) (scrAt m c (t.val - 1))).2.2.2.2 Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS]; · iexact HS
  iintro ⟨H0, H1, H2, H3, ⟨%e4, H4⟩, H5, H6, HS⟩
  isplitl [HS Hg]
  · isplitl [HS]
    · unfold owns; iexists _; isplitr
      swap; · iexact HS
      ipureintro; exact later_scr m c t _ _ _ _ _ _ _ _ _ _ _ _ _ _ _ _ _ _ ht _
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact later_dh m c t _ _ _ _ _ _ _ _ _ _ _ _ _ _ _ _ _ _ ht _
  isplitl [H5]
  · unfold owns; iexists _; isplitr
    swap; · iexact H5
    ipureintro; exact later_dw m c t _ _ _ _ _ _ _ _ _ _ _ _ _ _ _ _ _ _ ht
  unfold owns; iexists _; isplitr
  swap; · iexact H6
  ipureintro; exact later_acc m c t _ _ _ _ _ _ _ _ _ _ _ _ _ _ _ _ _ _ ht

theorem sound_body (c : Dev nD) (t : Fin cfg0.N) :
    bodyPre m c t ⊢ wp frame (wpE (defs₀ (F := Ideal)) Variants.none c none) Set.univ (bodyAt0 t) (fun _ => bodyPost m c t) := by
  by_cases ht : t.val = 0
  · exact sound_first m c t ht
  · exact sound_later m c t ht

theorem defs_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs_row]
  exact triple_restated (sound_body m c t) rfl .rfl fun _ => .rfl

theorem Phi_first (c : Dev nD) : Pipeline.ΦA spec0 c ⊢ (dats m 0 c).Φ 0 := by
  rw [show (dats m 0 c).Φ 0 = Inv m c 0 from rfl, Inv_zero m c 0 rfl]
  try exact Idealize.SL.BI.Entails.refl _

theorem Phi_last (c : Dev nD) : (dats m 0 c).Φ (Fin.last cfg0.N) ⊢ Pipeline.ΦA spec0 c := by
  rw [show (dats m 0 c).Φ (Fin.last cfg0.N) = Inv m c cfg0.N from rfl, Inv_pos m c _ (by rw [show cfg0.N = 64 from N_0]; decide), scoped_eq]
  iintro ⟨HS, Hg⟩
  isplitl [HS]
  · iexists _; iexact HS
  iexact Hg

set_option backward.isDefEq.respectTransparency.types false in
/-- The run: every array at the closed forms' end, and no semaphore left raised. -/
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_first m) (hout := Phi_last m)

theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Pool

end
-- ==== Proof.Pool.Value.lean ====
module

public import proofs.«01_k».proof.Proof.Pool.Compare
public import proofs.«01_k».proof.Proof.Pool.Args
public import proofs.«01_k».proof.Proof.Pool.Launch

/-! What the kernel's three arrays hold when it has run, and that it is what the reference computes. -/

@[expose] public section

set_option maxRecDepth 16384

noncomputable section

namespace Cert.KernelIdeal.Pool

open Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ)

/-- The first result as the kernel leaves it. -/
def dhF (c : Dev nD) (T : Fin 16384) (k : Fin 1024) : EReal :=
  (∑ j ∈ Finset.range (width (grp k)), quot m c (T.val + j) k) - dpF (arr1 m c) (arr2 m c) (arr3 m c) T k

theorem dhAt_apply (c : Dev nD) (t : Fin cfg0.N) (r : Fin 256) (k : Fin 1024) : dhAt m c t (ix2 r k) = dhF m c (rowOf t r) k := by
  show dhB ((63 - t.val) * 256) (quot m c) (blk1 m c t) (blk2 m c t) (blk3 m c t) r k = _
  unfold dhB dhF
  rw [dpB_blk]
  rfl

theorem emb4 (t : Fin cfg0.N) (r : Fin 256) (k : Fin 1024) : (win0_4.blk t).view.emb (ix2 r k) = ix2 (rowOf t r) k := by blk_ext [idx_val t, rowOf]

theorem after4_at (c : Dev nD) (t : Fin cfg0.N) (y : S256x1024.Idx) :
    dhAt m c t y = dhF m c ((win0_4.blk t).view.emb y 0) ((win0_4.blk t).view.emb y 1) := by
  obtain ⟨r, k, rfl⟩ := exists_ix2 (h := 256) (w := 1024) y
  rw [emb4]
  exact dhAt_apply m c t r k

theorem final4 (c : Dev nD) : (dats m 0 c).arrAt 4 cfg0.N = fun y => dhF m c (y 0) (y 1) := by
  refine (dats m 0 c).arrAt_eq_of_covers 4 _ (by decide +kernel) fun t hf y => ?_
  blk_simp
  rw [after_4]
  exact after4_at m c t y

theorem final5 (c : Dev nD) : (dats m 0 c).arrAt 5 cfg0.N = dwAt m c 63 := by
  refine (dats m 0 c).arrAt_eq_of_after_last 5 (pt 63) (by decide +kernel) _ fun y => ?_
  rw [after_5]
  rfl

theorem final6 (c : Dev nD) : (dats m 0 c).arrAt 6 cfg0.N = accAt m c 63 := by
  refine (dats m 0 c).arrAt_eq_of_after_last 6 (pt 63) (by decide +kernel) _ fun y => ?_
  rw [after_6]
  rfl

/-! Against the reference. -/

section
variable (c : Dev nD)
open Cert.ReferenceIdeal.Read Cert.ReferenceIdeal.Pool

abbrev arg0 : (⟨S1x16384x1024, .f32⟩ : BufTy).Contents (Elt Ideal) := m ((c : Thread nD τ).loc main_arg0)
abbrev arg1 : (⟨S4x256x256, .f32⟩ : BufTy).Contents (Elt Ideal) := m ((c : Thread nD τ).loc main_arg1)
abbrev arg2 : (⟨S1024, .f32⟩ : BufTy).Contents (Elt Ideal) := m ((c : Thread nD τ).loc main_arg2)
abbrev arg3 : (⟨S1024, .f32⟩ : BufTy).Contents (Elt Ideal) := m ((c : Thread nD τ).loc main_arg3)
abbrev arg4 : (⟨S1x16384x1024, .f32⟩ : BufTy).Contents (Elt Ideal) := m ((c : Thread nD τ).loc main_arg4)

variable (f1 : ∀ i, ∃ r : ℝ, arg1 m c i = r) (f3 : ∀ i, ∃ r : ℝ, arg3 m c i = r) (f4 : ∀ i, ∃ r : ℝ, arg4 m c i = r)

include f1 f3 f4 in
theorem result0 : (fun y : S16384x1024.Idx => dhF m c (y 0) (y 1)) = val_main_v182 (F := Ideal) (arg1 m c) (arg3 m c) (arg4 m c) := by
  funext y
  obtain ⟨T, k, rfl⟩ := exists_ix2 (h := 16384) (w := 1024) y
  have e := v182_apply (arg1 m c) (arg3 m c) (arg4 m c) T (grp k) (lane k)
  rw [colAt_grp_lane] at e
  rw [e]
  exact Cert.Pool.dh_eq f1 f3 f4 (arr1_apply m c) (arr2_apply m c) (arr3_row1 m c) T k

theorem blk0_at (s : ℕ) (r : Fin 256) (k : Fin 1024) : blk0 m c (pt s) (ix2 r k) = arr0 m c (ix2 (rowOf (pt s) r) k) := blk0_apply m c _ r k
theorem blk1_at (s : ℕ) (r : Fin 256) (k : Fin 1024) : blk1 m c (pt s) (ix2 r k) = arr1 m c (ix2 (rowOf (pt s) r) k) := blk1_apply m c _ r k

theorem result1 : dwAt m c 63 = val_main_v113 (F := Ideal) (arg0 m c) (arg3 m c) (arg4 m c) := by
  funext y
  obtain ⟨g, k, j, rfl⟩ := exists_ix3 (d := 4) (h := 256) (w := 256) y
  rw [v113_apply]
  refine Eq.trans ?_ (Cert.Pool.dw_eq (a3 := arr3 m c) (arr0_apply m c) (arr1_apply m c) (arr3_row1 m c) _ _ (blk0_at m c) (blk1_at m c) g k j)
  show ∑ s ∈ Finset.range (63 + 1), dwB (blk0 m c (pt s)) (blk1 m c (pt s)) (blk3 m c (pt s)) g k j = _
  exact Finset.sum_congr rfl fun s _ => by rw [blk3_eq]

include f3 f4 in
theorem result2 : accAt m c 63 = val_main_v186 (F := Ideal) (arg0 m c) (arg1 m c) (arg2 m c) (arg3 m c) (arg4 m c) := by
  funext y
  obtain ⟨r, k, rfl⟩ := exists_ix2 (h := 8) (w := 1024) y
  show ∑ s ∈ Finset.range (63 + 1), accB (blk0 m c (pt s)) (blk1 m c (pt s)) (blk2 m c (pt s)) (blk3 m c (pt s)) r k = _
  by_cases h : r.val < 2
  · obtain hr | hr : r = 0 ∨ r = 1 := by
      rcases Nat.lt_or_ge r.val 1 with h' | h'
      · exact .inl (Fin.ext (by show r.val = 0; omega))
      · exact .inr (Fin.ext (by show r.val = 1; omega))
    · subst hr
      rw [v186_row0]
      refine Eq.trans ?_ (Cert.Pool.db_eq f3 f4 (arr1_apply m c) (arr3_row1 m c) _ (blk1_at m c) k)
      exact Finset.sum_congr rfl fun s _ => by rw [accB_row0, blk3_eq]
    · subst hr
      rw [v186_row1]
      refine Eq.trans ?_ (Cert.Pool.ds_eq (arr0_apply m c) (arr1_apply m c) (arr2_apply m c) (arr3_row0 m c) _ _ (blk0_at m c) (blk1_at m c) k)
      exact Finset.sum_congr rfl fun s _ => by rw [accB_row1, blk2_eq, blk3_eq]
  · rw [v186_rest _ _ _ _ _ _ _ h]
    exact Finset.sum_eq_zero fun s _ => accB_rest _ _ _ _ r k h

end

end Cert.KernelIdeal.Pool

end
-- ==== Proof.Pool.Free.lean ====
module

public import proofs.«01_k».proof.Proof.Pool.RunA
public import proofs.«01_k».proof.Proof.Pool.RunB

/-! The run of the whole kernel at any float values, with nothing said of what its results hold. -/

@[expose] public section

set_option maxRecDepth 16384

noncomputable section

namespace Cert.KernelIdeal.Pool.Free

open Cert.KernelIdeal.Gen Cert.KernelIdeal.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The windows of the three results. -/
def results (w : Fin cfg0.W) : Bool := match w with
  | ⟨4, _⟩ | ⟨5, _⟩ | ⟨6, _⟩ => true
  | _ => false

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed (cfg := cfg0) 4 t
    | ⟨5, _⟩ => Dat.unnamed (cfg := cfg0) 5 t
    | ⟨6, _⟩ => Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

abbrev scr : Memref sig .tc .vmem S272x1024 .f32 := Memref.whole cc0_scratch0

theorem scoped_eq (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

abbrev kept (c : Dev nD) (t : Fin cfg0.N) : sProp 𝕄 :=
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))

def bodyPre (c : Dev nD) (t : Fin cfg0.N) : sProp 𝕄 :=
  iprop(Pipeline.ΦA spec0 c ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))
def bodyPost (c : Dev nD) (t : Fin cfg0.N) : sProp 𝕄 :=
  iprop(Pipeline.ΦA spec0 c ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, after_0, after_1, after_2, after_3, scoped_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  by_cases ht : t.val = 0
  · iapply ((runA (F := F) c (grid0.coords t) _ _ _ _ _ _ _ _ _ _ _ _ _ _ scr (Memref.isWhole_whole _) ((atStart_iff t).mpr ht) (fun h => ((pastStart_iff t).mp h) ht) (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, ⟨%e4, H4⟩, ⟨%e5, H5⟩, ⟨%e6, H6⟩, ⟨%es, HS⟩⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]
    · iexists _; unfold owns; iexists _; isplitr
      swap; · iexact H4
      ipureintro; rfl
    isplitl [H5]
    · iexists _; unfold owns; iexists _; isplitr
      swap; · iexact H5
      ipureintro; rfl
    iexists _; unfold owns; iexists _; isplitr
    swap; · iexact H6
    ipureintro; rfl
  · icases HS with ⟨%ds, HS⟩
    iapply ((runB (F := F) c (grid0.coords t) _ _ _ _ _ _ _ _ _ _ _ _ _ _ scr (Memref.isWhole_whole _) (fun h => ht ((atStart_iff t).mp h)) ((pastStart_iff t).mpr ht) (iblk m c 0 t) (iblk m c 1 t) (iblk m c 2 t) (iblk m c 3 t) d5 d6 ds).2.2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS]; · iexact HS
    iintro ⟨H0, H1, H2, H3, ⟨%e4, H4⟩, H5, H6, HS⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]
    · iexists _; unfold owns; iexists _; isplitr
      swap; · iexact H4
      ipureintro; rfl
    isplitl [H5]
    · iexists _; unfold owns; iexists _; isplitr
      swap; · iexact H5
      ipureintro; rfl
    iexists _; unfold owns; iexists _; isplitr
    swap; · iexact H6
    ipureintro; rfl

theorem defs_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationLoose (dats m 0 c) (defs₀ (F := F)) Variants.none () Set.univ results := fun t => by
  rw [bigSep_W0, bigSep_W0, defs_row]
  exact triple_restated (sound_body m c t) rfl .rfl fun _ => .rfl

set_option backward.isDefEq.respectTransparency.types false in
/-- The run: every array that is no result as launched, and no semaphore left raised. -/
theorem run_main : θ_run defs (onTc (τ := τ) (main (F := F))) (s₀ m ρ)
    (fun r => Pipeline.RDat.FramePost cfg0 (fun c => (dats m 0 c).toRForget results) (V m) r ∧ r.2.sem = fun _ => 0) :=
  Pipeline.θ_run_frame_forget (Q' := _) cfgs (dats m) (0 : Fin 1) launch0 defs₀ Variants.none results m ρ main
    (hbody := body_obligation m) (hshare := fun c => (dats m 0 c).share_full fun _ => rfl)
    (howed := fun _ _ => rfl) (V := V m) (hmain := hmain m Variants.none) (hA := A_eq m) (hΦ := fun _ _ => rfl)

/-- The frame. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Pool.Free

end
-- ==== Proof.Pool.Claims.lean ====
module

public import proofs.«01_k».proof.Defs
public import proofs.«01_k».proof.Proof.Gen.Kernel
public import proofs.«01_k».proof.Proof.Gen.ReferenceIdeal.Run
public import proofs.«01_k».proof.Proof.Gen.ReferenceIdeal.Read
public import proofs.«01_k».proof.Proof.Pool.Finite
public import proofs.«01_k».proof.Proof.Pool.Value
public import proofs.«01_k».proof.Proof.Pool.Free
public import Idealize.ShloMosaic.Lib.Quiescent

/-! The claims about the backward pass of the pooling mixer. -/

@[expose] public section

set_option maxRecDepth 16384

noncomputable section

namespace Cert.Pool.Claims

open Idealize.ShloMosaic Idealize.ShloMosaic.TcCoe Idealize.SL.Sem
open Cert.KernelIdeal.Pool
open Cert.KernelIdeal (cfgs main_arg0 main_arg1 main_arg2 main_arg3 main_arg4 nD τ sig)
open Cert.KernelIdeal.Gen (V V_main_arg0 V_main_arg1 V_main_arg2 V_main_arg3 V_main_arg4)

/-- The five arguments as a run leaves them. -/
theorem args_kept (m : (ℓ : Loc nD τ sig) → Buf (Elt Ideal) ℓ) (r : PUnit × MemSt nD τ sig (Elt Ideal))
    (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h.rest_eq c main_arg0 (Pipeline.mem_restRefs_of main_arg0 (by decide) (by decide))).trans (V_main_arg0 m c), (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c), (h.rest_eq c main_arg3 (Pipeline.mem_restRefs_of main_arg3 (by decide) (by decide))).trans (V_main_arg3 m c),
    (h.rest_eq c main_arg4 (Pipeline.mem_restRefs_of main_arg4 (by decide) (by decide))).trans (V_main_arg4 m c)⟩

set_option maxHeartbeats 4000000 in
/-- The kernel as printed and the kernel over the extended reals have the same text, so one run serves both:
the same bodies, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

set_option maxHeartbeats 4000000 in
/-- the same definitions, -/
theorem defs_eq {F : FTy → Type} [FloatOps F] : Cert.Kernel.defs (F := F) = Cert.KernelIdeal.defs (F := F) := by
  unfold Cert.Kernel.defs Cert.KernelIdeal.defs
  exact congrArg (Pipeline.defs Cert.KernelIdeal.pcfgs) bodies_eq

set_option maxHeartbeats 4000000 in
theorem main_part0_eq {F : FTy → Type} [FloatOps F] : Cert.Kernel.main_part0 (F := F) = Cert.KernelIdeal.main_part0 (F := F) := by
  unfold Cert.Kernel.main_part0 Cert.KernelIdeal.main_part0
  rfl

set_option maxHeartbeats 4000000 in
theorem main_part1_eq {F : FTy → Type} [FloatOps F] : Cert.Kernel.main_part1 (F := F) = Cert.KernelIdeal.main_part1 (F := F) := rfl

set_option maxHeartbeats 4000000 in
/-- and the same lines of the host. -/
theorem main_eq {F : FTy → Type} [FloatOps F] : Cert.Kernel.main (F := F) = Cert.KernelIdeal.main (F := F) := by
  unfold Cert.Kernel.main Cert.KernelIdeal.main
  funext d
  exact congrArg₂ (fun a b => a >>= fun _ => b) (congrFun main_part0_eq d) (congrFun main_part1_eq d)

theorem frame_kernel : Cert.quiescent_Kernel := by
  intro m ρ _
  have h := Free.quiet (F := Bits) m ρ
  rw [← defs_eq, ← main_eq] at h
  exact h

theorem frame_ideal : Cert.quiescent_KernelIdeal := fun m ρ _ => Free.quiet m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem algebraic : Cert.algebraic_KernelIdeal_ReferenceIdeal_pre_finite := by
  intro m ρ m' ρ' hp hagree
  refine ⟨fun c => fun y => dhF m c (y 0) (y 1), fun c => dwAt m c 63, fun c => accAt m c 63, ?_, ?_⟩
  · refine (θ_run Cert.KernelIdeal.defs _ _).mono (fun r h c => ?_) (run_main m ρ)
    exact ⟨(h.out_eq c 4).trans (final4 m c), (h.out_eq c 5).trans (final5 m c), (h.out_eq c 6).trans (final6 m c), args_kept m r h c⟩
  · refine (θ_run Cert.ReferenceIdeal.defs _ _).mono (fun r h c => ?_) (Cert.ReferenceIdeal.Value.run (F := Ideal) m' ρ')
    obtain ⟨f1, f3, f4⟩ := Cert.Pool.finite_of_pre _ _ _ _ _ (hp c)
    obtain ⟨a0, a1, a2, a3, a4⟩ := hagree c
    obtain ⟨h0, h1, h2, hargs⟩ := h c
    refine ⟨h0.trans ?_, h1.trans ?_, h2.trans ?_, hargs⟩
    · rw [Cert.ReferenceIdeal.Read.val_main_v182_eq, StableHlo.launchContents_devRef, StableHlo.launchContents_devRef, StableHlo.launchContents_devRef, a1, a3, a4]
      exact (result0 m c f1 f3 f4).symm
    · rw [Cert.ReferenceIdeal.Read.val_main_v113_eq, StableHlo.launchContents_devRef, StableHlo.launchContents_devRef, StableHlo.launchContents_devRef, a0, a3, a4]
      exact (result1 m c).symm
    · rw [Cert.ReferenceIdeal.Read.val_main_v186_eq, StableHlo.launchContents_devRef, StableHlo.launchContents_devRef, StableHlo.launchContents_devRef, StableHlo.launchContents_devRef, StableHlo.launchContents_devRef, a0, a1, a2, a3, a4]
      exact (result2 m c f3 f4).symm

end Cert.Pool.Claims

end
-- ==== Proof.Prod.DownDx.lean ====
module

public import proofs.«01_k».proof.Defs
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDxRefIdeal.Read
public import Idealize.ShloMosaic.Lib.Pipeline.ValueKit
public import Idealize.ShloMosaic.Lib.Pointwise
public import Idealize.ShloMosaic.Lib.StableHlo.RunRead
public import Idealize.ShloMosaic.Lib.Quiescent

/-! The gradient of the down projection in its input: every entry of the result is the sum over the model's width of
the cotangent times the weight, in the kernel as in the reference. -/

@[expose] public section

set_option maxRecDepth 16384

noncomputable section

namespace Cert.DownDxIdeal.Prod

open Cert.DownDxIdeal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S2816x1024, .f32⟩ : BufTy).Contents (Elt Ideal) := m ((c : Thread nD τ).loc main_arg1)
abbrev arg2 (c : Dev nD) : (⟨S1x16384x1024, .f32⟩ : BufTy).Contents (Elt Ideal) := m ((c : Thread nD τ).loc main_arg2)

/-- The gradient at row `T` and hidden channel `j`. -/
def dx (w : (⟨S2816x1024, .f32⟩ : BufTy).Contents (Elt Ideal)) (ct : (⟨S1x16384x1024, .f32⟩ : BufTy).Contents (Elt Ideal)) (T : Fin 16384) (j : Fin 2816) : EReal :=
  ∑ k : Fin 1024, ct (ix3 0 T k) * w (ix2 j k)

/-- The cotangent as the region finds it, -/
def arr0 (c : Dev nD) : FVec Ideal S16384x1024 .bf16 := V m c main_v1
/-- and the weight. -/
def arr1 (c : Dev nD) : FVec Ideal S1x2816x1024 .bf16 := V m c main_v3

theorem arr0_apply (c : Dev nD) (T : Fin 16384) (k : Fin 1024) : arr0 m c (ix2 T k) = arg2 m c (ix3 0 T k) := by
  have e : arr0 m c = truncf .bf16 (shapeCast S16384x1024 (arg2 m c) shapeCasts_S1x16384x1024_S16384x1024) bitsLt_bf16_f32 := by
    unfold arr0 V
    after_reads_simp
    rfl
  rw [e]
  pointwise

theorem arr1_apply (c : Dev nD) (j : Fin 2816) (k : Fin 1024) : arr1 m c (ix3 0 j k) = arg1 m c (ix2 j k) := by
  have e : arr1 m c = truncf .bf16 (broadcastInDim S1x2816x1024 ![1, 2] bcast_S2816x1024_S1x2816x1024_1_2 (arg1 m c)) bitsLt_bf16_f32 := by
    unfold arr1 V
    after_reads_simp
  rw [e]
  pointwise

theorem idx_val : ∀ t : Fin cfg0.N, win0_0.index t = ![t.val / 2, 0] ∧ win0_1.index t = ![0, t.val % 2, 0] ∧ win0_2.index t = ![t.val / 2, t.val % 2] :=
  (by decide +kernel : ∀ t : Fin grid0.N, win0_0.index t = ![t.val / 2, 0] ∧ win0_1.index t = ![0, t.val % 2, 0] ∧ win0_2.index t = ![t.val / 2, t.val % 2])

theorem lt_32 (t : Fin cfg0.N) : t.val < 32 := lt_of_lt_of_eq t.isLt (show cfg0.N = 32 from N_0)

/-- The row of the whole array that is row `r` of the block of point `t`, -/
def rowOf (t : Fin cfg0.N) (r : Fin 1024) : Fin 16384 := ⟨t.val / 2 * 1024 + r.val, by have := lt_32 t; omega⟩
/-- and the column that is column `j`. -/
def colOf (t : Fin cfg0.N) (j : Fin 1408) : Fin 2816 := ⟨t.val % 2 * 1408 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (j : Fin 1408) (k : Fin 1024) : ((cfg0.win 1).blk t).view.emb (ix3 0 j k) = ix3 0 (colOf t j) k := by blk_ext [idx_val t, colOf]
theorem emb2 (t : Fin cfg0.N) (r : Fin 1024) (j : Fin 1408) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (j : Fin 1408) (k : Fin 1024) : iblk m c 1 t (ix3 0 j k) = arr1 m c (ix3 0 (colOf t j) k) :=
  congrArg (arr1 m c) (emb1 t j k)

theorem pay_apply (x0 : FVec Ideal S1024x1024 .bf16) (x1 : FVec Ideal S1x1408x1024 .bf16) (r : Fin 1024) (j : Fin 1408) :
    k0_pay1 (F := Ideal) x0 x1 (ix2 r j) = ∑ k : Fin 1024, x0 (ix2 r k) * x1 (ix3 0 j k) := by
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : FVec Ideal S1024x1024 .bf16) (x1 : FVec Ideal S1x1408x1024 .bf16) : out0_2 (F := Ideal) x0 x1 = k0_pay1 (F := Ideal) x0 x1 := by
  unfold out0_2
  rw [View.canon_unit_zero hz2, View.ld_unit_zero (S := S1024x1024) hz2, View.ld_unit_zero (S := S1x1408x1024) hz3]

theorem pay_blk (c : Dev nD) (t : Fin cfg0.N) (r : Fin 1024) (j : Fin 1408) :
    k0_pay1 (F := Ideal) (iblk m c 0 t) (iblk m c 1 t) (ix2 r j) = dx (arg1 m c) (arg2 m c) (rowOf t r) (colOf t j) := by
  rw [pay_apply]
  refine Finset.sum_congr rfl fun k _ => ?_
  rw [blk0_apply, blk1_apply, arr0_apply, arr1_apply]

theorem final (c : Dev nD) : (dats m 0 c).arrAt 2 cfg0.N = fun y => dx (arg1 m c) (arg2 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1408), y = ix2 r j := ⟨y 0, y 1, eq_ix2 y⟩
  rw [emb2]
  exact pay_blk m c t r j

end Cert.DownDxIdeal.Prod

namespace Cert.DownDxRefIdeal.Prod

open Idealize.ShloMosaic
open Cert.DownDxRefIdeal Cert.DownDxRefIdeal.Gen Cert.DownDxRefIdeal.Read

theorem result (w : (⟨S2816x1024, .f32⟩ : BufTy).Contents (Elt Ideal)) (ct : (⟨S1x16384x1024, .f32⟩ : BufTy).Contents (Elt Ideal)) :
    truncf (F := Ideal) .bf16 (shapeCast S16384x2816 (Host.dotGeneral (F := Ideal) (φ₁ := .f32) (φ₂ := .f32) dot_S1x16384x1024_S2816x1024_S1x16384x2816_2_1_01_0_n_n none ct w) shapeCasts_S1x16384x2816_S16384x2816) bitsLt_bf16_f32
      = fun y => Cert.DownDxIdeal.Prod.dx w ct (y 0) (y 1) := by
  funext y
  obtain ⟨T, j, rfl⟩ : ∃ (T : Fin 16384) (j : Fin 2816), y = ix2 T j := ⟨y 0, y 1, eq_ix2 y⟩
  unfold Cert.DownDxIdeal.Prod.dx
  pointwise

end Cert.DownDxRefIdeal.Prod

namespace Cert.DownDx.Claims

open Idealize.ShloMosaic Idealize.ShloMosaic.TcCoe Idealize.SL.Sem

theorem frame_kernel : Cert.quiescent_DownDx := fun m ρ _ => Cert.DownDx.Gen.frame m ρ
theorem frame_ideal : Cert.quiescent_DownDxIdeal := fun m ρ _ => Cert.DownDxIdeal.Gen.frame m ρ
theorem frame_reference : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem algebraic : Cert.algebraic_DownDxIdeal_DownDxRefIdeal := by
  intro m ρ m' ρ' _ hagree
  refine ⟨fun c => fun y => Cert.DownDxIdeal.Prod.dx (Cert.DownDxIdeal.Prod.arg1 m c) (Cert.DownDxIdeal.Prod.arg2 m c) (y 0) (y 1), ?_, ?_⟩
  · refine (θ_run Cert.DownDxIdeal.defs _ _).mono (fun r h c => ?_) (Cert.DownDxIdeal.Value.run_blocks (F := Ideal) m ρ)
    exact ⟨(h c).1.trans (Cert.DownDxIdeal.Prod.final m c), (h c).2⟩
  · refine (θ_run Cert.DownDxRefIdeal.defs _ _).mono (fun r h c => ?_) (Cert.DownDxRefIdeal.Value.run (F := Ideal) m' ρ')
    obtain ⟨_, a1, a2⟩ := hagree c
    refine ⟨(h c).1.trans ?_, (h c).2⟩
    rw [a1, a2]
    exact Cert.DownDxRefIdeal.Prod.result _ _

end Cert.DownDx.Claims

end
-- ==== Proof.Prod.Blocks.lean ====
module

public import Idealize.ShloMosaic.Lib.ValueIdx

/-! A sum over all rows, block of rows by block of rows. -/

@[expose] public section

noncomputable section

namespace Cert.Prod

/-- Row `r` of the block `s` of eight blocks of 2048 rows. -/
def row (s : ℕ) (hs : s < 8) (r : Fin 2048) : Fin 16384 := ⟨2048 * s + r.val, by omega⟩

/-- The sum over all rows is the sum of the sums over the eight blocks. -/
theorem sum_blocks (f : Fin 16384 → EReal) (g : ℕ → EReal) (h : ∀ s (hs : s < 8), g s = ∑ r : Fin 2048, f (row s hs r)) :
    ∑ T : Fin 16384, f T = ∑ s ∈ Finset.range (7 + 1), g s := by
  rw [← Equiv.sum_comp (finProdFinEquiv (m := 8) (n := 2048)), Fintype.sum_prod_type, Finset.sum_range]
  refine Finset.sum_congr rfl fun s _ => ?_
  rw [h s.val s.isLt]
  refine Finset.sum_congr rfl fun r _ => congrArg f (Fin.ext ?_)
  show r.val + 2048 * s.val = 2048 * s.val + r.val
  omega

end Cert.Prod

end
-- ==== Proof.Prod.DownDw.lean ====
module

public import proofs.«01_k».proof.Defs
public import proofs.«01_k».proof.Proof.Gen.DownDw.Frame
public import proofs.«01_k».proof.Proof.Gen.DownDwIdeal.Value
public import proofs.«01_k».proof.Proof.Gen.DownDwRefIdeal.Run
public import proofs.«01_k».proof.Proof.Prod.Blocks
public import Idealize.ShloMosaic.Lib.Pipeline.ValueKit
public import Idealize.ShloMosaic.Lib.Pointwise
public import Idealize.ShloMosaic.Lib.StableHlo.RunRead
public import Idealize.ShloMosaic.Lib.Quiescent

/-! The gradient of the down projection in its weight: every entry is the sum over all rows of the hidden value times the
cotangent. The kernel adds it up over eight blocks of rows, kept in its scratch. -/

@[expose] public section

set_option maxRecDepth 16384

noncomputable section

namespace Cert.DownDwIdeal.Prod

open Cert.DownDwIdeal.Gen Cert.DownDwIdeal.Value
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x2816, .f32⟩ : BufTy).Contents (Elt Ideal) := m ((c : Thread nD τ).loc main_arg0)
abbrev arg2 (c : Dev nD) : (⟨S1x16384x1024, .f32⟩ : BufTy).Contents (Elt Ideal) := m ((c : Thread nD τ).loc main_arg2)

/-- The gradient at hidden channel `i` and channel `j`. -/
def dw (a : (⟨S1x16384x2816, .f32⟩ : BufTy).Contents (Elt Ideal)) (ct : (⟨S1x16384x1024, .f32⟩ : BufTy).Contents (Elt Ideal)) (i : Fin 2816) (j : Fin 1024) : EReal :=
  ∑ T : Fin 16384, a (ix3 0 T i) * ct (ix3 0 T j)

/-- The hidden values as the region finds them, -/
def arr0 (c : Dev nD) : FVec Ideal S16384x2816 .bf16 := V m c main_v1
/-- and the cotangent. -/
def arr1 (c : Dev nD) : FVec Ideal S16384x1024 .bf16 := V m c main_v3

theorem arr0_apply (c : Dev nD) (T : Fin 16384) (i : Fin 2816) : arr0 m c (ix2 T i) = arg0 m c (ix3 0 T i) := by
  have e : arr0 m c = truncf .bf16 (shapeCast S16384x2816 (arg0 m c) shapeCasts_S1x16384x2816_S16384x2816) bitsLt_bf16_f32 := by
    unfold arr0 V
    after_reads_simp
    rfl
  rw [e]
  pointwise

theorem arr1_apply (c : Dev nD) (T : Fin 16384) (j : Fin 1024) : arr1 m c (ix2 T j) = arg2 m c (ix3 0 T j) := by
  have e : arr1 m c = truncf .bf16 (shapeCast S16384x1024 (arg2 m c) shapeCasts_S1x16384x1024_S16384x1024) bitsLt_bf16_f32 := by
    unfold arr1 V
    after_reads_simp
    rfl
  rw [e]
  pointwise

theorem idx_val : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

theorem lt_16 (t : Fin cfg0.N) : t.val < 16 := lt_of_lt_of_eq t.isLt (show cfg0.N = 16 from N_0)

/-- The row of the whole array that is row `r` of the blocks of point `t`, -/
def rowOf (t : Fin cfg0.N) (r : Fin 2048) : Fin 16384 := ⟨2048 * (t.val % 8) + r.val, by omega⟩
/-- and the hidden channel that is column `i`. -/
def colOf (t : Fin cfg0.N) (i : Fin 1408) : Fin 2816 := ⟨1408 * (t.val / 8) + i.val, by have := lt_16 t; omega⟩

theorem emb0 (t : Fin cfg0.N) (r : Fin 2048) (i : Fin 1408) : ((cfg0.win 0).blk t).view.emb (ix2 r i) = ix2 (rowOf t r) (colOf t i) := by blk_ext [idx_val t, rowOf, colOf]
theorem emb1 (t : Fin cfg0.N) (r : Fin 2048) (j : Fin 1024) : ((cfg0.win 1).blk t).view.emb (ix2 r j) = ix2 (rowOf t r) j := by blk_ext [idx_val t, rowOf]
theorem emb2 (t : Fin cfg0.N) (i : Fin 1408) (j : Fin 1024) : (win0_2.blk t).view.emb (ix2 i j) = ix2 (colOf t i) j := by blk_ext [idx_val t, colOf]

theorem blk0_apply (c : Dev nD) (t : Fin cfg0.N) (r : Fin 2048) (i : Fin 1408) : iblk m c 0 t (ix2 r i) = arr0 m c (ix2 (rowOf t r) (colOf t i)) :=
  congrArg (arr0 m c) (emb0 t r i)
theorem blk1_apply (c : Dev nD) (t : Fin cfg0.N) (r : Fin 2048) (j : Fin 1024) : iblk m c 1 t (ix2 r j) = arr1 m c (ix2 (rowOf t r) j) :=
  congrArg (arr1 m c) (emb1 t r j)

theorem pay_apply (x0 : FVec Ideal S2048x1408 .bf16) (x1 : FVec Ideal S2048x1024 .bf16) (i : Fin 1408) (j : Fin 1024) :
    k0_pay1 (F := Ideal) x0 x1 (ix2 i j) = ∑ r : Fin 2048, x0 (ix2 r i) * x1 (ix2 r j) := by
  unfold k0_pay1
  pointwise

theorem hz2 : (![0, 0] : Fin 2 → Nat) = fun _ => 0 := funext fun a => by fin_cases a <;> rfl

/-! What the body leaves in its scratch and in the output's block, in each of its three cases. -/

section Cases
variable (c : Dev nD) (i : grid0.Coords) (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x0 : Vec Ideal S2048x1408 .bf16) (x1 : Vec Ideal S2048x1024 .bf16) (xs : Vec Ideal S1408x1024 .f32)

theorem scratch_A (hc0 : cond0_0 i) (hc1 : ¬cond0_1 i) (hc2 : ¬cond0_2 i) :
    sout0_A_0 c i a3 h3 a4 h4 a5 h5 a6 h6 hc0 hc1 hc2 x0 x1 = k0_pay1 (F := Ideal) x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1408) hz2, View.ld_unit_zero (S := S2048x1024) hz2, shapeCast_self]

theorem scratch_B (hc0 : ¬cond0_0 i) (hc1 : cond0_1 i) (hc2 : ¬cond0_2 i) :
    sout0_B_0 c i a3 h3 a4 h4 a5 h5 a6 h6 hc0 hc1 hc2 x0 x1 xs = addf (F := Ideal) (φ := .f32) xs (k0_pay1 (F := Ideal) x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S2048x1408) hz2, View.ld_unit_zero (S := S2048x1024) hz2,
    View.ld_unit_zero (S := S1408x1024) hz2, shapeCast_self]

theorem scratch_C (hc0 : ¬cond0_0 i) (hc1 : cond0_1 i) (hc2 : cond0_2 i) :
    sout0_C_0 c i a3 h3 a4 h4 a5 h5 a6 h6 hc0 hc1 hc2 x0 x1 xs = addf (F := Ideal) (φ := .f32) xs (k0_pay1 (F := Ideal) x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz2]
  unfold k0_pay3
  simp only [View.readAt_eq_ld, h3.read_unread, h4.read_unread, h6.read_unread, View.ld_unit_zero (S := S2048x1408) hz2, View.ld_unit_zero (S := S2048x1024) hz2,
    View.ld_unit_zero (S := S1408x1024) hz2, shapeCast_self]

theorem out_C (hc0 : ¬cond0_0 i) (hc1 : cond0_1 i) (hc2 : cond0_2 i) :
    out0_C_2 c i a3 h3 a4 h4 a5 h5 a6 h6 hc0 hc1 hc2 x0 x1 xs = k0_pay4 (F := Ideal) (addf (F := Ideal) (φ := .f32) xs (k0_pay1 (F := Ideal) x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1408x1024) _ hz2]
  unfold k0_pay3
  simp only [View.readAt_eq_ld, h3.read_unread, h4.read_unread, h6.read_unread, View.ld_unit_zero (S := S2048x1408) hz2, View.ld_unit_zero (S := S2048x1024) hz2,
    View.ld_unit_zero (S := S1408x1024) hz2, shapeCast_self]

end Cases

/-- The addend of point `n` at a place of the block. -/
def addend (c : Dev nD) (n : ℕ) (i : Fin 1408) (j : Fin 1024) : EReal :=
  if h : n < cfg0.N then ∑ r : Fin 2048, arr0 m c (ix2 (rowOf ⟨n, h⟩ r) (colOf ⟨n, h⟩ i)) * arr1 m c (ix2 (rowOf ⟨n, h⟩ r) j) else 0

theorem addend_eq (c : Dev nD) (t : Fin cfg0.N) (i : Fin 1408) (j : Fin 1024) : k0_pay1 (F := Ideal) (iblk m c 0 t) (iblk m c 1 t) (ix2 i j) = addend m c t.val i j := by
  unfold addend
  rw [pay_apply, dif_pos t.isLt]
  refine Finset.sum_congr rfl fun r _ => ?_
  rw [blk0_apply, blk1_apply]

/-- The scratch after a point: the addends since the last reset. -/
theorem scratch_at (c : Dev nD) (t : Fin cfg0.N) (i : Fin 1408) (j : Fin 1024) :
    (outsAt0 m c t.val t.isLt).2 (ix2 i j) = ∑ s ∈ Finset.range (t.val % 8 + 1), addend m c (8 * (t.val / 8) + s) i j := by
  obtain ⟨n, hn⟩ := t
  induction n with
  | zero =>
    rw [outsAt0_A m c ⟨0, hn⟩ rfl (by dsimp only; omega) (by dsimp only; omega)]
    dsimp only
    rw [scratch_A, addend_eq]
    simp
  | succ n ih =>
    have hN := lt_16 ⟨n + 1, hn⟩
    by_cases h0 : (n + 1) % 8 = 0
    · rw [outsAt0_A m c ⟨n + 1, hn⟩ h0 (by dsimp only; omega) (by dsimp only; omega)]
      dsimp only
      rw [scratch_A, addend_eq, h0, Finset.sum_range_one, show 8 * ((n + 1) / 8) + 0 = n + 1 by omega]
    · have e1 : (n + 1) % 8 = n % 8 + 1 := by omega
      have e2 : (n + 1) / 8 = n / 8 := by omega
      have e3 : 8 * (n / 8) + (n % 8 + 1) = n + 1 := by omega
      have ih := ih (Nat.lt_of_succ_lt hn)
      have goal : addf (F := Ideal) (φ := .f32) (outsAt0 m c n (Nat.lt_of_succ_lt hn)).2 (k0_pay1 (F := Ideal) (iblk m c 0 ⟨n + 1, hn⟩) (iblk m c 1 ⟨n + 1, hn⟩)) (ix2 i j)
          = ∑ s ∈ Finset.range ((n + 1) % 8 + 1), addend m c (8 * ((n + 1) / 8) + s) i j := by
        rw [e1, e2, Finset.sum_range_succ, ← ih, e3]
        exact congrArg (_ + ·) (addend_eq m c ⟨n + 1, hn⟩ i j)
      by_cases h2 : (n + 1) % 8 = 7
      · rw [outsAt0_C m c ⟨n + 1, hn⟩ h0 (by dsimp only; omega) h2]
        dsimp only
        rw [scratch_C]
        exact goal
      · rw [outsAt0_B m c ⟨n + 1, hn⟩ h0 (by dsimp only; omega) h2]
        dsimp only
        rw [scratch_B]
        exact goal

/-- The output's block at the last point of its run: what the scratch holds there. -/
theorem out_at (c : Dev nD) (t : Fin cfg0.N) (h : t.val % 8 = 7) (y : S1408x1024.Idx) : (outsAt0 m c t.val t.isLt).1 y = (outsAt0 m c t.val t.isLt).2 y := by
  rw [outsAt0_C m c t (by omega) (by omega) h]
  dsimp only
  rw [out_C, scratch_C]
  rfl

theorem final (c : Dev nD) : (dats m 0 c).arrAt 2 cfg0.N = fun y => dw (arg0 m c) (arg2 m c) (y 0) (y 1) := by
  refine (dats m 0 c).arrAt_eq_of_covers 2 _ (by decide +kernel) fun t hf y => ?_
  have h7 : t.val % 8 = 7 := (flush0_2 t).mp hf
  blk_simp
  rw [after0_2, out_at m c t h7]
  obtain ⟨i, j, rfl⟩ : ∃ (i : Fin 1408) (j : Fin 1024), y = ix2 i j := ⟨y 0, y 1, eq_ix2 y⟩
  rw [emb2, scratch_at, h7]
  refine (Cert.Prod.sum_blocks _ _ fun s hs => ?_).symm
  have hN := lt_16 t
  have hb : 8 * (t.val / 8) + s < cfg0.N := lt_of_lt_of_eq (by omega) (show cfg0.N = 16 from N_0).symm
  unfold addend
  rw [dif_pos hb]
  refine Finset.sum_congr rfl fun r _ => ?_
  rw [arr0_apply, arr1_apply]
  have e : rowOf ⟨8 * (t.val / 8) + s, hb⟩ r = Cert.Prod.row s hs r := Fin.ext (by show 2048 * ((8 * (t.val / 8) + s) % 8) + r.val = 2048 * s + r.val; omega)
  have e' : colOf ⟨8 * (t.val / 8) + s, hb⟩ i = colOf t i := Fin.ext (by show 1408 * ((8 * (t.val / 8) + s) / 8) + i.val = 1408 * (t.val / 8) + i.val; omega)
  rw [e, e']
  rfl

end Cert.DownDwIdeal.Prod

namespace Cert.DownDwRefIdeal.Prod

open Idealize.ShloMosaic
open Cert.DownDwRefIdeal Cert.DownDwRefIdeal.Gen

theorem result (a : (⟨S1x16384x2816, .f32⟩ : BufTy).Contents (Elt Ideal)) (ct : (⟨S1x16384x1024, .f32⟩ : BufTy).Contents (Elt Ideal)) :
    truncf (F := Ideal) .bf16 (transpose S2816x1024 [1, 0] (Host.dotGeneral (F := Ideal) (φ₁ := .f32) (φ₂ := .f32) dot_S1x16384x1024_S1x16384x2816_S1024x2816_01_01_2_2_n_n none ct a) transposes_S1024x2816_S2816x1024_1_0) bitsLt_bf16_f32
      = fun y => Cert.DownDwIdeal.Prod.dw a ct (y 0) (y 1) := by
  funext y
  obtain ⟨i, j, rfl⟩ : ∃ (i : Fin 2816) (j : Fin 1024), y = ix2 i j := ⟨y 0, y 1, eq_ix2 y⟩
  unfold Cert.DownDwIdeal.Prod.dw
  pointwise
  rw [Fin.sum_univ_one]
  exact Finset.sum_congr rfl fun T _ => EReal.mul_comm _ _

end Cert.DownDwRefIdeal.Prod

namespace Cert.DownDw.Claims

open Idealize.ShloMosaic Idealize.ShloMosaic.TcCoe Idealize.SL.Sem

theorem frame_kernel : Cert.quiescent_DownDw := fun m ρ _ => Cert.DownDw.Gen.frame m ρ
theorem frame_ideal : Cert.quiescent_DownDwIdeal := fun m ρ _ => Cert.DownDwIdeal.Gen.frame m ρ
theorem frame_reference : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem algebraic : Cert.algebraic_DownDwIdeal_DownDwRefIdeal := by
  intro m ρ m' ρ' _ hagree
  refine ⟨fun c => fun y => Cert.DownDwIdeal.Prod.dw (Cert.DownDwIdeal.Prod.arg0 m c) (Cert.DownDwIdeal.Prod.arg2 m c) (y 0) (y 1), ?_, ?_⟩
  · refine (θ_run Cert.DownDwIdeal.defs _ _).mono (fun r h c => ?_) (Cert.DownDwIdeal.Value.run_blocks (F := Ideal) m ρ)
    exact ⟨(h c).1.trans (Cert.DownDwIdeal.Prod.final m c), (h c).2⟩
  · refine (θ_run Cert.DownDwRefIdeal.defs _ _).mono (fun r h c => ?_) (Cert.DownDwRefIdeal.Value.run (F := Ideal) m' ρ')
    obtain ⟨a0, _, a2⟩ := hagree c
    refine ⟨(h c).1.trans ?_, (h c).2⟩
    rw [a0, a2]
    exact Cert.DownDwRefIdeal.Prod.result _ _

end Cert.DownDw.Claims

end
-- ==== Proof.Prod.UpDw.lean ====
module

public import proofs.«01_k».proof.Defs
public import proofs.«01_k».proof.Proof.Gen.UpDw.Frame
public import proofs.«01_k».proof.Proof.Gen.UpDwIdeal.Value
public import proofs.«01_k».proof.Proof.Gen.UpDwRefIdeal.Run
public import proofs.«01_k».proof.Proof.Prod.Blocks
public import Idealize.ShloMosaic.Lib.Pipeline.ValueKit
public import Idealize.ShloMosaic.Lib.Pointwise
public import Idealize.ShloMosaic.Lib.StableHlo.RunRead
public import Idealize.ShloMosaic.Lib.Quiescent

/-! The gradient of the up projection in its weight, cut into four blocks of columns: every entry is the sum over all rows of the
input times the cotangent. The kernel adds it up over eight blocks of rows, kept in its scratch. -/

@[expose] public section

set_option maxRecDepth 16384

noncomputable section

namespace Cert.UpDwIdeal.Prod

open Cert.UpDwIdeal.Gen Cert.UpDwIdeal.Value
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg2 (c : Dev nD) : (⟨S1x16384x5632, .f32⟩ : BufTy).Contents (Elt Ideal) := m ((c : Thread nD τ).loc main_arg2)

/-- Column `j` of block `n` among all columns. -/
def col (n : Fin 4) (j : Fin 1408) : Fin 5632 := ⟨n.val * 1408 + j.val, by omega⟩

/-- The gradient at channel `i` and column `j` of block `n`. -/
def dw (a : (⟨S1x16384x1024, .f32⟩ : BufTy).Contents (Elt Ideal)) (ct : (⟨S1x16384x5632, .f32⟩ : BufTy).Contents (Elt Ideal)) (n : Fin 4) (i : Fin 1024) (j : Fin 1408) : EReal :=
  ∑ T : Fin 16384, a (ix3 0 T i) * ct (ix3 0 T (col n j))

/-- The input as the region finds them, -/
def arr0 (c : Dev nD) : FVec Ideal S16384x1024 .bf16 := V m c main_v1
/-- and the cotangent. -/
def arr1 (c : Dev nD) : FVec Ideal S16384x5632 .bf16 := V m c main_v3

theorem arr0_apply (c : Dev nD) (T : Fin 16384) (i : Fin 1024) : arr0 m c (ix2 T i) = arg0 m c (ix3 0 T i) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (T : Fin 16384) (j : Fin 5632) : arr1 m c (ix2 T j) = arg2 m c (ix3 0 T j) := by
  have e : arr1 m c = truncf .bf16 (shapeCast S16384x5632 (arg2 m c) shapeCasts_S1x16384x5632_S16384x5632) bitsLt_bf16_f32 := by
    unfold arr1 V
    after_reads_simp
    rfl
  rw [e]
  pointwise

theorem idx_val : ∀ t : Fin cfg0.N, win0_0.index t = ![t.val % 8, 0] ∧ win0_1.index t = ![t.val % 8, t.val / 8] ∧ win0_2.index t = ![t.val / 8, 0, 0] :=
  (by decide +kernel : ∀ t : Fin grid0.N, win0_0.index t = ![t.val % 8, 0] ∧ win0_1.index t = ![t.val % 8, t.val / 8] ∧ win0_2.index t = ![t.val / 8, 0, 0])

theorem lt_32 (t : Fin cfg0.N) : t.val < 32 := lt_of_lt_of_eq t.isLt (show cfg0.N = 32 from N_0)

/-- The row of the whole array that is row `r` of the blocks of point `t`, -/
def rowOf (t : Fin cfg0.N) (r : Fin 2048) : Fin 16384 := ⟨2048 * (t.val % 8) + r.val, by omega⟩
/-- and the point's block of columns. -/
def blkOf (t : Fin cfg0.N) : Fin 4 := ⟨t.val / 8, by have := lt_32 t; omega⟩

theorem emb0 (t : Fin cfg0.N) (r : Fin 2048) (i : Fin 1024) : ((cfg0.win 0).blk t).view.emb (ix2 r i) = ix2 (rowOf t r) i := by blk_ext [idx_val t, rowOf]
theorem emb1 (t : Fin cfg0.N) (r : Fin 2048) (j : Fin 1408) : ((cfg0.win 1).blk t).view.emb (ix2 r j) = ix2 (rowOf t r) (col (blkOf t) j) := by blk_ext [idx_val t, rowOf, col, blkOf]
theorem emb2 (t : Fin cfg0.N) (i : Fin 1024) (j : Fin 1408) : (win0_2.blk t).view.emb (ix3 0 i j) = ix3 (blkOf t) i j := by blk_ext [idx_val t, blkOf]

theorem blk0_apply (c : Dev nD) (t : Fin cfg0.N) (r : Fin 2048) (i : Fin 1024) : iblk m c 0 t (ix2 r i) = arr0 m c (ix2 (rowOf t r) i) :=
  congrArg (arr0 m c) (emb0 t r i)
theorem blk1_apply (c : Dev nD) (t : Fin cfg0.N) (r : Fin 2048) (j : Fin 1408) : iblk m c 1 t (ix2 r j) = arr1 m c (ix2 (rowOf t r) (col (blkOf t) j)) :=
  congrArg (arr1 m c) (emb1 t r j)

theorem pay_apply (x0 : FVec Ideal S2048x1024 .bf16) (x1 : FVec Ideal S2048x1408 .bf16) (i : Fin 1024) (j : Fin 1408) :
    k0_pay1 (F := Ideal) x0 x1 (ix2 i j) = ∑ r : Fin 2048, x0 (ix2 r i) * x1 (ix2 r j) := by
  unfold k0_pay1
  pointwise

theorem flush_pay (x : FVec Ideal S1024x1408 .f32) (i : Fin 1024) (j : Fin 1408) : k0_pay4 (F := Ideal) x (ix3 0 i j) = x (ix2 i j) := by
  unfold k0_pay4
  pointwise

theorem hz2 : (![0, 0] : Fin 2 → Nat) = fun _ => 0 := funext fun a => by fin_cases a <;> rfl
theorem hz3 : (![0, 0, 0] : Fin 3 → Nat) = fun _ => 0 := funext fun a => by fin_cases a <;> rfl

/-! What the body leaves in its scratch and in the output's block, in each of its three cases. -/

section Cases
variable (c : Dev nD) (i : grid0.Coords) (a3 : Memref sig .tc .vmem S2048x1024 .bf16) (h3 : a3.IsWhole) (a4 : Memref sig .tc .vmem S2048x1408 .bf16) (h4 : a4.IsWhole)
  (a5 : Memref sig .tc .vmem S1x1024x1408 .bf16) (h5 : a5.IsWhole) (a6 : Memref sig .tc .vmem S1024x1408 .f32) (h6 : a6.IsWhole)
  (x0 : Vec Ideal S2048x1024 .bf16) (x1 : Vec Ideal S2048x1408 .bf16) (xs : Vec Ideal S1024x1408 .f32)

theorem scratch_A (hc0 : cond0_0 i) (hc1 : ¬cond0_1 i) (hc2 : ¬cond0_2 i) :
    sout0_A_0 c i a3 h3 a4 h4 a5 h5 a6 h6 hc0 hc1 hc2 x0 x1 = k0_pay1 (F := Ideal) x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x1408) hz2, shapeCast_self]

theorem scratch_B (hc0 : ¬cond0_0 i) (hc1 : cond0_1 i) (hc2 : ¬cond0_2 i) :
    sout0_B_0 c i a3 h3 a4 h4 a5 h5 a6 h6 hc0 hc1 hc2 x0 x1 xs = addf (F := Ideal) (φ := .f32) xs (k0_pay1 (F := Ideal) x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S2048x1024) hz2, View.ld_unit_zero (S := S2048x1408) hz2,
    View.ld_unit_zero (S := S1024x1408) hz2, shapeCast_self]

theorem scratch_C (hc0 : ¬cond0_0 i) (hc1 : cond0_1 i) (hc2 : cond0_2 i) :
    sout0_C_0 c i a3 h3 a4 h4 a5 h5 a6 h6 hc0 hc1 hc2 x0 x1 xs = addf (F := Ideal) (φ := .f32) xs (k0_pay1 (F := Ideal) x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz2]
  unfold k0_pay3
  simp only [View.readAt_eq_ld, h3.read_unread, h4.read_unread, h6.read_unread, View.ld_unit_zero (S := S2048x1024) hz2, View.ld_unit_zero (S := S2048x1408) hz2,
    View.ld_unit_zero (S := S1024x1408) hz2, shapeCast_self]

theorem out_C (hc0 : ¬cond0_0 i) (hc1 : cond0_1 i) (hc2 : cond0_2 i) :
    out0_C_2 c i a3 h3 a4 h4 a5 h5 a6 h6 hc0 hc1 hc2 x0 x1 xs = k0_pay4 (F := Ideal) (addf (F := Ideal) (φ := .f32) xs (k0_pay1 (F := Ideal) x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz3, View.readCov_unit_zero (S := S1024x1408) _ hz2]
  unfold k0_pay3
  simp only [View.readAt_eq_ld, h3.read_unread, h4.read_unread, h6.read_unread, View.ld_unit_zero (S := S2048x1024) hz2, View.ld_unit_zero (S := S2048x1408) hz2,
    View.ld_unit_zero (S := S1024x1408) hz2, shapeCast_self]

end Cases

/-- The addend of point `n` at a place of the block. -/
def addend (c : Dev nD) (n : ℕ) (i : Fin 1024) (j : Fin 1408) : EReal :=
  if h : n < cfg0.N then ∑ r : Fin 2048, arr0 m c (ix2 (rowOf ⟨n, h⟩ r) i) * arr1 m c (ix2 (rowOf ⟨n, h⟩ r) (col (blkOf ⟨n, h⟩) j)) else 0

theorem addend_eq (c : Dev nD) (t : Fin cfg0.N) (i : Fin 1024) (j : Fin 1408) : k0_pay1 (F := Ideal) (iblk m c 0 t) (iblk m c 1 t) (ix2 i j) = addend m c t.val i j := by
  unfold addend
  rw [pay_apply, dif_pos t.isLt]
  refine Finset.sum_congr rfl fun r _ => ?_
  rw [blk0_apply, blk1_apply]

/-- The scratch after a point: the addends since the last reset. -/
theorem scratch_at (c : Dev nD) (t : Fin cfg0.N) (i : Fin 1024) (j : Fin 1408) :
    (outsAt0 m c t.val t.isLt).2 (ix2 i j) = ∑ s ∈ Finset.range (t.val % 8 + 1), addend m c (8 * (t.val / 8) + s) i j := by
  obtain ⟨n, hn⟩ := t
  induction n with
  | zero =>
    rw [outsAt0_A m c ⟨0, hn⟩ rfl (by dsimp only; omega) (by dsimp only; omega)]
    dsimp only
    rw [scratch_A, addend_eq]
    simp
  | succ n ih =>
    have hN := lt_32 ⟨n + 1, hn⟩
    by_cases h0 : (n + 1) % 8 = 0
    · rw [outsAt0_A m c ⟨n + 1, hn⟩ h0 (by dsimp only; omega) (by dsimp only; omega)]
      dsimp only
      rw [scratch_A, addend_eq, h0, Finset.sum_range_one, show 8 * ((n + 1) / 8) + 0 = n + 1 by omega]
    · have e1 : (n + 1) % 8 = n % 8 + 1 := by omega
      have e2 : (n + 1) / 8 = n / 8 := by omega
      have e3 : 8 * (n / 8) + (n % 8 + 1) = n + 1 := by omega
      have ih := ih (Nat.lt_of_succ_lt hn)
      have goal : addf (F := Ideal) (φ := .f32) (outsAt0 m c n (Nat.lt_of_succ_lt hn)).2 (k0_pay1 (F := Ideal) (iblk m c 0 ⟨n + 1, hn⟩) (iblk m c 1 ⟨n + 1, hn⟩)) (ix2 i j)
          = ∑ s ∈ Finset.range ((n + 1) % 8 + 1), addend m c (8 * ((n + 1) / 8) + s) i j := by
        rw [e1, e2, Finset.sum_range_succ, ← ih, e3]
        exact congrArg (_ + ·) (addend_eq m c ⟨n + 1, hn⟩ i j)
      by_cases h2 : (n + 1) % 8 = 7
      · rw [outsAt0_C m c ⟨n + 1, hn⟩ h0 (by dsimp only; omega) h2]
        dsimp only
        rw [scratch_C]
        exact goal
      · rw [outsAt0_B m c ⟨n + 1, hn⟩ h0 (by dsimp only; omega) h2]
        dsimp only
        rw [scratch_B]
        exact goal

/-- The output's block at the last point of its run: what the scratch holds there. -/
theorem out_at (c : Dev nD) (t : Fin cfg0.N) (h : t.val % 8 = 7) (i : Fin 1024) (j : Fin 1408) : (outsAt0 m c t.val t.isLt).1 (ix3 0 i j) = (outsAt0 m c t.val t.isLt).2 (ix2 i j) := by
  rw [outsAt0_C m c t (by omega) (by omega) h]
  dsimp only
  rw [out_C, scratch_C, flush_pay]

theorem final (c : Dev nD) : (dats m 0 c).arrAt 2 cfg0.N = fun y => dw (arg0 m c) (arg2 m c) (y 0) (y 1) (y 2) := by
  refine (dats m 0 c).arrAt_eq_of_covers 2 _ (by decide +kernel) fun t hf y => ?_
  have h7 : t.val % 8 = 7 := (flush0_2 t).mp hf
  blk_simp
  rw [after0_2]
  obtain ⟨z, i, j, rfl⟩ : ∃ (z : Fin 1) (i : Fin 1024) (j : Fin 1408), y = ix3 z i j := ⟨y 0, y 1, y 2, eq_ix3 y⟩
  obtain rfl : z = 0 := Subsingleton.elim _ _
  rw [out_at m c t h7, emb2, scratch_at, h7]
  refine (Cert.Prod.sum_blocks _ _ fun s hs => ?_).symm
  have hN := lt_32 t
  have hb : 8 * (t.val / 8) + s < cfg0.N := lt_of_lt_of_eq (by omega) (show cfg0.N = 32 from N_0).symm
  unfold addend
  rw [dif_pos hb]
  refine Finset.sum_congr rfl fun r _ => ?_
  rw [arr0_apply, arr1_apply]
  have e : rowOf ⟨8 * (t.val / 8) + s, hb⟩ r = Cert.Prod.row s hs r := Fin.ext (by show 2048 * ((8 * (t.val / 8) + s) % 8) + r.val = 2048 * s + r.val; omega)
  have e' : blkOf ⟨8 * (t.val / 8) + s, hb⟩ = blkOf t := Fin.ext (by show (8 * (t.val / 8) + s) / 8 = t.val / 8; omega)
  rw [e, e']
  rfl

end Cert.UpDwIdeal.Prod

namespace Cert.UpDwRefIdeal.Prod

open Idealize.ShloMosaic
open Cert.UpDwRefIdeal Cert.UpDwRefIdeal.Gen

theorem result (a : (⟨S1x16384x1024, .f32⟩ : BufTy).Contents (Elt Ideal)) (ct : (⟨S1x16384x5632, .f32⟩ : BufTy).Contents (Elt Ideal)) :
    truncf (F := Ideal) .bf16 (transpose S4x1024x1408 [1, 0, 2] (shapeCast S1024x4x1408 (transpose S1024x5632 [1, 0] (Host.dotGeneral (F := Ideal) (φ₁ := .f32) (φ₂ := .f32) dot_S1x16384x5632_S1x16384x1024_S5632x1024_01_01_2_2_n_n none ct a) transposes_S5632x1024_S1024x5632_1_0) shapeCasts_S1024x5632_S1024x4x1408) transposes_S1024x4x1408_S4x1024x1408_1_0_2) bitsLt_bf16_f32
      = fun y => Cert.UpDwIdeal.Prod.dw a ct (y 0) (y 1) (y 2) := by
  funext y
  obtain ⟨n, i, j, rfl⟩ : ∃ (n : Fin 4) (i : Fin 1024) (j : Fin 1408), y = ix3 n i j := ⟨y 0, y 1, y 2, eq_ix3 y⟩
  unfold Cert.UpDwIdeal.Prod.dw Cert.UpDwIdeal.Prod.col
  pointwise
  rw [Fin.sum_univ_one]
  exact Finset.sum_congr rfl fun T _ => EReal.mul_comm _ _

end Cert.UpDwRefIdeal.Prod

namespace Cert.UpDw.Claims

open Idealize.ShloMosaic Idealize.ShloMosaic.TcCoe Idealize.SL.Sem

theorem frame_kernel : Cert.quiescent_UpDw := fun m ρ _ => Cert.UpDw.Gen.frame m ρ
theorem frame_ideal : Cert.quiescent_UpDwIdeal := fun m ρ _ => Cert.UpDwIdeal.Gen.frame m ρ
theorem frame_reference : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

theorem algebraic : Cert.algebraic_UpDwIdeal_UpDwRefIdeal := by
  intro m ρ m' ρ' _ hagree
  refine ⟨fun c => fun y => Cert.UpDwIdeal.Prod.dw (Cert.UpDwIdeal.Prod.arg0 m c) (Cert.UpDwIdeal.Prod.arg2 m c) (y 0) (y 1) (y 2), ?_, ?_⟩
  · refine (θ_run Cert.UpDwIdeal.defs _ _).mono (fun r h c => ?_) (Cert.UpDwIdeal.Value.run_blocks (F := Ideal) m ρ)
    exact ⟨(h c).1.trans (Cert.UpDwIdeal.Prod.final m c), (h c).2⟩
  · refine (θ_run Cert.UpDwRefIdeal.defs _ _).mono (fun r h c => ?_) (Cert.UpDwRefIdeal.Value.run (F := Ideal) m' ρ')
    obtain ⟨a0, _, a2⟩ := hagree c
    refine ⟨(h c).1.trans ?_, (h c).2⟩
    rw [a0, a2]
    exact Cert.UpDwRefIdeal.Prod.result _ _

end Cert.UpDw.Claims

end
-- ==== Proof.Prod.UpDx.Run.lean ====
module

public import proofs.«01_k».proof.Proof.Gen.UpDxIdeal.Frame.Runs
public import proofs.«01_k».proof.Proof.Gen.UpDxIdeal.Skeleton
public import Idealize.ShloMosaic.Lib.Pipeline.Value
public import Idealize.ShloMosaic.Lib.Pipeline.ValueKit
public import Idealize.ShloMosaic.Lib.ValueIdx
public import Idealize.ShloMosaic.Lib.Pointwise

/-! The input gradient of the up projection: one run of its body, at the first point of the grid, where four copies bring
the weight into the scratch, and at any later point, where the scratch is as the point before left it. -/

@[expose] public section

set_option maxRecDepth 16384

noncomputable section

namespace Cert.UpDxIdeal.Prod

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four cells the copies signal, at zero. -/
abbrev cells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)

set_option maxHeartbeats 1000000 in
/-- The body at the first point, with the pieces it leaves in the result and in the scratch: each copy is lent its own band of columns of the scratch. -/
noncomputable def runFirst (c : Dev nD) (i : grid0.Coords) (arg1 : Memref sig .tc .vmem S512x5632 .bf16) (harg1 : arg1.IsWhole) (arg3 : Memref sig .tc .vmem S512x1024 .f32) (harg3 : arg3.IsWhole)
    (arg4 : Memref sig .tc .vmem S1024x5632 .bf16) (harg4 : arg4.IsWhole) (hc : cond0_0 i) (x0 : Vec F S512x5632 .bf16) (fh : HbBuf0 (F := F) c hbM0_0) :
    Σ' (L1 : List (View.Piece (Elt F) S512x1024 .f32)), { LS : List (View.Piece (Elt F) S1024x5632 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS) ∗ cells c ∗ hbPt0 c hbM0_0 fh ∗ (∃ W', owes (c : Thread nD τ) 0 W')) -∗ K ⟨⟩))
          ⊢ wp frame (wpE (defs₀ (F := F)) Variants.none c none) Set.univ (cc0_ffn_up_dx_0 i arg1 harg1 (Memref.whole main_v3) (Memref.isWhole_whole _) arg3 harg3 arg4 harg4 cc0_scratch1) K } := by
  refine ⟨?_, ?_, fun W K => ?run⟩
  case run =>
    simp only [cc0_ffn_up_dx_0_eq_skeleton]; unfold cc0_ffn_up_dx_0_skel
    simp only [k0_part1_eq_skeleton]
    unfold owns cells
    iintro ⟨⟨%f0, %hf0, H0⟩, ⟨%d1, %f1, -, H1⟩, ⟨%ds, %fs, -, HS⟩, ⟨Hq0, Hq1, Hq2, Hq3⟩, Hh, HW, Hk⟩
    obtain rfl := harg1.eq_unread hf0
    set_option sl_exec.dmaWindow true in set_option sl_exec.dmaWindowLent true in set_option sl_exec.dmaWindowSet true in sl_exec (disch := first | sl_exact hc)
    sl_step
    iapply Hk
    isplitl [H0]
    · iexists _; isplitr; · ipureintro; exact harg1.read_unread _
      iexact H0
    isplitl [H1]; · iexists _; iexact H1
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

set_option maxHeartbeats 1000000 in
/-- The body at a later point: the scratch is read and left alone. -/
noncomputable def runLater (c : Dev nD) (i : grid0.Coords) (arg1 : Memref sig .tc .vmem S512x5632 .bf16) (harg1 : arg1.IsWhole) (arg3 : Memref sig .tc .vmem S512x1024 .f32) (harg3 : arg3.IsWhole)
    (arg4 : Memref sig .tc .vmem S1024x5632 .bf16) (harg4 : arg4.IsWhole) (hc : ¬cond0_0 i) (x0 : Vec F S512x5632 .bf16) (xs : Vec F S1024x5632 .bf16) (fh : HbBuf0 (F := F) c hbM0_0) :
    Σ' (L1 : List (View.Piece (Elt F) S512x1024 .f32)), { LS : List (View.Piece (Elt F) S1024x5632 .bf16) //
      ∀ (W : Waits sig Unit) (K : PUnit → sProp 𝕄),
        iprop(owns (c : Thread nD τ) arg1 fullShare x0 ∗ (∃ d, owns (c : Thread nD τ) arg3 fullShare d) ∗ owns (c : Thread nD τ) arg4 fullShare xs ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ owns (c : Thread nD τ) arg4 fullShare xs ∗ cells c ∗ hbPt0 c hbM0_0 fh ∗ (∃ W', owes (c : Thread nD τ) 0 W')) -∗ K ⟨⟩))
          ⊢ wp frame (wpE (defs₀ (F := F)) Variants.none c none) Set.univ (cc0_ffn_up_dx_0 i arg1 harg1 (Memref.whole main_v3) (Memref.isWhole_whole _) arg3 harg3 arg4 harg4 cc0_scratch1) K } := by
  refine ⟨?_, [], fun W K => ?run⟩
  case run =>
    simp only [cc0_ffn_up_dx_0_eq_skeleton]; unfold cc0_ffn_up_dx_0_skel
    unfold owns cells
    iintro ⟨⟨%f0, %hf0, H0⟩, ⟨%d1, %f1, -, H1⟩, ⟨%fs, %hfs, HS⟩, ⟨Hq0, Hq1, Hq2, Hq3⟩, Hh, HW, Hk⟩
    obtain rfl := harg1.eq_unread hf0; obtain rfl := harg4.eq_unread hfs
    sl_exec (disch := first | sl_exact hc)
    sl_step
    iapply Hk
    isplitl [H0]
    · iexists _; isplitr; · ipureintro; exact harg1.read_unread _
      iexact H0
    isplitl [H1]; · iexists _; iexact H1
    isplitl [HS]
    · iexists _; isplitr; · ipureintro; exact harg4.read_unread _
      iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

theorem hz2 : (![0, 0] : Fin 2 → Nat) = fun _ => 0 := funext fun a => by fin_cases a <;> rfl

section
variable (c : Dev nD) (i : grid0.Coords) (a1 : Memref sig .tc .vmem S512x5632 .bf16) (h1 : a1.IsWhole) (a3 : Memref sig .tc .vmem S512x1024 .f32) (h3 : a3.IsWhole)
    (a4 : Memref sig .tc .vmem S1024x5632 .bf16) (h4 : a4.IsWhole) (x0 : Vec F S512x5632 .bf16) (xs : Vec F S1024x5632 .bf16) (fh : HbBuf0 (F := F) c hbM0_0)

theorem out_later (hc : ¬cond0_0 i) (f) :
    a3.view.read (Elt F) (a3.view.writes (Elt F) f (runLater c i a1 h1 a3 h3 a4 h4 hc x0 xs fh).1) = k0_pay1 x0 xs := by
  rw [View.read_writes_eq_canon _ _ _ (View.cover_of_tiledL (runLater c i a1 h1 a3 h3 a4 h4 hc x0 xs fh).1 S512x1024.size (by sl_kernel_rfl))]
  unfold runLater
  dsimp only
  rw [View.canon_unit_zero hz2]
  simp only [View.readAt_eq_ld, h1.read_unread, h4.read_unread, View.ld_unit_zero (S := S512x5632) hz2, View.ld_unit_zero (S := S1024x5632) hz2]

theorem out_first (hc : cond0_0 i) (f) :
    a3.view.read (Elt F) (a3.view.writes (Elt F) f (runFirst c i a1 h1 a3 h3 a4 h4 hc x0 fh).1) = k0_pay1 x0 (View.canon (runFirst c i a1 h1 a3 h3 a4 h4 hc x0 fh).2.1) := by
  rw [View.read_writes_eq_canon _ _ _ (View.cover_of_tiledL (runFirst c i a1 h1 a3 h3 a4 h4 hc x0 fh).1 S512x1024.size (by sl_kernel_rfl))]
  unfold runFirst
  dsimp only
  rw [View.canon_unit_zero hz2]
  sl_unfold_words
  simp only [View.readAt_eq_ld, h1.read_unread, View.ld_unit_zero (S := S512x5632) hz2]
  rw [View.readCov_eq_canon']
  exact congrArg (k0_pay1 x0) (View.ld_unit_zero (S := S1024x5632) hz2 _ _)

/-- The weight as the scratch holds it: column k·1408 + j is column j of group k of the buffer. -/
def staged (fh : HbBuf0 (F := F) c hbM0_0) : Vec F S1024x5632 .bf16 := fun y =>
  fh (ix4 ⟨0, by decide⟩ ⟨(y 1).val / 1408, by have := (y 1).isLt; change (y 1).val < 5632 at this; omega⟩ (y 0) ⟨(y 1).val % 1408, Nat.mod_lt _ (by decide)⟩)

/-- A copy's payload: group k of the buffer. -/
theorem band (k : ℕ) {off : Fin 4 → ℕ} {off' : Fin 2 → ℕ} (inb : ∀ a, off a + (![1, 1, 1024, 1408] : Fin 4 → ℕ) a ≤ S1x4x1024x1408.size a) (inb' : ∀ a, off' a + (![1024, 1408] : Fin 2 → ℕ) a ≤ S1024x5632.size a)
    (h : S1024x1408.numel = (Rect.unit (s := S1x4x1024x1408) off ![1, 1, 1024, 1408] inb).shape.numel) (ho : off = ![0, k, 0, 0] := by rfl) (ho' : off' = ![0, k * 1408] := by rfl) (x : S1024x1408.Idx) :
    ReadAs.same.apply (View.read (Elt F) (((View.whole main_v3).slice (Rect.unit (s := S1x4x1024x1408) off ![1, 1, 1024, 1408] inb)).reshape S1024x1408 h) fh) x
      = staged c fh ((Rect.unit (s := S1024x5632) off' ![1024, 1408] inb').emb x) := by
  subst ho ho'
  have hr : (x 0).val < 1024 := (x 0).isLt
  have hj : (x 1).val < 1408 := (x 1).isLt
  have hk : k + 1 ≤ 4 := inb 1
  have e : Shape.reshapeEquiv h x = (ix4 (⟨0, Nat.one_pos⟩ : Fin 1) (⟨0, Nat.one_pos⟩ : Fin 1) (⟨(x 0).val, hr⟩ : Fin 1024) (⟨(x 1).val, hj⟩ : Fin 1408) : (Rect.unit (s := S1x4x1024x1408) ![0, k, 0, 0] ![1, 1, 1024, 1408] inb).shape.Idx) := by
    apply Shape.reshapeEquiv_eq_of_rowMajor
    refine (Shape.rowMajor_val_four _).trans (Eq.trans ?_ (Shape.rowMajor_val_two _).symm)
    show ((0 * 1 + 0) * 1024 + (x 0).val) * 1408 + (x 1).val = (x 0).val * 1408 + (x 1).val
    omega
  show fh ((Rect.unit (s := S1x4x1024x1408) ![0, k, 0, 0] ![1, 1, 1024, 1408] inb).emb (Shape.reshapeEquiv h x)) = _
  rw [e]
  refine congrArg fh (funext fun a => Fin.ext ?_)
  match a with
  | 0 => rfl
  | 1 => show k + 1 * 0 = (k * 1408 + 1 * (x 1).val) / 1408; omega
  | 2 => show 0 + 1 * (x 0).val = 0 + 1 * (x 0).val; rfl
  | 3 => show 0 + 1 * (x 1).val = (k * 1408 + 1 * (x 1).val) % 1408; omega

theorem first_scratch (hc : cond0_0 i) : ∀ p ∈ (runFirst c i a1 h1 a3 h3 a4 h4 hc x0 fh).2.1, ∀ x : p.1.shape.Idx, p.2 x = staged c fh (p.1.emb x) := by
  unfold runFirst
  dsimp only
  sl_unfold_words
  simp only [List.forall_mem_cons, List.not_mem_nil, false_imp_iff, implies_true, and_true]
  exact ⟨band c fh 3 _ _ _, band c fh 2 _ _ _, band c fh 1 _ _ _, band c fh 0 _ _ _⟩

theorem first_cover (hc : cond0_0 i) : ∀ y : S1024x5632.Idx, ∃ p ∈ (runFirst c i a1 h1 a3 h3 a4 h4 hc x0 fh).2.1, y ∈ p.1.set := by
  unfold runFirst
  dsimp only
  intro y
  simp only [List.exists_mem_cons_iff, List.not_mem_nil, false_and, exists_false, or_false, Rect.mem_set_unit, Fin.forall_fin_two]
  have h0 : (y 0).val < 1024 := (y 0).isLt
  have h1 : (y 1).val < 5632 := (y 1).isLt
  simp
  omega

theorem first_canon (hc : cond0_0 i) : View.canon (runFirst c i a1 h1 a3 h3 a4 h4 hc x0 fh).2.1 = staged c fh :=
  funext fun y => View.canon_apply_of_pieces (Val := Elt F) (staged c fh) _ (first_scratch c i a1 h1 a3 h3 a4 h4 x0 fh hc) y (first_cover c i a1 h1 a3 h3 a4 h4 x0 fh hc y)

end

end Cert.UpDxIdeal.Prod

end
-- ==== Proof.Prod.UpDx.Launch.lean ====
module

public import proofs.«01_k».proof.Proof.Prod.UpDx.Run
public import Idealize.ShloMosaic.Lib.Claim
public import Idealize.ShloMosaic.Lib.Pipeline.Value
public import Idealize.ShloMosaic.Lib.Pipeline.ValueKit
public import Idealize.ShloMosaic.Lib.ValueIdx
public import Idealize.ShloMosaic.Lib.Pointwise

/-! The input gradient of the up projection: the call of the kernel, what each of its points leaves, and the frame. -/

@[expose] public section

set_option maxRecDepth 16384

noncomputable section

namespace Cert.UpDxIdeal.Prod

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the scratch holds from the first point on. -/
def weight (c : Dev nD) : Vec F S1024x5632 .bf16 := staged c (V m c main_v3)

/-- What holds between two points: before the first one, what the call begins with; afterwards the scratch holds the
weight. -/
def between (c : Dev nD) : ℕ → sProp 𝕄
  | 0 => Pipeline.ΦD osem0 spec0 H0 (V m) c
  | _ + 1 => iprop(owns (c : Thread nD τ) scM0_0 fullShare (weight m c) ∗ (∃ r, prngReg c r) ∗ cells c ∗ hbPt0 c hbM0_0 (V m c main_v3))

theorem between_pos (c : Dev nD) (n : ℕ) (h : n ≠ 0) :
    between m c n = iprop(owns (c : Thread nD τ) scM0_0 fullShare (weight m c) ∗ (∃ r, prngReg c r) ∗ cells c ∗ hbPt0 c hbM0_0 (V m c main_v3)) := by
  cases n with
  | zero => exact absurd rfl h
  | succ n => rfl

/-- What a point leaves in the block of the result: its rows of the cotangent times the weight. -/
def block (c : Dev nD) (t : Fin cfg0.N) : Vec F S512x1024 .f32 := k0_pay1 (iblk m c 0 t) (weight m c)

/-- The data of the call: the block it reads, the block it leaves, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => block m c t
  Φ t := between m c t.val
  q _ := fullShare
  owed _ := 0

theorem A_eq (c : Dev nD) (w : Fin cfg0.W) : (dats m 0 c).A w = V m c (Pipeline.arrRef spec0 w) := by
  dsimp only [dats]

theorem after_read (c : Dev nD) (t : Fin cfg0.N) : (dats m 0 c).after 0 t = iblk m c 0 t := by dsimp only [dats]
theorem after_result (c : Dev nD) (t : Fin cfg0.N) : (dats m 0 c).after 1 t = block m c t := by dsimp only [dats]

theorem before_read (c : Dev nD) (t : Fin cfg0.N) (d) : (dats m 0 c).before 0 t d = iblk m c 0 t :=
  before0_0_of m (dats m 0 c) (A_eq m c 0) (after_read m c) t d

/-- What a point begins with. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What it ends with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- Every point keeps to that: the first fills the scratch, the others find it filled. -/
theorem point (c : Dev nD) (t : Fin cfg0.N) :
    pre m c t ⊢ wp frame (wpE (defs₀ (F := F)) Variants.none c none) Set.univ (bodyAt0 t) (fun _ => post m c t) := by
  unfold pre post bodyAt0
  simp only [before_read]
  rw [show (dats m 0 c).Φ t.succ = between m c (t.val + 1) from rfl, between_pos m c _ (Nat.succ_ne_zero _),
    show (dats m 0 c).Φ t.castSucc = between m c t.val from rfl, after_read, after_result]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases hz : t.val = 0
  · have hc : cond0_0 (grid0.coords t) := (hcond0_0 t).mpr (by omega)
    rw [show between m c t.val = Pipeline.ΦD osem0 spec0 H0 (V m) c by rw [hz]; rfl, PhiD0_eq]
    iintro ⟨⟨HS, Hg, Hq, Hh⟩, ⟨%W, -, HW⟩, ⟨%d0, H0⟩, ⟨%d1, H1⟩⟩
    iapply ((runFirst c (grid0.coords t) (ms0_0 t) (hs0_0 t) (ms0_1 t) (hs0_1 t) scM0_0 (Memref.isWhole_whole _) hc (iblk m c 0 t) (V m c main_v3)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, ⟨%es, HS⟩, Hq, Hh, ⟨%W', HW'⟩⟩
    isplitl [HS Hg Hq Hh]
    · isplitl [HS]
      · unfold owns; iexists _; isplitr
        swap; · iexact HS
        ipureintro
        exact (View.read_writes_eq_canon _ _ _ (first_cover c _ _ _ _ _ _ _ _ _ hc)).trans (first_canon c _ _ _ _ _ _ _ _ _ hc)
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact (out_first c _ _ _ _ _ _ _ _ _ hc _).trans (congrArg (k0_pay1 (iblk m c 0 t)) (first_canon c _ _ _ _ _ _ _ _ _ hc))
  · have hc : ¬cond0_0 (grid0.coords t) := fun h => by have := (hcond0_0 t).mp h; omega
    rw [between_pos m c _ hz]
    iintro ⟨⟨HS, Hg, Hq, Hh⟩, ⟨%W, -, HW⟩, ⟨%d0, H0⟩, ⟨%d1, H1⟩⟩
    iapply ((runLater c (grid0.coords t) (ms0_0 t) (hs0_0 t) (ms0_1 t) (hs0_1 t) scM0_0 (Memref.isWhole_whole _) hc (iblk m c 0 t) (weight m c) (V m c main_v3)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact out_later c _ _ _ _ _ _ _ _ _ _ hc _

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem enter (c : Dev nD) : Pipeline.ΦD osem0 spec0 H0 (V m) c ⊢ (dats m 0 c).Φ 0 := by
  rw [show (dats m 0 c).Φ 0 = Pipeline.ΦD osem0 spec0 H0 (V m) c from rfl]

theorem leave (c : Dev nD) : (dats m 0 c).Φ (Fin.last cfg0.N) ⊢ Pipeline.ΦD osem0 spec0 H0 (V m) c := by
  rw [show (dats m 0 c).Φ (Fin.last cfg0.N) = between m c (Fin.last cfg0.N).val from rfl,
    between_pos m c _ (by rw [Fin.val_last]; have : cfg0.N = 32 := N_0; omega), PhiD0_eq]
  iintro ⟨HS, Hg, Hq, Hh⟩
  isplitl [HS]; · iexists _; iexact HS
  isplitl [Hg]; · iexact Hg
  isplitl [Hq]; · iexact Hq
  iexact Hh

set_option backward.isDefEq.respectTransparency.types false in
/-- Every execution ends, with each array of the call at what the data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The frame: every execution ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.UpDxIdeal.Prod

end
-- ==== Proof.Prod.UpDx.lean ====
module

public import proofs.«01_k».proof.Defs
public import proofs.«01_k».proof.Proof.Gen.UpDx
public import proofs.«01_k».proof.Proof.Gen.UpDxRefIdeal.Run
public import proofs.«01_k».proof.Proof.Gen.UpDxRefIdeal.Read
public import proofs.«01_k».proof.Proof.Prod.UpDx.Launch
public import Idealize.ShloMosaic.Lib.Pipeline.ValueKit
public import Idealize.ShloMosaic.Lib.Pointwise
public import Idealize.ShloMosaic.Lib.StableHlo.RunRead
public import Idealize.ShloMosaic.Lib.Quiescent

/-! The input gradient of the up projection: every entry is the sum over all columns of the cotangent times the weight. The kernel
copies the weight into its scratch in four bands of columns and multiplies each block of rows by it. -/

@[expose] public section

set_option maxRecDepth 16384

noncomputable section

namespace Cert.UpDxIdeal.Prod

open Cert.UpDxIdeal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S1024x5632, .f32⟩ : BufTy).Contents (Elt Ideal) := m ((c : Thread nD τ).loc main_arg1)
abbrev arg2 (c : Dev nD) : (⟨S1x16384x5632, .f32⟩ : BufTy).Contents (Elt Ideal) := m ((c : Thread nD τ).loc main_arg2)

/-- The gradient at row `T` and channel `i`. -/
def dx (w : (⟨S1024x5632, .f32⟩ : BufTy).Contents (Elt Ideal)) (ct : (⟨S1x16384x5632, .f32⟩ : BufTy).Contents (Elt Ideal)) (T : Fin 16384) (i : Fin 1024) : EReal :=
  ∑ k : Fin 5632, ct (ix3 0 T k) * w (ix2 i k)

/-- The cotangent as the region finds it, -/
def arr0 (c : Dev nD) : FVec Ideal S16384x5632 .bf16 := V m c main_v5
/-- and the weight, cut into four groups of columns. -/
def arrW (c : Dev nD) : FVec Ideal S1x4x1024x1408 .bf16 := V m c main_v3

theorem arr0_apply (c : Dev nD) (T : Fin 16384) (k : Fin 5632) : arr0 m c (ix2 T k) = arg2 m c (ix3 0 T k) := by
  have e : arr0 m c = truncf .bf16 (shapeCast S16384x5632 (arg2 m c) shapeCasts_S1x16384x5632_S16384x5632) bitsLt_bf16_f32 := by
    unfold arr0 V
    after_reads_simp
    rfl
  rw [e]
  pointwise

theorem arrW_apply (c : Dev nD) (n : Fin 4) (i : Fin 1024) (j : Fin 1408) (k : Fin 5632) (hk : k.val = n.val * 1408 + j.val) : arrW m c (ix4 0 n i j) = arg1 m c (ix2 i k) := by
  have e : arrW m c = truncf .bf16 (broadcastInDim S1x4x1024x1408 ![1, 2, 3] bcast_S4x1024x1408_S1x4x1024x1408_1_2_3 (transpose S4x1024x1408 [1, 0, 2] (shapeCast S1024x4x1408 (arg1 m c) shapeCasts_S1024x5632_S1024x4x1408) transposes_S1024x4x1408_S4x1024x1408_1_0_2)) bitsLt_bf16_f32 := by
    unfold arrW V
    after_reads_simp
    rfl
  rw [e, show k = ⟨n.val * 1408 + j.val, by omega⟩ from Fin.ext hk]
  pointwise

/-- The scratch holds the weight itself. -/
theorem weight_apply (c : Dev nD) (i : Fin 1024) (k : Fin 5632) : weight m c (ix2 i k) = arg1 m c (ix2 i k) :=
  arrW_apply m c ⟨k.val / 1408, by omega⟩ i ⟨k.val % 1408, Nat.mod_lt _ (by decide)⟩ k (by show k.val = k.val / 1408 * 1408 + k.val % 1408; omega)

theorem idx_val : ∀ t : Fin cfg0.N, win0_0.index t = ![t.val, 0] ∧ win0_1.index t = ![t.val, 0] :=
  (by decide +kernel : ∀ t : Fin grid0.N, win0_0.index t = ![t.val, 0] ∧ win0_1.index t = ![t.val, 0])

theorem lt_32 (t : Fin cfg0.N) : t.val < 32 := lt_of_lt_of_eq t.isLt (show cfg0.N = 32 from N_0)

/-- The row of the whole array that is row `r` of the blocks of point `t`. -/
def rowOf (t : Fin cfg0.N) (r : Fin 512) : Fin 16384 := ⟨512 * t.val + r.val, by have := lt_32 t; omega⟩

theorem emb0 (t : Fin cfg0.N) (r : Fin 512) (k : Fin 5632) : ((cfg0.win 0).blk t).view.emb (ix2 r k) = ix2 (rowOf t r) k := by blk_ext [idx_val t, rowOf]
theorem emb1 (t : Fin cfg0.N) (r : Fin 512) (i : Fin 1024) : (win0_1.blk t).view.emb (ix2 r i) = ix2 (rowOf t r) i := by blk_ext [idx_val t, rowOf]

theorem blk0_apply (c : Dev nD) (t : Fin cfg0.N) (r : Fin 512) (k : Fin 5632) : iblk m c 0 t (ix2 r k) = arr0 m c (ix2 (rowOf t r) k) :=
  congrArg (arr0 m c) (emb0 t r k)

theorem pay_apply (x0 : FVec Ideal S512x5632 .bf16) (x1 : FVec Ideal S1024x5632 .bf16) (r : Fin 512) (i : Fin 1024) :
    k0_pay1 (F := Ideal) x0 x1 (ix2 r i) = ∑ k : Fin 5632, x0 (ix2 r k) * x1 (ix2 i k) := by
  unfold k0_pay1
  pointwise

theorem block_apply (c : Dev nD) (t : Fin cfg0.N) (r : Fin 512) (i : Fin 1024) : block m c t (ix2 r i) = dx (arg1 m c) (arg2 m c) (rowOf t r) i := by
  unfold block dx
  rw [pay_apply]
  refine Finset.sum_congr rfl fun k _ => ?_
  rw [blk0_apply, arr0_apply, weight_apply]

theorem final (c : Dev nD) : (dats m 0 c).arrAt 1 cfg0.N = fun y => dx (arg1 m c) (arg2 m c) (y 0) (y 1) := by
  refine (dats m 0 c).arrAt_eq_of_covers 1 _ (by decide +kernel) fun t hf y => ?_
  blk_simp
  rw [after_result]
  obtain ⟨r, i, rfl⟩ : ∃ (r : Fin 512) (i : Fin 1024), y = ix2 r i := ⟨y 0, y 1, eq_ix2 y⟩
  rw [emb1, block_apply]
  rfl

theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(h.rest_eq c main_arg0 (Pipeline.mem_restRefs_of main_arg0 (by decide) (by decide))).trans (V_main_arg0 m c), (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c)⟩

end Cert.UpDxIdeal.Prod

namespace Cert.UpDx.Claims

open Idealize.ShloMosaic Idealize.ShloMosaic.TcCoe Idealize.SL.Sem

set_option maxHeartbeats 4000000 in
/-- The kernel as printed and the kernel over the extended reals have the same text, so one run serves both. -/
theorem bodies_eq {F : FTy → Type} [FloatOps F] : Cert.UpDx.defs₀ (F := F) = Cert.UpDxIdeal.defs₀ (F := F) := by
  unfold Cert.UpDx.defs₀ Cert.UpDxIdeal.defs₀
  refine congrArg Defs.onTc ?_
  funext l x
  match l, x with
  | 0, (t, s) => rfl

set_option maxHeartbeats 4000000 in
theorem defs_eq {F : FTy → Type} [FloatOps F] : Cert.UpDx.defs (F := F) = Cert.UpDxIdeal.defs (F := F) := by
  unfold Cert.UpDx.defs Cert.UpDxIdeal.defs
  exact congrArg (Pipeline.defs Cert.UpDxIdeal.pcfgs) bodies_eq

set_option maxHeartbeats 4000000 in
theorem main_eq {F : FTy → Type} [FloatOps F] : Cert.UpDx.main (F := F) = Cert.UpDxIdeal.main (F := F) := by
  unfold Cert.UpDx.main Cert.UpDxIdeal.main
  rfl

theorem frame_kernel : Cert.quiescent_UpDx := by
  intro m ρ _
  have h := Cert.UpDxIdeal.Prod.frame (F := Bits) m ρ
  rw [← defs_eq, ← main_eq] at h
  exact h

theorem frame_ideal : Cert.quiescent_UpDxIdeal := fun m ρ _ => Cert.UpDxIdeal.Prod.frame m ρ

theorem frame_reference : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

/-- The reference's result. -/
theorem reference (w : (⟨Cert.UpDxRefIdeal.S1024x5632, .f32⟩ : BufTy).Contents (Elt Ideal)) (ct : (⟨Cert.UpDxRefIdeal.S1x16384x5632, .f32⟩ : BufTy).Contents (Elt Ideal)) :
    Cert.UpDxRefIdeal.Read.val_main_v4 (F := Ideal) w ct = fun y => Cert.UpDxIdeal.Prod.dx w ct (y 0) (y 1) := by
  funext y
  obtain ⟨T, i, rfl⟩ : ∃ (T : Fin 16384) (i : Fin 1024), y = ix2 T i := ⟨y 0, y 1, eq_ix2 y⟩
  unfold Cert.UpDxIdeal.Prod.dx Cert.UpDxRefIdeal.Read.val_main_v4 Cert.UpDxRefIdeal.Read.val_main_v3
  pointwise

theorem algebraic : Cert.algebraic_UpDxIdeal_UpDxRefIdeal := by
  intro m ρ m' ρ' _ hagree
  refine ⟨fun c => fun y => Cert.UpDxIdeal.Prod.dx (Cert.UpDxIdeal.Prod.arg1 m c) (Cert.UpDxIdeal.Prod.arg2 m c) (y 0) (y 1), ?_, ?_⟩
  · refine (θ_run Cert.UpDxIdeal.defs _ _).mono (fun r h c => ?_) (Cert.UpDxIdeal.Prod.run_main (F := Ideal) m ρ)
    exact ⟨(h.out_eq c 1).trans (Cert.UpDxIdeal.Prod.final m c), Cert.UpDxIdeal.Prod.args_kept m r h c⟩
  · refine (θ_run Cert.UpDxRefIdeal.defs _ _).mono (fun r h c => ?_) (Cert.UpDxRefIdeal.Value.run (F := Ideal) m' ρ')
    obtain ⟨_, a1, a2⟩ := hagree c
    refine ⟨(h c).1.trans ?_, (h c).2⟩
    rw [a1, a2]
    exact reference _ _

end Cert.UpDx.Claims

end
-- ==== Proof.Prod.Down.lean ====
module

public import proofs.«01_k».proof.Defs
public import proofs.«01_k».proof.Proof.Gen.Down.Frame
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.StableHlo.RunRead
public import Idealize.ShloMosaic.Lib.Quiescent

/-! The down projection: every entry of the result is the sum over the hidden channels of the input times the weight, in the kernel
as in the reference. -/

@[expose] public section

set_option maxRecDepth 16384

noncomputable section

namespace Cert.DownIdeal.Prod

open Cert.DownIdeal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x2816, .f32⟩ : BufTy).Contents (Elt Ideal) := m ((c : Thread nD τ).loc main_arg0)
abbrev arg1 (c : Dev nD) : (⟨S2816x1024, .f32⟩ : BufTy).Contents (Elt Ideal) := m ((c : Thread nD τ).loc main_arg1)

/-- The product at row `T` and column `j`. -/
def product (a : (⟨S1x16384x2816, .f32⟩ : BufTy).Contents (Elt Ideal)) (w : (⟨S2816x1024, .f32⟩ : BufTy).Contents (Elt Ideal)) (T : Fin 16384) (j : Fin 1024) : EReal :=
  ∑ k : Fin 2816, a (ix3 0 T k) * w (ix2 k j)

/-- The activations as the region finds them, -/
def arr0 (c : Dev nD) : FVec Ideal S16384x2816 .bf16 := V m c main_v1
/-- and the weight. -/
def arr1 (c : Dev nD) : FVec Ideal S1x2816x1024 .bf16 := V m c main_v3

theorem arr0_apply (c : Dev nD) (T : Fin 16384) (k : Fin 2816) : arr0 m c (ix2 T k) = arg0 m c (ix3 0 T k) := by
  have e : arr0 m c = truncf .bf16 (shapeCast S16384x2816 (arg0 m c) shapeCasts_S1x16384x2816_S16384x2816) bitsLt_bf16_f32 := by
    unfold arr0 V
    after_reads_simp
    rfl
  rw [e]
  pointwise

theorem arr1_apply (c : Dev nD) (k : Fin 2816) (j : Fin 1024) : arr1 m c (ix3 0 k j) = arg1 m c (ix2 k j) := by
  have e : arr1 m c = truncf .bf16 (broadcastInDim S1x2816x1024 ![1, 2] bcast_S2816x1024_S1x2816x1024_1_2 (arg1 m c)) bitsLt_bf16_f32 := by
    unfold arr1 V
    after_reads_simp
  rw [e]
  pointwise

theorem idx_val : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem lt_32 (t : Fin cfg0.N) : t.val < 32 := lt_of_lt_of_eq t.isLt (show cfg0.N = 32 from N_0)

/-- The row of the whole array that is row `r` of the block of point `t`. -/
def rowOf (t : Fin cfg0.N) (r : Fin 512) : Fin 16384 := ⟨t.val * 512 + r.val, by have := lt_32 t; omega⟩

theorem emb0 (t : Fin cfg0.N) (r : Fin 512) (k : Fin 2816) : ((cfg0.win 0).blk t).view.emb (ix2 r k) = ix2 (rowOf t r) k := by blk_ext [idx_val t, rowOf]
theorem emb1 (t : Fin cfg0.N) (k : Fin 2816) (j : Fin 1024) : ((cfg0.win 1).blk t).view.emb (ix3 0 k j) = ix3 0 k j := by blk_ext [idx_val t]
theorem emb2 (t : Fin cfg0.N) (r : Fin 512) (j : Fin 1024) : (win0_2.blk t).view.emb (ix2 r j) = ix2 (rowOf t r) j := by blk_ext [idx_val t, rowOf]

theorem blk0_apply (c : Dev nD) (t : Fin cfg0.N) (r : Fin 512) (k : Fin 2816) : iblk m c 0 t (ix2 r k) = arr0 m c (ix2 (rowOf t r) k) :=
  congrArg (arr0 m c) (emb0 t r k)
theorem blk1_apply (c : Dev nD) (t : Fin cfg0.N) (k : Fin 2816) (j : Fin 1024) : iblk m c 1 t (ix3 0 k j) = arr1 m c (ix3 0 k j) :=
  congrArg (arr1 m c) (emb1 t k j)

theorem pay_apply (x0 : FVec Ideal S512x2816 .bf16) (x1 : FVec Ideal S1x2816x1024 .bf16) (r : Fin 512) (j : Fin 1024) :
    k0_pay1 (F := Ideal) x0 x1 (ix2 r j) = ∑ k : Fin 2816, x0 (ix2 r k) * x1 (ix3 0 k j) := by
  unfold k0_pay1
  pointwise

theorem hz2 : (![0, 0] : Fin 2 → Nat) = fun _ => 0 := funext fun a => by fin_cases a <;> rfl
theorem hzW : (![0, 0, 0] : Fin 3 → Nat) = fun _ => 0 := funext fun a => by fin_cases a <;> rfl

theorem out_eq (x0 : FVec Ideal S512x2816 .bf16) (x1 : FVec Ideal S1x2816x1024 .bf16) : out0_2 (F := Ideal) x0 x1 = k0_pay1 (F := Ideal) x0 x1 := by
  unfold out0_2
  rw [View.canon_unit_zero hz2, View.ld_unit_zero (S := S512x2816) hz2, View.ld_unit_zero (S := S1x2816x1024) hzW]

theorem pay_blk (c : Dev nD) (t : Fin cfg0.N) (r : Fin 512) (j : Fin 1024) :
    k0_pay1 (F := Ideal) (iblk m c 0 t) (iblk m c 1 t) (ix2 r j) = product (arg0 m c) (arg1 m c) (rowOf t r) j := by
  rw [pay_apply]
  refine Finset.sum_congr rfl fun k _ => ?_
  rw [blk0_apply, blk1_apply, arr0_apply, arr1_apply]

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 512) (j : Fin 1024), y = ix2 r j := ⟨y 0, y 1, eq_ix2 y⟩
  rw [emb2]
  exact pay_blk m c t r j

end Cert.DownIdeal.Prod

namespace Cert.DownRefIdeal.Prod

open Idealize.ShloMosaic
open Cert.DownRefIdeal Cert.DownRefIdeal.Gen

theorem result (a : (⟨S1x16384x2816, .f32⟩ : BufTy).Contents (Elt Ideal)) (w : (⟨S2816x1024, .f32⟩ : BufTy).Contents (Elt Ideal)) :
    shapeCast S16384x1024 (Host.dotGeneral (F := Ideal) (φ₁ := .f32) (φ₂ := .f32) dot_S1x16384x2816_S2816x1024_S1x16384x1024_2_0_01_1_n_n none a w) shapeCasts_S1x16384x1024_S16384x1024
      = fun y => Cert.DownIdeal.Prod.product a w (y 0) (y 1) := by
  funext y
  obtain ⟨T, j, rfl⟩ : ∃ (T : Fin 16384) (j : Fin 1024), y = ix2 T j := ⟨y 0, y 1, eq_ix2 y⟩
  unfold Cert.DownIdeal.Prod.product
  pointwise

end Cert.DownRefIdeal.Prod

namespace Cert.Down.Claims

open Idealize.ShloMosaic Idealize.ShloMosaic.TcCoe Idealize.SL.Sem

theorem frame_kernel : Cert.quiescent_Down := fun m ρ _ => Cert.Down.Gen.frame m ρ
theorem frame_ideal : Cert.quiescent_DownIdeal := fun m ρ _ => Cert.DownIdeal.Gen.frame m ρ
theorem frame_reference : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem algebraic : Cert.algebraic_DownIdeal_DownRefIdeal := by
  intro m ρ m' ρ' _ hagree
  refine ⟨fun c => fun y => Cert.DownIdeal.Prod.product (Cert.DownIdeal.Prod.arg0 m c) (Cert.DownIdeal.Prod.arg1 m c) (y 0) (y 1), ?_, ?_⟩
  · refine (θ_run Cert.DownIdeal.defs _ _).mono (fun r h c => ?_) (Cert.DownIdeal.Value.run_blocks (F := Ideal) m ρ)
    exact ⟨(h c).1.trans (Cert.DownIdeal.Prod.final m c), (h c).2⟩
  · refine (θ_run Cert.DownRefIdeal.defs _ _).mono (fun r h c => ?_) (Cert.DownRefIdeal.Value.run (F := Ideal) m' ρ')
    obtain ⟨a0, a1⟩ := hagree c
    refine ⟨(h c).1.trans ?_, (h c).2⟩
    rw [a0, a1]
    exact Cert.DownRefIdeal.Prod.result _ _

end Cert.Down.Claims

end
-- ==== Proof.Prod.Up.lean ====
module

public import proofs.«01_k».proof.Defs
public import proofs.«01_k».proof.Proof.Gen.Up.Frame
public import proofs.«01_k».proof.Proof.Gen.UpIdeal.Value
public import proofs.«01_k».proof.Proof.Gen.UpRefIdeal.Run
public import Idealize.ShloMosaic.Lib.Pipeline.ValueKit
public import Idealize.ShloMosaic.Lib.Pointwise
public import Idealize.ShloMosaic.Lib.StableHlo.RunRead
public import Idealize.ShloMosaic.Lib.Quiescent

/-! The up projection: every entry of the result is the sum over the model's width of the input times the weight, whose columns
the kernel takes in four blocks. -/

@[expose] public section

set_option maxRecDepth 16384

noncomputable section

namespace Cert.UpIdeal.Prod

open Cert.UpIdeal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg1 (c : Dev nD) : (⟨S1024x5632, .f32⟩ : BufTy).Contents (Elt Ideal) := m ((c : Thread nD τ).loc main_arg1)

/-- The product at row `T` and column `j`. -/
def product (a : (⟨S1x16384x1024, .f32⟩ : BufTy).Contents (Elt Ideal)) (w : (⟨S1024x5632, .f32⟩ : BufTy).Contents (Elt Ideal)) (T : Fin 16384) (j : Fin 5632) : EReal :=
  ∑ k : Fin 1024, a (ix3 0 T k) * w (ix2 k j)

/-- The activations as the region finds them, -/
def arr0 (c : Dev nD) : FVec Ideal S16384x1024 .bf16 := V m c main_v5
/-- and the weight. -/
def arr1 (c : Dev nD) : FVec Ideal S1x4x1024x1408 .bf16 := V m c main_v3

theorem arr0_apply (c : Dev nD) (T : Fin 16384) (k : Fin 1024) : arr0 m c (ix2 T k) = arg0 m c (ix3 0 T k) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (n : Fin 4) (k : Fin 1024) (j : Fin 1408) : arr1 m c (ix4 0 n k j) = arg1 m c (ix2 k ⟨n.val * 1408 + j.val, by omega⟩) := by
  have e : arr1 m c = truncf .bf16 (broadcastInDim S1x4x1024x1408 ![1, 2, 3] bcast_S4x1024x1408_S1x4x1024x1408_1_2_3 (transpose S4x1024x1408 [1, 0, 2] (shapeCast S1024x4x1408 (arg1 m c) shapeCasts_S1024x5632_S1024x4x1408) transposes_S1024x4x1408_S4x1024x1408_1_0_2)) bitsLt_bf16_f32 := by
    unfold arr1 V
    after_reads_simp
    rfl
  rw [e]
  pointwise

theorem idx_val : ∀ t : Fin cfg0.N, win0_0.index t = ![t.val / 4, 0] ∧ win0_1.index t = ![0, t.val % 4, 0, 0] ∧ win0_2.index t = ![t.val / 4, t.val % 4] :=
  (by decide +kernel : ∀ t : Fin grid0.N, win0_0.index t = ![t.val / 4, 0] ∧ win0_1.index t = ![0, t.val % 4, 0, 0] ∧ win0_2.index t = ![t.val / 4, t.val % 4])

theorem lt_64 (t : Fin cfg0.N) : t.val < 64 := lt_of_lt_of_eq t.isLt (show cfg0.N = 64 from N_0)

/-- The row of the whole array that is row `r` of the block of point `t`, -/
def rowOf (t : Fin cfg0.N) (r : Fin 1024) : Fin 16384 := ⟨t.val / 4 * 1024 + r.val, by have := lt_64 t; omega⟩
/-- the point's block of columns, -/
def blkOf (t : Fin cfg0.N) : Fin 4 := ⟨t.val % 4, by omega⟩
/-- and the column that is column `j` of it. -/
def colOf (t : Fin cfg0.N) (j : Fin 1408) : Fin 5632 := ⟨t.val % 4 * 1408 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (k : Fin 1024) (j : Fin 1408) : ((cfg0.win 1).blk t).view.emb (ix4 0 0 k j) = ix4 0 (blkOf t) k j := by blk_ext [idx_val t, blkOf]
theorem emb2 (t : Fin cfg0.N) (r : Fin 1024) (j : Fin 1408) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (k : Fin 1024) (j : Fin 1408) : iblk m c 1 t (ix4 0 0 k j) = arr1 m c (ix4 0 (blkOf t) k j) :=
  congrArg (arr1 m c) (emb1 t k j)

theorem pay_apply (x0 : FVec Ideal S1024x1024 .bf16) (x1 : FVec Ideal S1x1x1024x1408 .bf16) (r : Fin 1024) (j : Fin 1408) :
    k0_pay1 (F := Ideal) x0 x1 (ix2 r j) = ∑ k : Fin 1024, x0 (ix2 r k) * x1 (ix4 0 0 k j) := by
  unfold k0_pay1
  pointwise

theorem hz2 : (![0, 0] : Fin 2 → Nat) = fun _ => 0 := funext fun a => by fin_cases a <;> rfl
theorem hzW : (![0, 0, 0, 0] : Fin 4 → Nat) = fun _ => 0 := funext fun a => by fin_cases a <;> rfl

theorem out_eq (x0 : FVec Ideal S1024x1024 .bf16) (x1 : FVec Ideal S1x1x1024x1408 .bf16) : out0_2 (F := Ideal) x0 x1 = k0_pay1 (F := Ideal) x0 x1 := by
  unfold out0_2
  rw [View.canon_unit_zero hz2, View.ld_unit_zero (S := S1024x1024) hz2, View.ld_unit_zero (S := S1x1x1024x1408) hzW]

theorem pay_blk (c : Dev nD) (t : Fin cfg0.N) (r : Fin 1024) (j : Fin 1408) :
    k0_pay1 (F := Ideal) (iblk m c 0 t) (iblk m c 1 t) (ix2 r j) = product (arg0 m c) (arg1 m c) (rowOf t r) (colOf t j) := by
  rw [pay_apply]
  refine Finset.sum_congr rfl fun k _ => ?_
  rw [blk0_apply, blk1_apply, arr0_apply, arr1_apply]
  rfl

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1408), y = ix2 r j := ⟨y 0, y 1, eq_ix2 y⟩
  rw [emb2]
  exact pay_blk m c t r j

end Cert.UpIdeal.Prod

namespace Cert.UpRefIdeal.Prod

open Idealize.ShloMosaic
open Cert.UpRefIdeal Cert.UpRefIdeal.Gen

theorem result (a : (⟨S1x16384x1024, .f32⟩ : BufTy).Contents (Elt Ideal)) (w : (⟨S1024x5632, .f32⟩ : BufTy).Contents (Elt Ideal)) :
    truncf (F := Ideal) .bf16 (shapeCast S16384x5632 (Host.dotGeneral (F := Ideal) (φ₁ := .f32) (φ₂ := .f32) dot_S1x16384x1024_S1024x5632_S1x16384x5632_2_0_01_1_n_n none a w) shapeCasts_S1x16384x5632_S16384x5632) bitsLt_bf16_f32
      = fun y => Cert.UpIdeal.Prod.product a w (y 0) (y 1) := by
  funext y
  obtain ⟨T, j, rfl⟩ : ∃ (T : Fin 16384) (j : Fin 5632), y = ix2 T j := ⟨y 0, y 1, eq_ix2 y⟩
  unfold Cert.UpIdeal.Prod.product
  pointwise

end Cert.UpRefIdeal.Prod

namespace Cert.Up.Claims

open Idealize.ShloMosaic Idealize.ShloMosaic.TcCoe Idealize.SL.Sem

theorem frame_kernel : Cert.quiescent_Up := fun m ρ _ => Cert.Up.Gen.frame m ρ
theorem frame_ideal : Cert.quiescent_UpIdeal := fun m ρ _ => Cert.UpIdeal.Gen.frame m ρ
theorem frame_reference : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem algebraic : Cert.algebraic_UpIdeal_UpRefIdeal := by
  intro m ρ m' ρ' _ hagree
  refine ⟨fun c => fun y => Cert.UpIdeal.Prod.product (Cert.UpIdeal.Prod.arg0 m c) (Cert.UpIdeal.Prod.arg1 m c) (y 0) (y 1), ?_, ?_⟩
  · refine (θ_run Cert.UpIdeal.defs _ _).mono (fun r h c => ?_) (Cert.UpIdeal.Value.run_blocks (F := Ideal) m ρ)
    exact ⟨(h c).1.trans (Cert.UpIdeal.Prod.final m c), (h c).2⟩
  · refine (θ_run Cert.UpRefIdeal.defs _ _).mono (fun r h c => ?_) (Cert.UpRefIdeal.Value.run (F := Ideal) m' ρ')
    obtain ⟨a0, a1⟩ := hagree c
    refine ⟨(h c).1.trans ?_, (h c).2⟩
    rw [a0, a1]
    exact Cert.UpRefIdeal.Prod.result _ _

end Cert.Up.Claims

end
-- ==== Proof.Prod.ScIn.lean ====
module

public import proofs.«01_k».proof.Defs
public import proofs.«01_k».proof.Proof.Gen.ScIn.Frame
public import proofs.«01_k».proof.Proof.Gen.ScInIdeal.Value
public import proofs.«01_k».proof.Proof.Gen.ScInRefIdeal.Run
public import Idealize.ShloMosaic.Lib.Pipeline.ValueKit
public import Idealize.ShloMosaic.Lib.Pointwise
public import Idealize.ShloMosaic.Lib.StableHlo.RunRead
public import Idealize.ShloMosaic.Lib.Quiescent

/-! The first projection of the short convolution mixer: every entry of the result is the sum over the model's
width of the input times the weight, whose columns the kernel takes in four blocks. -/

@[expose] public section

set_option maxRecDepth 16384

noncomputable section

namespace Cert.ScInIdeal.Prod

open Cert.ScInIdeal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg1 (c : Dev nD) : (⟨S1024x3072, .f32⟩ : BufTy).Contents (Elt Ideal) := m ((c : Thread nD τ).loc main_arg1)

/-- The product at row `T` and column `j`. -/
def product (a : (⟨S1x16384x1024, .f32⟩ : BufTy).Contents (Elt Ideal)) (w : (⟨S1024x3072, .f32⟩ : BufTy).Contents (Elt Ideal)) (T : Fin 16384) (j : Fin 3072) : EReal :=
  ∑ k : Fin 1024, a (ix3 0 T k) * w (ix2 k j)

/-- The activations as the region finds them, -/
def arr0 (c : Dev nD) : FVec Ideal S16384x1024 .bf16 := V m c main_v5
/-- and the weight. -/
def arr1 (c : Dev nD) : FVec Ideal S1x4x1024x768 .bf16 := V m c main_v3

theorem arr0_apply (c : Dev nD) (T : Fin 16384) (k : Fin 1024) : arr0 m c (ix2 T k) = arg0 m c (ix3 0 T k) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (n : Fin 4) (k : Fin 1024) (j : Fin 768) : arr1 m c (ix4 0 n k j) = arg1 m c (ix2 k ⟨n.val * 768 + j.val, by omega⟩) := by
  have e : arr1 m c = truncf .bf16 (broadcastInDim S1x4x1024x768 ![1, 2, 3] bcast_S4x1024x768_S1x4x1024x768_1_2_3 (transpose S4x1024x768 [1, 0, 2] (shapeCast S1024x4x768 (arg1 m c) shapeCasts_S1024x3072_S1024x4x768) transposes_S1024x4x768_S4x1024x768_1_0_2)) bitsLt_bf16_f32 := by
    unfold arr1 V
    after_reads_simp
    rfl
  rw [e]
  pointwise

theorem idx_val : ∀ t : Fin cfg0.N, win0_0.index t = ![t.val / 4, 0] ∧ win0_1.index t = ![0, t.val % 4, 0, 0] ∧ win0_2.index t = ![t.val / 4, t.val % 4] :=
  (by decide +kernel : ∀ t : Fin grid0.N, win0_0.index t = ![t.val / 4, 0] ∧ win0_1.index t = ![0, t.val % 4, 0, 0] ∧ win0_2.index t = ![t.val / 4, t.val % 4])

theorem lt_64 (t : Fin cfg0.N) : t.val < 64 := lt_of_lt_of_eq t.isLt (show cfg0.N = 64 from N_0)

/-- The row of the whole array that is row `r` of the block of point `t`, -/
def rowOf (t : Fin cfg0.N) (r : Fin 1024) : Fin 16384 := ⟨t.val / 4 * 1024 + r.val, by have := lt_64 t; omega⟩
/-- the point's block of columns, -/
def blkOf (t : Fin cfg0.N) : Fin 4 := ⟨t.val % 4, by omega⟩
/-- and the column that is column `j` of it. -/
def colOf (t : Fin cfg0.N) (j : Fin 768) : Fin 3072 := ⟨t.val % 4 * 768 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (k : Fin 1024) (j : Fin 768) : ((cfg0.win 1).blk t).view.emb (ix4 0 0 k j) = ix4 0 (blkOf t) k j := by blk_ext [idx_val t, blkOf]
theorem emb2 (t : Fin cfg0.N) (r : Fin 1024) (j : Fin 768) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (k : Fin 1024) (j : Fin 768) : iblk m c 1 t (ix4 0 0 k j) = arr1 m c (ix4 0 (blkOf t) k j) :=
  congrArg (arr1 m c) (emb1 t k j)

theorem pay_apply (x0 : FVec Ideal S1024x1024 .bf16) (x1 : FVec Ideal S1x1x1024x768 .bf16) (r : Fin 1024) (j : Fin 768) :
    k0_pay1 (F := Ideal) x0 x1 (ix2 r j) = ∑ k : Fin 1024, x0 (ix2 r k) * x1 (ix4 0 0 k j) := by
  unfold k0_pay1
  pointwise

theorem hz2 : (![0, 0] : Fin 2 → Nat) = fun _ => 0 := funext fun a => by fin_cases a <;> rfl
theorem hzW : (![0, 0, 0, 0] : Fin 4 → Nat) = fun _ => 0 := funext fun a => by fin_cases a <;> rfl

theorem out_eq (x0 : FVec Ideal S1024x1024 .bf16) (x1 : FVec Ideal S1x1x1024x768 .bf16) : out0_2 (F := Ideal) x0 x1 = k0_pay1 (F := Ideal) x0 x1 := by
  unfold out0_2
  rw [View.canon_unit_zero hz2, View.ld_unit_zero (S := S1024x1024) hz2, View.ld_unit_zero (S := S1x1x1024x768) hzW]

theorem pay_blk (c : Dev nD) (t : Fin cfg0.N) (r : Fin 1024) (j : Fin 768) :
    k0_pay1 (F := Ideal) (iblk m c 0 t) (iblk m c 1 t) (ix2 r j) = product (arg0 m c) (arg1 m c) (rowOf t r) (colOf t j) := by
  rw [pay_apply]
  refine Finset.sum_congr rfl fun k _ => ?_
  rw [blk0_apply, blk1_apply, arr0_apply, arr1_apply]
  rfl

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 768), y = ix2 r j := ⟨y 0, y 1, eq_ix2 y⟩
  rw [emb2]
  exact pay_blk m c t r j

end Cert.ScInIdeal.Prod

namespace Cert.ScInRefIdeal.Prod

open Idealize.ShloMosaic
open Cert.ScInRefIdeal Cert.ScInRefIdeal.Gen

theorem result (a : (⟨S1x16384x1024, .f32⟩ : BufTy).Contents (Elt Ideal)) (w : (⟨S1024x3072, .f32⟩ : BufTy).Contents (Elt Ideal)) :
    truncf (F := Ideal) .bf16 (shapeCast S16384x3072 (Host.dotGeneral (F := Ideal) (φ₁ := .f32) (φ₂ := .f32) dot_S1x16384x1024_S1024x3072_S1x16384x3072_2_0_01_1_n_n none a w) shapeCasts_S1x16384x3072_S16384x3072) bitsLt_bf16_f32
      = fun y => Cert.ScInIdeal.Prod.product a w (y 0) (y 1) := by
  funext y
  obtain ⟨T, j, rfl⟩ : ∃ (T : Fin 16384) (j : Fin 3072), y = ix2 T j := ⟨y 0, y 1, eq_ix2 y⟩
  unfold Cert.ScInIdeal.Prod.product
  pointwise

end Cert.ScInRefIdeal.Prod

namespace Cert.ScIn.Claims

open Idealize.ShloMosaic Idealize.ShloMosaic.TcCoe Idealize.SL.Sem

theorem frame_kernel : Cert.quiescent_ScIn := fun m ρ _ => Cert.ScIn.Gen.frame m ρ
theorem frame_ideal : Cert.quiescent_ScInIdeal := fun m ρ _ => Cert.ScInIdeal.Gen.frame m ρ
theorem frame_reference : Cert.quiescent_ScInRefIdeal := fun m ρ _ =>
  (θ_run Cert.ScInRefIdeal.defs _ _).mono (fun r h => ⟨fun c => (h c).2, sem_eq_zero_of_no_sems (by decide) r.2⟩)
    (Cert.ScInRefIdeal.Value.run (F := Ideal) m ρ)

theorem algebraic : Cert.algebraic_ScInIdeal_ScInRefIdeal := by
  intro m ρ m' ρ' _ hagree
  refine ⟨fun c => fun y => Cert.ScInIdeal.Prod.product (Cert.ScInIdeal.Prod.arg0 m c) (Cert.ScInIdeal.Prod.arg1 m c) (y 0) (y 1), ?_, ?_⟩
  · refine (θ_run Cert.ScInIdeal.defs _ _).mono (fun r h c => ?_) (Cert.ScInIdeal.Value.run_blocks (F := Ideal) m ρ)
    exact ⟨(h c).1.trans (Cert.ScInIdeal.Prod.final m c), (h c).2⟩
  · refine (θ_run Cert.ScInRefIdeal.defs _ _).mono (fun r h c => ?_) (Cert.ScInRefIdeal.Value.run (F := Ideal) m' ρ')
    obtain ⟨a0, a1⟩ := hagree c
    refine ⟨(h c).1.trans ?_, (h c).2⟩
    rw [a0, a1]
    exact Cert.ScInRefIdeal.Prod.result _ _

end Cert.ScIn.Claims

end
-- ==== Proof.Prod.ScInDx.Run.lean ====
module

public import proofs.«01_k».proof.Proof.Gen.ScInDxIdeal.Frame.Runs
public import proofs.«01_k».proof.Proof.Gen.ScInDxIdeal.Skeleton
public import Idealize.ShloMosaic.Lib.Pipeline.Value
public import Idealize.ShloMosaic.Lib.Pipeline.ValueKit
public import Idealize.ShloMosaic.Lib.ValueIdx
public import Idealize.ShloMosaic.Lib.Pointwise

/-! The input gradient of the first projection of the short convolution mixer: one run of its body, at the first point of the grid, where four copies bring
the weight into the scratch, and at any later point, where the scratch is as the point before left it. -/

@[expose] public section

set_option maxRecDepth 16384

noncomputable section

namespace Cert.ScInDxIdeal.Prod

open Cert.ScInDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four cells the copies signal, at zero. -/
abbrev cells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)

set_option maxHeartbeats 1000000 in
/-- The body at the first point, with the pieces it leaves in the result and in the scratch: each copy is lent its own band of columns of the scratch. -/
noncomputable def runFirst (c : Dev nD) (i : grid0.Coords) (arg1 : Memref sig .tc .vmem S512x3072 .bf16) (harg1 : arg1.IsWhole) (arg3 : Memref sig .tc .vmem S512x1024 .f32) (harg3 : arg3.IsWhole)
    (arg4 : Memref sig .tc .vmem S1024x3072 .bf16) (harg4 : arg4.IsWhole) (hc : cond0_0 i) (x0 : Vec F S512x3072 .bf16) (fh : HbBuf0 (F := F) c hbM0_0) :
    Σ' (L1 : List (View.Piece (Elt F) S512x1024 .f32)), { LS : List (View.Piece (Elt F) S1024x3072 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS) ∗ cells c ∗ hbPt0 c hbM0_0 fh ∗ (∃ W', owes (c : Thread nD τ) 0 W')) -∗ K ⟨⟩))
          ⊢ wp frame (wpE (defs₀ (F := F)) Variants.none c none) Set.univ (cc0_sc_in_dx_0 i arg1 harg1 (Memref.whole main_v3) (Memref.isWhole_whole _) arg3 harg3 arg4 harg4 cc0_scratch1) K } := by
  refine ⟨?_, ?_, fun W K => ?run⟩
  case run =>
    simp only [cc0_sc_in_dx_0_eq_skeleton]; unfold cc0_sc_in_dx_0_skel
    simp only [k0_part1_eq_skeleton]
    unfold owns cells
    iintro ⟨⟨%f0, %hf0, H0⟩, ⟨%d1, %f1, -, H1⟩, ⟨%ds, %fs, -, HS⟩, ⟨Hq0, Hq1, Hq2, Hq3⟩, Hh, HW, Hk⟩
    obtain rfl := harg1.eq_unread hf0
    set_option sl_exec.dmaWindow true in set_option sl_exec.dmaWindowLent true in set_option sl_exec.dmaWindowSet true in sl_exec (disch := first | sl_exact hc)
    sl_step
    iapply Hk
    isplitl [H0]
    · iexists _; isplitr; · ipureintro; exact harg1.read_unread _
      iexact H0
    isplitl [H1]; · iexists _; iexact H1
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

set_option maxHeartbeats 1000000 in
/-- The body at a later point: the scratch is read and left alone. -/
noncomputable def runLater (c : Dev nD) (i : grid0.Coords) (arg1 : Memref sig .tc .vmem S512x3072 .bf16) (harg1 : arg1.IsWhole) (arg3 : Memref sig .tc .vmem S512x1024 .f32) (harg3 : arg3.IsWhole)
    (arg4 : Memref sig .tc .vmem S1024x3072 .bf16) (harg4 : arg4.IsWhole) (hc : ¬cond0_0 i) (x0 : Vec F S512x3072 .bf16) (xs : Vec F S1024x3072 .bf16) (fh : HbBuf0 (F := F) c hbM0_0) :
    Σ' (L1 : List (View.Piece (Elt F) S512x1024 .f32)), { LS : List (View.Piece (Elt F) S1024x3072 .bf16) //
      ∀ (W : Waits sig Unit) (K : PUnit → sProp 𝕄),
        iprop(owns (c : Thread nD τ) arg1 fullShare x0 ∗ (∃ d, owns (c : Thread nD τ) arg3 fullShare d) ∗ owns (c : Thread nD τ) arg4 fullShare xs ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ owns (c : Thread nD τ) arg4 fullShare xs ∗ cells c ∗ hbPt0 c hbM0_0 fh ∗ (∃ W', owes (c : Thread nD τ) 0 W')) -∗ K ⟨⟩))
          ⊢ wp frame (wpE (defs₀ (F := F)) Variants.none c none) Set.univ (cc0_sc_in_dx_0 i arg1 harg1 (Memref.whole main_v3) (Memref.isWhole_whole _) arg3 harg3 arg4 harg4 cc0_scratch1) K } := by
  refine ⟨?_, [], fun W K => ?run⟩
  case run =>
    simp only [cc0_sc_in_dx_0_eq_skeleton]; unfold cc0_sc_in_dx_0_skel
    unfold owns cells
    iintro ⟨⟨%f0, %hf0, H0⟩, ⟨%d1, %f1, -, H1⟩, ⟨%fs, %hfs, HS⟩, ⟨Hq0, Hq1, Hq2, Hq3⟩, Hh, HW, Hk⟩
    obtain rfl := harg1.eq_unread hf0; obtain rfl := harg4.eq_unread hfs
    sl_exec (disch := first | sl_exact hc)
    sl_step
    iapply Hk
    isplitl [H0]
    · iexists _; isplitr; · ipureintro; exact harg1.read_unread _
      iexact H0
    isplitl [H1]; · iexists _; iexact H1
    isplitl [HS]
    · iexists _; isplitr; · ipureintro; exact harg4.read_unread _
      iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

theorem hz2 : (![0, 0] : Fin 2 → Nat) = fun _ => 0 := funext fun a => by fin_cases a <;> rfl

section
variable (c : Dev nD) (i : grid0.Coords) (a1 : Memref sig .tc .vmem S512x3072 .bf16) (h1 : a1.IsWhole) (a3 : Memref sig .tc .vmem S512x1024 .f32) (h3 : a3.IsWhole)
    (a4 : Memref sig .tc .vmem S1024x3072 .bf16) (h4 : a4.IsWhole) (x0 : Vec F S512x3072 .bf16) (xs : Vec F S1024x3072 .bf16) (fh : HbBuf0 (F := F) c hbM0_0)

theorem out_later (hc : ¬cond0_0 i) (f) :
    a3.view.read (Elt F) (a3.view.writes (Elt F) f (runLater c i a1 h1 a3 h3 a4 h4 hc x0 xs fh).1) = k0_pay1 x0 xs := by
  rw [View.read_writes_eq_canon _ _ _ (View.cover_of_tiledL (runLater c i a1 h1 a3 h3 a4 h4 hc x0 xs fh).1 S512x1024.size (by sl_kernel_rfl))]
  unfold runLater
  dsimp only
  rw [View.canon_unit_zero hz2]
  simp only [View.readAt_eq_ld, h1.read_unread, h4.read_unread, View.ld_unit_zero (S := S512x3072) hz2, View.ld_unit_zero (S := S1024x3072) hz2]

theorem out_first (hc : cond0_0 i) (f) :
    a3.view.read (Elt F) (a3.view.writes (Elt F) f (runFirst c i a1 h1 a3 h3 a4 h4 hc x0 fh).1) = k0_pay1 x0 (View.canon (runFirst c i a1 h1 a3 h3 a4 h4 hc x0 fh).2.1) := by
  rw [View.read_writes_eq_canon _ _ _ (View.cover_of_tiledL (runFirst c i a1 h1 a3 h3 a4 h4 hc x0 fh).1 S512x1024.size (by sl_kernel_rfl))]
  unfold runFirst
  dsimp only
  rw [View.canon_unit_zero hz2]
  sl_unfold_words
  simp only [View.readAt_eq_ld, h1.read_unread, View.ld_unit_zero (S := S512x3072) hz2]
  rw [View.readCov_eq_canon']
  exact congrArg (k0_pay1 x0) (View.ld_unit_zero (S := S1024x3072) hz2 _ _)

/-- The weight as the scratch holds it: column k·768 + j is column j of group k of the buffer. -/
def staged (fh : HbBuf0 (F := F) c hbM0_0) : Vec F S1024x3072 .bf16 := fun y =>
  fh (ix4 ⟨0, by decide⟩ ⟨(y 1).val / 768, by have := (y 1).isLt; change (y 1).val < 3072 at this; omega⟩ (y 0) ⟨(y 1).val % 768, Nat.mod_lt _ (by decide)⟩)

/-- A copy's payload: group k of the buffer. -/
theorem band (k : ℕ) {off : Fin 4 → ℕ} {off' : Fin 2 → ℕ} (inb : ∀ a, off a + (![1, 1, 1024, 768] : Fin 4 → ℕ) a ≤ S1x4x1024x768.size a) (inb' : ∀ a, off' a + (![1024, 768] : Fin 2 → ℕ) a ≤ S1024x3072.size a)
    (h : S1024x768.numel = (Rect.unit (s := S1x4x1024x768) off ![1, 1, 1024, 768] inb).shape.numel) (ho : off = ![0, k, 0, 0] := by rfl) (ho' : off' = ![0, k * 768] := by rfl) (x : S1024x768.Idx) :
    ReadAs.same.apply (View.read (Elt F) (((View.whole main_v3).slice (Rect.unit (s := S1x4x1024x768) off ![1, 1, 1024, 768] inb)).reshape S1024x768 h) fh) x
      = staged c fh ((Rect.unit (s := S1024x3072) off' ![1024, 768] inb').emb x) := by
  subst ho ho'
  have hr : (x 0).val < 1024 := (x 0).isLt
  have hj : (x 1).val < 768 := (x 1).isLt
  have hk : k + 1 ≤ 4 := inb 1
  have e : Shape.reshapeEquiv h x = (ix4 (⟨0, Nat.one_pos⟩ : Fin 1) (⟨0, Nat.one_pos⟩ : Fin 1) (⟨(x 0).val, hr⟩ : Fin 1024) (⟨(x 1).val, hj⟩ : Fin 768) : (Rect.unit (s := S1x4x1024x768) ![0, k, 0, 0] ![1, 1, 1024, 768] inb).shape.Idx) := by
    apply Shape.reshapeEquiv_eq_of_rowMajor
    refine (Shape.rowMajor_val_four _).trans (Eq.trans ?_ (Shape.rowMajor_val_two _).symm)
    show ((0 * 1 + 0) * 1024 + (x 0).val) * 768 + (x 1).val = (x 0).val * 768 + (x 1).val
    omega
  show fh ((Rect.unit (s := S1x4x1024x768) ![0, k, 0, 0] ![1, 1, 1024, 768] inb).emb (Shape.reshapeEquiv h x)) = _
  rw [e]
  refine congrArg fh (funext fun a => Fin.ext ?_)
  match a with
  | 0 => rfl
  | 1 => show k + 1 * 0 = (k * 768 + 1 * (x 1).val) / 768; omega
  | 2 => show 0 + 1 * (x 0).val = 0 + 1 * (x 0).val; rfl
  | 3 => show 0 + 1 * (x 1).val = (k * 768 + 1 * (x 1).val) % 768; omega

theorem first_scratch (hc : cond0_0 i) : ∀ p ∈ (runFirst c i a1 h1 a3 h3 a4 h4 hc x0 fh).2.1, ∀ x : p.1.shape.Idx, p.2 x = staged c fh (p.1.emb x) := by
  unfold runFirst
  dsimp only
  sl_unfold_words
  simp only [List.forall_mem_cons, List.not_mem_nil, false_imp_iff, implies_true, and_true]
  exact ⟨band c fh 3 _ _ _, band c fh 2 _ _ _, band c fh 1 _ _ _, band c fh 0 _ _ _⟩

theorem first_cover (hc : cond0_0 i) : ∀ y : S1024x3072.Idx, ∃ p ∈ (runFirst c i a1 h1 a3 h3 a4 h4 hc x0 fh).2.1, y ∈ p.1.set := by
  unfold runFirst
  dsimp only
  intro y
  simp only [List.exists_mem_cons_iff, List.not_mem_nil, false_and, exists_false, or_false, Rect.mem_set_unit, Fin.forall_fin_two]
  have h0 : (y 0).val < 1024 := (y 0).isLt
  have h1 : (y 1).val < 3072 := (y 1).isLt
  simp
  omega

theorem first_canon (hc : cond0_0 i) : View.canon (runFirst c i a1 h1 a3 h3 a4 h4 hc x0 fh).2.1 = staged c fh :=
  funext fun y => View.canon_apply_of_pieces (Val := Elt F) (staged c fh) _ (first_scratch c i a1 h1 a3 h3 a4 h4 x0 fh hc) y (first_cover c i a1 h1 a3 h3 a4 h4 x0 fh hc y)

end

end Cert.ScInDxIdeal.Prod

end
-- ==== Proof.Prod.ScInDx.Launch.lean ====
module

public import proofs.«01_k».proof.Proof.Prod.ScInDx.Run
public import Idealize.ShloMosaic.Lib.Claim
public import Idealize.ShloMosaic.Lib.Pipeline.Value
public import Idealize.ShloMosaic.Lib.Pipeline.ValueKit
public import Idealize.ShloMosaic.Lib.ValueIdx
public import Idealize.ShloMosaic.Lib.Pointwise

/-! The input gradient of the first projection of the short convolution mixer: the call of the kernel, what each of its points leaves, and the frame. -/

@[expose] public section

set_option maxRecDepth 16384

noncomputable section

namespace Cert.ScInDxIdeal.Prod

open Cert.ScInDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the scratch holds from the first point on. -/
def weight (c : Dev nD) : Vec F S1024x3072 .bf16 := staged c (V m c main_v3)

/-- What holds between two points: before the first one, what the call begins with; afterwards the scratch holds the
weight. -/
def between (c : Dev nD) : ℕ → sProp 𝕄
  | 0 => Pipeline.ΦD osem0 spec0 H0 (V m) c
  | _ + 1 => iprop(owns (c : Thread nD τ) scM0_0 fullShare (weight m c) ∗ (∃ r, prngReg c r) ∗ cells c ∗ hbPt0 c hbM0_0 (V m c main_v3))

theorem between_pos (c : Dev nD) (n : ℕ) (h : n ≠ 0) :
    between m c n = iprop(owns (c : Thread nD τ) scM0_0 fullShare (weight m c) ∗ (∃ r, prngReg c r) ∗ cells c ∗ hbPt0 c hbM0_0 (V m c main_v3)) := by
  cases n with
  | zero => exact absurd rfl h
  | succ n => rfl

/-- What a point leaves in the block of the result: its rows of the cotangent times the weight. -/
def block (c : Dev nD) (t : Fin cfg0.N) : Vec F S512x1024 .f32 := k0_pay1 (iblk m c 0 t) (weight m c)

/-- The data of the call: the block it reads, the block it leaves, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => block m c t
  Φ t := between m c t.val
  q _ := fullShare
  owed _ := 0

theorem A_eq (c : Dev nD) (w : Fin cfg0.W) : (dats m 0 c).A w = V m c (Pipeline.arrRef spec0 w) := by
  dsimp only [dats]

theorem after_read (c : Dev nD) (t : Fin cfg0.N) : (dats m 0 c).after 0 t = iblk m c 0 t := by dsimp only [dats]
theorem after_result (c : Dev nD) (t : Fin cfg0.N) : (dats m 0 c).after 1 t = block m c t := by dsimp only [dats]

theorem before_read (c : Dev nD) (t : Fin cfg0.N) (d) : (dats m 0 c).before 0 t d = iblk m c 0 t :=
  before0_0_of m (dats m 0 c) (A_eq m c 0) (after_read m c) t d

/-- What a point begins with. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What it ends with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- Every point keeps to that: the first fills the scratch, the others find it filled. -/
theorem point (c : Dev nD) (t : Fin cfg0.N) :
    pre m c t ⊢ wp frame (wpE (defs₀ (F := F)) Variants.none c none) Set.univ (bodyAt0 t) (fun _ => post m c t) := by
  unfold pre post bodyAt0
  simp only [before_read]
  rw [show (dats m 0 c).Φ t.succ = between m c (t.val + 1) from rfl, between_pos m c _ (Nat.succ_ne_zero _),
    show (dats m 0 c).Φ t.castSucc = between m c t.val from rfl, after_read, after_result]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases hz : t.val = 0
  · have hc : cond0_0 (grid0.coords t) := (hcond0_0 t).mpr (by omega)
    rw [show between m c t.val = Pipeline.ΦD osem0 spec0 H0 (V m) c by rw [hz]; rfl, PhiD0_eq]
    iintro ⟨⟨HS, Hg, Hq, Hh⟩, ⟨%W, -, HW⟩, ⟨%d0, H0⟩, ⟨%d1, H1⟩⟩
    iapply ((runFirst c (grid0.coords t) (ms0_0 t) (hs0_0 t) (ms0_1 t) (hs0_1 t) scM0_0 (Memref.isWhole_whole _) hc (iblk m c 0 t) (V m c main_v3)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, ⟨%es, HS⟩, Hq, Hh, ⟨%W', HW'⟩⟩
    isplitl [HS Hg Hq Hh]
    · isplitl [HS]
      · unfold owns; iexists _; isplitr
        swap; · iexact HS
        ipureintro
        exact (View.read_writes_eq_canon _ _ _ (first_cover c _ _ _ _ _ _ _ _ _ hc)).trans (first_canon c _ _ _ _ _ _ _ _ _ hc)
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact (out_first c _ _ _ _ _ _ _ _ _ hc _).trans (congrArg (k0_pay1 (iblk m c 0 t)) (first_canon c _ _ _ _ _ _ _ _ _ hc))
  · have hc : ¬cond0_0 (grid0.coords t) := fun h => by have := (hcond0_0 t).mp h; omega
    rw [between_pos m c _ hz]
    iintro ⟨⟨HS, Hg, Hq, Hh⟩, ⟨%W, -, HW⟩, ⟨%d0, H0⟩, ⟨%d1, H1⟩⟩
    iapply ((runLater c (grid0.coords t) (ms0_0 t) (hs0_0 t) (ms0_1 t) (hs0_1 t) scM0_0 (Memref.isWhole_whole _) hc (iblk m c 0 t) (weight m c) (V m c main_v3)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact out_later c _ _ _ _ _ _ _ _ _ _ hc _

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem enter (c : Dev nD) : Pipeline.ΦD osem0 spec0 H0 (V m) c ⊢ (dats m 0 c).Φ 0 := by
  rw [show (dats m 0 c).Φ 0 = Pipeline.ΦD osem0 spec0 H0 (V m) c from rfl]

theorem leave (c : Dev nD) : (dats m 0 c).Φ (Fin.last cfg0.N) ⊢ Pipeline.ΦD osem0 spec0 H0 (V m) c := by
  rw [show (dats m 0 c).Φ (Fin.last cfg0.N) = between m c (Fin.last cfg0.N).val from rfl,
    between_pos m c _ (by rw [Fin.val_last]; have : cfg0.N = 32 := N_0; omega), PhiD0_eq]
  iintro ⟨HS, Hg, Hq, Hh⟩
  isplitl [HS]; · iexists _; iexact HS
  isplitl [Hg]; · iexact Hg
  isplitl [Hq]; · iexact Hq
  iexact Hh

set_option backward.isDefEq.respectTransparency.types false in
/-- Every execution ends, with each array of the call at what the data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The frame: every execution ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.ScInDxIdeal.Prod

end
-- ==== Proof.Prod.ScInDx.lean ====
module

public import proofs.«01_k».proof.Defs
public import proofs.«01_k».proof.Proof.Gen.ScInDx
public import proofs.«01_k».proof.Proof.Gen.ScInDxRefIdeal.Run
public import proofs.«01_k».proof.Proof.Gen.ScInDxRefIdeal.Read
public import proofs.«01_k».proof.Proof.Prod.ScInDx.Launch
public import Idealize.ShloMosaic.Lib.Pipeline.ValueKit
public import Idealize.ShloMosaic.Lib.Pointwise
public import Idealize.ShloMosaic.Lib.StableHlo.RunRead
public import Idealize.ShloMosaic.Lib.Quiescent

/-! The input gradient of the first projection of the short convolution mixer: every entry is the sum over all columns of the cotangent times the weight. The kernel
copies the weight into its scratch in four bands of columns and multiplies each block of rows by it. -/

@[expose] public section

set_option maxRecDepth 16384

noncomputable section

namespace Cert.ScInDxIdeal.Prod

open Cert.ScInDxIdeal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S1024x3072, .f32⟩ : BufTy).Contents (Elt Ideal) := m ((c : Thread nD τ).loc main_arg1)
abbrev arg2 (c : Dev nD) : (⟨S1x16384x3072, .f32⟩ : BufTy).Contents (Elt Ideal) := m ((c : Thread nD τ).loc main_arg2)

/-- The gradient at row `T` and channel `i`. -/
def dx (w : (⟨S1024x3072, .f32⟩ : BufTy).Contents (Elt Ideal)) (ct : (⟨S1x16384x3072, .f32⟩ : BufTy).Contents (Elt Ideal)) (T : Fin 16384) (i : Fin 1024) : EReal :=
  ∑ k : Fin 3072, ct (ix3 0 T k) * w (ix2 i k)

/-- The cotangent as the region finds it, -/
def arr0 (c : Dev nD) : FVec Ideal S16384x3072 .bf16 := V m c main_v5
/-- and the weight, cut into four groups of columns. -/
def arrW (c : Dev nD) : FVec Ideal S1x4x1024x768 .bf16 := V m c main_v3

theorem arr0_apply (c : Dev nD) (T : Fin 16384) (k : Fin 3072) : arr0 m c (ix2 T k) = arg2 m c (ix3 0 T k) := by
  have e : arr0 m c = truncf .bf16 (shapeCast S16384x3072 (arg2 m c) shapeCasts_S1x16384x3072_S16384x3072) bitsLt_bf16_f32 := by
    unfold arr0 V
    after_reads_simp
    rfl
  rw [e]
  pointwise

theorem arrW_apply (c : Dev nD) (n : Fin 4) (i : Fin 1024) (j : Fin 768) (k : Fin 3072) (hk : k.val = n.val * 768 + j.val) : arrW m c (ix4 0 n i j) = arg1 m c (ix2 i k) := by
  have e : arrW m c = truncf .bf16 (broadcastInDim S1x4x1024x768 ![1, 2, 3] bcast_S4x1024x768_S1x4x1024x768_1_2_3 (transpose S4x1024x768 [1, 0, 2] (shapeCast S1024x4x768 (arg1 m c) shapeCasts_S1024x3072_S1024x4x768) transposes_S1024x4x768_S4x1024x768_1_0_2)) bitsLt_bf16_f32 := by
    unfold arrW V
    after_reads_simp
    rfl
  rw [e, show k = ⟨n.val * 768 + j.val, by omega⟩ from Fin.ext hk]
  pointwise

/-- The scratch holds the weight itself. -/
theorem weight_apply (c : Dev nD) (i : Fin 1024) (k : Fin 3072) : weight m c (ix2 i k) = arg1 m c (ix2 i k) :=
  arrW_apply m c ⟨k.val / 768, by omega⟩ i ⟨k.val % 768, Nat.mod_lt _ (by decide)⟩ k (by show k.val = k.val / 768 * 768 + k.val % 768; omega)

theorem idx_val : ∀ t : Fin cfg0.N, win0_0.index t = ![t.val, 0] ∧ win0_1.index t = ![t.val, 0] :=
  (by decide +kernel : ∀ t : Fin grid0.N, win0_0.index t = ![t.val, 0] ∧ win0_1.index t = ![t.val, 0])

theorem lt_32 (t : Fin cfg0.N) : t.val < 32 := lt_of_lt_of_eq t.isLt (show cfg0.N = 32 from N_0)

/-- The row of the whole array that is row `r` of the blocks of point `t`. -/
def rowOf (t : Fin cfg0.N) (r : Fin 512) : Fin 16384 := ⟨512 * t.val + r.val, by have := lt_32 t; omega⟩

theorem emb0 (t : Fin cfg0.N) (r : Fin 512) (k : Fin 3072) : ((cfg0.win 0).blk t).view.emb (ix2 r k) = ix2 (rowOf t r) k := by blk_ext [idx_val t, rowOf]
theorem emb1 (t : Fin cfg0.N) (r : Fin 512) (i : Fin 1024) : (win0_1.blk t).view.emb (ix2 r i) = ix2 (rowOf t r) i := by blk_ext [idx_val t, rowOf]

theorem blk0_apply (c : Dev nD) (t : Fin cfg0.N) (r : Fin 512) (k : Fin 3072) : iblk m c 0 t (ix2 r k) = arr0 m c (ix2 (rowOf t r) k) :=
  congrArg (arr0 m c) (emb0 t r k)

theorem pay_apply (x0 : FVec Ideal S512x3072 .bf16) (x1 : FVec Ideal S1024x3072 .bf16) (r : Fin 512) (i : Fin 1024) :
    k0_pay1 (F := Ideal) x0 x1 (ix2 r i) = ∑ k : Fin 3072, x0 (ix2 r k) * x1 (ix2 i k) := by
  unfold k0_pay1
  pointwise

theorem block_apply (c : Dev nD) (t : Fin cfg0.N) (r : Fin 512) (i : Fin 1024) : block m c t (ix2 r i) = dx (arg1 m c) (arg2 m c) (rowOf t r) i := by
  unfold block dx
  rw [pay_apply]
  refine Finset.sum_congr rfl fun k _ => ?_
  rw [blk0_apply, arr0_apply, weight_apply]

theorem final (c : Dev nD) : (dats m 0 c).arrAt 1 cfg0.N = fun y => dx (arg1 m c) (arg2 m c) (y 0) (y 1) := by
  refine (dats m 0 c).arrAt_eq_of_covers 1 _ (by decide +kernel) fun t hf y => ?_
  blk_simp
  rw [after_result]
  obtain ⟨r, i, rfl⟩ : ∃ (r : Fin 512) (i : Fin 1024), y = ix2 r i := ⟨y 0, y 1, eq_ix2 y⟩
  rw [emb1, block_apply]
  rfl

theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(h.rest_eq c main_arg0 (Pipeline.mem_restRefs_of main_arg0 (by decide) (by decide))).trans (V_main_arg0 m c), (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c)⟩

end Cert.ScInDxIdeal.Prod

namespace Cert.ScInDx.Claims

open Idealize.ShloMosaic Idealize.ShloMosaic.TcCoe Idealize.SL.Sem

set_option maxHeartbeats 4000000 in
/-- The kernel as printed and the kernel over the extended reals have the same text, so one run serves both. -/
theorem bodies_eq {F : FTy → Type} [FloatOps F] : Cert.ScInDx.defs₀ (F := F) = Cert.ScInDxIdeal.defs₀ (F := F) := by
  unfold Cert.ScInDx.defs₀ Cert.ScInDxIdeal.defs₀
  refine congrArg Defs.onTc ?_
  funext l x
  match l, x with
  | 0, (t, s) => rfl

set_option maxHeartbeats 4000000 in
theorem defs_eq {F : FTy → Type} [FloatOps F] : Cert.ScInDx.defs (F := F) = Cert.ScInDxIdeal.defs (F := F) := by
  unfold Cert.ScInDx.defs Cert.ScInDxIdeal.defs
  exact congrArg (Pipeline.defs Cert.ScInDxIdeal.pcfgs) bodies_eq

set_option maxHeartbeats 4000000 in
theorem main_eq {F : FTy → Type} [FloatOps F] : Cert.ScInDx.main (F := F) = Cert.ScInDxIdeal.main (F := F) := by
  unfold Cert.ScInDx.main Cert.ScInDxIdeal.main
  rfl

theorem frame_kernel : Cert.quiescent_ScInDx := by
  intro m ρ _
  have h := Cert.ScInDxIdeal.Prod.frame (F := Bits) m ρ
  rw [← defs_eq, ← main_eq] at h
  exact h

theorem frame_ideal : Cert.quiescent_ScInDxIdeal := fun m ρ _ => Cert.ScInDxIdeal.Prod.frame m ρ

theorem frame_reference : Cert.quiescent_ScInDxRefIdeal := fun m ρ _ =>
  (θ_run Cert.ScInDxRefIdeal.defs _ _).mono (fun r h => ⟨fun c => (h c).2, sem_eq_zero_of_no_sems (by decide) r.2⟩)
    (Cert.ScInDxRefIdeal.Value.run (F := Ideal) m ρ)

/-- The reference's result. -/
theorem reference (w : (⟨Cert.ScInDxRefIdeal.S1024x3072, .f32⟩ : BufTy).Contents (Elt Ideal)) (ct : (⟨Cert.ScInDxRefIdeal.S1x16384x3072, .f32⟩ : BufTy).Contents (Elt Ideal)) :
    Cert.ScInDxRefIdeal.Read.val_main_v4 (F := Ideal) w ct = fun y => Cert.ScInDxIdeal.Prod.dx w ct (y 0) (y 1) := by
  funext y
  obtain ⟨T, i, rfl⟩ : ∃ (T : Fin 16384) (i : Fin 1024), y = ix2 T i := ⟨y 0, y 1, eq_ix2 y⟩
  unfold Cert.ScInDxIdeal.Prod.dx Cert.ScInDxRefIdeal.Read.val_main_v4 Cert.ScInDxRefIdeal.Read.val_main_v3
  pointwise

theorem algebraic : Cert.algebraic_ScInDxIdeal_ScInDxRefIdeal := by
  intro m ρ m' ρ' _ hagree
  refine ⟨fun c => fun y => Cert.ScInDxIdeal.Prod.dx (Cert.ScInDxIdeal.Prod.arg1 m c) (Cert.ScInDxIdeal.Prod.arg2 m c) (y 0) (y 1), ?_, ?_⟩
  · refine (θ_run Cert.ScInDxIdeal.defs _ _).mono (fun r h c => ?_) (Cert.ScInDxIdeal.Prod.run_main (F := Ideal) m ρ)
    exact ⟨(h.out_eq c 1).trans (Cert.ScInDxIdeal.Prod.final m c), Cert.ScInDxIdeal.Prod.args_kept m r h c⟩
  · refine (θ_run Cert.ScInDxRefIdeal.defs _ _).mono (fun r h c => ?_) (Cert.ScInDxRefIdeal.Value.run (F := Ideal) m' ρ')
    obtain ⟨_, a1, a2⟩ := hagree c
    refine ⟨(h c).1.trans ?_, (h c).2⟩
    rw [a1, a2]
    exact reference _ _

end Cert.ScInDx.Claims

end
-- ==== Proof.Prod.ScInDw.lean ====
module

public import proofs.«01_k».proof.Defs
public import proofs.«01_k».proof.Proof.Gen.ScInDw.Frame
public import proofs.«01_k».proof.Proof.Gen.ScInDwIdeal.Value
public import proofs.«01_k».proof.Proof.Gen.ScInDwRefIdeal.Run
public import proofs.«01_k».proof.Proof.Prod.Blocks
public import Idealize.ShloMosaic.Lib.Pipeline.ValueKit
public import Idealize.ShloMosaic.Lib.Pointwise
public import Idealize.ShloMosaic.Lib.StableHlo.RunRead
public import Idealize.ShloMosaic.Lib.Quiescent

/-! The gradient of the first projection of the short convolution mixer in its weight, cut into four blocks of columns: every entry is the sum over all rows of the
input times the cotangent. The kernel adds it up over eight blocks of rows, kept in its scratch. -/

@[expose] public section

set_option maxRecDepth 16384

noncomputable section

namespace Cert.ScInDwIdeal.Prod

open Cert.ScInDwIdeal.Gen Cert.ScInDwIdeal.Value
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg2 (c : Dev nD) : (⟨S1x16384x3072, .f32⟩ : BufTy).Contents (Elt Ideal) := m ((c : Thread nD τ).loc main_arg2)

/-- Column `j` of block `n` among all columns. -/
def col (n : Fin 4) (j : Fin 768) : Fin 3072 := ⟨n.val * 768 + j.val, by omega⟩

/-- The gradient at channel `i` and column `j` of block `n`. -/
def dw (a : (⟨S1x16384x1024, .f32⟩ : BufTy).Contents (Elt Ideal)) (ct : (⟨S1x16384x3072, .f32⟩ : BufTy).Contents (Elt Ideal)) (n : Fin 4) (i : Fin 1024) (j : Fin 768) : EReal :=
  ∑ T : Fin 16384, a (ix3 0 T i) * ct (ix3 0 T (col n j))

/-- The input as the region finds them, -/
def arr0 (c : Dev nD) : FVec Ideal S16384x1024 .bf16 := V m c main_v1
/-- and the cotangent. -/
def arr1 (c : Dev nD) : FVec Ideal S16384x3072 .bf16 := V m c main_v3

theorem arr0_apply (c : Dev nD) (T : Fin 16384) (i : Fin 1024) : arr0 m c (ix2 T i) = arg0 m c (ix3 0 T i) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (T : Fin 16384) (j : Fin 3072) : arr1 m c (ix2 T j) = arg2 m c (ix3 0 T j) := by
  have e : arr1 m c = truncf .bf16 (shapeCast S16384x3072 (arg2 m c) shapeCasts_S1x16384x3072_S16384x3072) bitsLt_bf16_f32 := by
    unfold arr1 V
    after_reads_simp
    rfl
  rw [e]
  pointwise

theorem idx_val : ∀ t : Fin cfg0.N, win0_0.index t = ![t.val % 8, 0] ∧ win0_1.index t = ![t.val % 8, t.val / 8] ∧ win0_2.index t = ![t.val / 8, 0, 0] :=
  (by decide +kernel : ∀ t : Fin grid0.N, win0_0.index t = ![t.val % 8, 0] ∧ win0_1.index t = ![t.val % 8, t.val / 8] ∧ win0_2.index t = ![t.val / 8, 0, 0])

theorem lt_32 (t : Fin cfg0.N) : t.val < 32 := lt_of_lt_of_eq t.isLt (show cfg0.N = 32 from N_0)

/-- The row of the whole array that is row `r` of the blocks of point `t`, -/
def rowOf (t : Fin cfg0.N) (r : Fin 2048) : Fin 16384 := ⟨2048 * (t.val % 8) + r.val, by omega⟩
/-- and the point's block of columns. -/
def blkOf (t : Fin cfg0.N) : Fin 4 := ⟨t.val / 8, by have := lt_32 t; omega⟩

theorem emb0 (t : Fin cfg0.N) (r : Fin 2048) (i : Fin 1024) : ((cfg0.win 0).blk t).view.emb (ix2 r i) = ix2 (rowOf t r) i := by blk_ext [idx_val t, rowOf]
theorem emb1 (t : Fin cfg0.N) (r : Fin 2048) (j : Fin 768) : ((cfg0.win 1).blk t).view.emb (ix2 r j) = ix2 (rowOf t r) (col (blkOf t) j) := by blk_ext [idx_val t, rowOf, col, blkOf]
theorem emb2 (t : Fin cfg0.N) (i : Fin 1024) (j : Fin 768) : (win0_2.blk t).view.emb (ix3 0 i j) = ix3 (blkOf t) i j := by blk_ext [idx_val t, blkOf]

theorem blk0_apply (c : Dev nD) (t : Fin cfg0.N) (r : Fin 2048) (i : Fin 1024) : iblk m c 0 t (ix2 r i) = arr0 m c (ix2 (rowOf t r) i) :=
  congrArg (arr0 m c) (emb0 t r i)
theorem blk1_apply (c : Dev nD) (t : Fin cfg0.N) (r : Fin 2048) (j : Fin 768) : iblk m c 1 t (ix2 r j) = arr1 m c (ix2 (rowOf t r) (col (blkOf t) j)) :=
  congrArg (arr1 m c) (emb1 t r j)

theorem pay_apply (x0 : FVec Ideal S2048x1024 .bf16) (x1 : FVec Ideal S2048x768 .bf16) (i : Fin 1024) (j : Fin 768) :
    k0_pay1 (F := Ideal) x0 x1 (ix2 i j) = ∑ r : Fin 2048, x0 (ix2 r i) * x1 (ix2 r j) := by
  unfold k0_pay1
  pointwise

theorem flush_pay (x : FVec Ideal S1024x768 .f32) (i : Fin 1024) (j : Fin 768) : k0_pay4 (F := Ideal) x (ix3 0 i j) = x (ix2 i j) := by
  unfold k0_pay4
  pointwise

theorem hz2 : (![0, 0] : Fin 2 → Nat) = fun _ => 0 := funext fun a => by fin_cases a <;> rfl
theorem hz3 : (![0, 0, 0] : Fin 3 → Nat) = fun _ => 0 := funext fun a => by fin_cases a <;> rfl

/-! What the body leaves in its scratch and in the output's block, in each of its three cases. -/

section Cases
variable (c : Dev nD) (i : grid0.Coords) (a3 : Memref sig .tc .vmem S2048x1024 .bf16) (h3 : a3.IsWhole) (a4 : Memref sig .tc .vmem S2048x768 .bf16) (h4 : a4.IsWhole)
  (a5 : Memref sig .tc .vmem S1x1024x768 .bf16) (h5 : a5.IsWhole) (a6 : Memref sig .tc .vmem S1024x768 .f32) (h6 : a6.IsWhole)
  (x0 : Vec Ideal S2048x1024 .bf16) (x1 : Vec Ideal S2048x768 .bf16) (xs : Vec Ideal S1024x768 .f32)

theorem scratch_A (hc0 : cond0_0 i) (hc1 : ¬cond0_1 i) (hc2 : ¬cond0_2 i) :
    sout0_A_0 c i a3 h3 a4 h4 a5 h5 a6 h6 hc0 hc1 hc2 x0 x1 = k0_pay1 (F := Ideal) x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x768) hz2, shapeCast_self]

theorem scratch_B (hc0 : ¬cond0_0 i) (hc1 : cond0_1 i) (hc2 : ¬cond0_2 i) :
    sout0_B_0 c i a3 h3 a4 h4 a5 h5 a6 h6 hc0 hc1 hc2 x0 x1 xs = addf (F := Ideal) (φ := .f32) xs (k0_pay1 (F := Ideal) x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S2048x1024) hz2, View.ld_unit_zero (S := S2048x768) hz2,
    View.ld_unit_zero (S := S1024x768) hz2, shapeCast_self]

theorem scratch_C (hc0 : ¬cond0_0 i) (hc1 : cond0_1 i) (hc2 : cond0_2 i) :
    sout0_C_0 c i a3 h3 a4 h4 a5 h5 a6 h6 hc0 hc1 hc2 x0 x1 xs = addf (F := Ideal) (φ := .f32) xs (k0_pay1 (F := Ideal) x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz2]
  unfold k0_pay3
  simp only [View.readAt_eq_ld, h3.read_unread, h4.read_unread, h6.read_unread, View.ld_unit_zero (S := S2048x1024) hz2, View.ld_unit_zero (S := S2048x768) hz2,
    View.ld_unit_zero (S := S1024x768) hz2, shapeCast_self]

theorem out_C (hc0 : ¬cond0_0 i) (hc1 : cond0_1 i) (hc2 : cond0_2 i) :
    out0_C_2 c i a3 h3 a4 h4 a5 h5 a6 h6 hc0 hc1 hc2 x0 x1 xs = k0_pay4 (F := Ideal) (addf (F := Ideal) (φ := .f32) xs (k0_pay1 (F := Ideal) x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz3, View.readCov_unit_zero (S := S1024x768) _ hz2]
  unfold k0_pay3
  simp only [View.readAt_eq_ld, h3.read_unread, h4.read_unread, h6.read_unread, View.ld_unit_zero (S := S2048x1024) hz2, View.ld_unit_zero (S := S2048x768) hz2,
    View.ld_unit_zero (S := S1024x768) hz2, shapeCast_self]

end Cases

/-- The addend of point `n` at a place of the block. -/
def addend (c : Dev nD) (n : ℕ) (i : Fin 1024) (j : Fin 768) : EReal :=
  if h : n < cfg0.N then ∑ r : Fin 2048, arr0 m c (ix2 (rowOf ⟨n, h⟩ r) i) * arr1 m c (ix2 (rowOf ⟨n, h⟩ r) (col (blkOf ⟨n, h⟩) j)) else 0

theorem addend_eq (c : Dev nD) (t : Fin cfg0.N) (i : Fin 1024) (j : Fin 768) : k0_pay1 (F := Ideal) (iblk m c 0 t) (iblk m c 1 t) (ix2 i j) = addend m c t.val i j := by
  unfold addend
  rw [pay_apply, dif_pos t.isLt]
  refine Finset.sum_congr rfl fun r _ => ?_
  rw [blk0_apply, blk1_apply]

/-- The scratch after a point: the addends since the last reset. -/
theorem scratch_at (c : Dev nD) (t : Fin cfg0.N) (i : Fin 1024) (j : Fin 768) :
    (outsAt0 m c t.val t.isLt).2 (ix2 i j) = ∑ s ∈ Finset.range (t.val % 8 + 1), addend m c (8 * (t.val / 8) + s) i j := by
  obtain ⟨n, hn⟩ := t
  induction n with
  | zero =>
    rw [outsAt0_A m c ⟨0, hn⟩ rfl (by dsimp only; omega) (by dsimp only; omega)]
    dsimp only
    rw [scratch_A, addend_eq]
    simp
  | succ n ih =>
    have hN := lt_32 ⟨n + 1, hn⟩
    by_cases h0 : (n + 1) % 8 = 0
    · rw [outsAt0_A m c ⟨n + 1, hn⟩ h0 (by dsimp only; omega) (by dsimp only; omega)]
      dsimp only
      rw [scratch_A, addend_eq, h0, Finset.sum_range_one, show 8 * ((n + 1) / 8) + 0 = n + 1 by omega]
    · have e1 : (n + 1) % 8 = n % 8 + 1 := by omega
      have e2 : (n + 1) / 8 = n / 8 := by omega
      have e3 : 8 * (n / 8) + (n % 8 + 1) = n + 1 := by omega
      have ih := ih (Nat.lt_of_succ_lt hn)
      have goal : addf (F := Ideal) (φ := .f32) (outsAt0 m c n (Nat.lt_of_succ_lt hn)).2 (k0_pay1 (F := Ideal) (iblk m c 0 ⟨n + 1, hn⟩) (iblk m c 1 ⟨n + 1, hn⟩)) (ix2 i j)
          = ∑ s ∈ Finset.range ((n + 1) % 8 + 1), addend m c (8 * ((n + 1) / 8) + s) i j := by
        rw [e1, e2, Finset.sum_range_succ, ← ih, e3]
        exact congrArg (_ + ·) (addend_eq m c ⟨n + 1, hn⟩ i j)
      by_cases h2 : (n + 1) % 8 = 7
      · rw [outsAt0_C m c ⟨n + 1, hn⟩ h0 (by dsimp only; omega) h2]
        dsimp only
        rw [scratch_C]
        exact goal
      · rw [outsAt0_B m c ⟨n + 1, hn⟩ h0 (by dsimp only; omega) h2]
        dsimp only
        rw [scratch_B]
        exact goal

/-- The output's block at the last point of its run: what the scratch holds there. -/
theorem out_at (c : Dev nD) (t : Fin cfg0.N) (h : t.val % 8 = 7) (i : Fin 1024) (j : Fin 768) : (outsAt0 m c t.val t.isLt).1 (ix3 0 i j) = (outsAt0 m c t.val t.isLt).2 (ix2 i j) := by
  rw [outsAt0_C m c t (by omega) (by omega) h]
  dsimp only
  rw [out_C, scratch_C, flush_pay]

theorem final (c : Dev nD) : (dats m 0 c).arrAt 2 cfg0.N = fun y => dw (arg0 m c) (arg2 m c) (y 0) (y 1) (y 2) := by
  refine (dats m 0 c).arrAt_eq_of_covers 2 _ (by decide +kernel) fun t hf y => ?_
  have h7 : t.val % 8 = 7 := (flush0_2 t).mp hf
  blk_simp
  rw [after0_2]
  obtain ⟨z, i, j, rfl⟩ : ∃ (z : Fin 1) (i : Fin 1024) (j : Fin 768), y = ix3 z i j := ⟨y 0, y 1, y 2, eq_ix3 y⟩
  obtain rfl : z = 0 := Subsingleton.elim _ _
  rw [out_at m c t h7, emb2, scratch_at, h7]
  refine (Cert.Prod.sum_blocks _ _ fun s hs => ?_).symm
  have hN := lt_32 t
  have hb : 8 * (t.val / 8) + s < cfg0.N := lt_of_lt_of_eq (by omega) (show cfg0.N = 32 from N_0).symm
  unfold addend
  rw [dif_pos hb]
  refine Finset.sum_congr rfl fun r _ => ?_
  rw [arr0_apply, arr1_apply]
  have e : rowOf ⟨8 * (t.val / 8) + s, hb⟩ r = Cert.Prod.row s hs r := Fin.ext (by show 2048 * ((8 * (t.val / 8) + s) % 8) + r.val = 2048 * s + r.val; omega)
  have e' : blkOf ⟨8 * (t.val / 8) + s, hb⟩ = blkOf t := Fin.ext (by show (8 * (t.val / 8) + s) / 8 = t.val / 8; omega)
  rw [e, e']
  rfl

end Cert.ScInDwIdeal.Prod

namespace Cert.ScInDwRefIdeal.Prod

open Idealize.ShloMosaic
open Cert.ScInDwRefIdeal Cert.ScInDwRefIdeal.Gen

theorem result (a : (⟨S1x16384x1024, .f32⟩ : BufTy).Contents (Elt Ideal)) (ct : (⟨S1x16384x3072, .f32⟩ : BufTy).Contents (Elt Ideal)) :
    truncf (F := Ideal) .bf16 (transpose S4x1024x768 [1, 0, 2] (shapeCast S1024x4x768 (transpose S1024x3072 [1, 0] (Host.dotGeneral (F := Ideal) (φ₁ := .f32) (φ₂ := .f32) dot_S1x16384x3072_S1x16384x1024_S3072x1024_01_01_2_2_n_n none ct a) transposes_S3072x1024_S1024x3072_1_0) shapeCasts_S1024x3072_S1024x4x768) transposes_S1024x4x768_S4x1024x768_1_0_2) bitsLt_bf16_f32
      = fun y => Cert.ScInDwIdeal.Prod.dw a ct (y 0) (y 1) (y 2) := by
  funext y
  obtain ⟨n, i, j, rfl⟩ : ∃ (n : Fin 4) (i : Fin 1024) (j : Fin 768), y = ix3 n i j := ⟨y 0, y 1, y 2, eq_ix3 y⟩
  unfold Cert.ScInDwIdeal.Prod.dw Cert.ScInDwIdeal.Prod.col
  pointwise
  rw [Fin.sum_univ_one]
  exact Finset.sum_congr rfl fun T _ => EReal.mul_comm _ _

end Cert.ScInDwRefIdeal.Prod

namespace Cert.ScInDw.Claims

open Idealize.ShloMosaic Idealize.ShloMosaic.TcCoe Idealize.SL.Sem

theorem frame_kernel : Cert.quiescent_ScInDw := fun m ρ _ => Cert.ScInDw.Gen.frame m ρ
theorem frame_ideal : Cert.quiescent_ScInDwIdeal := fun m ρ _ => Cert.ScInDwIdeal.Gen.frame m ρ
theorem frame_reference : Cert.quiescent_ScInDwRefIdeal := fun m ρ _ =>
  (θ_run Cert.ScInDwRefIdeal.defs _ _).mono (fun r h => ⟨fun c => (h c).2, sem_eq_zero_of_no_sems (by decide) r.2⟩)
    (Cert.ScInDwRefIdeal.Value.run (F := Ideal) m ρ)

theorem algebraic : Cert.algebraic_ScInDwIdeal_ScInDwRefIdeal := by
  intro m ρ m' ρ' _ hagree
  refine ⟨fun c => fun y => Cert.ScInDwIdeal.Prod.dw (Cert.ScInDwIdeal.Prod.arg0 m c) (Cert.ScInDwIdeal.Prod.arg2 m c) (y 0) (y 1) (y 2), ?_, ?_⟩
  · refine (θ_run Cert.ScInDwIdeal.defs _ _).mono (fun r h c => ?_) (Cert.ScInDwIdeal.Value.run_blocks (F := Ideal) m ρ)
    exact ⟨(h c).1.trans (Cert.ScInDwIdeal.Prod.final m c), (h c).2⟩
  · refine (θ_run Cert.ScInDwRefIdeal.defs _ _).mono (fun r h c => ?_) (Cert.ScInDwRefIdeal.Value.run (F := Ideal) m' ρ')
    obtain ⟨a0, _, a2⟩ := hagree c
    refine ⟨(h c).1.trans ?_, (h c).2⟩
    rw [a0, a2]
    exact Cert.ScInDwRefIdeal.Prod.result _ _

end Cert.ScInDw.Claims

end
-- ==== Proof.Prod.Pw1.lean ====
module

public import proofs.«01_k».proof.Defs
public import proofs.«01_k».proof.Proof.Gen.Pw1.Frame
public import proofs.«01_k».proof.Proof.Gen.Pw1Ideal.Value
public import proofs.«01_k».proof.Proof.Gen.Pw1RefIdeal.Run
public import Idealize.ShloMosaic.Lib.Pipeline.ValueKit
public import Idealize.ShloMosaic.Lib.Pointwise
public import Idealize.ShloMosaic.Lib.StableHlo.RunRead
public import Idealize.ShloMosaic.Lib.Quiescent

/-! The first pointwise projection of the Conformer module: every entry of the result is the sum over the model's
width of the input times the weight, whose columns the kernel takes in four blocks. -/

@[expose] public section

set_option maxRecDepth 16384

noncomputable section

namespace Cert.Pw1Ideal.Prod

open Cert.Pw1Ideal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg1 (c : Dev nD) : (⟨S1024x2048, .f32⟩ : BufTy).Contents (Elt Ideal) := m ((c : Thread nD τ).loc main_arg1)

/-- The product at row `T` and column `j`. -/
def product (a : (⟨S1x16384x1024, .f32⟩ : BufTy).Contents (Elt Ideal)) (w : (⟨S1024x2048, .f32⟩ : BufTy).Contents (Elt Ideal)) (T : Fin 16384) (j : Fin 2048) : EReal :=
  ∑ k : Fin 1024, a (ix3 0 T k) * w (ix2 k j)

/-- The activations as the region finds them, -/
def arr0 (c : Dev nD) : FVec Ideal S16384x1024 .bf16 := V m c main_v5
/-- and the weight. -/
def arr1 (c : Dev nD) : FVec Ideal S1x4x1024x512 .bf16 := V m c main_v3

theorem arr0_apply (c : Dev nD) (T : Fin 16384) (k : Fin 1024) : arr0 m c (ix2 T k) = arg0 m c (ix3 0 T k) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (n : Fin 4) (k : Fin 1024) (j : Fin 512) : arr1 m c (ix4 0 n k j) = arg1 m c (ix2 k ⟨n.val * 512 + j.val, by omega⟩) := by
  have e : arr1 m c = truncf .bf16 (broadcastInDim S1x4x1024x512 ![1, 2, 3] bcast_S4x1024x512_S1x4x1024x512_1_2_3 (transpose S4x1024x512 [1, 0, 2] (shapeCast S1024x4x512 (arg1 m c) shapeCasts_S1024x2048_S1024x4x512) transposes_S1024x4x512_S4x1024x512_1_0_2)) bitsLt_bf16_f32 := by
    unfold arr1 V
    after_reads_simp
    rfl
  rw [e]
  pointwise

theorem idx_val : ∀ t : Fin cfg0.N, win0_0.index t = ![t.val / 4, 0] ∧ win0_1.index t = ![0, t.val % 4, 0, 0] ∧ win0_2.index t = ![t.val / 4, t.val % 4] :=
  (by decide +kernel : ∀ t : Fin grid0.N, win0_0.index t = ![t.val / 4, 0] ∧ win0_1.index t = ![0, t.val % 4, 0, 0] ∧ win0_2.index t = ![t.val / 4, t.val % 4])

theorem lt_64 (t : Fin cfg0.N) : t.val < 64 := lt_of_lt_of_eq t.isLt (show cfg0.N = 64 from N_0)

/-- The row of the whole array that is row `r` of the block of point `t`, -/
def rowOf (t : Fin cfg0.N) (r : Fin 1024) : Fin 16384 := ⟨t.val / 4 * 1024 + r.val, by have := lt_64 t; omega⟩
/-- the point's block of columns, -/
def blkOf (t : Fin cfg0.N) : Fin 4 := ⟨t.val % 4, by omega⟩
/-- and the column that is column `j` of it. -/
def colOf (t : Fin cfg0.N) (j : Fin 512) : Fin 2048 := ⟨t.val % 4 * 512 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (k : Fin 1024) (j : Fin 512) : ((cfg0.win 1).blk t).view.emb (ix4 0 0 k j) = ix4 0 (blkOf t) k j := by blk_ext [idx_val t, blkOf]
theorem emb2 (t : Fin cfg0.N) (r : Fin 1024) (j : Fin 512) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (k : Fin 1024) (j : Fin 512) : iblk m c 1 t (ix4 0 0 k j) = arr1 m c (ix4 0 (blkOf t) k j) :=
  congrArg (arr1 m c) (emb1 t k j)

theorem pay_apply (x0 : FVec Ideal S1024x1024 .bf16) (x1 : FVec Ideal S1x1x1024x512 .bf16) (r : Fin 1024) (j : Fin 512) :
    k0_pay1 (F := Ideal) x0 x1 (ix2 r j) = ∑ k : Fin 1024, x0 (ix2 r k) * x1 (ix4 0 0 k j) := by
  unfold k0_pay1
  pointwise

theorem hz2 : (![0, 0] : Fin 2 → Nat) = fun _ => 0 := funext fun a => by fin_cases a <;> rfl
theorem hzW : (![0, 0, 0, 0] : Fin 4 → Nat) = fun _ => 0 := funext fun a => by fin_cases a <;> rfl

theorem out_eq (x0 : FVec Ideal S1024x1024 .bf16) (x1 : FVec Ideal S1x1x1024x512 .bf16) : out0_2 (F := Ideal) x0 x1 = k0_pay1 (F := Ideal) x0 x1 := by
  unfold out0_2
  rw [View.canon_unit_zero hz2, View.ld_unit_zero (S := S1024x1024) hz2, View.ld_unit_zero (S := S1x1x1024x512) hzW]

theorem pay_blk (c : Dev nD) (t : Fin cfg0.N) (r : Fin 1024) (j : Fin 512) :
    k0_pay1 (F := Ideal) (iblk m c 0 t) (iblk m c 1 t) (ix2 r j) = product (arg0 m c) (arg1 m c) (rowOf t r) (colOf t j) := by
  rw [pay_apply]
  refine Finset.sum_congr rfl fun k _ => ?_
  rw [blk0_apply, blk1_apply, arr0_apply, arr1_apply]
  rfl

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 512), y = ix2 r j := ⟨y 0, y 1, eq_ix2 y⟩
  rw [emb2]
  exact pay_blk m c t r j

end Cert.Pw1Ideal.Prod

namespace Cert.Pw1RefIdeal.Prod

open Idealize.ShloMosaic
open Cert.Pw1RefIdeal Cert.Pw1RefIdeal.Gen

theorem result (a : (⟨S1x16384x1024, .f32⟩ : BufTy).Contents (Elt Ideal)) (w : (⟨S1024x2048, .f32⟩ : BufTy).Contents (Elt Ideal)) :
    truncf (F := Ideal) .bf16 (shapeCast S16384x2048 (Host.dotGeneral (F := Ideal) (φ₁ := .f32) (φ₂ := .f32) dot_S1x16384x1024_S1024x2048_S1x16384x2048_2_0_01_1_n_n none a w) shapeCasts_S1x16384x2048_S16384x2048) bitsLt_bf16_f32
      = fun y => Cert.Pw1Ideal.Prod.product a w (y 0) (y 1) := by
  funext y
  obtain ⟨T, j, rfl⟩ : ∃ (T : Fin 16384) (j : Fin 2048), y = ix2 T j := ⟨y 0, y 1, eq_ix2 y⟩
  unfold Cert.Pw1Ideal.Prod.product
  pointwise

end Cert.Pw1RefIdeal.Prod

namespace Cert.Pw1.Claims

open Idealize.ShloMosaic Idealize.ShloMosaic.TcCoe Idealize.SL.Sem

theorem frame_kernel : Cert.quiescent_Pw1 := fun m ρ _ => Cert.Pw1.Gen.frame m ρ
theorem frame_ideal : Cert.quiescent_Pw1Ideal := fun m ρ _ => Cert.Pw1Ideal.Gen.frame m ρ
theorem frame_reference : Cert.quiescent_Pw1RefIdeal := fun m ρ _ =>
  (θ_run Cert.Pw1RefIdeal.defs _ _).mono (fun r h => ⟨fun c => (h c).2, sem_eq_zero_of_no_sems (by decide) r.2⟩)
    (Cert.Pw1RefIdeal.Value.run (F := Ideal) m ρ)

theorem algebraic : Cert.algebraic_Pw1Ideal_Pw1RefIdeal := by
  intro m ρ m' ρ' _ hagree
  refine ⟨fun c => fun y => Cert.Pw1Ideal.Prod.product (Cert.Pw1Ideal.Prod.arg0 m c) (Cert.Pw1Ideal.Prod.arg1 m c) (y 0) (y 1), ?_, ?_⟩
  · refine (θ_run Cert.Pw1Ideal.defs _ _).mono (fun r h c => ?_) (Cert.Pw1Ideal.Value.run_blocks (F := Ideal) m ρ)
    exact ⟨(h c).1.trans (Cert.Pw1Ideal.Prod.final m c), (h c).2⟩
  · refine (θ_run Cert.Pw1RefIdeal.defs _ _).mono (fun r h c => ?_) (Cert.Pw1RefIdeal.Value.run (F := Ideal) m' ρ')
    obtain ⟨a0, a1⟩ := hagree c
    refine ⟨(h c).1.trans ?_, (h c).2⟩
    rw [a0, a1]
    exact Cert.Pw1RefIdeal.Prod.result _ _

end Cert.Pw1.Claims

end
-- ==== Proof.Prod.Pw1Dx.Run.lean ====
module

public import proofs.«01_k».proof.Proof.Gen.Pw1DxIdeal.Frame.Runs
public import proofs.«01_k».proof.Proof.Gen.Pw1DxIdeal.Skeleton
public import Idealize.ShloMosaic.Lib.Pipeline.Value
public import Idealize.ShloMosaic.Lib.Pipeline.ValueKit
public import Idealize.ShloMosaic.Lib.ValueIdx
public import Idealize.ShloMosaic.Lib.Pointwise

/-! The input gradient of the first pointwise projection of the Conformer module: one run of its body, at the first point of the grid, where four copies bring
the weight into the scratch, and at any later point, where the scratch is as the point before left it. -/

@[expose] public section

set_option maxRecDepth 16384

noncomputable section

namespace Cert.Pw1DxIdeal.Prod

open Cert.Pw1DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four cells the copies signal, at zero. -/
abbrev cells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)

set_option maxHeartbeats 1000000 in
/-- The body at the first point, with the pieces it leaves in the result and in the scratch: each copy is lent its own band of columns of the scratch. -/
noncomputable def runFirst (c : Dev nD) (i : grid0.Coords) (arg1 : Memref sig .tc .vmem S512x2048 .bf16) (harg1 : arg1.IsWhole) (arg3 : Memref sig .tc .vmem S512x1024 .f32) (harg3 : arg3.IsWhole)
    (arg4 : Memref sig .tc .vmem S1024x2048 .bf16) (harg4 : arg4.IsWhole) (hc : cond0_0 i) (x0 : Vec F S512x2048 .bf16) (fh : HbBuf0 (F := F) c hbM0_0) :
    Σ' (L1 : List (View.Piece (Elt F) S512x1024 .f32)), { LS : List (View.Piece (Elt F) S1024x2048 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS) ∗ cells c ∗ hbPt0 c hbM0_0 fh ∗ (∃ W', owes (c : Thread nD τ) 0 W')) -∗ K ⟨⟩))
          ⊢ wp frame (wpE (defs₀ (F := F)) Variants.none c none) Set.univ (cc0_cf_pw1_dx_2 i arg1 harg1 (Memref.whole main_v3) (Memref.isWhole_whole _) arg3 harg3 arg4 harg4 cc0_scratch1) K } := by
  refine ⟨?_, ?_, fun W K => ?run⟩
  case run =>
    simp only [cc0_cf_pw1_dx_2_eq_skeleton]; unfold cc0_cf_pw1_dx_2_skel
    simp only [k0_part1_eq_skeleton]
    unfold owns cells
    iintro ⟨⟨%f0, %hf0, H0⟩, ⟨%d1, %f1, -, H1⟩, ⟨%ds, %fs, -, HS⟩, ⟨Hq0, Hq1, Hq2, Hq3⟩, Hh, HW, Hk⟩
    obtain rfl := harg1.eq_unread hf0
    set_option sl_exec.dmaWindow true in set_option sl_exec.dmaWindowLent true in set_option sl_exec.dmaWindowSet true in sl_exec (disch := first | sl_exact hc)
    sl_step
    iapply Hk
    isplitl [H0]
    · iexists _; isplitr; · ipureintro; exact harg1.read_unread _
      iexact H0
    isplitl [H1]; · iexists _; iexact H1
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

set_option maxHeartbeats 1000000 in
/-- The body at a later point: the scratch is read and left alone. -/
noncomputable def runLater (c : Dev nD) (i : grid0.Coords) (arg1 : Memref sig .tc .vmem S512x2048 .bf16) (harg1 : arg1.IsWhole) (arg3 : Memref sig .tc .vmem S512x1024 .f32) (harg3 : arg3.IsWhole)
    (arg4 : Memref sig .tc .vmem S1024x2048 .bf16) (harg4 : arg4.IsWhole) (hc : ¬cond0_0 i) (x0 : Vec F S512x2048 .bf16) (xs : Vec F S1024x2048 .bf16) (fh : HbBuf0 (F := F) c hbM0_0) :
    Σ' (L1 : List (View.Piece (Elt F) S512x1024 .f32)), { LS : List (View.Piece (Elt F) S1024x2048 .bf16) //
      ∀ (W : Waits sig Unit) (K : PUnit → sProp 𝕄),
        iprop(owns (c : Thread nD τ) arg1 fullShare x0 ∗ (∃ d, owns (c : Thread nD τ) arg3 fullShare d) ∗ owns (c : Thread nD τ) arg4 fullShare xs ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ owns (c : Thread nD τ) arg4 fullShare xs ∗ cells c ∗ hbPt0 c hbM0_0 fh ∗ (∃ W', owes (c : Thread nD τ) 0 W')) -∗ K ⟨⟩))
          ⊢ wp frame (wpE (defs₀ (F := F)) Variants.none c none) Set.univ (cc0_cf_pw1_dx_2 i arg1 harg1 (Memref.whole main_v3) (Memref.isWhole_whole _) arg3 harg3 arg4 harg4 cc0_scratch1) K } := by
  refine ⟨?_, [], fun W K => ?run⟩
  case run =>
    simp only [cc0_cf_pw1_dx_2_eq_skeleton]; unfold cc0_cf_pw1_dx_2_skel
    unfold owns cells
    iintro ⟨⟨%f0, %hf0, H0⟩, ⟨%d1, %f1, -, H1⟩, ⟨%fs, %hfs, HS⟩, ⟨Hq0, Hq1, Hq2, Hq3⟩, Hh, HW, Hk⟩
    obtain rfl := harg1.eq_unread hf0; obtain rfl := harg4.eq_unread hfs
    sl_exec (disch := first | sl_exact hc)
    sl_step
    iapply Hk
    isplitl [H0]
    · iexists _; isplitr; · ipureintro; exact harg1.read_unread _
      iexact H0
    isplitl [H1]; · iexists _; iexact H1
    isplitl [HS]
    · iexists _; isplitr; · ipureintro; exact harg4.read_unread _
      iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

theorem hz2 : (![0, 0] : Fin 2 → Nat) = fun _ => 0 := funext fun a => by fin_cases a <;> rfl

section
variable (c : Dev nD) (i : grid0.Coords) (a1 : Memref sig .tc .vmem S512x2048 .bf16) (h1 : a1.IsWhole) (a3 : Memref sig .tc .vmem S512x1024 .f32) (h3 : a3.IsWhole)
    (a4 : Memref sig .tc .vmem S1024x2048 .bf16) (h4 : a4.IsWhole) (x0 : Vec F S512x2048 .bf16) (xs : Vec F S1024x2048 .bf16) (fh : HbBuf0 (F := F) c hbM0_0)

theorem out_later (hc : ¬cond0_0 i) (f) :
    a3.view.read (Elt F) (a3.view.writes (Elt F) f (runLater c i a1 h1 a3 h3 a4 h4 hc x0 xs fh).1) = k0_pay1 x0 xs := by
  rw [View.read_writes_eq_canon _ _ _ (View.cover_of_tiledL (runLater c i a1 h1 a3 h3 a4 h4 hc x0 xs fh).1 S512x1024.size (by sl_kernel_rfl))]
  unfold runLater
  dsimp only
  rw [View.canon_unit_zero hz2]
  simp only [View.readAt_eq_ld, h1.read_unread, h4.read_unread, View.ld_unit_zero (S := S512x2048) hz2, View.ld_unit_zero (S := S1024x2048) hz2]

theorem out_first (hc : cond0_0 i) (f) :
    a3.view.read (Elt F) (a3.view.writes (Elt F) f (runFirst c i a1 h1 a3 h3 a4 h4 hc x0 fh).1) = k0_pay1 x0 (View.canon (runFirst c i a1 h1 a3 h3 a4 h4 hc x0 fh).2.1) := by
  rw [View.read_writes_eq_canon _ _ _ (View.cover_of_tiledL (runFirst c i a1 h1 a3 h3 a4 h4 hc x0 fh).1 S512x1024.size (by sl_kernel_rfl))]
  unfold runFirst
  dsimp only
  rw [View.canon_unit_zero hz2]
  sl_unfold_words
  simp only [View.readAt_eq_ld, h1.read_unread, View.ld_unit_zero (S := S512x2048) hz2]
  rw [View.readCov_eq_canon']
  exact congrArg (k0_pay1 x0) (View.ld_unit_zero (S := S1024x2048) hz2 _ _)

/-- The weight as the scratch holds it: column k·512 + j is column j of group k of the buffer. -/
def staged (fh : HbBuf0 (F := F) c hbM0_0) : Vec F S1024x2048 .bf16 := fun y =>
  fh (ix4 ⟨0, by decide⟩ ⟨(y 1).val / 512, by have := (y 1).isLt; change (y 1).val < 2048 at this; omega⟩ (y 0) ⟨(y 1).val % 512, Nat.mod_lt _ (by decide)⟩)

/-- A copy's payload: group k of the buffer. -/
theorem band (k : ℕ) {off : Fin 4 → ℕ} {off' : Fin 2 → ℕ} (inb : ∀ a, off a + (![1, 1, 1024, 512] : Fin 4 → ℕ) a ≤ S1x4x1024x512.size a) (inb' : ∀ a, off' a + (![1024, 512] : Fin 2 → ℕ) a ≤ S1024x2048.size a)
    (h : S1024x512.numel = (Rect.unit (s := S1x4x1024x512) off ![1, 1, 1024, 512] inb).shape.numel) (ho : off = ![0, k, 0, 0] := by rfl) (ho' : off' = ![0, k * 512] := by rfl) (x : S1024x512.Idx) :
    ReadAs.same.apply (View.read (Elt F) (((View.whole main_v3).slice (Rect.unit (s := S1x4x1024x512) off ![1, 1, 1024, 512] inb)).reshape S1024x512 h) fh) x
      = staged c fh ((Rect.unit (s := S1024x2048) off' ![1024, 512] inb').emb x) := by
  subst ho ho'
  have hr : (x 0).val < 1024 := (x 0).isLt
  have hj : (x 1).val < 512 := (x 1).isLt
  have hk : k + 1 ≤ 4 := inb 1
  have e : Shape.reshapeEquiv h x = (ix4 (⟨0, Nat.one_pos⟩ : Fin 1) (⟨0, Nat.one_pos⟩ : Fin 1) (⟨(x 0).val, hr⟩ : Fin 1024) (⟨(x 1).val, hj⟩ : Fin 512) : (Rect.unit (s := S1x4x1024x512) ![0, k, 0, 0] ![1, 1, 1024, 512] inb).shape.Idx) := by
    apply Shape.reshapeEquiv_eq_of_rowMajor
    refine (Shape.rowMajor_val_four _).trans (Eq.trans ?_ (Shape.rowMajor_val_two _).symm)
    show ((0 * 1 + 0) * 1024 + (x 0).val) * 512 + (x 1).val = (x 0).val * 512 + (x 1).val
    omega
  show fh ((Rect.unit (s := S1x4x1024x512) ![0, k, 0, 0] ![1, 1, 1024, 512] inb).emb (Shape.reshapeEquiv h x)) = _
  rw [e]
  refine congrArg fh (funext fun a => Fin.ext ?_)
  match a with
  | 0 => rfl
  | 1 => show k + 1 * 0 = (k * 512 + 1 * (x 1).val) / 512; omega
  | 2 => show 0 + 1 * (x 0).val = 0 + 1 * (x 0).val; rfl
  | 3 => show 0 + 1 * (x 1).val = (k * 512 + 1 * (x 1).val) % 512; omega

theorem first_scratch (hc : cond0_0 i) : ∀ p ∈ (runFirst c i a1 h1 a3 h3 a4 h4 hc x0 fh).2.1, ∀ x : p.1.shape.Idx, p.2 x = staged c fh (p.1.emb x) := by
  unfold runFirst
  dsimp only
  sl_unfold_words
  simp only [List.forall_mem_cons, List.not_mem_nil, false_imp_iff, implies_true, and_true]
  exact ⟨band c fh 3 _ _ _, band c fh 2 _ _ _, band c fh 1 _ _ _, band c fh 0 _ _ _⟩

theorem first_cover (hc : cond0_0 i) : ∀ y : S1024x2048.Idx, ∃ p ∈ (runFirst c i a1 h1 a3 h3 a4 h4 hc x0 fh).2.1, y ∈ p.1.set := by
  unfold runFirst
  dsimp only
  intro y
  simp only [List.exists_mem_cons_iff, List.not_mem_nil, false_and, exists_false, or_false, Rect.mem_set_unit, Fin.forall_fin_two]
  have h0 : (y 0).val < 1024 := (y 0).isLt
  have h1 : (y 1).val < 2048 := (y 1).isLt
  simp
  omega

theorem first_canon (hc : cond0_0 i) : View.canon (runFirst c i a1 h1 a3 h3 a4 h4 hc x0 fh).2.1 = staged c fh :=
  funext fun y => View.canon_apply_of_pieces (Val := Elt F) (staged c fh) _ (first_scratch c i a1 h1 a3 h3 a4 h4 x0 fh hc) y (first_cover c i a1 h1 a3 h3 a4 h4 x0 fh hc y)

end

end Cert.Pw1DxIdeal.Prod

end
-- ==== Proof.Prod.Pw1Dx.Launch.lean ====
module

public import proofs.«01_k».proof.Proof.Prod.Pw1Dx.Run
public import Idealize.ShloMosaic.Lib.Claim
public import Idealize.ShloMosaic.Lib.Pipeline.Value
public import Idealize.ShloMosaic.Lib.Pipeline.ValueKit
public import Idealize.ShloMosaic.Lib.ValueIdx
public import Idealize.ShloMosaic.Lib.Pointwise

/-! The input gradient of the first pointwise projection of the Conformer module: the call of the kernel, what each of its points leaves, and the frame. -/

@[expose] public section

set_option maxRecDepth 16384

noncomputable section

namespace Cert.Pw1DxIdeal.Prod

open Cert.Pw1DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the scratch holds from the first point on. -/
def weight (c : Dev nD) : Vec F S1024x2048 .bf16 := staged c (V m c main_v3)

/-- What holds between two points: before the first one, what the call begins with; afterwards the scratch holds the
weight. -/
def between (c : Dev nD) : ℕ → sProp 𝕄
  | 0 => Pipeline.ΦD osem0 spec0 H0 (V m) c
  | _ + 1 => iprop(owns (c : Thread nD τ) scM0_0 fullShare (weight m c) ∗ (∃ r, prngReg c r) ∗ cells c ∗ hbPt0 c hbM0_0 (V m c main_v3))

theorem between_pos (c : Dev nD) (n : ℕ) (h : n ≠ 0) :
    between m c n = iprop(owns (c : Thread nD τ) scM0_0 fullShare (weight m c) ∗ (∃ r, prngReg c r) ∗ cells c ∗ hbPt0 c hbM0_0 (V m c main_v3)) := by
  cases n with
  | zero => exact absurd rfl h
  | succ n => rfl

/-- What a point leaves in the block of the result: its rows of the cotangent times the weight. -/
def block (c : Dev nD) (t : Fin cfg0.N) : Vec F S512x1024 .f32 := k0_pay1 (iblk m c 0 t) (weight m c)

/-- The data of the call: the block it reads, the block it leaves, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => block m c t
  Φ t := between m c t.val
  q _ := fullShare
  owed _ := 0

theorem A_eq (c : Dev nD) (w : Fin cfg0.W) : (dats m 0 c).A w = V m c (Pipeline.arrRef spec0 w) := by
  dsimp only [dats]

theorem after_read (c : Dev nD) (t : Fin cfg0.N) : (dats m 0 c).after 0 t = iblk m c 0 t := by dsimp only [dats]
theorem after_result (c : Dev nD) (t : Fin cfg0.N) : (dats m 0 c).after 1 t = block m c t := by dsimp only [dats]

theorem before_read (c : Dev nD) (t : Fin cfg0.N) (d) : (dats m 0 c).before 0 t d = iblk m c 0 t :=
  before0_0_of m (dats m 0 c) (A_eq m c 0) (after_read m c) t d

/-- What a point begins with. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What it ends with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- Every point keeps to that: the first fills the scratch, the others find it filled. -/
theorem point (c : Dev nD) (t : Fin cfg0.N) :
    pre m c t ⊢ wp frame (wpE (defs₀ (F := F)) Variants.none c none) Set.univ (bodyAt0 t) (fun _ => post m c t) := by
  unfold pre post bodyAt0
  simp only [before_read]
  rw [show (dats m 0 c).Φ t.succ = between m c (t.val + 1) from rfl, between_pos m c _ (Nat.succ_ne_zero _),
    show (dats m 0 c).Φ t.castSucc = between m c t.val from rfl, after_read, after_result]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases hz : t.val = 0
  · have hc : cond0_0 (grid0.coords t) := (hcond0_0 t).mpr (by omega)
    rw [show between m c t.val = Pipeline.ΦD osem0 spec0 H0 (V m) c by rw [hz]; rfl, PhiD0_eq]
    iintro ⟨⟨HS, Hg, Hq, Hh⟩, ⟨%W, -, HW⟩, ⟨%d0, H0⟩, ⟨%d1, H1⟩⟩
    iapply ((runFirst c (grid0.coords t) (ms0_0 t) (hs0_0 t) (ms0_1 t) (hs0_1 t) scM0_0 (Memref.isWhole_whole _) hc (iblk m c 0 t) (V m c main_v3)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, ⟨%es, HS⟩, Hq, Hh, ⟨%W', HW'⟩⟩
    isplitl [HS Hg Hq Hh]
    · isplitl [HS]
      · unfold owns; iexists _; isplitr
        swap; · iexact HS
        ipureintro
        exact (View.read_writes_eq_canon _ _ _ (first_cover c _ _ _ _ _ _ _ _ _ hc)).trans (first_canon c _ _ _ _ _ _ _ _ _ hc)
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact (out_first c _ _ _ _ _ _ _ _ _ hc _).trans (congrArg (k0_pay1 (iblk m c 0 t)) (first_canon c _ _ _ _ _ _ _ _ _ hc))
  · have hc : ¬cond0_0 (grid0.coords t) := fun h => by have := (hcond0_0 t).mp h; omega
    rw [between_pos m c _ hz]
    iintro ⟨⟨HS, Hg, Hq, Hh⟩, ⟨%W, -, HW⟩, ⟨%d0, H0⟩, ⟨%d1, H1⟩⟩
    iapply ((runLater c (grid0.coords t) (ms0_0 t) (hs0_0 t) (ms0_1 t) (hs0_1 t) scM0_0 (Memref.isWhole_whole _) hc (iblk m c 0 t) (weight m c) (V m c main_v3)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact out_later c _ _ _ _ _ _ _ _ _ _ hc _

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem enter (c : Dev nD) : Pipeline.ΦD osem0 spec0 H0 (V m) c ⊢ (dats m 0 c).Φ 0 := by
  rw [show (dats m 0 c).Φ 0 = Pipeline.ΦD osem0 spec0 H0 (V m) c from rfl]

theorem leave (c : Dev nD) : (dats m 0 c).Φ (Fin.last cfg0.N) ⊢ Pipeline.ΦD osem0 spec0 H0 (V m) c := by
  rw [show (dats m 0 c).Φ (Fin.last cfg0.N) = between m c (Fin.last cfg0.N).val from rfl,
    between_pos m c _ (by rw [Fin.val_last]; have : cfg0.N = 32 := N_0; omega), PhiD0_eq]
  iintro ⟨HS, Hg, Hq, Hh⟩
  isplitl [HS]; · iexists _; iexact HS
  isplitl [Hg]; · iexact Hg
  isplitl [Hq]; · iexact Hq
  iexact Hh

set_option backward.isDefEq.respectTransparency.types false in
/-- Every execution ends, with each array of the call at what the data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The frame: every execution ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Pw1DxIdeal.Prod

end
-- ==== Proof.Prod.Pw1Dx.lean ====
module

public import proofs.«01_k».proof.Defs
public import proofs.«01_k».proof.Proof.Gen.Pw1Dx
public import proofs.«01_k».proof.Proof.Gen.Pw1DxRefIdeal.Run
public import proofs.«01_k».proof.Proof.Gen.Pw1DxRefIdeal.Read
public import proofs.«01_k».proof.Proof.Prod.Pw1Dx.Launch
public import Idealize.ShloMosaic.Lib.Pipeline.ValueKit
public import Idealize.ShloMosaic.Lib.Pointwise
public import Idealize.ShloMosaic.Lib.StableHlo.RunRead
public import Idealize.ShloMosaic.Lib.Quiescent

/-! The input gradient of the first pointwise projection of the Conformer module: every entry is the sum over all columns of the cotangent times the weight. The kernel
copies the weight into its scratch in four bands of columns and multiplies each block of rows by it. -/

@[expose] public section

set_option maxRecDepth 16384

noncomputable section

namespace Cert.Pw1DxIdeal.Prod

open Cert.Pw1DxIdeal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S1024x2048, .f32⟩ : BufTy).Contents (Elt Ideal) := m ((c : Thread nD τ).loc main_arg1)
abbrev arg2 (c : Dev nD) : (⟨S1x16384x2048, .f32⟩ : BufTy).Contents (Elt Ideal) := m ((c : Thread nD τ).loc main_arg2)

/-- The gradient at row `T` and channel `i`. -/
def dx (w : (⟨S1024x2048, .f32⟩ : BufTy).Contents (Elt Ideal)) (ct : (⟨S1x16384x2048, .f32⟩ : BufTy).Contents (Elt Ideal)) (T : Fin 16384) (i : Fin 1024) : EReal :=
  ∑ k : Fin 2048, ct (ix3 0 T k) * w (ix2 i k)

/-- The cotangent as the region finds it, -/
def arr0 (c : Dev nD) : FVec Ideal S16384x2048 .bf16 := V m c main_v5
/-- and the weight, cut into four groups of columns. -/
def arrW (c : Dev nD) : FVec Ideal S1x4x1024x512 .bf16 := V m c main_v3

theorem arr0_apply (c : Dev nD) (T : Fin 16384) (k : Fin 2048) : arr0 m c (ix2 T k) = arg2 m c (ix3 0 T k) := by
  have e : arr0 m c = truncf .bf16 (shapeCast S16384x2048 (arg2 m c) shapeCasts_S1x16384x2048_S16384x2048) bitsLt_bf16_f32 := by
    unfold arr0 V
    after_reads_simp
    rfl
  rw [e]
  pointwise

theorem arrW_apply (c : Dev nD) (n : Fin 4) (i : Fin 1024) (j : Fin 512) (k : Fin 2048) (hk : k.val = n.val * 512 + j.val) : arrW m c (ix4 0 n i j) = arg1 m c (ix2 i k) := by
  have e : arrW m c = truncf .bf16 (broadcastInDim S1x4x1024x512 ![1, 2, 3] bcast_S4x1024x512_S1x4x1024x512_1_2_3 (transpose S4x1024x512 [1, 0, 2] (shapeCast S1024x4x512 (arg1 m c) shapeCasts_S1024x2048_S1024x4x512) transposes_S1024x4x512_S4x1024x512_1_0_2)) bitsLt_bf16_f32 := by
    unfold arrW V
    after_reads_simp
    rfl
  rw [e, show k = ⟨n.val * 512 + j.val, by omega⟩ from Fin.ext hk]
  pointwise

/-- The scratch holds the weight itself. -/
theorem weight_apply (c : Dev nD) (i : Fin 1024) (k : Fin 2048) : weight m c (ix2 i k) = arg1 m c (ix2 i k) :=
  arrW_apply m c ⟨k.val / 512, by omega⟩ i ⟨k.val % 512, Nat.mod_lt _ (by decide)⟩ k (by show k.val = k.val / 512 * 512 + k.val % 512; omega)

theorem idx_val : ∀ t : Fin cfg0.N, win0_0.index t = ![t.val, 0] ∧ win0_1.index t = ![t.val, 0] :=
  (by decide +kernel : ∀ t : Fin grid0.N, win0_0.index t = ![t.val, 0] ∧ win0_1.index t = ![t.val, 0])

theorem lt_32 (t : Fin cfg0.N) : t.val < 32 := lt_of_lt_of_eq t.isLt (show cfg0.N = 32 from N_0)

/-- The row of the whole array that is row `r` of the blocks of point `t`. -/
def rowOf (t : Fin cfg0.N) (r : Fin 512) : Fin 16384 := ⟨512 * t.val + r.val, by have := lt_32 t; omega⟩

theorem emb0 (t : Fin cfg0.N) (r : Fin 512) (k : Fin 2048) : ((cfg0.win 0).blk t).view.emb (ix2 r k) = ix2 (rowOf t r) k := by blk_ext [idx_val t, rowOf]
theorem emb1 (t : Fin cfg0.N) (r : Fin 512) (i : Fin 1024) : (win0_1.blk t).view.emb (ix2 r i) = ix2 (rowOf t r) i := by blk_ext [idx_val t, rowOf]

theorem blk0_apply (c : Dev nD) (t : Fin cfg0.N) (r : Fin 512) (k : Fin 2048) : iblk m c 0 t (ix2 r k) = arr0 m c (ix2 (rowOf t r) k) :=
  congrArg (arr0 m c) (emb0 t r k)

theorem pay_apply (x0 : FVec Ideal S512x2048 .bf16) (x1 : FVec Ideal S1024x2048 .bf16) (r : Fin 512) (i : Fin 1024) :
    k0_pay1 (F := Ideal) x0 x1 (ix2 r i) = ∑ k : Fin 2048, x0 (ix2 r k) * x1 (ix2 i k) := by
  unfold k0_pay1
  pointwise

theorem block_apply (c : Dev nD) (t : Fin cfg0.N) (r : Fin 512) (i : Fin 1024) : block m c t (ix2 r i) = dx (arg1 m c) (arg2 m c) (rowOf t r) i := by
  unfold block dx
  rw [pay_apply]
  refine Finset.sum_congr rfl fun k _ => ?_
  rw [blk0_apply, arr0_apply, weight_apply]

theorem final (c : Dev nD) : (dats m 0 c).arrAt 1 cfg0.N = fun y => dx (arg1 m c) (arg2 m c) (y 0) (y 1) := by
  refine (dats m 0 c).arrAt_eq_of_covers 1 _ (by decide +kernel) fun t hf y => ?_
  blk_simp
  rw [after_result]
  obtain ⟨r, i, rfl⟩ : ∃ (r : Fin 512) (i : Fin 1024), y = ix2 r i := ⟨y 0, y 1, eq_ix2 y⟩
  rw [emb1, block_apply]
  rfl

theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(h.rest_eq c main_arg0 (Pipeline.mem_restRefs_of main_arg0 (by decide) (by decide))).trans (V_main_arg0 m c), (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c)⟩

end Cert.Pw1DxIdeal.Prod

namespace Cert.Pw1Dx.Claims

open Idealize.ShloMosaic Idealize.ShloMosaic.TcCoe Idealize.SL.Sem

set_option maxHeartbeats 4000000 in
/-- The kernel as printed and the kernel over the extended reals have the same text, so one run serves both. -/
theorem bodies_eq {F : FTy → Type} [FloatOps F] : Cert.Pw1Dx.defs₀ (F := F) = Cert.Pw1DxIdeal.defs₀ (F := F) := by
  unfold Cert.Pw1Dx.defs₀ Cert.Pw1DxIdeal.defs₀
  refine congrArg Defs.onTc ?_
  funext l x
  match l, x with
  | 0, (t, s) => rfl

set_option maxHeartbeats 4000000 in
theorem defs_eq {F : FTy → Type} [FloatOps F] : Cert.Pw1Dx.defs (F := F) = Cert.Pw1DxIdeal.defs (F := F) := by
  unfold Cert.Pw1Dx.defs Cert.Pw1DxIdeal.defs
  exact congrArg (Pipeline.defs Cert.Pw1DxIdeal.pcfgs) bodies_eq

set_option maxHeartbeats 4000000 in
theorem main_eq {F : FTy → Type} [FloatOps F] : Cert.Pw1Dx.main (F := F) = Cert.Pw1DxIdeal.main (F := F) := by
  unfold Cert.Pw1Dx.main Cert.Pw1DxIdeal.main
  rfl

theorem frame_kernel : Cert.quiescent_Pw1Dx := by
  intro m ρ _
  have h := Cert.Pw1DxIdeal.Prod.frame (F := Bits) m ρ
  rw [← defs_eq, ← main_eq] at h
  exact h

theorem frame_ideal : Cert.quiescent_Pw1DxIdeal := fun m ρ _ => Cert.Pw1DxIdeal.Prod.frame m ρ

theorem frame_reference : Cert.quiescent_Pw1DxRefIdeal := fun m ρ _ =>
  (θ_run Cert.Pw1DxRefIdeal.defs _ _).mono (fun r h => ⟨fun c => (h c).2, sem_eq_zero_of_no_sems (by decide) r.2⟩)
    (Cert.Pw1DxRefIdeal.Value.run (F := Ideal) m ρ)

/-- The reference's result. -/
theorem reference (w : (⟨Cert.Pw1DxRefIdeal.S1024x2048, .f32⟩ : BufTy).Contents (Elt Ideal)) (ct : (⟨Cert.Pw1DxRefIdeal.S1x16384x2048, .f32⟩ : BufTy).Contents (Elt Ideal)) :
    Cert.Pw1DxRefIdeal.Read.val_main_v4 (F := Ideal) w ct = fun y => Cert.Pw1DxIdeal.Prod.dx w ct (y 0) (y 1) := by
  funext y
  obtain ⟨T, i, rfl⟩ : ∃ (T : Fin 16384) (i : Fin 1024), y = ix2 T i := ⟨y 0, y 1, eq_ix2 y⟩
  unfold Cert.Pw1DxIdeal.Prod.dx Cert.Pw1DxRefIdeal.Read.val_main_v4 Cert.Pw1DxRefIdeal.Read.val_main_v3
  pointwise

theorem algebraic : Cert.algebraic_Pw1DxIdeal_Pw1DxRefIdeal := by
  intro m ρ m' ρ' _ hagree
  refine ⟨fun c => fun y => Cert.Pw1DxIdeal.Prod.dx (Cert.Pw1DxIdeal.Prod.arg1 m c) (Cert.Pw1DxIdeal.Prod.arg2 m c) (y 0) (y 1), ?_, ?_⟩
  · refine (θ_run Cert.Pw1DxIdeal.defs _ _).mono (fun r h c => ?_) (Cert.Pw1DxIdeal.Prod.run_main (F := Ideal) m ρ)
    exact ⟨(h.out_eq c 1).trans (Cert.Pw1DxIdeal.Prod.final m c), Cert.Pw1DxIdeal.Prod.args_kept m r h c⟩
  · refine (θ_run Cert.Pw1DxRefIdeal.defs _ _).mono (fun r h c => ?_) (Cert.Pw1DxRefIdeal.Value.run (F := Ideal) m' ρ')
    obtain ⟨_, a1, a2⟩ := hagree c
    refine ⟨(h c).1.trans ?_, (h c).2⟩
    rw [a1, a2]
    exact reference _ _

end Cert.Pw1Dx.Claims

end
-- ==== Proof.Prod.Pw1Dw.lean ====
module

public import proofs.«01_k».proof.Defs
public import proofs.«01_k».proof.Proof.Gen.Pw1Dw.Frame
public import proofs.«01_k».proof.Proof.Gen.Pw1DwIdeal.Value
public import proofs.«01_k».proof.Proof.Gen.Pw1DwRefIdeal.Run
public import proofs.«01_k».proof.Proof.Prod.Blocks
public import Idealize.ShloMosaic.Lib.Pipeline.ValueKit
public import Idealize.ShloMosaic.Lib.Pointwise
public import Idealize.ShloMosaic.Lib.StableHlo.RunRead
public import Idealize.ShloMosaic.Lib.Quiescent

/-! The gradient of the first pointwise projection of the Conformer module in its weight, cut into four blocks of columns: every entry is the sum over all rows of the
input times the cotangent. The kernel adds it up over eight blocks of rows, kept in its scratch. -/

@[expose] public section

set_option maxRecDepth 16384

noncomputable section

namespace Cert.Pw1DwIdeal.Prod

open Cert.Pw1DwIdeal.Gen Cert.Pw1DwIdeal.Value
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg2 (c : Dev nD) : (⟨S1x16384x2048, .f32⟩ : BufTy).Contents (Elt Ideal) := m ((c : Thread nD τ).loc main_arg2)

/-- Column `j` of block `n` among all columns. -/
def col (n : Fin 4) (j : Fin 512) : Fin 2048 := ⟨n.val * 512 + j.val, by omega⟩

/-- The gradient at channel `i` and column `j` of block `n`. -/
def dw (a : (⟨S1x16384x1024, .f32⟩ : BufTy).Contents (Elt Ideal)) (ct : (⟨S1x16384x2048, .f32⟩ : BufTy).Contents (Elt Ideal)) (n : Fin 4) (i : Fin 1024) (j : Fin 512) : EReal :=
  ∑ T : Fin 16384, a (ix3 0 T i) * ct (ix3 0 T (col n j))

/-- The input as the region finds them, -/
def arr0 (c : Dev nD) : FVec Ideal S16384x1024 .bf16 := V m c main_v1
/-- and the cotangent. -/
def arr1 (c : Dev nD) : FVec Ideal S16384x2048 .bf16 := V m c main_v3

theorem arr0_apply (c : Dev nD) (T : Fin 16384) (i : Fin 1024) : arr0 m c (ix2 T i) = arg0 m c (ix3 0 T i) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (T : Fin 16384) (j : Fin 2048) : arr1 m c (ix2 T j) = arg2 m c (ix3 0 T j) := by
  have e : arr1 m c = truncf .bf16 (shapeCast S16384x2048 (arg2 m c) shapeCasts_S1x16384x2048_S16384x2048) bitsLt_bf16_f32 := by
    unfold arr1 V
    after_reads_simp
    rfl
  rw [e]
  pointwise

theorem idx_val : ∀ t : Fin cfg0.N, win0_0.index t = ![t.val % 8, 0] ∧ win0_1.index t = ![t.val % 8, t.val / 8] ∧ win0_2.index t = ![t.val / 8, 0, 0] :=
  (by decide +kernel : ∀ t : Fin grid0.N, win0_0.index t = ![t.val % 8, 0] ∧ win0_1.index t = ![t.val % 8, t.val / 8] ∧ win0_2.index t = ![t.val / 8, 0, 0])

theorem lt_32 (t : Fin cfg0.N) : t.val < 32 := lt_of_lt_of_eq t.isLt (show cfg0.N = 32 from N_0)

/-- The row of the whole array that is row `r` of the blocks of point `t`, -/
def rowOf (t : Fin cfg0.N) (r : Fin 2048) : Fin 16384 := ⟨2048 * (t.val % 8) + r.val, by omega⟩
/-- and the point's block of columns. -/
def blkOf (t : Fin cfg0.N) : Fin 4 := ⟨t.val / 8, by have := lt_32 t; omega⟩

theorem emb0 (t : Fin cfg0.N) (r : Fin 2048) (i : Fin 1024) : ((cfg0.win 0).blk t).view.emb (ix2 r i) = ix2 (rowOf t r) i := by blk_ext [idx_val t, rowOf]
theorem emb1 (t : Fin cfg0.N) (r : Fin 2048) (j : Fin 512) : ((cfg0.win 1).blk t).view.emb (ix2 r j) = ix2 (rowOf t r) (col (blkOf t) j) := by blk_ext [idx_val t, rowOf, col, blkOf]
theorem emb2 (t : Fin cfg0.N) (i : Fin 1024) (j : Fin 512) : (win0_2.blk t).view.emb (ix3 0 i j) = ix3 (blkOf t) i j := by blk_ext [idx_val t, blkOf]

theorem blk0_apply (c : Dev nD) (t : Fin cfg0.N) (r : Fin 2048) (i : Fin 1024) : iblk m c 0 t (ix2 r i) = arr0 m c (ix2 (rowOf t r) i) :=
  congrArg (arr0 m c) (emb0 t r i)
theorem blk1_apply (c : Dev nD) (t : Fin cfg0.N) (r : Fin 2048) (j : Fin 512) : iblk m c 1 t (ix2 r j) = arr1 m c (ix2 (rowOf t r) (col (blkOf t) j)) :=
  congrArg (arr1 m c) (emb1 t r j)

theorem pay_apply (x0 : FVec Ideal S2048x1024 .bf16) (x1 : FVec Ideal S2048x512 .bf16) (i : Fin 1024) (j : Fin 512) :
    k0_pay1 (F := Ideal) x0 x1 (ix2 i j) = ∑ r : Fin 2048, x0 (ix2 r i) * x1 (ix2 r j) := by
  unfold k0_pay1
  pointwise

theorem flush_pay (x : FVec Ideal S1024x512 .f32) (i : Fin 1024) (j : Fin 512) : k0_pay4 (F := Ideal) x (ix3 0 i j) = x (ix2 i j) := by
  unfold k0_pay4
  pointwise

theorem hz2 : (![0, 0] : Fin 2 → Nat) = fun _ => 0 := funext fun a => by fin_cases a <;> rfl
theorem hz3 : (![0, 0, 0] : Fin 3 → Nat) = fun _ => 0 := funext fun a => by fin_cases a <;> rfl

/-! What the body leaves in its scratch and in the output's block, in each of its three cases. -/

section Cases
variable (c : Dev nD) (i : grid0.Coords) (a3 : Memref sig .tc .vmem S2048x1024 .bf16) (h3 : a3.IsWhole) (a4 : Memref sig .tc .vmem S2048x512 .bf16) (h4 : a4.IsWhole)
  (a5 : Memref sig .tc .vmem S1x1024x512 .bf16) (h5 : a5.IsWhole) (a6 : Memref sig .tc .vmem S1024x512 .f32) (h6 : a6.IsWhole)
  (x0 : Vec Ideal S2048x1024 .bf16) (x1 : Vec Ideal S2048x512 .bf16) (xs : Vec Ideal S1024x512 .f32)

theorem scratch_A (hc0 : cond0_0 i) (hc1 : ¬cond0_1 i) (hc2 : ¬cond0_2 i) :
    sout0_A_0 c i a3 h3 a4 h4 a5 h5 a6 h6 hc0 hc1 hc2 x0 x1 = k0_pay1 (F := Ideal) x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x512) hz2, shapeCast_self]

theorem scratch_B (hc0 : ¬cond0_0 i) (hc1 : cond0_1 i) (hc2 : ¬cond0_2 i) :
    sout0_B_0 c i a3 h3 a4 h4 a5 h5 a6 h6 hc0 hc1 hc2 x0 x1 xs = addf (F := Ideal) (φ := .f32) xs (k0_pay1 (F := Ideal) x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S2048x1024) hz2, View.ld_unit_zero (S := S2048x512) hz2,
    View.ld_unit_zero (S := S1024x512) hz2, shapeCast_self]

theorem scratch_C (hc0 : ¬cond0_0 i) (hc1 : cond0_1 i) (hc2 : cond0_2 i) :
    sout0_C_0 c i a3 h3 a4 h4 a5 h5 a6 h6 hc0 hc1 hc2 x0 x1 xs = addf (F := Ideal) (φ := .f32) xs (k0_pay1 (F := Ideal) x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz2]
  unfold k0_pay3
  simp only [View.readAt_eq_ld, h3.read_unread, h4.read_unread, h6.read_unread, View.ld_unit_zero (S := S2048x1024) hz2, View.ld_unit_zero (S := S2048x512) hz2,
    View.ld_unit_zero (S := S1024x512) hz2, shapeCast_self]

theorem out_C (hc0 : ¬cond0_0 i) (hc1 : cond0_1 i) (hc2 : cond0_2 i) :
    out0_C_2 c i a3 h3 a4 h4 a5 h5 a6 h6 hc0 hc1 hc2 x0 x1 xs = k0_pay4 (F := Ideal) (addf (F := Ideal) (φ := .f32) xs (k0_pay1 (F := Ideal) x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz3, View.readCov_unit_zero (S := S1024x512) _ hz2]
  unfold k0_pay3
  simp only [View.readAt_eq_ld, h3.read_unread, h4.read_unread, h6.read_unread, View.ld_unit_zero (S := S2048x1024) hz2, View.ld_unit_zero (S := S2048x512) hz2,
    View.ld_unit_zero (S := S1024x512) hz2, shapeCast_self]

end Cases

/-- The addend of point `n` at a place of the block. -/
def addend (c : Dev nD) (n : ℕ) (i : Fin 1024) (j : Fin 512) : EReal :=
  if h : n < cfg0.N then ∑ r : Fin 2048, arr0 m c (ix2 (rowOf ⟨n, h⟩ r) i) * arr1 m c (ix2 (rowOf ⟨n, h⟩ r) (col (blkOf ⟨n, h⟩) j)) else 0

theorem addend_eq (c : Dev nD) (t : Fin cfg0.N) (i : Fin 1024) (j : Fin 512) : k0_pay1 (F := Ideal) (iblk m c 0 t) (iblk m c 1 t) (ix2 i j) = addend m c t.val i j := by
  unfold addend
  rw [pay_apply, dif_pos t.isLt]
  refine Finset.sum_congr rfl fun r _ => ?_
  rw [blk0_apply, blk1_apply]

/-- The scratch after a point: the addends since the last reset. -/
theorem scratch_at (c : Dev nD) (t : Fin cfg0.N) (i : Fin 1024) (j : Fin 512) :
    (outsAt0 m c t.val t.isLt).2 (ix2 i j) = ∑ s ∈ Finset.range (t.val % 8 + 1), addend m c (8 * (t.val / 8) + s) i j := by
  obtain ⟨n, hn⟩ := t
  induction n with
  | zero =>
    rw [outsAt0_A m c ⟨0, hn⟩ rfl (by dsimp only; omega) (by dsimp only; omega)]
    dsimp only
    rw [scratch_A, addend_eq]
    simp
  | succ n ih =>
    have hN := lt_32 ⟨n + 1, hn⟩
    by_cases h0 : (n + 1) % 8 = 0
    · rw [outsAt0_A m c ⟨n + 1, hn⟩ h0 (by dsimp only; omega) (by dsimp only; omega)]
      dsimp only
      rw [scratch_A, addend_eq, h0, Finset.sum_range_one, show 8 * ((n + 1) / 8) + 0 = n + 1 by omega]
    · have e1 : (n + 1) % 8 = n % 8 + 1 := by omega
      have e2 : (n + 1) / 8 = n / 8 := by omega
      have e3 : 8 * (n / 8) + (n % 8 + 1) = n + 1 := by omega
      have ih := ih (Nat.lt_of_succ_lt hn)
      have goal : addf (F := Ideal) (φ := .f32) (outsAt0 m c n (Nat.lt_of_succ_lt hn)).2 (k0_pay1 (F := Ideal) (iblk m c 0 ⟨n + 1, hn⟩) (iblk m c 1 ⟨n + 1, hn⟩)) (ix2 i j)
          = ∑ s ∈ Finset.range ((n + 1) % 8 + 1), addend m c (8 * ((n + 1) / 8) + s) i j := by
        rw [e1, e2, Finset.sum_range_succ, ← ih, e3]
        exact congrArg (_ + ·) (addend_eq m c ⟨n + 1, hn⟩ i j)
      by_cases h2 : (n + 1) % 8 = 7
      · rw [outsAt0_C m c ⟨n + 1, hn⟩ h0 (by dsimp only; omega) h2]
        dsimp only
        rw [scratch_C]
        exact goal
      · rw [outsAt0_B m c ⟨n + 1, hn⟩ h0 (by dsimp only; omega) h2]
        dsimp only
        rw [scratch_B]
        exact goal

/-- The output's block at the last point of its run: what the scratch holds there. -/
theorem out_at (c : Dev nD) (t : Fin cfg0.N) (h : t.val % 8 = 7) (i : Fin 1024) (j : Fin 512) : (outsAt0 m c t.val t.isLt).1 (ix3 0 i j) = (outsAt0 m c t.val t.isLt).2 (ix2 i j) := by
  rw [outsAt0_C m c t (by omega) (by omega) h]
  dsimp only
  rw [out_C, scratch_C, flush_pay]

theorem final (c : Dev nD) : (dats m 0 c).arrAt 2 cfg0.N = fun y => dw (arg0 m c) (arg2 m c) (y 0) (y 1) (y 2) := by
  refine (dats m 0 c).arrAt_eq_of_covers 2 _ (by decide +kernel) fun t hf y => ?_
  have h7 : t.val % 8 = 7 := (flush0_2 t).mp hf
  blk_simp
  rw [after0_2]
  obtain ⟨z, i, j, rfl⟩ : ∃ (z : Fin 1) (i : Fin 1024) (j : Fin 512), y = ix3 z i j := ⟨y 0, y 1, y 2, eq_ix3 y⟩
  obtain rfl : z = 0 := Subsingleton.elim _ _
  rw [out_at m c t h7, emb2, scratch_at, h7]
  refine (Cert.Prod.sum_blocks _ _ fun s hs => ?_).symm
  have hN := lt_32 t
  have hb : 8 * (t.val / 8) + s < cfg0.N := lt_of_lt_of_eq (by omega) (show cfg0.N = 32 from N_0).symm
  unfold addend
  rw [dif_pos hb]
  refine Finset.sum_congr rfl fun r _ => ?_
  rw [arr0_apply, arr1_apply]
  have e : rowOf ⟨8 * (t.val / 8) + s, hb⟩ r = Cert.Prod.row s hs r := Fin.ext (by show 2048 * ((8 * (t.val / 8) + s) % 8) + r.val = 2048 * s + r.val; omega)
  have e' : blkOf ⟨8 * (t.val / 8) + s, hb⟩ = blkOf t := Fin.ext (by show (8 * (t.val / 8) + s) / 8 = t.val / 8; omega)
  rw [e, e']
  rfl

end Cert.Pw1DwIdeal.Prod

namespace Cert.Pw1DwRefIdeal.Prod

open Idealize.ShloMosaic
open Cert.Pw1DwRefIdeal Cert.Pw1DwRefIdeal.Gen

theorem result (a : (⟨S1x16384x1024, .f32⟩ : BufTy).Contents (Elt Ideal)) (ct : (⟨S1x16384x2048, .f32⟩ : BufTy).Contents (Elt Ideal)) :
    truncf (F := Ideal) .bf16 (transpose S4x1024x512 [1, 0, 2] (shapeCast S1024x4x512 (transpose S1024x2048 [1, 0] (Host.dotGeneral (F := Ideal) (φ₁ := .f32) (φ₂ := .f32) dot_S1x16384x2048_S1x16384x1024_S2048x1024_01_01_2_2_n_n none ct a) transposes_S2048x1024_S1024x2048_1_0) shapeCasts_S1024x2048_S1024x4x512) transposes_S1024x4x512_S4x1024x512_1_0_2) bitsLt_bf16_f32
      = fun y => Cert.Pw1DwIdeal.Prod.dw a ct (y 0) (y 1) (y 2) := by
  funext y
  obtain ⟨n, i, j, rfl⟩ : ∃ (n : Fin 4) (i : Fin 1024) (j : Fin 512), y = ix3 n i j := ⟨y 0, y 1, y 2, eq_ix3 y⟩
  unfold Cert.Pw1DwIdeal.Prod.dw Cert.Pw1DwIdeal.Prod.col
  pointwise
  rw [Fin.sum_univ_one]
  exact Finset.sum_congr rfl fun T _ => EReal.mul_comm _ _

end Cert.Pw1DwRefIdeal.Prod

namespace Cert.Pw1Dw.Claims

open Idealize.ShloMosaic Idealize.ShloMosaic.TcCoe Idealize.SL.Sem

theorem frame_kernel : Cert.quiescent_Pw1Dw := fun m ρ _ => Cert.Pw1Dw.Gen.frame m ρ
theorem frame_ideal : Cert.quiescent_Pw1DwIdeal := fun m ρ _ => Cert.Pw1DwIdeal.Gen.frame m ρ
theorem frame_reference : Cert.quiescent_Pw1DwRefIdeal := fun m ρ _ =>
  (θ_run Cert.Pw1DwRefIdeal.defs _ _).mono (fun r h => ⟨fun c => (h c).2, sem_eq_zero_of_no_sems (by decide) r.2⟩)
    (Cert.Pw1DwRefIdeal.Value.run (F := Ideal) m ρ)

theorem algebraic : Cert.algebraic_Pw1DwIdeal_Pw1DwRefIdeal := by
  intro m ρ m' ρ' _ hagree
  refine ⟨fun c => fun y => Cert.Pw1DwIdeal.Prod.dw (Cert.Pw1DwIdeal.Prod.arg0 m c) (Cert.Pw1DwIdeal.Prod.arg2 m c) (y 0) (y 1) (y 2), ?_, ?_⟩
  · refine (θ_run Cert.Pw1DwIdeal.defs _ _).mono (fun r h c => ?_) (Cert.Pw1DwIdeal.Value.run_blocks (F := Ideal) m ρ)
    exact ⟨(h c).1.trans (Cert.Pw1DwIdeal.Prod.final m c), (h c).2⟩
  · refine (θ_run Cert.Pw1DwRefIdeal.defs _ _).mono (fun r h c => ?_) (Cert.Pw1DwRefIdeal.Value.run (F := Ideal) m' ρ')
    obtain ⟨a0, _, a2⟩ := hagree c
    refine ⟨(h c).1.trans ?_, (h c).2⟩
    rw [a0, a2]
    exact Cert.Pw1DwRefIdeal.Prod.result _ _

end Cert.Pw1Dw.Claims

end
-- ==== Proof.Prod.ScOut.lean ====
module

public import proofs.«01_k».proof.Defs
public import proofs.«01_k».proof.Proof.Gen.ScOut.Frame
public import proofs.«01_k».proof.Proof.Gen.ScOutIdeal.Value
public import proofs.«01_k».proof.Proof.Gen.ScOutRefIdeal.Run
public import Idealize.ShloMosaic.Lib.Pipeline.ValueKit
public import Idealize.ShloMosaic.Lib.Pointwise
public import Idealize.ShloMosaic.Lib.StableHlo.RunRead
public import Idealize.ShloMosaic.Lib.Quiescent

/-! The last projection of the short convolution mixer: every entry of the result is the sum over the channels of the input times
the weight, in the kernel as in the reference. -/

@[expose] public section

set_option maxRecDepth 16384

noncomputable section

namespace Cert.ScOutIdeal.Prod

open Cert.ScOutIdeal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg1 (c : Dev nD) : (⟨S1024x1024, .f32⟩ : BufTy).Contents (Elt Ideal) := m ((c : Thread nD τ).loc main_arg1)

/-- The product at row `T` and column `j`. -/
def product (a : (⟨S1x16384x1024, .f32⟩ : BufTy).Contents (Elt Ideal)) (w : (⟨S1024x1024, .f32⟩ : BufTy).Contents (Elt Ideal)) (T : Fin 16384) (j : Fin 1024) : EReal :=
  ∑ k : Fin 1024, a (ix3 0 T k) * w (ix2 k j)

/-- The activations as the region finds them, -/
def arr0 (c : Dev nD) : FVec Ideal S16384x1024 .bf16 := V m c main_v1
/-- and the weight. -/
def arr1 (c : Dev nD) : FVec Ideal S1x1024x1024 .bf16 := V m c main_v3

theorem arr0_apply (c : Dev nD) (T : Fin 16384) (k : Fin 1024) : arr0 m c (ix2 T k) = arg0 m c (ix3 0 T k) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (k : Fin 1024) (j : Fin 1024) : arr1 m c (ix3 0 k j) = arg1 m c (ix2 k j) := by
  have e : arr1 m c = truncf .bf16 (broadcastInDim S1x1024x1024 ![1, 2] bcast_S1024x1024_S1x1024x1024_1_2 (arg1 m c)) bitsLt_bf16_f32 := by
    unfold arr1 V
    after_reads_simp
  rw [e]
  pointwise

theorem idx_val : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem lt_16 (t : Fin cfg0.N) : t.val < 16 := lt_of_lt_of_eq t.isLt (show cfg0.N = 16 from N_0)

/-- The row of the whole array that is row `r` of the block of point `t`. -/
def rowOf (t : Fin cfg0.N) (r : Fin 1024) : Fin 16384 := ⟨t.val * 1024 + r.val, by have := lt_16 t; omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (k : Fin 1024) (j : Fin 1024) : ((cfg0.win 1).blk t).view.emb (ix3 0 k j) = ix3 0 k j := by blk_ext [idx_val t]
theorem emb2 (t : Fin cfg0.N) (r : Fin 1024) (j : Fin 1024) : (win0_2.blk t).view.emb (ix2 r j) = ix2 (rowOf t r) j := by blk_ext [idx_val t, rowOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (k : Fin 1024) (j : Fin 1024) : iblk m c 1 t (ix3 0 k j) = arr1 m c (ix3 0 k j) :=
  congrArg (arr1 m c) (emb1 t k j)

theorem pay_apply (x0 : FVec Ideal S1024x1024 .bf16) (x1 : FVec Ideal S1x1024x1024 .bf16) (r : Fin 1024) (j : Fin 1024) :
    k0_pay1 (F := Ideal) x0 x1 (ix2 r j) = ∑ k : Fin 1024, x0 (ix2 r k) * x1 (ix3 0 k j) := by
  unfold k0_pay1
  pointwise

theorem hz2 : (![0, 0] : Fin 2 → Nat) = fun _ => 0 := funext fun a => by fin_cases a <;> rfl
theorem hzW : (![0, 0, 0] : Fin 3 → Nat) = fun _ => 0 := funext fun a => by fin_cases a <;> rfl

theorem out_eq (x0 : FVec Ideal S1024x1024 .bf16) (x1 : FVec Ideal S1x1024x1024 .bf16) : out0_2 (F := Ideal) x0 x1 = k0_pay1 (F := Ideal) x0 x1 := by
  unfold out0_2
  rw [View.canon_unit_zero hz2, View.ld_unit_zero (S := S1024x1024) hz2, View.ld_unit_zero (S := S1x1024x1024) hzW]

theorem pay_blk (c : Dev nD) (t : Fin cfg0.N) (r : Fin 1024) (j : Fin 1024) :
    k0_pay1 (F := Ideal) (iblk m c 0 t) (iblk m c 1 t) (ix2 r j) = product (arg0 m c) (arg1 m c) (rowOf t r) j := by
  rw [pay_apply]
  refine Finset.sum_congr rfl fun k _ => ?_
  rw [blk0_apply, blk1_apply, arr0_apply, arr1_apply]

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1024), y = ix2 r j := ⟨y 0, y 1, eq_ix2 y⟩
  rw [emb2]
  exact pay_blk m c t r j

end Cert.ScOutIdeal.Prod

namespace Cert.ScOutRefIdeal.Prod

open Idealize.ShloMosaic
open Cert.ScOutRefIdeal Cert.ScOutRefIdeal.Gen

theorem result (a : (⟨S1x16384x1024, .f32⟩ : BufTy).Contents (Elt Ideal)) (w : (⟨S1024x1024, .f32⟩ : BufTy).Contents (Elt Ideal)) :
    shapeCast S16384x1024 (Host.dotGeneral (F := Ideal) (φ₁ := .f32) (φ₂ := .f32) dot_S1x16384x1024_S1024x1024_S1x16384x1024_2_0_01_1_n_n none a w) shapeCasts_S1x16384x1024_S16384x1024
      = fun y => Cert.ScOutIdeal.Prod.product a w (y 0) (y 1) := by
  funext y
  obtain ⟨T, j, rfl⟩ : ∃ (T : Fin 16384) (j : Fin 1024), y = ix2 T j := ⟨y 0, y 1, eq_ix2 y⟩
  unfold Cert.ScOutIdeal.Prod.product
  pointwise

end Cert.ScOutRefIdeal.Prod

namespace Cert.ScOut.Claims

open Idealize.ShloMosaic Idealize.ShloMosaic.TcCoe Idealize.SL.Sem

theorem frame_kernel : Cert.quiescent_ScOut := fun m ρ _ => Cert.ScOut.Gen.frame m ρ
theorem frame_ideal : Cert.quiescent_ScOutIdeal := fun m ρ _ => Cert.ScOutIdeal.Gen.frame m ρ
theorem frame_reference : Cert.quiescent_ScOutRefIdeal := fun m ρ _ =>
  (θ_run Cert.ScOutRefIdeal.defs _ _).mono (fun r h => ⟨fun c => (h c).2, sem_eq_zero_of_no_sems (by decide) r.2⟩)
    (Cert.ScOutRefIdeal.Value.run (F := Ideal) m ρ)

theorem algebraic : Cert.algebraic_ScOutIdeal_ScOutRefIdeal := by
  intro m ρ m' ρ' _ hagree
  refine ⟨fun c => fun y => Cert.ScOutIdeal.Prod.product (Cert.ScOutIdeal.Prod.arg0 m c) (Cert.ScOutIdeal.Prod.arg1 m c) (y 0) (y 1), ?_, ?_⟩
  · refine (θ_run Cert.ScOutIdeal.defs _ _).mono (fun r h c => ?_) (Cert.ScOutIdeal.Value.run_blocks (F := Ideal) m ρ)
    exact ⟨(h c).1.trans (Cert.ScOutIdeal.Prod.final m c), (h c).2⟩
  · refine (θ_run Cert.ScOutRefIdeal.defs _ _).mono (fun r h c => ?_) (Cert.ScOutRefIdeal.Value.run (F := Ideal) m' ρ')
    obtain ⟨a0, a1⟩ := hagree c
    refine ⟨(h c).1.trans ?_, (h c).2⟩
    rw [a0, a1]
    exact Cert.ScOutRefIdeal.Prod.result _ _

end Cert.ScOut.Claims

end
-- ==== Proof.Prod.ScOutDx.lean ====
module

public import proofs.«01_k».proof.Defs
public import proofs.«01_k».proof.Proof.Gen.ScOutDx.Frame
public import proofs.«01_k».proof.Proof.Gen.ScOutDxIdeal.Value
public import proofs.«01_k».proof.Proof.Gen.ScOutDxRefIdeal.Run
public import proofs.«01_k».proof.Proof.Gen.ScOutDxRefIdeal.Read
public import Idealize.ShloMosaic.Lib.Pipeline.ValueKit
public import Idealize.ShloMosaic.Lib.Pointwise
public import Idealize.ShloMosaic.Lib.StableHlo.RunRead
public import Idealize.ShloMosaic.Lib.Quiescent

/-! The gradient of the last projection of the short convolution mixer in its input: every entry of the result is the sum over the model's width of
the cotangent times the weight, in the kernel as in the reference. -/

@[expose] public section

set_option maxRecDepth 16384

noncomputable section

namespace Cert.ScOutDxIdeal.Prod

open Cert.ScOutDxIdeal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S1024x1024, .f32⟩ : BufTy).Contents (Elt Ideal) := m ((c : Thread nD τ).loc main_arg1)
abbrev arg2 (c : Dev nD) : (⟨S1x16384x1024, .f32⟩ : BufTy).Contents (Elt Ideal) := m ((c : Thread nD τ).loc main_arg2)

/-- The gradient at row `T` and channel `j`. -/
def dx (w : (⟨S1024x1024, .f32⟩ : BufTy).Contents (Elt Ideal)) (ct : (⟨S1x16384x1024, .f32⟩ : BufTy).Contents (Elt Ideal)) (T : Fin 16384) (j : Fin 1024) : EReal :=
  ∑ k : Fin 1024, ct (ix3 0 T k) * w (ix2 j k)

/-- The cotangent as the region finds it, -/
def arr0 (c : Dev nD) : FVec Ideal S16384x1024 .bf16 := V m c main_v1
/-- and the weight. -/
def arr1 (c : Dev nD) : FVec Ideal S1x1024x1024 .bf16 := V m c main_v3

theorem arr0_apply (c : Dev nD) (T : Fin 16384) (k : Fin 1024) : arr0 m c (ix2 T k) = arg2 m c (ix3 0 T k) := by
  have e : arr0 m c = truncf .bf16 (shapeCast S16384x1024 (arg2 m c) shapeCasts_S1x16384x1024_S16384x1024) bitsLt_bf16_f32 := by
    unfold arr0 V
    after_reads_simp
    rfl
  rw [e]
  pointwise

theorem arr1_apply (c : Dev nD) (j : Fin 1024) (k : Fin 1024) : arr1 m c (ix3 0 j k) = arg1 m c (ix2 j k) := by
  have e : arr1 m c = truncf .bf16 (broadcastInDim S1x1024x1024 ![1, 2] bcast_S1024x1024_S1x1024x1024_1_2 (arg1 m c)) bitsLt_bf16_f32 := by
    unfold arr1 V
    after_reads_simp
  rw [e]
  pointwise

theorem idx_val : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem lt_16 (t : Fin cfg0.N) : t.val < 16 := lt_of_lt_of_eq t.isLt (show cfg0.N = 16 from N_0)

/-- The row of the whole array that is row `r` of the block of point `t`, -/
def rowOf (t : Fin cfg0.N) (r : Fin 1024) : Fin 16384 := ⟨t.val * 1024 + r.val, by have := lt_16 t; omega⟩
/-- and the column that is column `j`. -/
def colOf (t : Fin cfg0.N) (j : Fin 1024) : Fin 1024 := j

theorem emb0 (t : Fin cfg0.N) (r : Fin 1024) (k : Fin 1024) : ((cfg0.win 0).blk t).view.emb (ix2 r k) = ix2 (rowOf t r) k := by blk_ext [idx_val t, rowOf]
theorem emb1 (t : Fin cfg0.N) (j : Fin 1024) (k : Fin 1024) : ((cfg0.win 1).blk t).view.emb (ix3 0 j k) = ix3 0 (colOf t j) k := by blk_ext [idx_val t, colOf]
theorem emb2 (t : Fin cfg0.N) (r : Fin 1024) (j : Fin 1024) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (j : Fin 1024) (k : Fin 1024) : iblk m c 1 t (ix3 0 j k) = arr1 m c (ix3 0 (colOf t j) k) :=
  congrArg (arr1 m c) (emb1 t j k)

theorem pay_apply (x0 : FVec Ideal S1024x1024 .bf16) (x1 : FVec Ideal S1x1024x1024 .bf16) (r : Fin 1024) (j : Fin 1024) :
    k0_pay1 (F := Ideal) x0 x1 (ix2 r j) = ∑ k : Fin 1024, x0 (ix2 r k) * x1 (ix3 0 j k) := by
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : FVec Ideal S1024x1024 .bf16) (x1 : FVec Ideal S1x1024x1024 .bf16) : out0_2 (F := Ideal) x0 x1 = k0_pay1 (F := Ideal) x0 x1 := by
  unfold out0_2
  rw [View.canon_unit_zero hz2, View.ld_unit_zero (S := S1024x1024) hz2, View.ld_unit_zero (S := S1x1024x1024) hz3]

theorem pay_blk (c : Dev nD) (t : Fin cfg0.N) (r : Fin 1024) (j : Fin 1024) :
    k0_pay1 (F := Ideal) (iblk m c 0 t) (iblk m c 1 t) (ix2 r j) = dx (arg1 m c) (arg2 m c) (rowOf t r) (colOf t j) := by
  rw [pay_apply]
  refine Finset.sum_congr rfl fun k _ => ?_
  rw [blk0_apply, blk1_apply, arr0_apply, arr1_apply]

theorem final (c : Dev nD) : (dats m 0 c).arrAt 2 cfg0.N = fun y => dx (arg1 m c) (arg2 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1024), y = ix2 r j := ⟨y 0, y 1, eq_ix2 y⟩
  rw [emb2]
  exact pay_blk m c t r j

end Cert.ScOutDxIdeal.Prod

namespace Cert.ScOutDxRefIdeal.Prod

open Idealize.ShloMosaic
open Cert.ScOutDxRefIdeal Cert.ScOutDxRefIdeal.Gen Cert.ScOutDxRefIdeal.Read

theorem result (w : (⟨S1024x1024, .f32⟩ : BufTy).Contents (Elt Ideal)) (ct : (⟨S1x16384x1024, .f32⟩ : BufTy).Contents (Elt Ideal)) :
    truncf (F := Ideal) .bf16 (shapeCast S16384x1024 (Host.dotGeneral (F := Ideal) (φ₁ := .f32) (φ₂ := .f32) dot_S1x16384x1024_S1024x1024_S1x16384x1024_2_1_01_0_n_n none ct w) shapeCasts_S1x16384x1024_S16384x1024) bitsLt_bf16_f32
      = fun y => Cert.ScOutDxIdeal.Prod.dx w ct (y 0) (y 1) := by
  funext y
  obtain ⟨T, j, rfl⟩ : ∃ (T : Fin 16384) (j : Fin 1024), y = ix2 T j := ⟨y 0, y 1, eq_ix2 y⟩
  unfold Cert.ScOutDxIdeal.Prod.dx
  pointwise

end Cert.ScOutDxRefIdeal.Prod

namespace Cert.ScOutDx.Claims

open Idealize.ShloMosaic Idealize.ShloMosaic.TcCoe Idealize.SL.Sem

theorem frame_kernel : Cert.quiescent_ScOutDx := fun m ρ _ => Cert.ScOutDx.Gen.frame m ρ
theorem frame_ideal : Cert.quiescent_ScOutDxIdeal := fun m ρ _ => Cert.ScOutDxIdeal.Gen.frame m ρ
theorem frame_reference : Cert.quiescent_ScOutDxRefIdeal := fun m ρ _ =>
  (θ_run Cert.ScOutDxRefIdeal.defs _ _).mono (fun r h => ⟨fun c => (h c).2, sem_eq_zero_of_no_sems (by decide) r.2⟩)
    (Cert.ScOutDxRefIdeal.Value.run (F := Ideal) m ρ)

theorem algebraic : Cert.algebraic_ScOutDxIdeal_ScOutDxRefIdeal := by
  intro m ρ m' ρ' _ hagree
  refine ⟨fun c => fun y => Cert.ScOutDxIdeal.Prod.dx (Cert.ScOutDxIdeal.Prod.arg1 m c) (Cert.ScOutDxIdeal.Prod.arg2 m c) (y 0) (y 1), ?_, ?_⟩
  · refine (θ_run Cert.ScOutDxIdeal.defs _ _).mono (fun r h c => ?_) (Cert.ScOutDxIdeal.Value.run_blocks (F := Ideal) m ρ)
    exact ⟨(h c).1.trans (Cert.ScOutDxIdeal.Prod.final m c), (h c).2⟩
  · refine (θ_run Cert.ScOutDxRefIdeal.defs _ _).mono (fun r h c => ?_) (Cert.ScOutDxRefIdeal.Value.run (F := Ideal) m' ρ')
    obtain ⟨_, a1, a2⟩ := hagree c
    refine ⟨(h c).1.trans ?_, (h c).2⟩
    rw [a1, a2]
    exact Cert.ScOutDxRefIdeal.Prod.result _ _

end Cert.ScOutDx.Claims

end
-- ==== Proof.Prod.ScOutDw.lean ====
module

public import proofs.«01_k».proof.Defs
public import proofs.«01_k».proof.Proof.Gen.ScOutDw.Frame
public import proofs.«01_k».proof.Proof.Gen.ScOutDwIdeal.Value
public import proofs.«01_k».proof.Proof.Gen.ScOutDwRefIdeal.Run
public import proofs.«01_k».proof.Proof.Prod.Blocks
public import Idealize.ShloMosaic.Lib.Pipeline.ValueKit
public import Idealize.ShloMosaic.Lib.Pointwise
public import Idealize.ShloMosaic.Lib.StableHlo.RunRead
public import Idealize.ShloMosaic.Lib.Quiescent

/-! The gradient of the last projection of the short convolution mixer in its weight: every entry is the sum over all rows of the input times the
cotangent. The kernel adds it up over eight blocks of rows, kept in its scratch. -/

@[expose] public section

set_option maxRecDepth 16384

noncomputable section

namespace Cert.ScOutDwIdeal.Prod

open Cert.ScOutDwIdeal.Gen Cert.ScOutDwIdeal.Value
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg2 (c : Dev nD) : (⟨S1x16384x1024, .f32⟩ : BufTy).Contents (Elt Ideal) := m ((c : Thread nD τ).loc main_arg2)

/-- The gradient at channel `i` and channel `j`. -/
def dw (a : (⟨S1x16384x1024, .f32⟩ : BufTy).Contents (Elt Ideal)) (ct : (⟨S1x16384x1024, .f32⟩ : BufTy).Contents (Elt Ideal)) (i : Fin 1024) (j : Fin 1024) : EReal :=
  ∑ T : Fin 16384, a (ix3 0 T i) * ct (ix3 0 T j)

/-- The inputs as the region finds them, -/
def arr0 (c : Dev nD) : FVec Ideal S16384x1024 .bf16 := V m c main_v1
/-- and the cotangent. -/
def arr1 (c : Dev nD) : FVec Ideal S16384x1024 .bf16 := V m c main_v3

theorem arr0_apply (c : Dev nD) (T : Fin 16384) (i : Fin 1024) : arr0 m c (ix2 T i) = arg0 m c (ix3 0 T i) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (T : Fin 16384) (j : Fin 1024) : arr1 m c (ix2 T j) = arg2 m c (ix3 0 T j) := by
  have e : arr1 m c = truncf .bf16 (shapeCast S16384x1024 (arg2 m c) shapeCasts_S1x16384x1024_S16384x1024) bitsLt_bf16_f32 := by
    unfold arr1 V
    after_reads_simp
    rfl
  rw [e]
  pointwise

theorem idx_val : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

theorem lt_8 (t : Fin cfg0.N) : t.val < 8 := lt_of_lt_of_eq t.isLt (show cfg0.N = 8 from N_0)

/-- The row of the whole array that is row `r` of the blocks of point `t`, -/
def rowOf (t : Fin cfg0.N) (r : Fin 2048) : Fin 16384 := ⟨2048 * (t.val % 8) + r.val, by omega⟩
/-- and the channel that is column `i`. -/
def colOf (t : Fin cfg0.N) (i : Fin 1024) : Fin 1024 := ⟨1024 * (t.val / 8) + i.val, by have := lt_8 t; omega⟩

theorem emb0 (t : Fin cfg0.N) (r : Fin 2048) (i : Fin 1024) : ((cfg0.win 0).blk t).view.emb (ix2 r i) = ix2 (rowOf t r) (colOf t i) := by blk_ext [idx_val t, rowOf, colOf]
theorem emb1 (t : Fin cfg0.N) (r : Fin 2048) (j : Fin 1024) : ((cfg0.win 1).blk t).view.emb (ix2 r j) = ix2 (rowOf t r) j := by blk_ext [idx_val t, rowOf]
theorem emb2 (t : Fin cfg0.N) (i : Fin 1024) (j : Fin 1024) : (win0_2.blk t).view.emb (ix2 i j) = ix2 (colOf t i) j := by blk_ext [idx_val t, colOf]

theorem blk0_apply (c : Dev nD) (t : Fin cfg0.N) (r : Fin 2048) (i : Fin 1024) : iblk m c 0 t (ix2 r i) = arr0 m c (ix2 (rowOf t r) (colOf t i)) :=
  congrArg (arr0 m c) (emb0 t r i)
theorem blk1_apply (c : Dev nD) (t : Fin cfg0.N) (r : Fin 2048) (j : Fin 1024) : iblk m c 1 t (ix2 r j) = arr1 m c (ix2 (rowOf t r) j) :=
  congrArg (arr1 m c) (emb1 t r j)

theorem pay_apply (x0 : FVec Ideal S2048x1024 .bf16) (x1 : FVec Ideal S2048x1024 .bf16) (i : Fin 1024) (j : Fin 1024) :
    k0_pay1 (F := Ideal) x0 x1 (ix2 i j) = ∑ r : Fin 2048, x0 (ix2 r i) * x1 (ix2 r j) := by
  unfold k0_pay1
  pointwise

theorem hz2 : (![0, 0] : Fin 2 → Nat) = fun _ => 0 := funext fun a => by fin_cases a <;> rfl

/-! What the body leaves in its scratch and in the output's block, in each of its three cases. -/

section Cases
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S2048x1024 .bf16) (x1 : Vec Ideal S2048x1024 .bf16) (xs : Vec Ideal S1024x1024 .f32)

theorem scratch_A (hc0 : cond0_0 i) (hc1 : ¬cond0_1 i) (hc2 : ¬cond0_2 i) :
    sout0_A_0 c i a3 h3 a4 h4 a5 h5 a6 h6 hc0 hc1 hc2 x0 x1 = k0_pay1 (F := Ideal) x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x1024) hz2, shapeCast_self]

theorem scratch_B (hc0 : ¬cond0_0 i) (hc1 : cond0_1 i) (hc2 : ¬cond0_2 i) :
    sout0_B_0 c i a3 h3 a4 h4 a5 h5 a6 h6 hc0 hc1 hc2 x0 x1 xs = addf (F := Ideal) (φ := .f32) xs (k0_pay1 (F := Ideal) x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S2048x1024) hz2, View.ld_unit_zero (S := S2048x1024) hz2,
    View.ld_unit_zero (S := S1024x1024) hz2, shapeCast_self]

theorem scratch_C (hc0 : ¬cond0_0 i) (hc1 : cond0_1 i) (hc2 : cond0_2 i) :
    sout0_C_0 c i a3 h3 a4 h4 a5 h5 a6 h6 hc0 hc1 hc2 x0 x1 xs = addf (F := Ideal) (φ := .f32) xs (k0_pay1 (F := Ideal) x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz2]
  unfold k0_pay3
  simp only [View.readAt_eq_ld, h3.read_unread, h4.read_unread, h6.read_unread, View.ld_unit_zero (S := S2048x1024) hz2, View.ld_unit_zero (S := S2048x1024) hz2,
    View.ld_unit_zero (S := S1024x1024) hz2, shapeCast_self]

theorem out_C (hc0 : ¬cond0_0 i) (hc1 : cond0_1 i) (hc2 : cond0_2 i) :
    out0_C_2 c i a3 h3 a4 h4 a5 h5 a6 h6 hc0 hc1 hc2 x0 x1 xs = k0_pay4 (F := Ideal) (addf (F := Ideal) (φ := .f32) xs (k0_pay1 (F := Ideal) x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1024x1024) _ hz2]
  unfold k0_pay3
  simp only [View.readAt_eq_ld, h3.read_unread, h4.read_unread, h6.read_unread, View.ld_unit_zero (S := S2048x1024) hz2, View.ld_unit_zero (S := S2048x1024) hz2,
    View.ld_unit_zero (S := S1024x1024) hz2, shapeCast_self]

end Cases

/-- The addend of point `n` at a place of the block. -/
def addend (c : Dev nD) (n : ℕ) (i : Fin 1024) (j : Fin 1024) : EReal :=
  if h : n < cfg0.N then ∑ r : Fin 2048, arr0 m c (ix2 (rowOf ⟨n, h⟩ r) (colOf ⟨n, h⟩ i)) * arr1 m c (ix2 (rowOf ⟨n, h⟩ r) j) else 0

theorem addend_eq (c : Dev nD) (t : Fin cfg0.N) (i : Fin 1024) (j : Fin 1024) : k0_pay1 (F := Ideal) (iblk m c 0 t) (iblk m c 1 t) (ix2 i j) = addend m c t.val i j := by
  unfold addend
  rw [pay_apply, dif_pos t.isLt]
  refine Finset.sum_congr rfl fun r _ => ?_
  rw [blk0_apply, blk1_apply]

/-- The scratch after a point: the addends since the last reset. -/
theorem scratch_at (c : Dev nD) (t : Fin cfg0.N) (i : Fin 1024) (j : Fin 1024) :
    (outsAt0 m c t.val t.isLt).2 (ix2 i j) = ∑ s ∈ Finset.range (t.val % 8 + 1), addend m c (8 * (t.val / 8) + s) i j := by
  obtain ⟨n, hn⟩ := t
  induction n with
  | zero =>
    rw [outsAt0_A m c ⟨0, hn⟩ rfl (by dsimp only; omega) (by dsimp only; omega)]
    dsimp only
    rw [scratch_A, addend_eq]
    simp
  | succ n ih =>
    have hN : n + 1 < 8 := lt_8 ⟨n + 1, hn⟩
    by_cases h0 : (n + 1) % 8 = 0
    · rw [outsAt0_A m c ⟨n + 1, hn⟩ h0 (by dsimp only; omega) (by dsimp only; omega)]
      dsimp only
      rw [scratch_A, addend_eq, h0, Finset.sum_range_one, show 8 * ((n + 1) / 8) + 0 = n + 1 by omega]
    · have e1 : (n + 1) % 8 = n % 8 + 1 := by omega
      have e2 : (n + 1) / 8 = n / 8 := by omega
      have e3 : 8 * (n / 8) + (n % 8 + 1) = n + 1 := by omega
      have ih := ih (Nat.lt_of_succ_lt hn)
      have goal : addf (F := Ideal) (φ := .f32) (outsAt0 m c n (Nat.lt_of_succ_lt hn)).2 (k0_pay1 (F := Ideal) (iblk m c 0 ⟨n + 1, hn⟩) (iblk m c 1 ⟨n + 1, hn⟩)) (ix2 i j)
          = ∑ s ∈ Finset.range ((n + 1) % 8 + 1), addend m c (8 * ((n + 1) / 8) + s) i j := by
        rw [e1, e2, Finset.sum_range_succ, ← ih, e3]
        exact congrArg (_ + ·) (addend_eq m c ⟨n + 1, hn⟩ i j)
      by_cases h2 : (n + 1) % 8 = 7
      · rw [outsAt0_C m c ⟨n + 1, hn⟩ h0 (by dsimp only; omega) h2]
        dsimp only
        rw [scratch_C]
        exact goal
      · rw [outsAt0_B m c ⟨n + 1, hn⟩ h0 (by dsimp only; omega) h2]
        dsimp only
        rw [scratch_B]
        exact goal

/-- The output's block at the last point of its run: what the scratch holds there. -/
theorem out_at (c : Dev nD) (t : Fin cfg0.N) (h : t.val % 8 = 7) (y : S1024x1024.Idx) : (outsAt0 m c t.val t.isLt).1 y = (outsAt0 m c t.val t.isLt).2 y := by
  rw [outsAt0_C m c t (by omega) (by omega) h]
  dsimp only
  rw [out_C, scratch_C]
  rfl

theorem final (c : Dev nD) : (dats m 0 c).arrAt 2 cfg0.N = fun y => dw (arg0 m c) (arg2 m c) (y 0) (y 1) := by
  refine (dats m 0 c).arrAt_eq_of_covers 2 _ (by decide +kernel) fun t hf y => ?_
  have h7 : t.val % 8 = 7 := (flush0_2 t).mp hf
  blk_simp
  rw [after0_2, out_at m c t h7]
  obtain ⟨i, j, rfl⟩ : ∃ (i : Fin 1024) (j : Fin 1024), y = ix2 i j := ⟨y 0, y 1, eq_ix2 y⟩
  rw [emb2, scratch_at, h7]
  refine (Cert.Prod.sum_blocks _ _ fun s hs => ?_).symm
  have hN := lt_8 t
  have hb : 8 * (t.val / 8) + s < cfg0.N := lt_of_lt_of_eq (by omega) (show cfg0.N = 8 from N_0).symm
  unfold addend
  rw [dif_pos hb]
  refine Finset.sum_congr rfl fun r _ => ?_
  rw [arr0_apply, arr1_apply]
  have e : rowOf ⟨8 * (t.val / 8) + s, hb⟩ r = Cert.Prod.row s hs r := Fin.ext (by show 2048 * ((8 * (t.val / 8) + s) % 8) + r.val = 2048 * s + r.val; omega)
  have e' : colOf ⟨8 * (t.val / 8) + s, hb⟩ i = colOf t i := Fin.ext (by show 1024 * ((8 * (t.val / 8) + s) / 8) + i.val = 1024 * (t.val / 8) + i.val; omega)
  rw [e, e']
  rfl

end Cert.ScOutDwIdeal.Prod

namespace Cert.ScOutDwRefIdeal.Prod

open Idealize.ShloMosaic
open Cert.ScOutDwRefIdeal Cert.ScOutDwRefIdeal.Gen

theorem result (a : (⟨S1x16384x1024, .f32⟩ : BufTy).Contents (Elt Ideal)) (ct : (⟨S1x16384x1024, .f32⟩ : BufTy).Contents (Elt Ideal)) :
    truncf (F := Ideal) .bf16 (transpose S1024x1024 [1, 0] (Host.dotGeneral (F := Ideal) (φ₁ := .f32) (φ₂ := .f32) dot_S1x16384x1024_S1x16384x1024_S1024x1024_01_01_2_2_n_n none ct a) transposes_S1024x1024_S1024x1024_1_0) bitsLt_bf16_f32
      = fun y => Cert.ScOutDwIdeal.Prod.dw a ct (y 0) (y 1) := by
  funext y
  obtain ⟨i, j, rfl⟩ : ∃ (i : Fin 1024) (j : Fin 1024), y = ix2 i j := ⟨y 0, y 1, eq_ix2 y⟩
  unfold Cert.ScOutDwIdeal.Prod.dw
  pointwise
  rw [Fin.sum_univ_one]
  exact Finset.sum_congr rfl fun T _ => EReal.mul_comm _ _

end Cert.ScOutDwRefIdeal.Prod

namespace Cert.ScOutDw.Claims

open Idealize.ShloMosaic Idealize.ShloMosaic.TcCoe Idealize.SL.Sem

theorem frame_kernel : Cert.quiescent_ScOutDw := fun m ρ _ => Cert.ScOutDw.Gen.frame m ρ
theorem frame_ideal : Cert.quiescent_ScOutDwIdeal := fun m ρ _ => Cert.ScOutDwIdeal.Gen.frame m ρ
theorem frame_reference : Cert.quiescent_ScOutDwRefIdeal := fun m ρ _ =>
  (θ_run Cert.ScOutDwRefIdeal.defs _ _).mono (fun r h => ⟨fun c => (h c).2, sem_eq_zero_of_no_sems (by decide) r.2⟩)
    (Cert.ScOutDwRefIdeal.Value.run (F := Ideal) m ρ)

theorem algebraic : Cert.algebraic_ScOutDwIdeal_ScOutDwRefIdeal := by
  intro m ρ m' ρ' _ hagree
  refine ⟨fun c => fun y => Cert.ScOutDwIdeal.Prod.dw (Cert.ScOutDwIdeal.Prod.arg0 m c) (Cert.ScOutDwIdeal.Prod.arg2 m c) (y 0) (y 1), ?_, ?_⟩
  · refine (θ_run Cert.ScOutDwIdeal.defs _ _).mono (fun r h c => ?_) (Cert.ScOutDwIdeal.Value.run_blocks (F := Ideal) m ρ)
    exact ⟨(h c).1.trans (Cert.ScOutDwIdeal.Prod.final m c), (h c).2⟩
  · refine (θ_run Cert.ScOutDwRefIdeal.defs _ _).mono (fun r h c => ?_) (Cert.ScOutDwRefIdeal.Value.run (F := Ideal) m' ρ')
    obtain ⟨a0, _, a2⟩ := hagree c
    refine ⟨(h c).1.trans ?_, (h c).2⟩
    rw [a0, a2]
    exact Cert.ScOutDwRefIdeal.Prod.result _ _

end Cert.ScOutDw.Claims

end
-- ==== Proof.Prod.Down1.lean ====
module

public import proofs.«01_k».proof.Defs
public import proofs.«01_k».proof.Proof.Gen.Down1.Frame
public import proofs.«01_k».proof.Proof.Gen.Down1Ideal.Value
public import proofs.«01_k».proof.Proof.Gen.Down1RefIdeal.Run
public import proofs.«01_k».proof.Proof.Gen.Down1RefIdeal.Read
public import Idealize.ShloMosaic.Lib.Pipeline.ValueKit
public import Idealize.ShloMosaic.Lib.Pointwise
public import Idealize.ShloMosaic.Lib.StableHlo.RunRead
public import Idealize.ShloMosaic.Lib.Quiescent

/-! The down projection of layer 1, with the weight in an array of three: every entry of the result is the sum over the hidden channels of the input times the weight, in the kernel
as in the reference. -/

@[expose] public section

set_option maxRecDepth 16384

noncomputable section

namespace Cert.Down1Ideal.Prod

open Cert.Down1Ideal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x2816, .f32⟩ : BufTy).Contents (Elt Ideal) := m ((c : Thread nD τ).loc main_arg0)
abbrev arg1 (c : Dev nD) : (⟨S3x2816x1024, .f32⟩ : BufTy).Contents (Elt Ideal) := m ((c : Thread nD τ).loc main_arg1)

/-- The product at row `T` and column `j`. -/
def product (a : (⟨S1x16384x2816, .f32⟩ : BufTy).Contents (Elt Ideal)) (w : (⟨S3x2816x1024, .f32⟩ : BufTy).Contents (Elt Ideal)) (T : Fin 16384) (j : Fin 1024) : EReal :=
  ∑ k : Fin 2816, a (ix3 0 T k) * w (ix3 0 k j)

/-- The activations as the region finds them, -/
def arr0 (c : Dev nD) : FVec Ideal S16384x2816 .bf16 := V m c main_v1
/-- and the weight. -/
def arr1 (c : Dev nD) : FVec Ideal S3x2816x1024 .bf16 := V m c main_v2

theorem arr0_apply (c : Dev nD) (T : Fin 16384) (k : Fin 2816) : arr0 m c (ix2 T k) = arg0 m c (ix3 0 T k) := by
  have e : arr0 m c = truncf .bf16 (shapeCast S16384x2816 (arg0 m c) shapeCasts_S1x16384x2816_S16384x2816) bitsLt_bf16_f32 := by
    unfold arr0 V
    after_reads_simp
    rfl
  rw [e]
  pointwise

theorem arr1_apply (c : Dev nD) (k : Fin 2816) (j : Fin 1024) : arr1 m c (ix3 0 k j) = arg1 m c (ix3 0 k j) := by
  have e : arr1 m c = truncf .bf16 (arg1 m c) bitsLt_bf16_f32 := by
    unfold arr1 V
    after_reads_simp
  rw [e]
  pointwise

theorem idx_val : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem lt_32 (t : Fin cfg0.N) : t.val < 32 := lt_of_lt_of_eq t.isLt (show cfg0.N = 32 from N_0)

/-- The row of the whole array that is row `r` of the block of point `t`. -/
def rowOf (t : Fin cfg0.N) (r : Fin 512) : Fin 16384 := ⟨t.val * 512 + r.val, by have := lt_32 t; omega⟩

theorem emb0 (t : Fin cfg0.N) (r : Fin 512) (k : Fin 2816) : ((cfg0.win 0).blk t).view.emb (ix2 r k) = ix2 (rowOf t r) k := by blk_ext [idx_val t, rowOf]
theorem emb1 (t : Fin cfg0.N) (k : Fin 2816) (j : Fin 1024) : ((cfg0.win 1).blk t).view.emb (ix3 0 k j) = ix3 0 k j := by blk_ext [idx_val t]
theorem emb2 (t : Fin cfg0.N) (r : Fin 512) (j : Fin 1024) : (win0_2.blk t).view.emb (ix2 r j) = ix2 (rowOf t r) j := by blk_ext [idx_val t, rowOf]

theorem blk0_apply (c : Dev nD) (t : Fin cfg0.N) (r : Fin 512) (k : Fin 2816) : iblk m c 0 t (ix2 r k) = arr0 m c (ix2 (rowOf t r) k) :=
  congrArg (arr0 m c) (emb0 t r k)
theorem blk1_apply (c : Dev nD) (t : Fin cfg0.N) (k : Fin 2816) (j : Fin 1024) : iblk m c 1 t (ix3 0 k j) = arr1 m c (ix3 0 k j) :=
  congrArg (arr1 m c) (emb1 t k j)

theorem pay_apply (x0 : FVec Ideal S512x2816 .bf16) (x1 : FVec Ideal S1x2816x1024 .bf16) (r : Fin 512) (j : Fin 1024) :
    k0_pay1 (F := Ideal) x0 x1 (ix2 r j) = ∑ k : Fin 2816, x0 (ix2 r k) * x1 (ix3 0 k j) := by
  unfold k0_pay1
  pointwise

theorem hz2 : (![0, 0] : Fin 2 → Nat) = fun _ => 0 := funext fun a => by fin_cases a <;> rfl
theorem hzW : (![0, 0, 0] : Fin 3 → Nat) = fun _ => 0 := funext fun a => by fin_cases a <;> rfl

theorem out_eq (x0 : FVec Ideal S512x2816 .bf16) (x1 : FVec Ideal S1x2816x1024 .bf16) : out0_2 (F := Ideal) x0 x1 = k0_pay1 (F := Ideal) x0 x1 := by
  unfold out0_2
  rw [View.canon_unit_zero hz2, View.ld_unit_zero (S := S512x2816) hz2, View.ld_unit_zero (S := S1x2816x1024) hzW]

theorem pay_blk (c : Dev nD) (t : Fin cfg0.N) (r : Fin 512) (j : Fin 1024) :
    k0_pay1 (F := Ideal) (iblk m c 0 t) (iblk m c 1 t) (ix2 r j) = product (arg0 m c) (arg1 m c) (rowOf t r) j := by
  rw [pay_apply]
  refine Finset.sum_congr rfl fun k _ => ?_
  rw [blk0_apply, blk1_apply, arr0_apply, arr1_apply]

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 512) (j : Fin 1024), y = ix2 r j := ⟨y 0, y 1, eq_ix2 y⟩
  rw [emb2]
  exact pay_blk m c t r j

end Cert.Down1Ideal.Prod

namespace Cert.Down1RefIdeal.Prod

open Idealize.ShloMosaic
open Cert.Down1RefIdeal Cert.Down1RefIdeal.Gen

theorem result (a : (⟨S1x16384x2816, .f32⟩ : BufTy).Contents (Elt Ideal)) (w : (⟨S3x2816x1024, .f32⟩ : BufTy).Contents (Elt Ideal)) :
    Read.val_main_v3 (F := Ideal) a w
      = fun y => Cert.Down1Ideal.Prod.product a w (y 0) (y 1) := by
  funext y
  obtain ⟨T, j, rfl⟩ : ∃ (T : Fin 16384) (j : Fin 1024), y = ix2 T j := ⟨y 0, y 1, eq_ix2 y⟩
  unfold Cert.Down1Ideal.Prod.product Read.val_main_v3 Read.val_main_v2 Read.val_main_v1 Read.val_main_v0
  pointwise

end Cert.Down1RefIdeal.Prod

namespace Cert.Down1.Claims

open Idealize.ShloMosaic Idealize.ShloMosaic.TcCoe Idealize.SL.Sem

theorem frame_kernel : Cert.quiescent_Down1 := fun m ρ _ => Cert.Down1.Gen.frame m ρ
theorem frame_ideal : Cert.quiescent_Down1Ideal := fun m ρ _ => Cert.Down1Ideal.Gen.frame m ρ
theorem frame_reference : Cert.quiescent_Down1RefIdeal := fun m ρ _ =>
  (θ_run Cert.Down1RefIdeal.defs _ _).mono (fun r h => ⟨fun c => (h c).2, sem_eq_zero_of_no_sems (by decide) r.2⟩)
    (Cert.Down1RefIdeal.Value.run (F := Ideal) m ρ)

theorem algebraic : Cert.algebraic_Down1Ideal_Down1RefIdeal := by
  intro m ρ m' ρ' _ hagree
  refine ⟨fun c => fun y => Cert.Down1Ideal.Prod.product (Cert.Down1Ideal.Prod.arg0 m c) (Cert.Down1Ideal.Prod.arg1 m c) (y 0) (y 1), ?_, ?_⟩
  · refine (θ_run Cert.Down1Ideal.defs _ _).mono (fun r h c => ?_) (Cert.Down1Ideal.Value.run_blocks (F := Ideal) m ρ)
    exact ⟨(h c).1.trans (Cert.Down1Ideal.Prod.final m c), (h c).2⟩
  · refine (θ_run Cert.Down1RefIdeal.defs _ _).mono (fun r h c => ?_) (Cert.Down1RefIdeal.Value.run (F := Ideal) m' ρ')
    obtain ⟨a0, a1⟩ := hagree c
    refine ⟨(h c).1.trans ?_, (h c).2⟩
    rw [a0, a1]
    exact Cert.Down1RefIdeal.Prod.result _ _

end Cert.Down1.Claims

end
-- ==== Proof.Prod.Down2.lean ====
module

public import proofs.«01_k».proof.Defs
public import proofs.«01_k».proof.Proof.Gen.Down2.Frame
public import proofs.«01_k».proof.Proof.Gen.Down2Ideal.Value
public import proofs.«01_k».proof.Proof.Gen.Down2RefIdeal.Run
public import proofs.«01_k».proof.Proof.Gen.Down2RefIdeal.Read
public import Idealize.ShloMosaic.Lib.Pipeline.ValueKit
public import Idealize.ShloMosaic.Lib.Pointwise
public import Idealize.ShloMosaic.Lib.StableHlo.RunRead
public import Idealize.ShloMosaic.Lib.Quiescent

/-! The down projection of layer 2, with the weight in an array of three: every entry of the result is the sum over the hidden channels of the input times the weight, in the kernel
as in the reference. -/

@[expose] public section

set_option maxRecDepth 16384

noncomputable section

namespace Cert.Down2Ideal.Prod

open Cert.Down2Ideal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x2816, .f32⟩ : BufTy).Contents (Elt Ideal) := m ((c : Thread nD τ).loc main_arg0)
abbrev arg1 (c : Dev nD) : (⟨S3x2816x1024, .f32⟩ : BufTy).Contents (Elt Ideal) := m ((c : Thread nD τ).loc main_arg1)

/-- The product at row `T` and column `j`. -/
def product (a : (⟨S1x16384x2816, .f32⟩ : BufTy).Contents (Elt Ideal)) (w : (⟨S3x2816x1024, .f32⟩ : BufTy).Contents (Elt Ideal)) (T : Fin 16384) (j : Fin 1024) : EReal :=
  ∑ k : Fin 2816, a (ix3 0 T k) * w (ix3 1 k j)

/-- The activations as the region finds them, -/
def arr0 (c : Dev nD) : FVec Ideal S16384x2816 .bf16 := V m c main_v1
/-- and the weight. -/
def arr1 (c : Dev nD) : FVec Ideal S3x2816x1024 .bf16 := V m c main_v2

theorem arr0_apply (c : Dev nD) (T : Fin 16384) (k : Fin 2816) : arr0 m c (ix2 T k) = arg0 m c (ix3 0 T k) := by
  have e : arr0 m c = truncf .bf16 (shapeCast S16384x2816 (arg0 m c) shapeCasts_S1x16384x2816_S16384x2816) bitsLt_bf16_f32 := by
    unfold arr0 V
    after_reads_simp
    rfl
  rw [e]
  pointwise

theorem arr1_apply (c : Dev nD) (k : Fin 2816) (j : Fin 1024) : arr1 m c (ix3 1 k j) = arg1 m c (ix3 1 k j) := by
  have e : arr1 m c = truncf .bf16 (arg1 m c) bitsLt_bf16_f32 := by
    unfold arr1 V
    after_reads_simp
  rw [e]
  pointwise

theorem idx_val : ∀ t : Fin cfg0.N, win0_0.index t = ![t.val, 0] ∧ win0_1.index t = ![1, 0, 0] ∧ win0_2.index t = ![t.val, 0] :=
  (by decide +kernel : ∀ t : Fin grid0.N, win0_0.index t = ![t.val, 0] ∧ win0_1.index t = ![1, 0, 0] ∧ win0_2.index t = ![t.val, 0])

theorem lt_32 (t : Fin cfg0.N) : t.val < 32 := lt_of_lt_of_eq t.isLt (show cfg0.N = 32 from N_0)

/-- The row of the whole array that is row `r` of the block of point `t`. -/
def rowOf (t : Fin cfg0.N) (r : Fin 512) : Fin 16384 := ⟨t.val * 512 + r.val, by have := lt_32 t; omega⟩

theorem emb0 (t : Fin cfg0.N) (r : Fin 512) (k : Fin 2816) : ((cfg0.win 0).blk t).view.emb (ix2 r k) = ix2 (rowOf t r) k := by blk_ext [idx_val t, rowOf]
theorem emb1 (t : Fin cfg0.N) (k : Fin 2816) (j : Fin 1024) : ((cfg0.win 1).blk t).view.emb (ix3 0 k j) = ix3 1 k j := by blk_ext [idx_val t]
theorem emb2 (t : Fin cfg0.N) (r : Fin 512) (j : Fin 1024) : (win0_2.blk t).view.emb (ix2 r j) = ix2 (rowOf t r) j := by blk_ext [idx_val t, rowOf]

theorem blk0_apply (c : Dev nD) (t : Fin cfg0.N) (r : Fin 512) (k : Fin 2816) : iblk m c 0 t (ix2 r k) = arr0 m c (ix2 (rowOf t r) k) :=
  congrArg (arr0 m c) (emb0 t r k)
theorem blk1_apply (c : Dev nD) (t : Fin cfg0.N) (k : Fin 2816) (j : Fin 1024) : iblk m c 1 t (ix3 0 k j) = arr1 m c (ix3 1 k j) :=
  congrArg (arr1 m c) (emb1 t k j)

theorem pay_apply (x0 : FVec Ideal S512x2816 .bf16) (x1 : FVec Ideal S1x2816x1024 .bf16) (r : Fin 512) (j : Fin 1024) :
    k0_pay1 (F := Ideal) x0 x1 (ix2 r j) = ∑ k : Fin 2816, x0 (ix2 r k) * x1 (ix3 0 k j) := by
  unfold k0_pay1
  pointwise

theorem hz2 : (![0, 0] : Fin 2 → Nat) = fun _ => 0 := funext fun a => by fin_cases a <;> rfl
theorem hzW : (![0, 0, 0] : Fin 3 → Nat) = fun _ => 0 := funext fun a => by fin_cases a <;> rfl

theorem out_eq (x0 : FVec Ideal S512x2816 .bf16) (x1 : FVec Ideal S1x2816x1024 .bf16) : out0_2 (F := Ideal) x0 x1 = k0_pay1 (F := Ideal) x0 x1 := by
  unfold out0_2
  rw [View.canon_unit_zero hz2, View.ld_unit_zero (S := S512x2816) hz2, View.ld_unit_zero (S := S1x2816x1024) hzW]

theorem pay_blk (c : Dev nD) (t : Fin cfg0.N) (r : Fin 512) (j : Fin 1024) :
    k0_pay1 (F := Ideal) (iblk m c 0 t) (iblk m c 1 t) (ix2 r j) = product (arg0 m c) (arg1 m c) (rowOf t r) j := by
  rw [pay_apply]
  refine Finset.sum_congr rfl fun k _ => ?_
  rw [blk0_apply, blk1_apply, arr0_apply, arr1_apply]

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 512) (j : Fin 1024), y = ix2 r j := ⟨y 0, y 1, eq_ix2 y⟩
  rw [emb2]
  exact pay_blk m c t r j

end Cert.Down2Ideal.Prod

namespace Cert.Down2RefIdeal.Prod

open Idealize.ShloMosaic
open Cert.Down2RefIdeal Cert.Down2RefIdeal.Gen

theorem result (a : (⟨S1x16384x2816, .f32⟩ : BufTy).Contents (Elt Ideal)) (w : (⟨S3x2816x1024, .f32⟩ : BufTy).Contents (Elt Ideal)) :
    Read.val_main_v3 (F := Ideal) a w
      = fun y => Cert.Down2Ideal.Prod.product a w (y 0) (y 1) := by
  funext y
  obtain ⟨T, j, rfl⟩ : ∃ (T : Fin 16384) (j : Fin 1024), y = ix2 T j := ⟨y 0, y 1, eq_ix2 y⟩
  unfold Cert.Down2Ideal.Prod.product Read.val_main_v3 Read.val_main_v2 Read.val_main_v1 Read.val_main_v0
  pointwise

end Cert.Down2RefIdeal.Prod

namespace Cert.Down2.Claims

open Idealize.ShloMosaic Idealize.ShloMosaic.TcCoe Idealize.SL.Sem

theorem frame_kernel : Cert.quiescent_Down2 := fun m ρ _ => Cert.Down2.Gen.frame m ρ
theorem frame_ideal : Cert.quiescent_Down2Ideal := fun m ρ _ => Cert.Down2Ideal.Gen.frame m ρ
theorem frame_reference : Cert.quiescent_Down2RefIdeal := fun m ρ _ =>
  (θ_run Cert.Down2RefIdeal.defs _ _).mono (fun r h => ⟨fun c => (h c).2, sem_eq_zero_of_no_sems (by decide) r.2⟩)
    (Cert.Down2RefIdeal.Value.run (F := Ideal) m ρ)

theorem algebraic : Cert.algebraic_Down2Ideal_Down2RefIdeal := by
  intro m ρ m' ρ' _ hagree
  refine ⟨fun c => fun y => Cert.Down2Ideal.Prod.product (Cert.Down2Ideal.Prod.arg0 m c) (Cert.Down2Ideal.Prod.arg1 m c) (y 0) (y 1), ?_, ?_⟩
  · refine (θ_run Cert.Down2Ideal.defs _ _).mono (fun r h c => ?_) (Cert.Down2Ideal.Value.run_blocks (F := Ideal) m ρ)
    exact ⟨(h c).1.trans (Cert.Down2Ideal.Prod.final m c), (h c).2⟩
  · refine (θ_run Cert.Down2RefIdeal.defs _ _).mono (fun r h c => ?_) (Cert.Down2RefIdeal.Value.run (F := Ideal) m' ρ')
    obtain ⟨a0, a1⟩ := hagree c
    refine ⟨(h c).1.trans ?_, (h c).2⟩
    rw [a0, a1]
    exact Cert.Down2RefIdeal.Prod.result _ _

end Cert.Down2.Claims

end
-- ==== Proof.Prod.Down3.lean ====
module

public import proofs.«01_k».proof.Defs
public import proofs.«01_k».proof.Proof.Gen.Down3.Frame
public import proofs.«01_k».proof.Proof.Gen.Down3Ideal.Value
public import proofs.«01_k».proof.Proof.Gen.Down3RefIdeal.Run
public import proofs.«01_k».proof.Proof.Gen.Down3RefIdeal.Read
public import Idealize.ShloMosaic.Lib.Pipeline.ValueKit
public import Idealize.ShloMosaic.Lib.Pointwise
public import Idealize.ShloMosaic.Lib.StableHlo.RunRead
public import Idealize.ShloMosaic.Lib.Quiescent

/-! The down projection of layer 3, with the weight in an array of three: every entry of the result is the sum over the hidden channels of the input times the weight, in the kernel
as in the reference. -/

@[expose] public section

set_option maxRecDepth 16384

noncomputable section

namespace Cert.Down3Ideal.Prod

open Cert.Down3Ideal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x2816, .f32⟩ : BufTy).Contents (Elt Ideal) := m ((c : Thread nD τ).loc main_arg0)
abbrev arg1 (c : Dev nD) : (⟨S3x2816x1024, .f32⟩ : BufTy).Contents (Elt Ideal) := m ((c : Thread nD τ).loc main_arg1)

/-- The product at row `T` and column `j`. -/
def product (a : (⟨S1x16384x2816, .f32⟩ : BufTy).Contents (Elt Ideal)) (w : (⟨S3x2816x1024, .f32⟩ : BufTy).Contents (Elt Ideal)) (T : Fin 16384) (j : Fin 1024) : EReal :=
  ∑ k : Fin 2816, a (ix3 0 T k) * w (ix3 2 k j)

/-- The activations as the region finds them, -/
def arr0 (c : Dev nD) : FVec Ideal S16384x2816 .bf16 := V m c main_v1
/-- and the weight. -/
def arr1 (c : Dev nD) : FVec Ideal S3x2816x1024 .bf16 := V m c main_v2

theorem arr0_apply (c : Dev nD) (T : Fin 16384) (k : Fin 2816) : arr0 m c (ix2 T k) = arg0 m c (ix3 0 T k) := by
  have e : arr0 m c = truncf .bf16 (shapeCast S16384x2816 (arg0 m c) shapeCasts_S1x16384x2816_S16384x2816) bitsLt_bf16_f32 := by
    unfold arr0 V
    after_reads_simp
    rfl
  rw [e]
  pointwise

theorem arr1_apply (c : Dev nD) (k : Fin 2816) (j : Fin 1024) : arr1 m c (ix3 2 k j) = arg1 m c (ix3 2 k j) := by
  have e : arr1 m c = truncf .bf16 (arg1 m c) bitsLt_bf16_f32 := by
    unfold arr1 V
    after_reads_simp
  rw [e]
  pointwise

theorem idx_val : ∀ t : Fin cfg0.N, win0_0.index t = ![t.val, 0] ∧ win0_1.index t = ![2, 0, 0] ∧ win0_2.index t = ![t.val, 0] :=
  (by decide +kernel : ∀ t : Fin grid0.N, win0_0.index t = ![t.val, 0] ∧ win0_1.index t = ![2, 0, 0] ∧ win0_2.index t = ![t.val, 0])

theorem lt_32 (t : Fin cfg0.N) : t.val < 32 := lt_of_lt_of_eq t.isLt (show cfg0.N = 32 from N_0)

/-- The row of the whole array that is row `r` of the block of point `t`. -/
def rowOf (t : Fin cfg0.N) (r : Fin 512) : Fin 16384 := ⟨t.val * 512 + r.val, by have := lt_32 t; omega⟩

theorem emb0 (t : Fin cfg0.N) (r : Fin 512) (k : Fin 2816) : ((cfg0.win 0).blk t).view.emb (ix2 r k) = ix2 (rowOf t r) k := by blk_ext [idx_val t, rowOf]
theorem emb1 (t : Fin cfg0.N) (k : Fin 2816) (j : Fin 1024) : ((cfg0.win 1).blk t).view.emb (ix3 0 k j) = ix3 2 k j := by blk_ext [idx_val t]
theorem emb2 (t : Fin cfg0.N) (r : Fin 512) (j : Fin 1024) : (win0_2.blk t).view.emb (ix2 r j) = ix2 (rowOf t r) j := by blk_ext [idx_val t, rowOf]

theorem blk0_apply (c : Dev nD) (t : Fin cfg0.N) (r : Fin 512) (k : Fin 2816) : iblk m c 0 t (ix2 r k) = arr0 m c (ix2 (rowOf t r) k) :=
  congrArg (arr0 m c) (emb0 t r k)
theorem blk1_apply (c : Dev nD) (t : Fin cfg0.N) (k : Fin 2816) (j : Fin 1024) : iblk m c 1 t (ix3 0 k j) = arr1 m c (ix3 2 k j) :=
  congrArg (arr1 m c) (emb1 t k j)

theorem pay_apply (x0 : FVec Ideal S512x2816 .bf16) (x1 : FVec Ideal S1x2816x1024 .bf16) (r : Fin 512) (j : Fin 1024) :
    k0_pay1 (F := Ideal) x0 x1 (ix2 r j) = ∑ k : Fin 2816, x0 (ix2 r k) * x1 (ix3 0 k j) := by
  unfold k0_pay1
  pointwise

theorem hz2 : (![0, 0] : Fin 2 → Nat) = fun _ => 0 := funext fun a => by fin_cases a <;> rfl
theorem hzW : (![0, 0, 0] : Fin 3 → Nat) = fun _ => 0 := funext fun a => by fin_cases a <;> rfl

theorem out_eq (x0 : FVec Ideal S512x2816 .bf16) (x1 : FVec Ideal S1x2816x1024 .bf16) : out0_2 (F := Ideal) x0 x1 = k0_pay1 (F := Ideal) x0 x1 := by
  unfold out0_2
  rw [View.canon_unit_zero hz2, View.ld_unit_zero (S := S512x2816) hz2, View.ld_unit_zero (S := S1x2816x1024) hzW]

theorem pay_blk (c : Dev nD) (t : Fin cfg0.N) (r : Fin 512) (j : Fin 1024) :
    k0_pay1 (F := Ideal) (iblk m c 0 t) (iblk m c 1 t) (ix2 r j) = product (arg0 m c) (arg1 m c) (rowOf t r) j := by
  rw [pay_apply]
  refine Finset.sum_congr rfl fun k _ => ?_
  rw [blk0_apply, blk1_apply, arr0_apply, arr1_apply]

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 512) (j : Fin 1024), y = ix2 r j := ⟨y 0, y 1, eq_ix2 y⟩
  rw [emb2]
  exact pay_blk m c t r j

end Cert.Down3Ideal.Prod

namespace Cert.Down3RefIdeal.Prod

open Idealize.ShloMosaic
open Cert.Down3RefIdeal Cert.Down3RefIdeal.Gen

theorem result (a : (⟨S1x16384x2816, .f32⟩ : BufTy).Contents (Elt Ideal)) (w : (⟨S3x2816x1024, .f32⟩ : BufTy).Contents (Elt Ideal)) :
    Read.val_main_v3 (F := Ideal) a w
      = fun y => Cert.Down3Ideal.Prod.product a w (y 0) (y 1) := by
  funext y
  obtain ⟨T, j, rfl⟩ : ∃ (T : Fin 16384) (j : Fin 1024), y = ix2 T j := ⟨y 0, y 1, eq_ix2 y⟩
  unfold Cert.Down3Ideal.Prod.product Read.val_main_v3 Read.val_main_v2 Read.val_main_v1 Read.val_main_v0
  pointwise

end Cert.Down3RefIdeal.Prod

namespace Cert.Down3.Claims

open Idealize.ShloMosaic Idealize.ShloMosaic.TcCoe Idealize.SL.Sem

theorem frame_kernel : Cert.quiescent_Down3 := fun m ρ _ => Cert.Down3.Gen.frame m ρ
theorem frame_ideal : Cert.quiescent_Down3Ideal := fun m ρ _ => Cert.Down3Ideal.Gen.frame m ρ
theorem frame_reference : Cert.quiescent_Down3RefIdeal := fun m ρ _ =>
  (θ_run Cert.Down3RefIdeal.defs _ _).mono (fun r h => ⟨fun c => (h c).2, sem_eq_zero_of_no_sems (by decide) r.2⟩)
    (Cert.Down3RefIdeal.Value.run (F := Ideal) m ρ)

theorem algebraic : Cert.algebraic_Down3Ideal_Down3RefIdeal := by
  intro m ρ m' ρ' _ hagree
  refine ⟨fun c => fun y => Cert.Down3Ideal.Prod.product (Cert.Down3Ideal.Prod.arg0 m c) (Cert.Down3Ideal.Prod.arg1 m c) (y 0) (y 1), ?_, ?_⟩
  · refine (θ_run Cert.Down3Ideal.defs _ _).mono (fun r h c => ?_) (Cert.Down3Ideal.Value.run_blocks (F := Ideal) m ρ)
    exact ⟨(h c).1.trans (Cert.Down3Ideal.Prod.final m c), (h c).2⟩
  · refine (θ_run Cert.Down3RefIdeal.defs _ _).mono (fun r h c => ?_) (Cert.Down3RefIdeal.Value.run (F := Ideal) m' ρ')
    obtain ⟨a0, a1⟩ := hagree c
    refine ⟨(h c).1.trans ?_, (h c).2⟩
    rw [a0, a1]
    exact Cert.Down3RefIdeal.Prod.result _ _

end Cert.Down3.Claims

end
-- ==== Proof.Prod.DownDx1.lean ====
module

public import proofs.«01_k».proof.Defs
public import proofs.«01_k».proof.Proof.Gen.DownDx1.Frame
public import proofs.«01_k».proof.Proof.Gen.DownDx1Ideal.Value
public import proofs.«01_k».proof.Proof.Gen.DownDx1RefIdeal.Run
public import proofs.«01_k».proof.Proof.Gen.DownDx1RefIdeal.Read
public import Idealize.ShloMosaic.Lib.Pipeline.ValueKit
public import Idealize.ShloMosaic.Lib.Pointwise
public import Idealize.ShloMosaic.Lib.StableHlo.RunRead
public import Idealize.ShloMosaic.Lib.Quiescent

/-! The gradient of the down projection of layer 1 in its input, with the weight in an array of three: every entry of the result is the sum over the model's width of
the cotangent times the weight, in the kernel as in the reference. -/

@[expose] public section

set_option maxRecDepth 16384

noncomputable section

namespace Cert.DownDx1Ideal.Prod

open Cert.DownDx1Ideal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S3x2816x1024, .f32⟩ : BufTy).Contents (Elt Ideal) := m ((c : Thread nD τ).loc main_arg1)
abbrev arg2 (c : Dev nD) : (⟨S1x16384x1024, .f32⟩ : BufTy).Contents (Elt Ideal) := m ((c : Thread nD τ).loc main_arg2)

/-- The gradient at row `T` and hidden channel `j`. -/
def dx (w : (⟨S3x2816x1024, .f32⟩ : BufTy).Contents (Elt Ideal)) (ct : (⟨S1x16384x1024, .f32⟩ : BufTy).Contents (Elt Ideal)) (T : Fin 16384) (j : Fin 2816) : EReal :=
  ∑ k : Fin 1024, ct (ix3 0 T k) * w (ix3 0 j k)

/-- The cotangent as the region finds it, -/
def arr0 (c : Dev nD) : FVec Ideal S16384x1024 .bf16 := V m c main_v1
/-- and the weight. -/
def arr1 (c : Dev nD) : FVec Ideal S3x2816x1024 .bf16 := V m c main_v2

theorem arr0_apply (c : Dev nD) (T : Fin 16384) (k : Fin 1024) : arr0 m c (ix2 T k) = arg2 m c (ix3 0 T k) := by
  have e : arr0 m c = truncf .bf16 (shapeCast S16384x1024 (arg2 m c) shapeCasts_S1x16384x1024_S16384x1024) bitsLt_bf16_f32 := by
    unfold arr0 V
    after_reads_simp
    rfl
  rw [e]
  pointwise

theorem arr1_apply (c : Dev nD) (j : Fin 2816) (k : Fin 1024) : arr1 m c (ix3 0 j k) = arg1 m c (ix3 0 j k) := by
  have e : arr1 m c = truncf .bf16 (arg1 m c) bitsLt_bf16_f32 := by
    unfold arr1 V
    after_reads_simp
  rw [e]
  pointwise

theorem idx_val : ∀ t : Fin cfg0.N, win0_0.index t = ![t.val / 2, 0] ∧ win0_1.index t = ![0, t.val % 2, 0] ∧ win0_2.index t = ![t.val / 2, t.val % 2] :=
  (by decide +kernel : ∀ t : Fin grid0.N, win0_0.index t = ![t.val / 2, 0] ∧ win0_1.index t = ![0, t.val % 2, 0] ∧ win0_2.index t = ![t.val / 2, t.val % 2])

theorem lt_32 (t : Fin cfg0.N) : t.val < 32 := lt_of_lt_of_eq t.isLt (show cfg0.N = 32 from N_0)

/-- The row of the whole array that is row `r` of the block of point `t`, -/
def rowOf (t : Fin cfg0.N) (r : Fin 1024) : Fin 16384 := ⟨t.val / 2 * 1024 + r.val, by have := lt_32 t; omega⟩
/-- and the column that is column `j`. -/
def colOf (t : Fin cfg0.N) (j : Fin 1408) : Fin 2816 := ⟨t.val % 2 * 1408 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (j : Fin 1408) (k : Fin 1024) : ((cfg0.win 1).blk t).view.emb (ix3 0 j k) = ix3 0 (colOf t j) k := by blk_ext [idx_val t, colOf]
theorem emb2 (t : Fin cfg0.N) (r : Fin 1024) (j : Fin 1408) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (j : Fin 1408) (k : Fin 1024) : iblk m c 1 t (ix3 0 j k) = arr1 m c (ix3 0 (colOf t j) k) :=
  congrArg (arr1 m c) (emb1 t j k)

theorem pay_apply (x0 : FVec Ideal S1024x1024 .bf16) (x1 : FVec Ideal S1x1408x1024 .bf16) (r : Fin 1024) (j : Fin 1408) :
    k0_pay1 (F := Ideal) x0 x1 (ix2 r j) = ∑ k : Fin 1024, x0 (ix2 r k) * x1 (ix3 0 j k) := by
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : FVec Ideal S1024x1024 .bf16) (x1 : FVec Ideal S1x1408x1024 .bf16) : out0_2 (F := Ideal) x0 x1 = k0_pay1 (F := Ideal) x0 x1 := by
  unfold out0_2
  rw [View.canon_unit_zero hz2, View.ld_unit_zero (S := S1024x1024) hz2, View.ld_unit_zero (S := S1x1408x1024) hz3]

theorem pay_blk (c : Dev nD) (t : Fin cfg0.N) (r : Fin 1024) (j : Fin 1408) :
    k0_pay1 (F := Ideal) (iblk m c 0 t) (iblk m c 1 t) (ix2 r j) = dx (arg1 m c) (arg2 m c) (rowOf t r) (colOf t j) := by
  rw [pay_apply]
  refine Finset.sum_congr rfl fun k _ => ?_
  rw [blk0_apply, blk1_apply, arr0_apply, arr1_apply]

theorem final (c : Dev nD) : (dats m 0 c).arrAt 2 cfg0.N = fun y => dx (arg1 m c) (arg2 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1408), y = ix2 r j := ⟨y 0, y 1, eq_ix2 y⟩
  rw [emb2]
  exact pay_blk m c t r j

end Cert.DownDx1Ideal.Prod

namespace Cert.DownDx1RefIdeal.Prod

open Idealize.ShloMosaic
open Cert.DownDx1RefIdeal Cert.DownDx1RefIdeal.Gen Cert.DownDx1RefIdeal.Read

theorem result (w : (⟨S3x2816x1024, .f32⟩ : BufTy).Contents (Elt Ideal)) (ct : (⟨S1x16384x1024, .f32⟩ : BufTy).Contents (Elt Ideal)) :
    val_main_v7 (F := Ideal) w ct
      = fun y => Cert.DownDx1Ideal.Prod.dx w ct (y 0) (y 1) := by
  funext y
  obtain ⟨T, j, rfl⟩ : ∃ (T : Fin 16384) (j : Fin 2816), y = ix2 T j := ⟨y 0, y 1, eq_ix2 y⟩
  unfold Cert.DownDx1Ideal.Prod.dx val_main_v7 val_main_v6 val_main_v5 val_main_v1 val_main_v0
  pointwise

end Cert.DownDx1RefIdeal.Prod

namespace Cert.DownDx1.Claims

open Idealize.ShloMosaic Idealize.ShloMosaic.TcCoe Idealize.SL.Sem

theorem frame_kernel : Cert.quiescent_DownDx1 := fun m ρ _ => Cert.DownDx1.Gen.frame m ρ
theorem frame_ideal : Cert.quiescent_DownDx1Ideal := fun m ρ _ => Cert.DownDx1Ideal.Gen.frame m ρ
theorem frame_reference : Cert.quiescent_DownDx1RefIdeal := fun m ρ _ =>
  (θ_run Cert.DownDx1RefIdeal.defs _ _).mono (fun r h => ⟨fun c => (h c).2, sem_eq_zero_of_no_sems (by decide) r.2⟩)
    (Cert.DownDx1RefIdeal.Value.run (F := Ideal) m ρ)

theorem algebraic : Cert.algebraic_DownDx1Ideal_DownDx1RefIdeal := by
  intro m ρ m' ρ' _ hagree
  refine ⟨fun c => fun y => Cert.DownDx1Ideal.Prod.dx (Cert.DownDx1Ideal.Prod.arg1 m c) (Cert.DownDx1Ideal.Prod.arg2 m c) (y 0) (y 1), ?_, ?_⟩
  · refine (θ_run Cert.DownDx1Ideal.defs _ _).mono (fun r h c => ?_) (Cert.DownDx1Ideal.Value.run_blocks (F := Ideal) m ρ)
    exact ⟨(h c).1.trans (Cert.DownDx1Ideal.Prod.final m c), (h c).2⟩
  · refine (θ_run Cert.DownDx1RefIdeal.defs _ _).mono (fun r h c => ?_) (Cert.DownDx1RefIdeal.Value.run (F := Ideal) m' ρ')
    obtain ⟨_, a1, a2⟩ := hagree c
    refine ⟨(h c).1.trans ?_, (h c).2⟩
    rw [a1, a2]
    exact Cert.DownDx1RefIdeal.Prod.result _ _

end Cert.DownDx1.Claims

end
-- ==== Proof.Prod.DownDx2.lean ====
module

public import proofs.«01_k».proof.Defs
public import proofs.«01_k».proof.Proof.Gen.DownDx2.Frame
public import proofs.«01_k».proof.Proof.Gen.DownDx2Ideal.Value
public import proofs.«01_k».proof.Proof.Gen.DownDx2RefIdeal.Run
public import proofs.«01_k».proof.Proof.Gen.DownDx2RefIdeal.Read
public import Idealize.ShloMosaic.Lib.Pipeline.ValueKit
public import Idealize.ShloMosaic.Lib.Pointwise
public import Idealize.ShloMosaic.Lib.StableHlo.RunRead
public import Idealize.ShloMosaic.Lib.Quiescent

/-! The gradient of the down projection of layer 2 in its input, with the weight in an array of three: every entry of the result is the sum over the model's width of
the cotangent times the weight, in the kernel as in the reference. -/

@[expose] public section

set_option maxRecDepth 16384

noncomputable section

namespace Cert.DownDx2Ideal.Prod

open Cert.DownDx2Ideal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S3x2816x1024, .f32⟩ : BufTy).Contents (Elt Ideal) := m ((c : Thread nD τ).loc main_arg1)
abbrev arg2 (c : Dev nD) : (⟨S1x16384x1024, .f32⟩ : BufTy).Contents (Elt Ideal) := m ((c : Thread nD τ).loc main_arg2)

/-- The gradient at row `T` and hidden channel `j`. -/
def dx (w : (⟨S3x2816x1024, .f32⟩ : BufTy).Contents (Elt Ideal)) (ct : (⟨S1x16384x1024, .f32⟩ : BufTy).Contents (Elt Ideal)) (T : Fin 16384) (j : Fin 2816) : EReal :=
  ∑ k : Fin 1024, ct (ix3 0 T k) * w (ix3 1 j k)

/-- The cotangent as the region finds it, -/
def arr0 (c : Dev nD) : FVec Ideal S16384x1024 .bf16 := V m c main_v1
/-- and the weight. -/
def arr1 (c : Dev nD) : FVec Ideal S3x2816x1024 .bf16 := V m c main_v2

theorem arr0_apply (c : Dev nD) (T : Fin 16384) (k : Fin 1024) : arr0 m c (ix2 T k) = arg2 m c (ix3 0 T k) := by
  have e : arr0 m c = truncf .bf16 (shapeCast S16384x1024 (arg2 m c) shapeCasts_S1x16384x1024_S16384x1024) bitsLt_bf16_f32 := by
    unfold arr0 V
    after_reads_simp
    rfl
  rw [e]
  pointwise

theorem arr1_apply (c : Dev nD) (j : Fin 2816) (k : Fin 1024) : arr1 m c (ix3 1 j k) = arg1 m c (ix3 1 j k) := by
  have e : arr1 m c = truncf .bf16 (arg1 m c) bitsLt_bf16_f32 := by
    unfold arr1 V
    after_reads_simp
  rw [e]
  pointwise

theorem idx_val : ∀ t : Fin cfg0.N, win0_0.index t = ![t.val / 2, 0] ∧ win0_1.index t = ![1, t.val % 2, 0] ∧ win0_2.index t = ![t.val / 2, t.val % 2] :=
  (by decide +kernel : ∀ t : Fin grid0.N, win0_0.index t = ![t.val / 2, 0] ∧ win0_1.index t = ![1, t.val % 2, 0] ∧ win0_2.index t = ![t.val / 2, t.val % 2])

theorem lt_32 (t : Fin cfg0.N) : t.val < 32 := lt_of_lt_of_eq t.isLt (show cfg0.N = 32 from N_0)

/-- The row of the whole array that is row `r` of the block of point `t`, -/
def rowOf (t : Fin cfg0.N) (r : Fin 1024) : Fin 16384 := ⟨t.val / 2 * 1024 + r.val, by have := lt_32 t; omega⟩
/-- and the column that is column `j`. -/
def colOf (t : Fin cfg0.N) (j : Fin 1408) : Fin 2816 := ⟨t.val % 2 * 1408 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (j : Fin 1408) (k : Fin 1024) : ((cfg0.win 1).blk t).view.emb (ix3 0 j k) = ix3 1 (colOf t j) k := by blk_ext [idx_val t, colOf]
theorem emb2 (t : Fin cfg0.N) (r : Fin 1024) (j : Fin 1408) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (j : Fin 1408) (k : Fin 1024) : iblk m c 1 t (ix3 0 j k) = arr1 m c (ix3 1 (colOf t j) k) :=
  congrArg (arr1 m c) (emb1 t j k)

theorem pay_apply (x0 : FVec Ideal S1024x1024 .bf16) (x1 : FVec Ideal S1x1408x1024 .bf16) (r : Fin 1024) (j : Fin 1408) :
    k0_pay1 (F := Ideal) x0 x1 (ix2 r j) = ∑ k : Fin 1024, x0 (ix2 r k) * x1 (ix3 0 j k) := by
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : FVec Ideal S1024x1024 .bf16) (x1 : FVec Ideal S1x1408x1024 .bf16) : out0_2 (F := Ideal) x0 x1 = k0_pay1 (F := Ideal) x0 x1 := by
  unfold out0_2
  rw [View.canon_unit_zero hz2, View.ld_unit_zero (S := S1024x1024) hz2, View.ld_unit_zero (S := S1x1408x1024) hz3]

theorem pay_blk (c : Dev nD) (t : Fin cfg0.N) (r : Fin 1024) (j : Fin 1408) :
    k0_pay1 (F := Ideal) (iblk m c 0 t) (iblk m c 1 t) (ix2 r j) = dx (arg1 m c) (arg2 m c) (rowOf t r) (colOf t j) := by
  rw [pay_apply]
  refine Finset.sum_congr rfl fun k _ => ?_
  rw [blk0_apply, blk1_apply, arr0_apply, arr1_apply]

theorem final (c : Dev nD) : (dats m 0 c).arrAt 2 cfg0.N = fun y => dx (arg1 m c) (arg2 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1408), y = ix2 r j := ⟨y 0, y 1, eq_ix2 y⟩
  rw [emb2]
  exact pay_blk m c t r j

end Cert.DownDx2Ideal.Prod

namespace Cert.DownDx2RefIdeal.Prod

open Idealize.ShloMosaic
open Cert.DownDx2RefIdeal Cert.DownDx2RefIdeal.Gen Cert.DownDx2RefIdeal.Read

theorem result (w : (⟨S3x2816x1024, .f32⟩ : BufTy).Contents (Elt Ideal)) (ct : (⟨S1x16384x1024, .f32⟩ : BufTy).Contents (Elt Ideal)) :
    val_main_v7 (F := Ideal) w ct
      = fun y => Cert.DownDx2Ideal.Prod.dx w ct (y 0) (y 1) := by
  funext y
  obtain ⟨T, j, rfl⟩ : ∃ (T : Fin 16384) (j : Fin 2816), y = ix2 T j := ⟨y 0, y 1, eq_ix2 y⟩
  unfold Cert.DownDx2Ideal.Prod.dx val_main_v7 val_main_v6 val_main_v5 val_main_v1 val_main_v0
  pointwise

end Cert.DownDx2RefIdeal.Prod

namespace Cert.DownDx2.Claims

open Idealize.ShloMosaic Idealize.ShloMosaic.TcCoe Idealize.SL.Sem

theorem frame_kernel : Cert.quiescent_DownDx2 := fun m ρ _ => Cert.DownDx2.Gen.frame m ρ
theorem frame_ideal : Cert.quiescent_DownDx2Ideal := fun m ρ _ => Cert.DownDx2Ideal.Gen.frame m ρ
theorem frame_reference : Cert.quiescent_DownDx2RefIdeal := fun m ρ _ =>
  (θ_run Cert.DownDx2RefIdeal.defs _ _).mono (fun r h => ⟨fun c => (h c).2, sem_eq_zero_of_no_sems (by decide) r.2⟩)
    (Cert.DownDx2RefIdeal.Value.run (F := Ideal) m ρ)

theorem algebraic : Cert.algebraic_DownDx2Ideal_DownDx2RefIdeal := by
  intro m ρ m' ρ' _ hagree
  refine ⟨fun c => fun y => Cert.DownDx2Ideal.Prod.dx (Cert.DownDx2Ideal.Prod.arg1 m c) (Cert.DownDx2Ideal.Prod.arg2 m c) (y 0) (y 1), ?_, ?_⟩
  · refine (θ_run Cert.DownDx2Ideal.defs _ _).mono (fun r h c => ?_) (Cert.DownDx2Ideal.Value.run_blocks (F := Ideal) m ρ)
    exact ⟨(h c).1.trans (Cert.DownDx2Ideal.Prod.final m c), (h c).2⟩
  · refine (θ_run Cert.DownDx2RefIdeal.defs _ _).mono (fun r h c => ?_) (Cert.DownDx2RefIdeal.Value.run (F := Ideal) m' ρ')
    obtain ⟨_, a1, a2⟩ := hagree c
    refine ⟨(h c).1.trans ?_, (h c).2⟩
    rw [a1, a2]
    exact Cert.DownDx2RefIdeal.Prod.result _ _

end Cert.DownDx2.Claims

end
-- ==== Proof.Prod.DownDx3.lean ====
module

public import proofs.«01_k».proof.Defs
public import proofs.«01_k».proof.Proof.Gen.DownDx3.Frame
public import proofs.«01_k».proof.Proof.Gen.DownDx3Ideal.Value
public import proofs.«01_k».proof.Proof.Gen.DownDx3RefIdeal.Run
public import proofs.«01_k».proof.Proof.Gen.DownDx3RefIdeal.Read
public import Idealize.ShloMosaic.Lib.Pipeline.ValueKit
public import Idealize.ShloMosaic.Lib.Pointwise
public import Idealize.ShloMosaic.Lib.StableHlo.RunRead
public import Idealize.ShloMosaic.Lib.Quiescent

/-! The gradient of the down projection of layer 3 in its input, with the weight in an array of three: every entry of the result is the sum over the model's width of
the cotangent times the weight, in the kernel as in the reference. -/

@[expose] public section

set_option maxRecDepth 16384

noncomputable section

namespace Cert.DownDx3Ideal.Prod

open Cert.DownDx3Ideal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S3x2816x1024, .f32⟩ : BufTy).Contents (Elt Ideal) := m ((c : Thread nD τ).loc main_arg1)
abbrev arg2 (c : Dev nD) : (⟨S1x16384x1024, .f32⟩ : BufTy).Contents (Elt Ideal) := m ((c : Thread nD τ).loc main_arg2)

/-- The gradient at row `T` and hidden channel `j`. -/
def dx (w : (⟨S3x2816x1024, .f32⟩ : BufTy).Contents (Elt Ideal)) (ct : (⟨S1x16384x1024, .f32⟩ : BufTy).Contents (Elt Ideal)) (T : Fin 16384) (j : Fin 2816) : EReal :=
  ∑ k : Fin 1024, ct (ix3 0 T k) * w (ix3 2 j k)

/-- The cotangent as the region finds it, -/
def arr0 (c : Dev nD) : FVec Ideal S16384x1024 .bf16 := V m c main_v1
/-- and the weight. -/
def arr1 (c : Dev nD) : FVec Ideal S3x2816x1024 .bf16 := V m c main_v2

theorem arr0_apply (c : Dev nD) (T : Fin 16384) (k : Fin 1024) : arr0 m c (ix2 T k) = arg2 m c (ix3 0 T k) := by
  have e : arr0 m c = truncf .bf16 (shapeCast S16384x1024 (arg2 m c) shapeCasts_S1x16384x1024_S16384x1024) bitsLt_bf16_f32 := by
    unfold arr0 V
    after_reads_simp
    rfl
  rw [e]
  pointwise

theorem arr1_apply (c : Dev nD) (j : Fin 2816) (k : Fin 1024) : arr1 m c (ix3 2 j k) = arg1 m c (ix3 2 j k) := by
  have e : arr1 m c = truncf .bf16 (arg1 m c) bitsLt_bf16_f32 := by
    unfold arr1 V
    after_reads_simp
  rw [e]
  pointwise

theorem idx_val : ∀ t : Fin cfg0.N, win0_0.index t = ![t.val / 2, 0] ∧ win0_1.index t = ![2, t.val % 2, 0] ∧ win0_2.index t = ![t.val / 2, t.val % 2] :=
  (by decide +kernel : ∀ t : Fin grid0.N, win0_0.index t = ![t.val / 2, 0] ∧ win0_1.index t = ![2, t.val % 2, 0] ∧ win0_2.index t = ![t.val / 2, t.val % 2])

theorem lt_32 (t : Fin cfg0.N) : t.val < 32 := lt_of_lt_of_eq t.isLt (show cfg0.N = 32 from N_0)

/-- The row of the whole array that is row `r` of the block of point `t`, -/
def rowOf (t : Fin cfg0.N) (r : Fin 1024) : Fin 16384 := ⟨t.val / 2 * 1024 + r.val, by have := lt_32 t; omega⟩
/-- and the column that is column `j`. -/
def colOf (t : Fin cfg0.N) (j : Fin 1408) : Fin 2816 := ⟨t.val % 2 * 1408 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (j : Fin 1408) (k : Fin 1024) : ((cfg0.win 1).blk t).view.emb (ix3 0 j k) = ix3 2 (colOf t j) k := by blk_ext [idx_val t, colOf]
theorem emb2 (t : Fin cfg0.N) (r : Fin 1024) (j : Fin 1408) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (j : Fin 1408) (k : Fin 1024) : iblk m c 1 t (ix3 0 j k) = arr1 m c (ix3 2 (colOf t j) k) :=
  congrArg (arr1 m c) (emb1 t j k)

theorem pay_apply (x0 : FVec Ideal S1024x1024 .bf16) (x1 : FVec Ideal S1x1408x1024 .bf16) (r : Fin 1024) (j : Fin 1408) :
    k0_pay1 (F := Ideal) x0 x1 (ix2 r j) = ∑ k : Fin 1024, x0 (ix2 r k) * x1 (ix3 0 j k) := by
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : FVec Ideal S1024x1024 .bf16) (x1 : FVec Ideal S1x1408x1024 .bf16) : out0_2 (F := Ideal) x0 x1 = k0_pay1 (F := Ideal) x0 x1 := by
  unfold out0_2
  rw [View.canon_unit_zero hz2, View.ld_unit_zero (S := S1024x1024) hz2, View.ld_unit_zero (S := S1x1408x1024) hz3]

theorem pay_blk (c : Dev nD) (t : Fin cfg0.N) (r : Fin 1024) (j : Fin 1408) :
    k0_pay1 (F := Ideal) (iblk m c 0 t) (iblk m c 1 t) (ix2 r j) = dx (arg1 m c) (arg2 m c) (rowOf t r) (colOf t j) := by
  rw [pay_apply]
  refine Finset.sum_congr rfl fun k _ => ?_
  rw [blk0_apply, blk1_apply, arr0_apply, arr1_apply]

theorem final (c : Dev nD) : (dats m 0 c).arrAt 2 cfg0.N = fun y => dx (arg1 m c) (arg2 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1408), y = ix2 r j := ⟨y 0, y 1, eq_ix2 y⟩
  rw [emb2]
  exact pay_blk m c t r j

end Cert.DownDx3Ideal.Prod

namespace Cert.DownDx3RefIdeal.Prod

open Idealize.ShloMosaic
open Cert.DownDx3RefIdeal Cert.DownDx3RefIdeal.Gen Cert.DownDx3RefIdeal.Read

theorem result (w : (⟨S3x2816x1024, .f32⟩ : BufTy).Contents (Elt Ideal)) (ct : (⟨S1x16384x1024, .f32⟩ : BufTy).Contents (Elt Ideal)) :
    val_main_v7 (F := Ideal) w ct
      = fun y => Cert.DownDx3Ideal.Prod.dx w ct (y 0) (y 1) := by
  funext y
  obtain ⟨T, j, rfl⟩ : ∃ (T : Fin 16384) (j : Fin 2816), y = ix2 T j := ⟨y 0, y 1, eq_ix2 y⟩
  unfold Cert.DownDx3Ideal.Prod.dx val_main_v7 val_main_v6 val_main_v5 val_main_v1 val_main_v0
  pointwise

end Cert.DownDx3RefIdeal.Prod

namespace Cert.DownDx3.Claims

open Idealize.ShloMosaic Idealize.ShloMosaic.TcCoe Idealize.SL.Sem

theorem frame_kernel : Cert.quiescent_DownDx3 := fun m ρ _ => Cert.DownDx3.Gen.frame m ρ
theorem frame_ideal : Cert.quiescent_DownDx3Ideal := fun m ρ _ => Cert.DownDx3Ideal.Gen.frame m ρ
theorem frame_reference : Cert.quiescent_DownDx3RefIdeal := fun m ρ _ =>
  (θ_run Cert.DownDx3RefIdeal.defs _ _).mono (fun r h => ⟨fun c => (h c).2, sem_eq_zero_of_no_sems (by decide) r.2⟩)
    (Cert.DownDx3RefIdeal.Value.run (F := Ideal) m ρ)

theorem algebraic : Cert.algebraic_DownDx3Ideal_DownDx3RefIdeal := by
  intro m ρ m' ρ' _ hagree
  refine ⟨fun c => fun y => Cert.DownDx3Ideal.Prod.dx (Cert.DownDx3Ideal.Prod.arg1 m c) (Cert.DownDx3Ideal.Prod.arg2 m c) (y 0) (y 1), ?_, ?_⟩
  · refine (θ_run Cert.DownDx3Ideal.defs _ _).mono (fun r h c => ?_) (Cert.DownDx3Ideal.Value.run_blocks (F := Ideal) m ρ)
    exact ⟨(h c).1.trans (Cert.DownDx3Ideal.Prod.final m c), (h c).2⟩
  · refine (θ_run Cert.DownDx3RefIdeal.defs _ _).mono (fun r h c => ?_) (Cert.DownDx3RefIdeal.Value.run (F := Ideal) m' ρ')
    obtain ⟨_, a1, a2⟩ := hagree c
    refine ⟨(h c).1.trans ?_, (h c).2⟩
    rw [a1, a2]
    exact Cert.DownDx3RefIdeal.Prod.result _ _

end Cert.DownDx3.Claims

end
-- ==== Proof.Prod.Up1.lean ====
module

public import proofs.«01_k».proof.Defs
public import proofs.«01_k».proof.Proof.Gen.Up1.Frame
public import proofs.«01_k».proof.Proof.Gen.Up1Ideal.Value
public import proofs.«01_k».proof.Proof.Gen.Up1RefIdeal.Run
public import proofs.«01_k».proof.Proof.Gen.Up1RefIdeal.Read
public import Idealize.ShloMosaic.Lib.Pipeline.ValueKit
public import Idealize.ShloMosaic.Lib.Pointwise
public import Idealize.ShloMosaic.Lib.StableHlo.RunRead
public import Idealize.ShloMosaic.Lib.Quiescent

/-! The up projection of layer 1, with the weight in an array of three: every entry of the result is the sum over the model's width of the input times the weight, whose columns
the kernel takes in four blocks. -/

@[expose] public section

set_option maxRecDepth 16384

noncomputable section

namespace Cert.Up1Ideal.Prod

open Cert.Up1Ideal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg1 (c : Dev nD) : (⟨S3x1024x5632, .f32⟩ : BufTy).Contents (Elt Ideal) := m ((c : Thread nD τ).loc main_arg1)

/-- The product at row `T` and column `j`. -/
def product (a : (⟨S1x16384x1024, .f32⟩ : BufTy).Contents (Elt Ideal)) (w : (⟨S3x1024x5632, .f32⟩ : BufTy).Contents (Elt Ideal)) (T : Fin 16384) (j : Fin 5632) : EReal :=
  ∑ k : Fin 1024, a (ix3 0 T k) * w (ix3 0 k j)

/-- The activations as the region finds them, -/
def arr0 (c : Dev nD) : FVec Ideal S16384x1024 .bf16 := V m c main_v1
/-- and the weight. -/
def arr1 (c : Dev nD) : FVec Ideal S3x4x1024x1408 .bf16 := V m c main_v4

theorem arr0_apply (c : Dev nD) (T : Fin 16384) (k : Fin 1024) : arr0 m c (ix2 T k) = arg0 m c (ix3 0 T k) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (n : Fin 4) (k : Fin 1024) (j : Fin 1408) : arr1 m c (ix4 0 n k j) = arg1 m c (ix3 0 k ⟨n.val * 1408 + j.val, by omega⟩) := by
  have e : arr1 m c = truncf .bf16 (transpose S3x4x1024x1408 [0, 2, 1, 3] (shapeCast S3x1024x4x1408 (arg1 m c) shapeCasts_S3x1024x5632_S3x1024x4x1408) transposes_S3x1024x4x1408_S3x4x1024x1408_0_2_1_3) bitsLt_bf16_f32 := by
    unfold arr1 V
    after_reads_simp
    rfl
  rw [e]
  pointwise

theorem idx_val : ∀ t : Fin cfg0.N, win0_0.index t = ![t.val / 4, 0] ∧ win0_1.index t = ![0, t.val % 4, 0, 0] ∧ win0_2.index t = ![t.val / 4, t.val % 4] :=
  (by decide +kernel : ∀ t : Fin grid0.N, win0_0.index t = ![t.val / 4, 0] ∧ win0_1.index t = ![0, t.val % 4, 0, 0] ∧ win0_2.index t = ![t.val / 4, t.val % 4])

theorem lt_64 (t : Fin cfg0.N) : t.val < 64 := lt_of_lt_of_eq t.isLt (show cfg0.N = 64 from N_0)

/-- The row of the whole array that is row `r` of the block of point `t`, -/
def rowOf (t : Fin cfg0.N) (r : Fin 1024) : Fin 16384 := ⟨t.val / 4 * 1024 + r.val, by have := lt_64 t; omega⟩
/-- the point's block of columns, -/
def blkOf (t : Fin cfg0.N) : Fin 4 := ⟨t.val % 4, by omega⟩
/-- and the column that is column `j` of it. -/
def colOf (t : Fin cfg0.N) (j : Fin 1408) : Fin 5632 := ⟨t.val % 4 * 1408 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (k : Fin 1024) (j : Fin 1408) : ((cfg0.win 1).blk t).view.emb (ix4 0 0 k j) = ix4 0 (blkOf t) k j := by blk_ext [idx_val t, blkOf]
theorem emb2 (t : Fin cfg0.N) (r : Fin 1024) (j : Fin 1408) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (k : Fin 1024) (j : Fin 1408) : iblk m c 1 t (ix4 0 0 k j) = arr1 m c (ix4 0 (blkOf t) k j) :=
  congrArg (arr1 m c) (emb1 t k j)

theorem pay_apply (x0 : FVec Ideal S1024x1024 .bf16) (x1 : FVec Ideal S1x1x1024x1408 .bf16) (r : Fin 1024) (j : Fin 1408) :
    k0_pay1 (F := Ideal) x0 x1 (ix2 r j) = ∑ k : Fin 1024, x0 (ix2 r k) * x1 (ix4 0 0 k j) := by
  unfold k0_pay1
  pointwise

theorem hz2 : (![0, 0] : Fin 2 → Nat) = fun _ => 0 := funext fun a => by fin_cases a <;> rfl
theorem hzW : (![0, 0, 0, 0] : Fin 4 → Nat) = fun _ => 0 := funext fun a => by fin_cases a <;> rfl

theorem out_eq (x0 : FVec Ideal S1024x1024 .bf16) (x1 : FVec Ideal S1x1x1024x1408 .bf16) : out0_2 (F := Ideal) x0 x1 = k0_pay1 (F := Ideal) x0 x1 := by
  unfold out0_2
  rw [View.canon_unit_zero hz2, View.ld_unit_zero (S := S1024x1024) hz2, View.ld_unit_zero (S := S1x1x1024x1408) hzW]

theorem pay_blk (c : Dev nD) (t : Fin cfg0.N) (r : Fin 1024) (j : Fin 1408) :
    k0_pay1 (F := Ideal) (iblk m c 0 t) (iblk m c 1 t) (ix2 r j) = product (arg0 m c) (arg1 m c) (rowOf t r) (colOf t j) := by
  rw [pay_apply]
  refine Finset.sum_congr rfl fun k _ => ?_
  rw [blk0_apply, blk1_apply, arr0_apply, arr1_apply]
  rfl

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1408), y = ix2 r j := ⟨y 0, y 1, eq_ix2 y⟩
  rw [emb2]
  exact pay_blk m c t r j

end Cert.Up1Ideal.Prod

namespace Cert.Up1RefIdeal.Prod

open Idealize.ShloMosaic
open Cert.Up1RefIdeal Cert.Up1RefIdeal.Gen

theorem result (a : (⟨S1x16384x1024, .f32⟩ : BufTy).Contents (Elt Ideal)) (w : (⟨S3x1024x5632, .f32⟩ : BufTy).Contents (Elt Ideal)) :
    Read.val_main_v4 (F := Ideal) a w
      = fun y => Cert.Up1Ideal.Prod.product a w (y 0) (y 1) := by
  funext y
  obtain ⟨T, j, rfl⟩ : ∃ (T : Fin 16384) (j : Fin 5632), y = ix2 T j := ⟨y 0, y 1, eq_ix2 y⟩
  unfold Cert.Up1Ideal.Prod.product Read.val_main_v4 Read.val_main_v3 Read.val_main_v2 Read.val_main_v1 Read.val_main_v0
  pointwise

end Cert.Up1RefIdeal.Prod

namespace Cert.Up1.Claims

open Idealize.ShloMosaic Idealize.ShloMosaic.TcCoe Idealize.SL.Sem

theorem frame_kernel : Cert.quiescent_Up1 := fun m ρ _ => Cert.Up1.Gen.frame m ρ
theorem frame_ideal : Cert.quiescent_Up1Ideal := fun m ρ _ => Cert.Up1Ideal.Gen.frame m ρ
theorem frame_reference : Cert.quiescent_Up1RefIdeal := fun m ρ _ =>
  (θ_run Cert.Up1RefIdeal.defs _ _).mono (fun r h => ⟨fun c => (h c).2, sem_eq_zero_of_no_sems (by decide) r.2⟩)
    (Cert.Up1RefIdeal.Value.run (F := Ideal) m ρ)

theorem algebraic : Cert.algebraic_Up1Ideal_Up1RefIdeal := by
  intro m ρ m' ρ' _ hagree
  refine ⟨fun c => fun y => Cert.Up1Ideal.Prod.product (Cert.Up1Ideal.Prod.arg0 m c) (Cert.Up1Ideal.Prod.arg1 m c) (y 0) (y 1), ?_, ?_⟩
  · refine (θ_run Cert.Up1Ideal.defs _ _).mono (fun r h c => ?_) (Cert.Up1Ideal.Value.run_blocks (F := Ideal) m ρ)
    exact ⟨(h c).1.trans (Cert.Up1Ideal.Prod.final m c), (h c).2⟩
  · refine (θ_run Cert.Up1RefIdeal.defs _ _).mono (fun r h c => ?_) (Cert.Up1RefIdeal.Value.run (F := Ideal) m' ρ')
    obtain ⟨a0, a1⟩ := hagree c
    refine ⟨(h c).1.trans ?_, (h c).2⟩
    rw [a0, a1]
    exact Cert.Up1RefIdeal.Prod.result _ _

end Cert.Up1.Claims

end
-- ==== Proof.Prod.Up2.lean ====
module

public import proofs.«01_k».proof.Defs
public import proofs.«01_k».proof.Proof.Gen.Up2.Frame
public import proofs.«01_k».proof.Proof.Gen.Up2Ideal.Value
public import proofs.«01_k».proof.Proof.Gen.Up2RefIdeal.Run
public import proofs.«01_k».proof.Proof.Gen.Up2RefIdeal.Read
public import Idealize.ShloMosaic.Lib.Pipeline.ValueKit
public import Idealize.ShloMosaic.Lib.Pointwise
public import Idealize.ShloMosaic.Lib.StableHlo.RunRead
public import Idealize.ShloMosaic.Lib.Quiescent

/-! The up projection of layer 2, with the weight in an array of three: every entry of the result is the sum over the model's width of the input times the weight, whose columns
the kernel takes in four blocks. -/

@[expose] public section

set_option maxRecDepth 16384

noncomputable section

namespace Cert.Up2Ideal.Prod

open Cert.Up2Ideal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg1 (c : Dev nD) : (⟨S3x1024x5632, .f32⟩ : BufTy).Contents (Elt Ideal) := m ((c : Thread nD τ).loc main_arg1)

/-- The product at row `T` and column `j`. -/
def product (a : (⟨S1x16384x1024, .f32⟩ : BufTy).Contents (Elt Ideal)) (w : (⟨S3x1024x5632, .f32⟩ : BufTy).Contents (Elt Ideal)) (T : Fin 16384) (j : Fin 5632) : EReal :=
  ∑ k : Fin 1024, a (ix3 0 T k) * w (ix3 1 k j)

/-- The activations as the region finds them, -/
def arr0 (c : Dev nD) : FVec Ideal S16384x1024 .bf16 := V m c main_v1
/-- and the weight. -/
def arr1 (c : Dev nD) : FVec Ideal S3x4x1024x1408 .bf16 := V m c main_v4

theorem arr0_apply (c : Dev nD) (T : Fin 16384) (k : Fin 1024) : arr0 m c (ix2 T k) = arg0 m c (ix3 0 T k) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (n : Fin 4) (k : Fin 1024) (j : Fin 1408) : arr1 m c (ix4 1 n k j) = arg1 m c (ix3 1 k ⟨n.val * 1408 + j.val, by omega⟩) := by
  have e : arr1 m c = truncf .bf16 (transpose S3x4x1024x1408 [0, 2, 1, 3] (shapeCast S3x1024x4x1408 (arg1 m c) shapeCasts_S3x1024x5632_S3x1024x4x1408) transposes_S3x1024x4x1408_S3x4x1024x1408_0_2_1_3) bitsLt_bf16_f32 := by
    unfold arr1 V
    after_reads_simp
    rfl
  rw [e]
  pointwise

theorem idx_val : ∀ t : Fin cfg0.N, win0_0.index t = ![t.val / 4, 0] ∧ win0_1.index t = ![1, t.val % 4, 0, 0] ∧ win0_2.index t = ![t.val / 4, t.val % 4] :=
  (by decide +kernel : ∀ t : Fin grid0.N, win0_0.index t = ![t.val / 4, 0] ∧ win0_1.index t = ![1, t.val % 4, 0, 0] ∧ win0_2.index t = ![t.val / 4, t.val % 4])

theorem lt_64 (t : Fin cfg0.N) : t.val < 64 := lt_of_lt_of_eq t.isLt (show cfg0.N = 64 from N_0)

/-- The row of the whole array that is row `r` of the block of point `t`, -/
def rowOf (t : Fin cfg0.N) (r : Fin 1024) : Fin 16384 := ⟨t.val / 4 * 1024 + r.val, by have := lt_64 t; omega⟩
/-- the point's block of columns, -/
def blkOf (t : Fin cfg0.N) : Fin 4 := ⟨t.val % 4, by omega⟩
/-- and the column that is column `j` of it. -/
def colOf (t : Fin cfg0.N) (j : Fin 1408) : Fin 5632 := ⟨t.val % 4 * 1408 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (k : Fin 1024) (j : Fin 1408) : ((cfg0.win 1).blk t).view.emb (ix4 0 0 k j) = ix4 1 (blkOf t) k j := by blk_ext [idx_val t, blkOf]
theorem emb2 (t : Fin cfg0.N) (r : Fin 1024) (j : Fin 1408) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (k : Fin 1024) (j : Fin 1408) : iblk m c 1 t (ix4 0 0 k j) = arr1 m c (ix4 1 (blkOf t) k j) :=
  congrArg (arr1 m c) (emb1 t k j)

theorem pay_apply (x0 : FVec Ideal S1024x1024 .bf16) (x1 : FVec Ideal S1x1x1024x1408 .bf16) (r : Fin 1024) (j : Fin 1408) :
    k0_pay1 (F := Ideal) x0 x1 (ix2 r j) = ∑ k : Fin 1024, x0 (ix2 r k) * x1 (ix4 0 0 k j) := by
  unfold k0_pay1
  pointwise

theorem hz2 : (![0, 0] : Fin 2 → Nat) = fun _ => 0 := funext fun a => by fin_cases a <;> rfl
theorem hzW : (![0, 0, 0, 0] : Fin 4 → Nat) = fun _ => 0 := funext fun a => by fin_cases a <;> rfl

theorem out_eq (x0 : FVec Ideal S1024x1024 .bf16) (x1 : FVec Ideal S1x1x1024x1408 .bf16) : out0_2 (F := Ideal) x0 x1 = k0_pay1 (F := Ideal) x0 x1 := by
  unfold out0_2
  rw [View.canon_unit_zero hz2, View.ld_unit_zero (S := S1024x1024) hz2, View.ld_unit_zero (S := S1x1x1024x1408) hzW]

theorem pay_blk (c : Dev nD) (t : Fin cfg0.N) (r : Fin 1024) (j : Fin 1408) :
    k0_pay1 (F := Ideal) (iblk m c 0 t) (iblk m c 1 t) (ix2 r j) = product (arg0 m c) (arg1 m c) (rowOf t r) (colOf t j) := by
  rw [pay_apply]
  refine Finset.sum_congr rfl fun k _ => ?_
  rw [blk0_apply, blk1_apply, arr0_apply, arr1_apply]
  rfl

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1408), y = ix2 r j := ⟨y 0, y 1, eq_ix2 y⟩
  rw [emb2]
  exact pay_blk m c t r j

end Cert.Up2Ideal.Prod

namespace Cert.Up2RefIdeal.Prod

open Idealize.ShloMosaic
open Cert.Up2RefIdeal Cert.Up2RefIdeal.Gen

theorem result (a : (⟨S1x16384x1024, .f32⟩ : BufTy).Contents (Elt Ideal)) (w : (⟨S3x1024x5632, .f32⟩ : BufTy).Contents (Elt Ideal)) :
    Read.val_main_v4 (F := Ideal) a w
      = fun y => Cert.Up2Ideal.Prod.product a w (y 0) (y 1) := by
  funext y
  obtain ⟨T, j, rfl⟩ : ∃ (T : Fin 16384) (j : Fin 5632), y = ix2 T j := ⟨y 0, y 1, eq_ix2 y⟩
  unfold Cert.Up2Ideal.Prod.product Read.val_main_v4 Read.val_main_v3 Read.val_main_v2 Read.val_main_v1 Read.val_main_v0
  pointwise

end Cert.Up2RefIdeal.Prod

namespace Cert.Up2.Claims

open Idealize.ShloMosaic Idealize.ShloMosaic.TcCoe Idealize.SL.Sem

theorem frame_kernel : Cert.quiescent_Up2 := fun m ρ _ => Cert.Up2.Gen.frame m ρ
theorem frame_ideal : Cert.quiescent_Up2Ideal := fun m ρ _ => Cert.Up2Ideal.Gen.frame m ρ
theorem frame_reference : Cert.quiescent_Up2RefIdeal := fun m ρ _ =>
  (θ_run Cert.Up2RefIdeal.defs _ _).mono (fun r h => ⟨fun c => (h c).2, sem_eq_zero_of_no_sems (by decide) r.2⟩)
    (Cert.Up2RefIdeal.Value.run (F := Ideal) m ρ)

theorem algebraic : Cert.algebraic_Up2Ideal_Up2RefIdeal := by
  intro m ρ m' ρ' _ hagree
  refine ⟨fun c => fun y => Cert.Up2Ideal.Prod.product (Cert.Up2Ideal.Prod.arg0 m c) (Cert.Up2Ideal.Prod.arg1 m c) (y 0) (y 1), ?_, ?_⟩
  · refine (θ_run Cert.Up2Ideal.defs _ _).mono (fun r h c => ?_) (Cert.Up2Ideal.Value.run_blocks (F := Ideal) m ρ)
    exact ⟨(h c).1.trans (Cert.Up2Ideal.Prod.final m c), (h c).2⟩
  · refine (θ_run Cert.Up2RefIdeal.defs _ _).mono (fun r h c => ?_) (Cert.Up2RefIdeal.Value.run (F := Ideal) m' ρ')
    obtain ⟨a0, a1⟩ := hagree c
    refine ⟨(h c).1.trans ?_, (h c).2⟩
    rw [a0, a1]
    exact Cert.Up2RefIdeal.Prod.result _ _

end Cert.Up2.Claims

end
-- ==== Proof.Prod.Up3.lean ====
module

public import proofs.«01_k».proof.Defs
public import proofs.«01_k».proof.Proof.Gen.Up3.Frame
public import proofs.«01_k».proof.Proof.Gen.Up3Ideal.Value
public import proofs.«01_k».proof.Proof.Gen.Up3RefIdeal.Run
public import proofs.«01_k».proof.Proof.Gen.Up3RefIdeal.Read
public import Idealize.ShloMosaic.Lib.Pipeline.ValueKit
public import Idealize.ShloMosaic.Lib.Pointwise
public import Idealize.ShloMosaic.Lib.StableHlo.RunRead
public import Idealize.ShloMosaic.Lib.Quiescent

/-! The up projection of layer 3, with the weight in an array of three: every entry of the result is the sum over the model's width of the input times the weight, whose columns
the kernel takes in four blocks. -/

@[expose] public section

set_option maxRecDepth 16384

noncomputable section

namespace Cert.Up3Ideal.Prod

open Cert.Up3Ideal.Gen
open Idealize.ShloMosaic Idealize.ShloMosaic.TcCoe Idealize.ShloMosaic.StableHlo Idealize.SL.Sem

variable (m : (ℓ : Loc nD τ sig) → Buf (Elt Ideal) ℓ)

abbrev arg0 (c : Dev nD) : (⟨S1x16384x1024, .f32⟩ : BufTy).Contents (Elt Ideal) := m ((c : Thread nD τ).loc main_arg0)
abbrev arg1 (c : Dev nD) : (⟨S3x1024x5632, .f32⟩ : BufTy).Contents (Elt Ideal) := m ((c : Thread nD τ).loc main_arg1)

/-- The product at row `T` and column `j`. -/
def product (a : (⟨S1x16384x1024, .f32⟩ : BufTy).Contents (Elt Ideal)) (w : (⟨S3x1024x5632, .f32⟩ : BufTy).Contents (Elt Ideal)) (T : Fin 16384) (j : Fin 5632) : EReal :=
  ∑ k : Fin 1024, a (ix3 0 T k) * w (ix3 2 k j)

/-- The activations as the region finds them, -/
def arr0 (c : Dev nD) : FVec Ideal S16384x1024 .bf16 := V m c main_v1
/-- and the weight. -/
def arr1 (c : Dev nD) : FVec Ideal S3x4x1024x1408 .bf16 := V m c main_v4

theorem arr0_apply (c : Dev nD) (T : Fin 16384) (k : Fin 1024) : arr0 m c (ix2 T k) = arg0 m c (ix3 0 T k) := by
  have e : arr0 m c = truncf .bf16 (shapeCast S16384x1024 (arg0 m c) shapeCasts_S1x16384x1024_S16384x1024) bitsLt_bf16_f32 := by
    unfold arr0 V
    after_reads_simp
    rfl
  rw [e]
  pointwise

theorem arr1_apply (c : Dev nD) (n : Fin 4) (k : Fin 1024) (j : Fin 1408) : arr1 m c (ix4 2 n k j) = arg1 m c (ix3 2 k ⟨n.val * 1408 + j.val, by omega⟩) := by
  have e : arr1 m c = truncf .bf16 (transpose S3x4x1024x1408 [0, 2, 1, 3] (shapeCast S3x1024x4x1408 (arg1 m c) shapeCasts_S3x1024x5632_S3x1024x4x1408) transposes_S3x1024x4x1408_S3x4x1024x1408_0_2_1_3) bitsLt_bf16_f32 := by
    unfold arr1 V
    after_reads_simp
    rfl
  rw [e]
  pointwise

theorem idx_val : ∀ t : Fin cfg0.N, win0_0.index t = ![t.val / 4, 0] ∧ win0_1.index t = ![2, t.val % 4, 0, 0] ∧ win0_2.index t = ![t.val / 4, t.val % 4] :=
  (by decide +kernel : ∀ t : Fin grid0.N, win0_0.index t = ![t.val / 4, 0] ∧ win0_1.index t = ![2, t.val % 4, 0, 0] ∧ win0_2.index t = ![t.val / 4, t.val % 4])

theorem lt_64 (t : Fin cfg0.N) : t.val < 64 := lt_of_lt_of_eq t.isLt (show cfg0.N = 64 from N_0)

/-- The row of the whole array that is row `r` of the block of point `t`, -/
def rowOf (t : Fin cfg0.N) (r : Fin 1024) : Fin 16384 := ⟨t.val / 4 * 1024 + r.val, by have := lt_64 t; omega⟩
/-- the point's block of columns, -/
def blkOf (t : Fin cfg0.N) : Fin 4 := ⟨t.val % 4, by omega⟩
/-- and the column that is column `j` of it. -/
def colOf (t : Fin cfg0.N) (j : Fin 1408) : Fin 5632 := ⟨t.val % 4 * 1408 + j.val, by omega⟩

theorem emb0 (t : Fin cfg0.N) (r : Fin 1024) (k : Fin 1024) : ((cfg0.win 0).blk t).view.emb (ix2 r k) = ix2 (rowOf t r) k := by blk_ext [idx_val t, rowOf]
theorem emb1 (t : Fin cfg0.N) (k : Fin 1024) (j : Fin 1408) : ((cfg0.win 1).blk t).view.emb (ix4 0 0 k j) = ix4 2 (blkOf t) k j := by blk_ext [idx_val t, blkOf]
theorem emb2 (t : Fin cfg0.N) (r : Fin 1024) (j : Fin 1408) : (win0_2.blk t).view.emb (ix2 r j) = ix2 (rowOf t r) (colOf t j) := by blk_ext [idx_val t, rowOf, colOf]

theorem blk0_apply (c : Dev nD) (t : Fin cfg0.N) (r : Fin 1024) (k : Fin 1024) : iblk m c 0 t (ix2 r k) = arr0 m c (ix2 (rowOf t r) k) :=
  congrArg (arr0 m c) (emb0 t r k)
theorem blk1_apply (c : Dev nD) (t : Fin cfg0.N) (k : Fin 1024) (j : Fin 1408) : iblk m c 1 t (ix4 0 0 k j) = arr1 m c (ix4 2 (blkOf t) k j) :=
  congrArg (arr1 m c) (emb1 t k j)

theorem pay_apply (x0 : FVec Ideal S1024x1024 .bf16) (x1 : FVec Ideal S1x1x1024x1408 .bf16) (r : Fin 1024) (j : Fin 1408) :
    k0_pay1 (F := Ideal) x0 x1 (ix2 r j) = ∑ k : Fin 1024, x0 (ix2 r k) * x1 (ix4 0 0 k j) := by
  unfold k0_pay1
  pointwise

theorem hz2 : (![0, 0] : Fin 2 → Nat) = fun _ => 0 := funext fun a => by fin_cases a <;> rfl
theorem hzW : (![0, 0, 0, 0] : Fin 4 → Nat) = fun _ => 0 := funext fun a => by fin_cases a <;> rfl

theorem out_eq (x0 : FVec Ideal S1024x1024 .bf16) (x1 : FVec Ideal S1x1x1024x1408 .bf16) : out0_2 (F := Ideal) x0 x1 = k0_pay1 (F := Ideal) x0 x1 := by
  unfold out0_2
  rw [View.canon_unit_zero hz2, View.ld_unit_zero (S := S1024x1024) hz2, View.ld_unit_zero (S := S1x1x1024x1408) hzW]

theorem pay_blk (c : Dev nD) (t : Fin cfg0.N) (r : Fin 1024) (j : Fin 1408) :
    k0_pay1 (F := Ideal) (iblk m c 0 t) (iblk m c 1 t) (ix2 r j) = product (arg0 m c) (arg1 m c) (rowOf t r) (colOf t j) := by
  rw [pay_apply]
  refine Finset.sum_congr rfl fun k _ => ?_
  rw [blk0_apply, blk1_apply, arr0_apply, arr1_apply]
  rfl

theorem final (c : Dev nD) : (dats m 0 c).arrAt 2 cfg0.N = fun y => product (arg0 m c) (arg1 m c) (y 0) (y 1) := by
  refine (dats m 0 c).arrAt_eq_of_covers 2 _ (by decide +kernel) fun t hf y => ?_
  blk_simp
  rw [after0_2, out_eq]
  obtain ⟨r, j, rfl⟩ : ∃ (r : Fin 1024) (j : Fin 1408), y = ix2 r j := ⟨y 0, y 1, eq_ix2 y⟩
  rw [emb2]
  exact pay_blk m c t r j

end Cert.Up3Ideal.Prod

namespace Cert.Up3RefIdeal.Prod

open Idealize.ShloMosaic
open Cert.Up3RefIdeal Cert.Up3RefIdeal.Gen

theorem result (a : (⟨S1x16384x1024, .f32⟩ : BufTy).Contents (Elt Ideal)) (w : (⟨S3x1024x5632, .f32⟩ : BufTy).Contents (Elt Ideal)) :
    Read.val_main_v4 (F := Ideal) a w
      = fun y => Cert.Up3Ideal.Prod.product a w (y 0) (y 1) := by
  funext y
  obtain ⟨T, j, rfl⟩ : ∃ (T : Fin 16384) (j : Fin 5632), y = ix2 T j := ⟨y 0, y 1, eq_ix2 y⟩
  unfold Cert.Up3Ideal.Prod.product Read.val_main_v4 Read.val_main_v3 Read.val_main_v2 Read.val_main_v1 Read.val_main_v0
  pointwise

end Cert.Up3RefIdeal.Prod

namespace Cert.Up3.Claims

open Idealize.ShloMosaic Idealize.ShloMosaic.TcCoe Idealize.SL.Sem

theorem frame_kernel : Cert.quiescent_Up3 := fun m ρ _ => Cert.Up3.Gen.frame m ρ
theorem frame_ideal : Cert.quiescent_Up3Ideal := fun m ρ _ => Cert.Up3Ideal.Gen.frame m ρ
theorem frame_reference : Cert.quiescent_Up3RefIdeal := fun m ρ _ =>
  (θ_run Cert.Up3RefIdeal.defs _ _).mono (fun r h => ⟨fun c => (h c).2, sem_eq_zero_of_no_sems (by decide) r.2⟩)
    (Cert.Up3RefIdeal.Value.run (F := Ideal) m ρ)

theorem algebraic : Cert.algebraic_Up3Ideal_Up3RefIdeal := by
  intro m ρ m' ρ' _ hagree
  refine ⟨fun c => fun y => Cert.Up3Ideal.Prod.product (Cert.Up3Ideal.Prod.arg0 m c) (Cert.Up3Ideal.Prod.arg1 m c) (y 0) (y 1), ?_, ?_⟩
  · refine (θ_run Cert.Up3Ideal.defs _ _).mono (fun r h c => ?_) (Cert.Up3Ideal.Value.run_blocks (F := Ideal) m ρ)
    exact ⟨(h c).1.trans (Cert.Up3Ideal.Prod.final m c), (h c).2⟩
  · refine (θ_run Cert.Up3RefIdeal.defs _ _).mono (fun r h c => ?_) (Cert.Up3RefIdeal.Value.run (F := Ideal) m' ρ')
    obtain ⟨a0, a1⟩ := hagree c
    refine ⟨(h c).1.trans ?_, (h c).2⟩
    rw [a0, a1]
    exact Cert.Up3RefIdeal.Prod.result _ _

end Cert.Up3.Claims

end
-- ==== Proof.Prod.UpDx1.Run.lean ====
module

public import proofs.«01_k».proof.Proof.Gen.UpDx1Ideal.Frame.Runs
public import proofs.«01_k».proof.Proof.Gen.UpDx1Ideal.Skeleton
public import Idealize.ShloMosaic.Lib.Pipeline.Value
public import Idealize.ShloMosaic.Lib.Pipeline.ValueKit
public import Idealize.ShloMosaic.Lib.ValueIdx
public import Idealize.ShloMosaic.Lib.Pointwise

/-! The input gradient of the up projection of layer 1: one run of its body, at the first point of the grid, where four copies bring
the weight into the scratch, and at any later point, where the scratch is as the point before left it. -/

@[expose] public section

set_option maxRecDepth 16384

noncomputable section

namespace Cert.UpDx1Ideal.Prod

open Cert.UpDx1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four cells the copies signal, at zero. -/
abbrev cells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)

set_option maxHeartbeats 1000000 in
/-- The body at the first point, with the pieces it leaves in the result and in the scratch: each copy is lent its own band of columns of the scratch. -/
noncomputable def runFirst (c : Dev nD) (i : grid0.Coords) (arg1 : Memref sig .tc .vmem S512x5632 .bf16) (harg1 : arg1.IsWhole) (arg3 : Memref sig .tc .vmem S512x1024 .f32) (harg3 : arg3.IsWhole)
    (arg4 : Memref sig .tc .vmem S1024x5632 .bf16) (harg4 : arg4.IsWhole) (hc : cond0_0 i) (x0 : Vec F S512x5632 .bf16) (fh : HbBuf0 (F := F) c hbM0_0) :
    Σ' (L1 : List (View.Piece (Elt F) S512x1024 .f32)), { LS : List (View.Piece (Elt F) S1024x5632 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS) ∗ cells c ∗ hbPt0 c hbM0_0 fh ∗ (∃ W', owes (c : Thread nD τ) 0 W')) -∗ K ⟨⟩))
          ⊢ wp frame (wpE (defs₀ (F := F)) Variants.none c none) Set.univ (cc0_ffn_up_dx_1 i arg1 harg1 (Memref.whole main_v4) (Memref.isWhole_whole _) arg3 harg3 arg4 harg4 cc0_scratch1) K } := by
  refine ⟨?_, ?_, fun W K => ?run⟩
  case run =>
    simp only [cc0_ffn_up_dx_1_eq_skeleton]; unfold cc0_ffn_up_dx_1_skel
    simp only [k0_part1_eq_skeleton]
    unfold owns cells
    iintro ⟨⟨%f0, %hf0, H0⟩, ⟨%d1, %f1, -, H1⟩, ⟨%ds, %fs, -, HS⟩, ⟨Hq0, Hq1, Hq2, Hq3⟩, Hh, HW, Hk⟩
    obtain rfl := harg1.eq_unread hf0
    set_option sl_exec.dmaWindow true in set_option sl_exec.dmaWindowLent true in set_option sl_exec.dmaWindowSet true in sl_exec (disch := first | sl_exact hc)
    sl_step
    iapply Hk
    isplitl [H0]
    · iexists _; isplitr; · ipureintro; exact harg1.read_unread _
      iexact H0
    isplitl [H1]; · iexists _; iexact H1
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

set_option maxHeartbeats 1000000 in
/-- The body at a later point: the scratch is read and left alone. -/
noncomputable def runLater (c : Dev nD) (i : grid0.Coords) (arg1 : Memref sig .tc .vmem S512x5632 .bf16) (harg1 : arg1.IsWhole) (arg3 : Memref sig .tc .vmem S512x1024 .f32) (harg3 : arg3.IsWhole)
    (arg4 : Memref sig .tc .vmem S1024x5632 .bf16) (harg4 : arg4.IsWhole) (hc : ¬cond0_0 i) (x0 : Vec F S512x5632 .bf16) (xs : Vec F S1024x5632 .bf16) (fh : HbBuf0 (F := F) c hbM0_0) :
    Σ' (L1 : List (View.Piece (Elt F) S512x1024 .f32)), { LS : List (View.Piece (Elt F) S1024x5632 .bf16) //
      ∀ (W : Waits sig Unit) (K : PUnit → sProp 𝕄),
        iprop(owns (c : Thread nD τ) arg1 fullShare x0 ∗ (∃ d, owns (c : Thread nD τ) arg3 fullShare d) ∗ owns (c : Thread nD τ) arg4 fullShare xs ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ owns (c : Thread nD τ) arg4 fullShare xs ∗ cells c ∗ hbPt0 c hbM0_0 fh ∗ (∃ W', owes (c : Thread nD τ) 0 W')) -∗ K ⟨⟩))
          ⊢ wp frame (wpE (defs₀ (F := F)) Variants.none c none) Set.univ (cc0_ffn_up_dx_1 i arg1 harg1 (Memref.whole main_v4) (Memref.isWhole_whole _) arg3 harg3 arg4 harg4 cc0_scratch1) K } := by
  refine ⟨?_, [], fun W K => ?run⟩
  case run =>
    simp only [cc0_ffn_up_dx_1_eq_skeleton]; unfold cc0_ffn_up_dx_1_skel
    unfold owns cells
    iintro ⟨⟨%f0, %hf0, H0⟩, ⟨%d1, %f1, -, H1⟩, ⟨%fs, %hfs, HS⟩, ⟨Hq0, Hq1, Hq2, Hq3⟩, Hh, HW, Hk⟩
    obtain rfl := harg1.eq_unread hf0; obtain rfl := harg4.eq_unread hfs
    sl_exec (disch := first | sl_exact hc)
    sl_step
    iapply Hk
    isplitl [H0]
    · iexists _; isplitr; · ipureintro; exact harg1.read_unread _
      iexact H0
    isplitl [H1]; · iexists _; iexact H1
    isplitl [HS]
    · iexists _; isplitr; · ipureintro; exact harg4.read_unread _
      iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

theorem hz2 : (![0, 0] : Fin 2 → Nat) = fun _ => 0 := funext fun a => by fin_cases a <;> rfl

section
variable (c : Dev nD) (i : grid0.Coords) (a1 : Memref sig .tc .vmem S512x5632 .bf16) (h1 : a1.IsWhole) (a3 : Memref sig .tc .vmem S512x1024 .f32) (h3 : a3.IsWhole)
    (a4 : Memref sig .tc .vmem S1024x5632 .bf16) (h4 : a4.IsWhole) (x0 : Vec F S512x5632 .bf16) (xs : Vec F S1024x5632 .bf16) (fh : HbBuf0 (F := F) c hbM0_0)

theorem out_later (hc : ¬cond0_0 i) (f) :
    a3.view.read (Elt F) (a3.view.writes (Elt F) f (runLater c i a1 h1 a3 h3 a4 h4 hc x0 xs fh).1) = k0_pay1 x0 xs := by
  rw [View.read_writes_eq_canon _ _ _ (View.cover_of_tiledL (runLater c i a1 h1 a3 h3 a4 h4 hc x0 xs fh).1 S512x1024.size (by sl_kernel_rfl))]
  unfold runLater
  dsimp only
  rw [View.canon_unit_zero hz2]
  simp only [View.readAt_eq_ld, h1.read_unread, h4.read_unread, View.ld_unit_zero (S := S512x5632) hz2, View.ld_unit_zero (S := S1024x5632) hz2]

theorem out_first (hc : cond0_0 i) (f) :
    a3.view.read (Elt F) (a3.view.writes (Elt F) f (runFirst c i a1 h1 a3 h3 a4 h4 hc x0 fh).1) = k0_pay1 x0 (View.canon (runFirst c i a1 h1 a3 h3 a4 h4 hc x0 fh).2.1) := by
  rw [View.read_writes_eq_canon _ _ _ (View.cover_of_tiledL (runFirst c i a1 h1 a3 h3 a4 h4 hc x0 fh).1 S512x1024.size (by sl_kernel_rfl))]
  unfold runFirst
  dsimp only
  rw [View.canon_unit_zero hz2]
  sl_unfold_words
  simp only [View.readAt_eq_ld, h1.read_unread, View.ld_unit_zero (S := S512x5632) hz2]
  rw [View.readCov_eq_canon']
  exact congrArg (k0_pay1 x0) (View.ld_unit_zero (S := S1024x5632) hz2 _ _)

/-- The weight as the scratch holds it: column k·1408 + j is column j of group k of the buffer's part 0. -/
def staged (fh : HbBuf0 (F := F) c hbM0_0) : Vec F S1024x5632 .bf16 := fun y =>
  fh (ix4 ⟨0, by decide⟩ ⟨(y 1).val / 1408, by have := (y 1).isLt; change (y 1).val < 5632 at this; omega⟩ (y 0) ⟨(y 1).val % 1408, Nat.mod_lt _ (by decide)⟩)

/-- A copy's payload: group k of the buffer. -/
theorem band (k : ℕ) {off : Fin 4 → ℕ} {off' : Fin 2 → ℕ} (inb : ∀ a, off a + (![1, 1, 1024, 1408] : Fin 4 → ℕ) a ≤ S3x4x1024x1408.size a) (inb' : ∀ a, off' a + (![1024, 1408] : Fin 2 → ℕ) a ≤ S1024x5632.size a)
    (h : S1024x1408.numel = (Rect.unit (s := S3x4x1024x1408) off ![1, 1, 1024, 1408] inb).shape.numel) (ho : off = ![0, k, 0, 0] := by rfl) (ho' : off' = ![0, k * 1408] := by rfl) (x : S1024x1408.Idx) :
    ReadAs.same.apply (View.read (Elt F) (((View.whole main_v4).slice (Rect.unit (s := S3x4x1024x1408) off ![1, 1, 1024, 1408] inb)).reshape S1024x1408 h) fh) x
      = staged c fh ((Rect.unit (s := S1024x5632) off' ![1024, 1408] inb').emb x) := by
  subst ho ho'
  have hr : (x 0).val < 1024 := (x 0).isLt
  have hj : (x 1).val < 1408 := (x 1).isLt
  have hk : k + 1 ≤ 4 := inb 1
  have e : Shape.reshapeEquiv h x = (ix4 (⟨0, Nat.one_pos⟩ : Fin 1) (⟨0, Nat.one_pos⟩ : Fin 1) (⟨(x 0).val, hr⟩ : Fin 1024) (⟨(x 1).val, hj⟩ : Fin 1408) : (Rect.unit (s := S3x4x1024x1408) ![0, k, 0, 0] ![1, 1, 1024, 1408] inb).shape.Idx) := by
    apply Shape.reshapeEquiv_eq_of_rowMajor
    refine (Shape.rowMajor_val_four _).trans (Eq.trans ?_ (Shape.rowMajor_val_two _).symm)
    show ((0 * 1 + 0) * 1024 + (x 0).val) * 1408 + (x 1).val = (x 0).val * 1408 + (x 1).val
    omega
  show fh ((Rect.unit (s := S3x4x1024x1408) ![0, k, 0, 0] ![1, 1, 1024, 1408] inb).emb (Shape.reshapeEquiv h x)) = _
  rw [e]
  refine congrArg fh (funext fun a => Fin.ext ?_)
  match a with
  | 0 => rfl
  | 1 => show k + 1 * 0 = (k * 1408 + 1 * (x 1).val) / 1408; omega
  | 2 => show 0 + 1 * (x 0).val = 0 + 1 * (x 0).val; rfl
  | 3 => show 0 + 1 * (x 1).val = (k * 1408 + 1 * (x 1).val) % 1408; omega

theorem first_scratch (hc : cond0_0 i) : ∀ p ∈ (runFirst c i a1 h1 a3 h3 a4 h4 hc x0 fh).2.1, ∀ x : p.1.shape.Idx, p.2 x = staged c fh (p.1.emb x) := by
  unfold runFirst
  dsimp only
  sl_unfold_words
  simp only [List.forall_mem_cons, List.not_mem_nil, false_imp_iff, implies_true, and_true]
  exact ⟨band c fh 3 _ _ _, band c fh 2 _ _ _, band c fh 1 _ _ _, band c fh 0 _ _ _⟩

theorem first_cover (hc : cond0_0 i) : ∀ y : S1024x5632.Idx, ∃ p ∈ (runFirst c i a1 h1 a3 h3 a4 h4 hc x0 fh).2.1, y ∈ p.1.set := by
  unfold runFirst
  dsimp only
  intro y
  simp only [List.exists_mem_cons_iff, List.not_mem_nil, false_and, exists_false, or_false, Rect.mem_set_unit, Fin.forall_fin_two]
  have h0 : (y 0).val < 1024 := (y 0).isLt
  have h1 : (y 1).val < 5632 := (y 1).isLt
  simp
  omega

theorem first_canon (hc : cond0_0 i) : View.canon (runFirst c i a1 h1 a3 h3 a4 h4 hc x0 fh).2.1 = staged c fh :=
  funext fun y => View.canon_apply_of_pieces (Val := Elt F) (staged c fh) _ (first_scratch c i a1 h1 a3 h3 a4 h4 x0 fh hc) y (first_cover c i a1 h1 a3 h3 a4 h4 x0 fh hc y)

end

end Cert.UpDx1Ideal.Prod

end
-- ==== Proof.Prod.UpDx1.Launch.lean ====
module

public import proofs.«01_k».proof.Proof.Prod.UpDx1.Run
public import Idealize.ShloMosaic.Lib.Claim
public import Idealize.ShloMosaic.Lib.Pipeline.Value
public import Idealize.ShloMosaic.Lib.Pipeline.ValueKit
public import Idealize.ShloMosaic.Lib.ValueIdx
public import Idealize.ShloMosaic.Lib.Pointwise

/-! The input gradient of the up projection of layer 1: the call of the kernel, what each of its points leaves, and the frame. -/

@[expose] public section

set_option maxRecDepth 16384

noncomputable section

namespace Cert.UpDx1Ideal.Prod

open Cert.UpDx1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the scratch holds from the first point on. -/
def weight (c : Dev nD) : Vec F S1024x5632 .bf16 := staged c (V m c main_v4)

/-- What holds between two points: before the first one, what the call begins with; afterwards the scratch holds the
weight. -/
def between (c : Dev nD) : ℕ → sProp 𝕄
  | 0 => Pipeline.ΦD osem0 spec0 H0 (V m) c
  | _ + 1 => iprop(owns (c : Thread nD τ) scM0_0 fullShare (weight m c) ∗ (∃ r, prngReg c r) ∗ cells c ∗ hbPt0 c hbM0_0 (V m c main_v4))

theorem between_pos (c : Dev nD) (n : ℕ) (h : n ≠ 0) :
    between m c n = iprop(owns (c : Thread nD τ) scM0_0 fullShare (weight m c) ∗ (∃ r, prngReg c r) ∗ cells c ∗ hbPt0 c hbM0_0 (V m c main_v4)) := by
  cases n with
  | zero => exact absurd rfl h
  | succ n => rfl

/-- What a point leaves in the block of the result: its rows of the cotangent times the weight. -/
def block (c : Dev nD) (t : Fin cfg0.N) : Vec F S512x1024 .f32 := k0_pay1 (iblk m c 0 t) (weight m c)

/-- The data of the call: the block it reads, the block it leaves, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => block m c t
  Φ t := between m c t.val
  q _ := fullShare
  owed _ := 0

theorem A_eq (c : Dev nD) (w : Fin cfg0.W) : (dats m 0 c).A w = V m c (Pipeline.arrRef spec0 w) := by
  dsimp only [dats]

theorem after_read (c : Dev nD) (t : Fin cfg0.N) : (dats m 0 c).after 0 t = iblk m c 0 t := by dsimp only [dats]
theorem after_result (c : Dev nD) (t : Fin cfg0.N) : (dats m 0 c).after 1 t = block m c t := by dsimp only [dats]

theorem before_read (c : Dev nD) (t : Fin cfg0.N) (d) : (dats m 0 c).before 0 t d = iblk m c 0 t :=
  before0_0_of m (dats m 0 c) (A_eq m c 0) (after_read m c) t d

/-- What a point begins with. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What it ends with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- Every point keeps to that: the first fills the scratch, the others find it filled. -/
theorem point (c : Dev nD) (t : Fin cfg0.N) :
    pre m c t ⊢ wp frame (wpE (defs₀ (F := F)) Variants.none c none) Set.univ (bodyAt0 t) (fun _ => post m c t) := by
  unfold pre post bodyAt0
  simp only [before_read]
  rw [show (dats m 0 c).Φ t.succ = between m c (t.val + 1) from rfl, between_pos m c _ (Nat.succ_ne_zero _),
    show (dats m 0 c).Φ t.castSucc = between m c t.val from rfl, after_read, after_result]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases hz : t.val = 0
  · have hc : cond0_0 (grid0.coords t) := (hcond0_0 t).mpr (by omega)
    rw [show between m c t.val = Pipeline.ΦD osem0 spec0 H0 (V m) c by rw [hz]; rfl, PhiD0_eq]
    iintro ⟨⟨HS, Hg, Hq, Hh⟩, ⟨%W, -, HW⟩, ⟨%d0, H0⟩, ⟨%d1, H1⟩⟩
    iapply ((runFirst c (grid0.coords t) (ms0_0 t) (hs0_0 t) (ms0_1 t) (hs0_1 t) scM0_0 (Memref.isWhole_whole _) hc (iblk m c 0 t) (V m c main_v4)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, ⟨%es, HS⟩, Hq, Hh, ⟨%W', HW'⟩⟩
    isplitl [HS Hg Hq Hh]
    · isplitl [HS]
      · unfold owns; iexists _; isplitr
        swap; · iexact HS
        ipureintro
        exact (View.read_writes_eq_canon _ _ _ (first_cover c _ _ _ _ _ _ _ _ _ hc)).trans (first_canon c _ _ _ _ _ _ _ _ _ hc)
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact (out_first c _ _ _ _ _ _ _ _ _ hc _).trans (congrArg (k0_pay1 (iblk m c 0 t)) (first_canon c _ _ _ _ _ _ _ _ _ hc))
  · have hc : ¬cond0_0 (grid0.coords t) := fun h => by have := (hcond0_0 t).mp h; omega
    rw [between_pos m c _ hz]
    iintro ⟨⟨HS, Hg, Hq, Hh⟩, ⟨%W, -, HW⟩, ⟨%d0, H0⟩, ⟨%d1, H1⟩⟩
    iapply ((runLater c (grid0.coords t) (ms0_0 t) (hs0_0 t) (ms0_1 t) (hs0_1 t) scM0_0 (Memref.isWhole_whole _) hc (iblk m c 0 t) (weight m c) (V m c main_v4)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact out_later c _ _ _ _ _ _ _ _ _ _ hc _

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem enter (c : Dev nD) : Pipeline.ΦD osem0 spec0 H0 (V m) c ⊢ (dats m 0 c).Φ 0 := by
  rw [show (dats m 0 c).Φ 0 = Pipeline.ΦD osem0 spec0 H0 (V m) c from rfl]

theorem leave (c : Dev nD) : (dats m 0 c).Φ (Fin.last cfg0.N) ⊢ Pipeline.ΦD osem0 spec0 H0 (V m) c := by
  rw [show (dats m 0 c).Φ (Fin.last cfg0.N) = between m c (Fin.last cfg0.N).val from rfl,
    between_pos m c _ (by rw [Fin.val_last]; have : cfg0.N = 32 := N_0; omega), PhiD0_eq]
  iintro ⟨HS, Hg, Hq, Hh⟩
  isplitl [HS]; · iexists _; iexact HS
  isplitl [Hg]; · iexact Hg
  isplitl [Hq]; · iexact Hq
  iexact Hh

set_option backward.isDefEq.respectTransparency.types false in
/-- Every execution ends, with each array of the call at what the data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The frame: every execution ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.UpDx1Ideal.Prod

end
-- ==== Proof.Prod.UpDx1.lean ====
module

public import proofs.«01_k».proof.Defs
public import proofs.«01_k».proof.Proof.Gen.UpDx1
public import proofs.«01_k».proof.Proof.Gen.UpDx1RefIdeal.Run
public import proofs.«01_k».proof.Proof.Gen.UpDx1RefIdeal.Read
public import proofs.«01_k».proof.Proof.Prod.UpDx1.Launch
public import Idealize.ShloMosaic.Lib.Pipeline.ValueKit
public import Idealize.ShloMosaic.Lib.Pointwise
public import Idealize.ShloMosaic.Lib.StableHlo.RunRead
public import Idealize.ShloMosaic.Lib.Quiescent

/-! The input gradient of the up projection of layer 1, with the weight in an array of three: every entry is the sum over all columns of the cotangent times the weight. The kernel
copies the weight into its scratch in four bands of columns and multiplies each block of rows by it. -/

@[expose] public section

set_option maxRecDepth 16384

noncomputable section

namespace Cert.UpDx1Ideal.Prod

open Cert.UpDx1Ideal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S3x1024x5632, .f32⟩ : BufTy).Contents (Elt Ideal) := m ((c : Thread nD τ).loc main_arg1)
abbrev arg2 (c : Dev nD) : (⟨S1x16384x5632, .f32⟩ : BufTy).Contents (Elt Ideal) := m ((c : Thread nD τ).loc main_arg2)

/-- The gradient at row `T` and channel `i`. -/
def dx (w : (⟨S3x1024x5632, .f32⟩ : BufTy).Contents (Elt Ideal)) (ct : (⟨S1x16384x5632, .f32⟩ : BufTy).Contents (Elt Ideal)) (T : Fin 16384) (i : Fin 1024) : EReal :=
  ∑ k : Fin 5632, ct (ix3 0 T k) * w (ix3 0 i k)

/-- The cotangent as the region finds it, -/
def arr0 (c : Dev nD) : FVec Ideal S16384x5632 .bf16 := V m c main_v1
/-- and the weight, cut into four groups of columns. -/
def arrW (c : Dev nD) : FVec Ideal S3x4x1024x1408 .bf16 := V m c main_v4

theorem arr0_apply (c : Dev nD) (T : Fin 16384) (k : Fin 5632) : arr0 m c (ix2 T k) = arg2 m c (ix3 0 T k) := by
  have e : arr0 m c = truncf .bf16 (shapeCast S16384x5632 (arg2 m c) shapeCasts_S1x16384x5632_S16384x5632) bitsLt_bf16_f32 := by
    unfold arr0 V
    after_reads_simp
    rfl
  rw [e]
  pointwise

theorem arrW_apply (c : Dev nD) (n : Fin 4) (i : Fin 1024) (j : Fin 1408) (k : Fin 5632) (hk : k.val = n.val * 1408 + j.val) : arrW m c (ix4 0 n i j) = arg1 m c (ix3 0 i k) := by
  have e : arrW m c = truncf .bf16 (transpose S3x4x1024x1408 [0, 2, 1, 3] (shapeCast S3x1024x4x1408 (arg1 m c) shapeCasts_S3x1024x5632_S3x1024x4x1408) transposes_S3x1024x4x1408_S3x4x1024x1408_0_2_1_3) bitsLt_bf16_f32 := by
    unfold arrW V
    after_reads_simp
    rfl
  rw [e, show k = ⟨n.val * 1408 + j.val, by omega⟩ from Fin.ext hk]
  pointwise

/-- The scratch holds the weight itself. -/
theorem weight_apply (c : Dev nD) (i : Fin 1024) (k : Fin 5632) : weight m c (ix2 i k) = arg1 m c (ix3 0 i k) :=
  arrW_apply m c ⟨k.val / 1408, by omega⟩ i ⟨k.val % 1408, Nat.mod_lt _ (by decide)⟩ k (by show k.val = k.val / 1408 * 1408 + k.val % 1408; omega)

theorem idx_val : ∀ t : Fin cfg0.N, win0_0.index t = ![t.val, 0] ∧ win0_1.index t = ![t.val, 0] :=
  (by decide +kernel : ∀ t : Fin grid0.N, win0_0.index t = ![t.val, 0] ∧ win0_1.index t = ![t.val, 0])

theorem lt_32 (t : Fin cfg0.N) : t.val < 32 := lt_of_lt_of_eq t.isLt (show cfg0.N = 32 from N_0)

/-- The row of the whole array that is row `r` of the blocks of point `t`. -/
def rowOf (t : Fin cfg0.N) (r : Fin 512) : Fin 16384 := ⟨512 * t.val + r.val, by have := lt_32 t; omega⟩

theorem emb0 (t : Fin cfg0.N) (r : Fin 512) (k : Fin 5632) : ((cfg0.win 0).blk t).view.emb (ix2 r k) = ix2 (rowOf t r) k := by blk_ext [idx_val t, rowOf]
theorem emb1 (t : Fin cfg0.N) (r : Fin 512) (i : Fin 1024) : (win0_1.blk t).view.emb (ix2 r i) = ix2 (rowOf t r) i := by blk_ext [idx_val t, rowOf]

theorem blk0_apply (c : Dev nD) (t : Fin cfg0.N) (r : Fin 512) (k : Fin 5632) : iblk m c 0 t (ix2 r k) = arr0 m c (ix2 (rowOf t r) k) :=
  congrArg (arr0 m c) (emb0 t r k)

theorem pay_apply (x0 : FVec Ideal S512x5632 .bf16) (x1 : FVec Ideal S1024x5632 .bf16) (r : Fin 512) (i : Fin 1024) :
    k0_pay1 (F := Ideal) x0 x1 (ix2 r i) = ∑ k : Fin 5632, x0 (ix2 r k) * x1 (ix2 i k) := by
  unfold k0_pay1
  pointwise

theorem block_apply (c : Dev nD) (t : Fin cfg0.N) (r : Fin 512) (i : Fin 1024) : block m c t (ix2 r i) = dx (arg1 m c) (arg2 m c) (rowOf t r) i := by
  unfold block dx
  rw [pay_apply]
  refine Finset.sum_congr rfl fun k _ => ?_
  rw [blk0_apply, arr0_apply, weight_apply]

theorem final (c : Dev nD) : (dats m 0 c).arrAt 1 cfg0.N = fun y => dx (arg1 m c) (arg2 m c) (y 0) (y 1) := by
  refine (dats m 0 c).arrAt_eq_of_covers 1 _ (by decide +kernel) fun t hf y => ?_
  blk_simp
  rw [after_result]
  obtain ⟨r, i, rfl⟩ : ∃ (r : Fin 512) (i : Fin 1024), y = ix2 r i := ⟨y 0, y 1, eq_ix2 y⟩
  rw [emb1, block_apply]
  rfl

theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(h.rest_eq c main_arg0 (Pipeline.mem_restRefs_of main_arg0 (by decide) (by decide))).trans (V_main_arg0 m c), (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c)⟩

end Cert.UpDx1Ideal.Prod

namespace Cert.UpDx1.Claims

open Idealize.ShloMosaic Idealize.ShloMosaic.TcCoe Idealize.SL.Sem

set_option maxHeartbeats 4000000 in
/-- The kernel as printed and the kernel over the extended reals have the same text, so one run serves both. -/
theorem bodies_eq {F : FTy → Type} [FloatOps F] : Cert.UpDx1.defs₀ (F := F) = Cert.UpDx1Ideal.defs₀ (F := F) := by
  unfold Cert.UpDx1.defs₀ Cert.UpDx1Ideal.defs₀
  refine congrArg Defs.onTc ?_
  funext l x
  match l, x with
  | 0, (t, s) => rfl

set_option maxHeartbeats 4000000 in
theorem defs_eq {F : FTy → Type} [FloatOps F] : Cert.UpDx1.defs (F := F) = Cert.UpDx1Ideal.defs (F := F) := by
  unfold Cert.UpDx1.defs Cert.UpDx1Ideal.defs
  exact congrArg (Pipeline.defs Cert.UpDx1Ideal.pcfgs) bodies_eq

set_option maxHeartbeats 4000000 in
theorem main_eq {F : FTy → Type} [FloatOps F] : Cert.UpDx1.main (F := F) = Cert.UpDx1Ideal.main (F := F) := by
  unfold Cert.UpDx1.main Cert.UpDx1Ideal.main
  rfl

theorem frame_kernel : Cert.quiescent_UpDx1 := by
  intro m ρ _
  have h := Cert.UpDx1Ideal.Prod.frame (F := Bits) m ρ
  rw [← defs_eq, ← main_eq] at h
  exact h

theorem frame_ideal : Cert.quiescent_UpDx1Ideal := fun m ρ _ => Cert.UpDx1Ideal.Prod.frame m ρ

theorem frame_reference : Cert.quiescent_UpDx1RefIdeal := fun m ρ _ =>
  (θ_run Cert.UpDx1RefIdeal.defs _ _).mono (fun r h => ⟨fun c => (h c).2, sem_eq_zero_of_no_sems (by decide) r.2⟩)
    (Cert.UpDx1RefIdeal.Value.run (F := Ideal) m ρ)

/-- The reference's result. -/
theorem reference (w : (⟨Cert.UpDx1RefIdeal.S3x1024x5632, .f32⟩ : BufTy).Contents (Elt Ideal)) (ct : (⟨Cert.UpDx1RefIdeal.S1x16384x5632, .f32⟩ : BufTy).Contents (Elt Ideal)) :
    Cert.UpDx1RefIdeal.Read.val_main_v6 (F := Ideal) w ct = fun y => Cert.UpDx1Ideal.Prod.dx w ct (y 0) (y 1) := by
  funext y
  obtain ⟨T, i, rfl⟩ : ∃ (T : Fin 16384) (i : Fin 1024), y = ix2 T i := ⟨y 0, y 1, eq_ix2 y⟩
  unfold Cert.UpDx1Ideal.Prod.dx Cert.UpDx1RefIdeal.Read.val_main_v6 Cert.UpDx1RefIdeal.Read.val_main_v5 Cert.UpDx1RefIdeal.Read.val_main_v1 Cert.UpDx1RefIdeal.Read.val_main_v0
  pointwise

theorem algebraic : Cert.algebraic_UpDx1Ideal_UpDx1RefIdeal := by
  intro m ρ m' ρ' _ hagree
  refine ⟨fun c => fun y => Cert.UpDx1Ideal.Prod.dx (Cert.UpDx1Ideal.Prod.arg1 m c) (Cert.UpDx1Ideal.Prod.arg2 m c) (y 0) (y 1), ?_, ?_⟩
  · refine (θ_run Cert.UpDx1Ideal.defs _ _).mono (fun r h c => ?_) (Cert.UpDx1Ideal.Prod.run_main (F := Ideal) m ρ)
    exact ⟨(h.out_eq c 1).trans (Cert.UpDx1Ideal.Prod.final m c), Cert.UpDx1Ideal.Prod.args_kept m r h c⟩
  · refine (θ_run Cert.UpDx1RefIdeal.defs _ _).mono (fun r h c => ?_) (Cert.UpDx1RefIdeal.Value.run (F := Ideal) m' ρ')
    obtain ⟨_, a1, a2⟩ := hagree c
    refine ⟨(h c).1.trans ?_, (h c).2⟩
    rw [a1, a2]
    exact reference _ _

end Cert.UpDx1.Claims

end
-- ==== Proof.Prod.UpDx2.Run.lean ====
module

public import proofs.«01_k».proof.Proof.Gen.UpDx2Ideal.Frame.Runs
public import proofs.«01_k».proof.Proof.Gen.UpDx2Ideal.Skeleton
public import Idealize.ShloMosaic.Lib.Pipeline.Value
public import Idealize.ShloMosaic.Lib.Pipeline.ValueKit
public import Idealize.ShloMosaic.Lib.ValueIdx
public import Idealize.ShloMosaic.Lib.Pointwise

/-! The input gradient of the up projection of layer 2: one run of its body, at the first point of the grid, where four copies bring
the weight into the scratch, and at any later point, where the scratch is as the point before left it. -/

@[expose] public section

set_option maxRecDepth 16384

noncomputable section

namespace Cert.UpDx2Ideal.Prod

open Cert.UpDx2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four cells the copies signal, at zero. -/
abbrev cells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)

set_option maxHeartbeats 1000000 in
/-- The body at the first point, with the pieces it leaves in the result and in the scratch: each copy is lent its own band of columns of the scratch. -/
noncomputable def runFirst (c : Dev nD) (i : grid0.Coords) (arg1 : Memref sig .tc .vmem S512x5632 .bf16) (harg1 : arg1.IsWhole) (arg3 : Memref sig .tc .vmem S512x1024 .f32) (harg3 : arg3.IsWhole)
    (arg4 : Memref sig .tc .vmem S1024x5632 .bf16) (harg4 : arg4.IsWhole) (hc : cond0_0 i) (x0 : Vec F S512x5632 .bf16) (fh : HbBuf0 (F := F) c hbM0_0) :
    Σ' (L1 : List (View.Piece (Elt F) S512x1024 .f32)), { LS : List (View.Piece (Elt F) S1024x5632 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS) ∗ cells c ∗ hbPt0 c hbM0_0 fh ∗ (∃ W', owes (c : Thread nD τ) 0 W')) -∗ K ⟨⟩))
          ⊢ wp frame (wpE (defs₀ (F := F)) Variants.none c none) Set.univ (cc0_ffn_up_dx_2 i arg1 harg1 (Memref.whole main_v4) (Memref.isWhole_whole _) arg3 harg3 arg4 harg4 cc0_scratch1) K } := by
  refine ⟨?_, ?_, fun W K => ?run⟩
  case run =>
    simp only [cc0_ffn_up_dx_2_eq_skeleton]; unfold cc0_ffn_up_dx_2_skel
    simp only [k0_part1_eq_skeleton]
    unfold owns cells
    iintro ⟨⟨%f0, %hf0, H0⟩, ⟨%d1, %f1, -, H1⟩, ⟨%ds, %fs, -, HS⟩, ⟨Hq0, Hq1, Hq2, Hq3⟩, Hh, HW, Hk⟩
    obtain rfl := harg1.eq_unread hf0
    set_option sl_exec.dmaWindow true in set_option sl_exec.dmaWindowLent true in set_option sl_exec.dmaWindowSet true in sl_exec (disch := first | sl_exact hc)
    sl_step
    iapply Hk
    isplitl [H0]
    · iexists _; isplitr; · ipureintro; exact harg1.read_unread _
      iexact H0
    isplitl [H1]; · iexists _; iexact H1
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

set_option maxHeartbeats 1000000 in
/-- The body at a later point: the scratch is read and left alone. -/
noncomputable def runLater (c : Dev nD) (i : grid0.Coords) (arg1 : Memref sig .tc .vmem S512x5632 .bf16) (harg1 : arg1.IsWhole) (arg3 : Memref sig .tc .vmem S512x1024 .f32) (harg3 : arg3.IsWhole)
    (arg4 : Memref sig .tc .vmem S1024x5632 .bf16) (harg4 : arg4.IsWhole) (hc : ¬cond0_0 i) (x0 : Vec F S512x5632 .bf16) (xs : Vec F S1024x5632 .bf16) (fh : HbBuf0 (F := F) c hbM0_0) :
    Σ' (L1 : List (View.Piece (Elt F) S512x1024 .f32)), { LS : List (View.Piece (Elt F) S1024x5632 .bf16) //
      ∀ (W : Waits sig Unit) (K : PUnit → sProp 𝕄),
        iprop(owns (c : Thread nD τ) arg1 fullShare x0 ∗ (∃ d, owns (c : Thread nD τ) arg3 fullShare d) ∗ owns (c : Thread nD τ) arg4 fullShare xs ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ owns (c : Thread nD τ) arg4 fullShare xs ∗ cells c ∗ hbPt0 c hbM0_0 fh ∗ (∃ W', owes (c : Thread nD τ) 0 W')) -∗ K ⟨⟩))
          ⊢ wp frame (wpE (defs₀ (F := F)) Variants.none c none) Set.univ (cc0_ffn_up_dx_2 i arg1 harg1 (Memref.whole main_v4) (Memref.isWhole_whole _) arg3 harg3 arg4 harg4 cc0_scratch1) K } := by
  refine ⟨?_, [], fun W K => ?run⟩
  case run =>
    simp only [cc0_ffn_up_dx_2_eq_skeleton]; unfold cc0_ffn_up_dx_2_skel
    unfold owns cells
    iintro ⟨⟨%f0, %hf0, H0⟩, ⟨%d1, %f1, -, H1⟩, ⟨%fs, %hfs, HS⟩, ⟨Hq0, Hq1, Hq2, Hq3⟩, Hh, HW, Hk⟩
    obtain rfl := harg1.eq_unread hf0; obtain rfl := harg4.eq_unread hfs
    sl_exec (disch := first | sl_exact hc)
    sl_step
    iapply Hk
    isplitl [H0]
    · iexists _; isplitr; · ipureintro; exact harg1.read_unread _
      iexact H0
    isplitl [H1]; · iexists _; iexact H1
    isplitl [HS]
    · iexists _; isplitr; · ipureintro; exact harg4.read_unread _
      iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

theorem hz2 : (![0, 0] : Fin 2 → Nat) = fun _ => 0 := funext fun a => by fin_cases a <;> rfl

section
variable (c : Dev nD) (i : grid0.Coords) (a1 : Memref sig .tc .vmem S512x5632 .bf16) (h1 : a1.IsWhole) (a3 : Memref sig .tc .vmem S512x1024 .f32) (h3 : a3.IsWhole)
    (a4 : Memref sig .tc .vmem S1024x5632 .bf16) (h4 : a4.IsWhole) (x0 : Vec F S512x5632 .bf16) (xs : Vec F S1024x5632 .bf16) (fh : HbBuf0 (F := F) c hbM0_0)

theorem out_later (hc : ¬cond0_0 i) (f) :
    a3.view.read (Elt F) (a3.view.writes (Elt F) f (runLater c i a1 h1 a3 h3 a4 h4 hc x0 xs fh).1) = k0_pay1 x0 xs := by
  rw [View.read_writes_eq_canon _ _ _ (View.cover_of_tiledL (runLater c i a1 h1 a3 h3 a4 h4 hc x0 xs fh).1 S512x1024.size (by sl_kernel_rfl))]
  unfold runLater
  dsimp only
  rw [View.canon_unit_zero hz2]
  simp only [View.readAt_eq_ld, h1.read_unread, h4.read_unread, View.ld_unit_zero (S := S512x5632) hz2, View.ld_unit_zero (S := S1024x5632) hz2]

theorem out_first (hc : cond0_0 i) (f) :
    a3.view.read (Elt F) (a3.view.writes (Elt F) f (runFirst c i a1 h1 a3 h3 a4 h4 hc x0 fh).1) = k0_pay1 x0 (View.canon (runFirst c i a1 h1 a3 h3 a4 h4 hc x0 fh).2.1) := by
  rw [View.read_writes_eq_canon _ _ _ (View.cover_of_tiledL (runFirst c i a1 h1 a3 h3 a4 h4 hc x0 fh).1 S512x1024.size (by sl_kernel_rfl))]
  unfold runFirst
  dsimp only
  rw [View.canon_unit_zero hz2]
  sl_unfold_words
  simp only [View.readAt_eq_ld, h1.read_unread, View.ld_unit_zero (S := S512x5632) hz2]
  rw [View.readCov_eq_canon']
  exact congrArg (k0_pay1 x0) (View.ld_unit_zero (S := S1024x5632) hz2 _ _)

/-- The weight as the scratch holds it: column k·1408 + j is column j of group k of the buffer's part 1. -/
def staged (fh : HbBuf0 (F := F) c hbM0_0) : Vec F S1024x5632 .bf16 := fun y =>
  fh (ix4 ⟨1, by decide⟩ ⟨(y 1).val / 1408, by have := (y 1).isLt; change (y 1).val < 5632 at this; omega⟩ (y 0) ⟨(y 1).val % 1408, Nat.mod_lt _ (by decide)⟩)

/-- A copy's payload: group k of the buffer. -/
theorem band (k : ℕ) {off : Fin 4 → ℕ} {off' : Fin 2 → ℕ} (inb : ∀ a, off a + (![1, 1, 1024, 1408] : Fin 4 → ℕ) a ≤ S3x4x1024x1408.size a) (inb' : ∀ a, off' a + (![1024, 1408] : Fin 2 → ℕ) a ≤ S1024x5632.size a)
    (h : S1024x1408.numel = (Rect.unit (s := S3x4x1024x1408) off ![1, 1, 1024, 1408] inb).shape.numel) (ho : off = ![1, k, 0, 0] := by rfl) (ho' : off' = ![0, k * 1408] := by rfl) (x : S1024x1408.Idx) :
    ReadAs.same.apply (View.read (Elt F) (((View.whole main_v4).slice (Rect.unit (s := S3x4x1024x1408) off ![1, 1, 1024, 1408] inb)).reshape S1024x1408 h) fh) x
      = staged c fh ((Rect.unit (s := S1024x5632) off' ![1024, 1408] inb').emb x) := by
  subst ho ho'
  have hr : (x 0).val < 1024 := (x 0).isLt
  have hj : (x 1).val < 1408 := (x 1).isLt
  have hk : k + 1 ≤ 4 := inb 1
  have e : Shape.reshapeEquiv h x = (ix4 (⟨0, Nat.one_pos⟩ : Fin 1) (⟨0, Nat.one_pos⟩ : Fin 1) (⟨(x 0).val, hr⟩ : Fin 1024) (⟨(x 1).val, hj⟩ : Fin 1408) : (Rect.unit (s := S3x4x1024x1408) ![1, k, 0, 0] ![1, 1, 1024, 1408] inb).shape.Idx) := by
    apply Shape.reshapeEquiv_eq_of_rowMajor
    refine (Shape.rowMajor_val_four _).trans (Eq.trans ?_ (Shape.rowMajor_val_two _).symm)
    show ((0 * 1 + 0) * 1024 + (x 0).val) * 1408 + (x 1).val = (x 0).val * 1408 + (x 1).val
    omega
  show fh ((Rect.unit (s := S3x4x1024x1408) ![1, k, 0, 0] ![1, 1, 1024, 1408] inb).emb (Shape.reshapeEquiv h x)) = _
  rw [e]
  refine congrArg fh (funext fun a => Fin.ext ?_)
  match a with
  | 0 => rfl
  | 1 => show k + 1 * 0 = (k * 1408 + 1 * (x 1).val) / 1408; omega
  | 2 => show 0 + 1 * (x 0).val = 0 + 1 * (x 0).val; rfl
  | 3 => show 0 + 1 * (x 1).val = (k * 1408 + 1 * (x 1).val) % 1408; omega

theorem first_scratch (hc : cond0_0 i) : ∀ p ∈ (runFirst c i a1 h1 a3 h3 a4 h4 hc x0 fh).2.1, ∀ x : p.1.shape.Idx, p.2 x = staged c fh (p.1.emb x) := by
  unfold runFirst
  dsimp only
  sl_unfold_words
  simp only [List.forall_mem_cons, List.not_mem_nil, false_imp_iff, implies_true, and_true]
  exact ⟨band c fh 3 _ _ _, band c fh 2 _ _ _, band c fh 1 _ _ _, band c fh 0 _ _ _⟩

theorem first_cover (hc : cond0_0 i) : ∀ y : S1024x5632.Idx, ∃ p ∈ (runFirst c i a1 h1 a3 h3 a4 h4 hc x0 fh).2.1, y ∈ p.1.set := by
  unfold runFirst
  dsimp only
  intro y
  simp only [List.exists_mem_cons_iff, List.not_mem_nil, false_and, exists_false, or_false, Rect.mem_set_unit, Fin.forall_fin_two]
  have h0 : (y 0).val < 1024 := (y 0).isLt
  have h1 : (y 1).val < 5632 := (y 1).isLt
  simp
  omega

theorem first_canon (hc : cond0_0 i) : View.canon (runFirst c i a1 h1 a3 h3 a4 h4 hc x0 fh).2.1 = staged c fh :=
  funext fun y => View.canon_apply_of_pieces (Val := Elt F) (staged c fh) _ (first_scratch c i a1 h1 a3 h3 a4 h4 x0 fh hc) y (first_cover c i a1 h1 a3 h3 a4 h4 x0 fh hc y)

end

end Cert.UpDx2Ideal.Prod

end
-- ==== Proof.Prod.UpDx2.Launch.lean ====
module

public import proofs.«01_k».proof.Proof.Prod.UpDx2.Run
public import Idealize.ShloMosaic.Lib.Claim
public import Idealize.ShloMosaic.Lib.Pipeline.Value
public import Idealize.ShloMosaic.Lib.Pipeline.ValueKit
public import Idealize.ShloMosaic.Lib.ValueIdx
public import Idealize.ShloMosaic.Lib.Pointwise

/-! The input gradient of the up projection of layer 2: the call of the kernel, what each of its points leaves, and the frame. -/

@[expose] public section

set_option maxRecDepth 16384

noncomputable section

namespace Cert.UpDx2Ideal.Prod

open Cert.UpDx2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the scratch holds from the first point on. -/
def weight (c : Dev nD) : Vec F S1024x5632 .bf16 := staged c (V m c main_v4)

/-- What holds between two points: before the first one, what the call begins with; afterwards the scratch holds the
weight. -/
def between (c : Dev nD) : ℕ → sProp 𝕄
  | 0 => Pipeline.ΦD osem0 spec0 H0 (V m) c
  | _ + 1 => iprop(owns (c : Thread nD τ) scM0_0 fullShare (weight m c) ∗ (∃ r, prngReg c r) ∗ cells c ∗ hbPt0 c hbM0_0 (V m c main_v4))

theorem between_pos (c : Dev nD) (n : ℕ) (h : n ≠ 0) :
    between m c n = iprop(owns (c : Thread nD τ) scM0_0 fullShare (weight m c) ∗ (∃ r, prngReg c r) ∗ cells c ∗ hbPt0 c hbM0_0 (V m c main_v4)) := by
  cases n with
  | zero => exact absurd rfl h
  | succ n => rfl

/-- What a point leaves in the block of the result: its rows of the cotangent times the weight. -/
def block (c : Dev nD) (t : Fin cfg0.N) : Vec F S512x1024 .f32 := k0_pay1 (iblk m c 0 t) (weight m c)

/-- The data of the call: the block it reads, the block it leaves, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => block m c t
  Φ t := between m c t.val
  q _ := fullShare
  owed _ := 0

theorem A_eq (c : Dev nD) (w : Fin cfg0.W) : (dats m 0 c).A w = V m c (Pipeline.arrRef spec0 w) := by
  dsimp only [dats]

theorem after_read (c : Dev nD) (t : Fin cfg0.N) : (dats m 0 c).after 0 t = iblk m c 0 t := by dsimp only [dats]
theorem after_result (c : Dev nD) (t : Fin cfg0.N) : (dats m 0 c).after 1 t = block m c t := by dsimp only [dats]

theorem before_read (c : Dev nD) (t : Fin cfg0.N) (d) : (dats m 0 c).before 0 t d = iblk m c 0 t :=
  before0_0_of m (dats m 0 c) (A_eq m c 0) (after_read m c) t d

/-- What a point begins with. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What it ends with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- Every point keeps to that: the first fills the scratch, the others find it filled. -/
theorem point (c : Dev nD) (t : Fin cfg0.N) :
    pre m c t ⊢ wp frame (wpE (defs₀ (F := F)) Variants.none c none) Set.univ (bodyAt0 t) (fun _ => post m c t) := by
  unfold pre post bodyAt0
  simp only [before_read]
  rw [show (dats m 0 c).Φ t.succ = between m c (t.val + 1) from rfl, between_pos m c _ (Nat.succ_ne_zero _),
    show (dats m 0 c).Φ t.castSucc = between m c t.val from rfl, after_read, after_result]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases hz : t.val = 0
  · have hc : cond0_0 (grid0.coords t) := (hcond0_0 t).mpr (by omega)
    rw [show between m c t.val = Pipeline.ΦD osem0 spec0 H0 (V m) c by rw [hz]; rfl, PhiD0_eq]
    iintro ⟨⟨HS, Hg, Hq, Hh⟩, ⟨%W, -, HW⟩, ⟨%d0, H0⟩, ⟨%d1, H1⟩⟩
    iapply ((runFirst c (grid0.coords t) (ms0_0 t) (hs0_0 t) (ms0_1 t) (hs0_1 t) scM0_0 (Memref.isWhole_whole _) hc (iblk m c 0 t) (V m c main_v4)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, ⟨%es, HS⟩, Hq, Hh, ⟨%W', HW'⟩⟩
    isplitl [HS Hg Hq Hh]
    · isplitl [HS]
      · unfold owns; iexists _; isplitr
        swap; · iexact HS
        ipureintro
        exact (View.read_writes_eq_canon _ _ _ (first_cover c _ _ _ _ _ _ _ _ _ hc)).trans (first_canon c _ _ _ _ _ _ _ _ _ hc)
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact (out_first c _ _ _ _ _ _ _ _ _ hc _).trans (congrArg (k0_pay1 (iblk m c 0 t)) (first_canon c _ _ _ _ _ _ _ _ _ hc))
  · have hc : ¬cond0_0 (grid0.coords t) := fun h => by have := (hcond0_0 t).mp h; omega
    rw [between_pos m c _ hz]
    iintro ⟨⟨HS, Hg, Hq, Hh⟩, ⟨%W, -, HW⟩, ⟨%d0, H0⟩, ⟨%d1, H1⟩⟩
    iapply ((runLater c (grid0.coords t) (ms0_0 t) (hs0_0 t) (ms0_1 t) (hs0_1 t) scM0_0 (Memref.isWhole_whole _) hc (iblk m c 0 t) (weight m c) (V m c main_v4)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact out_later c _ _ _ _ _ _ _ _ _ _ hc _

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem enter (c : Dev nD) : Pipeline.ΦD osem0 spec0 H0 (V m) c ⊢ (dats m 0 c).Φ 0 := by
  rw [show (dats m 0 c).Φ 0 = Pipeline.ΦD osem0 spec0 H0 (V m) c from rfl]

theorem leave (c : Dev nD) : (dats m 0 c).Φ (Fin.last cfg0.N) ⊢ Pipeline.ΦD osem0 spec0 H0 (V m) c := by
  rw [show (dats m 0 c).Φ (Fin.last cfg0.N) = between m c (Fin.last cfg0.N).val from rfl,
    between_pos m c _ (by rw [Fin.val_last]; have : cfg0.N = 32 := N_0; omega), PhiD0_eq]
  iintro ⟨HS, Hg, Hq, Hh⟩
  isplitl [HS]; · iexists _; iexact HS
  isplitl [Hg]; · iexact Hg
  isplitl [Hq]; · iexact Hq
  iexact Hh

set_option backward.isDefEq.respectTransparency.types false in
/-- Every execution ends, with each array of the call at what the data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The frame: every execution ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.UpDx2Ideal.Prod

end
-- ==== Proof.Prod.UpDx2.lean ====
module

public import proofs.«01_k».proof.Defs
public import proofs.«01_k».proof.Proof.Gen.UpDx2
public import proofs.«01_k».proof.Proof.Gen.UpDx2RefIdeal.Run
public import proofs.«01_k».proof.Proof.Gen.UpDx2RefIdeal.Read
public import proofs.«01_k».proof.Proof.Prod.UpDx2.Launch
public import Idealize.ShloMosaic.Lib.Pipeline.ValueKit
public import Idealize.ShloMosaic.Lib.Pointwise
public import Idealize.ShloMosaic.Lib.StableHlo.RunRead
public import Idealize.ShloMosaic.Lib.Quiescent

/-! The input gradient of the up projection of layer 2, with the weight in an array of three: every entry is the sum over all columns of the cotangent times the weight. The kernel
copies the weight into its scratch in four bands of columns and multiplies each block of rows by it. -/

@[expose] public section

set_option maxRecDepth 16384

noncomputable section

namespace Cert.UpDx2Ideal.Prod

open Cert.UpDx2Ideal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S3x1024x5632, .f32⟩ : BufTy).Contents (Elt Ideal) := m ((c : Thread nD τ).loc main_arg1)
abbrev arg2 (c : Dev nD) : (⟨S1x16384x5632, .f32⟩ : BufTy).Contents (Elt Ideal) := m ((c : Thread nD τ).loc main_arg2)

/-- The gradient at row `T` and channel `i`. -/
def dx (w : (⟨S3x1024x5632, .f32⟩ : BufTy).Contents (Elt Ideal)) (ct : (⟨S1x16384x5632, .f32⟩ : BufTy).Contents (Elt Ideal)) (T : Fin 16384) (i : Fin 1024) : EReal :=
  ∑ k : Fin 5632, ct (ix3 0 T k) * w (ix3 1 i k)

/-- The cotangent as the region finds it, -/
def arr0 (c : Dev nD) : FVec Ideal S16384x5632 .bf16 := V m c main_v1
/-- and the weight, cut into four groups of columns. -/
def arrW (c : Dev nD) : FVec Ideal S3x4x1024x1408 .bf16 := V m c main_v4

theorem arr0_apply (c : Dev nD) (T : Fin 16384) (k : Fin 5632) : arr0 m c (ix2 T k) = arg2 m c (ix3 0 T k) := by
  have e : arr0 m c = truncf .bf16 (shapeCast S16384x5632 (arg2 m c) shapeCasts_S1x16384x5632_S16384x5632) bitsLt_bf16_f32 := by
    unfold arr0 V
    after_reads_simp
    rfl
  rw [e]
  pointwise

theorem arrW_apply (c : Dev nD) (n : Fin 4) (i : Fin 1024) (j : Fin 1408) (k : Fin 5632) (hk : k.val = n.val * 1408 + j.val) : arrW m c (ix4 1 n i j) = arg1 m c (ix3 1 i k) := by
  have e : arrW m c = truncf .bf16 (transpose S3x4x1024x1408 [0, 2, 1, 3] (shapeCast S3x1024x4x1408 (arg1 m c) shapeCasts_S3x1024x5632_S3x1024x4x1408) transposes_S3x1024x4x1408_S3x4x1024x1408_0_2_1_3) bitsLt_bf16_f32 := by
    unfold arrW V
    after_reads_simp
    rfl
  rw [e, show k = ⟨n.val * 1408 + j.val, by omega⟩ from Fin.ext hk]
  pointwise

/-- The scratch holds the weight itself. -/
theorem weight_apply (c : Dev nD) (i : Fin 1024) (k : Fin 5632) : weight m c (ix2 i k) = arg1 m c (ix3 1 i k) :=
  arrW_apply m c ⟨k.val / 1408, by omega⟩ i ⟨k.val % 1408, Nat.mod_lt _ (by decide)⟩ k (by show k.val = k.val / 1408 * 1408 + k.val % 1408; omega)

theorem idx_val : ∀ t : Fin cfg0.N, win0_0.index t = ![t.val, 0] ∧ win0_1.index t = ![t.val, 0] :=
  (by decide +kernel : ∀ t : Fin grid0.N, win0_0.index t = ![t.val, 0] ∧ win0_1.index t = ![t.val, 0])

theorem lt_32 (t : Fin cfg0.N) : t.val < 32 := lt_of_lt_of_eq t.isLt (show cfg0.N = 32 from N_0)

/-- The row of the whole array that is row `r` of the blocks of point `t`. -/
def rowOf (t : Fin cfg0.N) (r : Fin 512) : Fin 16384 := ⟨512 * t.val + r.val, by have := lt_32 t; omega⟩

theorem emb0 (t : Fin cfg0.N) (r : Fin 512) (k : Fin 5632) : ((cfg0.win 0).blk t).view.emb (ix2 r k) = ix2 (rowOf t r) k := by blk_ext [idx_val t, rowOf]
theorem emb1 (t : Fin cfg0.N) (r : Fin 512) (i : Fin 1024) : (win0_1.blk t).view.emb (ix2 r i) = ix2 (rowOf t r) i := by blk_ext [idx_val t, rowOf]

theorem blk0_apply (c : Dev nD) (t : Fin cfg0.N) (r : Fin 512) (k : Fin 5632) : iblk m c 0 t (ix2 r k) = arr0 m c (ix2 (rowOf t r) k) :=
  congrArg (arr0 m c) (emb0 t r k)

theorem pay_apply (x0 : FVec Ideal S512x5632 .bf16) (x1 : FVec Ideal S1024x5632 .bf16) (r : Fin 512) (i : Fin 1024) :
    k0_pay1 (F := Ideal) x0 x1 (ix2 r i) = ∑ k : Fin 5632, x0 (ix2 r k) * x1 (ix2 i k) := by
  unfold k0_pay1
  pointwise

theorem block_apply (c : Dev nD) (t : Fin cfg0.N) (r : Fin 512) (i : Fin 1024) : block m c t (ix2 r i) = dx (arg1 m c) (arg2 m c) (rowOf t r) i := by
  unfold block dx
  rw [pay_apply]
  refine Finset.sum_congr rfl fun k _ => ?_
  rw [blk0_apply, arr0_apply, weight_apply]

theorem final (c : Dev nD) : (dats m 0 c).arrAt 1 cfg0.N = fun y => dx (arg1 m c) (arg2 m c) (y 0) (y 1) := by
  refine (dats m 0 c).arrAt_eq_of_covers 1 _ (by decide +kernel) fun t hf y => ?_
  blk_simp
  rw [after_result]
  obtain ⟨r, i, rfl⟩ : ∃ (r : Fin 512) (i : Fin 1024), y = ix2 r i := ⟨y 0, y 1, eq_ix2 y⟩
  rw [emb1, block_apply]
  rfl

theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(h.rest_eq c main_arg0 (Pipeline.mem_restRefs_of main_arg0 (by decide) (by decide))).trans (V_main_arg0 m c), (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c)⟩

end Cert.UpDx2Ideal.Prod

namespace Cert.UpDx2.Claims

open Idealize.ShloMosaic Idealize.ShloMosaic.TcCoe Idealize.SL.Sem

set_option maxHeartbeats 4000000 in
/-- The kernel as printed and the kernel over the extended reals have the same text, so one run serves both. -/
theorem bodies_eq {F : FTy → Type} [FloatOps F] : Cert.UpDx2.defs₀ (F := F) = Cert.UpDx2Ideal.defs₀ (F := F) := by
  unfold Cert.UpDx2.defs₀ Cert.UpDx2Ideal.defs₀
  refine congrArg Defs.onTc ?_
  funext l x
  match l, x with
  | 0, (t, s) => rfl

set_option maxHeartbeats 4000000 in
theorem defs_eq {F : FTy → Type} [FloatOps F] : Cert.UpDx2.defs (F := F) = Cert.UpDx2Ideal.defs (F := F) := by
  unfold Cert.UpDx2.defs Cert.UpDx2Ideal.defs
  exact congrArg (Pipeline.defs Cert.UpDx2Ideal.pcfgs) bodies_eq

set_option maxHeartbeats 4000000 in
theorem main_eq {F : FTy → Type} [FloatOps F] : Cert.UpDx2.main (F := F) = Cert.UpDx2Ideal.main (F := F) := by
  unfold Cert.UpDx2.main Cert.UpDx2Ideal.main
  rfl

theorem frame_kernel : Cert.quiescent_UpDx2 := by
  intro m ρ _
  have h := Cert.UpDx2Ideal.Prod.frame (F := Bits) m ρ
  rw [← defs_eq, ← main_eq] at h
  exact h

theorem frame_ideal : Cert.quiescent_UpDx2Ideal := fun m ρ _ => Cert.UpDx2Ideal.Prod.frame m ρ

theorem frame_reference : Cert.quiescent_UpDx2RefIdeal := fun m ρ _ =>
  (θ_run Cert.UpDx2RefIdeal.defs _ _).mono (fun r h => ⟨fun c => (h c).2, sem_eq_zero_of_no_sems (by decide) r.2⟩)
    (Cert.UpDx2RefIdeal.Value.run (F := Ideal) m ρ)

/-- The reference's result. -/
theorem reference (w : (⟨Cert.UpDx2RefIdeal.S3x1024x5632, .f32⟩ : BufTy).Contents (Elt Ideal)) (ct : (⟨Cert.UpDx2RefIdeal.S1x16384x5632, .f32⟩ : BufTy).Contents (Elt Ideal)) :
    Cert.UpDx2RefIdeal.Read.val_main_v6 (F := Ideal) w ct = fun y => Cert.UpDx2Ideal.Prod.dx w ct (y 0) (y 1) := by
  funext y
  obtain ⟨T, i, rfl⟩ : ∃ (T : Fin 16384) (i : Fin 1024), y = ix2 T i := ⟨y 0, y 1, eq_ix2 y⟩
  unfold Cert.UpDx2Ideal.Prod.dx Cert.UpDx2RefIdeal.Read.val_main_v6 Cert.UpDx2RefIdeal.Read.val_main_v5 Cert.UpDx2RefIdeal.Read.val_main_v1 Cert.UpDx2RefIdeal.Read.val_main_v0
  pointwise

theorem algebraic : Cert.algebraic_UpDx2Ideal_UpDx2RefIdeal := by
  intro m ρ m' ρ' _ hagree
  refine ⟨fun c => fun y => Cert.UpDx2Ideal.Prod.dx (Cert.UpDx2Ideal.Prod.arg1 m c) (Cert.UpDx2Ideal.Prod.arg2 m c) (y 0) (y 1), ?_, ?_⟩
  · refine (θ_run Cert.UpDx2Ideal.defs _ _).mono (fun r h c => ?_) (Cert.UpDx2Ideal.Prod.run_main (F := Ideal) m ρ)
    exact ⟨(h.out_eq c 1).trans (Cert.UpDx2Ideal.Prod.final m c), Cert.UpDx2Ideal.Prod.args_kept m r h c⟩
  · refine (θ_run Cert.UpDx2RefIdeal.defs _ _).mono (fun r h c => ?_) (Cert.UpDx2RefIdeal.Value.run (F := Ideal) m' ρ')
    obtain ⟨_, a1, a2⟩ := hagree c
    refine ⟨(h c).1.trans ?_, (h c).2⟩
    rw [a1, a2]
    exact reference _ _

end Cert.UpDx2.Claims

end
-- ==== Proof.Prod.UpDx3.Run.lean ====
module

public import proofs.«01_k».proof.Proof.Gen.UpDx3Ideal.Frame.Runs
public import proofs.«01_k».proof.Proof.Gen.UpDx3Ideal.Skeleton
public import Idealize.ShloMosaic.Lib.Pipeline.Value
public import Idealize.ShloMosaic.Lib.Pipeline.ValueKit
public import Idealize.ShloMosaic.Lib.ValueIdx
public import Idealize.ShloMosaic.Lib.Pointwise

/-! The input gradient of the up projection of layer 3: one run of its body, at the first point of the grid, where four copies bring
the weight into the scratch, and at any later point, where the scratch is as the point before left it. -/

@[expose] public section

set_option maxRecDepth 16384

noncomputable section

namespace Cert.UpDx3Ideal.Prod

open Cert.UpDx3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four cells the copies signal, at zero. -/
abbrev cells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)

set_option maxHeartbeats 1000000 in
/-- The body at the first point, with the pieces it leaves in the result and in the scratch: each copy is lent its own band of columns of the scratch. -/
noncomputable def runFirst (c : Dev nD) (i : grid0.Coords) (arg1 : Memref sig .tc .vmem S512x5632 .bf16) (harg1 : arg1.IsWhole) (arg3 : Memref sig .tc .vmem S512x1024 .f32) (harg3 : arg3.IsWhole)
    (arg4 : Memref sig .tc .vmem S1024x5632 .bf16) (harg4 : arg4.IsWhole) (hc : cond0_0 i) (x0 : Vec F S512x5632 .bf16) (fh : HbBuf0 (F := F) c hbM0_0) :
    Σ' (L1 : List (View.Piece (Elt F) S512x1024 .f32)), { LS : List (View.Piece (Elt F) S1024x5632 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS) ∗ cells c ∗ hbPt0 c hbM0_0 fh ∗ (∃ W', owes (c : Thread nD τ) 0 W')) -∗ K ⟨⟩))
          ⊢ wp frame (wpE (defs₀ (F := F)) Variants.none c none) Set.univ (cc0_ffn_up_dx_3 i arg1 harg1 (Memref.whole main_v4) (Memref.isWhole_whole _) arg3 harg3 arg4 harg4 cc0_scratch1) K } := by
  refine ⟨?_, ?_, fun W K => ?run⟩
  case run =>
    simp only [cc0_ffn_up_dx_3_eq_skeleton]; unfold cc0_ffn_up_dx_3_skel
    simp only [k0_part1_eq_skeleton]
    unfold owns cells
    iintro ⟨⟨%f0, %hf0, H0⟩, ⟨%d1, %f1, -, H1⟩, ⟨%ds, %fs, -, HS⟩, ⟨Hq0, Hq1, Hq2, Hq3⟩, Hh, HW, Hk⟩
    obtain rfl := harg1.eq_unread hf0
    set_option sl_exec.dmaWindow true in set_option sl_exec.dmaWindowLent true in set_option sl_exec.dmaWindowSet true in sl_exec (disch := first | sl_exact hc)
    sl_step
    iapply Hk
    isplitl [H0]
    · iexists _; isplitr; · ipureintro; exact harg1.read_unread _
      iexact H0
    isplitl [H1]; · iexists _; iexact H1
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

set_option maxHeartbeats 1000000 in
/-- The body at a later point: the scratch is read and left alone. -/
noncomputable def runLater (c : Dev nD) (i : grid0.Coords) (arg1 : Memref sig .tc .vmem S512x5632 .bf16) (harg1 : arg1.IsWhole) (arg3 : Memref sig .tc .vmem S512x1024 .f32) (harg3 : arg3.IsWhole)
    (arg4 : Memref sig .tc .vmem S1024x5632 .bf16) (harg4 : arg4.IsWhole) (hc : ¬cond0_0 i) (x0 : Vec F S512x5632 .bf16) (xs : Vec F S1024x5632 .bf16) (fh : HbBuf0 (F := F) c hbM0_0) :
    Σ' (L1 : List (View.Piece (Elt F) S512x1024 .f32)), { LS : List (View.Piece (Elt F) S1024x5632 .bf16) //
      ∀ (W : Waits sig Unit) (K : PUnit → sProp 𝕄),
        iprop(owns (c : Thread nD τ) arg1 fullShare x0 ∗ (∃ d, owns (c : Thread nD τ) arg3 fullShare d) ∗ owns (c : Thread nD τ) arg4 fullShare xs ∗ cells c ∗ hbPt0 c hbM0_0 fh ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ owns (c : Thread nD τ) arg4 fullShare xs ∗ cells c ∗ hbPt0 c hbM0_0 fh ∗ (∃ W', owes (c : Thread nD τ) 0 W')) -∗ K ⟨⟩))
          ⊢ wp frame (wpE (defs₀ (F := F)) Variants.none c none) Set.univ (cc0_ffn_up_dx_3 i arg1 harg1 (Memref.whole main_v4) (Memref.isWhole_whole _) arg3 harg3 arg4 harg4 cc0_scratch1) K } := by
  refine ⟨?_, [], fun W K => ?run⟩
  case run =>
    simp only [cc0_ffn_up_dx_3_eq_skeleton]; unfold cc0_ffn_up_dx_3_skel
    unfold owns cells
    iintro ⟨⟨%f0, %hf0, H0⟩, ⟨%d1, %f1, -, H1⟩, ⟨%fs, %hfs, HS⟩, ⟨Hq0, Hq1, Hq2, Hq3⟩, Hh, HW, Hk⟩
    obtain rfl := harg1.eq_unread hf0; obtain rfl := harg4.eq_unread hfs
    sl_exec (disch := first | sl_exact hc)
    sl_step
    iapply Hk
    isplitl [H0]
    · iexists _; isplitr; · ipureintro; exact harg1.read_unread _
      iexact H0
    isplitl [H1]; · iexists _; iexact H1
    isplitl [HS]
    · iexists _; isplitr; · ipureintro; exact harg4.read_unread _
      iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

theorem hz2 : (![0, 0] : Fin 2 → Nat) = fun _ => 0 := funext fun a => by fin_cases a <;> rfl

section
variable (c : Dev nD) (i : grid0.Coords) (a1 : Memref sig .tc .vmem S512x5632 .bf16) (h1 : a1.IsWhole) (a3 : Memref sig .tc .vmem S512x1024 .f32) (h3 : a3.IsWhole)
    (a4 : Memref sig .tc .vmem S1024x5632 .bf16) (h4 : a4.IsWhole) (x0 : Vec F S512x5632 .bf16) (xs : Vec F S1024x5632 .bf16) (fh : HbBuf0 (F := F) c hbM0_0)

theorem out_later (hc : ¬cond0_0 i) (f) :
    a3.view.read (Elt F) (a3.view.writes (Elt F) f (runLater c i a1 h1 a3 h3 a4 h4 hc x0 xs fh).1) = k0_pay1 x0 xs := by
  rw [View.read_writes_eq_canon _ _ _ (View.cover_of_tiledL (runLater c i a1 h1 a3 h3 a4 h4 hc x0 xs fh).1 S512x1024.size (by sl_kernel_rfl))]
  unfold runLater
  dsimp only
  rw [View.canon_unit_zero hz2]
  simp only [View.readAt_eq_ld, h1.read_unread, h4.read_unread, View.ld_unit_zero (S := S512x5632) hz2, View.ld_unit_zero (S := S1024x5632) hz2]

theorem out_first (hc : cond0_0 i) (f) :
    a3.view.read (Elt F) (a3.view.writes (Elt F) f (runFirst c i a1 h1 a3 h3 a4 h4 hc x0 fh).1) = k0_pay1 x0 (View.canon (runFirst c i a1 h1 a3 h3 a4 h4 hc x0 fh).2.1) := by
  rw [View.read_writes_eq_canon _ _ _ (View.cover_of_tiledL (runFirst c i a1 h1 a3 h3 a4 h4 hc x0 fh).1 S512x1024.size (by sl_kernel_rfl))]
  unfold runFirst
  dsimp only
  rw [View.canon_unit_zero hz2]
  sl_unfold_words
  simp only [View.readAt_eq_ld, h1.read_unread, View.ld_unit_zero (S := S512x5632) hz2]
  rw [View.readCov_eq_canon']
  exact congrArg (k0_pay1 x0) (View.ld_unit_zero (S := S1024x5632) hz2 _ _)

/-- The weight as the scratch holds it: column k·1408 + j is column j of group k of the buffer's part 2. -/
def staged (fh : HbBuf0 (F := F) c hbM0_0) : Vec F S1024x5632 .bf16 := fun y =>
  fh (ix4 ⟨2, by decide⟩ ⟨(y 1).val / 1408, by have := (y 1).isLt; change (y 1).val < 5632 at this; omega⟩ (y 0) ⟨(y 1).val % 1408, Nat.mod_lt _ (by decide)⟩)

/-- A copy's payload: group k of the buffer. -/
theorem band (k : ℕ) {off : Fin 4 → ℕ} {off' : Fin 2 → ℕ} (inb : ∀ a, off a + (![1, 1, 1024, 1408] : Fin 4 → ℕ) a ≤ S3x4x1024x1408.size a) (inb' : ∀ a, off' a + (![1024, 1408] : Fin 2 → ℕ) a ≤ S1024x5632.size a)
    (h : S1024x1408.numel = (Rect.unit (s := S3x4x1024x1408) off ![1, 1, 1024, 1408] inb).shape.numel) (ho : off = ![2, k, 0, 0] := by rfl) (ho' : off' = ![0, k * 1408] := by rfl) (x : S1024x1408.Idx) :
    ReadAs.same.apply (View.read (Elt F) (((View.whole main_v4).slice (Rect.unit (s := S3x4x1024x1408) off ![1, 1, 1024, 1408] inb)).reshape S1024x1408 h) fh) x
      = staged c fh ((Rect.unit (s := S1024x5632) off' ![1024, 1408] inb').emb x) := by
  subst ho ho'
  have hr : (x 0).val < 1024 := (x 0).isLt
  have hj : (x 1).val < 1408 := (x 1).isLt
  have hk : k + 1 ≤ 4 := inb 1
  have e : Shape.reshapeEquiv h x = (ix4 (⟨0, Nat.one_pos⟩ : Fin 1) (⟨0, Nat.one_pos⟩ : Fin 1) (⟨(x 0).val, hr⟩ : Fin 1024) (⟨(x 1).val, hj⟩ : Fin 1408) : (Rect.unit (s := S3x4x1024x1408) ![2, k, 0, 0] ![1, 1, 1024, 1408] inb).shape.Idx) := by
    apply Shape.reshapeEquiv_eq_of_rowMajor
    refine (Shape.rowMajor_val_four _).trans (Eq.trans ?_ (Shape.rowMajor_val_two _).symm)
    show ((0 * 1 + 0) * 1024 + (x 0).val) * 1408 + (x 1).val = (x 0).val * 1408 + (x 1).val
    omega
  show fh ((Rect.unit (s := S3x4x1024x1408) ![2, k, 0, 0] ![1, 1, 1024, 1408] inb).emb (Shape.reshapeEquiv h x)) = _
  rw [e]
  refine congrArg fh (funext fun a => Fin.ext ?_)
  match a with
  | 0 => rfl
  | 1 => show k + 1 * 0 = (k * 1408 + 1 * (x 1).val) / 1408; omega
  | 2 => show 0 + 1 * (x 0).val = 0 + 1 * (x 0).val; rfl
  | 3 => show 0 + 1 * (x 1).val = (k * 1408 + 1 * (x 1).val) % 1408; omega

theorem first_scratch (hc : cond0_0 i) : ∀ p ∈ (runFirst c i a1 h1 a3 h3 a4 h4 hc x0 fh).2.1, ∀ x : p.1.shape.Idx, p.2 x = staged c fh (p.1.emb x) := by
  unfold runFirst
  dsimp only
  sl_unfold_words
  simp only [List.forall_mem_cons, List.not_mem_nil, false_imp_iff, implies_true, and_true]
  exact ⟨band c fh 3 _ _ _, band c fh 2 _ _ _, band c fh 1 _ _ _, band c fh 0 _ _ _⟩

theorem first_cover (hc : cond0_0 i) : ∀ y : S1024x5632.Idx, ∃ p ∈ (runFirst c i a1 h1 a3 h3 a4 h4 hc x0 fh).2.1, y ∈ p.1.set := by
  unfold runFirst
  dsimp only
  intro y
  simp only [List.exists_mem_cons_iff, List.not_mem_nil, false_and, exists_false, or_false, Rect.mem_set_unit, Fin.forall_fin_two]
  have h0 : (y 0).val < 1024 := (y 0).isLt
  have h1 : (y 1).val < 5632 := (y 1).isLt
  simp
  omega

theorem first_canon (hc : cond0_0 i) : View.canon (runFirst c i a1 h1 a3 h3 a4 h4 hc x0 fh).2.1 = staged c fh :=
  funext fun y => View.canon_apply_of_pieces (Val := Elt F) (staged c fh) _ (first_scratch c i a1 h1 a3 h3 a4 h4 x0 fh hc) y (first_cover c i a1 h1 a3 h3 a4 h4 x0 fh hc y)

end

end Cert.UpDx3Ideal.Prod

end
-- ==== Proof.Prod.UpDx3.Launch.lean ====
module

public import proofs.«01_k».proof.Proof.Prod.UpDx3.Run
public import Idealize.ShloMosaic.Lib.Claim
public import Idealize.ShloMosaic.Lib.Pipeline.Value
public import Idealize.ShloMosaic.Lib.Pipeline.ValueKit
public import Idealize.ShloMosaic.Lib.ValueIdx
public import Idealize.ShloMosaic.Lib.Pointwise

/-! The input gradient of the up projection of layer 3: the call of the kernel, what each of its points leaves, and the frame. -/

@[expose] public section

set_option maxRecDepth 16384

noncomputable section

namespace Cert.UpDx3Ideal.Prod

open Cert.UpDx3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the scratch holds from the first point on. -/
def weight (c : Dev nD) : Vec F S1024x5632 .bf16 := staged c (V m c main_v4)

/-- What holds between two points: before the first one, what the call begins with; afterwards the scratch holds the
weight. -/
def between (c : Dev nD) : ℕ → sProp 𝕄
  | 0 => Pipeline.ΦD osem0 spec0 H0 (V m) c
  | _ + 1 => iprop(owns (c : Thread nD τ) scM0_0 fullShare (weight m c) ∗ (∃ r, prngReg c r) ∗ cells c ∗ hbPt0 c hbM0_0 (V m c main_v4))

theorem between_pos (c : Dev nD) (n : ℕ) (h : n ≠ 0) :
    between m c n = iprop(owns (c : Thread nD τ) scM0_0 fullShare (weight m c) ∗ (∃ r, prngReg c r) ∗ cells c ∗ hbPt0 c hbM0_0 (V m c main_v4)) := by
  cases n with
  | zero => exact absurd rfl h
  | succ n => rfl

/-- What a point leaves in the block of the result: its rows of the cotangent times the weight. -/
def block (c : Dev nD) (t : Fin cfg0.N) : Vec F S512x1024 .f32 := k0_pay1 (iblk m c 0 t) (weight m c)

/-- The data of the call: the block it reads, the block it leaves, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => block m c t
  Φ t := between m c t.val
  q _ := fullShare
  owed _ := 0

theorem A_eq (c : Dev nD) (w : Fin cfg0.W) : (dats m 0 c).A w = V m c (Pipeline.arrRef spec0 w) := by
  dsimp only [dats]

theorem after_read (c : Dev nD) (t : Fin cfg0.N) : (dats m 0 c).after 0 t = iblk m c 0 t := by dsimp only [dats]
theorem after_result (c : Dev nD) (t : Fin cfg0.N) : (dats m 0 c).after 1 t = block m c t := by dsimp only [dats]

theorem before_read (c : Dev nD) (t : Fin cfg0.N) (d) : (dats m 0 c).before 0 t d = iblk m c 0 t :=
  before0_0_of m (dats m 0 c) (A_eq m c 0) (after_read m c) t d

/-- What a point begins with. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What it ends with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- Every point keeps to that: the first fills the scratch, the others find it filled. -/
theorem point (c : Dev nD) (t : Fin cfg0.N) :
    pre m c t ⊢ wp frame (wpE (defs₀ (F := F)) Variants.none c none) Set.univ (bodyAt0 t) (fun _ => post m c t) := by
  unfold pre post bodyAt0
  simp only [before_read]
  rw [show (dats m 0 c).Φ t.succ = between m c (t.val + 1) from rfl, between_pos m c _ (Nat.succ_ne_zero _),
    show (dats m 0 c).Φ t.castSucc = between m c t.val from rfl, after_read, after_result]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases hz : t.val = 0
  · have hc : cond0_0 (grid0.coords t) := (hcond0_0 t).mpr (by omega)
    rw [show between m c t.val = Pipeline.ΦD osem0 spec0 H0 (V m) c by rw [hz]; rfl, PhiD0_eq]
    iintro ⟨⟨HS, Hg, Hq, Hh⟩, ⟨%W, -, HW⟩, ⟨%d0, H0⟩, ⟨%d1, H1⟩⟩
    iapply ((runFirst c (grid0.coords t) (ms0_0 t) (hs0_0 t) (ms0_1 t) (hs0_1 t) scM0_0 (Memref.isWhole_whole _) hc (iblk m c 0 t) (V m c main_v4)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, ⟨%es, HS⟩, Hq, Hh, ⟨%W', HW'⟩⟩
    isplitl [HS Hg Hq Hh]
    · isplitl [HS]
      · unfold owns; iexists _; isplitr
        swap; · iexact HS
        ipureintro
        exact (View.read_writes_eq_canon _ _ _ (first_cover c _ _ _ _ _ _ _ _ _ hc)).trans (first_canon c _ _ _ _ _ _ _ _ _ hc)
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact (out_first c _ _ _ _ _ _ _ _ _ hc _).trans (congrArg (k0_pay1 (iblk m c 0 t)) (first_canon c _ _ _ _ _ _ _ _ _ hc))
  · have hc : ¬cond0_0 (grid0.coords t) := fun h => by have := (hcond0_0 t).mp h; omega
    rw [between_pos m c _ hz]
    iintro ⟨⟨HS, Hg, Hq, Hh⟩, ⟨%W, -, HW⟩, ⟨%d0, H0⟩, ⟨%d1, H1⟩⟩
    iapply ((runLater c (grid0.coords t) (ms0_0 t) (hs0_0 t) (ms0_1 t) (hs0_1 t) scM0_0 (Memref.isWhole_whole _) hc (iblk m c 0 t) (weight m c) (V m c main_v4)).2.2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    unfold owns; iexists _; isplitr
    swap; · iexact H1
    ipureintro
    exact out_later c _ _ _ _ _ _ _ _ _ _ hc _

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem enter (c : Dev nD) : Pipeline.ΦD osem0 spec0 H0 (V m) c ⊢ (dats m 0 c).Φ 0 := by
  rw [show (dats m 0 c).Φ 0 = Pipeline.ΦD osem0 spec0 H0 (V m) c from rfl]

theorem leave (c : Dev nD) : (dats m 0 c).Φ (Fin.last cfg0.N) ⊢ Pipeline.ΦD osem0 spec0 H0 (V m) c := by
  rw [show (dats m 0 c).Φ (Fin.last cfg0.N) = between m c (Fin.last cfg0.N).val from rfl,
    between_pos m c _ (by rw [Fin.val_last]; have : cfg0.N = 32 := N_0; omega), PhiD0_eq]
  iintro ⟨HS, Hg, Hq, Hh⟩
  isplitl [HS]; · iexists _; iexact HS
  isplitl [Hg]; · iexact Hg
  isplitl [Hq]; · iexact Hq
  iexact Hh

set_option backward.isDefEq.respectTransparency.types false in
/-- Every execution ends, with each array of the call at what the data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The frame: every execution ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.UpDx3Ideal.Prod

end
-- ==== Proof.Prod.UpDx3.lean ====
module

public import proofs.«01_k».proof.Defs
public import proofs.«01_k».proof.Proof.Gen.UpDx3
public import proofs.«01_k».proof.Proof.Gen.UpDx3RefIdeal.Run
public import proofs.«01_k».proof.Proof.Gen.UpDx3RefIdeal.Read
public import proofs.«01_k».proof.Proof.Prod.UpDx3.Launch
public import Idealize.ShloMosaic.Lib.Pipeline.ValueKit
public import Idealize.ShloMosaic.Lib.Pointwise
public import Idealize.ShloMosaic.Lib.StableHlo.RunRead
public import Idealize.ShloMosaic.Lib.Quiescent

/-! The input gradient of the up projection of layer 3, with the weight in an array of three: every entry is the sum over all columns of the cotangent times the weight. The kernel
copies the weight into its scratch in four bands of columns and multiplies each block of rows by it. -/

@[expose] public section

set_option maxRecDepth 16384

noncomputable section

namespace Cert.UpDx3Ideal.Prod

open Cert.UpDx3Ideal.Gen
open Idealize.ShloMosaic Idealize.ShloMosaic.TcCoe Idealize.ShloMosaic.StableHlo Idealize.SL.Sem

variable (m : (ℓ : Loc nD τ sig) → Buf (Elt Ideal) ℓ)

abbrev arg1 (c : Dev nD) : (⟨S3x1024x5632, .f32⟩ : BufTy).Contents (Elt Ideal) := m ((c : Thread nD τ).loc main_arg1)
abbrev arg2 (c : Dev nD) : (⟨S1x16384x5632, .f32⟩ : BufTy).Contents (Elt Ideal) := m ((c : Thread nD τ).loc main_arg2)

/-- The gradient at row `T` and channel `i`. -/
def dx (w : (⟨S3x1024x5632, .f32⟩ : BufTy).Contents (Elt Ideal)) (ct : (⟨S1x16384x5632, .f32⟩ : BufTy).Contents (Elt Ideal)) (T : Fin 16384) (i : Fin 1024) : EReal :=
  ∑ k : Fin 5632, ct (ix3 0 T k) * w (ix3 2 i k)

/-- The cotangent as the region finds it, -/
def arr0 (c : Dev nD) : FVec Ideal S16384x5632 .bf16 := V m c main_v1
/-- and the weight, cut into four groups of columns. -/
def arrW (c : Dev nD) : FVec Ideal S3x4x1024x1408 .bf16 := V m c main_v4

theorem arr0_apply (c : Dev nD) (T : Fin 16384) (k : Fin 5632) : arr0 m c (ix2 T k) = arg2 m c (ix3 0 T k) := by
  have e : arr0 m c = truncf .bf16 (shapeCast S16384x5632 (arg2 m c) shapeCasts_S1x16384x5632_S16384x5632) bitsLt_bf16_f32 := by
    unfold arr0 V
    after_reads_simp
    rfl
  rw [e]
  pointwise

theorem arrW_apply (c : Dev nD) (n : Fin 4) (i : Fin 1024) (j : Fin 1408) (k : Fin 5632) (hk : k.val = n.val * 1408 + j.val) : arrW m c (ix4 2 n i j) = arg1 m c (ix3 2 i k) := by
  have e : arrW m c = truncf .bf16 (transpose S3x4x1024x1408 [0, 2, 1, 3] (shapeCast S3x1024x4x1408 (arg1 m c) shapeCasts_S3x1024x5632_S3x1024x4x1408) transposes_S3x1024x4x1408_S3x4x1024x1408_0_2_1_3) bitsLt_bf16_f32 := by
    unfold arrW V
    after_reads_simp
    rfl
  rw [e, show k = ⟨n.val * 1408 + j.val, by omega⟩ from Fin.ext hk]
  pointwise

/-- The scratch holds the weight itself. -/
theorem weight_apply (c : Dev nD) (i : Fin 1024) (k : Fin 5632) : weight m c (ix2 i k) = arg1 m c (ix3 2 i k) :=
  arrW_apply m c ⟨k.val / 1408, by omega⟩ i ⟨k.val % 1408, Nat.mod_lt _ (by decide)⟩ k (by show k.val = k.val / 1408 * 1408 + k.val % 1408; omega)

theorem idx_val : ∀ t : Fin cfg0.N, win0_0.index t = ![t.val, 0] ∧ win0_1.index t = ![t.val, 0] :=
  (by decide +kernel : ∀ t : Fin grid0.N, win0_0.index t = ![t.val, 0] ∧ win0_1.index t = ![t.val, 0])

theorem lt_32 (t : Fin cfg0.N) : t.val < 32 := lt_of_lt_of_eq t.isLt (show cfg0.N = 32 from N_0)

/-- The row of the whole array that is row `r` of the blocks of point `t`. -/
def rowOf (t : Fin cfg0.N) (r : Fin 512) : Fin 16384 := ⟨512 * t.val + r.val, by have := lt_32 t; omega⟩

theorem emb0 (t : Fin cfg0.N) (r : Fin 512) (k : Fin 5632) : ((cfg0.win 0).blk t).view.emb (ix2 r k) = ix2 (rowOf t r) k := by blk_ext [idx_val t, rowOf]
theorem emb1 (t : Fin cfg0.N) (r : Fin 512) (i : Fin 1024) : (win0_1.blk t).view.emb (ix2 r i) = ix2 (rowOf t r) i := by blk_ext [idx_val t, rowOf]

theorem blk0_apply (c : Dev nD) (t : Fin cfg0.N) (r : Fin 512) (k : Fin 5632) : iblk m c 0 t (ix2 r k) = arr0 m c (ix2 (rowOf t r) k) :=
  congrArg (arr0 m c) (emb0 t r k)

theorem pay_apply (x0 : FVec Ideal S512x5632 .bf16) (x1 : FVec Ideal S1024x5632 .bf16) (r : Fin 512) (i : Fin 1024) :
    k0_pay1 (F := Ideal) x0 x1 (ix2 r i) = ∑ k : Fin 5632, x0 (ix2 r k) * x1 (ix2 i k) := by
  unfold k0_pay1
  pointwise

theorem block_apply (c : Dev nD) (t : Fin cfg0.N) (r : Fin 512) (i : Fin 1024) : block m c t (ix2 r i) = dx (arg1 m c) (arg2 m c) (rowOf t r) i := by
  unfold block dx
  rw [pay_apply]
  refine Finset.sum_congr rfl fun k _ => ?_
  rw [blk0_apply, arr0_apply, weight_apply]

theorem final (c : Dev nD) : (dats m 0 c).arrAt 1 cfg0.N = fun y => dx (arg1 m c) (arg2 m c) (y 0) (y 1) := by
  refine (dats m 0 c).arrAt_eq_of_covers 1 _ (by decide +kernel) fun t hf y => ?_
  blk_simp
  rw [after_result]
  obtain ⟨r, i, rfl⟩ : ∃ (r : Fin 512) (i : Fin 1024), y = ix2 r i := ⟨y 0, y 1, eq_ix2 y⟩
  rw [emb1, block_apply]
  rfl

theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(h.rest_eq c main_arg0 (Pipeline.mem_restRefs_of main_arg0 (by decide) (by decide))).trans (V_main_arg0 m c), (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c)⟩

end Cert.UpDx3Ideal.Prod

namespace Cert.UpDx3.Claims

open Idealize.ShloMosaic Idealize.ShloMosaic.TcCoe Idealize.SL.Sem

set_option maxHeartbeats 4000000 in
/-- The kernel as printed and the kernel over the extended reals have the same text, so one run serves both. -/
theorem bodies_eq {F : FTy → Type} [FloatOps F] : Cert.UpDx3.defs₀ (F := F) = Cert.UpDx3Ideal.defs₀ (F := F) := by
  unfold Cert.UpDx3.defs₀ Cert.UpDx3Ideal.defs₀
  refine congrArg Defs.onTc ?_
  funext l x
  match l, x with
  | 0, (t, s) => rfl

set_option maxHeartbeats 4000000 in
theorem defs_eq {F : FTy → Type} [FloatOps F] : Cert.UpDx3.defs (F := F) = Cert.UpDx3Ideal.defs (F := F) := by
  unfold Cert.UpDx3.defs Cert.UpDx3Ideal.defs
  exact congrArg (Pipeline.defs Cert.UpDx3Ideal.pcfgs) bodies_eq

set_option maxHeartbeats 4000000 in
theorem main_eq {F : FTy → Type} [FloatOps F] : Cert.UpDx3.main (F := F) = Cert.UpDx3Ideal.main (F := F) := by
  unfold Cert.UpDx3.main Cert.UpDx3Ideal.main
  rfl

theorem frame_kernel : Cert.quiescent_UpDx3 := by
  intro m ρ _
  have h := Cert.UpDx3Ideal.Prod.frame (F := Bits) m ρ
  rw [← defs_eq, ← main_eq] at h
  exact h

theorem frame_ideal : Cert.quiescent_UpDx3Ideal := fun m ρ _ => Cert.UpDx3Ideal.Prod.frame m ρ

theorem frame_reference : Cert.quiescent_UpDx3RefIdeal := fun m ρ _ =>
  (θ_run Cert.UpDx3RefIdeal.defs _ _).mono (fun r h => ⟨fun c => (h c).2, sem_eq_zero_of_no_sems (by decide) r.2⟩)
    (Cert.UpDx3RefIdeal.Value.run (F := Ideal) m ρ)

/-- The reference's result. -/
theorem reference (w : (⟨Cert.UpDx3RefIdeal.S3x1024x5632, .f32⟩ : BufTy).Contents (Elt Ideal)) (ct : (⟨Cert.UpDx3RefIdeal.S1x16384x5632, .f32⟩ : BufTy).Contents (Elt Ideal)) :
    Cert.UpDx3RefIdeal.Read.val_main_v6 (F := Ideal) w ct = fun y => Cert.UpDx3Ideal.Prod.dx w ct (y 0) (y 1) := by
  funext y
  obtain ⟨T, i, rfl⟩ : ∃ (T : Fin 16384) (i : Fin 1024), y = ix2 T i := ⟨y 0, y 1, eq_ix2 y⟩
  unfold Cert.UpDx3Ideal.Prod.dx Cert.UpDx3RefIdeal.Read.val_main_v6 Cert.UpDx3RefIdeal.Read.val_main_v5 Cert.UpDx3RefIdeal.Read.val_main_v1 Cert.UpDx3RefIdeal.Read.val_main_v0
  pointwise

theorem algebraic : Cert.algebraic_UpDx3Ideal_UpDx3RefIdeal := by
  intro m ρ m' ρ' _ hagree
  refine ⟨fun c => fun y => Cert.UpDx3Ideal.Prod.dx (Cert.UpDx3Ideal.Prod.arg1 m c) (Cert.UpDx3Ideal.Prod.arg2 m c) (y 0) (y 1), ?_, ?_⟩
  · refine (θ_run Cert.UpDx3Ideal.defs _ _).mono (fun r h c => ?_) (Cert.UpDx3Ideal.Prod.run_main (F := Ideal) m ρ)
    exact ⟨(h.out_eq c 1).trans (Cert.UpDx3Ideal.Prod.final m c), Cert.UpDx3Ideal.Prod.args_kept m r h c⟩
  · refine (θ_run Cert.UpDx3RefIdeal.defs _ _).mono (fun r h c => ?_) (Cert.UpDx3RefIdeal.Value.run (F := Ideal) m' ρ')
    obtain ⟨_, a1, a2⟩ := hagree c
    refine ⟨(h c).1.trans ?_, (h c).2⟩
    rw [a1, a2]
    exact reference _ _

end Cert.UpDx3.Claims

end
-- ==== Proof.Adam.Step.lean ====
module

public import Idealize.ShloMosaic.Lib.Pipeline.ValueKit
public import Idealize.ShloMosaic.Lib.Pointwise

/-! One step of the optimiser at one entry of a weight, from the weight `w`, its gradient `g` and the two
averages `a` and `b` of the gradient and of its square. -/

@[expose] public section

noncomputable section

namespace Cert.Adam

open Idealize.ShloMosaic

/-- The new average of the gradient. -/
def mean (g a : Ideal .f32) : Ideal .f32 :=
  FloatOps.addf (FloatOps.mulf (FloatOps.ofBits .f32 0x3F666666#32) a) (FloatOps.mulf (FloatOps.ofBits .f32 0x3DCCCCCD#32) g)

/-- The new average of its square. -/
def square (g b : Ideal .f32) : Ideal .f32 :=
  FloatOps.addf (FloatOps.mulf (FloatOps.ofBits .f32 0x3F7FBE77#32) b)
    (FloatOps.mulf (FloatOps.ofBits .f32 0x3A83126F#32) (FloatOps.mulf g g))

/-- The change of the weight: the quotient of the corrected averages and the decay of the weight, times the rate. -/
def delta (w g a b : Ideal .f32) : Ideal .f32 :=
  FloatOps.mulf (FloatOps.ofBits .f32 0xBA83126F#32)
    (FloatOps.addf
      (FloatOps.divf (FloatOps.divf (mean g a) (FloatOps.ofBits .f32 0x3F26BD02#32))
        (FloatOps.addf (FloatOps.sqrt (FloatOps.divf (square g b) (FloatOps.ofBits .f32 0x3C231ACC#32)))
          (FloatOps.ofBits .f32 0x322BCC77#32)))
      (FloatOps.mulf (FloatOps.ofBits .f32 0x3C23D70A#32) w))

end Cert.Adam

end
-- ==== Proof.Adam.Mod.lean ====
module

public import proofs.«01_k».proof.Defs
public import proofs.«01_k».proof.Proof.Adam.Step
public import proofs.«01_k».proof.Proof.Gen.AdamMod.Frame
public import proofs.«01_k».proof.Proof.Gen.AdamModIdeal.Value
public import proofs.«01_k».proof.Proof.Gen.AdamModRefIdeal.Run
public import Idealize.ShloMosaic.Lib.StableHlo.RunRead
public import Idealize.ShloMosaic.Lib.Quiescent

/-! The optimiser's call for the projection of the conditioning (`w_mod`): every entry of its three results is the step of that entry. -/

@[expose] public section

set_option maxRecDepth 16384

noncomputable section

namespace Cert.AdamModIdeal.Adam

open Cert.AdamModIdeal.Gen
open Idealize.ShloMosaic Idealize.ShloMosaic.TcCoe Idealize.ShloMosaic.StableHlo Idealize.SL.Sem

variable (m : (ℓ : Loc nD τ sig) → Buf (Elt Ideal) ℓ) (c : Dev nD)

/-- The weight, the gradient and the two averages as the region finds them: the arguments in rows. -/
def arr (i : Fin 4) : FVec Ideal S4096x1536 .f32 := ![V m c main_v0, V m c main_v1, V m c main_v2, V m c main_v3] i

theorem arr_eq : arr m c = ![shapeCast _ (m ((c : Thread nD τ).loc main_arg0)) shapeCasts_S4x1024x1536_S4096x1536, shapeCast _ (m ((c : Thread nD τ).loc main_arg1)) shapeCasts_S4x1024x1536_S4096x1536, shapeCast _ (m ((c : Thread nD τ).loc main_arg2)) shapeCasts_S4x1024x1536_S4096x1536, shapeCast _ (m ((c : Thread nD τ).loc main_arg3)) shapeCasts_S4x1024x1536_S4096x1536] := by
  unfold arr V
  after_reads_simp
  rfl

theorem mean_apply (g a : Vec Ideal S128x1536 .f32) (y : S128x1536.Idx) : k0_pay2 (F := Ideal) g a y = Cert.Adam.mean (g y) (a y) := by
  simp only [k0_pay2, k0_pay1, shapeCast_id]
  rfl
theorem square_apply (g b : Vec Ideal S128x1536 .f32) (y : S128x1536.Idx) : k0_pay3 (F := Ideal) g b y = Cert.Adam.square (g y) (b y) := by
  simp only [k0_pay3, k0_pay1, shapeCast_id]
  rfl
theorem delta_apply (g a b w : Vec Ideal S128x1536 .f32) (y : S128x1536.Idx) :
    k0_pay4 (F := Ideal) g a b w y = Cert.Adam.delta (w y) (g y) (a y) (b y) := by
  rw [Cert.Adam.delta, ← mean_apply, ← square_apply]
  simp only [k0_pay4, shapeCast_id]
  rfl

theorem hz : (![0, 0] : Fin 2 → Nat) = fun _ => 0 := funext fun a => by fin_cases a <;> rfl

theorem final4 : (dats m 0 c).arrAt 4 cfg0.N = fun i => Cert.Adam.delta (arr m c 0 i) (arr m c 1 i) (arr m c 2 i) (arr m c 3 i) := by
  refine (dats m 0 c).arrAt_eq_of_covers 4 _ (by decide +kernel) fun t hf y => ?_
  blk_simp
  rw [after0_4, out0_4, View.canon_unit_zero hz]
  simp only [View.ld_unit_zero (S := S128x1536) hz]
  exact delta_apply _ _ _ _ y
theorem final5 : (dats m 0 c).arrAt 5 cfg0.N = fun i => Cert.Adam.mean (arr m c 1 i) (arr m c 2 i) := by
  refine (dats m 0 c).arrAt_eq_of_covers 5 _ (by decide +kernel) fun t hf y => ?_
  blk_simp
  rw [after0_5, out0_5, View.canon_unit_zero hz]
  simp only [View.ld_unit_zero (S := S128x1536) hz]
  exact mean_apply _ _ y
theorem final6 : (dats m 0 c).arrAt 6 cfg0.N = fun i => Cert.Adam.square (arr m c 1 i) (arr m c 3 i) := by
  refine (dats m 0 c).arrAt_eq_of_covers 6 _ (by decide +kernel) fun t hf y => ?_
  blk_simp
  rw [after0_6, out0_6, View.canon_unit_zero hz]
  simp only [View.ld_unit_zero (S := S128x1536) hz]
  exact square_apply _ _ y

end Cert.AdamModIdeal.Adam

namespace Cert.AdamMod.Claims

open Idealize.ShloMosaic Idealize.ShloMosaic.TcCoe Idealize.SL.Sem

theorem frame_kernel : Cert.quiescent_AdamMod := fun m ρ _ => Cert.AdamMod.Gen.frame m ρ
theorem frame_ideal : Cert.quiescent_AdamModIdeal := fun m ρ _ => Cert.AdamModIdeal.Gen.frame m ρ
theorem frame_reference : Cert.quiescent_AdamModRefIdeal := fun m ρ _ =>
  (θ_run Cert.AdamModRefIdeal.defs _ _).mono (fun r h => ⟨fun c => (h c).2.2.2, sem_eq_zero_of_no_sems (by decide) r.2⟩)
    (Cert.AdamModRefIdeal.Value.run (F := Ideal) m ρ)

open Cert.AdamModIdeal.Adam in
theorem algebraic : Cert.algebraic_AdamModIdeal_AdamModRefIdeal := by
  intro m ρ m' ρ' _ hagree
  refine ⟨fun c i => Cert.Adam.delta (arr m c 0 i) (arr m c 1 i) (arr m c 2 i) (arr m c 3 i), fun c i => Cert.Adam.mean (arr m c 1 i) (arr m c 2 i),
    fun c i => Cert.Adam.square (arr m c 1 i) (arr m c 3 i), ?_, ?_⟩
  · refine (θ_run Cert.AdamModIdeal.defs _ _).mono (fun r h c => ?_) (Cert.AdamModIdeal.Value.run_blocks (F := Ideal) m ρ)
    exact ⟨(h c).1.trans (final4 m c), (h c).2.1.trans (final5 m c), (h c).2.2.1.trans (final6 m c), (h c).2.2.2⟩
  · refine (θ_run Cert.AdamModRefIdeal.defs _ _).mono (fun r h c => ?_) (Cert.AdamModRefIdeal.Value.run (F := Ideal) m' ρ')
    obtain ⟨a0, a1, a2, a3⟩ := hagree c
    refine ⟨(h c).1.trans ?_, (h c).2.1.trans ?_, (h c).2.2.1.trans ?_, (h c).2.2.2⟩ <;>
    · simp only [arr_eq, a0, a1, a2, a3]
      rfl

end Cert.AdamMod.Claims

end
-- ==== Proof.Adam.ScIn.lean ====
module

public import proofs.«01_k».proof.Defs
public import proofs.«01_k».proof.Proof.Adam.Step
public import proofs.«01_k».proof.Proof.Gen.AdamScIn.Frame
public import proofs.«01_k».proof.Proof.Gen.AdamScInIdeal.Value
public import proofs.«01_k».proof.Proof.Gen.AdamScInRefIdeal.Run
public import Idealize.ShloMosaic.Lib.StableHlo.RunRead
public import Idealize.ShloMosaic.Lib.Quiescent

/-! The optimiser's call for the short convolution mixers' first projections (`sc_w_in`): every entry of its three results is the step of that entry. -/

@[expose] public section

set_option maxRecDepth 16384

noncomputable section

namespace Cert.AdamScInIdeal.Adam

open Cert.AdamScInIdeal.Gen
open Idealize.ShloMosaic Idealize.ShloMosaic.TcCoe Idealize.ShloMosaic.StableHlo Idealize.SL.Sem

variable (m : (ℓ : Loc nD τ sig) → Buf (Elt Ideal) ℓ) (c : Dev nD)

/-- The weight, the gradient and the two averages as the region finds them: the arguments in rows. -/
def arr (i : Fin 4) : FVec Ideal S2048x768 .f32 := ![V m c main_v0, V m c main_v1, V m c main_v2, V m c main_v3] i

theorem arr_eq : arr m c = ![shapeCast _ (m ((c : Thread nD τ).loc main_arg0)) shapeCasts_S2x1024x768_S2048x768, shapeCast _ (m ((c : Thread nD τ).loc main_arg1)) shapeCasts_S2x1024x768_S2048x768, shapeCast _ (m ((c : Thread nD τ).loc main_arg2)) shapeCasts_S2x1024x768_S2048x768, shapeCast _ (m ((c : Thread nD τ).loc main_arg3)) shapeCasts_S2x1024x768_S2048x768] := by
  unfold arr V
  after_reads_simp
  rfl

theorem mean_apply (g a : Vec Ideal S256x768 .f32) (y : S256x768.Idx) : k0_pay2 (F := Ideal) g a y = Cert.Adam.mean (g y) (a y) := by
  simp only [k0_pay2, k0_pay1, shapeCast_id]
  rfl
theorem square_apply (g b : Vec Ideal S256x768 .f32) (y : S256x768.Idx) : k0_pay3 (F := Ideal) g b y = Cert.Adam.square (g y) (b y) := by
  simp only [k0_pay3, k0_pay1, shapeCast_id]
  rfl
theorem delta_apply (g a b w : Vec Ideal S256x768 .f32) (y : S256x768.Idx) :
    k0_pay4 (F := Ideal) g a b w y = Cert.Adam.delta (w y) (g y) (a y) (b y) := by
  rw [Cert.Adam.delta, ← mean_apply, ← square_apply]
  simp only [k0_pay4, shapeCast_id]
  rfl

theorem hz : (![0, 0] : Fin 2 → Nat) = fun _ => 0 := funext fun a => by fin_cases a <;> rfl

theorem final4 : (dats m 0 c).arrAt 4 cfg0.N = fun i => Cert.Adam.delta (arr m c 0 i) (arr m c 1 i) (arr m c 2 i) (arr m c 3 i) := by
  refine (dats m 0 c).arrAt_eq_of_covers 4 _ (by decide +kernel) fun t hf y => ?_
  blk_simp
  rw [after0_4, out0_4, View.canon_unit_zero hz]
  simp only [View.ld_unit_zero (S := S256x768) hz]
  exact delta_apply _ _ _ _ y
theorem final5 : (dats m 0 c).arrAt 5 cfg0.N = fun i => Cert.Adam.mean (arr m c 1 i) (arr m c 2 i) := by
  refine (dats m 0 c).arrAt_eq_of_covers 5 _ (by decide +kernel) fun t hf y => ?_
  blk_simp
  rw [after0_5, out0_5, View.canon_unit_zero hz]
  simp only [View.ld_unit_zero (S := S256x768) hz]
  exact mean_apply _ _ y
theorem final6 : (dats m 0 c).arrAt 6 cfg0.N = fun i => Cert.Adam.square (arr m c 1 i) (arr m c 3 i) := by
  refine (dats m 0 c).arrAt_eq_of_covers 6 _ (by decide +kernel) fun t hf y => ?_
  blk_simp
  rw [after0_6, out0_6, View.canon_unit_zero hz]
  simp only [View.ld_unit_zero (S := S256x768) hz]
  exact square_apply _ _ y

end Cert.AdamScInIdeal.Adam

namespace Cert.AdamScIn.Claims

open Idealize.ShloMosaic Idealize.ShloMosaic.TcCoe Idealize.SL.Sem

theorem frame_kernel : Cert.quiescent_AdamScIn := fun m ρ _ => Cert.AdamScIn.Gen.frame m ρ
theorem frame_ideal : Cert.quiescent_AdamScInIdeal := fun m ρ _ => Cert.AdamScInIdeal.Gen.frame m ρ
theorem frame_reference : Cert.quiescent_AdamScInRefIdeal := fun m ρ _ =>
  (θ_run Cert.AdamScInRefIdeal.defs _ _).mono (fun r h => ⟨fun c => (h c).2.2.2, sem_eq_zero_of_no_sems (by decide) r.2⟩)
    (Cert.AdamScInRefIdeal.Value.run (F := Ideal) m ρ)

open Cert.AdamScInIdeal.Adam in
theorem algebraic : Cert.algebraic_AdamScInIdeal_AdamScInRefIdeal := by
  intro m ρ m' ρ' _ hagree
  refine ⟨fun c i => Cert.Adam.delta (arr m c 0 i) (arr m c 1 i) (arr m c 2 i) (arr m c 3 i), fun c i => Cert.Adam.mean (arr m c 1 i) (arr m c 2 i),
    fun c i => Cert.Adam.square (arr m c 1 i) (arr m c 3 i), ?_, ?_⟩
  · refine (θ_run Cert.AdamScInIdeal.defs _ _).mono (fun r h c => ?_) (Cert.AdamScInIdeal.Value.run_blocks (F := Ideal) m ρ)
    exact ⟨(h c).1.trans (final4 m c), (h c).2.1.trans (final5 m c), (h c).2.2.1.trans (final6 m c), (h c).2.2.2⟩
  · refine (θ_run Cert.AdamScInRefIdeal.defs _ _).mono (fun r h c => ?_) (Cert.AdamScInRefIdeal.Value.run (F := Ideal) m' ρ')
    obtain ⟨a0, a1, a2, a3⟩ := hagree c
    refine ⟨(h c).1.trans ?_, (h c).2.1.trans ?_, (h c).2.2.1.trans ?_, (h c).2.2.2⟩ <;>
    · simp only [arr_eq, a0, a1, a2, a3]
      rfl

end Cert.AdamScIn.Claims

end
-- ==== Proof.Adam.ScOut.lean ====
module

public import proofs.«01_k».proof.Defs
public import proofs.«01_k».proof.Proof.Adam.Step
public import proofs.«01_k».proof.Proof.Gen.AdamScOut.Frame
public import proofs.«01_k».proof.Proof.Gen.AdamScOutIdeal.Value
public import proofs.«01_k».proof.Proof.Gen.AdamScOutRefIdeal.Run
public import Idealize.ShloMosaic.Lib.StableHlo.RunRead
public import Idealize.ShloMosaic.Lib.Quiescent

/-! The optimiser's call for the short convolution mixers' last projections (`sc_w_out`): every entry of its three results is the step of that entry. -/

@[expose] public section

set_option maxRecDepth 16384

noncomputable section

namespace Cert.AdamScOutIdeal.Adam

open Cert.AdamScOutIdeal.Gen
open Idealize.ShloMosaic Idealize.ShloMosaic.TcCoe Idealize.ShloMosaic.StableHlo Idealize.SL.Sem

variable (m : (ℓ : Loc nD τ sig) → Buf (Elt Ideal) ℓ) (c : Dev nD)

/-- The weight, the gradient and the two averages as the region finds them: the arguments in rows. -/
def arr (i : Fin 4) : FVec Ideal S512x1024 .f32 := ![V m c main_v0, V m c main_v1, V m c main_v2, V m c main_v3] i

theorem arr_eq : arr m c = ![shapeCast _ (m ((c : Thread nD τ).loc main_arg0)) shapeCasts_S2x256x1024_S512x1024, shapeCast _ (m ((c : Thread nD τ).loc main_arg1)) shapeCasts_S2x256x1024_S512x1024, shapeCast _ (m ((c : Thread nD τ).loc main_arg2)) shapeCasts_S2x256x1024_S512x1024, shapeCast _ (m ((c : Thread nD τ).loc main_arg3)) shapeCasts_S2x256x1024_S512x1024] := by
  unfold arr V
  after_reads_simp
  rfl

theorem mean_apply (g a : Vec Ideal S256x1024 .f32) (y : S256x1024.Idx) : k0_pay2 (F := Ideal) g a y = Cert.Adam.mean (g y) (a y) := by
  simp only [k0_pay2, k0_pay1, shapeCast_id]
  rfl
theorem square_apply (g b : Vec Ideal S256x1024 .f32) (y : S256x1024.Idx) : k0_pay3 (F := Ideal) g b y = Cert.Adam.square (g y) (b y) := by
  simp only [k0_pay3, k0_pay1, shapeCast_id]
  rfl
theorem delta_apply (g a b w : Vec Ideal S256x1024 .f32) (y : S256x1024.Idx) :
    k0_pay4 (F := Ideal) g a b w y = Cert.Adam.delta (w y) (g y) (a y) (b y) := by
  rw [Cert.Adam.delta, ← mean_apply, ← square_apply]
  simp only [k0_pay4, shapeCast_id]
  rfl

theorem hz : (![0, 0] : Fin 2 → Nat) = fun _ => 0 := funext fun a => by fin_cases a <;> rfl

theorem final4 : (dats m 0 c).arrAt 4 cfg0.N = fun i => Cert.Adam.delta (arr m c 0 i) (arr m c 1 i) (arr m c 2 i) (arr m c 3 i) := by
  refine (dats m 0 c).arrAt_eq_of_covers 4 _ (by decide +kernel) fun t hf y => ?_
  blk_simp
  rw [after0_4, out0_4, View.canon_unit_zero hz]
  simp only [View.ld_unit_zero (S := S256x1024) hz]
  exact delta_apply _ _ _ _ y
theorem final5 : (dats m 0 c).arrAt 5 cfg0.N = fun i => Cert.Adam.mean (arr m c 1 i) (arr m c 2 i) := by
  refine (dats m 0 c).arrAt_eq_of_covers 5 _ (by decide +kernel) fun t hf y => ?_
  blk_simp
  rw [after0_5, out0_5, View.canon_unit_zero hz]
  simp only [View.ld_unit_zero (S := S256x1024) hz]
  exact mean_apply _ _ y
theorem final6 : (dats m 0 c).arrAt 6 cfg0.N = fun i => Cert.Adam.square (arr m c 1 i) (arr m c 3 i) := by
  refine (dats m 0 c).arrAt_eq_of_covers 6 _ (by decide +kernel) fun t hf y => ?_
  blk_simp
  rw [after0_6, out0_6, View.canon_unit_zero hz]
  simp only [View.ld_unit_zero (S := S256x1024) hz]
  exact square_apply _ _ y

end Cert.AdamScOutIdeal.Adam

namespace Cert.AdamScOut.Claims

open Idealize.ShloMosaic Idealize.ShloMosaic.TcCoe Idealize.SL.Sem

theorem frame_kernel : Cert.quiescent_AdamScOut := fun m ρ _ => Cert.AdamScOut.Gen.frame m ρ
theorem frame_ideal : Cert.quiescent_AdamScOutIdeal := fun m ρ _ => Cert.AdamScOutIdeal.Gen.frame m ρ
theorem frame_reference : Cert.quiescent_AdamScOutRefIdeal := fun m ρ _ =>
  (θ_run Cert.AdamScOutRefIdeal.defs _ _).mono (fun r h => ⟨fun c => (h c).2.2.2, sem_eq_zero_of_no_sems (by decide) r.2⟩)
    (Cert.AdamScOutRefIdeal.Value.run (F := Ideal) m ρ)

open Cert.AdamScOutIdeal.Adam in
theorem algebraic : Cert.algebraic_AdamScOutIdeal_AdamScOutRefIdeal := by
  intro m ρ m' ρ' _ hagree
  refine ⟨fun c i => Cert.Adam.delta (arr m c 0 i) (arr m c 1 i) (arr m c 2 i) (arr m c 3 i), fun c i => Cert.Adam.mean (arr m c 1 i) (arr m c 2 i),
    fun c i => Cert.Adam.square (arr m c 1 i) (arr m c 3 i), ?_, ?_⟩
  · refine (θ_run Cert.AdamScOutIdeal.defs _ _).mono (fun r h c => ?_) (Cert.AdamScOutIdeal.Value.run_blocks (F := Ideal) m ρ)
    exact ⟨(h c).1.trans (final4 m c), (h c).2.1.trans (final5 m c), (h c).2.2.1.trans (final6 m c), (h c).2.2.2⟩
  · refine (θ_run Cert.AdamScOutRefIdeal.defs _ _).mono (fun r h c => ?_) (Cert.AdamScOutRefIdeal.Value.run (F := Ideal) m' ρ')
    obtain ⟨a0, a1, a2, a3⟩ := hagree c
    refine ⟨(h c).1.trans ?_, (h c).2.1.trans ?_, (h c).2.2.1.trans ?_, (h c).2.2.2⟩ <;>
    · simp only [arr_eq, a0, a1, a2, a3]
      rfl

end Cert.AdamScOut.Claims

end
-- ==== Proof.Adam.Pool.lean ====
module

public import proofs.«01_k».proof.Defs
public import proofs.«01_k».proof.Proof.Adam.Step
public import proofs.«01_k».proof.Proof.Gen.AdamPool.Frame
public import proofs.«01_k».proof.Proof.Gen.AdamPoolIdeal.Value
public import proofs.«01_k».proof.Proof.Gen.AdamPoolRefIdeal.Run
public import Idealize.ShloMosaic.Lib.StableHlo.RunRead
public import Idealize.ShloMosaic.Lib.Quiescent

/-! The optimiser's call for the pooling mixer (`pool_w`): every entry of its three results is the step of that entry. -/

@[expose] public section

set_option maxRecDepth 16384

noncomputable section

namespace Cert.AdamPoolIdeal.Adam

open Cert.AdamPoolIdeal.Gen
open Idealize.ShloMosaic Idealize.ShloMosaic.TcCoe Idealize.ShloMosaic.StableHlo Idealize.SL.Sem

variable (m : (ℓ : Loc nD τ sig) → Buf (Elt Ideal) ℓ) (c : Dev nD)

/-- The weight, the gradient and the two averages as the region finds them: the arguments in rows. -/
def arr (i : Fin 4) : FVec Ideal S256x256 .f32 := ![V m c main_v0, V m c main_v1, V m c main_v2, V m c main_v3] i

theorem arr_eq : arr m c = ![shapeCast _ (m ((c : Thread nD τ).loc main_arg0)) shapeCasts_S1x4x64x256_S256x256, shapeCast _ (m ((c : Thread nD τ).loc main_arg1)) shapeCasts_S1x4x64x256_S256x256, shapeCast _ (m ((c : Thread nD τ).loc main_arg2)) shapeCasts_S1x4x64x256_S256x256, shapeCast _ (m ((c : Thread nD τ).loc main_arg3)) shapeCasts_S1x4x64x256_S256x256] := by
  unfold arr V
  after_reads_simp
  rfl

theorem mean_apply (g a : Vec Ideal S256x256 .f32) (y : S256x256.Idx) : k0_pay2 (F := Ideal) g a y = Cert.Adam.mean (g y) (a y) := by
  simp only [k0_pay2, k0_pay1, shapeCast_id]
  rfl
theorem square_apply (g b : Vec Ideal S256x256 .f32) (y : S256x256.Idx) : k0_pay3 (F := Ideal) g b y = Cert.Adam.square (g y) (b y) := by
  simp only [k0_pay3, k0_pay1, shapeCast_id]
  rfl
theorem delta_apply (g a b w : Vec Ideal S256x256 .f32) (y : S256x256.Idx) :
    k0_pay4 (F := Ideal) g a b w y = Cert.Adam.delta (w y) (g y) (a y) (b y) := by
  rw [Cert.Adam.delta, ← mean_apply, ← square_apply]
  simp only [k0_pay4, shapeCast_id]
  rfl

theorem hz : (![0, 0] : Fin 2 → Nat) = fun _ => 0 := funext fun a => by fin_cases a <;> rfl

theorem final4 : (dats m 0 c).arrAt 4 cfg0.N = fun i => Cert.Adam.delta (arr m c 0 i) (arr m c 1 i) (arr m c 2 i) (arr m c 3 i) := by
  refine (dats m 0 c).arrAt_eq_of_covers 4 _ (by decide +kernel) fun t hf y => ?_
  blk_simp
  rw [after0_4, out0_4, View.canon_unit_zero hz]
  simp only [View.ld_unit_zero (S := S256x256) hz]
  exact delta_apply _ _ _ _ y
theorem final5 : (dats m 0 c).arrAt 5 cfg0.N = fun i => Cert.Adam.mean (arr m c 1 i) (arr m c 2 i) := by
  refine (dats m 0 c).arrAt_eq_of_covers 5 _ (by decide +kernel) fun t hf y => ?_
  blk_simp
  rw [after0_5, out0_5, View.canon_unit_zero hz]
  simp only [View.ld_unit_zero (S := S256x256) hz]
  exact mean_apply _ _ y
theorem final6 : (dats m 0 c).arrAt 6 cfg0.N = fun i => Cert.Adam.square (arr m c 1 i) (arr m c 3 i) := by
  refine (dats m 0 c).arrAt_eq_of_covers 6 _ (by decide +kernel) fun t hf y => ?_
  blk_simp
  rw [after0_6, out0_6, View.canon_unit_zero hz]
  simp only [View.ld_unit_zero (S := S256x256) hz]
  exact square_apply _ _ y

end Cert.AdamPoolIdeal.Adam

namespace Cert.AdamPool.Claims

open Idealize.ShloMosaic Idealize.ShloMosaic.TcCoe Idealize.SL.Sem

theorem frame_kernel : Cert.quiescent_AdamPool := fun m ρ _ => Cert.AdamPool.Gen.frame m ρ
theorem frame_ideal : Cert.quiescent_AdamPoolIdeal := fun m ρ _ => Cert.AdamPoolIdeal.Gen.frame m ρ
theorem frame_reference : Cert.quiescent_AdamPoolRefIdeal := fun m ρ _ =>
  (θ_run Cert.AdamPoolRefIdeal.defs _ _).mono (fun r h => ⟨fun c => (h c).2.2.2, sem_eq_zero_of_no_sems (by decide) r.2⟩)
    (Cert.AdamPoolRefIdeal.Value.run (F := Ideal) m ρ)

open Cert.AdamPoolIdeal.Adam in
theorem algebraic : Cert.algebraic_AdamPoolIdeal_AdamPoolRefIdeal := by
  intro m ρ m' ρ' _ hagree
  refine ⟨fun c i => Cert.Adam.delta (arr m c 0 i) (arr m c 1 i) (arr m c 2 i) (arr m c 3 i), fun c i => Cert.Adam.mean (arr m c 1 i) (arr m c 2 i),
    fun c i => Cert.Adam.square (arr m c 1 i) (arr m c 3 i), ?_, ?_⟩
  · refine (θ_run Cert.AdamPoolIdeal.defs _ _).mono (fun r h c => ?_) (Cert.AdamPoolIdeal.Value.run_blocks (F := Ideal) m ρ)
    exact ⟨(h c).1.trans (final4 m c), (h c).2.1.trans (final5 m c), (h c).2.2.1.trans (final6 m c), (h c).2.2.2⟩
  · refine (θ_run Cert.AdamPoolRefIdeal.defs _ _).mono (fun r h c => ?_) (Cert.AdamPoolRefIdeal.Value.run (F := Ideal) m' ρ')
    obtain ⟨a0, a1, a2, a3⟩ := hagree c
    refine ⟨(h c).1.trans ?_, (h c).2.1.trans ?_, (h c).2.2.1.trans ?_, (h c).2.2.2⟩ <;>
    · simp only [arr_eq, a0, a1, a2, a3]
      rfl

end Cert.AdamPool.Claims

end
-- ==== Proof.Adam.Pw1.lean ====
module

public import proofs.«01_k».proof.Defs
public import proofs.«01_k».proof.Proof.Adam.Step
public import proofs.«01_k».proof.Proof.Gen.AdamPw1.Frame
public import proofs.«01_k».proof.Proof.Gen.AdamPw1Ideal.Value
public import proofs.«01_k».proof.Proof.Gen.AdamPw1RefIdeal.Run
public import Idealize.ShloMosaic.Lib.StableHlo.RunRead
public import Idealize.ShloMosaic.Lib.Quiescent

/-! The optimiser's call for the Conformer module's first pointwise projection (`cf_w_pw1`): every entry of its three results is the step of that entry. -/

@[expose] public section

set_option maxRecDepth 16384

noncomputable section

namespace Cert.AdamPw1Ideal.Adam

open Cert.AdamPw1Ideal.Gen
open Idealize.ShloMosaic Idealize.ShloMosaic.TcCoe Idealize.ShloMosaic.StableHlo Idealize.SL.Sem

variable (m : (ℓ : Loc nD τ sig) → Buf (Elt Ideal) ℓ) (c : Dev nD)

/-- The weight, the gradient and the two averages as the region finds them: the arguments in rows. -/
def arr (i : Fin 4) : FVec Ideal S1024x512 .f32 := ![V m c main_v0, V m c main_v1, V m c main_v2, V m c main_v3] i

theorem arr_eq : arr m c = ![shapeCast _ (m ((c : Thread nD τ).loc main_arg0)) shapeCasts_S1x1024x512_S1024x512, shapeCast _ (m ((c : Thread nD τ).loc main_arg1)) shapeCasts_S1x1024x512_S1024x512, shapeCast _ (m ((c : Thread nD τ).loc main_arg2)) shapeCasts_S1x1024x512_S1024x512, shapeCast _ (m ((c : Thread nD τ).loc main_arg3)) shapeCasts_S1x1024x512_S1024x512] := by
  unfold arr V
  after_reads_simp
  rfl

theorem mean_apply (g a : Vec Ideal S512x512 .f32) (y : S512x512.Idx) : k0_pay2 (F := Ideal) g a y = Cert.Adam.mean (g y) (a y) := by
  simp only [k0_pay2, k0_pay1, shapeCast_id]
  rfl
theorem square_apply (g b : Vec Ideal S512x512 .f32) (y : S512x512.Idx) : k0_pay3 (F := Ideal) g b y = Cert.Adam.square (g y) (b y) := by
  simp only [k0_pay3, k0_pay1, shapeCast_id]
  rfl
theorem delta_apply (g a b w : Vec Ideal S512x512 .f32) (y : S512x512.Idx) :
    k0_pay4 (F := Ideal) g a b w y = Cert.Adam.delta (w y) (g y) (a y) (b y) := by
  rw [Cert.Adam.delta, ← mean_apply, ← square_apply]
  simp only [k0_pay4, shapeCast_id]
  rfl

theorem hz : (![0, 0] : Fin 2 → Nat) = fun _ => 0 := funext fun a => by fin_cases a <;> rfl

theorem final4 : (dats m 0 c).arrAt 4 cfg0.N = fun i => Cert.Adam.delta (arr m c 0 i) (arr m c 1 i) (arr m c 2 i) (arr m c 3 i) := by
  refine (dats m 0 c).arrAt_eq_of_covers 4 _ (by decide +kernel) fun t hf y => ?_
  blk_simp
  rw [after0_4, out0_4, View.canon_unit_zero hz]
  simp only [View.ld_unit_zero (S := S512x512) hz]
  exact delta_apply _ _ _ _ y
theorem final5 : (dats m 0 c).arrAt 5 cfg0.N = fun i => Cert.Adam.mean (arr m c 1 i) (arr m c 2 i) := by
  refine (dats m 0 c).arrAt_eq_of_covers 5 _ (by decide +kernel) fun t hf y => ?_
  blk_simp
  rw [after0_5, out0_5, View.canon_unit_zero hz]
  simp only [View.ld_unit_zero (S := S512x512) hz]
  exact mean_apply _ _ y
theorem final6 : (dats m 0 c).arrAt 6 cfg0.N = fun i => Cert.Adam.square (arr m c 1 i) (arr m c 3 i) := by
  refine (dats m 0 c).arrAt_eq_of_covers 6 _ (by decide +kernel) fun t hf y => ?_
  blk_simp
  rw [after0_6, out0_6, View.canon_unit_zero hz]
  simp only [View.ld_unit_zero (S := S512x512) hz]
  exact square_apply _ _ y

end Cert.AdamPw1Ideal.Adam

namespace Cert.AdamPw1.Claims

open Idealize.ShloMosaic Idealize.ShloMosaic.TcCoe Idealize.SL.Sem

theorem frame_kernel : Cert.quiescent_AdamPw1 := fun m ρ _ => Cert.AdamPw1.Gen.frame m ρ
theorem frame_ideal : Cert.quiescent_AdamPw1Ideal := fun m ρ _ => Cert.AdamPw1Ideal.Gen.frame m ρ
theorem frame_reference : Cert.quiescent_AdamPw1RefIdeal := fun m ρ _ =>
  (θ_run Cert.AdamPw1RefIdeal.defs _ _).mono (fun r h => ⟨fun c => (h c).2.2.2, sem_eq_zero_of_no_sems (by decide) r.2⟩)
    (Cert.AdamPw1RefIdeal.Value.run (F := Ideal) m ρ)

open Cert.AdamPw1Ideal.Adam in
theorem algebraic : Cert.algebraic_AdamPw1Ideal_AdamPw1RefIdeal := by
  intro m ρ m' ρ' _ hagree
  refine ⟨fun c i => Cert.Adam.delta (arr m c 0 i) (arr m c 1 i) (arr m c 2 i) (arr m c 3 i), fun c i => Cert.Adam.mean (arr m c 1 i) (arr m c 2 i),
    fun c i => Cert.Adam.square (arr m c 1 i) (arr m c 3 i), ?_, ?_⟩
  · refine (θ_run Cert.AdamPw1Ideal.defs _ _).mono (fun r h c => ?_) (Cert.AdamPw1Ideal.Value.run_blocks (F := Ideal) m ρ)
    exact ⟨(h c).1.trans (final4 m c), (h c).2.1.trans (final5 m c), (h c).2.2.1.trans (final6 m c), (h c).2.2.2⟩
  · refine (θ_run Cert.AdamPw1RefIdeal.defs _ _).mono (fun r h c => ?_) (Cert.AdamPw1RefIdeal.Value.run (F := Ideal) m' ρ')
    obtain ⟨a0, a1, a2, a3⟩ := hagree c
    refine ⟨(h c).1.trans ?_, (h c).2.1.trans ?_, (h c).2.2.1.trans ?_, (h c).2.2.2⟩ <;>
    · simp only [arr_eq, a0, a1, a2, a3]
      rfl

end Cert.AdamPw1.Claims

end
-- ==== Proof.Adam.Pw2.lean ====
module

public import proofs.«01_k».proof.Defs
public import proofs.«01_k».proof.Proof.Adam.Step
public import proofs.«01_k».proof.Proof.Gen.AdamPw2.Frame
public import proofs.«01_k».proof.Proof.Gen.AdamPw2Ideal.Value
public import proofs.«01_k».proof.Proof.Gen.AdamPw2RefIdeal.Run
public import Idealize.ShloMosaic.Lib.StableHlo.RunRead
public import Idealize.ShloMosaic.Lib.Quiescent

/-! The optimiser's call for the Conformer module's last pointwise projection (`cf_w_pw2`): every entry of its three results is the step of that entry. -/

@[expose] public section

set_option maxRecDepth 16384

noncomputable section

namespace Cert.AdamPw2Ideal.Adam

open Cert.AdamPw2Ideal.Gen
open Idealize.ShloMosaic Idealize.ShloMosaic.TcCoe Idealize.ShloMosaic.StableHlo Idealize.SL.Sem

variable (m : (ℓ : Loc nD τ sig) → Buf (Elt Ideal) ℓ) (c : Dev nD)

/-- The weight, the gradient and the two averages as the region finds them: the arguments in rows. -/
def arr (i : Fin 4) : FVec Ideal S256x1024 .f32 := ![V m c main_v0, V m c main_v1, V m c main_v2, V m c main_v3] i

theorem arr_eq : arr m c = ![shapeCast _ (m ((c : Thread nD τ).loc main_arg0)) shapeCasts_S1x256x1024_S256x1024, shapeCast _ (m ((c : Thread nD τ).loc main_arg1)) shapeCasts_S1x256x1024_S256x1024, shapeCast _ (m ((c : Thread nD τ).loc main_arg2)) shapeCasts_S1x256x1024_S256x1024, shapeCast _ (m ((c : Thread nD τ).loc main_arg3)) shapeCasts_S1x256x1024_S256x1024] := by
  unfold arr V
  after_reads_simp
  rfl

theorem mean_apply (g a : Vec Ideal S256x1024 .f32) (y : S256x1024.Idx) : k0_pay2 (F := Ideal) g a y = Cert.Adam.mean (g y) (a y) := by
  simp only [k0_pay2, k0_pay1, shapeCast_id]
  rfl
theorem square_apply (g b : Vec Ideal S256x1024 .f32) (y : S256x1024.Idx) : k0_pay3 (F := Ideal) g b y = Cert.Adam.square (g y) (b y) := by
  simp only [k0_pay3, k0_pay1, shapeCast_id]
  rfl
theorem delta_apply (g a b w : Vec Ideal S256x1024 .f32) (y : S256x1024.Idx) :
    k0_pay4 (F := Ideal) g a b w y = Cert.Adam.delta (w y) (g y) (a y) (b y) := by
  rw [Cert.Adam.delta, ← mean_apply, ← square_apply]
  simp only [k0_pay4, shapeCast_id]
  rfl

theorem hz : (![0, 0] : Fin 2 → Nat) = fun _ => 0 := funext fun a => by fin_cases a <;> rfl

theorem final4 : (dats m 0 c).arrAt 4 cfg0.N = fun i => Cert.Adam.delta (arr m c 0 i) (arr m c 1 i) (arr m c 2 i) (arr m c 3 i) := by
  refine (dats m 0 c).arrAt_eq_of_covers 4 _ (by decide +kernel) fun t hf y => ?_
  blk_simp
  rw [after0_4, out0_4, View.canon_unit_zero hz]
  simp only [View.ld_unit_zero (S := S256x1024) hz]
  exact delta_apply _ _ _ _ y
theorem final5 : (dats m 0 c).arrAt 5 cfg0.N = fun i => Cert.Adam.mean (arr m c 1 i) (arr m c 2 i) := by
  refine (dats m 0 c).arrAt_eq_of_covers 5 _ (by decide +kernel) fun t hf y => ?_
  blk_simp
  rw [after0_5, out0_5, View.canon_unit_zero hz]
  simp only [View.ld_unit_zero (S := S256x1024) hz]
  exact mean_apply _ _ y
theorem final6 : (dats m 0 c).arrAt 6 cfg0.N = fun i => Cert.Adam.square (arr m c 1 i) (arr m c 3 i) := by
  refine (dats m 0 c).arrAt_eq_of_covers 6 _ (by decide +kernel) fun t hf y => ?_
  blk_simp
  rw [after0_6, out0_6, View.canon_unit_zero hz]
  simp only [View.ld_unit_zero (S := S256x1024) hz]
  exact square_apply _ _ y

end Cert.AdamPw2Ideal.Adam

namespace Cert.AdamPw2.Claims

open Idealize.ShloMosaic Idealize.ShloMosaic.TcCoe Idealize.SL.Sem

theorem frame_kernel : Cert.quiescent_AdamPw2 := fun m ρ _ => Cert.AdamPw2.Gen.frame m ρ
theorem frame_ideal : Cert.quiescent_AdamPw2Ideal := fun m ρ _ => Cert.AdamPw2Ideal.Gen.frame m ρ
theorem frame_reference : Cert.quiescent_AdamPw2RefIdeal := fun m ρ _ =>
  (θ_run Cert.AdamPw2RefIdeal.defs _ _).mono (fun r h => ⟨fun c => (h c).2.2.2, sem_eq_zero_of_no_sems (by decide) r.2⟩)
    (Cert.AdamPw2RefIdeal.Value.run (F := Ideal) m ρ)

open Cert.AdamPw2Ideal.Adam in
theorem algebraic : Cert.algebraic_AdamPw2Ideal_AdamPw2RefIdeal := by
  intro m ρ m' ρ' _ hagree
  refine ⟨fun c i => Cert.Adam.delta (arr m c 0 i) (arr m c 1 i) (arr m c 2 i) (arr m c 3 i), fun c i => Cert.Adam.mean (arr m c 1 i) (arr m c 2 i),
    fun c i => Cert.Adam.square (arr m c 1 i) (arr m c 3 i), ?_, ?_⟩
  · refine (θ_run Cert.AdamPw2Ideal.defs _ _).mono (fun r h c => ?_) (Cert.AdamPw2Ideal.Value.run_blocks (F := Ideal) m ρ)
    exact ⟨(h c).1.trans (final4 m c), (h c).2.1.trans (final5 m c), (h c).2.2.1.trans (final6 m c), (h c).2.2.2⟩
  · refine (θ_run Cert.AdamPw2RefIdeal.defs _ _).mono (fun r h c => ?_) (Cert.AdamPw2RefIdeal.Value.run (F := Ideal) m' ρ')
    obtain ⟨a0, a1, a2, a3⟩ := hagree c
    refine ⟨(h c).1.trans ?_, (h c).2.1.trans ?_, (h c).2.2.1.trans ?_, (h c).2.2.2⟩ <;>
    · simp only [arr_eq, a0, a1, a2, a3]
      rfl

end Cert.AdamPw2.Claims

end
-- ==== Proof.Adam.Up.lean ====
module

public import proofs.«01_k».proof.Defs
public import proofs.«01_k».proof.Proof.Adam.Step
public import proofs.«01_k».proof.Proof.Gen.AdamUp.Frame
public import proofs.«01_k».proof.Proof.Gen.AdamUpIdeal.Value
public import proofs.«01_k».proof.Proof.Gen.AdamUpRefIdeal.Run
public import Idealize.ShloMosaic.Lib.StableHlo.RunRead
public import Idealize.ShloMosaic.Lib.Quiescent

/-! The optimiser's call for the ConvFFN's up projections (`ffn_w_up`): every entry of its three results is the step of that entry. -/

@[expose] public section

set_option maxRecDepth 16384

noncomputable section

namespace Cert.AdamUpIdeal.Adam

open Cert.AdamUpIdeal.Gen
open Idealize.ShloMosaic Idealize.ShloMosaic.TcCoe Idealize.ShloMosaic.StableHlo Idealize.SL.Sem

variable (m : (ℓ : Loc nD τ sig) → Buf (Elt Ideal) ℓ) (c : Dev nD)

/-- The weight, the gradient and the two averages as the region finds them: the arguments in rows. -/
def arr (i : Fin 4) : FVec Ideal S4096x1408 .f32 := ![V m c main_v0, V m c main_v1, V m c main_v2, V m c main_v3] i

theorem arr_eq : arr m c = ![shapeCast _ (m ((c : Thread nD τ).loc main_arg0)) shapeCasts_S4x1024x1408_S4096x1408, shapeCast _ (m ((c : Thread nD τ).loc main_arg1)) shapeCasts_S4x1024x1408_S4096x1408, shapeCast _ (m ((c : Thread nD τ).loc main_arg2)) shapeCasts_S4x1024x1408_S4096x1408, shapeCast _ (m ((c : Thread nD τ).loc main_arg3)) shapeCasts_S4x1024x1408_S4096x1408] := by
  unfold arr V
  after_reads_simp
  rfl

theorem mean_apply (g a : Vec Ideal S128x1408 .f32) (y : S128x1408.Idx) : k0_pay2 (F := Ideal) g a y = Cert.Adam.mean (g y) (a y) := by
  simp only [k0_pay2, k0_pay1, shapeCast_id]
  rfl
theorem square_apply (g b : Vec Ideal S128x1408 .f32) (y : S128x1408.Idx) : k0_pay3 (F := Ideal) g b y = Cert.Adam.square (g y) (b y) := by
  simp only [k0_pay3, k0_pay1, shapeCast_id]
  rfl
theorem delta_apply (g a b w : Vec Ideal S128x1408 .f32) (y : S128x1408.Idx) :
    k0_pay4 (F := Ideal) g a b w y = Cert.Adam.delta (w y) (g y) (a y) (b y) := by
  rw [Cert.Adam.delta, ← mean_apply, ← square_apply]
  simp only [k0_pay4, shapeCast_id]
  rfl

theorem hz : (![0, 0] : Fin 2 → Nat) = fun _ => 0 := funext fun a => by fin_cases a <;> rfl

theorem final4 : (dats m 0 c).arrAt 4 cfg0.N = fun i => Cert.Adam.delta (arr m c 0 i) (arr m c 1 i) (arr m c 2 i) (arr m c 3 i) := by
  refine (dats m 0 c).arrAt_eq_of_covers 4 _ (by decide +kernel) fun t hf y => ?_
  blk_simp
  rw [after0_4, out0_4, View.canon_unit_zero hz]
  simp only [View.ld_unit_zero (S := S128x1408) hz]
  exact delta_apply _ _ _ _ y
theorem final5 : (dats m 0 c).arrAt 5 cfg0.N = fun i => Cert.Adam.mean (arr m c 1 i) (arr m c 2 i) := by
  refine (dats m 0 c).arrAt_eq_of_covers 5 _ (by decide +kernel) fun t hf y => ?_
  blk_simp
  rw [after0_5, out0_5, View.canon_unit_zero hz]
  simp only [View.ld_unit_zero (S := S128x1408) hz]
  exact mean_apply _ _ y
theorem final6 : (dats m 0 c).arrAt 6 cfg0.N = fun i => Cert.Adam.square (arr m c 1 i) (arr m c 3 i) := by
  refine (dats m 0 c).arrAt_eq_of_covers 6 _ (by decide +kernel) fun t hf y => ?_
  blk_simp
  rw [after0_6, out0_6, View.canon_unit_zero hz]
  simp only [View.ld_unit_zero (S := S128x1408) hz]
  exact square_apply _ _ y

end Cert.AdamUpIdeal.Adam

namespace Cert.AdamUp.Claims

open Idealize.ShloMosaic Idealize.ShloMosaic.TcCoe Idealize.SL.Sem

theorem frame_kernel : Cert.quiescent_AdamUp := fun m ρ _ => Cert.AdamUp.Gen.frame m ρ
theorem frame_ideal : Cert.quiescent_AdamUpIdeal := fun m ρ _ => Cert.AdamUpIdeal.Gen.frame m ρ
theorem frame_reference : Cert.quiescent_AdamUpRefIdeal := fun m ρ _ =>
  (θ_run Cert.AdamUpRefIdeal.defs _ _).mono (fun r h => ⟨fun c => (h c).2.2.2, sem_eq_zero_of_no_sems (by decide) r.2⟩)
    (Cert.AdamUpRefIdeal.Value.run (F := Ideal) m ρ)

open Cert.AdamUpIdeal.Adam in
theorem algebraic : Cert.algebraic_AdamUpIdeal_AdamUpRefIdeal := by
  intro m ρ m' ρ' _ hagree
  refine ⟨fun c i => Cert.Adam.delta (arr m c 0 i) (arr m c 1 i) (arr m c 2 i) (arr m c 3 i), fun c i => Cert.Adam.mean (arr m c 1 i) (arr m c 2 i),
    fun c i => Cert.Adam.square (arr m c 1 i) (arr m c 3 i), ?_, ?_⟩
  · refine (θ_run Cert.AdamUpIdeal.defs _ _).mono (fun r h c => ?_) (Cert.AdamUpIdeal.Value.run_blocks (F := Ideal) m ρ)
    exact ⟨(h c).1.trans (final4 m c), (h c).2.1.trans (final5 m c), (h c).2.2.1.trans (final6 m c), (h c).2.2.2⟩
  · refine (θ_run Cert.AdamUpRefIdeal.defs _ _).mono (fun r h c => ?_) (Cert.AdamUpRefIdeal.Value.run (F := Ideal) m' ρ')
    obtain ⟨a0, a1, a2, a3⟩ := hagree c
    refine ⟨(h c).1.trans ?_, (h c).2.1.trans ?_, (h c).2.2.1.trans ?_, (h c).2.2.2⟩ <;>
    · simp only [arr_eq, a0, a1, a2, a3]
      rfl

end Cert.AdamUp.Claims

end
-- ==== Proof.Adam.Down.lean ====
module

public import proofs.«01_k».proof.Defs
public import proofs.«01_k».proof.Proof.Adam.Step
public import proofs.«01_k».proof.Proof.Gen.AdamDown.Frame
public import proofs.«01_k».proof.Proof.Gen.AdamDownIdeal.Value
public import proofs.«01_k».proof.Proof.Gen.AdamDownRefIdeal.Run
public import Idealize.ShloMosaic.Lib.StableHlo.RunRead
public import Idealize.ShloMosaic.Lib.Quiescent

/-! The optimiser's call for the ConvFFN's down projections (`ffn_w_down`): every entry of its three results is the step of that entry. -/

@[expose] public section

set_option maxRecDepth 16384

noncomputable section

namespace Cert.AdamDownIdeal.Adam

open Cert.AdamDownIdeal.Gen
open Idealize.ShloMosaic Idealize.ShloMosaic.TcCoe Idealize.ShloMosaic.StableHlo Idealize.SL.Sem

variable (m : (ℓ : Loc nD τ sig) → Buf (Elt Ideal) ℓ) (c : Dev nD)

/-- The weight, the gradient and the two averages as the region finds them: the arguments in rows. -/
def arr (i : Fin 4) : FVec Ideal S2816x1024 .f32 := ![V m c main_v0, V m c main_v1, V m c main_v2, V m c main_v3] i

theorem arr_eq : arr m c = ![shapeCast _ (m ((c : Thread nD τ).loc main_arg0)) shapeCasts_S4x704x1024_S2816x1024, shapeCast _ (m ((c : Thread nD τ).loc main_arg1)) shapeCasts_S4x704x1024_S2816x1024, shapeCast _ (m ((c : Thread nD τ).loc main_arg2)) shapeCasts_S4x704x1024_S2816x1024, shapeCast _ (m ((c : Thread nD τ).loc main_arg3)) shapeCasts_S4x704x1024_S2816x1024] := by
  unfold arr V
  after_reads_simp
  rfl

theorem mean_apply (g a : Vec Ideal S256x1024 .f32) (y : S256x1024.Idx) : k0_pay2 (F := Ideal) g a y = Cert.Adam.mean (g y) (a y) := by
  simp only [k0_pay2, k0_pay1, shapeCast_id]
  rfl
theorem square_apply (g b : Vec Ideal S256x1024 .f32) (y : S256x1024.Idx) : k0_pay3 (F := Ideal) g b y = Cert.Adam.square (g y) (b y) := by
  simp only [k0_pay3, k0_pay1, shapeCast_id]
  rfl
theorem delta_apply (g a b w : Vec Ideal S256x1024 .f32) (y : S256x1024.Idx) :
    k0_pay4 (F := Ideal) g a b w y = Cert.Adam.delta (w y) (g y) (a y) (b y) := by
  rw [Cert.Adam.delta, ← mean_apply, ← square_apply]
  simp only [k0_pay4, shapeCast_id]
  rfl

theorem hz : (![0, 0] : Fin 2 → Nat) = fun _ => 0 := funext fun a => by fin_cases a <;> rfl

theorem final4 : (dats m 0 c).arrAt 4 cfg0.N = fun i => Cert.Adam.delta (arr m c 0 i) (arr m c 1 i) (arr m c 2 i) (arr m c 3 i) := by
  refine (dats m 0 c).arrAt_eq_of_covers 4 _ (by decide +kernel) fun t hf y => ?_
  blk_simp
  rw [after0_4, out0_4, View.canon_unit_zero hz]
  simp only [View.ld_unit_zero (S := S256x1024) hz]
  exact delta_apply _ _ _ _ y
theorem final5 : (dats m 0 c).arrAt 5 cfg0.N = fun i => Cert.Adam.mean (arr m c 1 i) (arr m c 2 i) := by
  refine (dats m 0 c).arrAt_eq_of_covers 5 _ (by decide +kernel) fun t hf y => ?_
  blk_simp
  rw [after0_5, out0_5, View.canon_unit_zero hz]
  simp only [View.ld_unit_zero (S := S256x1024) hz]
  exact mean_apply _ _ y
theorem final6 : (dats m 0 c).arrAt 6 cfg0.N = fun i => Cert.Adam.square (arr m c 1 i) (arr m c 3 i) := by
  refine (dats m 0 c).arrAt_eq_of_covers 6 _ (by decide +kernel) fun t hf y => ?_
  blk_simp
  rw [after0_6, out0_6, View.canon_unit_zero hz]
  simp only [View.ld_unit_zero (S := S256x1024) hz]
  exact square_apply _ _ y

end Cert.AdamDownIdeal.Adam

namespace Cert.AdamDown.Claims

open Idealize.ShloMosaic Idealize.ShloMosaic.TcCoe Idealize.SL.Sem

theorem frame_kernel : Cert.quiescent_AdamDown := fun m ρ _ => Cert.AdamDown.Gen.frame m ρ
theorem frame_ideal : Cert.quiescent_AdamDownIdeal := fun m ρ _ => Cert.AdamDownIdeal.Gen.frame m ρ
theorem frame_reference : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

open Cert.AdamDownIdeal.Adam in
theorem algebraic : Cert.algebraic_AdamDownIdeal_AdamDownRefIdeal := by
  intro m ρ m' ρ' _ hagree
  refine ⟨fun c i => Cert.Adam.delta (arr m c 0 i) (arr m c 1 i) (arr m c 2 i) (arr m c 3 i), fun c i => Cert.Adam.mean (arr m c 1 i) (arr m c 2 i),
    fun c i => Cert.Adam.square (arr m c 1 i) (arr m c 3 i), ?_, ?_⟩
  · refine (θ_run Cert.AdamDownIdeal.defs _ _).mono (fun r h c => ?_) (Cert.AdamDownIdeal.Value.run_blocks (F := Ideal) m ρ)
    exact ⟨(h c).1.trans (final4 m c), (h c).2.1.trans (final5 m c), (h c).2.2.1.trans (final6 m c), (h c).2.2.2⟩
  · refine (θ_run Cert.AdamDownRefIdeal.defs _ _).mono (fun r h c => ?_) (Cert.AdamDownRefIdeal.Value.run (F := Ideal) m' ρ')
    obtain ⟨a0, a1, a2, a3⟩ := hagree c
    refine ⟨(h c).1.trans ?_, (h c).2.1.trans ?_, (h c).2.2.1.trans ?_, (h c).2.2.2⟩ <;>
    · simp only [arr_eq, a0, a1, a2, a3]
      rfl

end Cert.AdamDown.Claims

end
-- ==== Proof.Adam.Small.lean ====
module

public import proofs.«01_k».proof.Defs
public import proofs.«01_k».proof.Proof.Adam.Step
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.StableHlo.RunRead
public import Idealize.ShloMosaic.Lib.Quiescent

/-! The optimiser's call for the thirteen small weights in one array: every entry of its three results is the step of that entry. -/

@[expose] public section

set_option maxRecDepth 16384

noncomputable section

namespace Cert.AdamSmallIdeal.Adam

open Cert.AdamSmallIdeal.Gen
open Idealize.ShloMosaic Idealize.ShloMosaic.TcCoe Idealize.ShloMosaic.StableHlo Idealize.SL.Sem

variable (m : (ℓ : Loc nD τ sig) → Buf (Elt Ideal) ℓ) (c : Dev nD)

/-- The weight, the gradient and the two averages as the region finds them: the arguments in rows. -/
def arr (i : Fin 4) : FVec Ideal S480x128 .f32 := ![V m c main_arg0, V m c main_arg1, V m c main_arg2, V m c main_arg3] i

theorem arr_eq : arr m c = ![m ((c : Thread nD τ).loc main_arg0), m ((c : Thread nD τ).loc main_arg1), m ((c : Thread nD τ).loc main_arg2), m ((c : Thread nD τ).loc main_arg3)] := by
  unfold arr V
  after_reads_simp

theorem mean_apply (g a : Vec Ideal S480x128 .f32) (y : S480x128.Idx) : k0_pay1 (F := Ideal) g a y = Cert.Adam.mean (g y) (a y) := by
  simp only [k0_pay1, shapeCast_id]
  rfl
theorem square_apply (g b : Vec Ideal S480x128 .f32) (y : S480x128.Idx) : k0_pay2 (F := Ideal) g b y = Cert.Adam.square (g y) (b y) := by
  simp only [k0_pay2, shapeCast_id]
  rfl
theorem delta_apply (g a b w : Vec Ideal S480x128 .f32) (y : S480x128.Idx) :
    k0_pay3 (F := Ideal) g a b w y = Cert.Adam.delta (w y) (g y) (a y) (b y) := by
  rw [Cert.Adam.delta, ← mean_apply, ← square_apply]
  simp only [k0_pay3, shapeCast_id]
  rfl

theorem hz : (![0, 0] : Fin 2 → Nat) = fun _ => 0 := funext fun a => by fin_cases a <;> rfl

theorem final4 : (dats m 0 c).arrAt 4 cfg0.N = fun i => Cert.Adam.delta (arr m c 0 i) (arr m c 1 i) (arr m c 2 i) (arr m c 3 i) := by
  refine (dats m 0 c).arrAt_eq_of_covers 4 _ (by decide +kernel) fun t hf y => ?_
  blk_simp
  rw [after0_4, out0_4, View.canon_unit_zero hz]
  simp only [View.ld_unit_zero (S := S480x128) hz]
  exact delta_apply _ _ _ _ y
theorem final5 : (dats m 0 c).arrAt 5 cfg0.N = fun i => Cert.Adam.mean (arr m c 1 i) (arr m c 2 i) := by
  refine (dats m 0 c).arrAt_eq_of_covers 5 _ (by decide +kernel) fun t hf y => ?_
  blk_simp
  rw [after0_5, out0_5, View.canon_unit_zero hz]
  simp only [View.ld_unit_zero (S := S480x128) hz]
  exact mean_apply _ _ y
theorem final6 : (dats m 0 c).arrAt 6 cfg0.N = fun i => Cert.Adam.square (arr m c 1 i) (arr m c 3 i) := by
  refine (dats m 0 c).arrAt_eq_of_covers 6 _ (by decide +kernel) fun t hf y => ?_
  blk_simp
  rw [after0_6, out0_6, View.canon_unit_zero hz]
  simp only [View.ld_unit_zero (S := S480x128) hz]
  exact square_apply _ _ y

end Cert.AdamSmallIdeal.Adam

namespace Cert.AdamSmall.Claims

open Idealize.ShloMosaic Idealize.ShloMosaic.TcCoe Idealize.SL.Sem

theorem frame_kernel : Cert.quiescent_AdamSmall := fun m ρ _ => Cert.AdamSmall.Gen.frame m ρ
theorem frame_ideal : Cert.quiescent_AdamSmallIdeal := fun m ρ _ => Cert.AdamSmallIdeal.Gen.frame m ρ
theorem frame_reference : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

open Cert.AdamSmallIdeal.Adam in
theorem algebraic : Cert.algebraic_AdamSmallIdeal_AdamSmallRefIdeal := by
  intro m ρ m' ρ' _ hagree
  refine ⟨fun c i => Cert.Adam.delta (arr m c 0 i) (arr m c 1 i) (arr m c 2 i) (arr m c 3 i), fun c i => Cert.Adam.mean (arr m c 1 i) (arr m c 2 i),
    fun c i => Cert.Adam.square (arr m c 1 i) (arr m c 3 i), ?_, ?_⟩
  · refine (θ_run Cert.AdamSmallIdeal.defs _ _).mono (fun r h c => ?_) (Cert.AdamSmallIdeal.Value.run_blocks (F := Ideal) m ρ)
    exact ⟨(h c).1.trans (final4 m c), (h c).2.1.trans (final5 m c), (h c).2.2.1.trans (final6 m c), (h c).2.2.2⟩
  · refine (θ_run Cert.AdamSmallRefIdeal.defs _ _).mono (fun r h c => ?_) (Cert.AdamSmallRefIdeal.Value.run (F := Ideal) m' ρ')
    obtain ⟨a0, a1, a2, a3⟩ := hagree c
    refine ⟨(h c).1.trans ?_, (h c).2.1.trans ?_, (h c).2.2.1.trans ?_, (h c).2.2.2⟩ <;>
    · simp only [arr_eq, a0, a1, a2, a3]
      rfl

end Cert.AdamSmall.Claims

end
-- ==== Proof.Mod.Dw.lean ====
module

public import proofs.«01_k».proof.Defs
public import proofs.«01_k».proof.Proof.Gen.ModDw.Frame
public import proofs.«01_k».proof.Proof.Gen.ModDwIdeal.Value
public import proofs.«01_k».proof.Proof.Gen.ModDwRefIdeal.Run
public import Idealize.ShloMosaic.Lib.Pipeline.ValueKit
public import Idealize.ShloMosaic.Lib.Pointwise
public import Idealize.ShloMosaic.Lib.KernelVsHost
public import Idealize.ShloMosaic.Lib.StableHlo.RunRead
public import Idealize.ShloMosaic.Lib.Quiescent

/-! The gradient of the adaptive normalisation's weight: every entry is the sum over the batch of the conditioning
through `silu` times the cotangent. The kernel's batch is filled up to sixteen rows with zeros, which add nothing, and
its sigmoid is written with the hyperbolic tangent. -/

@[expose] public section

noncomputable section

namespace Cert.ModDwIdeal.Grad

open Cert.ModDwIdeal.Gen
open Idealize.ShloMosaic Idealize.ShloMosaic.TcCoe Idealize.ShloMosaic.StableHlo Idealize.SL.Sem

variable (m : (ℓ : Loc nD τ sig) → Buf (Elt Ideal) ℓ) (c : Dev nD)

abbrev arg0 : FVec Ideal S8x1024 .f32 := m ((c : Thread nD τ).loc main_arg0)
abbrev arg3 : FVec Ideal S4x8x1536 .f32 := m ((c : Thread nD τ).loc main_arg3)

theorem half : Ideal.ofBits .f32 0x3F000000#32 = ((1 / 2 : ℝ) : EReal) := by
  simp [Ideal.ofBits, Ideal.ieee, -EReal.coe_mul]; norm_num

/-- The sigmoid through the hyperbolic tangent, at the infinities too. -/
theorem sigmoid (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, EReal.coe_eq_coe_iff, Real.tanh_eq_sinh_div_cosh,
      Real.sinh_eq, Real.cosh_eq, show -r = -(1 / 2 * r) + -(1 / 2 * r) by ring, Real.exp_add, Real.exp_neg]
    have h := Real.exp_pos (1 / 2 * r)
    field_simp
    ring

/-- The conditioning through `silu`. -/
def act (x : EReal) : EReal := x * Ideal.logistic x

/-- The gradient at matrix `n`, channel `i` and column `j`. -/
def dw (a : FVec Ideal S8x1024 .f32) (ct : FVec Ideal S4x8x1536 .f32) (n : Fin 4) (i : Fin 1024) (j : Fin 1536) : EReal :=
  ∑ k : Fin 8, act (a (ix2 k i)) * ct (ix3 n k j)

/-- The conditioning as the region finds it, filled up to sixteen rows, -/
def arr0 : FVec Ideal S16x1024 .f32 := V m c main_v0
/-- and the cotangent. -/
def arr1 : FVec Ideal S4x16x1536 .f32 := V m c main_v1

theorem arr0_eq : arr0 m c = pad S16x1024 ![0, 0] ![8, 0] ![0, 0] (arg0 m c) (sitofp (F := Ideal) .f32 (constantI S_ 32 0#32)) pads_S8x1024_S16x1024_080_000 h_S_ := by
  unfold arr0 V
  after_reads_simp
  rfl
theorem arr1_eq : arr1 m c = pad S4x16x1536 ![0, 0, 0] ![0, 8, 0] ![0, 0, 0] (arg3 m c) (sitofp (F := Ideal) .f32 (constantI S_ 32 0#32)) pads_S4x8x1536_S4x16x1536_000_080_000 h_S_ := by
  unfold arr1 V
  after_reads_simp
  rfl

theorem arr0_low (k : Fin 8) (i : Fin 1024) : arr0 m c (ix2 (k.castAdd 8) i) = arg0 m c (ix2 k i) := by
  rw [arr0_eq]
  exact pad_apply_of_inside _ _ _ _ _ _ _ _ _ fun a => by fin_cases a <;> simp
theorem arr0_high (k : Fin 8) (i : Fin 1024) : arr0 m c (ix2 (k.natAdd 8) i) = 0 := by
  rw [arr0_eq, pad_apply_of_not_inside _ _ _ _ _ _ _ _ (0 : Fin 2) (by simp)]
  show (((0#32 : BitVec 32).toInt : ℝ) : EReal) = 0
  norm_num
theorem arr1_low (n : Fin 4) (k : Fin 8) (j : Fin 1536) : arr1 m c (ix3 n (k.castAdd 8) j) = arg3 m c (ix3 n k j) := by
  rw [arr1_eq]
  exact pad_apply_of_inside _ _ _ _ _ _ _ _ _ fun a => by fin_cases a <;> simp

theorem idx_val : ∀ t : Fin grid0.N, win0_0.index t = ![0, 0] ∧ win0_1.index t = ![t.val / 3, 0, t.val % 3] ∧ win0_2.index t = ![t.val / 3, 0, t.val % 3] := by decide +kernel

/-- The matrix of point `t`, -/
def matOf (t : Fin cfg0.N) : Fin 4 := ⟨t.val / 3, by have := lt_of_lt_of_eq t.isLt (show cfg0.N = 12 from N_0); omega⟩
/-- and the column of it that is column `j` of the point's block. -/
def colOf (t : Fin cfg0.N) (j : Fin 512) : Fin 1536 := ⟨t.val % 3 * 512 + j.val, by omega⟩

theorem emb0 (t : Fin cfg0.N) (r : Fin 16) (i : Fin 1024) : ((cfg0.win 0).blk t).view.emb (ix2 r i) = ix2 r i := by blk_ext [idx_val t]
theorem emb1 (t : Fin cfg0.N) (r : Fin 16) (j : Fin 512) : ((cfg0.win 1).blk t).view.emb (ix3 0 r j) = ix3 (matOf t) r (colOf t j) := by blk_ext [idx_val t, matOf, colOf]
theorem emb2 (t : Fin cfg0.N) (i : Fin 1024) (j : Fin 512) : (win0_2.blk t).view.emb (ix3 0 i j) = ix3 (matOf t) i (colOf t j) := by blk_ext [idx_val t, matOf, colOf]

theorem blk0_apply (t : Fin cfg0.N) (r : Fin 16) (i : Fin 1024) : iblk m c 0 t (ix2 r i) = arr0 m c (ix2 r i) := congrArg (arr0 m c) (emb0 t r i)
theorem blk1_apply (t : Fin cfg0.N) (r : Fin 16) (j : Fin 512) : iblk m c 1 t (ix3 0 r j) = arr1 m c (ix3 (matOf t) r (colOf t j)) := congrArg (arr1 m c) (emb1 t r j)

theorem pay_apply (x0 : FVec Ideal S16x1024 .f32) (x1 : FVec Ideal S1x16x512 .f32) (i : Fin 1024) (j : Fin 512) :
    k0_pay1 (F := Ideal) x0 x1 (ix3 0 i j) = ∑ r : Fin 16, act (x0 (ix2 r i)) * x1 (ix3 0 r j) := by
  unfold k0_pay1
  simp only [act, ← sigmoid, ← half]
  pointwise

theorem hz2 : (![0, 0] : Fin 2 → Nat) = fun _ => 0 := funext fun a => by fin_cases a <;> rfl
theorem hz3 : (![0, 0, 0] : Fin 3 → Nat) = fun _ => 0 := funext fun a => by fin_cases a <;> rfl

theorem pay_blk (t : Fin cfg0.N) (i : Fin 1024) (j : Fin 512) :
    k0_pay1 (F := Ideal) (iblk m c 0 t) (iblk m c 1 t) (ix3 0 i j) = dw (arg0 m c) (arg3 m c) (matOf t) i (colOf t j) := by
  rw [pay_apply]
  refine (Fin.sum_univ_add (a := 8) (b := 8) _).trans ?_
  refine (congrArg₂ (· + ·) (Finset.sum_congr rfl fun k _ => ?_) (Finset.sum_eq_zero fun k _ => ?_)).trans (add_zero _)
  · rw [blk0_apply, blk1_apply, arr0_low, arr1_low]
  · rw [blk0_apply, arr0_high, act, zero_mul, zero_mul]

theorem final : (dats m 0 c).arrAt 2 cfg0.N = fun y => dw (arg0 m c) (arg3 m c) (y 0) (y 1) (y 2) := by
  refine (dats m 0 c).arrAt_eq_of_covers 2 _ (by decide +kernel) fun t hf y => ?_
  blk_simp
  rw [after0_2, out0_2, View.canon_unit_zero hz3, View.ld_unit_zero (S := S16x1024) hz2, View.ld_unit_zero (S := S1x16x512) hz3]
  obtain ⟨z, i, j, rfl⟩ : ∃ (z : Fin 1) (i : Fin 1024) (j : Fin 512), y = ix3 z i j := ⟨y 0, y 1, y 2, eq_ix3 y⟩
  obtain rfl : z = 0 := Subsingleton.elim _ _
  rw [emb2]
  exact pay_blk m c t i j

end Cert.ModDwIdeal.Grad

namespace Cert.ModDwRefIdeal.Grad

open Idealize.ShloMosaic
open Cert.ModDwRefIdeal Cert.ModDwRefIdeal.Gen

theorem result (a : FVec Ideal S8x1024 .f32) (ct : FVec Ideal S4x8x1536 .f32) :
    transpose S4x1024x1536 [0, 2, 1] (Host.dotGeneral (F := Ideal) (φ₁ := .f32) (φ₂ := .f32) dot_S8x4x1536_S8x1024_S4x1536x1024_0_0_12_1_n_n none (transpose S8x4x1536 [1, 0, 2] (shapeCast _ ct shapeCasts_S4x8x1536_S4x8x1536) transposes_S4x8x1536_S8x4x1536_1_0_2) (mulf (F := Ideal) (φ := .f32) a (Host.divf (broadcastInDim S8x1024 ![] bcast_S_S8x1024 (constant S_ .f32 0x3F800000#32)) (addf (broadcastInDim S8x1024 ![] bcast_S_S8x1024 (constant S_ .f32 0x3F800000#32)) (Host.exp (Host.negf a)))))) transposes_S4x1536x1024_S4x1024x1536_0_2_1
      = fun y => Cert.ModDwIdeal.Grad.dw a ct (y 0) (y 1) (y 2) := by
  funext y
  obtain ⟨n, i, j, rfl⟩ : ∃ (n : Fin 4) (i : Fin 1024) (j : Fin 1536), y = ix3 n i j := ⟨y 0, y 1, y 2, eq_ix3 y⟩
  unfold Cert.ModDwIdeal.Grad.dw Cert.ModDwIdeal.Grad.act Ideal.logistic
  simp only [mul_comm _ (ct _)]
  pointwise

end Cert.ModDwRefIdeal.Grad

namespace Cert.ModDw.Claims

open Idealize.ShloMosaic Idealize.ShloMosaic.TcCoe Idealize.SL.Sem

theorem frame_kernel : Cert.quiescent_ModDw := fun m ρ _ => Cert.ModDw.Gen.frame m ρ
theorem frame_ideal : Cert.quiescent_ModDwIdeal := fun m ρ _ => Cert.ModDwIdeal.Gen.frame m ρ
theorem frame_reference : Cert.quiescent_ModDwRefIdeal := fun m ρ _ =>
  (θ_run Cert.ModDwRefIdeal.defs _ _).mono (fun r h => ⟨fun c => (h c).2, sem_eq_zero_of_no_sems (by decide) r.2⟩)
    (Cert.ModDwRefIdeal.Value.run (F := Ideal) m ρ)

open Cert.ModDwIdeal.Grad in
theorem algebraic : Cert.algebraic_ModDwIdeal_ModDwRefIdeal := by
  intro m ρ m' ρ' _ hagree
  refine ⟨fun c y => dw (arg0 m c) (arg3 m c) (y 0) (y 1) (y 2), ?_, ?_⟩
  · refine (θ_run Cert.ModDwIdeal.defs _ _).mono (fun r h c => ?_) (Cert.ModDwIdeal.Value.run_blocks (F := Ideal) m ρ)
    exact ⟨(h c).1.trans (final m c), (h c).2⟩
  · refine (θ_run Cert.ModDwRefIdeal.defs _ _).mono (fun r h c => ?_) (Cert.ModDwRefIdeal.Value.run (F := Ideal) m' ρ')
    obtain ⟨a0, -, -, a3⟩ := hagree c
    refine ⟨(h c).1.trans ?_, (h c).2⟩
    rw [a0, a3]
    exact Cert.ModDwRefIdeal.Grad.result _ _

end Cert.ModDw.Claims

end
-- ==== Proof.lean ====
module

public import proofs.«01_k».proof.Defs
public import proofs.«01_k».proof.Proof.Pool.Claims
public import proofs.«01_k».proof.Proof.Prod.DownDx
public import proofs.«01_k».proof.Proof.Prod.DownDw
public import proofs.«01_k».proof.Proof.Prod.UpDw
public import proofs.«01_k».proof.Proof.Prod.UpDx
public import proofs.«01_k».proof.Proof.Prod.Down
public import proofs.«01_k».proof.Proof.Prod.Up
public import proofs.«01_k».proof.Proof.Prod.ScIn
public import proofs.«01_k».proof.Proof.Prod.ScInDx
public import proofs.«01_k».proof.Proof.Prod.ScInDw
public import proofs.«01_k».proof.Proof.Prod.Pw1
public import proofs.«01_k».proof.Proof.Prod.Pw1Dx
public import proofs.«01_k».proof.Proof.Prod.Pw1Dw
public import proofs.«01_k».proof.Proof.Prod.ScOut
public import proofs.«01_k».proof.Proof.Prod.ScOutDx
public import proofs.«01_k».proof.Proof.Prod.ScOutDw
public import proofs.«01_k».proof.Proof.Prod.Down1
public import proofs.«01_k».proof.Proof.Prod.Down2
public import proofs.«01_k».proof.Proof.Prod.Down3
public import proofs.«01_k».proof.Proof.Prod.DownDx1
public import proofs.«01_k».proof.Proof.Prod.DownDx2
public import proofs.«01_k».proof.Proof.Prod.DownDx3
public import proofs.«01_k».proof.Proof.Prod.Up1
public import proofs.«01_k».proof.Proof.Prod.Up2
public import proofs.«01_k».proof.Proof.Prod.Up3
public import proofs.«01_k».proof.Proof.Prod.UpDx1
public import proofs.«01_k».proof.Proof.Prod.UpDx2
public import proofs.«01_k».proof.Proof.Prod.UpDx3
public import proofs.«01_k».proof.Proof.Adam.Mod
public import proofs.«01_k».proof.Proof.Adam.ScIn
public import proofs.«01_k».proof.Proof.Adam.ScOut
public import proofs.«01_k».proof.Proof.Adam.Pool
public import proofs.«01_k».proof.Proof.Adam.Pw1
public import proofs.«01_k».proof.Proof.Adam.Pw2
public import proofs.«01_k».proof.Proof.Adam.Up
public import proofs.«01_k».proof.Proof.Adam.Down
public import proofs.«01_k».proof.Proof.Adam.Small
public import proofs.«01_k».proof.Proof.Mod.Dw

@[expose] public section

theorem Cert.Proof.claim : Cert.Claim :=
  ⟨Cert.Kernel.Gen.facts, Cert.KernelIdeal.Gen.facts, Cert.ReferenceIdeal.Gen.facts, Cert.Down.Gen.facts, Cert.DownIdeal.Gen.facts, Cert.DownRefIdeal.Gen.facts, Cert.Up.Gen.facts, Cert.UpIdeal.Gen.facts, Cert.UpRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.UpDx.Gen.facts, Cert.UpDxIdeal.Gen.facts, Cert.UpDxRefIdeal.Gen.facts, Cert.UpDw.Gen.facts, Cert.UpDwIdeal.Gen.facts, Cert.UpDwRefIdeal.Gen.facts, Cert.ScIn.Gen.facts, Cert.ScInIdeal.Gen.facts, Cert.ScInRefIdeal.Gen.facts, Cert.ScInDx.Gen.facts, Cert.ScInDxIdeal.Gen.facts, Cert.ScInDxRefIdeal.Gen.facts, Cert.ScInDw.Gen.facts, Cert.ScInDwIdeal.Gen.facts, Cert.ScInDwRefIdeal.Gen.facts, Cert.Pw1.Gen.facts, Cert.Pw1Ideal.Gen.facts, Cert.Pw1RefIdeal.Gen.facts, Cert.Pw1Dx.Gen.facts, Cert.Pw1DxIdeal.Gen.facts, Cert.Pw1DxRefIdeal.Gen.facts, Cert.Pw1Dw.Gen.facts, Cert.Pw1DwIdeal.Gen.facts, Cert.Pw1DwRefIdeal.Gen.facts, Cert.ScOut.Gen.facts, Cert.ScOutIdeal.Gen.facts, Cert.ScOutRefIdeal.Gen.facts, Cert.ScOutDx.Gen.facts, Cert.ScOutDxIdeal.Gen.facts, Cert.ScOutDxRefIdeal.Gen.facts, Cert.ScOutDw.Gen.facts, Cert.ScOutDwIdeal.Gen.facts, Cert.ScOutDwRefIdeal.Gen.facts, Cert.Down1.Gen.facts, Cert.Down1Ideal.Gen.facts, Cert.Down1RefIdeal.Gen.facts, Cert.Down2.Gen.facts, Cert.Down2Ideal.Gen.facts, Cert.Down2RefIdeal.Gen.facts, Cert.Down3.Gen.facts, Cert.Down3Ideal.Gen.facts, Cert.Down3RefIdeal.Gen.facts, Cert.DownDx1.Gen.facts, Cert.DownDx1Ideal.Gen.facts, Cert.DownDx1RefIdeal.Gen.facts, Cert.DownDx2.Gen.facts, Cert.DownDx2Ideal.Gen.facts, Cert.DownDx2RefIdeal.Gen.facts, Cert.DownDx3.Gen.facts, Cert.DownDx3Ideal.Gen.facts, Cert.DownDx3RefIdeal.Gen.facts, Cert.Up1.Gen.facts, Cert.Up1Ideal.Gen.facts, Cert.Up1RefIdeal.Gen.facts, Cert.Up2.Gen.facts, Cert.Up2Ideal.Gen.facts, Cert.Up2RefIdeal.Gen.facts, Cert.Up3.Gen.facts, Cert.Up3Ideal.Gen.facts, Cert.Up3RefIdeal.Gen.facts, Cert.UpDx1.Gen.facts, Cert.UpDx1Ideal.Gen.facts, Cert.UpDx1RefIdeal.Gen.facts, Cert.UpDx2.Gen.facts, Cert.UpDx2Ideal.Gen.facts, Cert.UpDx2RefIdeal.Gen.facts, Cert.UpDx3.Gen.facts, Cert.UpDx3Ideal.Gen.facts, Cert.UpDx3RefIdeal.Gen.facts, Cert.AdamMod.Gen.facts, Cert.AdamModIdeal.Gen.facts, Cert.AdamModRefIdeal.Gen.facts, Cert.AdamScIn.Gen.facts, Cert.AdamScInIdeal.Gen.facts, Cert.AdamScInRefIdeal.Gen.facts, Cert.AdamScOut.Gen.facts, Cert.AdamScOutIdeal.Gen.facts, Cert.AdamScOutRefIdeal.Gen.facts, Cert.AdamPool.Gen.facts, Cert.AdamPoolIdeal.Gen.facts, Cert.AdamPoolRefIdeal.Gen.facts, Cert.AdamPw1.Gen.facts, Cert.AdamPw1Ideal.Gen.facts, Cert.AdamPw1RefIdeal.Gen.facts, Cert.AdamPw2.Gen.facts, Cert.AdamPw2Ideal.Gen.facts, Cert.AdamPw2RefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamSmall.Gen.facts, Cert.AdamSmallIdeal.Gen.facts, Cert.AdamSmallRefIdeal.Gen.facts, Cert.ModDw.Gen.facts, Cert.ModDwIdeal.Gen.facts, Cert.ModDwRefIdeal.Gen.facts, Cert.Pre_finite.Gen.facts,
    Cert.Pool.Claims.frame_kernel,
    Cert.Pool.Claims.frame_ideal, fun m ρ _ => Cert.Pool.Claims.frame_ideal m ρ trivial,
    Cert.Pool.Claims.frame_reference, fun m ρ _ => Cert.Pool.Claims.frame_reference m ρ trivial,
    Cert.Down.Claims.frame_kernel, Cert.Down.Claims.frame_ideal, Cert.Down.Claims.frame_reference,
    Cert.Up.Claims.frame_kernel, Cert.Up.Claims.frame_ideal, Cert.Up.Claims.frame_reference,
    Cert.DownDx.Claims.frame_kernel, Cert.DownDx.Claims.frame_ideal, Cert.DownDx.Claims.frame_reference,
    Cert.DownDw.Claims.frame_kernel, Cert.DownDw.Claims.frame_ideal, Cert.DownDw.Claims.frame_reference,
    Cert.UpDx.Claims.frame_kernel, Cert.UpDx.Claims.frame_ideal, Cert.UpDx.Claims.frame_reference,
    Cert.UpDw.Claims.frame_kernel, Cert.UpDw.Claims.frame_ideal, Cert.UpDw.Claims.frame_reference,
    Cert.ScIn.Claims.frame_kernel, Cert.ScIn.Claims.frame_ideal, Cert.ScIn.Claims.frame_reference,
    Cert.ScInDx.Claims.frame_kernel, Cert.ScInDx.Claims.frame_ideal, Cert.ScInDx.Claims.frame_reference,
    Cert.ScInDw.Claims.frame_kernel, Cert.ScInDw.Claims.frame_ideal, Cert.ScInDw.Claims.frame_reference,
    Cert.Pw1.Claims.frame_kernel, Cert.Pw1.Claims.frame_ideal, Cert.Pw1.Claims.frame_reference,
    Cert.Pw1Dx.Claims.frame_kernel, Cert.Pw1Dx.Claims.frame_ideal, Cert.Pw1Dx.Claims.frame_reference,
    Cert.Pw1Dw.Claims.frame_kernel, Cert.Pw1Dw.Claims.frame_ideal, Cert.Pw1Dw.Claims.frame_reference,
    Cert.ScOut.Claims.frame_kernel, Cert.ScOut.Claims.frame_ideal, Cert.ScOut.Claims.frame_reference,
    Cert.ScOutDx.Claims.frame_kernel, Cert.ScOutDx.Claims.frame_ideal, Cert.ScOutDx.Claims.frame_reference,
    Cert.ScOutDw.Claims.frame_kernel, Cert.ScOutDw.Claims.frame_ideal, Cert.ScOutDw.Claims.frame_reference,
    Cert.Down1.Claims.frame_kernel, Cert.Down1.Claims.frame_ideal, Cert.Down1.Claims.frame_reference,
    Cert.Down2.Claims.frame_kernel, Cert.Down2.Claims.frame_ideal, Cert.Down2.Claims.frame_reference,
    Cert.Down3.Claims.frame_kernel, Cert.Down3.Claims.frame_ideal, Cert.Down3.Claims.frame_reference,
    Cert.DownDx1.Claims.frame_kernel, Cert.DownDx1.Claims.frame_ideal, Cert.DownDx1.Claims.frame_reference,
    Cert.DownDx2.Claims.frame_kernel, Cert.DownDx2.Claims.frame_ideal, Cert.DownDx2.Claims.frame_reference,
    Cert.DownDx3.Claims.frame_kernel, Cert.DownDx3.Claims.frame_ideal, Cert.DownDx3.Claims.frame_reference,
    Cert.Up1.Claims.frame_kernel, Cert.Up1.Claims.frame_ideal, Cert.Up1.Claims.frame_reference,
    Cert.Up2.Claims.frame_kernel, Cert.Up2.Claims.frame_ideal, Cert.Up2.Claims.frame_reference,
    Cert.Up3.Claims.frame_kernel, Cert.Up3.Claims.frame_ideal, Cert.Up3.Claims.frame_reference,
    Cert.UpDx1.Claims.frame_kernel, Cert.UpDx1.Claims.frame_ideal, Cert.UpDx1.Claims.frame_reference,
    Cert.UpDx2.Claims.frame_kernel, Cert.UpDx2.Claims.frame_ideal, Cert.UpDx2.Claims.frame_reference,
    Cert.UpDx3.Claims.frame_kernel, Cert.UpDx3.Claims.frame_ideal, Cert.UpDx3.Claims.frame_reference,
    Cert.AdamMod.Claims.frame_kernel, Cert.AdamMod.Claims.frame_ideal, Cert.AdamMod.Claims.frame_reference,
    Cert.AdamScIn.Claims.frame_kernel, Cert.AdamScIn.Claims.frame_ideal, Cert.AdamScIn.Claims.frame_reference,
    Cert.AdamScOut.Claims.frame_kernel, Cert.AdamScOut.Claims.frame_ideal, Cert.AdamScOut.Claims.frame_reference,
    Cert.AdamPool.Claims.frame_kernel, Cert.AdamPool.Claims.frame_ideal, Cert.AdamPool.Claims.frame_reference,
    Cert.AdamPw1.Claims.frame_kernel, Cert.AdamPw1.Claims.frame_ideal, Cert.AdamPw1.Claims.frame_reference,
    Cert.AdamPw2.Claims.frame_kernel, Cert.AdamPw2.Claims.frame_ideal, Cert.AdamPw2.Claims.frame_reference,
    Cert.AdamUp.Claims.frame_kernel, Cert.AdamUp.Claims.frame_ideal, Cert.AdamUp.Claims.frame_reference,
    Cert.AdamDown.Claims.frame_kernel, Cert.AdamDown.Claims.frame_ideal, Cert.AdamDown.Claims.frame_reference,
    Cert.AdamSmall.Claims.frame_kernel, Cert.AdamSmall.Claims.frame_ideal, Cert.AdamSmall.Claims.frame_reference,
    Cert.ModDw.Claims.frame_kernel, Cert.ModDw.Claims.frame_ideal, Cert.ModDw.Claims.frame_reference,
    trivial, Cert.Pool.Claims.algebraic,
    trivial, Cert.Down.Claims.algebraic,
    trivial, Cert.Up.Claims.algebraic,
    trivial, Cert.DownDx.Claims.algebraic,
    trivial, Cert.DownDw.Claims.algebraic,
    trivial, Cert.UpDx.Claims.algebraic,
    trivial, Cert.UpDw.Claims.algebraic,
    trivial, Cert.ScIn.Claims.algebraic,
    trivial, Cert.ScInDx.Claims.algebraic,
    trivial, Cert.ScInDw.Claims.algebraic,
    trivial, Cert.Pw1.Claims.algebraic,
    trivial, Cert.Pw1Dx.Claims.algebraic,
    trivial, Cert.Pw1Dw.Claims.algebraic,
    trivial, Cert.ScOut.Claims.algebraic,
    trivial, Cert.ScOutDx.Claims.algebraic,
    trivial, Cert.ScOutDw.Claims.algebraic,
    trivial, Cert.Down1.Claims.algebraic,
    trivial, Cert.Down2.Claims.algebraic,
    trivial, Cert.Down3.Claims.algebraic,
    trivial, Cert.DownDx1.Claims.algebraic,
    trivial, Cert.DownDx2.Claims.algebraic,
    trivial, Cert.DownDx3.Claims.algebraic,
    trivial, Cert.Up1.Claims.algebraic,
    trivial, Cert.Up2.Claims.algebraic,
    trivial, Cert.Up3.Claims.algebraic,
    trivial, Cert.UpDx1.Claims.algebraic,
    trivial, Cert.UpDx2.Claims.algebraic,
    trivial, Cert.UpDx3.Claims.algebraic,
    trivial, Cert.AdamMod.Claims.algebraic,
    trivial, Cert.AdamScIn.Claims.algebraic,
    trivial, Cert.AdamScOut.Claims.algebraic,
    trivial, Cert.AdamPool.Claims.algebraic,
    trivial, Cert.AdamPw1.Claims.algebraic,
    trivial, Cert.AdamPw2.Claims.algebraic,
    trivial, Cert.AdamUp.Claims.algebraic,
    trivial, Cert.AdamDown.Claims.algebraic,
    trivial, Cert.AdamSmall.Claims.algebraic,
    trivial, Cert.ModDw.Claims.algebraic⟩
